-- ==== Defs.lean ====
def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_finite [hPre_ffn_finite : Cert.Pre_ffn_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffn_finite [hPre_ffn_finite : Cert.Pre_ffn_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffn_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5))) = (fun _ => 1#1)

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_FfnDwRefIdeal (m : (ℓ : Loc Cert.FfnDwRefIdeal.nD Cert.FfnDwRefIdeal.τ Cert.FfnDwRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_MixProj (m : (ℓ : Loc Cert.MixProj.nD Cert.MixProj.τ Cert.MixProj.sig) → Buf (Elt Bits) ℓ) : Prop :=
  True

def Pre_MixProjIdeal (m : (ℓ : Loc Cert.MixProjIdeal.nD Cert.MixProjIdeal.τ Cert.MixProjIdeal.sig) → Buf (Elt Ideal) ℓ) : Prop :=
  True

def Pre_MixProjRefIdeal (m : (ℓ : Loc Cert.MixProjRefIdeal.nD Cert.MixProjRefIdeal.τ Cert.MixProjRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_AdMeta (m : (ℓ : Loc Cert.AdMeta.nD Cert.AdMeta.τ Cert.AdMeta.sig) → Buf (Elt Bits) ℓ) : Prop :=
  True

def Pre_AdMetaIdeal (m : (ℓ : Loc Cert.AdMetaIdeal.nD Cert.AdMetaIdeal.τ Cert.AdMetaIdeal.sig) → Buf (Elt Ideal) ℓ) : Prop :=
  True

def Pre_AdMetaRefIdeal (m : (ℓ : Loc Cert.AdMetaRefIdeal.nD Cert.AdMetaRefIdeal.τ Cert.AdMetaRefIdeal.sig) → Buf (Elt Ideal) ℓ) : Prop :=
  True

def Pre_AdNorm (m : (ℓ : Loc Cert.AdNorm.nD Cert.AdNorm.τ Cert.AdNorm.sig) → Buf (Elt Bits) ℓ) : Prop :=
  True

def Pre_AdNormIdeal (m : (ℓ : Loc Cert.AdNormIdeal.nD Cert.AdNormIdeal.τ Cert.AdNormIdeal.sig) → Buf (Elt Ideal) ℓ) : Prop :=
  True

def Pre_AdNormRefIdeal (m : (ℓ : Loc Cert.AdNormRefIdeal.nD Cert.AdNormRefIdeal.τ Cert.AdNormRefIdeal.sig) → Buf (Elt Ideal) ℓ) : Prop :=
  True

def Pre_AdUp (m : (ℓ : Loc Cert.AdUp.nD Cert.AdUp.τ Cert.AdUp.sig) → Buf (Elt Bits) ℓ) : Prop :=
  True

def Pre_AdUpIdeal (m : (ℓ : Loc Cert.AdUpIdeal.nD Cert.AdUpIdeal.τ Cert.AdUpIdeal.sig) → Buf (Elt Ideal) ℓ) : Prop :=
  True

def Pre_AdUpRefIdeal (m : (ℓ : Loc Cert.AdUpRefIdeal.nD Cert.AdUpRefIdeal.τ Cert.AdUpRefIdeal.sig) → Buf (Elt Ideal) ℓ) : Prop :=
  True

def Pre_AdDown (m : (ℓ : Loc Cert.AdDown.nD Cert.AdDown.τ Cert.AdDown.sig) → Buf (Elt Bits) ℓ) : Prop :=
  True

def Pre_AdDownIdeal (m : (ℓ : Loc Cert.AdDownIdeal.nD Cert.AdDownIdeal.τ Cert.AdDownIdeal.sig) → Buf (Elt Ideal) ℓ) : Prop :=
  True

def Pre_AdDownRefIdeal (m : (ℓ : Loc Cert.AdDownRefIdeal.nD Cert.AdDownRefIdeal.τ Cert.AdDownRefIdeal.sig) → Buf (Elt Ideal) ℓ) : Prop :=
  True

def Pre_AdWin (m : (ℓ : Loc Cert.AdWin.nD Cert.AdWin.τ Cert.AdWin.sig) → Buf (Elt Bits) ℓ) : Prop :=
  True

def Pre_AdWinIdeal (m : (ℓ : Loc Cert.AdWinIdeal.nD Cert.AdWinIdeal.τ Cert.AdWinIdeal.sig) → Buf (Elt Ideal) ℓ) : Prop :=
  True

def Pre_AdWinRefIdeal (m : (ℓ : Loc Cert.AdWinRefIdeal.nD Cert.AdWinRefIdeal.τ Cert.AdWinRefIdeal.sig) → Buf (Elt Ideal) ℓ) : Prop :=
  True

def Pre_AdLam (m : (ℓ : Loc Cert.AdLam.nD Cert.AdLam.τ Cert.AdLam.sig) → Buf (Elt Bits) ℓ) : Prop :=
  True

def Pre_AdLamIdeal (m : (ℓ : Loc Cert.AdLamIdeal.nD Cert.AdLamIdeal.τ Cert.AdLamIdeal.sig) → Buf (Elt Ideal) ℓ) : Prop :=
  True

def Pre_AdLamRefIdeal (m : (ℓ : Loc Cert.AdLamRefIdeal.nD Cert.AdLamRefIdeal.τ Cert.AdLamRefIdeal.sig) → Buf (Elt Ideal) ℓ) : Prop :=
  True

def Pre_AdDt (m : (ℓ : Loc Cert.AdDt.nD Cert.AdDt.τ Cert.AdDt.sig) → Buf (Elt Bits) ℓ) : Prop :=
  True

def Pre_AdDtIdeal (m : (ℓ : Loc Cert.AdDtIdeal.nD Cert.AdDtIdeal.τ Cert.AdDtIdeal.sig) → Buf (Elt Ideal) ℓ) : Prop :=
  True

def Pre_AdDtRefIdeal (m : (ℓ : Loc Cert.AdDtRefIdeal.nD Cert.AdDtRefIdeal.τ Cert.AdDtRefIdeal.sig) → Buf (Elt Ideal) ℓ) : Prop :=
  True

def Pre_AdB (m : (ℓ : Loc Cert.AdB.nD Cert.AdB.τ Cert.AdB.sig) → Buf (Elt Bits) ℓ) : Prop :=
  True

def Pre_AdBIdeal (m : (ℓ : Loc Cert.AdBIdeal.nD Cert.AdBIdeal.τ Cert.AdBIdeal.sig) → Buf (Elt Ideal) ℓ) : Prop :=
  True

def Pre_AdBRefIdeal (m : (ℓ : Loc Cert.AdBRefIdeal.nD Cert.AdBRefIdeal.τ Cert.AdBRefIdeal.sig) → Buf (Elt Ideal) ℓ) : Prop :=
  True

def Pre_AdC (m : (ℓ : Loc Cert.AdC.nD Cert.AdC.τ Cert.AdC.sig) → Buf (Elt Bits) ℓ) : Prop :=
  True

def Pre_AdCIdeal (m : (ℓ : Loc Cert.AdCIdeal.nD Cert.AdCIdeal.τ Cert.AdCIdeal.sig) → Buf (Elt Ideal) ℓ) : Prop :=
  True

def Pre_AdCRefIdeal (m : (ℓ : Loc Cert.AdCRefIdeal.nD Cert.AdCRefIdeal.τ Cert.AdCRefIdeal.sig) → Buf (Elt Ideal) ℓ) : Prop :=
  True

def Pre_AdD (m : (ℓ : Loc Cert.AdD.nD Cert.AdD.τ Cert.AdD.sig) → Buf (Elt Bits) ℓ) : Prop :=
  True

def Pre_AdDIdeal (m : (ℓ : Loc Cert.AdDIdeal.nD Cert.AdDIdeal.τ Cert.AdDIdeal.sig) → Buf (Elt Ideal) ℓ) : Prop :=
  True

def Pre_AdDRefIdeal (m : (ℓ : Loc Cert.AdDRefIdeal.nD Cert.AdDRefIdeal.τ Cert.AdDRefIdeal.sig) → Buf (Elt Ideal) ℓ) : Prop :=
  True

def Pre_AdGlu (m : (ℓ : Loc Cert.AdGlu.nD Cert.AdGlu.τ Cert.AdGlu.sig) → Buf (Elt Bits) ℓ) : Prop :=
  True

def Pre_AdGluIdeal (m : (ℓ : Loc Cert.AdGluIdeal.nD Cert.AdGluIdeal.τ Cert.AdGluIdeal.sig) → Buf (Elt Ideal) ℓ) : Prop :=
  True

def Pre_AdGluRefIdeal (m : (ℓ : Loc Cert.AdGluRefIdeal.nD Cert.AdGluRefIdeal.τ Cert.AdGluRefIdeal.sig) → Buf (Elt Ideal) ℓ) : Prop :=
  True

def Pre_AdSink (m : (ℓ : Loc Cert.AdSink.nD Cert.AdSink.τ Cert.AdSink.sig) → Buf (Elt Bits) ℓ) : Prop :=
  True

def Pre_AdSinkIdeal (m : (ℓ : Loc Cert.AdSinkIdeal.nD Cert.AdSinkIdeal.τ Cert.AdSinkIdeal.sig) → Buf (Elt Ideal) ℓ) : Prop :=
  True

def Pre_AdSinkRefIdeal (m : (ℓ : Loc Cert.AdSinkRefIdeal.nD Cert.AdSinkRefIdeal.τ Cert.AdSinkRefIdeal.sig) → Buf (Elt Ideal) ℓ) : Prop :=
  True

def Pre_AdBs (m : (ℓ : Loc Cert.AdBs.nD Cert.AdBs.τ Cert.AdBs.sig) → Buf (Elt Bits) ℓ) : Prop :=
  True

def Pre_AdBsIdeal (m : (ℓ : Loc Cert.AdBsIdeal.nD Cert.AdBsIdeal.τ Cert.AdBsIdeal.sig) → Buf (Elt Ideal) ℓ) : Prop :=
  True

def Pre_AdBsRefIdeal (m : (ℓ : Loc Cert.AdBsRefIdeal.nD Cert.AdBsRefIdeal.τ Cert.AdBsRefIdeal.sig) → Buf (Elt Ideal) ℓ) : Prop :=
  True

def Pre_AdBa (m : (ℓ : Loc Cert.AdBa.nD Cert.AdBa.τ Cert.AdBa.sig) → Buf (Elt Bits) ℓ) : Prop :=
  True

def Pre_AdBaIdeal (m : (ℓ : Loc Cert.AdBaIdeal.nD Cert.AdBaIdeal.τ Cert.AdBaIdeal.sig) → Buf (Elt Ideal) ℓ) : Prop :=
  True

def Pre_AdBaRefIdeal (m : (ℓ : Loc Cert.AdBaRefIdeal.nD Cert.AdBaRefIdeal.τ Cert.AdBaRefIdeal.sig) → Buf (Elt Ideal) ℓ) : Prop :=
  True

def Pre_AdFinal (m : (ℓ : Loc Cert.AdFinal.nD Cert.AdFinal.τ Cert.AdFinal.sig) → Buf (Elt Bits) ℓ) : Prop :=
  True

def Pre_AdFinalIdeal (m : (ℓ : Loc Cert.AdFinalIdeal.nD Cert.AdFinalIdeal.τ Cert.AdFinalIdeal.sig) → Buf (Elt Ideal) ℓ) : Prop :=
  True

def Pre_AdFinalRefIdeal (m : (ℓ : Loc Cert.AdFinalRefIdeal.nD Cert.AdFinalRefIdeal.τ Cert.AdFinalRefIdeal.sig) → Buf (Elt Ideal) ℓ) : Prop :=
  True

def Pre_SumFfn (m : (ℓ : Loc Cert.SumFfn.nD Cert.SumFfn.τ Cert.SumFfn.sig) → Buf (Elt Bits) ℓ) : Prop :=
  True

def Pre_SumFfnIdeal (m : (ℓ : Loc Cert.SumFfnIdeal.nD Cert.SumFfnIdeal.τ Cert.SumFfnIdeal.sig) → Buf (Elt Ideal) ℓ) : Prop :=
  True

def Pre_SumFfnRefIdeal (m : (ℓ : Loc Cert.SumFfnRefIdeal.nD Cert.SumFfnRefIdeal.τ Cert.SumFfnRefIdeal.sig) → Buf (Elt Ideal) ℓ) : Prop :=
  True

def Pre_SumOne (m : (ℓ : Loc Cert.SumOne.nD Cert.SumOne.τ Cert.SumOne.sig) → Buf (Elt Bits) ℓ) : Prop :=
  True

def Pre_SumOneIdeal (m : (ℓ : Loc Cert.SumOneIdeal.nD Cert.SumOneIdeal.τ Cert.SumOneIdeal.sig) → Buf (Elt Ideal) ℓ) : Prop :=
  True

def Pre_SumOneRefIdeal (m : (ℓ : Loc Cert.SumOneRefIdeal.nD Cert.SumOneRefIdeal.τ Cert.SumOneRefIdeal.sig) → Buf (Elt Ideal) ℓ) : Prop :=
  True

def Pre_SumMix (m : (ℓ : Loc Cert.SumMix.nD Cert.SumMix.τ Cert.SumMix.sig) → Buf (Elt Bits) ℓ) : Prop :=
  True

def Pre_SumMixIdeal (m : (ℓ : Loc Cert.SumMixIdeal.nD Cert.SumMixIdeal.τ Cert.SumMixIdeal.sig) → Buf (Elt Ideal) ℓ) : Prop :=
  True

def Pre_SumMixRefIdeal (m : (ℓ : Loc Cert.SumMixRefIdeal.nD Cert.SumMixRefIdeal.τ Cert.SumMixRefIdeal.sig) → Buf (Elt Ideal) ℓ) : Prop :=
  True

def Pre_SumMixN (m : (ℓ : Loc Cert.SumMixN.nD Cert.SumMixN.τ Cert.SumMixN.sig) → Buf (Elt Bits) ℓ) : Prop :=
  True

def Pre_SumMixNIdeal (m : (ℓ : Loc Cert.SumMixNIdeal.nD Cert.SumMixNIdeal.τ Cert.SumMixNIdeal.sig) → Buf (Elt Ideal) ℓ) : Prop :=
  True

def Pre_SumMixNRefIdeal (m : (ℓ : Loc Cert.SumMixNRefIdeal.nD Cert.SumMixNRefIdeal.τ Cert.SumMixNRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumLast (m : (ℓ : Loc Cert.SumLast.nD Cert.SumLast.τ Cert.SumLast.sig) → Buf (Elt Bits) ℓ) : Prop :=
  True

def Pre_SumLastIdeal (m : (ℓ : Loc Cert.SumLastIdeal.nD Cert.SumLastIdeal.τ Cert.SumLastIdeal.sig) → Buf (Elt Ideal) ℓ) : Prop :=
  True

def Pre_SumLastRefIdeal (m : (ℓ : Loc Cert.SumLastRefIdeal.nD Cert.SumLastRefIdeal.τ Cert.SumLastRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ r.2.sem = fun _ => 0)

def quiescent_FfnInIdeal_pre_ffn_finite [hFfnInIdeal : Cert.FfnInIdeal.Facts] [hPre_ffn_finite : Cert.Pre_ffn_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5))
      ∧ r.2.sem = fun _ => 0)

def quiescent_FfnInRefIdeal_pre_ffn_finite [hFfnInRefIdeal : Cert.FfnInRefIdeal.Facts] [hPre_ffn_finite : Cert.Pre_ffn_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffn_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2))
      ∧ r.2.sem = fun _ => 0)

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1)
      ∧ r.2.mem ((c.tc : Thread Cert.FfnDw.nD Cert.FfnDw.τ).loc Cert.FfnDw.main_arg2) = m ((c.tc : Thread Cert.FfnDw.nD Cert.FfnDw.τ).loc Cert.FfnDw.main_arg2))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1)
      ∧ r.2.mem ((c.tc : Thread Cert.FfnDwIdeal.nD Cert.FfnDwIdeal.τ).loc Cert.FfnDwIdeal.main_arg2) = m ((c.tc : Thread Cert.FfnDwIdeal.nD Cert.FfnDwIdeal.τ).loc Cert.FfnDwIdeal.main_arg2))
      ∧ r.2.sem = fun _ => 0)

def quiescent_FfnDwRefIdeal [hFfnDwRefIdeal : Cert.FfnDwRefIdeal.Facts] : Prop :=
  ∀ (m : (ℓ : Loc Cert.FfnDwRefIdeal.nD Cert.FfnDwRefIdeal.τ Cert.FfnDwRefIdeal.sig) → Buf (Elt Ideal) ℓ) (g : Dev Cert.FfnDwRefIdeal.nD → PrngReg), Pre_FfnDwRefIdeal m →
    θ_run (Cert.FfnDwRefIdeal.defs (F := Ideal)) (onTc (τ := Cert.FfnDwRefIdeal.τ) (Cert.FfnDwRefIdeal.main (F := Ideal))) ⟨m, fun _ => 0, g⟩ (fun r => (∀ c : Dev Cert.FfnDwRefIdeal.nD,
      r.2.mem ((c.tc : Thread Cert.FfnDwRefIdeal.nD Cert.FfnDwRefIdeal.τ).loc Cert.FfnDwRefIdeal.main_arg0) = m ((c.tc : Thread Cert.FfnDwRefIdeal.nD Cert.FfnDwRefIdeal.τ).loc Cert.FfnDwRefIdeal.main_arg0)
      ∧ r.2.mem ((c.tc : Thread Cert.FfnDwRefIdeal.nD Cert.FfnDwRefIdeal.τ).loc Cert.FfnDwRefIdeal.main_arg1) = m ((c.tc : Thread Cert.FfnDwRefIdeal.nD Cert.FfnDwRefIdeal.τ).loc Cert.FfnDwRefIdeal.main_arg1)
      ∧ r.2.mem ((c.tc : Thread Cert.FfnDwRefIdeal.nD Cert.FfnDwRefIdeal.τ).loc Cert.FfnDwRefIdeal.main_arg2) = m ((c.tc : Thread Cert.FfnDwRefIdeal.nD Cert.FfnDwRefIdeal.τ).loc Cert.FfnDwRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_MixProj [hMixProj : Cert.MixProj.Facts] : Prop :=
  ∀ (m : (ℓ : Loc Cert.MixProj.nD Cert.MixProj.τ Cert.MixProj.sig) → Buf (Elt Bits) ℓ) (g : Dev Cert.MixProj.nD → PrngReg), Pre_MixProj m →
    θ_run (Cert.MixProj.defs (F := Bits)) (onTc (τ := Cert.MixProj.τ) (Cert.MixProj.main (F := Bits))) ⟨m, fun _ => 0, g⟩ (fun r => (∀ c : Dev Cert.MixProj.nD,
      r.2.mem ((c.tc : Thread Cert.MixProj.nD Cert.MixProj.τ).loc Cert.MixProj.main_arg0) = m ((c.tc : Thread Cert.MixProj.nD Cert.MixProj.τ).loc Cert.MixProj.main_arg0)
      ∧ r.2.mem ((c.tc : Thread Cert.MixProj.nD Cert.MixProj.τ).loc Cert.MixProj.main_arg1) = m ((c.tc : Thread Cert.MixProj.nD Cert.MixProj.τ).loc Cert.MixProj.main_arg1)
      ∧ r.2.mem ((c.tc : Thread Cert.MixProj.nD Cert.MixProj.τ).loc Cert.MixProj.main_arg2) = m ((c.tc : Thread Cert.MixProj.nD Cert.MixProj.τ).loc Cert.MixProj.main_arg2))
      ∧ r.2.sem = fun _ => 0)

def quiescent_MixProjIdeal [hMixProjIdeal : Cert.MixProjIdeal.Facts] : Prop :=
  ∀ (m : (ℓ : Loc Cert.MixProjIdeal.nD Cert.MixProjIdeal.τ Cert.MixProjIdeal.sig) → Buf (Elt Ideal) ℓ) (g : Dev Cert.MixProjIdeal.nD → PrngReg), Pre_MixProjIdeal m →
    θ_run (Cert.MixProjIdeal.defs (F := Ideal)) (onTc (τ := Cert.MixProjIdeal.τ) (Cert.MixProjIdeal.main (F := Ideal))) ⟨m, fun _ => 0, g⟩ (fun r => (∀ c : Dev Cert.MixProjIdeal.nD,
      r.2.mem ((c.tc : Thread Cert.MixProjIdeal.nD Cert.MixProjIdeal.τ).loc Cert.MixProjIdeal.main_arg0) = m ((c.tc : Thread Cert.MixProjIdeal.nD Cert.MixProjIdeal.τ).loc Cert.MixProjIdeal.main_arg0)
      ∧ r.2.mem ((c.tc : Thread Cert.MixProjIdeal.nD Cert.MixProjIdeal.τ).loc Cert.MixProjIdeal.main_arg1) = m ((c.tc : Thread Cert.MixProjIdeal.nD Cert.MixProjIdeal.τ).loc Cert.MixProjIdeal.main_arg1)
      ∧ r.2.mem ((c.tc : Thread Cert.MixProjIdeal.nD Cert.MixProjIdeal.τ).loc Cert.MixProjIdeal.main_arg2) = m ((c.tc : Thread Cert.MixProjIdeal.nD Cert.MixProjIdeal.τ).loc Cert.MixProjIdeal.main_arg2))
      ∧ r.2.sem = fun _ => 0)

def quiescent_MixProjRefIdeal [hMixProjRefIdeal : Cert.MixProjRefIdeal.Facts] : Prop :=
  ∀ (m : (ℓ : Loc Cert.MixProjRefIdeal.nD Cert.MixProjRefIdeal.τ Cert.MixProjRefIdeal.sig) → Buf (Elt Ideal) ℓ) (g : Dev Cert.MixProjRefIdeal.nD → PrngReg), Pre_MixProjRefIdeal m →
    θ_run (Cert.MixProjRefIdeal.defs (F := Ideal)) (onTc (τ := Cert.MixProjRefIdeal.τ) (Cert.MixProjRefIdeal.main (F := Ideal))) ⟨m, fun _ => 0, g⟩ (fun r => (∀ c : Dev Cert.MixProjRefIdeal.nD,
      r.2.mem ((c.tc : Thread Cert.MixProjRefIdeal.nD Cert.MixProjRefIdeal.τ).loc Cert.MixProjRefIdeal.main_arg0) = m ((c.tc : Thread Cert.MixProjRefIdeal.nD Cert.MixProjRefIdeal.τ).loc Cert.MixProjRefIdeal.main_arg0)
      ∧ r.2.mem ((c.tc : Thread Cert.MixProjRefIdeal.nD Cert.MixProjRefIdeal.τ).loc Cert.MixProjRefIdeal.main_arg1) = m ((c.tc : Thread Cert.MixProjRefIdeal.nD Cert.MixProjRefIdeal.τ).loc Cert.MixProjRefIdeal.main_arg1)
      ∧ r.2.mem ((c.tc : Thread Cert.MixProjRefIdeal.nD Cert.MixProjRefIdeal.τ).loc Cert.MixProjRefIdeal.main_arg2) = m ((c.tc : Thread Cert.MixProjRefIdeal.nD Cert.MixProjRefIdeal.τ).loc Cert.MixProjRefIdeal.main_arg2))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1)
      ∧ r.2.mem ((c.tc : Thread Cert.MixDw.nD Cert.MixDw.τ).loc Cert.MixDw.main_arg2) = m ((c.tc : Thread Cert.MixDw.nD Cert.MixDw.τ).loc Cert.MixDw.main_arg2))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
      ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1)
      ∧ r.2.mem ((c.tc : Thread Cert.MixDwRefIdeal.nD Cert.MixDwRefIdeal.τ).loc Cert.MixDwRefIdeal.main_arg2) = m ((c.tc : Thread Cert.MixDwRefIdeal.nD Cert.MixDwRefIdeal.τ).loc Cert.MixDwRefIdeal.main_arg2))
      ∧ r.2.sem = fun _ => 0)

def quiescent_AdMeta [hAdMeta : Cert.AdMeta.Facts] : Prop :=
  ∀ (m : (ℓ : Loc Cert.AdMeta.nD Cert.AdMeta.τ Cert.AdMeta.sig) → Buf (Elt Bits) ℓ) (g : Dev Cert.AdMeta.nD → PrngReg), Pre_AdMeta m →
    θ_run (Cert.AdMeta.defs (F := Bits)) (onTc (τ := Cert.AdMeta.τ) (Cert.AdMeta.main (F := Bits))) ⟨m, fun _ => 0, g⟩ (fun r => (∀ c : Dev Cert.AdMeta.nD,
      r.2.mem ((c.tc : Thread Cert.AdMeta.nD Cert.AdMeta.τ).loc Cert.AdMeta.main_arg0) = m ((c.tc : Thread Cert.AdMeta.nD Cert.AdMeta.τ).loc Cert.AdMeta.main_arg0)
      ∧ r.2.mem ((c.tc : Thread Cert.AdMeta.nD Cert.AdMeta.τ).loc Cert.AdMeta.main_arg1) = m ((c.tc : Thread Cert.AdMeta.nD Cert.AdMeta.τ).loc Cert.AdMeta.main_arg1)
      ∧ r.2.mem ((c.tc : Thread Cert.AdMeta.nD Cert.AdMeta.τ).loc Cert.AdMeta.main_arg2) = m ((c.tc : Thread Cert.AdMeta.nD Cert.AdMeta.τ).loc Cert.AdMeta.main_arg2)
      ∧ r.2.mem ((c.tc : Thread Cert.AdMeta.nD Cert.AdMeta.τ).loc Cert.AdMeta.main_arg3) = m ((c.tc : Thread Cert.AdMeta.nD Cert.AdMeta.τ).loc Cert.AdMeta.main_arg3))
      ∧ r.2.sem = fun _ => 0)

def quiescent_AdMetaIdeal [hAdMetaIdeal : Cert.AdMetaIdeal.Facts] : Prop :=
  ∀ (m : (ℓ : Loc Cert.AdMetaIdeal.nD Cert.AdMetaIdeal.τ Cert.AdMetaIdeal.sig) → Buf (Elt Ideal) ℓ) (g : Dev Cert.AdMetaIdeal.nD → PrngReg), Pre_AdMetaIdeal m →
    θ_run (Cert.AdMetaIdeal.defs (F := Ideal)) (onTc (τ := Cert.AdMetaIdeal.τ) (Cert.AdMetaIdeal.main (F := Ideal))) ⟨m, fun _ => 0, g⟩ (fun r => (∀ c : Dev Cert.AdMetaIdeal.nD,
      r.2.mem ((c.tc : Thread Cert.AdMetaIdeal.nD Cert.AdMetaIdeal.τ).loc Cert.AdMetaIdeal.main_arg0) = m ((c.tc : Thread Cert.AdMetaIdeal.nD Cert.AdMetaIdeal.τ).loc Cert.AdMetaIdeal.main_arg0)
      ∧ r.2.mem ((c.tc : Thread Cert.AdMetaIdeal.nD Cert.AdMetaIdeal.τ).loc Cert.AdMetaIdeal.main_arg1) = m ((c.tc : Thread Cert.AdMetaIdeal.nD Cert.AdMetaIdeal.τ).loc Cert.AdMetaIdeal.main_arg1)
      ∧ r.2.mem ((c.tc : Thread Cert.AdMetaIdeal.nD Cert.AdMetaIdeal.τ).loc Cert.AdMetaIdeal.main_arg2) = m ((c.tc : Thread Cert.AdMetaIdeal.nD Cert.AdMetaIdeal.τ).loc Cert.AdMetaIdeal.main_arg2)
      ∧ r.2.mem ((c.tc : Thread Cert.AdMetaIdeal.nD Cert.AdMetaIdeal.τ).loc Cert.AdMetaIdeal.main_arg3) = m ((c.tc : Thread Cert.AdMetaIdeal.nD Cert.AdMetaIdeal.τ).loc Cert.AdMetaIdeal.main_arg3))
      ∧ r.2.sem = fun _ => 0)

def quiescent_AdMetaRefIdeal [hAdMetaRefIdeal : Cert.AdMetaRefIdeal.Facts] : Prop :=
  ∀ (m : (ℓ : Loc Cert.AdMetaRefIdeal.nD Cert.AdMetaRefIdeal.τ Cert.AdMetaRefIdeal.sig) → Buf (Elt Ideal) ℓ) (g : Dev Cert.AdMetaRefIdeal.nD → PrngReg), Pre_AdMetaRefIdeal m →
    θ_run (Cert.AdMetaRefIdeal.defs (F := Ideal)) (onTc (τ := Cert.AdMetaRefIdeal.τ) (Cert.AdMetaRefIdeal.main (F := Ideal))) ⟨m, fun _ => 0, g⟩ (fun r => (∀ c : Dev Cert.AdMetaRefIdeal.nD,
      r.2.mem ((c.tc : Thread Cert.AdMetaRefIdeal.nD Cert.AdMetaRefIdeal.τ).loc Cert.AdMetaRefIdeal.main_arg0) = m ((c.tc : Thread Cert.AdMetaRefIdeal.nD Cert.AdMetaRefIdeal.τ).loc Cert.AdMetaRefIdeal.main_arg0)
      ∧ r.2.mem ((c.tc : Thread Cert.AdMetaRefIdeal.nD Cert.AdMetaRefIdeal.τ).loc Cert.AdMetaRefIdeal.main_arg1) = m ((c.tc : Thread Cert.AdMetaRefIdeal.nD Cert.AdMetaRefIdeal.τ).loc Cert.AdMetaRefIdeal.main_arg1)
      ∧ r.2.mem ((c.tc : Thread Cert.AdMetaRefIdeal.nD Cert.AdMetaRefIdeal.τ).loc Cert.AdMetaRefIdeal.main_arg2) = m ((c.tc : Thread Cert.AdMetaRefIdeal.nD Cert.AdMetaRefIdeal.τ).loc Cert.AdMetaRefIdeal.main_arg2)
      ∧ r.2.mem ((c.tc : Thread Cert.AdMetaRefIdeal.nD Cert.AdMetaRefIdeal.τ).loc Cert.AdMetaRefIdeal.main_arg3) = m ((c.tc : Thread Cert.AdMetaRefIdeal.nD Cert.AdMetaRefIdeal.τ).loc Cert.AdMetaRefIdeal.main_arg3))
      ∧ r.2.sem = fun _ => 0)

def quiescent_AdNorm [hAdNorm : Cert.AdNorm.Facts] : Prop :=
  ∀ (m : (ℓ : Loc Cert.AdNorm.nD Cert.AdNorm.τ Cert.AdNorm.sig) → Buf (Elt Bits) ℓ) (g : Dev Cert.AdNorm.nD → PrngReg), Pre_AdNorm m →
    θ_run (Cert.AdNorm.defs (F := Bits)) (onTc (τ := Cert.AdNorm.τ) (Cert.AdNorm.main (F := Bits))) ⟨m, fun _ => 0, g⟩ (fun r => (∀ c : Dev Cert.AdNorm.nD,
      r.2.mem ((c.tc : Thread Cert.AdNorm.nD Cert.AdNorm.τ).loc Cert.AdNorm.main_arg0) = m ((c.tc : Thread Cert.AdNorm.nD Cert.AdNorm.τ).loc Cert.AdNorm.main_arg0)
      ∧ r.2.mem ((c.tc : Thread Cert.AdNorm.nD Cert.AdNorm.τ).loc Cert.AdNorm.main_arg1) = m ((c.tc : Thread Cert.AdNorm.nD Cert.AdNorm.τ).loc Cert.AdNorm.main_arg1)
      ∧ r.2.mem ((c.tc : Thread Cert.AdNorm.nD Cert.AdNorm.τ).loc Cert.AdNorm.main_arg2) = m ((c.tc : Thread Cert.AdNorm.nD Cert.AdNorm.τ).loc Cert.AdNorm.main_arg2)
      ∧ r.2.mem ((c.tc : Thread Cert.AdNorm.nD Cert.AdNorm.τ).loc Cert.AdNorm.main_arg3) = m ((c.tc : Thread Cert.AdNorm.nD Cert.AdNorm.τ).loc Cert.AdNorm.main_arg3))
      ∧ r.2.sem = fun _ => 0)

def quiescent_AdNormIdeal [hAdNormIdeal : Cert.AdNormIdeal.Facts] : Prop :=
  ∀ (m : (ℓ : Loc Cert.AdNormIdeal.nD Cert.AdNormIdeal.τ Cert.AdNormIdeal.sig) → Buf (Elt Ideal) ℓ) (g : Dev Cert.AdNormIdeal.nD → PrngReg), Pre_AdNormIdeal m →
    θ_run (Cert.AdNormIdeal.defs (F := Ideal)) (onTc (τ := Cert.AdNormIdeal.τ) (Cert.AdNormIdeal.main (F := Ideal))) ⟨m, fun _ => 0, g⟩ (fun r => (∀ c : Dev Cert.AdNormIdeal.nD,
      r.2.mem ((c.tc : Thread Cert.AdNormIdeal.nD Cert.AdNormIdeal.τ).loc Cert.AdNormIdeal.main_arg0) = m ((c.tc : Thread Cert.AdNormIdeal.nD Cert.AdNormIdeal.τ).loc Cert.AdNormIdeal.main_arg0)
      ∧ r.2.mem ((c.tc : Thread Cert.AdNormIdeal.nD Cert.AdNormIdeal.τ).loc Cert.AdNormIdeal.main_arg1) = m ((c.tc : Thread Cert.AdNormIdeal.nD Cert.AdNormIdeal.τ).loc Cert.AdNormIdeal.main_arg1)
      ∧ r.2.mem ((c.tc : Thread Cert.AdNormIdeal.nD Cert.AdNormIdeal.τ).loc Cert.AdNormIdeal.main_arg2) = m ((c.tc : Thread Cert.AdNormIdeal.nD Cert.AdNormIdeal.τ).loc Cert.AdNormIdeal.main_arg2)
      ∧ r.2.mem ((c.tc : Thread Cert.AdNormIdeal.nD Cert.AdNormIdeal.τ).loc Cert.AdNormIdeal.main_arg3) = m ((c.tc : Thread Cert.AdNormIdeal.nD Cert.AdNormIdeal.τ).loc Cert.AdNormIdeal.main_arg3))
      ∧ r.2.sem = fun _ => 0)

def quiescent_AdNormRefIdeal [hAdNormRefIdeal : Cert.AdNormRefIdeal.Facts] : Prop :=
  ∀ (m : (ℓ : Loc Cert.AdNormRefIdeal.nD Cert.AdNormRefIdeal.τ Cert.AdNormRefIdeal.sig) → Buf (Elt Ideal) ℓ) (g : Dev Cert.AdNormRefIdeal.nD → PrngReg), Pre_AdNormRefIdeal m →
    θ_run (Cert.AdNormRefIdeal.defs (F := Ideal)) (onTc (τ := Cert.AdNormRefIdeal.τ) (Cert.AdNormRefIdeal.main (F := Ideal))) ⟨m, fun _ => 0, g⟩ (fun r => (∀ c : Dev Cert.AdNormRefIdeal.nD,
      r.2.mem ((c.tc : Thread Cert.AdNormRefIdeal.nD Cert.AdNormRefIdeal.τ).loc Cert.AdNormRefIdeal.main_arg0) = m ((c.tc : Thread Cert.AdNormRefIdeal.nD Cert.AdNormRefIdeal.τ).loc Cert.AdNormRefIdeal.main_arg0)
      ∧ r.2.mem ((c.tc : Thread Cert.AdNormRefIdeal.nD Cert.AdNormRefIdeal.τ).loc Cert.AdNormRefIdeal.main_arg1) = m ((c.tc : Thread Cert.AdNormRefIdeal.nD Cert.AdNormRefIdeal.τ).loc Cert.AdNormRefIdeal.main_arg1)
      ∧ r.2.mem ((c.tc : Thread Cert.AdNormRefIdeal.nD Cert.AdNormRefIdeal.τ).loc Cert.AdNormRefIdeal.main_arg2) = m ((c.tc : Thread Cert.AdNormRefIdeal.nD Cert.AdNormRefIdeal.τ).loc Cert.AdNormRefIdeal.main_arg2)
      ∧ r.2.mem ((c.tc : Thread Cert.AdNormRefIdeal.nD Cert.AdNormRefIdeal.τ).loc Cert.AdNormRefIdeal.main_arg3) = m ((c.tc : Thread Cert.AdNormRefIdeal.nD Cert.AdNormRefIdeal.τ).loc Cert.AdNormRefIdeal.main_arg3))
      ∧ r.2.sem = fun _ => 0)

def quiescent_AdUp [hAdUp : Cert.AdUp.Facts] : Prop :=
  ∀ (m : (ℓ : Loc Cert.AdUp.nD Cert.AdUp.τ Cert.AdUp.sig) → Buf (Elt Bits) ℓ) (g : Dev Cert.AdUp.nD → PrngReg), Pre_AdUp m →
    θ_run (Cert.AdUp.defs (F := Bits)) (onTc (τ := Cert.AdUp.τ) (Cert.AdUp.main (F := Bits))) ⟨m, fun _ => 0, g⟩ (fun r => (∀ c : Dev Cert.AdUp.nD,
      r.2.mem ((c.tc : Thread Cert.AdUp.nD Cert.AdUp.τ).loc Cert.AdUp.main_arg0) = m ((c.tc : Thread Cert.AdUp.nD Cert.AdUp.τ).loc Cert.AdUp.main_arg0)
      ∧ r.2.mem ((c.tc : Thread Cert.AdUp.nD Cert.AdUp.τ).loc Cert.AdUp.main_arg1) = m ((c.tc : Thread Cert.AdUp.nD Cert.AdUp.τ).loc Cert.AdUp.main_arg1)
      ∧ r.2.mem ((c.tc : Thread Cert.AdUp.nD Cert.AdUp.τ).loc Cert.AdUp.main_arg2) = m ((c.tc : Thread Cert.AdUp.nD Cert.AdUp.τ).loc Cert.AdUp.main_arg2)
      ∧ r.2.mem ((c.tc : Thread Cert.AdUp.nD Cert.AdUp.τ).loc Cert.AdUp.main_arg3) = m ((c.tc : Thread Cert.AdUp.nD Cert.AdUp.τ).loc Cert.AdUp.main_arg3))
      ∧ r.2.sem = fun _ => 0)

def quiescent_AdUpIdeal [hAdUpIdeal : Cert.AdUpIdeal.Facts] : Prop :=
  ∀ (m : (ℓ : Loc Cert.AdUpIdeal.nD Cert.AdUpIdeal.τ Cert.AdUpIdeal.sig) → Buf (Elt Ideal) ℓ) (g : Dev Cert.AdUpIdeal.nD → PrngReg), Pre_AdUpIdeal m →
    θ_run (Cert.AdUpIdeal.defs (F := Ideal)) (onTc (τ := Cert.AdUpIdeal.τ) (Cert.AdUpIdeal.main (F := Ideal))) ⟨m, fun _ => 0, g⟩ (fun r => (∀ c : Dev Cert.AdUpIdeal.nD,
      r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
      ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
      ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
      ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3))
      ∧ r.2.sem = fun _ => 0)

def quiescent_AdUpRefIdeal [hAdUpRefIdeal : Cert.AdUpRefIdeal.Facts] : Prop :=
  ∀ (m : (ℓ : Loc Cert.AdUpRefIdeal.nD Cert.AdUpRefIdeal.τ Cert.AdUpRefIdeal.sig) → Buf (Elt Ideal) ℓ) (g : Dev Cert.AdUpRefIdeal.nD → PrngReg), Pre_AdUpRefIdeal m →
    θ_run (Cert.AdUpRefIdeal.defs (F := Ideal)) (onTc (τ := Cert.AdUpRefIdeal.τ) (Cert.AdUpRefIdeal.main (F := Ideal))) ⟨m, fun _ => 0, g⟩ (fun r => (∀ c : Dev Cert.AdUpRefIdeal.nD,
      r.2.mem ((c.tc : Thread Cert.AdUpRefIdeal.nD Cert.AdUpRefIdeal.τ).loc Cert.AdUpRefIdeal.main_arg0) = m ((c.tc : Thread Cert.AdUpRefIdeal.nD Cert.AdUpRefIdeal.τ).loc Cert.AdUpRefIdeal.main_arg0)
      ∧ r.2.mem ((c.tc : Thread Cert.AdUpRefIdeal.nD Cert.AdUpRefIdeal.τ).loc Cert.AdUpRefIdeal.main_arg1) = m ((c.tc : Thread Cert.AdUpRefIdeal.nD Cert.AdUpRefIdeal.τ).loc Cert.AdUpRefIdeal.main_arg1)
      ∧ r.2.mem ((c.tc : Thread Cert.AdUpRefIdeal.nD Cert.AdUpRefIdeal.τ).loc Cert.AdUpRefIdeal.main_arg2) = m ((c.tc : Thread Cert.AdUpRefIdeal.nD Cert.AdUpRefIdeal.τ).loc Cert.AdUpRefIdeal.main_arg2)
      ∧ r.2.mem ((c.tc : Thread Cert.AdUpRefIdeal.nD Cert.AdUpRefIdeal.τ).loc Cert.AdUpRefIdeal.main_arg3) = m ((c.tc : Thread Cert.AdUpRefIdeal.nD Cert.AdUpRefIdeal.τ).loc Cert.AdUpRefIdeal.main_arg3))
      ∧ r.2.sem = fun _ => 0)

def quiescent_AdDown [hAdDown : Cert.AdDown.Facts] : Prop :=
  ∀ (m : (ℓ : Loc Cert.AdDown.nD Cert.AdDown.τ Cert.AdDown.sig) → Buf (Elt Bits) ℓ) (g : Dev Cert.AdDown.nD → PrngReg), Pre_AdDown m →
    θ_run (Cert.AdDown.defs (F := Bits)) (onTc (τ := Cert.AdDown.τ) (Cert.AdDown.main (F := Bits))) ⟨m, fun _ => 0, g⟩ (fun r => (∀ c : Dev Cert.AdDown.nD,
      r.2.mem ((c.tc : Thread Cert.AdDown.nD Cert.AdDown.τ).loc Cert.AdDown.main_arg0) = m ((c.tc : Thread Cert.AdDown.nD Cert.AdDown.τ).loc Cert.AdDown.main_arg0)
      ∧ r.2.mem ((c.tc : Thread Cert.AdDown.nD Cert.AdDown.τ).loc Cert.AdDown.main_arg1) = m ((c.tc : Thread Cert.AdDown.nD Cert.AdDown.τ).loc Cert.AdDown.main_arg1)
      ∧ r.2.mem ((c.tc : Thread Cert.AdDown.nD Cert.AdDown.τ).loc Cert.AdDown.main_arg2) = m ((c.tc : Thread Cert.AdDown.nD Cert.AdDown.τ).loc Cert.AdDown.main_arg2)
      ∧ r.2.mem ((c.tc : Thread Cert.AdDown.nD Cert.AdDown.τ).loc Cert.AdDown.main_arg3) = m ((c.tc : Thread Cert.AdDown.nD Cert.AdDown.τ).loc Cert.AdDown.main_arg3))
      ∧ r.2.sem = fun _ => 0)

def quiescent_AdDownIdeal [hAdDownIdeal : Cert.AdDownIdeal.Facts] : Prop :=
  ∀ (m : (ℓ : Loc Cert.AdDownIdeal.nD Cert.AdDownIdeal.τ Cert.AdDownIdeal.sig) → Buf (Elt Ideal) ℓ) (g : Dev Cert.AdDownIdeal.nD → PrngReg), Pre_AdDownIdeal m →
    θ_run (Cert.AdDownIdeal.defs (F := Ideal)) (onTc (τ := Cert.AdDownIdeal.τ) (Cert.AdDownIdeal.main (F := Ideal))) ⟨m, fun _ => 0, g⟩ (fun r => (∀ c : Dev Cert.AdDownIdeal.nD,
      r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
      ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
      ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
      ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ r.2.sem = fun _ => 0)

def quiescent_AdDownRefIdeal [hAdDownRefIdeal : Cert.AdDownRefIdeal.Facts] : Prop :=
  ∀ (m : (ℓ : Loc Cert.AdDownRefIdeal.nD Cert.AdDownRefIdeal.τ Cert.AdDownRefIdeal.sig) → Buf (Elt Ideal) ℓ) (g : Dev Cert.AdDownRefIdeal.nD → PrngReg), Pre_AdDownRefIdeal m →
    θ_run (Cert.AdDownRefIdeal.defs (F := Ideal)) (onTc (τ := Cert.AdDownRefIdeal.τ) (Cert.AdDownRefIdeal.main (F := Ideal))) ⟨m, fun _ => 0, g⟩ (fun r => (∀ c : Dev Cert.AdDownRefIdeal.nD,
      r.2.mem ((c.tc : Thread Cert.AdDownRefIdeal.nD Cert.AdDownRefIdeal.τ).loc Cert.AdDownRefIdeal.main_arg0) = m ((c.tc : Thread Cert.AdDownRefIdeal.nD Cert.AdDownRefIdeal.τ).loc Cert.AdDownRefIdeal.main_arg0)
      ∧ r.2.mem ((c.tc : Thread Cert.AdDownRefIdeal.nD Cert.AdDownRefIdeal.τ).loc Cert.AdDownRefIdeal.main_arg1) = m ((c.tc : Thread Cert.AdDownRefIdeal.nD Cert.AdDownRefIdeal.τ).loc Cert.AdDownRefIdeal.main_arg1)
      ∧ r.2.mem ((c.tc : Thread Cert.AdDownRefIdeal.nD Cert.AdDownRefIdeal.τ).loc Cert.AdDownRefIdeal.main_arg2) = m ((c.tc : Thread Cert.AdDownRefIdeal.nD Cert.AdDownRefIdeal.τ).loc Cert.AdDownRefIdeal.main_arg2)
      ∧ r.2.mem ((c.tc : Thread Cert.AdDownRefIdeal.nD Cert.AdDownRefIdeal.τ).loc Cert.AdDownRefIdeal.main_arg3) = m ((c.tc : Thread Cert.AdDownRefIdeal.nD Cert.AdDownRefIdeal.τ).loc Cert.AdDownRefIdeal.main_arg3))
      ∧ r.2.sem = fun _ => 0)

def quiescent_AdWin [hAdWin : Cert.AdWin.Facts] : Prop :=
  ∀ (m : (ℓ : Loc Cert.AdWin.nD Cert.AdWin.τ Cert.AdWin.sig) → Buf (Elt Bits) ℓ) (g : Dev Cert.AdWin.nD → PrngReg), Pre_AdWin m →
    θ_run (Cert.AdWin.defs (F := Bits)) (onTc (τ := Cert.AdWin.τ) (Cert.AdWin.main (F := Bits))) ⟨m, fun _ => 0, g⟩ (fun r => (∀ c : Dev Cert.AdWin.nD,
      r.2.mem ((c.tc : Thread Cert.AdWin.nD Cert.AdWin.τ).loc Cert.AdWin.main_arg0) = m ((c.tc : Thread Cert.AdWin.nD Cert.AdWin.τ).loc Cert.AdWin.main_arg0)
      ∧ r.2.mem ((c.tc : Thread Cert.AdWin.nD Cert.AdWin.τ).loc Cert.AdWin.main_arg1) = m ((c.tc : Thread Cert.AdWin.nD Cert.AdWin.τ).loc Cert.AdWin.main_arg1)
      ∧ r.2.mem ((c.tc : Thread Cert.AdWin.nD Cert.AdWin.τ).loc Cert.AdWin.main_arg2) = m ((c.tc : Thread Cert.AdWin.nD Cert.AdWin.τ).loc Cert.AdWin.main_arg2)
      ∧ r.2.mem ((c.tc : Thread Cert.AdWin.nD Cert.AdWin.τ).loc Cert.AdWin.main_arg3) = m ((c.tc : Thread Cert.AdWin.nD Cert.AdWin.τ).loc Cert.AdWin.main_arg3))
      ∧ r.2.sem = fun _ => 0)

def quiescent_AdWinIdeal [hAdWinIdeal : Cert.AdWinIdeal.Facts] : Prop :=
  ∀ (m : (ℓ : Loc Cert.AdWinIdeal.nD Cert.AdWinIdeal.τ Cert.AdWinIdeal.sig) → Buf (Elt Ideal) ℓ) (g : Dev Cert.AdWinIdeal.nD → PrngReg), Pre_AdWinIdeal m →
    θ_run (Cert.AdWinIdeal.defs (F := Ideal)) (onTc (τ := Cert.AdWinIdeal.τ) (Cert.AdWinIdeal.main (F := Ideal))) ⟨m, fun _ => 0, g⟩ (fun r => (∀ c : Dev Cert.AdWinIdeal.nD,
      r.2.mem ((c.tc : Thread Cert.AdWinIdeal.nD Cert.AdWinIdeal.τ).loc Cert.AdWinIdeal.main_arg0) = m ((c.tc : Thread Cert.AdWinIdeal.nD Cert.AdWinIdeal.τ).loc Cert.AdWinIdeal.main_arg0)
      ∧ r.2.mem ((c.tc : Thread Cert.AdWinIdeal.nD Cert.AdWinIdeal.τ).loc Cert.AdWinIdeal.main_arg1) = m ((c.tc : Thread Cert.AdWinIdeal.nD Cert.AdWinIdeal.τ).loc Cert.AdWinIdeal.main_arg1)
      ∧ r.2.mem ((c.tc : Thread Cert.AdWinIdeal.nD Cert.AdWinIdeal.τ).loc Cert.AdWinIdeal.main_arg2) = m ((c.tc : Thread Cert.AdWinIdeal.nD Cert.AdWinIdeal.τ).loc Cert.AdWinIdeal.main_arg2)
      ∧ r.2.mem ((c.tc : Thread Cert.AdWinIdeal.nD Cert.AdWinIdeal.τ).loc Cert.AdWinIdeal.main_arg3) = m ((c.tc : Thread Cert.AdWinIdeal.nD Cert.AdWinIdeal.τ).loc Cert.AdWinIdeal.main_arg3))
      ∧ r.2.sem = fun _ => 0)

def quiescent_AdWinRefIdeal [hAdWinRefIdeal : Cert.AdWinRefIdeal.Facts] : Prop :=
  ∀ (m : (ℓ : Loc Cert.AdWinRefIdeal.nD Cert.AdWinRefIdeal.τ Cert.AdWinRefIdeal.sig) → Buf (Elt Ideal) ℓ) (g : Dev Cert.AdWinRefIdeal.nD → PrngReg), Pre_AdWinRefIdeal m →
    θ_run (Cert.AdWinRefIdeal.defs (F := Ideal)) (onTc (τ := Cert.AdWinRefIdeal.τ) (Cert.AdWinRefIdeal.main (F := Ideal))) ⟨m, fun _ => 0, g⟩ (fun r => (∀ c : Dev Cert.AdWinRefIdeal.nD,
      r.2.mem ((c.tc : Thread Cert.AdWinRefIdeal.nD Cert.AdWinRefIdeal.τ).loc Cert.AdWinRefIdeal.main_arg0) = m ((c.tc : Thread Cert.AdWinRefIdeal.nD Cert.AdWinRefIdeal.τ).loc Cert.AdWinRefIdeal.main_arg0)
      ∧ r.2.mem ((c.tc : Thread Cert.AdWinRefIdeal.nD Cert.AdWinRefIdeal.τ).loc Cert.AdWinRefIdeal.main_arg1) = m ((c.tc : Thread Cert.AdWinRefIdeal.nD Cert.AdWinRefIdeal.τ).loc Cert.AdWinRefIdeal.main_arg1)
      ∧ r.2.mem ((c.tc : Thread Cert.AdWinRefIdeal.nD Cert.AdWinRefIdeal.τ).loc Cert.AdWinRefIdeal.main_arg2) = m ((c.tc : Thread Cert.AdWinRefIdeal.nD Cert.AdWinRefIdeal.τ).loc Cert.AdWinRefIdeal.main_arg2)
      ∧ r.2.mem ((c.tc : Thread Cert.AdWinRefIdeal.nD Cert.AdWinRefIdeal.τ).loc Cert.AdWinRefIdeal.main_arg3) = m ((c.tc : Thread Cert.AdWinRefIdeal.nD Cert.AdWinRefIdeal.τ).loc Cert.AdWinRefIdeal.main_arg3))
      ∧ r.2.sem = fun _ => 0)

def quiescent_AdLam [hAdLam : Cert.AdLam.Facts] : Prop :=
  ∀ (m : (ℓ : Loc Cert.AdLam.nD Cert.AdLam.τ Cert.AdLam.sig) → Buf (Elt Bits) ℓ) (g : Dev Cert.AdLam.nD → PrngReg), Pre_AdLam m →
    θ_run (Cert.AdLam.defs (F := Bits)) (onTc (τ := Cert.AdLam.τ) (Cert.AdLam.main (F := Bits))) ⟨m, fun _ => 0, g⟩ (fun r => (∀ c : Dev Cert.AdLam.nD,
      r.2.mem ((c.tc : Thread Cert.AdLam.nD Cert.AdLam.τ).loc Cert.AdLam.main_arg0) = m ((c.tc : Thread Cert.AdLam.nD Cert.AdLam.τ).loc Cert.AdLam.main_arg0)
      ∧ r.2.mem ((c.tc : Thread Cert.AdLam.nD Cert.AdLam.τ).loc Cert.AdLam.main_arg1) = m ((c.tc : Thread Cert.AdLam.nD Cert.AdLam.τ).loc Cert.AdLam.main_arg1)
      ∧ r.2.mem ((c.tc : Thread Cert.AdLam.nD Cert.AdLam.τ).loc Cert.AdLam.main_arg2) = m ((c.tc : Thread Cert.AdLam.nD Cert.AdLam.τ).loc Cert.AdLam.main_arg2)
      ∧ r.2.mem ((c.tc : Thread Cert.AdLam.nD Cert.AdLam.τ).loc Cert.AdLam.main_arg3) = m ((c.tc : Thread Cert.AdLam.nD Cert.AdLam.τ).loc Cert.AdLam.main_arg3))
      ∧ r.2.sem = fun _ => 0)

def quiescent_AdLamIdeal [hAdLamIdeal : Cert.AdLamIdeal.Facts] : Prop :=
  ∀ (m : (ℓ : Loc Cert.AdLamIdeal.nD Cert.AdLamIdeal.τ Cert.AdLamIdeal.sig) → Buf (Elt Ideal) ℓ) (g : Dev Cert.AdLamIdeal.nD → PrngReg), Pre_AdLamIdeal m →
    θ_run (Cert.AdLamIdeal.defs (F := Ideal)) (onTc (τ := Cert.AdLamIdeal.τ) (Cert.AdLamIdeal.main (F := Ideal))) ⟨m, fun _ => 0, g⟩ (fun r => (∀ c : Dev Cert.AdLamIdeal.nD,
      r.2.mem ((c.tc : Thread Cert.AdLamIdeal.nD Cert.AdLamIdeal.τ).loc Cert.AdLamIdeal.main_arg0) = m ((c.tc : Thread Cert.AdLamIdeal.nD Cert.AdLamIdeal.τ).loc Cert.AdLamIdeal.main_arg0)
      ∧ r.2.mem ((c.tc : Thread Cert.AdLamIdeal.nD Cert.AdLamIdeal.τ).loc Cert.AdLamIdeal.main_arg1) = m ((c.tc : Thread Cert.AdLamIdeal.nD Cert.AdLamIdeal.τ).loc Cert.AdLamIdeal.main_arg1)
      ∧ r.2.mem ((c.tc : Thread Cert.AdLamIdeal.nD Cert.AdLamIdeal.τ).loc Cert.AdLamIdeal.main_arg2) = m ((c.tc : Thread Cert.AdLamIdeal.nD Cert.AdLamIdeal.τ).loc Cert.AdLamIdeal.main_arg2)
      ∧ r.2.mem ((c.tc : Thread Cert.AdLamIdeal.nD Cert.AdLamIdeal.τ).loc Cert.AdLamIdeal.main_arg3) = m ((c.tc : Thread Cert.AdLamIdeal.nD Cert.AdLamIdeal.τ).loc Cert.AdLamIdeal.main_arg3))
      ∧ r.2.sem = fun _ => 0)

def quiescent_AdLamRefIdeal [hAdLamRefIdeal : Cert.AdLamRefIdeal.Facts] : Prop :=
  ∀ (m : (ℓ : Loc Cert.AdLamRefIdeal.nD Cert.AdLamRefIdeal.τ Cert.AdLamRefIdeal.sig) → Buf (Elt Ideal) ℓ) (g : Dev Cert.AdLamRefIdeal.nD → PrngReg), Pre_AdLamRefIdeal m →
    θ_run (Cert.AdLamRefIdeal.defs (F := Ideal)) (onTc (τ := Cert.AdLamRefIdeal.τ) (Cert.AdLamRefIdeal.main (F := Ideal))) ⟨m, fun _ => 0, g⟩ (fun r => (∀ c : Dev Cert.AdLamRefIdeal.nD,
      r.2.mem ((c.tc : Thread Cert.AdLamRefIdeal.nD Cert.AdLamRefIdeal.τ).loc Cert.AdLamRefIdeal.main_arg0) = m ((c.tc : Thread Cert.AdLamRefIdeal.nD Cert.AdLamRefIdeal.τ).loc Cert.AdLamRefIdeal.main_arg0)
      ∧ r.2.mem ((c.tc : Thread Cert.AdLamRefIdeal.nD Cert.AdLamRefIdeal.τ).loc Cert.AdLamRefIdeal.main_arg1) = m ((c.tc : Thread Cert.AdLamRefIdeal.nD Cert.AdLamRefIdeal.τ).loc Cert.AdLamRefIdeal.main_arg1)
      ∧ r.2.mem ((c.tc : Thread Cert.AdLamRefIdeal.nD Cert.AdLamRefIdeal.τ).loc Cert.AdLamRefIdeal.main_arg2) = m ((c.tc : Thread Cert.AdLamRefIdeal.nD Cert.AdLamRefIdeal.τ).loc Cert.AdLamRefIdeal.main_arg2)
      ∧ r.2.mem ((c.tc : Thread Cert.AdLamRefIdeal.nD Cert.AdLamRefIdeal.τ).loc Cert.AdLamRefIdeal.main_arg3) = m ((c.tc : Thread Cert.AdLamRefIdeal.nD Cert.AdLamRefIdeal.τ).loc Cert.AdLamRefIdeal.main_arg3))
      ∧ r.2.sem = fun _ => 0)

def quiescent_AdDt [hAdDt : Cert.AdDt.Facts] : Prop :=
  ∀ (m : (ℓ : Loc Cert.AdDt.nD Cert.AdDt.τ Cert.AdDt.sig) → Buf (Elt Bits) ℓ) (g : Dev Cert.AdDt.nD → PrngReg), Pre_AdDt m →
    θ_run (Cert.AdDt.defs (F := Bits)) (onTc (τ := Cert.AdDt.τ) (Cert.AdDt.main (F := Bits))) ⟨m, fun _ => 0, g⟩ (fun r => (∀ c : Dev Cert.AdDt.nD,
      r.2.mem ((c.tc : Thread Cert.AdDt.nD Cert.AdDt.τ).loc Cert.AdDt.main_arg0) = m ((c.tc : Thread Cert.AdDt.nD Cert.AdDt.τ).loc Cert.AdDt.main_arg0)
      ∧ r.2.mem ((c.tc : Thread Cert.AdDt.nD Cert.AdDt.τ).loc Cert.AdDt.main_arg1) = m ((c.tc : Thread Cert.AdDt.nD Cert.AdDt.τ).loc Cert.AdDt.main_arg1)
      ∧ r.2.mem ((c.tc : Thread Cert.AdDt.nD Cert.AdDt.τ).loc Cert.AdDt.main_arg2) = m ((c.tc : Thread Cert.AdDt.nD Cert.AdDt.τ).loc Cert.AdDt.main_arg2)
      ∧ r.2.mem ((c.tc : Thread Cert.AdDt.nD Cert.AdDt.τ).loc Cert.AdDt.main_arg3) = m ((c.tc : Thread Cert.AdDt.nD Cert.AdDt.τ).loc Cert.AdDt.main_arg3))
      ∧ r.2.sem = fun _ => 0)

def quiescent_AdDtIdeal [hAdDtIdeal : Cert.AdDtIdeal.Facts] : Prop :=
  ∀ (m : (ℓ : Loc Cert.AdDtIdeal.nD Cert.AdDtIdeal.τ Cert.AdDtIdeal.sig) → Buf (Elt Ideal) ℓ) (g : Dev Cert.AdDtIdeal.nD → PrngReg), Pre_AdDtIdeal m →
    θ_run (Cert.AdDtIdeal.defs (F := Ideal)) (onTc (τ := Cert.AdDtIdeal.τ) (Cert.AdDtIdeal.main (F := Ideal))) ⟨m, fun _ => 0, g⟩ (fun r => (∀ c : Dev Cert.AdDtIdeal.nD,
      r.2.mem ((c.tc : Thread Cert.AdDtIdeal.nD Cert.AdDtIdeal.τ).loc Cert.AdDtIdeal.main_arg0) = m ((c.tc : Thread Cert.AdDtIdeal.nD Cert.AdDtIdeal.τ).loc Cert.AdDtIdeal.main_arg0)
      ∧ r.2.mem ((c.tc : Thread Cert.AdDtIdeal.nD Cert.AdDtIdeal.τ).loc Cert.AdDtIdeal.main_arg1) = m ((c.tc : Thread Cert.AdDtIdeal.nD Cert.AdDtIdeal.τ).loc Cert.AdDtIdeal.main_arg1)
      ∧ r.2.mem ((c.tc : Thread Cert.AdDtIdeal.nD Cert.AdDtIdeal.τ).loc Cert.AdDtIdeal.main_arg2) = m ((c.tc : Thread Cert.AdDtIdeal.nD Cert.AdDtIdeal.τ).loc Cert.AdDtIdeal.main_arg2)
      ∧ r.2.mem ((c.tc : Thread Cert.AdDtIdeal.nD Cert.AdDtIdeal.τ).loc Cert.AdDtIdeal.main_arg3) = m ((c.tc : Thread Cert.AdDtIdeal.nD Cert.AdDtIdeal.τ).loc Cert.AdDtIdeal.main_arg3))
      ∧ r.2.sem = fun _ => 0)

def quiescent_AdDtRefIdeal [hAdDtRefIdeal : Cert.AdDtRefIdeal.Facts] : Prop :=
  ∀ (m : (ℓ : Loc Cert.AdDtRefIdeal.nD Cert.AdDtRefIdeal.τ Cert.AdDtRefIdeal.sig) → Buf (Elt Ideal) ℓ) (g : Dev Cert.AdDtRefIdeal.nD → PrngReg), Pre_AdDtRefIdeal m →
    θ_run (Cert.AdDtRefIdeal.defs (F := Ideal)) (onTc (τ := Cert.AdDtRefIdeal.τ) (Cert.AdDtRefIdeal.main (F := Ideal))) ⟨m, fun _ => 0, g⟩ (fun r => (∀ c : Dev Cert.AdDtRefIdeal.nD,
      r.2.mem ((c.tc : Thread Cert.AdDtRefIdeal.nD Cert.AdDtRefIdeal.τ).loc Cert.AdDtRefIdeal.main_arg0) = m ((c.tc : Thread Cert.AdDtRefIdeal.nD Cert.AdDtRefIdeal.τ).loc Cert.AdDtRefIdeal.main_arg0)
      ∧ r.2.mem ((c.tc : Thread Cert.AdDtRefIdeal.nD Cert.AdDtRefIdeal.τ).loc Cert.AdDtRefIdeal.main_arg1) = m ((c.tc : Thread Cert.AdDtRefIdeal.nD Cert.AdDtRefIdeal.τ).loc Cert.AdDtRefIdeal.main_arg1)
      ∧ r.2.mem ((c.tc : Thread Cert.AdDtRefIdeal.nD Cert.AdDtRefIdeal.τ).loc Cert.AdDtRefIdeal.main_arg2) = m ((c.tc : Thread Cert.AdDtRefIdeal.nD Cert.AdDtRefIdeal.τ).loc Cert.AdDtRefIdeal.main_arg2)
      ∧ r.2.mem ((c.tc : Thread Cert.AdDtRefIdeal.nD Cert.AdDtRefIdeal.τ).loc Cert.AdDtRefIdeal.main_arg3) = m ((c.tc : Thread Cert.AdDtRefIdeal.nD Cert.AdDtRefIdeal.τ).loc Cert.AdDtRefIdeal.main_arg3))
      ∧ r.2.sem = fun _ => 0)

def quiescent_AdB [hAdB : Cert.AdB.Facts] : Prop :=
  ∀ (m : (ℓ : Loc Cert.AdB.nD Cert.AdB.τ Cert.AdB.sig) → Buf (Elt Bits) ℓ) (g : Dev Cert.AdB.nD → PrngReg), Pre_AdB m →
    θ_run (Cert.AdB.defs (F := Bits)) (onTc (τ := Cert.AdB.τ) (Cert.AdB.main (F := Bits))) ⟨m, fun _ => 0, g⟩ (fun r => (∀ c : Dev Cert.AdB.nD,
      r.2.mem ((c.tc : Thread Cert.AdB.nD Cert.AdB.τ).loc Cert.AdB.main_arg0) = m ((c.tc : Thread Cert.AdB.nD Cert.AdB.τ).loc Cert.AdB.main_arg0)
      ∧ r.2.mem ((c.tc : Thread Cert.AdB.nD Cert.AdB.τ).loc Cert.AdB.main_arg1) = m ((c.tc : Thread Cert.AdB.nD Cert.AdB.τ).loc Cert.AdB.main_arg1)
      ∧ r.2.mem ((c.tc : Thread Cert.AdB.nD Cert.AdB.τ).loc Cert.AdB.main_arg2) = m ((c.tc : Thread Cert.AdB.nD Cert.AdB.τ).loc Cert.AdB.main_arg2)
      ∧ r.2.mem ((c.tc : Thread Cert.AdB.nD Cert.AdB.τ).loc Cert.AdB.main_arg3) = m ((c.tc : Thread Cert.AdB.nD Cert.AdB.τ).loc Cert.AdB.main_arg3))
      ∧ r.2.sem = fun _ => 0)

def quiescent_AdBIdeal [hAdBIdeal : Cert.AdBIdeal.Facts] : Prop :=
  ∀ (m : (ℓ : Loc Cert.AdBIdeal.nD Cert.AdBIdeal.τ Cert.AdBIdeal.sig) → Buf (Elt Ideal) ℓ) (g : Dev Cert.AdBIdeal.nD → PrngReg), Pre_AdBIdeal m →
    θ_run (Cert.AdBIdeal.defs (F := Ideal)) (onTc (τ := Cert.AdBIdeal.τ) (Cert.AdBIdeal.main (F := Ideal))) ⟨m, fun _ => 0, g⟩ (fun r => (∀ c : Dev Cert.AdBIdeal.nD,
      r.2.mem ((c.tc : Thread Cert.AdBIdeal.nD Cert.AdBIdeal.τ).loc Cert.AdBIdeal.main_arg0) = m ((c.tc : Thread Cert.AdBIdeal.nD Cert.AdBIdeal.τ).loc Cert.AdBIdeal.main_arg0)
      ∧ r.2.mem ((c.tc : Thread Cert.AdBIdeal.nD Cert.AdBIdeal.τ).loc Cert.AdBIdeal.main_arg1) = m ((c.tc : Thread Cert.AdBIdeal.nD Cert.AdBIdeal.τ).loc Cert.AdBIdeal.main_arg1)
      ∧ r.2.mem ((c.tc : Thread Cert.AdBIdeal.nD Cert.AdBIdeal.τ).loc Cert.AdBIdeal.main_arg2) = m ((c.tc : Thread Cert.AdBIdeal.nD Cert.AdBIdeal.τ).loc Cert.AdBIdeal.main_arg2)
      ∧ r.2.mem ((c.tc : Thread Cert.AdBIdeal.nD Cert.AdBIdeal.τ).loc Cert.AdBIdeal.main_arg3) = m ((c.tc : Thread Cert.AdBIdeal.nD Cert.AdBIdeal.τ).loc Cert.AdBIdeal.main_arg3))
      ∧ r.2.sem = fun _ => 0)

def quiescent_AdBRefIdeal [hAdBRefIdeal : Cert.AdBRefIdeal.Facts] : Prop :=
  ∀ (m : (ℓ : Loc Cert.AdBRefIdeal.nD Cert.AdBRefIdeal.τ Cert.AdBRefIdeal.sig) → Buf (Elt Ideal) ℓ) (g : Dev Cert.AdBRefIdeal.nD → PrngReg), Pre_AdBRefIdeal m →
    θ_run (Cert.AdBRefIdeal.defs (F := Ideal)) (onTc (τ := Cert.AdBRefIdeal.τ) (Cert.AdBRefIdeal.main (F := Ideal))) ⟨m, fun _ => 0, g⟩ (fun r => (∀ c : Dev Cert.AdBRefIdeal.nD,
      r.2.mem ((c.tc : Thread Cert.AdBRefIdeal.nD Cert.AdBRefIdeal.τ).loc Cert.AdBRefIdeal.main_arg0) = m ((c.tc : Thread Cert.AdBRefIdeal.nD Cert.AdBRefIdeal.τ).loc Cert.AdBRefIdeal.main_arg0)
      ∧ r.2.mem ((c.tc : Thread Cert.AdBRefIdeal.nD Cert.AdBRefIdeal.τ).loc Cert.AdBRefIdeal.main_arg1) = m ((c.tc : Thread Cert.AdBRefIdeal.nD Cert.AdBRefIdeal.τ).loc Cert.AdBRefIdeal.main_arg1)
      ∧ r.2.mem ((c.tc : Thread Cert.AdBRefIdeal.nD Cert.AdBRefIdeal.τ).loc Cert.AdBRefIdeal.main_arg2) = m ((c.tc : Thread Cert.AdBRefIdeal.nD Cert.AdBRefIdeal.τ).loc Cert.AdBRefIdeal.main_arg2)
      ∧ r.2.mem ((c.tc : Thread Cert.AdBRefIdeal.nD Cert.AdBRefIdeal.τ).loc Cert.AdBRefIdeal.main_arg3) = m ((c.tc : Thread Cert.AdBRefIdeal.nD Cert.AdBRefIdeal.τ).loc Cert.AdBRefIdeal.main_arg3))
      ∧ r.2.sem = fun _ => 0)

def quiescent_AdC [hAdC : Cert.AdC.Facts] : Prop :=
  ∀ (m : (ℓ : Loc Cert.AdC.nD Cert.AdC.τ Cert.AdC.sig) → Buf (Elt Bits) ℓ) (g : Dev Cert.AdC.nD → PrngReg), Pre_AdC m →
    θ_run (Cert.AdC.defs (F := Bits)) (onTc (τ := Cert.AdC.τ) (Cert.AdC.main (F := Bits))) ⟨m, fun _ => 0, g⟩ (fun r => (∀ c : Dev Cert.AdC.nD,
      r.2.mem ((c.tc : Thread Cert.AdC.nD Cert.AdC.τ).loc Cert.AdC.main_arg0) = m ((c.tc : Thread Cert.AdC.nD Cert.AdC.τ).loc Cert.AdC.main_arg0)
      ∧ r.2.mem ((c.tc : Thread Cert.AdC.nD Cert.AdC.τ).loc Cert.AdC.main_arg1) = m ((c.tc : Thread Cert.AdC.nD Cert.AdC.τ).loc Cert.AdC.main_arg1)
      ∧ r.2.mem ((c.tc : Thread Cert.AdC.nD Cert.AdC.τ).loc Cert.AdC.main_arg2) = m ((c.tc : Thread Cert.AdC.nD Cert.AdC.τ).loc Cert.AdC.main_arg2)
      ∧ r.2.mem ((c.tc : Thread Cert.AdC.nD Cert.AdC.τ).loc Cert.AdC.main_arg3) = m ((c.tc : Thread Cert.AdC.nD Cert.AdC.τ).loc Cert.AdC.main_arg3))
      ∧ r.2.sem = fun _ => 0)

def quiescent_AdCIdeal [hAdCIdeal : Cert.AdCIdeal.Facts] : Prop :=
  ∀ (m : (ℓ : Loc Cert.AdCIdeal.nD Cert.AdCIdeal.τ Cert.AdCIdeal.sig) → Buf (Elt Ideal) ℓ) (g : Dev Cert.AdCIdeal.nD → PrngReg), Pre_AdCIdeal m →
    θ_run (Cert.AdCIdeal.defs (F := Ideal)) (onTc (τ := Cert.AdCIdeal.τ) (Cert.AdCIdeal.main (F := Ideal))) ⟨m, fun _ => 0, g⟩ (fun r => (∀ c : Dev Cert.AdCIdeal.nD,
      r.2.mem ((c.tc : Thread Cert.AdCIdeal.nD Cert.AdCIdeal.τ).loc Cert.AdCIdeal.main_arg0) = m ((c.tc : Thread Cert.AdCIdeal.nD Cert.AdCIdeal.τ).loc Cert.AdCIdeal.main_arg0)
      ∧ r.2.mem ((c.tc : Thread Cert.AdCIdeal.nD Cert.AdCIdeal.τ).loc Cert.AdCIdeal.main_arg1) = m ((c.tc : Thread Cert.AdCIdeal.nD Cert.AdCIdeal.τ).loc Cert.AdCIdeal.main_arg1)
      ∧ r.2.mem ((c.tc : Thread Cert.AdCIdeal.nD Cert.AdCIdeal.τ).loc Cert.AdCIdeal.main_arg2) = m ((c.tc : Thread Cert.AdCIdeal.nD Cert.AdCIdeal.τ).loc Cert.AdCIdeal.main_arg2)
      ∧ r.2.mem ((c.tc : Thread Cert.AdCIdeal.nD Cert.AdCIdeal.τ).loc Cert.AdCIdeal.main_arg3) = m ((c.tc : Thread Cert.AdCIdeal.nD Cert.AdCIdeal.τ).loc Cert.AdCIdeal.main_arg3))
      ∧ r.2.sem = fun _ => 0)

def quiescent_AdCRefIdeal [hAdCRefIdeal : Cert.AdCRefIdeal.Facts] : Prop :=
  ∀ (m : (ℓ : Loc Cert.AdCRefIdeal.nD Cert.AdCRefIdeal.τ Cert.AdCRefIdeal.sig) → Buf (Elt Ideal) ℓ) (g : Dev Cert.AdCRefIdeal.nD → PrngReg), Pre_AdCRefIdeal m →
    θ_run (Cert.AdCRefIdeal.defs (F := Ideal)) (onTc (τ := Cert.AdCRefIdeal.τ) (Cert.AdCRefIdeal.main (F := Ideal))) ⟨m, fun _ => 0, g⟩ (fun r => (∀ c : Dev Cert.AdCRefIdeal.nD,
      r.2.mem ((c.tc : Thread Cert.AdCRefIdeal.nD Cert.AdCRefIdeal.τ).loc Cert.AdCRefIdeal.main_arg0) = m ((c.tc : Thread Cert.AdCRefIdeal.nD Cert.AdCRefIdeal.τ).loc Cert.AdCRefIdeal.main_arg0)
      ∧ r.2.mem ((c.tc : Thread Cert.AdCRefIdeal.nD Cert.AdCRefIdeal.τ).loc Cert.AdCRefIdeal.main_arg1) = m ((c.tc : Thread Cert.AdCRefIdeal.nD Cert.AdCRefIdeal.τ).loc Cert.AdCRefIdeal.main_arg1)
      ∧ r.2.mem ((c.tc : Thread Cert.AdCRefIdeal.nD Cert.AdCRefIdeal.τ).loc Cert.AdCRefIdeal.main_arg2) = m ((c.tc : Thread Cert.AdCRefIdeal.nD Cert.AdCRefIdeal.τ).loc Cert.AdCRefIdeal.main_arg2)
      ∧ r.2.mem ((c.tc : Thread Cert.AdCRefIdeal.nD Cert.AdCRefIdeal.τ).loc Cert.AdCRefIdeal.main_arg3) = m ((c.tc : Thread Cert.AdCRefIdeal.nD Cert.AdCRefIdeal.τ).loc Cert.AdCRefIdeal.main_arg3))
      ∧ r.2.sem = fun _ => 0)

def quiescent_AdD [hAdD : Cert.AdD.Facts] : Prop :=
  ∀ (m : (ℓ : Loc Cert.AdD.nD Cert.AdD.τ Cert.AdD.sig) → Buf (Elt Bits) ℓ) (g : Dev Cert.AdD.nD → PrngReg), Pre_AdD m →
    θ_run (Cert.AdD.defs (F := Bits)) (onTc (τ := Cert.AdD.τ) (Cert.AdD.main (F := Bits))) ⟨m, fun _ => 0, g⟩ (fun r => (∀ c : Dev Cert.AdD.nD,
      r.2.mem ((c.tc : Thread Cert.AdD.nD Cert.AdD.τ).loc Cert.AdD.main_arg0) = m ((c.tc : Thread Cert.AdD.nD Cert.AdD.τ).loc Cert.AdD.main_arg0)
      ∧ r.2.mem ((c.tc : Thread Cert.AdD.nD Cert.AdD.τ).loc Cert.AdD.main_arg1) = m ((c.tc : Thread Cert.AdD.nD Cert.AdD.τ).loc Cert.AdD.main_arg1)
      ∧ r.2.mem ((c.tc : Thread Cert.AdD.nD Cert.AdD.τ).loc Cert.AdD.main_arg2) = m ((c.tc : Thread Cert.AdD.nD Cert.AdD.τ).loc Cert.AdD.main_arg2)
      ∧ r.2.mem ((c.tc : Thread Cert.AdD.nD Cert.AdD.τ).loc Cert.AdD.main_arg3) = m ((c.tc : Thread Cert.AdD.nD Cert.AdD.τ).loc Cert.AdD.main_arg3))
      ∧ r.2.sem = fun _ => 0)

def quiescent_AdDIdeal [hAdDIdeal : Cert.AdDIdeal.Facts] : Prop :=
  ∀ (m : (ℓ : Loc Cert.AdDIdeal.nD Cert.AdDIdeal.τ Cert.AdDIdeal.sig) → Buf (Elt Ideal) ℓ) (g : Dev Cert.AdDIdeal.nD → PrngReg), Pre_AdDIdeal m →
    θ_run (Cert.AdDIdeal.defs (F := Ideal)) (onTc (τ := Cert.AdDIdeal.τ) (Cert.AdDIdeal.main (F := Ideal))) ⟨m, fun _ => 0, g⟩ (fun r => (∀ c : Dev Cert.AdDIdeal.nD,
      r.2.mem ((c.tc : Thread Cert.AdDIdeal.nD Cert.AdDIdeal.τ).loc Cert.AdDIdeal.main_arg0) = m ((c.tc : Thread Cert.AdDIdeal.nD Cert.AdDIdeal.τ).loc Cert.AdDIdeal.main_arg0)
      ∧ r.2.mem ((c.tc : Thread Cert.AdDIdeal.nD Cert.AdDIdeal.τ).loc Cert.AdDIdeal.main_arg1) = m ((c.tc : Thread Cert.AdDIdeal.nD Cert.AdDIdeal.τ).loc Cert.AdDIdeal.main_arg1)
      ∧ r.2.mem ((c.tc : Thread Cert.AdDIdeal.nD Cert.AdDIdeal.τ).loc Cert.AdDIdeal.main_arg2) = m ((c.tc : Thread Cert.AdDIdeal.nD Cert.AdDIdeal.τ).loc Cert.AdDIdeal.main_arg2)
      ∧ r.2.mem ((c.tc : Thread Cert.AdDIdeal.nD Cert.AdDIdeal.τ).loc Cert.AdDIdeal.main_arg3) = m ((c.tc : Thread Cert.AdDIdeal.nD Cert.AdDIdeal.τ).loc Cert.AdDIdeal.main_arg3))
      ∧ r.2.sem = fun _ => 0)

def quiescent_AdDRefIdeal [hAdDRefIdeal : Cert.AdDRefIdeal.Facts] : Prop :=
  ∀ (m : (ℓ : Loc Cert.AdDRefIdeal.nD Cert.AdDRefIdeal.τ Cert.AdDRefIdeal.sig) → Buf (Elt Ideal) ℓ) (g : Dev Cert.AdDRefIdeal.nD → PrngReg), Pre_AdDRefIdeal m →
    θ_run (Cert.AdDRefIdeal.defs (F := Ideal)) (onTc (τ := Cert.AdDRefIdeal.τ) (Cert.AdDRefIdeal.main (F := Ideal))) ⟨m, fun _ => 0, g⟩ (fun r => (∀ c : Dev Cert.AdDRefIdeal.nD,
      r.2.mem ((c.tc : Thread Cert.AdDRefIdeal.nD Cert.AdDRefIdeal.τ).loc Cert.AdDRefIdeal.main_arg0) = m ((c.tc : Thread Cert.AdDRefIdeal.nD Cert.AdDRefIdeal.τ).loc Cert.AdDRefIdeal.main_arg0)
      ∧ r.2.mem ((c.tc : Thread Cert.AdDRefIdeal.nD Cert.AdDRefIdeal.τ).loc Cert.AdDRefIdeal.main_arg1) = m ((c.tc : Thread Cert.AdDRefIdeal.nD Cert.AdDRefIdeal.τ).loc Cert.AdDRefIdeal.main_arg1)
      ∧ r.2.mem ((c.tc : Thread Cert.AdDRefIdeal.nD Cert.AdDRefIdeal.τ).loc Cert.AdDRefIdeal.main_arg2) = m ((c.tc : Thread Cert.AdDRefIdeal.nD Cert.AdDRefIdeal.τ).loc Cert.AdDRefIdeal.main_arg2)
      ∧ r.2.mem ((c.tc : Thread Cert.AdDRefIdeal.nD Cert.AdDRefIdeal.τ).loc Cert.AdDRefIdeal.main_arg3) = m ((c.tc : Thread Cert.AdDRefIdeal.nD Cert.AdDRefIdeal.τ).loc Cert.AdDRefIdeal.main_arg3))
      ∧ r.2.sem = fun _ => 0)

def quiescent_AdGlu [hAdGlu : Cert.AdGlu.Facts] : Prop :=
  ∀ (m : (ℓ : Loc Cert.AdGlu.nD Cert.AdGlu.τ Cert.AdGlu.sig) → Buf (Elt Bits) ℓ) (g : Dev Cert.AdGlu.nD → PrngReg), Pre_AdGlu m →
    θ_run (Cert.AdGlu.defs (F := Bits)) (onTc (τ := Cert.AdGlu.τ) (Cert.AdGlu.main (F := Bits))) ⟨m, fun _ => 0, g⟩ (fun r => (∀ c : Dev Cert.AdGlu.nD,
      r.2.mem ((c.tc : Thread Cert.AdGlu.nD Cert.AdGlu.τ).loc Cert.AdGlu.main_arg0) = m ((c.tc : Thread Cert.AdGlu.nD Cert.AdGlu.τ).loc Cert.AdGlu.main_arg0)
      ∧ r.2.mem ((c.tc : Thread Cert.AdGlu.nD Cert.AdGlu.τ).loc Cert.AdGlu.main_arg1) = m ((c.tc : Thread Cert.AdGlu.nD Cert.AdGlu.τ).loc Cert.AdGlu.main_arg1)
      ∧ r.2.mem ((c.tc : Thread Cert.AdGlu.nD Cert.AdGlu.τ).loc Cert.AdGlu.main_arg2) = m ((c.tc : Thread Cert.AdGlu.nD Cert.AdGlu.τ).loc Cert.AdGlu.main_arg2)
      ∧ r.2.mem ((c.tc : Thread Cert.AdGlu.nD Cert.AdGlu.τ).loc Cert.AdGlu.main_arg3) = m ((c.tc : Thread Cert.AdGlu.nD Cert.AdGlu.τ).loc Cert.AdGlu.main_arg3))
      ∧ r.2.sem = fun _ => 0)

def quiescent_AdGluIdeal [hAdGluIdeal : Cert.AdGluIdeal.Facts] : Prop :=
  ∀ (m : (ℓ : Loc Cert.AdGluIdeal.nD Cert.AdGluIdeal.τ Cert.AdGluIdeal.sig) → Buf (Elt Ideal) ℓ) (g : Dev Cert.AdGluIdeal.nD → PrngReg), Pre_AdGluIdeal m →
    θ_run (Cert.AdGluIdeal.defs (F := Ideal)) (onTc (τ := Cert.AdGluIdeal.τ) (Cert.AdGluIdeal.main (F := Ideal))) ⟨m, fun _ => 0, g⟩ (fun r => (∀ c : Dev Cert.AdGluIdeal.nD,
      r.2.mem ((c.tc : Thread Cert.AdGluIdeal.nD Cert.AdGluIdeal.τ).loc Cert.AdGluIdeal.main_arg0) = m ((c.tc : Thread Cert.AdGluIdeal.nD Cert.AdGluIdeal.τ).loc Cert.AdGluIdeal.main_arg0)
      ∧ r.2.mem ((c.tc : Thread Cert.AdGluIdeal.nD Cert.AdGluIdeal.τ).loc Cert.AdGluIdeal.main_arg1) = m ((c.tc : Thread Cert.AdGluIdeal.nD Cert.AdGluIdeal.τ).loc Cert.AdGluIdeal.main_arg1)
      ∧ r.2.mem ((c.tc : Thread Cert.AdGluIdeal.nD Cert.AdGluIdeal.τ).loc Cert.AdGluIdeal.main_arg2) = m ((c.tc : Thread Cert.AdGluIdeal.nD Cert.AdGluIdeal.τ).loc Cert.AdGluIdeal.main_arg2)
      ∧ r.2.mem ((c.tc : Thread Cert.AdGluIdeal.nD Cert.AdGluIdeal.τ).loc Cert.AdGluIdeal.main_arg3) = m ((c.tc : Thread Cert.AdGluIdeal.nD Cert.AdGluIdeal.τ).loc Cert.AdGluIdeal.main_arg3))
      ∧ r.2.sem = fun _ => 0)

def quiescent_AdGluRefIdeal [hAdGluRefIdeal : Cert.AdGluRefIdeal.Facts] : Prop :=
  ∀ (m : (ℓ : Loc Cert.AdGluRefIdeal.nD Cert.AdGluRefIdeal.τ Cert.AdGluRefIdeal.sig) → Buf (Elt Ideal) ℓ) (g : Dev Cert.AdGluRefIdeal.nD → PrngReg), Pre_AdGluRefIdeal m →
    θ_run (Cert.AdGluRefIdeal.defs (F := Ideal)) (onTc (τ := Cert.AdGluRefIdeal.τ) (Cert.AdGluRefIdeal.main (F := Ideal))) ⟨m, fun _ => 0, g⟩ (fun r => (∀ c : Dev Cert.AdGluRefIdeal.nD,
      r.2.mem ((c.tc : Thread Cert.AdGluRefIdeal.nD Cert.AdGluRefIdeal.τ).loc Cert.AdGluRefIdeal.main_arg0) = m ((c.tc : Thread Cert.AdGluRefIdeal.nD Cert.AdGluRefIdeal.τ).loc Cert.AdGluRefIdeal.main_arg0)
      ∧ r.2.mem ((c.tc : Thread Cert.AdGluRefIdeal.nD Cert.AdGluRefIdeal.τ).loc Cert.AdGluRefIdeal.main_arg1) = m ((c.tc : Thread Cert.AdGluRefIdeal.nD Cert.AdGluRefIdeal.τ).loc Cert.AdGluRefIdeal.main_arg1)
      ∧ r.2.mem ((c.tc : Thread Cert.AdGluRefIdeal.nD Cert.AdGluRefIdeal.τ).loc Cert.AdGluRefIdeal.main_arg2) = m ((c.tc : Thread Cert.AdGluRefIdeal.nD Cert.AdGluRefIdeal.τ).loc Cert.AdGluRefIdeal.main_arg2)
      ∧ r.2.mem ((c.tc : Thread Cert.AdGluRefIdeal.nD Cert.AdGluRefIdeal.τ).loc Cert.AdGluRefIdeal.main_arg3) = m ((c.tc : Thread Cert.AdGluRefIdeal.nD Cert.AdGluRefIdeal.τ).loc Cert.AdGluRefIdeal.main_arg3))
      ∧ r.2.sem = fun _ => 0)

def quiescent_AdSink [hAdSink : Cert.AdSink.Facts] : Prop :=
  ∀ (m : (ℓ : Loc Cert.AdSink.nD Cert.AdSink.τ Cert.AdSink.sig) → Buf (Elt Bits) ℓ) (g : Dev Cert.AdSink.nD → PrngReg), Pre_AdSink m →
    θ_run (Cert.AdSink.defs (F := Bits)) (onTc (τ := Cert.AdSink.τ) (Cert.AdSink.main (F := Bits))) ⟨m, fun _ => 0, g⟩ (fun r => (∀ c : Dev Cert.AdSink.nD,
      r.2.mem ((c.tc : Thread Cert.AdSink.nD Cert.AdSink.τ).loc Cert.AdSink.main_arg0) = m ((c.tc : Thread Cert.AdSink.nD Cert.AdSink.τ).loc Cert.AdSink.main_arg0)
      ∧ r.2.mem ((c.tc : Thread Cert.AdSink.nD Cert.AdSink.τ).loc Cert.AdSink.main_arg1) = m ((c.tc : Thread Cert.AdSink.nD Cert.AdSink.τ).loc Cert.AdSink.main_arg1)
      ∧ r.2.mem ((c.tc : Thread Cert.AdSink.nD Cert.AdSink.τ).loc Cert.AdSink.main_arg2) = m ((c.tc : Thread Cert.AdSink.nD Cert.AdSink.τ).loc Cert.AdSink.main_arg2)
      ∧ r.2.mem ((c.tc : Thread Cert.AdSink.nD Cert.AdSink.τ).loc Cert.AdSink.main_arg3) = m ((c.tc : Thread Cert.AdSink.nD Cert.AdSink.τ).loc Cert.AdSink.main_arg3))
      ∧ r.2.sem = fun _ => 0)

def quiescent_AdSinkIdeal [hAdSinkIdeal : Cert.AdSinkIdeal.Facts] : Prop :=
  ∀ (m : (ℓ : Loc Cert.AdSinkIdeal.nD Cert.AdSinkIdeal.τ Cert.AdSinkIdeal.sig) → Buf (Elt Ideal) ℓ) (g : Dev Cert.AdSinkIdeal.nD → PrngReg), Pre_AdSinkIdeal m →
    θ_run (Cert.AdSinkIdeal.defs (F := Ideal)) (onTc (τ := Cert.AdSinkIdeal.τ) (Cert.AdSinkIdeal.main (F := Ideal))) ⟨m, fun _ => 0, g⟩ (fun r => (∀ c : Dev Cert.AdSinkIdeal.nD,
      r.2.mem ((c.tc : Thread Cert.AdSinkIdeal.nD Cert.AdSinkIdeal.τ).loc Cert.AdSinkIdeal.main_arg0) = m ((c.tc : Thread Cert.AdSinkIdeal.nD Cert.AdSinkIdeal.τ).loc Cert.AdSinkIdeal.main_arg0)
      ∧ r.2.mem ((c.tc : Thread Cert.AdSinkIdeal.nD Cert.AdSinkIdeal.τ).loc Cert.AdSinkIdeal.main_arg1) = m ((c.tc : Thread Cert.AdSinkIdeal.nD Cert.AdSinkIdeal.τ).loc Cert.AdSinkIdeal.main_arg1)
      ∧ r.2.mem ((c.tc : Thread Cert.AdSinkIdeal.nD Cert.AdSinkIdeal.τ).loc Cert.AdSinkIdeal.main_arg2) = m ((c.tc : Thread Cert.AdSinkIdeal.nD Cert.AdSinkIdeal.τ).loc Cert.AdSinkIdeal.main_arg2)
      ∧ r.2.mem ((c.tc : Thread Cert.AdSinkIdeal.nD Cert.AdSinkIdeal.τ).loc Cert.AdSinkIdeal.main_arg3) = m ((c.tc : Thread Cert.AdSinkIdeal.nD Cert.AdSinkIdeal.τ).loc Cert.AdSinkIdeal.main_arg3))
      ∧ r.2.sem = fun _ => 0)

def quiescent_AdSinkRefIdeal [hAdSinkRefIdeal : Cert.AdSinkRefIdeal.Facts] : Prop :=
  ∀ (m : (ℓ : Loc Cert.AdSinkRefIdeal.nD Cert.AdSinkRefIdeal.τ Cert.AdSinkRefIdeal.sig) → Buf (Elt Ideal) ℓ) (g : Dev Cert.AdSinkRefIdeal.nD → PrngReg), Pre_AdSinkRefIdeal m →
    θ_run (Cert.AdSinkRefIdeal.defs (F := Ideal)) (onTc (τ := Cert.AdSinkRefIdeal.τ) (Cert.AdSinkRefIdeal.main (F := Ideal))) ⟨m, fun _ => 0, g⟩ (fun r => (∀ c : Dev Cert.AdSinkRefIdeal.nD,
      r.2.mem ((c.tc : Thread Cert.AdSinkRefIdeal.nD Cert.AdSinkRefIdeal.τ).loc Cert.AdSinkRefIdeal.main_arg0) = m ((c.tc : Thread Cert.AdSinkRefIdeal.nD Cert.AdSinkRefIdeal.τ).loc Cert.AdSinkRefIdeal.main_arg0)
      ∧ r.2.mem ((c.tc : Thread Cert.AdSinkRefIdeal.nD Cert.AdSinkRefIdeal.τ).loc Cert.AdSinkRefIdeal.main_arg1) = m ((c.tc : Thread Cert.AdSinkRefIdeal.nD Cert.AdSinkRefIdeal.τ).loc Cert.AdSinkRefIdeal.main_arg1)
      ∧ r.2.mem ((c.tc : Thread Cert.AdSinkRefIdeal.nD Cert.AdSinkRefIdeal.τ).loc Cert.AdSinkRefIdeal.main_arg2) = m ((c.tc : Thread Cert.AdSinkRefIdeal.nD Cert.AdSinkRefIdeal.τ).loc Cert.AdSinkRefIdeal.main_arg2)
      ∧ r.2.mem ((c.tc : Thread Cert.AdSinkRefIdeal.nD Cert.AdSinkRefIdeal.τ).loc Cert.AdSinkRefIdeal.main_arg3) = m ((c.tc : Thread Cert.AdSinkRefIdeal.nD Cert.AdSinkRefIdeal.τ).loc Cert.AdSinkRefIdeal.main_arg3))
      ∧ r.2.sem = fun _ => 0)

def quiescent_AdBs [hAdBs : Cert.AdBs.Facts] : Prop :=
  ∀ (m : (ℓ : Loc Cert.AdBs.nD Cert.AdBs.τ Cert.AdBs.sig) → Buf (Elt Bits) ℓ) (g : Dev Cert.AdBs.nD → PrngReg), Pre_AdBs m →
    θ_run (Cert.AdBs.defs (F := Bits)) (onTc (τ := Cert.AdBs.τ) (Cert.AdBs.main (F := Bits))) ⟨m, fun _ => 0, g⟩ (fun r => (∀ c : Dev Cert.AdBs.nD,
      r.2.mem ((c.tc : Thread Cert.AdBs.nD Cert.AdBs.τ).loc Cert.AdBs.main_arg0) = m ((c.tc : Thread Cert.AdBs.nD Cert.AdBs.τ).loc Cert.AdBs.main_arg0)
      ∧ r.2.mem ((c.tc : Thread Cert.AdBs.nD Cert.AdBs.τ).loc Cert.AdBs.main_arg1) = m ((c.tc : Thread Cert.AdBs.nD Cert.AdBs.τ).loc Cert.AdBs.main_arg1)
      ∧ r.2.mem ((c.tc : Thread Cert.AdBs.nD Cert.AdBs.τ).loc Cert.AdBs.main_arg2) = m ((c.tc : Thread Cert.AdBs.nD Cert.AdBs.τ).loc Cert.AdBs.main_arg2)
      ∧ r.2.mem ((c.tc : Thread Cert.AdBs.nD Cert.AdBs.τ).loc Cert.AdBs.main_arg3) = m ((c.tc : Thread Cert.AdBs.nD Cert.AdBs.τ).loc Cert.AdBs.main_arg3))
      ∧ r.2.sem = fun _ => 0)

def quiescent_AdBsIdeal [hAdBsIdeal : Cert.AdBsIdeal.Facts] : Prop :=
  ∀ (m : (ℓ : Loc Cert.AdBsIdeal.nD Cert.AdBsIdeal.τ Cert.AdBsIdeal.sig) → Buf (Elt Ideal) ℓ) (g : Dev Cert.AdBsIdeal.nD → PrngReg), Pre_AdBsIdeal m →
    θ_run (Cert.AdBsIdeal.defs (F := Ideal)) (onTc (τ := Cert.AdBsIdeal.τ) (Cert.AdBsIdeal.main (F := Ideal))) ⟨m, fun _ => 0, g⟩ (fun r => (∀ c : Dev Cert.AdBsIdeal.nD,
      r.2.mem ((c.tc : Thread Cert.AdBsIdeal.nD Cert.AdBsIdeal.τ).loc Cert.AdBsIdeal.main_arg0) = m ((c.tc : Thread Cert.AdBsIdeal.nD Cert.AdBsIdeal.τ).loc Cert.AdBsIdeal.main_arg0)
      ∧ r.2.mem ((c.tc : Thread Cert.AdBsIdeal.nD Cert.AdBsIdeal.τ).loc Cert.AdBsIdeal.main_arg1) = m ((c.tc : Thread Cert.AdBsIdeal.nD Cert.AdBsIdeal.τ).loc Cert.AdBsIdeal.main_arg1)
      ∧ r.2.mem ((c.tc : Thread Cert.AdBsIdeal.nD Cert.AdBsIdeal.τ).loc Cert.AdBsIdeal.main_arg2) = m ((c.tc : Thread Cert.AdBsIdeal.nD Cert.AdBsIdeal.τ).loc Cert.AdBsIdeal.main_arg2)
      ∧ r.2.mem ((c.tc : Thread Cert.AdBsIdeal.nD Cert.AdBsIdeal.τ).loc Cert.AdBsIdeal.main_arg3) = m ((c.tc : Thread Cert.AdBsIdeal.nD Cert.AdBsIdeal.τ).loc Cert.AdBsIdeal.main_arg3))
      ∧ r.2.sem = fun _ => 0)

def quiescent_AdBsRefIdeal [hAdBsRefIdeal : Cert.AdBsRefIdeal.Facts] : Prop :=
  ∀ (m : (ℓ : Loc Cert.AdBsRefIdeal.nD Cert.AdBsRefIdeal.τ Cert.AdBsRefIdeal.sig) → Buf (Elt Ideal) ℓ) (g : Dev Cert.AdBsRefIdeal.nD → PrngReg), Pre_AdBsRefIdeal m →
    θ_run (Cert.AdBsRefIdeal.defs (F := Ideal)) (onTc (τ := Cert.AdBsRefIdeal.τ) (Cert.AdBsRefIdeal.main (F := Ideal))) ⟨m, fun _ => 0, g⟩ (fun r => (∀ c : Dev Cert.AdBsRefIdeal.nD,
      r.2.mem ((c.tc : Thread Cert.AdBsRefIdeal.nD Cert.AdBsRefIdeal.τ).loc Cert.AdBsRefIdeal.main_arg0) = m ((c.tc : Thread Cert.AdBsRefIdeal.nD Cert.AdBsRefIdeal.τ).loc Cert.AdBsRefIdeal.main_arg0)
      ∧ r.2.mem ((c.tc : Thread Cert.AdBsRefIdeal.nD Cert.AdBsRefIdeal.τ).loc Cert.AdBsRefIdeal.main_arg1) = m ((c.tc : Thread Cert.AdBsRefIdeal.nD Cert.AdBsRefIdeal.τ).loc Cert.AdBsRefIdeal.main_arg1)
      ∧ r.2.mem ((c.tc : Thread Cert.AdBsRefIdeal.nD Cert.AdBsRefIdeal.τ).loc Cert.AdBsRefIdeal.main_arg2) = m ((c.tc : Thread Cert.AdBsRefIdeal.nD Cert.AdBsRefIdeal.τ).loc Cert.AdBsRefIdeal.main_arg2)
      ∧ r.2.mem ((c.tc : Thread Cert.AdBsRefIdeal.nD Cert.AdBsRefIdeal.τ).loc Cert.AdBsRefIdeal.main_arg3) = m ((c.tc : Thread Cert.AdBsRefIdeal.nD Cert.AdBsRefIdeal.τ).loc Cert.AdBsRefIdeal.main_arg3))
      ∧ r.2.sem = fun _ => 0)

def quiescent_AdBa [hAdBa : Cert.AdBa.Facts] : Prop :=
  ∀ (m : (ℓ : Loc Cert.AdBa.nD Cert.AdBa.τ Cert.AdBa.sig) → Buf (Elt Bits) ℓ) (g : Dev Cert.AdBa.nD → PrngReg), Pre_AdBa m →
    θ_run (Cert.AdBa.defs (F := Bits)) (onTc (τ := Cert.AdBa.τ) (Cert.AdBa.main (F := Bits))) ⟨m, fun _ => 0, g⟩ (fun r => (∀ c : Dev Cert.AdBa.nD,
      r.2.mem ((c.tc : Thread Cert.AdBa.nD Cert.AdBa.τ).loc Cert.AdBa.main_arg0) = m ((c.tc : Thread Cert.AdBa.nD Cert.AdBa.τ).loc Cert.AdBa.main_arg0)
      ∧ r.2.mem ((c.tc : Thread Cert.AdBa.nD Cert.AdBa.τ).loc Cert.AdBa.main_arg1) = m ((c.tc : Thread Cert.AdBa.nD Cert.AdBa.τ).loc Cert.AdBa.main_arg1)
      ∧ r.2.mem ((c.tc : Thread Cert.AdBa.nD Cert.AdBa.τ).loc Cert.AdBa.main_arg2) = m ((c.tc : Thread Cert.AdBa.nD Cert.AdBa.τ).loc Cert.AdBa.main_arg2)
      ∧ r.2.mem ((c.tc : Thread Cert.AdBa.nD Cert.AdBa.τ).loc Cert.AdBa.main_arg3) = m ((c.tc : Thread Cert.AdBa.nD Cert.AdBa.τ).loc Cert.AdBa.main_arg3))
      ∧ r.2.sem = fun _ => 0)

def quiescent_AdBaIdeal [hAdBaIdeal : Cert.AdBaIdeal.Facts] : Prop :=
  ∀ (m : (ℓ : Loc Cert.AdBaIdeal.nD Cert.AdBaIdeal.τ Cert.AdBaIdeal.sig) → Buf (Elt Ideal) ℓ) (g : Dev Cert.AdBaIdeal.nD → PrngReg), Pre_AdBaIdeal m →
    θ_run (Cert.AdBaIdeal.defs (F := Ideal)) (onTc (τ := Cert.AdBaIdeal.τ) (Cert.AdBaIdeal.main (F := Ideal))) ⟨m, fun _ => 0, g⟩ (fun r => (∀ c : Dev Cert.AdBaIdeal.nD,
      r.2.mem ((c.tc : Thread Cert.AdBaIdeal.nD Cert.AdBaIdeal.τ).loc Cert.AdBaIdeal.main_arg0) = m ((c.tc : Thread Cert.AdBaIdeal.nD Cert.AdBaIdeal.τ).loc Cert.AdBaIdeal.main_arg0)
      ∧ r.2.mem ((c.tc : Thread Cert.AdBaIdeal.nD Cert.AdBaIdeal.τ).loc Cert.AdBaIdeal.main_arg1) = m ((c.tc : Thread Cert.AdBaIdeal.nD Cert.AdBaIdeal.τ).loc Cert.AdBaIdeal.main_arg1)
      ∧ r.2.mem ((c.tc : Thread Cert.AdBaIdeal.nD Cert.AdBaIdeal.τ).loc Cert.AdBaIdeal.main_arg2) = m ((c.tc : Thread Cert.AdBaIdeal.nD Cert.AdBaIdeal.τ).loc Cert.AdBaIdeal.main_arg2)
      ∧ r.2.mem ((c.tc : Thread Cert.AdBaIdeal.nD Cert.AdBaIdeal.τ).loc Cert.AdBaIdeal.main_arg3) = m ((c.tc : Thread Cert.AdBaIdeal.nD Cert.AdBaIdeal.τ).loc Cert.AdBaIdeal.main_arg3))
      ∧ r.2.sem = fun _ => 0)

def quiescent_AdBaRefIdeal [hAdBaRefIdeal : Cert.AdBaRefIdeal.Facts] : Prop :=
  ∀ (m : (ℓ : Loc Cert.AdBaRefIdeal.nD Cert.AdBaRefIdeal.τ Cert.AdBaRefIdeal.sig) → Buf (Elt Ideal) ℓ) (g : Dev Cert.AdBaRefIdeal.nD → PrngReg), Pre_AdBaRefIdeal m →
    θ_run (Cert.AdBaRefIdeal.defs (F := Ideal)) (onTc (τ := Cert.AdBaRefIdeal.τ) (Cert.AdBaRefIdeal.main (F := Ideal))) ⟨m, fun _ => 0, g⟩ (fun r => (∀ c : Dev Cert.AdBaRefIdeal.nD,
      r.2.mem ((c.tc : Thread Cert.AdBaRefIdeal.nD Cert.AdBaRefIdeal.τ).loc Cert.AdBaRefIdeal.main_arg0) = m ((c.tc : Thread Cert.AdBaRefIdeal.nD Cert.AdBaRefIdeal.τ).loc Cert.AdBaRefIdeal.main_arg0)
      ∧ r.2.mem ((c.tc : Thread Cert.AdBaRefIdeal.nD Cert.AdBaRefIdeal.τ).loc Cert.AdBaRefIdeal.main_arg1) = m ((c.tc : Thread Cert.AdBaRefIdeal.nD Cert.AdBaRefIdeal.τ).loc Cert.AdBaRefIdeal.main_arg1)
      ∧ r.2.mem ((c.tc : Thread Cert.AdBaRefIdeal.nD Cert.AdBaRefIdeal.τ).loc Cert.AdBaRefIdeal.main_arg2) = m ((c.tc : Thread Cert.AdBaRefIdeal.nD Cert.AdBaRefIdeal.τ).loc Cert.AdBaRefIdeal.main_arg2)
      ∧ r.2.mem ((c.tc : Thread Cert.AdBaRefIdeal.nD Cert.AdBaRefIdeal.τ).loc Cert.AdBaRefIdeal.main_arg3) = m ((c.tc : Thread Cert.AdBaRefIdeal.nD Cert.AdBaRefIdeal.τ).loc Cert.AdBaRefIdeal.main_arg3))
      ∧ r.2.sem = fun _ => 0)

def quiescent_AdFinal [hAdFinal : Cert.AdFinal.Facts] : Prop :=
  ∀ (m : (ℓ : Loc Cert.AdFinal.nD Cert.AdFinal.τ Cert.AdFinal.sig) → Buf (Elt Bits) ℓ) (g : Dev Cert.AdFinal.nD → PrngReg), Pre_AdFinal m →
    θ_run (Cert.AdFinal.defs (F := Bits)) (onTc (τ := Cert.AdFinal.τ) (Cert.AdFinal.main (F := Bits))) ⟨m, fun _ => 0, g⟩ (fun r => (∀ c : Dev Cert.AdFinal.nD,
      r.2.mem ((c.tc : Thread Cert.AdFinal.nD Cert.AdFinal.τ).loc Cert.AdFinal.main_arg0) = m ((c.tc : Thread Cert.AdFinal.nD Cert.AdFinal.τ).loc Cert.AdFinal.main_arg0)
      ∧ r.2.mem ((c.tc : Thread Cert.AdFinal.nD Cert.AdFinal.τ).loc Cert.AdFinal.main_arg1) = m ((c.tc : Thread Cert.AdFinal.nD Cert.AdFinal.τ).loc Cert.AdFinal.main_arg1)
      ∧ r.2.mem ((c.tc : Thread Cert.AdFinal.nD Cert.AdFinal.τ).loc Cert.AdFinal.main_arg2) = m ((c.tc : Thread Cert.AdFinal.nD Cert.AdFinal.τ).loc Cert.AdFinal.main_arg2)
      ∧ r.2.mem ((c.tc : Thread Cert.AdFinal.nD Cert.AdFinal.τ).loc Cert.AdFinal.main_arg3) = m ((c.tc : Thread Cert.AdFinal.nD Cert.AdFinal.τ).loc Cert.AdFinal.main_arg3))
      ∧ r.2.sem = fun _ => 0)

def quiescent_AdFinalIdeal [hAdFinalIdeal : Cert.AdFinalIdeal.Facts] : Prop :=
  ∀ (m : (ℓ : Loc Cert.AdFinalIdeal.nD Cert.AdFinalIdeal.τ Cert.AdFinalIdeal.sig) → Buf (Elt Ideal) ℓ) (g : Dev Cert.AdFinalIdeal.nD → PrngReg), Pre_AdFinalIdeal m →
    θ_run (Cert.AdFinalIdeal.defs (F := Ideal)) (onTc (τ := Cert.AdFinalIdeal.τ) (Cert.AdFinalIdeal.main (F := Ideal))) ⟨m, fun _ => 0, g⟩ (fun r => (∀ c : Dev Cert.AdFinalIdeal.nD,
      r.2.mem ((c.tc : Thread Cert.AdFinalIdeal.nD Cert.AdFinalIdeal.τ).loc Cert.AdFinalIdeal.main_arg0) = m ((c.tc : Thread Cert.AdFinalIdeal.nD Cert.AdFinalIdeal.τ).loc Cert.AdFinalIdeal.main_arg0)
      ∧ r.2.mem ((c.tc : Thread Cert.AdFinalIdeal.nD Cert.AdFinalIdeal.τ).loc Cert.AdFinalIdeal.main_arg1) = m ((c.tc : Thread Cert.AdFinalIdeal.nD Cert.AdFinalIdeal.τ).loc Cert.AdFinalIdeal.main_arg1)
      ∧ r.2.mem ((c.tc : Thread Cert.AdFinalIdeal.nD Cert.AdFinalIdeal.τ).loc Cert.AdFinalIdeal.main_arg2) = m ((c.tc : Thread Cert.AdFinalIdeal.nD Cert.AdFinalIdeal.τ).loc Cert.AdFinalIdeal.main_arg2)
      ∧ r.2.mem ((c.tc : Thread Cert.AdFinalIdeal.nD Cert.AdFinalIdeal.τ).loc Cert.AdFinalIdeal.main_arg3) = m ((c.tc : Thread Cert.AdFinalIdeal.nD Cert.AdFinalIdeal.τ).loc Cert.AdFinalIdeal.main_arg3))
      ∧ r.2.sem = fun _ => 0)

def quiescent_AdFinalRefIdeal [hAdFinalRefIdeal : Cert.AdFinalRefIdeal.Facts] : Prop :=
  ∀ (m : (ℓ : Loc Cert.AdFinalRefIdeal.nD Cert.AdFinalRefIdeal.τ Cert.AdFinalRefIdeal.sig) → Buf (Elt Ideal) ℓ) (g : Dev Cert.AdFinalRefIdeal.nD → PrngReg), Pre_AdFinalRefIdeal m →
    θ_run (Cert.AdFinalRefIdeal.defs (F := Ideal)) (onTc (τ := Cert.AdFinalRefIdeal.τ) (Cert.AdFinalRefIdeal.main (F := Ideal))) ⟨m, fun _ => 0, g⟩ (fun r => (∀ c : Dev Cert.AdFinalRefIdeal.nD,
      r.2.mem ((c.tc : Thread Cert.AdFinalRefIdeal.nD Cert.AdFinalRefIdeal.τ).loc Cert.AdFinalRefIdeal.main_arg0) = m ((c.tc : Thread Cert.AdFinalRefIdeal.nD Cert.AdFinalRefIdeal.τ).loc Cert.AdFinalRefIdeal.main_arg0)
      ∧ r.2.mem ((c.tc : Thread Cert.AdFinalRefIdeal.nD Cert.AdFinalRefIdeal.τ).loc Cert.AdFinalRefIdeal.main_arg1) = m ((c.tc : Thread Cert.AdFinalRefIdeal.nD Cert.AdFinalRefIdeal.τ).loc Cert.AdFinalRefIdeal.main_arg1)
      ∧ r.2.mem ((c.tc : Thread Cert.AdFinalRefIdeal.nD Cert.AdFinalRefIdeal.τ).loc Cert.AdFinalRefIdeal.main_arg2) = m ((c.tc : Thread Cert.AdFinalRefIdeal.nD Cert.AdFinalRefIdeal.τ).loc Cert.AdFinalRefIdeal.main_arg2)
      ∧ r.2.mem ((c.tc : Thread Cert.AdFinalRefIdeal.nD Cert.AdFinalRefIdeal.τ).loc Cert.AdFinalRefIdeal.main_arg3) = m ((c.tc : Thread Cert.AdFinalRefIdeal.nD Cert.AdFinalRefIdeal.τ).loc Cert.AdFinalRefIdeal.main_arg3))
      ∧ r.2.sem = fun _ => 0)

def quiescent_SumFfn [hSumFfn : Cert.SumFfn.Facts] : Prop :=
  ∀ (m : (ℓ : Loc Cert.SumFfn.nD Cert.SumFfn.τ Cert.SumFfn.sig) → Buf (Elt Bits) ℓ) (g : Dev Cert.SumFfn.nD → PrngReg), Pre_SumFfn m →
    θ_run (Cert.SumFfn.defs (F := Bits)) (onTc (τ := Cert.SumFfn.τ) (Cert.SumFfn.main (F := Bits))) ⟨m, fun _ => 0, g⟩ (fun r => (∀ c : Dev Cert.SumFfn.nD,
      r.2.mem ((c.tc : Thread Cert.SumFfn.nD Cert.SumFfn.τ).loc Cert.SumFfn.main_arg0) = m ((c.tc : Thread Cert.SumFfn.nD Cert.SumFfn.τ).loc Cert.SumFfn.main_arg0))
      ∧ r.2.sem = fun _ => 0)

def quiescent_SumFfnIdeal [hSumFfnIdeal : Cert.SumFfnIdeal.Facts] : Prop :=
  ∀ (m : (ℓ : Loc Cert.SumFfnIdeal.nD Cert.SumFfnIdeal.τ Cert.SumFfnIdeal.sig) → Buf (Elt Ideal) ℓ) (g : Dev Cert.SumFfnIdeal.nD → PrngReg), Pre_SumFfnIdeal m →
    θ_run (Cert.SumFfnIdeal.defs (F := Ideal)) (onTc (τ := Cert.SumFfnIdeal.τ) (Cert.SumFfnIdeal.main (F := Ideal))) ⟨m, fun _ => 0, g⟩ (fun r => (∀ c : Dev Cert.SumFfnIdeal.nD,
      r.2.mem ((c.tc : Thread Cert.SumFfnIdeal.nD Cert.SumFfnIdeal.τ).loc Cert.SumFfnIdeal.main_arg0) = m ((c.tc : Thread Cert.SumFfnIdeal.nD Cert.SumFfnIdeal.τ).loc Cert.SumFfnIdeal.main_arg0))
      ∧ r.2.sem = fun _ => 0)

def quiescent_SumFfnRefIdeal [hSumFfnRefIdeal : Cert.SumFfnRefIdeal.Facts] : Prop :=
  ∀ (m : (ℓ : Loc Cert.SumFfnRefIdeal.nD Cert.SumFfnRefIdeal.τ Cert.SumFfnRefIdeal.sig) → Buf (Elt Ideal) ℓ) (g : Dev Cert.SumFfnRefIdeal.nD → PrngReg), Pre_SumFfnRefIdeal m →
    θ_run (Cert.SumFfnRefIdeal.defs (F := Ideal)) (onTc (τ := Cert.SumFfnRefIdeal.τ) (Cert.SumFfnRefIdeal.main (F := Ideal))) ⟨m, fun _ => 0, g⟩ (fun r => (∀ c : Dev Cert.SumFfnRefIdeal.nD,
      r.2.mem ((c.tc : Thread Cert.SumFfnRefIdeal.nD Cert.SumFfnRefIdeal.τ).loc Cert.SumFfnRefIdeal.main_arg0) = m ((c.tc : Thread Cert.SumFfnRefIdeal.nD Cert.SumFfnRefIdeal.τ).loc Cert.SumFfnRefIdeal.main_arg0))
      ∧ r.2.sem = fun _ => 0)

def quiescent_SumOne [hSumOne : Cert.SumOne.Facts] : Prop :=
  ∀ (m : (ℓ : Loc Cert.SumOne.nD Cert.SumOne.τ Cert.SumOne.sig) → Buf (Elt Bits) ℓ) (g : Dev Cert.SumOne.nD → PrngReg), Pre_SumOne m →
    θ_run (Cert.SumOne.defs (F := Bits)) (onTc (τ := Cert.SumOne.τ) (Cert.SumOne.main (F := Bits))) ⟨m, fun _ => 0, g⟩ (fun r => (∀ c : Dev Cert.SumOne.nD,
      r.2.mem ((c.tc : Thread Cert.SumOne.nD Cert.SumOne.τ).loc Cert.SumOne.main_arg0) = m ((c.tc : Thread Cert.SumOne.nD Cert.SumOne.τ).loc Cert.SumOne.main_arg0))
      ∧ r.2.sem = fun _ => 0)

def quiescent_SumOneIdeal [hSumOneIdeal : Cert.SumOneIdeal.Facts] : Prop :=
  ∀ (m : (ℓ : Loc Cert.SumOneIdeal.nD Cert.SumOneIdeal.τ Cert.SumOneIdeal.sig) → Buf (Elt Ideal) ℓ) (g : Dev Cert.SumOneIdeal.nD → PrngReg), Pre_SumOneIdeal m →
    θ_run (Cert.SumOneIdeal.defs (F := Ideal)) (onTc (τ := Cert.SumOneIdeal.τ) (Cert.SumOneIdeal.main (F := Ideal))) ⟨m, fun _ => 0, g⟩ (fun r => (∀ c : Dev Cert.SumOneIdeal.nD,
      r.2.mem ((c.tc : Thread Cert.SumOneIdeal.nD Cert.SumOneIdeal.τ).loc Cert.SumOneIdeal.main_arg0) = m ((c.tc : Thread Cert.SumOneIdeal.nD Cert.SumOneIdeal.τ).loc Cert.SumOneIdeal.main_arg0))
      ∧ r.2.sem = fun _ => 0)

def quiescent_SumOneRefIdeal [hSumOneRefIdeal : Cert.SumOneRefIdeal.Facts] : Prop :=
  ∀ (m : (ℓ : Loc Cert.SumOneRefIdeal.nD Cert.SumOneRefIdeal.τ Cert.SumOneRefIdeal.sig) → Buf (Elt Ideal) ℓ) (g : Dev Cert.SumOneRefIdeal.nD → PrngReg), Pre_SumOneRefIdeal m →
    θ_run (Cert.SumOneRefIdeal.defs (F := Ideal)) (onTc (τ := Cert.SumOneRefIdeal.τ) (Cert.SumOneRefIdeal.main (F := Ideal))) ⟨m, fun _ => 0, g⟩ (fun r => (∀ c : Dev Cert.SumOneRefIdeal.nD,
      r.2.mem ((c.tc : Thread Cert.SumOneRefIdeal.nD Cert.SumOneRefIdeal.τ).loc Cert.SumOneRefIdeal.main_arg0) = m ((c.tc : Thread Cert.SumOneRefIdeal.nD Cert.SumOneRefIdeal.τ).loc Cert.SumOneRefIdeal.main_arg0))
      ∧ r.2.sem = fun _ => 0)

def quiescent_SumMix [hSumMix : Cert.SumMix.Facts] : Prop :=
  ∀ (m : (ℓ : Loc Cert.SumMix.nD Cert.SumMix.τ Cert.SumMix.sig) → Buf (Elt Bits) ℓ) (g : Dev Cert.SumMix.nD → PrngReg), Pre_SumMix m →
    θ_run (Cert.SumMix.defs (F := Bits)) (onTc (τ := Cert.SumMix.τ) (Cert.SumMix.main (F := Bits))) ⟨m, fun _ => 0, g⟩ (fun r => (∀ c : Dev Cert.SumMix.nD,
      r.2.mem ((c.tc : Thread Cert.SumMix.nD Cert.SumMix.τ).loc Cert.SumMix.main_arg0) = m ((c.tc : Thread Cert.SumMix.nD Cert.SumMix.τ).loc Cert.SumMix.main_arg0))
      ∧ r.2.sem = fun _ => 0)

def quiescent_SumMixIdeal [hSumMixIdeal : Cert.SumMixIdeal.Facts] : Prop :=
  ∀ (m : (ℓ : Loc Cert.SumMixIdeal.nD Cert.SumMixIdeal.τ Cert.SumMixIdeal.sig) → Buf (Elt Ideal) ℓ) (g : Dev Cert.SumMixIdeal.nD → PrngReg), Pre_SumMixIdeal m →
    θ_run (Cert.SumMixIdeal.defs (F := Ideal)) (onTc (τ := Cert.SumMixIdeal.τ) (Cert.SumMixIdeal.main (F := Ideal))) ⟨m, fun _ => 0, g⟩ (fun r => (∀ c : Dev Cert.SumMixIdeal.nD,
      r.2.mem ((c.tc : Thread Cert.SumMixIdeal.nD Cert.SumMixIdeal.τ).loc Cert.SumMixIdeal.main_arg0) = m ((c.tc : Thread Cert.SumMixIdeal.nD Cert.SumMixIdeal.τ).loc Cert.SumMixIdeal.main_arg0))
      ∧ r.2.sem = fun _ => 0)

def quiescent_SumMixRefIdeal [hSumMixRefIdeal : Cert.SumMixRefIdeal.Facts] : Prop :=
  ∀ (m : (ℓ : Loc Cert.SumMixRefIdeal.nD Cert.SumMixRefIdeal.τ Cert.SumMixRefIdeal.sig) → Buf (Elt Ideal) ℓ) (g : Dev Cert.SumMixRefIdeal.nD → PrngReg), Pre_SumMixRefIdeal m →
    θ_run (Cert.SumMixRefIdeal.defs (F := Ideal)) (onTc (τ := Cert.SumMixRefIdeal.τ) (Cert.SumMixRefIdeal.main (F := Ideal))) ⟨m, fun _ => 0, g⟩ (fun r => (∀ c : Dev Cert.SumMixRefIdeal.nD,
      r.2.mem ((c.tc : Thread Cert.SumMixRefIdeal.nD Cert.SumMixRefIdeal.τ).loc Cert.SumMixRefIdeal.main_arg0) = m ((c.tc : Thread Cert.SumMixRefIdeal.nD Cert.SumMixRefIdeal.τ).loc Cert.SumMixRefIdeal.main_arg0))
      ∧ r.2.sem = fun _ => 0)

def quiescent_SumMixN [hSumMixN : Cert.SumMixN.Facts] : Prop :=
  ∀ (m : (ℓ : Loc Cert.SumMixN.nD Cert.SumMixN.τ Cert.SumMixN.sig) → Buf (Elt Bits) ℓ) (g : Dev Cert.SumMixN.nD → PrngReg), Pre_SumMixN m →
    θ_run (Cert.SumMixN.defs (F := Bits)) (onTc (τ := Cert.SumMixN.τ) (Cert.SumMixN.main (F := Bits))) ⟨m, fun _ => 0, g⟩ (fun r => (∀ c : Dev Cert.SumMixN.nD,
      r.2.mem ((c.tc : Thread Cert.SumMixN.nD Cert.SumMixN.τ).loc Cert.SumMixN.main_arg0) = m ((c.tc : Thread Cert.SumMixN.nD Cert.SumMixN.τ).loc Cert.SumMixN.main_arg0))
      ∧ r.2.sem = fun _ => 0)

def quiescent_SumMixNIdeal [hSumMixNIdeal : Cert.SumMixNIdeal.Facts] : Prop :=
  ∀ (m : (ℓ : Loc Cert.SumMixNIdeal.nD Cert.SumMixNIdeal.τ Cert.SumMixNIdeal.sig) → Buf (Elt Ideal) ℓ) (g : Dev Cert.SumMixNIdeal.nD → PrngReg), Pre_SumMixNIdeal m →
    θ_run (Cert.SumMixNIdeal.defs (F := Ideal)) (onTc (τ := Cert.SumMixNIdeal.τ) (Cert.SumMixNIdeal.main (F := Ideal))) ⟨m, fun _ => 0, g⟩ (fun r => (∀ c : Dev Cert.SumMixNIdeal.nD,
      r.2.mem ((c.tc : Thread Cert.SumMixNIdeal.nD Cert.SumMixNIdeal.τ).loc Cert.SumMixNIdeal.main_arg0) = m ((c.tc : Thread Cert.SumMixNIdeal.nD Cert.SumMixNIdeal.τ).loc Cert.SumMixNIdeal.main_arg0))
      ∧ r.2.sem = fun _ => 0)

def quiescent_SumMixNRefIdeal [hSumMixNRefIdeal : Cert.SumMixNRefIdeal.Facts] : Prop :=
  ∀ (m : (ℓ : Loc Cert.SumMixNRefIdeal.nD Cert.SumMixNRefIdeal.τ Cert.SumMixNRefIdeal.sig) → Buf (Elt Ideal) ℓ) (g : Dev Cert.SumMixNRefIdeal.nD → PrngReg), Pre_SumMixNRefIdeal m →
    θ_run (Cert.SumMixNRefIdeal.defs (F := Ideal)) (onTc (τ := Cert.SumMixNRefIdeal.τ) (Cert.SumMixNRefIdeal.main (F := Ideal))) ⟨m, fun _ => 0, g⟩ (fun r => (∀ c : Dev Cert.SumMixNRefIdeal.nD,
      r.2.mem ((c.tc : Thread Cert.SumMixNRefIdeal.nD Cert.SumMixNRefIdeal.τ).loc Cert.SumMixNRefIdeal.main_arg0) = m ((c.tc : Thread Cert.SumMixNRefIdeal.nD Cert.SumMixNRefIdeal.τ).loc Cert.SumMixNRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumLast [hSumLast : Cert.SumLast.Facts] : Prop :=
  ∀ (m : (ℓ : Loc Cert.SumLast.nD Cert.SumLast.τ Cert.SumLast.sig) → Buf (Elt Bits) ℓ) (g : Dev Cert.SumLast.nD → PrngReg), Pre_SumLast m →
    θ_run (Cert.SumLast.defs (F := Bits)) (onTc (τ := Cert.SumLast.τ) (Cert.SumLast.main (F := Bits))) ⟨m, fun _ => 0, g⟩ (fun r => (∀ c : Dev Cert.SumLast.nD,
      r.2.mem ((c.tc : Thread Cert.SumLast.nD Cert.SumLast.τ).loc Cert.SumLast.main_arg0) = m ((c.tc : Thread Cert.SumLast.nD Cert.SumLast.τ).loc Cert.SumLast.main_arg0))
      ∧ r.2.sem = fun _ => 0)

def quiescent_SumLastIdeal [hSumLastIdeal : Cert.SumLastIdeal.Facts] : Prop :=
  ∀ (m : (ℓ : Loc Cert.SumLastIdeal.nD Cert.SumLastIdeal.τ Cert.SumLastIdeal.sig) → Buf (Elt Ideal) ℓ) (g : Dev Cert.SumLastIdeal.nD → PrngReg), Pre_SumLastIdeal m →
    θ_run (Cert.SumLastIdeal.defs (F := Ideal)) (onTc (τ := Cert.SumLastIdeal.τ) (Cert.SumLastIdeal.main (F := Ideal))) ⟨m, fun _ => 0, g⟩ (fun r => (∀ c : Dev Cert.SumLastIdeal.nD,
      r.2.mem ((c.tc : Thread Cert.SumLastIdeal.nD Cert.SumLastIdeal.τ).loc Cert.SumLastIdeal.main_arg0) = m ((c.tc : Thread Cert.SumLastIdeal.nD Cert.SumLastIdeal.τ).loc Cert.SumLastIdeal.main_arg0))
      ∧ r.2.sem = fun _ => 0)

def quiescent_SumLastRefIdeal [hSumLastRefIdeal : Cert.SumLastRefIdeal.Facts] : Prop :=
  ∀ (m : (ℓ : Loc Cert.SumLastRefIdeal.nD Cert.SumLastRefIdeal.τ Cert.SumLastRefIdeal.sig) → Buf (Elt Ideal) ℓ) (g : Dev Cert.SumLastRefIdeal.nD → PrngReg), Pre_SumLastRefIdeal m →
    θ_run (Cert.SumLastRefIdeal.defs (F := Ideal)) (onTc (τ := Cert.SumLastRefIdeal.τ) (Cert.SumLastRefIdeal.main (F := Ideal))) ⟨m, fun _ => 0, g⟩ (fun r => (∀ c : Dev Cert.SumLastRefIdeal.nD,
      r.2.mem ((c.tc : Thread Cert.SumLastRefIdeal.nD Cert.SumLastRefIdeal.τ).loc Cert.SumLastRefIdeal.main_arg0) = m ((c.tc : Thread Cert.SumLastRefIdeal.nD Cert.SumLastRefIdeal.τ).loc Cert.SumLastRefIdeal.main_arg0))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7)
      ∧ r.2.mem ((c.tc : Thread Cert.MixIn.nD Cert.MixIn.τ).loc Cert.MixIn.main_arg8) = m ((c.tc : Thread Cert.MixIn.nD Cert.MixIn.τ).loc Cert.MixIn.main_arg8)
      ∧ r.2.mem ((c.tc : Thread Cert.MixIn.nD Cert.MixIn.τ).loc Cert.MixIn.main_arg9) = m ((c.tc : Thread Cert.MixIn.nD Cert.MixIn.τ).loc Cert.MixIn.main_arg9)
      ∧ r.2.mem ((c.tc : Thread Cert.MixIn.nD Cert.MixIn.τ).loc Cert.MixIn.main_arg10) = m ((c.tc : Thread Cert.MixIn.nD Cert.MixIn.τ).loc Cert.MixIn.main_arg10)
      ∧ r.2.mem ((c.tc : Thread Cert.MixIn.nD Cert.MixIn.τ).loc Cert.MixIn.main_arg11) = m ((c.tc : Thread Cert.MixIn.nD Cert.MixIn.τ).loc Cert.MixIn.main_arg11))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
      ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
      ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
      ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10)
      ∧ r.2.mem ((c.tc : Thread Cert.MixInIdeal.nD Cert.MixInIdeal.τ).loc Cert.MixInIdeal.main_arg11) = m ((c.tc : Thread Cert.MixInIdeal.nD Cert.MixInIdeal.τ).loc Cert.MixInIdeal.main_arg11))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7)
      ∧ r.2.mem ((c.tc : Thread Cert.MixInRefIdeal.nD Cert.MixInRefIdeal.τ).loc Cert.MixInRefIdeal.main_arg8) = m ((c.tc : Thread Cert.MixInRefIdeal.nD Cert.MixInRefIdeal.τ).loc Cert.MixInRefIdeal.main_arg8)
      ∧ r.2.mem ((c.tc : Thread Cert.MixInRefIdeal.nD Cert.MixInRefIdeal.τ).loc Cert.MixInRefIdeal.main_arg9) = m ((c.tc : Thread Cert.MixInRefIdeal.nD Cert.MixInRefIdeal.τ).loc Cert.MixInRefIdeal.main_arg9)
      ∧ r.2.mem ((c.tc : Thread Cert.MixInRefIdeal.nD Cert.MixInRefIdeal.τ).loc Cert.MixInRefIdeal.main_arg10) = m ((c.tc : Thread Cert.MixInRefIdeal.nD Cert.MixInRefIdeal.τ).loc Cert.MixInRefIdeal.main_arg10)
      ∧ r.2.mem ((c.tc : Thread Cert.MixInRefIdeal.nD Cert.MixInRefIdeal.τ).loc Cert.MixInRefIdeal.main_arg11) = m ((c.tc : Thread Cert.MixInRefIdeal.nD Cert.MixInRefIdeal.τ).loc Cert.MixInRefIdeal.main_arg11))
      ∧ r.2.sem = fun _ => 0)

def preserves_FfnIn_FfnInIdeal : Prop :=
  True

def algebraic_FfnInIdeal_FfnInRefIdeal_pre_ffn_finite [hFfnInIdeal : Cert.FfnInIdeal.Facts] [hFfnInRefIdeal : Cert.FfnInRefIdeal.Facts] [hPre_ffn_finite : Cert.Pre_ffn_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_ffn_finite m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)) →
    ∃ (v0 : (c : Dev Cert.FfnInIdeal.nD) → Buf (Elt Ideal) ((c.tc : Thread Cert.FfnInIdeal.nD Cert.FfnInIdeal.τ).loc Cert.FfnInIdeal.main_v26_0)) (v1 : (c : Dev Cert.FfnInIdeal.nD) → Buf (Elt Ideal) ((c.tc : Thread Cert.FfnInIdeal.nD Cert.FfnInIdeal.τ).loc Cert.FfnInIdeal.main_v26_1)) (v2 : (c : Dev Cert.FfnInIdeal.nD) → Buf (Elt Ideal) ((c.tc : Thread Cert.FfnInIdeal.nD Cert.FfnInIdeal.τ).loc Cert.FfnInIdeal.main_v26_2)) (v3 : (c : Dev Cert.FfnInIdeal.nD) → Buf (Elt Ideal) ((c.tc : Thread Cert.FfnInIdeal.nD Cert.FfnInIdeal.τ).loc Cert.FfnInIdeal.main_v26_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v26_0) = v0 c
          ∧ r.2.mem ((c.tc : Thread Cert.FfnInIdeal.nD Cert.FfnInIdeal.τ).loc Cert.FfnInIdeal.main_v26_1) = v1 c
          ∧ r.2.mem ((c.tc : Thread Cert.FfnInIdeal.nD Cert.FfnInIdeal.τ).loc Cert.FfnInIdeal.main_v26_2) = v2 c
          ∧ r.2.mem ((c.tc : Thread Cert.FfnInIdeal.nD Cert.FfnInIdeal.τ).loc Cert.FfnInIdeal.main_v26_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v45) = v0 c
          ∧ r.2.mem ((c.tc : Thread Cert.FfnInRefIdeal.nD Cert.FfnInRefIdeal.τ).loc Cert.FfnInRefIdeal.main_v47) = v1 c
          ∧ r.2.mem ((c.tc : Thread Cert.FfnInRefIdeal.nD Cert.FfnInRefIdeal.τ).loc Cert.FfnInRefIdeal.main_v49) = v2 c
          ∧ r.2.mem ((c.tc : Thread Cert.FfnInRefIdeal.nD Cert.FfnInRefIdeal.τ).loc Cert.FfnInRefIdeal.main_v27) = v3 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)) →
    ∃ (v0 : (c : Dev Cert.FfnActIdeal.nD) → Buf (Elt Ideal) ((c.tc : Thread Cert.FfnActIdeal.nD Cert.FfnActIdeal.τ).loc Cert.FfnActIdeal.main_v2_0)) (v1 : (c : Dev Cert.FfnActIdeal.nD) → Buf (Elt Ideal) ((c.tc : Thread Cert.FfnActIdeal.nD Cert.FfnActIdeal.τ).loc Cert.FfnActIdeal.main_v2_1)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v2_0) = v0 c
          ∧ r.2.mem ((c.tc : Thread Cert.FfnActIdeal.nD Cert.FfnActIdeal.τ).loc Cert.FfnActIdeal.main_v2_1) = v1 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v7) = v0 c
          ∧ r.2.mem ((c.tc : Thread Cert.FfnActRefIdeal.nD Cert.FfnActRefIdeal.τ).loc Cert.FfnActRefIdeal.main_v9) = v1 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2))

def preserves_FfnDw_FfnDwIdeal : Prop :=
  True

def algebraic_FfnDwIdeal_FfnDwRefIdeal [hFfnDwIdeal : Cert.FfnDwIdeal.Facts] [hFfnDwRefIdeal : Cert.FfnDwRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.FfnDwRefIdeal.nD Cert.FfnDwRefIdeal.τ Cert.FfnDwRefIdeal.sig) → Buf (Elt Ideal) ℓ) (g' : Dev Cert.FfnDwRefIdeal.nD → PrngReg), Pre_FfnDwIdeal m →
    (∀ c : Dev Cert.FfnDwIdeal.nD,
      m' ((c.tc : Thread Cert.FfnDwRefIdeal.nD Cert.FfnDwRefIdeal.τ).loc Cert.FfnDwRefIdeal.main_arg0) = m ((c.tc : Thread Cert.FfnDwIdeal.nD Cert.FfnDwIdeal.τ).loc Cert.FfnDwIdeal.main_arg0)
      ∧ m' ((c.tc : Thread Cert.FfnDwRefIdeal.nD Cert.FfnDwRefIdeal.τ).loc Cert.FfnDwRefIdeal.main_arg1) = m ((c.tc : Thread Cert.FfnDwIdeal.nD Cert.FfnDwIdeal.τ).loc Cert.FfnDwIdeal.main_arg1)
      ∧ m' ((c.tc : Thread Cert.FfnDwRefIdeal.nD Cert.FfnDwRefIdeal.τ).loc Cert.FfnDwRefIdeal.main_arg2) = m ((c.tc : Thread Cert.FfnDwIdeal.nD Cert.FfnDwIdeal.τ).loc Cert.FfnDwIdeal.main_arg2)) →
    ∃ (v0 : (c : Dev Cert.FfnDwIdeal.nD) → Buf (Elt Ideal) ((c.tc : Thread Cert.FfnDwIdeal.nD Cert.FfnDwIdeal.τ).loc Cert.FfnDwIdeal.main_v4)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v4) = v0 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1)
          ∧ r.2.mem ((c.tc : Thread Cert.FfnDwIdeal.nD Cert.FfnDwIdeal.τ).loc Cert.FfnDwIdeal.main_arg2) = m ((c.tc : Thread Cert.FfnDwIdeal.nD Cert.FfnDwIdeal.τ).loc Cert.FfnDwIdeal.main_arg2))
      ∧ θ_run (Cert.FfnDwRefIdeal.defs (F := Ideal)) (onTc (τ := Cert.FfnDwRefIdeal.τ) (Cert.FfnDwRefIdeal.main (F := Ideal))) ⟨m', fun _ => 0, g'⟩ (fun r => ∀ c : Dev Cert.FfnDwRefIdeal.nD,
          r.2.mem ((c.tc : Thread Cert.FfnDwRefIdeal.nD Cert.FfnDwRefIdeal.τ).loc Cert.FfnDwRefIdeal.main_v3) = v0 c
          ∧ r.2.mem ((c.tc : Thread Cert.FfnDwRefIdeal.nD Cert.FfnDwRefIdeal.τ).loc Cert.FfnDwRefIdeal.main_arg0) = m' ((c.tc : Thread Cert.FfnDwRefIdeal.nD Cert.FfnDwRefIdeal.τ).loc Cert.FfnDwRefIdeal.main_arg0)
          ∧ r.2.mem ((c.tc : Thread Cert.FfnDwRefIdeal.nD Cert.FfnDwRefIdeal.τ).loc Cert.FfnDwRefIdeal.main_arg1) = m' ((c.tc : Thread Cert.FfnDwRefIdeal.nD Cert.FfnDwRefIdeal.τ).loc Cert.FfnDwRefIdeal.main_arg1)
          ∧ r.2.mem ((c.tc : Thread Cert.FfnDwRefIdeal.nD Cert.FfnDwRefIdeal.τ).loc Cert.FfnDwRefIdeal.main_arg2) = m' ((c.tc : Thread Cert.FfnDwRefIdeal.nD Cert.FfnDwRefIdeal.τ).loc Cert.FfnDwRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v5_0)) (v1 : (c : Dev Cert.FfnUpIdeal.nD) → Buf (Elt Ideal) ((c.tc : Thread Cert.FfnUpIdeal.nD Cert.FfnUpIdeal.τ).loc Cert.FfnUpIdeal.main_v5_1)) (v2 : (c : Dev Cert.FfnUpIdeal.nD) → Buf (Elt Ideal) ((c.tc : Thread Cert.FfnUpIdeal.nD Cert.FfnUpIdeal.τ).loc Cert.FfnUpIdeal.main_v5_2)) (v3 : (c : Dev Cert.FfnUpIdeal.nD) → Buf (Elt Ideal) ((c.tc : Thread Cert.FfnUpIdeal.nD Cert.FfnUpIdeal.τ).loc Cert.FfnUpIdeal.main_v5_3)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v5_0) = v0 c
          ∧ r.2.mem ((c.tc : Thread Cert.FfnUpIdeal.nD Cert.FfnUpIdeal.τ).loc Cert.FfnUpIdeal.main_v5_1) = v1 c
          ∧ r.2.mem ((c.tc : Thread Cert.FfnUpIdeal.nD Cert.FfnUpIdeal.τ).loc Cert.FfnUpIdeal.main_v5_2) = v2 c
          ∧ r.2.mem ((c.tc : Thread Cert.FfnUpIdeal.nD Cert.FfnUpIdeal.τ).loc Cert.FfnUpIdeal.main_v5_3) = v3 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v17) = v0 c
          ∧ r.2.mem ((c.tc : Thread Cert.FfnUpRefIdeal.nD Cert.FfnUpRefIdeal.τ).loc Cert.FfnUpRefIdeal.main_v19) = v1 c
          ∧ r.2.mem ((c.tc : Thread Cert.FfnUpRefIdeal.nD Cert.FfnUpRefIdeal.τ).loc Cert.FfnUpRefIdeal.main_v21) = v2 c
          ∧ r.2.mem ((c.tc : Thread Cert.FfnUpRefIdeal.nD Cert.FfnUpRefIdeal.τ).loc Cert.FfnUpRefIdeal.main_v23) = v3 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v4)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v4) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_MixProj_MixProjIdeal : Prop :=
  True

def algebraic_MixProjIdeal_MixProjRefIdeal [hMixProjIdeal : Cert.MixProjIdeal.Facts] [hMixProjRefIdeal : Cert.MixProjRefIdeal.Facts] : Prop :=
  ∀ (m : (ℓ : Loc Cert.MixProjIdeal.nD Cert.MixProjIdeal.τ Cert.MixProjIdeal.sig) → Buf (Elt Ideal) ℓ) (g : Dev Cert.MixProjIdeal.nD → PrngReg)
    (m' : (ℓ : Loc Cert.MixProjRefIdeal.nD Cert.MixProjRefIdeal.τ Cert.MixProjRefIdeal.sig) → Buf (Elt Ideal) ℓ) (g' : Dev Cert.MixProjRefIdeal.nD → PrngReg), Pre_MixProjIdeal m →
    (∀ c : Dev Cert.MixProjIdeal.nD,
      m' ((c.tc : Thread Cert.MixProjRefIdeal.nD Cert.MixProjRefIdeal.τ).loc Cert.MixProjRefIdeal.main_arg0) = m ((c.tc : Thread Cert.MixProjIdeal.nD Cert.MixProjIdeal.τ).loc Cert.MixProjIdeal.main_arg0)
      ∧ m' ((c.tc : Thread Cert.MixProjRefIdeal.nD Cert.MixProjRefIdeal.τ).loc Cert.MixProjRefIdeal.main_arg1) = m ((c.tc : Thread Cert.MixProjIdeal.nD Cert.MixProjIdeal.τ).loc Cert.MixProjIdeal.main_arg1)
      ∧ m' ((c.tc : Thread Cert.MixProjRefIdeal.nD Cert.MixProjRefIdeal.τ).loc Cert.MixProjRefIdeal.main_arg2) = m ((c.tc : Thread Cert.MixProjIdeal.nD Cert.MixProjIdeal.τ).loc Cert.MixProjIdeal.main_arg2)) →
    ∃ (v0 : (c : Dev Cert.MixProjIdeal.nD) → Buf (Elt Ideal) ((c.tc : Thread Cert.MixProjIdeal.nD Cert.MixProjIdeal.τ).loc Cert.MixProjIdeal.main_v3_0)) (v1 : (c : Dev Cert.MixProjIdeal.nD) → Buf (Elt Ideal) ((c.tc : Thread Cert.MixProjIdeal.nD Cert.MixProjIdeal.τ).loc Cert.MixProjIdeal.main_v3_1)) (v2 : (c : Dev Cert.MixProjIdeal.nD) → Buf (Elt Ideal) ((c.tc : Thread Cert.MixProjIdeal.nD Cert.MixProjIdeal.τ).loc Cert.MixProjIdeal.main_v3_2)) (v3 : (c : Dev Cert.MixProjIdeal.nD) → Buf (Elt Ideal) ((c.tc : Thread Cert.MixProjIdeal.nD Cert.MixProjIdeal.τ).loc Cert.MixProjIdeal.main_v3_3)) (v4 : (c : Dev Cert.MixProjIdeal.nD) → Buf (Elt Ideal) ((c.tc : Thread Cert.MixProjIdeal.nD Cert.MixProjIdeal.τ).loc Cert.MixProjIdeal.main_v3_4)) (v5 : (c : Dev Cert.MixProjIdeal.nD) → Buf (Elt Ideal) ((c.tc : Thread Cert.MixProjIdeal.nD Cert.MixProjIdeal.τ).loc Cert.MixProjIdeal.main_v3_5)) (v6 : (c : Dev Cert.MixProjIdeal.nD) → Buf (Elt Ideal) ((c.tc : Thread Cert.MixProjIdeal.nD Cert.MixProjIdeal.τ).loc Cert.MixProjIdeal.main_v3_6)),
      θ_run (Cert.MixProjIdeal.defs (F := Ideal)) (onTc (τ := Cert.MixProjIdeal.τ) (Cert.MixProjIdeal.main (F := Ideal))) ⟨m, fun _ => 0, g⟩ (fun r => ∀ c : Dev Cert.MixProjIdeal.nD,
          r.2.mem ((c.tc : Thread Cert.MixProjIdeal.nD Cert.MixProjIdeal.τ).loc Cert.MixProjIdeal.main_v3_0) = v0 c
          ∧ r.2.mem ((c.tc : Thread Cert.MixProjIdeal.nD Cert.MixProjIdeal.τ).loc Cert.MixProjIdeal.main_v3_1) = v1 c
          ∧ r.2.mem ((c.tc : Thread Cert.MixProjIdeal.nD Cert.MixProjIdeal.τ).loc Cert.MixProjIdeal.main_v3_2) = v2 c
          ∧ r.2.mem ((c.tc : Thread Cert.MixProjIdeal.nD Cert.MixProjIdeal.τ).loc Cert.MixProjIdeal.main_v3_3) = v3 c
          ∧ r.2.mem ((c.tc : Thread Cert.MixProjIdeal.nD Cert.MixProjIdeal.τ).loc Cert.MixProjIdeal.main_v3_4) = v4 c
          ∧ r.2.mem ((c.tc : Thread Cert.MixProjIdeal.nD Cert.MixProjIdeal.τ).loc Cert.MixProjIdeal.main_v3_5) = v5 c
          ∧ r.2.mem ((c.tc : Thread Cert.MixProjIdeal.nD Cert.MixProjIdeal.τ).loc Cert.MixProjIdeal.main_v3_6) = v6 c
          ∧ r.2.mem ((c.tc : Thread Cert.MixProjIdeal.nD Cert.MixProjIdeal.τ).loc Cert.MixProjIdeal.main_arg0) = m ((c.tc : Thread Cert.MixProjIdeal.nD Cert.MixProjIdeal.τ).loc Cert.MixProjIdeal.main_arg0)
          ∧ r.2.mem ((c.tc : Thread Cert.MixProjIdeal.nD Cert.MixProjIdeal.τ).loc Cert.MixProjIdeal.main_arg1) = m ((c.tc : Thread Cert.MixProjIdeal.nD Cert.MixProjIdeal.τ).loc Cert.MixProjIdeal.main_arg1)
          ∧ r.2.mem ((c.tc : Thread Cert.MixProjIdeal.nD Cert.MixProjIdeal.τ).loc Cert.MixProjIdeal.main_arg2) = m ((c.tc : Thread Cert.MixProjIdeal.nD Cert.MixProjIdeal.τ).loc Cert.MixProjIdeal.main_arg2))
      ∧ θ_run (Cert.MixProjRefIdeal.defs (F := Ideal)) (onTc (τ := Cert.MixProjRefIdeal.τ) (Cert.MixProjRefIdeal.main (F := Ideal))) ⟨m', fun _ => 0, g'⟩ (fun r => ∀ c : Dev Cert.MixProjRefIdeal.nD,
          r.2.mem ((c.tc : Thread Cert.MixProjRefIdeal.nD Cert.MixProjRefIdeal.τ).loc Cert.MixProjRefIdeal.main_v20) = v0 c
          ∧ r.2.mem ((c.tc : Thread Cert.MixProjRefIdeal.nD Cert.MixProjRefIdeal.τ).loc Cert.MixProjRefIdeal.main_v24) = v1 c
          ∧ r.2.mem ((c.tc : Thread Cert.MixProjRefIdeal.nD Cert.MixProjRefIdeal.τ).loc Cert.MixProjRefIdeal.main_v26) = v2 c
          ∧ r.2.mem ((c.tc : Thread Cert.MixProjRefIdeal.nD Cert.MixProjRefIdeal.τ).loc Cert.MixProjRefIdeal.main_v28) = v3 c
          ∧ r.2.mem ((c.tc : Thread Cert.MixProjRefIdeal.nD Cert.MixProjRefIdeal.τ).loc Cert.MixProjRefIdeal.main_v29) = v4 c
          ∧ r.2.mem ((c.tc : Thread Cert.MixProjRefIdeal.nD Cert.MixProjRefIdeal.τ).loc Cert.MixProjRefIdeal.main_v31) = v5 c
          ∧ r.2.mem ((c.tc : Thread Cert.MixProjRefIdeal.nD Cert.MixProjRefIdeal.τ).loc Cert.MixProjRefIdeal.main_v33) = v6 c
          ∧ r.2.mem ((c.tc : Thread Cert.MixProjRefIdeal.nD Cert.MixProjRefIdeal.τ).loc Cert.MixProjRefIdeal.main_arg0) = m' ((c.tc : Thread Cert.MixProjRefIdeal.nD Cert.MixProjRefIdeal.τ).loc Cert.MixProjRefIdeal.main_arg0)
          ∧ r.2.mem ((c.tc : Thread Cert.MixProjRefIdeal.nD Cert.MixProjRefIdeal.τ).loc Cert.MixProjRefIdeal.main_arg1) = m' ((c.tc : Thread Cert.MixProjRefIdeal.nD Cert.MixProjRefIdeal.τ).loc Cert.MixProjRefIdeal.main_arg1)
          ∧ r.2.mem ((c.tc : Thread Cert.MixProjRefIdeal.nD Cert.MixProjRefIdeal.τ).loc Cert.MixProjRefIdeal.main_arg2) = m' ((c.tc : Thread Cert.MixProjRefIdeal.nD Cert.MixProjRefIdeal.τ).loc Cert.MixProjRefIdeal.main_arg2))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)
      ∧ m' ((c.tc : Thread Cert.MixDwRefIdeal.nD Cert.MixDwRefIdeal.τ).loc Cert.MixDwRefIdeal.main_arg2) = m ((c.tc : Thread Cert.MixDwIdeal.nD Cert.MixDwIdeal.τ).loc Cert.MixDwIdeal.main_arg2)) →
    ∃ (v0 : (c : Dev Cert.MixDwIdeal.nD) → Buf (Elt Ideal) ((c.tc : Thread Cert.MixDwIdeal.nD Cert.MixDwIdeal.τ).loc Cert.MixDwIdeal.main_v4)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v4) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
          ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v3) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1)
          ∧ r.2.mem ((c.tc : Thread Cert.MixDwRefIdeal.nD Cert.MixDwRefIdeal.τ).loc Cert.MixDwRefIdeal.main_arg2) = m' ((c.tc : Thread Cert.MixDwRefIdeal.nD Cert.MixDwRefIdeal.τ).loc Cert.MixDwRefIdeal.main_arg2))

def preserves_AdMeta_AdMetaIdeal : Prop :=
  True

def algebraic_AdMetaIdeal_AdMetaRefIdeal [hAdMetaIdeal : Cert.AdMetaIdeal.Facts] [hAdMetaRefIdeal : Cert.AdMetaRefIdeal.Facts] : Prop :=
  ∀ (m : (ℓ : Loc Cert.AdMetaIdeal.nD Cert.AdMetaIdeal.τ Cert.AdMetaIdeal.sig) → Buf (Elt Ideal) ℓ) (g : Dev Cert.AdMetaIdeal.nD → PrngReg)
    (m' : (ℓ : Loc Cert.AdMetaRefIdeal.nD Cert.AdMetaRefIdeal.τ Cert.AdMetaRefIdeal.sig) → Buf (Elt Ideal) ℓ) (g' : Dev Cert.AdMetaRefIdeal.nD → PrngReg), Pre_AdMetaIdeal m →
    (∀ c : Dev Cert.AdMetaIdeal.nD,
      m' ((c.tc : Thread Cert.AdMetaRefIdeal.nD Cert.AdMetaRefIdeal.τ).loc Cert.AdMetaRefIdeal.main_arg0) = m ((c.tc : Thread Cert.AdMetaIdeal.nD Cert.AdMetaIdeal.τ).loc Cert.AdMetaIdeal.main_arg0)
      ∧ m' ((c.tc : Thread Cert.AdMetaRefIdeal.nD Cert.AdMetaRefIdeal.τ).loc Cert.AdMetaRefIdeal.main_arg1) = m ((c.tc : Thread Cert.AdMetaIdeal.nD Cert.AdMetaIdeal.τ).loc Cert.AdMetaIdeal.main_arg1)
      ∧ m' ((c.tc : Thread Cert.AdMetaRefIdeal.nD Cert.AdMetaRefIdeal.τ).loc Cert.AdMetaRefIdeal.main_arg2) = m ((c.tc : Thread Cert.AdMetaIdeal.nD Cert.AdMetaIdeal.τ).loc Cert.AdMetaIdeal.main_arg2)
      ∧ m' ((c.tc : Thread Cert.AdMetaRefIdeal.nD Cert.AdMetaRefIdeal.τ).loc Cert.AdMetaRefIdeal.main_arg3) = m ((c.tc : Thread Cert.AdMetaIdeal.nD Cert.AdMetaIdeal.τ).loc Cert.AdMetaIdeal.main_arg3)) →
    ∃ (v0 : (c : Dev Cert.AdMetaIdeal.nD) → Buf (Elt Ideal) ((c.tc : Thread Cert.AdMetaIdeal.nD Cert.AdMetaIdeal.τ).loc Cert.AdMetaIdeal.main_v0_0)) (v1 : (c : Dev Cert.AdMetaIdeal.nD) → Buf (Elt Ideal) ((c.tc : Thread Cert.AdMetaIdeal.nD Cert.AdMetaIdeal.τ).loc Cert.AdMetaIdeal.main_v0_1)) (v2 : (c : Dev Cert.AdMetaIdeal.nD) → Buf (Elt Ideal) ((c.tc : Thread Cert.AdMetaIdeal.nD Cert.AdMetaIdeal.τ).loc Cert.AdMetaIdeal.main_v0_2)),
      θ_run (Cert.AdMetaIdeal.defs (F := Ideal)) (onTc (τ := Cert.AdMetaIdeal.τ) (Cert.AdMetaIdeal.main (F := Ideal))) ⟨m, fun _ => 0, g⟩ (fun r => ∀ c : Dev Cert.AdMetaIdeal.nD,
          r.2.mem ((c.tc : Thread Cert.AdMetaIdeal.nD Cert.AdMetaIdeal.τ).loc Cert.AdMetaIdeal.main_v0_0) = v0 c
          ∧ r.2.mem ((c.tc : Thread Cert.AdMetaIdeal.nD Cert.AdMetaIdeal.τ).loc Cert.AdMetaIdeal.main_v0_1) = v1 c
          ∧ r.2.mem ((c.tc : Thread Cert.AdMetaIdeal.nD Cert.AdMetaIdeal.τ).loc Cert.AdMetaIdeal.main_v0_2) = v2 c
          ∧ r.2.mem ((c.tc : Thread Cert.AdMetaIdeal.nD Cert.AdMetaIdeal.τ).loc Cert.AdMetaIdeal.main_arg0) = m ((c.tc : Thread Cert.AdMetaIdeal.nD Cert.AdMetaIdeal.τ).loc Cert.AdMetaIdeal.main_arg0)
          ∧ r.2.mem ((c.tc : Thread Cert.AdMetaIdeal.nD Cert.AdMetaIdeal.τ).loc Cert.AdMetaIdeal.main_arg1) = m ((c.tc : Thread Cert.AdMetaIdeal.nD Cert.AdMetaIdeal.τ).loc Cert.AdMetaIdeal.main_arg1)
          ∧ r.2.mem ((c.tc : Thread Cert.AdMetaIdeal.nD Cert.AdMetaIdeal.τ).loc Cert.AdMetaIdeal.main_arg2) = m ((c.tc : Thread Cert.AdMetaIdeal.nD Cert.AdMetaIdeal.τ).loc Cert.AdMetaIdeal.main_arg2)
          ∧ r.2.mem ((c.tc : Thread Cert.AdMetaIdeal.nD Cert.AdMetaIdeal.τ).loc Cert.AdMetaIdeal.main_arg3) = m ((c.tc : Thread Cert.AdMetaIdeal.nD Cert.AdMetaIdeal.τ).loc Cert.AdMetaIdeal.main_arg3))
      ∧ θ_run (Cert.AdMetaRefIdeal.defs (F := Ideal)) (onTc (τ := Cert.AdMetaRefIdeal.τ) (Cert.AdMetaRefIdeal.main (F := Ideal))) ⟨m', fun _ => 0, g'⟩ (fun r => ∀ c : Dev Cert.AdMetaRefIdeal.nD,
          r.2.mem ((c.tc : Thread Cert.AdMetaRefIdeal.nD Cert.AdMetaRefIdeal.τ).loc Cert.AdMetaRefIdeal.main_v23) = v0 c
          ∧ r.2.mem ((c.tc : Thread Cert.AdMetaRefIdeal.nD Cert.AdMetaRefIdeal.τ).loc Cert.AdMetaRefIdeal.main_v4) = v1 c
          ∧ r.2.mem ((c.tc : Thread Cert.AdMetaRefIdeal.nD Cert.AdMetaRefIdeal.τ).loc Cert.AdMetaRefIdeal.main_v10) = v2 c
          ∧ r.2.mem ((c.tc : Thread Cert.AdMetaRefIdeal.nD Cert.AdMetaRefIdeal.τ).loc Cert.AdMetaRefIdeal.main_arg0) = m' ((c.tc : Thread Cert.AdMetaRefIdeal.nD Cert.AdMetaRefIdeal.τ).loc Cert.AdMetaRefIdeal.main_arg0)
          ∧ r.2.mem ((c.tc : Thread Cert.AdMetaRefIdeal.nD Cert.AdMetaRefIdeal.τ).loc Cert.AdMetaRefIdeal.main_arg1) = m' ((c.tc : Thread Cert.AdMetaRefIdeal.nD Cert.AdMetaRefIdeal.τ).loc Cert.AdMetaRefIdeal.main_arg1)
          ∧ r.2.mem ((c.tc : Thread Cert.AdMetaRefIdeal.nD Cert.AdMetaRefIdeal.τ).loc Cert.AdMetaRefIdeal.main_arg2) = m' ((c.tc : Thread Cert.AdMetaRefIdeal.nD Cert.AdMetaRefIdeal.τ).loc Cert.AdMetaRefIdeal.main_arg2)
          ∧ r.2.mem ((c.tc : Thread Cert.AdMetaRefIdeal.nD Cert.AdMetaRefIdeal.τ).loc Cert.AdMetaRefIdeal.main_arg3) = m' ((c.tc : Thread Cert.AdMetaRefIdeal.nD Cert.AdMetaRefIdeal.τ).loc Cert.AdMetaRefIdeal.main_arg3))

def preserves_AdNorm_AdNormIdeal : Prop :=
  True

def algebraic_AdNormIdeal_AdNormRefIdeal [hAdNormIdeal : Cert.AdNormIdeal.Facts] [hAdNormRefIdeal : Cert.AdNormRefIdeal.Facts] : Prop :=
  ∀ (m : (ℓ : Loc Cert.AdNormIdeal.nD Cert.AdNormIdeal.τ Cert.AdNormIdeal.sig) → Buf (Elt Ideal) ℓ) (g : Dev Cert.AdNormIdeal.nD → PrngReg)
    (m' : (ℓ : Loc Cert.AdNormRefIdeal.nD Cert.AdNormRefIdeal.τ Cert.AdNormRefIdeal.sig) → Buf (Elt Ideal) ℓ) (g' : Dev Cert.AdNormRefIdeal.nD → PrngReg), Pre_AdNormIdeal m →
    (∀ c : Dev Cert.AdNormIdeal.nD,
      m' ((c.tc : Thread Cert.AdNormRefIdeal.nD Cert.AdNormRefIdeal.τ).loc Cert.AdNormRefIdeal.main_arg0) = m ((c.tc : Thread Cert.AdNormIdeal.nD Cert.AdNormIdeal.τ).loc Cert.AdNormIdeal.main_arg0)
      ∧ m' ((c.tc : Thread Cert.AdNormRefIdeal.nD Cert.AdNormRefIdeal.τ).loc Cert.AdNormRefIdeal.main_arg1) = m ((c.tc : Thread Cert.AdNormIdeal.nD Cert.AdNormIdeal.τ).loc Cert.AdNormIdeal.main_arg1)
      ∧ m' ((c.tc : Thread Cert.AdNormRefIdeal.nD Cert.AdNormRefIdeal.τ).loc Cert.AdNormRefIdeal.main_arg2) = m ((c.tc : Thread Cert.AdNormIdeal.nD Cert.AdNormIdeal.τ).loc Cert.AdNormIdeal.main_arg2)
      ∧ m' ((c.tc : Thread Cert.AdNormRefIdeal.nD Cert.AdNormRefIdeal.τ).loc Cert.AdNormRefIdeal.main_arg3) = m ((c.tc : Thread Cert.AdNormIdeal.nD Cert.AdNormIdeal.τ).loc Cert.AdNormIdeal.main_arg3)) →
    ∃ (v0 : (c : Dev Cert.AdNormIdeal.nD) → Buf (Elt Ideal) ((c.tc : Thread Cert.AdNormIdeal.nD Cert.AdNormIdeal.τ).loc Cert.AdNormIdeal.main_v0_0)) (v1 : (c : Dev Cert.AdNormIdeal.nD) → Buf (Elt Ideal) ((c.tc : Thread Cert.AdNormIdeal.nD Cert.AdNormIdeal.τ).loc Cert.AdNormIdeal.main_v0_1)) (v2 : (c : Dev Cert.AdNormIdeal.nD) → Buf (Elt Ideal) ((c.tc : Thread Cert.AdNormIdeal.nD Cert.AdNormIdeal.τ).loc Cert.AdNormIdeal.main_v0_2)),
      θ_run (Cert.AdNormIdeal.defs (F := Ideal)) (onTc (τ := Cert.AdNormIdeal.τ) (Cert.AdNormIdeal.main (F := Ideal))) ⟨m, fun _ => 0, g⟩ (fun r => ∀ c : Dev Cert.AdNormIdeal.nD,
          r.2.mem ((c.tc : Thread Cert.AdNormIdeal.nD Cert.AdNormIdeal.τ).loc Cert.AdNormIdeal.main_v0_0) = v0 c
          ∧ r.2.mem ((c.tc : Thread Cert.AdNormIdeal.nD Cert.AdNormIdeal.τ).loc Cert.AdNormIdeal.main_v0_1) = v1 c
          ∧ r.2.mem ((c.tc : Thread Cert.AdNormIdeal.nD Cert.AdNormIdeal.τ).loc Cert.AdNormIdeal.main_v0_2) = v2 c
          ∧ r.2.mem ((c.tc : Thread Cert.AdNormIdeal.nD Cert.AdNormIdeal.τ).loc Cert.AdNormIdeal.main_arg0) = m ((c.tc : Thread Cert.AdNormIdeal.nD Cert.AdNormIdeal.τ).loc Cert.AdNormIdeal.main_arg0)
          ∧ r.2.mem ((c.tc : Thread Cert.AdNormIdeal.nD Cert.AdNormIdeal.τ).loc Cert.AdNormIdeal.main_arg1) = m ((c.tc : Thread Cert.AdNormIdeal.nD Cert.AdNormIdeal.τ).loc Cert.AdNormIdeal.main_arg1)
          ∧ r.2.mem ((c.tc : Thread Cert.AdNormIdeal.nD Cert.AdNormIdeal.τ).loc Cert.AdNormIdeal.main_arg2) = m ((c.tc : Thread Cert.AdNormIdeal.nD Cert.AdNormIdeal.τ).loc Cert.AdNormIdeal.main_arg2)
          ∧ r.2.mem ((c.tc : Thread Cert.AdNormIdeal.nD Cert.AdNormIdeal.τ).loc Cert.AdNormIdeal.main_arg3) = m ((c.tc : Thread Cert.AdNormIdeal.nD Cert.AdNormIdeal.τ).loc Cert.AdNormIdeal.main_arg3))
      ∧ θ_run (Cert.AdNormRefIdeal.defs (F := Ideal)) (onTc (τ := Cert.AdNormRefIdeal.τ) (Cert.AdNormRefIdeal.main (F := Ideal))) ⟨m', fun _ => 0, g'⟩ (fun r => ∀ c : Dev Cert.AdNormRefIdeal.nD,
          r.2.mem ((c.tc : Thread Cert.AdNormRefIdeal.nD Cert.AdNormRefIdeal.τ).loc Cert.AdNormRefIdeal.main_v23) = v0 c
          ∧ r.2.mem ((c.tc : Thread Cert.AdNormRefIdeal.nD Cert.AdNormRefIdeal.τ).loc Cert.AdNormRefIdeal.main_v4) = v1 c
          ∧ r.2.mem ((c.tc : Thread Cert.AdNormRefIdeal.nD Cert.AdNormRefIdeal.τ).loc Cert.AdNormRefIdeal.main_v10) = v2 c
          ∧ r.2.mem ((c.tc : Thread Cert.AdNormRefIdeal.nD Cert.AdNormRefIdeal.τ).loc Cert.AdNormRefIdeal.main_arg0) = m' ((c.tc : Thread Cert.AdNormRefIdeal.nD Cert.AdNormRefIdeal.τ).loc Cert.AdNormRefIdeal.main_arg0)
          ∧ r.2.mem ((c.tc : Thread Cert.AdNormRefIdeal.nD Cert.AdNormRefIdeal.τ).loc Cert.AdNormRefIdeal.main_arg1) = m' ((c.tc : Thread Cert.AdNormRefIdeal.nD Cert.AdNormRefIdeal.τ).loc Cert.AdNormRefIdeal.main_arg1)
          ∧ r.2.mem ((c.tc : Thread Cert.AdNormRefIdeal.nD Cert.AdNormRefIdeal.τ).loc Cert.AdNormRefIdeal.main_arg2) = m' ((c.tc : Thread Cert.AdNormRefIdeal.nD Cert.AdNormRefIdeal.τ).loc Cert.AdNormRefIdeal.main_arg2)
          ∧ r.2.mem ((c.tc : Thread Cert.AdNormRefIdeal.nD Cert.AdNormRefIdeal.τ).loc Cert.AdNormRefIdeal.main_arg3) = m' ((c.tc : Thread Cert.AdNormRefIdeal.nD Cert.AdNormRefIdeal.τ).loc Cert.AdNormRefIdeal.main_arg3))

def preserves_AdUp_AdUpIdeal : Prop :=
  True

def algebraic_AdUpIdeal_AdUpRefIdeal [hAdUpIdeal : Cert.AdUpIdeal.Facts] [hAdUpRefIdeal : Cert.AdUpRefIdeal.Facts] : Prop :=
  ∀ (m : (ℓ : Loc Cert.AdUpIdeal.nD Cert.AdUpIdeal.τ Cert.AdUpIdeal.sig) → Buf (Elt Ideal) ℓ) (g : Dev Cert.AdUpIdeal.nD → PrngReg)
    (m' : (ℓ : Loc Cert.AdUpRefIdeal.nD Cert.AdUpRefIdeal.τ Cert.AdUpRefIdeal.sig) → Buf (Elt Ideal) ℓ) (g' : Dev Cert.AdUpRefIdeal.nD → PrngReg), Pre_AdUpIdeal m →
    (∀ c : Dev Cert.AdUpIdeal.nD,
      m' ((c.tc : Thread Cert.AdUpRefIdeal.nD Cert.AdUpRefIdeal.τ).loc Cert.AdUpRefIdeal.main_arg0) = m ((c.tc : Thread Cert.AdUpIdeal.nD Cert.AdUpIdeal.τ).loc Cert.AdUpIdeal.main_arg0)
      ∧ m' ((c.tc : Thread Cert.AdUpRefIdeal.nD Cert.AdUpRefIdeal.τ).loc Cert.AdUpRefIdeal.main_arg1) = m ((c.tc : Thread Cert.AdUpIdeal.nD Cert.AdUpIdeal.τ).loc Cert.AdUpIdeal.main_arg1)
      ∧ m' ((c.tc : Thread Cert.AdUpRefIdeal.nD Cert.AdUpRefIdeal.τ).loc Cert.AdUpRefIdeal.main_arg2) = m ((c.tc : Thread Cert.AdUpIdeal.nD Cert.AdUpIdeal.τ).loc Cert.AdUpIdeal.main_arg2)
      ∧ m' ((c.tc : Thread Cert.AdUpRefIdeal.nD Cert.AdUpRefIdeal.τ).loc Cert.AdUpRefIdeal.main_arg3) = m ((c.tc : Thread Cert.AdUpIdeal.nD Cert.AdUpIdeal.τ).loc Cert.AdUpIdeal.main_arg3)) →
    ∃ (v0 : (c : Dev Cert.AdUpIdeal.nD) → Buf (Elt Ideal) ((c.tc : Thread Cert.AdUpIdeal.nD Cert.AdUpIdeal.τ).loc Cert.AdUpIdeal.main_v4_0)) (v1 : (c : Dev Cert.AdUpIdeal.nD) → Buf (Elt Ideal) ((c.tc : Thread Cert.AdUpIdeal.nD Cert.AdUpIdeal.τ).loc Cert.AdUpIdeal.main_v4_1)) (v2 : (c : Dev Cert.AdUpIdeal.nD) → Buf (Elt Ideal) ((c.tc : Thread Cert.AdUpIdeal.nD Cert.AdUpIdeal.τ).loc Cert.AdUpIdeal.main_v4_2)),
      θ_run (Cert.AdUpIdeal.defs (F := Ideal)) (onTc (τ := Cert.AdUpIdeal.τ) (Cert.AdUpIdeal.main (F := Ideal))) ⟨m, fun _ => 0, g⟩ (fun r => ∀ c : Dev Cert.AdUpIdeal.nD,
          r.2.mem ((c.tc : Thread Cert.AdUpIdeal.nD Cert.AdUpIdeal.τ).loc Cert.AdUpIdeal.main_v4_0) = v0 c
          ∧ r.2.mem ((c.tc : Thread Cert.AdUpIdeal.nD Cert.AdUpIdeal.τ).loc Cert.AdUpIdeal.main_v4_1) = v1 c
          ∧ r.2.mem ((c.tc : Thread Cert.AdUpIdeal.nD Cert.AdUpIdeal.τ).loc Cert.AdUpIdeal.main_v4_2) = v2 c
          ∧ r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
          ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
          ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
          ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3))
      ∧ θ_run (Cert.AdUpRefIdeal.defs (F := Ideal)) (onTc (τ := Cert.AdUpRefIdeal.τ) (Cert.AdUpRefIdeal.main (F := Ideal))) ⟨m', fun _ => 0, g'⟩ (fun r => ∀ c : Dev Cert.AdUpRefIdeal.nD,
          r.2.mem ((c.tc : Thread Cert.AdUpRefIdeal.nD Cert.AdUpRefIdeal.τ).loc Cert.AdUpRefIdeal.main_v24) = v0 c
          ∧ r.2.mem ((c.tc : Thread Cert.AdUpRefIdeal.nD Cert.AdUpRefIdeal.τ).loc Cert.AdUpRefIdeal.main_v25) = v1 c
          ∧ r.2.mem ((c.tc : Thread Cert.AdUpRefIdeal.nD Cert.AdUpRefIdeal.τ).loc Cert.AdUpRefIdeal.main_v26) = v2 c
          ∧ r.2.mem ((c.tc : Thread Cert.AdUpRefIdeal.nD Cert.AdUpRefIdeal.τ).loc Cert.AdUpRefIdeal.main_arg0) = m' ((c.tc : Thread Cert.AdUpRefIdeal.nD Cert.AdUpRefIdeal.τ).loc Cert.AdUpRefIdeal.main_arg0)
          ∧ r.2.mem ((c.tc : Thread Cert.AdUpRefIdeal.nD Cert.AdUpRefIdeal.τ).loc Cert.AdUpRefIdeal.main_arg1) = m' ((c.tc : Thread Cert.AdUpRefIdeal.nD Cert.AdUpRefIdeal.τ).loc Cert.AdUpRefIdeal.main_arg1)
          ∧ r.2.mem ((c.tc : Thread Cert.AdUpRefIdeal.nD Cert.AdUpRefIdeal.τ).loc Cert.AdUpRefIdeal.main_arg2) = m' ((c.tc : Thread Cert.AdUpRefIdeal.nD Cert.AdUpRefIdeal.τ).loc Cert.AdUpRefIdeal.main_arg2)
          ∧ r.2.mem ((c.tc : Thread Cert.AdUpRefIdeal.nD Cert.AdUpRefIdeal.τ).loc Cert.AdUpRefIdeal.main_arg3) = m' ((c.tc : Thread Cert.AdUpRefIdeal.nD Cert.AdUpRefIdeal.τ).loc Cert.AdUpRefIdeal.main_arg3))

def preserves_AdDown_AdDownIdeal : Prop :=
  True

def algebraic_AdDownIdeal_AdDownRefIdeal [hAdDownIdeal : Cert.AdDownIdeal.Facts] [hAdDownRefIdeal : Cert.AdDownRefIdeal.Facts] : Prop :=
  ∀ (m : (ℓ : Loc Cert.AdDownIdeal.nD Cert.AdDownIdeal.τ Cert.AdDownIdeal.sig) → Buf (Elt Ideal) ℓ) (g : Dev Cert.AdDownIdeal.nD → PrngReg)
    (m' : (ℓ : Loc Cert.AdDownRefIdeal.nD Cert.AdDownRefIdeal.τ Cert.AdDownRefIdeal.sig) → Buf (Elt Ideal) ℓ) (g' : Dev Cert.AdDownRefIdeal.nD → PrngReg), Pre_AdDownIdeal m →
    (∀ c : Dev Cert.AdDownIdeal.nD,
      m' ((c.tc : Thread Cert.AdDownRefIdeal.nD Cert.AdDownRefIdeal.τ).loc Cert.AdDownRefIdeal.main_arg0) = m ((c.tc : Thread Cert.AdDownIdeal.nD Cert.AdDownIdeal.τ).loc Cert.AdDownIdeal.main_arg0)
      ∧ m' ((c.tc : Thread Cert.AdDownRefIdeal.nD Cert.AdDownRefIdeal.τ).loc Cert.AdDownRefIdeal.main_arg1) = m ((c.tc : Thread Cert.AdDownIdeal.nD Cert.AdDownIdeal.τ).loc Cert.AdDownIdeal.main_arg1)
      ∧ m' ((c.tc : Thread Cert.AdDownRefIdeal.nD Cert.AdDownRefIdeal.τ).loc Cert.AdDownRefIdeal.main_arg2) = m ((c.tc : Thread Cert.AdDownIdeal.nD Cert.AdDownIdeal.τ).loc Cert.AdDownIdeal.main_arg2)
      ∧ m' ((c.tc : Thread Cert.AdDownRefIdeal.nD Cert.AdDownRefIdeal.τ).loc Cert.AdDownRefIdeal.main_arg3) = m ((c.tc : Thread Cert.AdDownIdeal.nD Cert.AdDownIdeal.τ).loc Cert.AdDownIdeal.main_arg3)) →
    ∃ (v0 : (c : Dev Cert.AdDownIdeal.nD) → Buf (Elt Ideal) ((c.tc : Thread Cert.AdDownIdeal.nD Cert.AdDownIdeal.τ).loc Cert.AdDownIdeal.main_v4_0)) (v1 : (c : Dev Cert.AdDownIdeal.nD) → Buf (Elt Ideal) ((c.tc : Thread Cert.AdDownIdeal.nD Cert.AdDownIdeal.τ).loc Cert.AdDownIdeal.main_v4_1)) (v2 : (c : Dev Cert.AdDownIdeal.nD) → Buf (Elt Ideal) ((c.tc : Thread Cert.AdDownIdeal.nD Cert.AdDownIdeal.τ).loc Cert.AdDownIdeal.main_v4_2)),
      θ_run (Cert.AdDownIdeal.defs (F := Ideal)) (onTc (τ := Cert.AdDownIdeal.τ) (Cert.AdDownIdeal.main (F := Ideal))) ⟨m, fun _ => 0, g⟩ (fun r => ∀ c : Dev Cert.AdDownIdeal.nD,
          r.2.mem ((c.tc : Thread Cert.AdDownIdeal.nD Cert.AdDownIdeal.τ).loc Cert.AdDownIdeal.main_v4_0) = v0 c
          ∧ r.2.mem ((c.tc : Thread Cert.AdDownIdeal.nD Cert.AdDownIdeal.τ).loc Cert.AdDownIdeal.main_v4_1) = v1 c
          ∧ r.2.mem ((c.tc : Thread Cert.AdDownIdeal.nD Cert.AdDownIdeal.τ).loc Cert.AdDownIdeal.main_v4_2) = v2 c
          ∧ r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
          ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
          ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
          ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ θ_run (Cert.AdDownRefIdeal.defs (F := Ideal)) (onTc (τ := Cert.AdDownRefIdeal.τ) (Cert.AdDownRefIdeal.main (F := Ideal))) ⟨m', fun _ => 0, g'⟩ (fun r => ∀ c : Dev Cert.AdDownRefIdeal.nD,
          r.2.mem ((c.tc : Thread Cert.AdDownRefIdeal.nD Cert.AdDownRefIdeal.τ).loc Cert.AdDownRefIdeal.main_v24) = v0 c
          ∧ r.2.mem ((c.tc : Thread Cert.AdDownRefIdeal.nD Cert.AdDownRefIdeal.τ).loc Cert.AdDownRefIdeal.main_v25) = v1 c
          ∧ r.2.mem ((c.tc : Thread Cert.AdDownRefIdeal.nD Cert.AdDownRefIdeal.τ).loc Cert.AdDownRefIdeal.main_v26) = v2 c
          ∧ r.2.mem ((c.tc : Thread Cert.AdDownRefIdeal.nD Cert.AdDownRefIdeal.τ).loc Cert.AdDownRefIdeal.main_arg0) = m' ((c.tc : Thread Cert.AdDownRefIdeal.nD Cert.AdDownRefIdeal.τ).loc Cert.AdDownRefIdeal.main_arg0)
          ∧ r.2.mem ((c.tc : Thread Cert.AdDownRefIdeal.nD Cert.AdDownRefIdeal.τ).loc Cert.AdDownRefIdeal.main_arg1) = m' ((c.tc : Thread Cert.AdDownRefIdeal.nD Cert.AdDownRefIdeal.τ).loc Cert.AdDownRefIdeal.main_arg1)
          ∧ r.2.mem ((c.tc : Thread Cert.AdDownRefIdeal.nD Cert.AdDownRefIdeal.τ).loc Cert.AdDownRefIdeal.main_arg2) = m' ((c.tc : Thread Cert.AdDownRefIdeal.nD Cert.AdDownRefIdeal.τ).loc Cert.AdDownRefIdeal.main_arg2)
          ∧ r.2.mem ((c.tc : Thread Cert.AdDownRefIdeal.nD Cert.AdDownRefIdeal.τ).loc Cert.AdDownRefIdeal.main_arg3) = m' ((c.tc : Thread Cert.AdDownRefIdeal.nD Cert.AdDownRefIdeal.τ).loc Cert.AdDownRefIdeal.main_arg3))

def preserves_AdWin_AdWinIdeal : Prop :=
  True

def algebraic_AdWinIdeal_AdWinRefIdeal [hAdWinIdeal : Cert.AdWinIdeal.Facts] [hAdWinRefIdeal : Cert.AdWinRefIdeal.Facts] : Prop :=
  ∀ (m : (ℓ : Loc Cert.AdWinIdeal.nD Cert.AdWinIdeal.τ Cert.AdWinIdeal.sig) → Buf (Elt Ideal) ℓ) (g : Dev Cert.AdWinIdeal.nD → PrngReg)
    (m' : (ℓ : Loc Cert.AdWinRefIdeal.nD Cert.AdWinRefIdeal.τ Cert.AdWinRefIdeal.sig) → Buf (Elt Ideal) ℓ) (g' : Dev Cert.AdWinRefIdeal.nD → PrngReg), Pre_AdWinIdeal m →
    (∀ c : Dev Cert.AdWinIdeal.nD,
      m' ((c.tc : Thread Cert.AdWinRefIdeal.nD Cert.AdWinRefIdeal.τ).loc Cert.AdWinRefIdeal.main_arg0) = m ((c.tc : Thread Cert.AdWinIdeal.nD Cert.AdWinIdeal.τ).loc Cert.AdWinIdeal.main_arg0)
      ∧ m' ((c.tc : Thread Cert.AdWinRefIdeal.nD Cert.AdWinRefIdeal.τ).loc Cert.AdWinRefIdeal.main_arg1) = m ((c.tc : Thread Cert.AdWinIdeal.nD Cert.AdWinIdeal.τ).loc Cert.AdWinIdeal.main_arg1)
      ∧ m' ((c.tc : Thread Cert.AdWinRefIdeal.nD Cert.AdWinRefIdeal.τ).loc Cert.AdWinRefIdeal.main_arg2) = m ((c.tc : Thread Cert.AdWinIdeal.nD Cert.AdWinIdeal.τ).loc Cert.AdWinIdeal.main_arg2)
      ∧ m' ((c.tc : Thread Cert.AdWinRefIdeal.nD Cert.AdWinRefIdeal.τ).loc Cert.AdWinRefIdeal.main_arg3) = m ((c.tc : Thread Cert.AdWinIdeal.nD Cert.AdWinIdeal.τ).loc Cert.AdWinIdeal.main_arg3)) →
    ∃ (v0 : (c : Dev Cert.AdWinIdeal.nD) → Buf (Elt Ideal) ((c.tc : Thread Cert.AdWinIdeal.nD Cert.AdWinIdeal.τ).loc Cert.AdWinIdeal.main_v4_0)) (v1 : (c : Dev Cert.AdWinIdeal.nD) → Buf (Elt Ideal) ((c.tc : Thread Cert.AdWinIdeal.nD Cert.AdWinIdeal.τ).loc Cert.AdWinIdeal.main_v4_1)) (v2 : (c : Dev Cert.AdWinIdeal.nD) → Buf (Elt Ideal) ((c.tc : Thread Cert.AdWinIdeal.nD Cert.AdWinIdeal.τ).loc Cert.AdWinIdeal.main_v4_2)),
      θ_run (Cert.AdWinIdeal.defs (F := Ideal)) (onTc (τ := Cert.AdWinIdeal.τ) (Cert.AdWinIdeal.main (F := Ideal))) ⟨m, fun _ => 0, g⟩ (fun r => ∀ c : Dev Cert.AdWinIdeal.nD,
          r.2.mem ((c.tc : Thread Cert.AdWinIdeal.nD Cert.AdWinIdeal.τ).loc Cert.AdWinIdeal.main_v4_0) = v0 c
          ∧ r.2.mem ((c.tc : Thread Cert.AdWinIdeal.nD Cert.AdWinIdeal.τ).loc Cert.AdWinIdeal.main_v4_1) = v1 c
          ∧ r.2.mem ((c.tc : Thread Cert.AdWinIdeal.nD Cert.AdWinIdeal.τ).loc Cert.AdWinIdeal.main_v4_2) = v2 c
          ∧ r.2.mem ((c.tc : Thread Cert.AdWinIdeal.nD Cert.AdWinIdeal.τ).loc Cert.AdWinIdeal.main_arg0) = m ((c.tc : Thread Cert.AdWinIdeal.nD Cert.AdWinIdeal.τ).loc Cert.AdWinIdeal.main_arg0)
          ∧ r.2.mem ((c.tc : Thread Cert.AdWinIdeal.nD Cert.AdWinIdeal.τ).loc Cert.AdWinIdeal.main_arg1) = m ((c.tc : Thread Cert.AdWinIdeal.nD Cert.AdWinIdeal.τ).loc Cert.AdWinIdeal.main_arg1)
          ∧ r.2.mem ((c.tc : Thread Cert.AdWinIdeal.nD Cert.AdWinIdeal.τ).loc Cert.AdWinIdeal.main_arg2) = m ((c.tc : Thread Cert.AdWinIdeal.nD Cert.AdWinIdeal.τ).loc Cert.AdWinIdeal.main_arg2)
          ∧ r.2.mem ((c.tc : Thread Cert.AdWinIdeal.nD Cert.AdWinIdeal.τ).loc Cert.AdWinIdeal.main_arg3) = m ((c.tc : Thread Cert.AdWinIdeal.nD Cert.AdWinIdeal.τ).loc Cert.AdWinIdeal.main_arg3))
      ∧ θ_run (Cert.AdWinRefIdeal.defs (F := Ideal)) (onTc (τ := Cert.AdWinRefIdeal.τ) (Cert.AdWinRefIdeal.main (F := Ideal))) ⟨m', fun _ => 0, g'⟩ (fun r => ∀ c : Dev Cert.AdWinRefIdeal.nD,
          r.2.mem ((c.tc : Thread Cert.AdWinRefIdeal.nD Cert.AdWinRefIdeal.τ).loc Cert.AdWinRefIdeal.main_v24) = v0 c
          ∧ r.2.mem ((c.tc : Thread Cert.AdWinRefIdeal.nD Cert.AdWinRefIdeal.τ).loc Cert.AdWinRefIdeal.main_v25) = v1 c
          ∧ r.2.mem ((c.tc : Thread Cert.AdWinRefIdeal.nD Cert.AdWinRefIdeal.τ).loc Cert.AdWinRefIdeal.main_v26) = v2 c
          ∧ r.2.mem ((c.tc : Thread Cert.AdWinRefIdeal.nD Cert.AdWinRefIdeal.τ).loc Cert.AdWinRefIdeal.main_arg0) = m' ((c.tc : Thread Cert.AdWinRefIdeal.nD Cert.AdWinRefIdeal.τ).loc Cert.AdWinRefIdeal.main_arg0)
          ∧ r.2.mem ((c.tc : Thread Cert.AdWinRefIdeal.nD Cert.AdWinRefIdeal.τ).loc Cert.AdWinRefIdeal.main_arg1) = m' ((c.tc : Thread Cert.AdWinRefIdeal.nD Cert.AdWinRefIdeal.τ).loc Cert.AdWinRefIdeal.main_arg1)
          ∧ r.2.mem ((c.tc : Thread Cert.AdWinRefIdeal.nD Cert.AdWinRefIdeal.τ).loc Cert.AdWinRefIdeal.main_arg2) = m' ((c.tc : Thread Cert.AdWinRefIdeal.nD Cert.AdWinRefIdeal.τ).loc Cert.AdWinRefIdeal.main_arg2)
          ∧ r.2.mem ((c.tc : Thread Cert.AdWinRefIdeal.nD Cert.AdWinRefIdeal.τ).loc Cert.AdWinRefIdeal.main_arg3) = m' ((c.tc : Thread Cert.AdWinRefIdeal.nD Cert.AdWinRefIdeal.τ).loc Cert.AdWinRefIdeal.main_arg3))

def preserves_AdLam_AdLamIdeal : Prop :=
  True

def algebraic_AdLamIdeal_AdLamRefIdeal [hAdLamIdeal : Cert.AdLamIdeal.Facts] [hAdLamRefIdeal : Cert.AdLamRefIdeal.Facts] : Prop :=
  ∀ (m : (ℓ : Loc Cert.AdLamIdeal.nD Cert.AdLamIdeal.τ Cert.AdLamIdeal.sig) → Buf (Elt Ideal) ℓ) (g : Dev Cert.AdLamIdeal.nD → PrngReg)
    (m' : (ℓ : Loc Cert.AdLamRefIdeal.nD Cert.AdLamRefIdeal.τ Cert.AdLamRefIdeal.sig) → Buf (Elt Ideal) ℓ) (g' : Dev Cert.AdLamRefIdeal.nD → PrngReg), Pre_AdLamIdeal m →
    (∀ c : Dev Cert.AdLamIdeal.nD,
      m' ((c.tc : Thread Cert.AdLamRefIdeal.nD Cert.AdLamRefIdeal.τ).loc Cert.AdLamRefIdeal.main_arg0) = m ((c.tc : Thread Cert.AdLamIdeal.nD Cert.AdLamIdeal.τ).loc Cert.AdLamIdeal.main_arg0)
      ∧ m' ((c.tc : Thread Cert.AdLamRefIdeal.nD Cert.AdLamRefIdeal.τ).loc Cert.AdLamRefIdeal.main_arg1) = m ((c.tc : Thread Cert.AdLamIdeal.nD Cert.AdLamIdeal.τ).loc Cert.AdLamIdeal.main_arg1)
      ∧ m' ((c.tc : Thread Cert.AdLamRefIdeal.nD Cert.AdLamRefIdeal.τ).loc Cert.AdLamRefIdeal.main_arg2) = m ((c.tc : Thread Cert.AdLamIdeal.nD Cert.AdLamIdeal.τ).loc Cert.AdLamIdeal.main_arg2)
      ∧ m' ((c.tc : Thread Cert.AdLamRefIdeal.nD Cert.AdLamRefIdeal.τ).loc Cert.AdLamRefIdeal.main_arg3) = m ((c.tc : Thread Cert.AdLamIdeal.nD Cert.AdLamIdeal.τ).loc Cert.AdLamIdeal.main_arg3)) →
    ∃ (v0 : (c : Dev Cert.AdLamIdeal.nD) → Buf (Elt Ideal) ((c.tc : Thread Cert.AdLamIdeal.nD Cert.AdLamIdeal.τ).loc Cert.AdLamIdeal.main_v4_0)) (v1 : (c : Dev Cert.AdLamIdeal.nD) → Buf (Elt Ideal) ((c.tc : Thread Cert.AdLamIdeal.nD Cert.AdLamIdeal.τ).loc Cert.AdLamIdeal.main_v4_1)) (v2 : (c : Dev Cert.AdLamIdeal.nD) → Buf (Elt Ideal) ((c.tc : Thread Cert.AdLamIdeal.nD Cert.AdLamIdeal.τ).loc Cert.AdLamIdeal.main_v4_2)),
      θ_run (Cert.AdLamIdeal.defs (F := Ideal)) (onTc (τ := Cert.AdLamIdeal.τ) (Cert.AdLamIdeal.main (F := Ideal))) ⟨m, fun _ => 0, g⟩ (fun r => ∀ c : Dev Cert.AdLamIdeal.nD,
          r.2.mem ((c.tc : Thread Cert.AdLamIdeal.nD Cert.AdLamIdeal.τ).loc Cert.AdLamIdeal.main_v4_0) = v0 c
          ∧ r.2.mem ((c.tc : Thread Cert.AdLamIdeal.nD Cert.AdLamIdeal.τ).loc Cert.AdLamIdeal.main_v4_1) = v1 c
          ∧ r.2.mem ((c.tc : Thread Cert.AdLamIdeal.nD Cert.AdLamIdeal.τ).loc Cert.AdLamIdeal.main_v4_2) = v2 c
          ∧ r.2.mem ((c.tc : Thread Cert.AdLamIdeal.nD Cert.AdLamIdeal.τ).loc Cert.AdLamIdeal.main_arg0) = m ((c.tc : Thread Cert.AdLamIdeal.nD Cert.AdLamIdeal.τ).loc Cert.AdLamIdeal.main_arg0)
          ∧ r.2.mem ((c.tc : Thread Cert.AdLamIdeal.nD Cert.AdLamIdeal.τ).loc Cert.AdLamIdeal.main_arg1) = m ((c.tc : Thread Cert.AdLamIdeal.nD Cert.AdLamIdeal.τ).loc Cert.AdLamIdeal.main_arg1)
          ∧ r.2.mem ((c.tc : Thread Cert.AdLamIdeal.nD Cert.AdLamIdeal.τ).loc Cert.AdLamIdeal.main_arg2) = m ((c.tc : Thread Cert.AdLamIdeal.nD Cert.AdLamIdeal.τ).loc Cert.AdLamIdeal.main_arg2)
          ∧ r.2.mem ((c.tc : Thread Cert.AdLamIdeal.nD Cert.AdLamIdeal.τ).loc Cert.AdLamIdeal.main_arg3) = m ((c.tc : Thread Cert.AdLamIdeal.nD Cert.AdLamIdeal.τ).loc Cert.AdLamIdeal.main_arg3))
      ∧ θ_run (Cert.AdLamRefIdeal.defs (F := Ideal)) (onTc (τ := Cert.AdLamRefIdeal.τ) (Cert.AdLamRefIdeal.main (F := Ideal))) ⟨m', fun _ => 0, g'⟩ (fun r => ∀ c : Dev Cert.AdLamRefIdeal.nD,
          r.2.mem ((c.tc : Thread Cert.AdLamRefIdeal.nD Cert.AdLamRefIdeal.τ).loc Cert.AdLamRefIdeal.main_v24) = v0 c
          ∧ r.2.mem ((c.tc : Thread Cert.AdLamRefIdeal.nD Cert.AdLamRefIdeal.τ).loc Cert.AdLamRefIdeal.main_v25) = v1 c
          ∧ r.2.mem ((c.tc : Thread Cert.AdLamRefIdeal.nD Cert.AdLamRefIdeal.τ).loc Cert.AdLamRefIdeal.main_v26) = v2 c
          ∧ r.2.mem ((c.tc : Thread Cert.AdLamRefIdeal.nD Cert.AdLamRefIdeal.τ).loc Cert.AdLamRefIdeal.main_arg0) = m' ((c.tc : Thread Cert.AdLamRefIdeal.nD Cert.AdLamRefIdeal.τ).loc Cert.AdLamRefIdeal.main_arg0)
          ∧ r.2.mem ((c.tc : Thread Cert.AdLamRefIdeal.nD Cert.AdLamRefIdeal.τ).loc Cert.AdLamRefIdeal.main_arg1) = m' ((c.tc : Thread Cert.AdLamRefIdeal.nD Cert.AdLamRefIdeal.τ).loc Cert.AdLamRefIdeal.main_arg1)
          ∧ r.2.mem ((c.tc : Thread Cert.AdLamRefIdeal.nD Cert.AdLamRefIdeal.τ).loc Cert.AdLamRefIdeal.main_arg2) = m' ((c.tc : Thread Cert.AdLamRefIdeal.nD Cert.AdLamRefIdeal.τ).loc Cert.AdLamRefIdeal.main_arg2)
          ∧ r.2.mem ((c.tc : Thread Cert.AdLamRefIdeal.nD Cert.AdLamRefIdeal.τ).loc Cert.AdLamRefIdeal.main_arg3) = m' ((c.tc : Thread Cert.AdLamRefIdeal.nD Cert.AdLamRefIdeal.τ).loc Cert.AdLamRefIdeal.main_arg3))

def preserves_AdDt_AdDtIdeal : Prop :=
  True

def algebraic_AdDtIdeal_AdDtRefIdeal [hAdDtIdeal : Cert.AdDtIdeal.Facts] [hAdDtRefIdeal : Cert.AdDtRefIdeal.Facts] : Prop :=
  ∀ (m : (ℓ : Loc Cert.AdDtIdeal.nD Cert.AdDtIdeal.τ Cert.AdDtIdeal.sig) → Buf (Elt Ideal) ℓ) (g : Dev Cert.AdDtIdeal.nD → PrngReg)
    (m' : (ℓ : Loc Cert.AdDtRefIdeal.nD Cert.AdDtRefIdeal.τ Cert.AdDtRefIdeal.sig) → Buf (Elt Ideal) ℓ) (g' : Dev Cert.AdDtRefIdeal.nD → PrngReg), Pre_AdDtIdeal m →
    (∀ c : Dev Cert.AdDtIdeal.nD,
      m' ((c.tc : Thread Cert.AdDtRefIdeal.nD Cert.AdDtRefIdeal.τ).loc Cert.AdDtRefIdeal.main_arg0) = m ((c.tc : Thread Cert.AdDtIdeal.nD Cert.AdDtIdeal.τ).loc Cert.AdDtIdeal.main_arg0)
      ∧ m' ((c.tc : Thread Cert.AdDtRefIdeal.nD Cert.AdDtRefIdeal.τ).loc Cert.AdDtRefIdeal.main_arg1) = m ((c.tc : Thread Cert.AdDtIdeal.nD Cert.AdDtIdeal.τ).loc Cert.AdDtIdeal.main_arg1)
      ∧ m' ((c.tc : Thread Cert.AdDtRefIdeal.nD Cert.AdDtRefIdeal.τ).loc Cert.AdDtRefIdeal.main_arg2) = m ((c.tc : Thread Cert.AdDtIdeal.nD Cert.AdDtIdeal.τ).loc Cert.AdDtIdeal.main_arg2)
      ∧ m' ((c.tc : Thread Cert.AdDtRefIdeal.nD Cert.AdDtRefIdeal.τ).loc Cert.AdDtRefIdeal.main_arg3) = m ((c.tc : Thread Cert.AdDtIdeal.nD Cert.AdDtIdeal.τ).loc Cert.AdDtIdeal.main_arg3)) →
    ∃ (v0 : (c : Dev Cert.AdDtIdeal.nD) → Buf (Elt Ideal) ((c.tc : Thread Cert.AdDtIdeal.nD Cert.AdDtIdeal.τ).loc Cert.AdDtIdeal.main_v4_0)) (v1 : (c : Dev Cert.AdDtIdeal.nD) → Buf (Elt Ideal) ((c.tc : Thread Cert.AdDtIdeal.nD Cert.AdDtIdeal.τ).loc Cert.AdDtIdeal.main_v4_1)) (v2 : (c : Dev Cert.AdDtIdeal.nD) → Buf (Elt Ideal) ((c.tc : Thread Cert.AdDtIdeal.nD Cert.AdDtIdeal.τ).loc Cert.AdDtIdeal.main_v4_2)),
      θ_run (Cert.AdDtIdeal.defs (F := Ideal)) (onTc (τ := Cert.AdDtIdeal.τ) (Cert.AdDtIdeal.main (F := Ideal))) ⟨m, fun _ => 0, g⟩ (fun r => ∀ c : Dev Cert.AdDtIdeal.nD,
          r.2.mem ((c.tc : Thread Cert.AdDtIdeal.nD Cert.AdDtIdeal.τ).loc Cert.AdDtIdeal.main_v4_0) = v0 c
          ∧ r.2.mem ((c.tc : Thread Cert.AdDtIdeal.nD Cert.AdDtIdeal.τ).loc Cert.AdDtIdeal.main_v4_1) = v1 c
          ∧ r.2.mem ((c.tc : Thread Cert.AdDtIdeal.nD Cert.AdDtIdeal.τ).loc Cert.AdDtIdeal.main_v4_2) = v2 c
          ∧ r.2.mem ((c.tc : Thread Cert.AdDtIdeal.nD Cert.AdDtIdeal.τ).loc Cert.AdDtIdeal.main_arg0) = m ((c.tc : Thread Cert.AdDtIdeal.nD Cert.AdDtIdeal.τ).loc Cert.AdDtIdeal.main_arg0)
          ∧ r.2.mem ((c.tc : Thread Cert.AdDtIdeal.nD Cert.AdDtIdeal.τ).loc Cert.AdDtIdeal.main_arg1) = m ((c.tc : Thread Cert.AdDtIdeal.nD Cert.AdDtIdeal.τ).loc Cert.AdDtIdeal.main_arg1)
          ∧ r.2.mem ((c.tc : Thread Cert.AdDtIdeal.nD Cert.AdDtIdeal.τ).loc Cert.AdDtIdeal.main_arg2) = m ((c.tc : Thread Cert.AdDtIdeal.nD Cert.AdDtIdeal.τ).loc Cert.AdDtIdeal.main_arg2)
          ∧ r.2.mem ((c.tc : Thread Cert.AdDtIdeal.nD Cert.AdDtIdeal.τ).loc Cert.AdDtIdeal.main_arg3) = m ((c.tc : Thread Cert.AdDtIdeal.nD Cert.AdDtIdeal.τ).loc Cert.AdDtIdeal.main_arg3))
      ∧ θ_run (Cert.AdDtRefIdeal.defs (F := Ideal)) (onTc (τ := Cert.AdDtRefIdeal.τ) (Cert.AdDtRefIdeal.main (F := Ideal))) ⟨m', fun _ => 0, g'⟩ (fun r => ∀ c : Dev Cert.AdDtRefIdeal.nD,
          r.2.mem ((c.tc : Thread Cert.AdDtRefIdeal.nD Cert.AdDtRefIdeal.τ).loc Cert.AdDtRefIdeal.main_v24) = v0 c
          ∧ r.2.mem ((c.tc : Thread Cert.AdDtRefIdeal.nD Cert.AdDtRefIdeal.τ).loc Cert.AdDtRefIdeal.main_v25) = v1 c
          ∧ r.2.mem ((c.tc : Thread Cert.AdDtRefIdeal.nD Cert.AdDtRefIdeal.τ).loc Cert.AdDtRefIdeal.main_v26) = v2 c
          ∧ r.2.mem ((c.tc : Thread Cert.AdDtRefIdeal.nD Cert.AdDtRefIdeal.τ).loc Cert.AdDtRefIdeal.main_arg0) = m' ((c.tc : Thread Cert.AdDtRefIdeal.nD Cert.AdDtRefIdeal.τ).loc Cert.AdDtRefIdeal.main_arg0)
          ∧ r.2.mem ((c.tc : Thread Cert.AdDtRefIdeal.nD Cert.AdDtRefIdeal.τ).loc Cert.AdDtRefIdeal.main_arg1) = m' ((c.tc : Thread Cert.AdDtRefIdeal.nD Cert.AdDtRefIdeal.τ).loc Cert.AdDtRefIdeal.main_arg1)
          ∧ r.2.mem ((c.tc : Thread Cert.AdDtRefIdeal.nD Cert.AdDtRefIdeal.τ).loc Cert.AdDtRefIdeal.main_arg2) = m' ((c.tc : Thread Cert.AdDtRefIdeal.nD Cert.AdDtRefIdeal.τ).loc Cert.AdDtRefIdeal.main_arg2)
          ∧ r.2.mem ((c.tc : Thread Cert.AdDtRefIdeal.nD Cert.AdDtRefIdeal.τ).loc Cert.AdDtRefIdeal.main_arg3) = m' ((c.tc : Thread Cert.AdDtRefIdeal.nD Cert.AdDtRefIdeal.τ).loc Cert.AdDtRefIdeal.main_arg3))

def preserves_AdB_AdBIdeal : Prop :=
  True

def algebraic_AdBIdeal_AdBRefIdeal [hAdBIdeal : Cert.AdBIdeal.Facts] [hAdBRefIdeal : Cert.AdBRefIdeal.Facts] : Prop :=
  ∀ (m : (ℓ : Loc Cert.AdBIdeal.nD Cert.AdBIdeal.τ Cert.AdBIdeal.sig) → Buf (Elt Ideal) ℓ) (g : Dev Cert.AdBIdeal.nD → PrngReg)
    (m' : (ℓ : Loc Cert.AdBRefIdeal.nD Cert.AdBRefIdeal.τ Cert.AdBRefIdeal.sig) → Buf (Elt Ideal) ℓ) (g' : Dev Cert.AdBRefIdeal.nD → PrngReg), Pre_AdBIdeal m →
    (∀ c : Dev Cert.AdBIdeal.nD,
      m' ((c.tc : Thread Cert.AdBRefIdeal.nD Cert.AdBRefIdeal.τ).loc Cert.AdBRefIdeal.main_arg0) = m ((c.tc : Thread Cert.AdBIdeal.nD Cert.AdBIdeal.τ).loc Cert.AdBIdeal.main_arg0)
      ∧ m' ((c.tc : Thread Cert.AdBRefIdeal.nD Cert.AdBRefIdeal.τ).loc Cert.AdBRefIdeal.main_arg1) = m ((c.tc : Thread Cert.AdBIdeal.nD Cert.AdBIdeal.τ).loc Cert.AdBIdeal.main_arg1)
      ∧ m' ((c.tc : Thread Cert.AdBRefIdeal.nD Cert.AdBRefIdeal.τ).loc Cert.AdBRefIdeal.main_arg2) = m ((c.tc : Thread Cert.AdBIdeal.nD Cert.AdBIdeal.τ).loc Cert.AdBIdeal.main_arg2)
      ∧ m' ((c.tc : Thread Cert.AdBRefIdeal.nD Cert.AdBRefIdeal.τ).loc Cert.AdBRefIdeal.main_arg3) = m ((c.tc : Thread Cert.AdBIdeal.nD Cert.AdBIdeal.τ).loc Cert.AdBIdeal.main_arg3)) →
    ∃ (v0 : (c : Dev Cert.AdBIdeal.nD) → Buf (Elt Ideal) ((c.tc : Thread Cert.AdBIdeal.nD Cert.AdBIdeal.τ).loc Cert.AdBIdeal.main_v4_0)) (v1 : (c : Dev Cert.AdBIdeal.nD) → Buf (Elt Ideal) ((c.tc : Thread Cert.AdBIdeal.nD Cert.AdBIdeal.τ).loc Cert.AdBIdeal.main_v4_1)) (v2 : (c : Dev Cert.AdBIdeal.nD) → Buf (Elt Ideal) ((c.tc : Thread Cert.AdBIdeal.nD Cert.AdBIdeal.τ).loc Cert.AdBIdeal.main_v4_2)),
      θ_run (Cert.AdBIdeal.defs (F := Ideal)) (onTc (τ := Cert.AdBIdeal.τ) (Cert.AdBIdeal.main (F := Ideal))) ⟨m, fun _ => 0, g⟩ (fun r => ∀ c : Dev Cert.AdBIdeal.nD,
          r.2.mem ((c.tc : Thread Cert.AdBIdeal.nD Cert.AdBIdeal.τ).loc Cert.AdBIdeal.main_v4_0) = v0 c
          ∧ r.2.mem ((c.tc : Thread Cert.AdBIdeal.nD Cert.AdBIdeal.τ).loc Cert.AdBIdeal.main_v4_1) = v1 c
          ∧ r.2.mem ((c.tc : Thread Cert.AdBIdeal.nD Cert.AdBIdeal.τ).loc Cert.AdBIdeal.main_v4_2) = v2 c
          ∧ r.2.mem ((c.tc : Thread Cert.AdBIdeal.nD Cert.AdBIdeal.τ).loc Cert.AdBIdeal.main_arg0) = m ((c.tc : Thread Cert.AdBIdeal.nD Cert.AdBIdeal.τ).loc Cert.AdBIdeal.main_arg0)
          ∧ r.2.mem ((c.tc : Thread Cert.AdBIdeal.nD Cert.AdBIdeal.τ).loc Cert.AdBIdeal.main_arg1) = m ((c.tc : Thread Cert.AdBIdeal.nD Cert.AdBIdeal.τ).loc Cert.AdBIdeal.main_arg1)
          ∧ r.2.mem ((c.tc : Thread Cert.AdBIdeal.nD Cert.AdBIdeal.τ).loc Cert.AdBIdeal.main_arg2) = m ((c.tc : Thread Cert.AdBIdeal.nD Cert.AdBIdeal.τ).loc Cert.AdBIdeal.main_arg2)
          ∧ r.2.mem ((c.tc : Thread Cert.AdBIdeal.nD Cert.AdBIdeal.τ).loc Cert.AdBIdeal.main_arg3) = m ((c.tc : Thread Cert.AdBIdeal.nD Cert.AdBIdeal.τ).loc Cert.AdBIdeal.main_arg3))
      ∧ θ_run (Cert.AdBRefIdeal.defs (F := Ideal)) (onTc (τ := Cert.AdBRefIdeal.τ) (Cert.AdBRefIdeal.main (F := Ideal))) ⟨m', fun _ => 0, g'⟩ (fun r => ∀ c : Dev Cert.AdBRefIdeal.nD,
          r.2.mem ((c.tc : Thread Cert.AdBRefIdeal.nD Cert.AdBRefIdeal.τ).loc Cert.AdBRefIdeal.main_v24) = v0 c
          ∧ r.2.mem ((c.tc : Thread Cert.AdBRefIdeal.nD Cert.AdBRefIdeal.τ).loc Cert.AdBRefIdeal.main_v25) = v1 c
          ∧ r.2.mem ((c.tc : Thread Cert.AdBRefIdeal.nD Cert.AdBRefIdeal.τ).loc Cert.AdBRefIdeal.main_v26) = v2 c
          ∧ r.2.mem ((c.tc : Thread Cert.AdBRefIdeal.nD Cert.AdBRefIdeal.τ).loc Cert.AdBRefIdeal.main_arg0) = m' ((c.tc : Thread Cert.AdBRefIdeal.nD Cert.AdBRefIdeal.τ).loc Cert.AdBRefIdeal.main_arg0)
          ∧ r.2.mem ((c.tc : Thread Cert.AdBRefIdeal.nD Cert.AdBRefIdeal.τ).loc Cert.AdBRefIdeal.main_arg1) = m' ((c.tc : Thread Cert.AdBRefIdeal.nD Cert.AdBRefIdeal.τ).loc Cert.AdBRefIdeal.main_arg1)
          ∧ r.2.mem ((c.tc : Thread Cert.AdBRefIdeal.nD Cert.AdBRefIdeal.τ).loc Cert.AdBRefIdeal.main_arg2) = m' ((c.tc : Thread Cert.AdBRefIdeal.nD Cert.AdBRefIdeal.τ).loc Cert.AdBRefIdeal.main_arg2)
          ∧ r.2.mem ((c.tc : Thread Cert.AdBRefIdeal.nD Cert.AdBRefIdeal.τ).loc Cert.AdBRefIdeal.main_arg3) = m' ((c.tc : Thread Cert.AdBRefIdeal.nD Cert.AdBRefIdeal.τ).loc Cert.AdBRefIdeal.main_arg3))

def preserves_AdC_AdCIdeal : Prop :=
  True

def algebraic_AdCIdeal_AdCRefIdeal [hAdCIdeal : Cert.AdCIdeal.Facts] [hAdCRefIdeal : Cert.AdCRefIdeal.Facts] : Prop :=
  ∀ (m : (ℓ : Loc Cert.AdCIdeal.nD Cert.AdCIdeal.τ Cert.AdCIdeal.sig) → Buf (Elt Ideal) ℓ) (g : Dev Cert.AdCIdeal.nD → PrngReg)
    (m' : (ℓ : Loc Cert.AdCRefIdeal.nD Cert.AdCRefIdeal.τ Cert.AdCRefIdeal.sig) → Buf (Elt Ideal) ℓ) (g' : Dev Cert.AdCRefIdeal.nD → PrngReg), Pre_AdCIdeal m →
    (∀ c : Dev Cert.AdCIdeal.nD,
      m' ((c.tc : Thread Cert.AdCRefIdeal.nD Cert.AdCRefIdeal.τ).loc Cert.AdCRefIdeal.main_arg0) = m ((c.tc : Thread Cert.AdCIdeal.nD Cert.AdCIdeal.τ).loc Cert.AdCIdeal.main_arg0)
      ∧ m' ((c.tc : Thread Cert.AdCRefIdeal.nD Cert.AdCRefIdeal.τ).loc Cert.AdCRefIdeal.main_arg1) = m ((c.tc : Thread Cert.AdCIdeal.nD Cert.AdCIdeal.τ).loc Cert.AdCIdeal.main_arg1)
      ∧ m' ((c.tc : Thread Cert.AdCRefIdeal.nD Cert.AdCRefIdeal.τ).loc Cert.AdCRefIdeal.main_arg2) = m ((c.tc : Thread Cert.AdCIdeal.nD Cert.AdCIdeal.τ).loc Cert.AdCIdeal.main_arg2)
      ∧ m' ((c.tc : Thread Cert.AdCRefIdeal.nD Cert.AdCRefIdeal.τ).loc Cert.AdCRefIdeal.main_arg3) = m ((c.tc : Thread Cert.AdCIdeal.nD Cert.AdCIdeal.τ).loc Cert.AdCIdeal.main_arg3)) →
    ∃ (v0 : (c : Dev Cert.AdCIdeal.nD) → Buf (Elt Ideal) ((c.tc : Thread Cert.AdCIdeal.nD Cert.AdCIdeal.τ).loc Cert.AdCIdeal.main_v4_0)) (v1 : (c : Dev Cert.AdCIdeal.nD) → Buf (Elt Ideal) ((c.tc : Thread Cert.AdCIdeal.nD Cert.AdCIdeal.τ).loc Cert.AdCIdeal.main_v4_1)) (v2 : (c : Dev Cert.AdCIdeal.nD) → Buf (Elt Ideal) ((c.tc : Thread Cert.AdCIdeal.nD Cert.AdCIdeal.τ).loc Cert.AdCIdeal.main_v4_2)),
      θ_run (Cert.AdCIdeal.defs (F := Ideal)) (onTc (τ := Cert.AdCIdeal.τ) (Cert.AdCIdeal.main (F := Ideal))) ⟨m, fun _ => 0, g⟩ (fun r => ∀ c : Dev Cert.AdCIdeal.nD,
          r.2.mem ((c.tc : Thread Cert.AdCIdeal.nD Cert.AdCIdeal.τ).loc Cert.AdCIdeal.main_v4_0) = v0 c
          ∧ r.2.mem ((c.tc : Thread Cert.AdCIdeal.nD Cert.AdCIdeal.τ).loc Cert.AdCIdeal.main_v4_1) = v1 c
          ∧ r.2.mem ((c.tc : Thread Cert.AdCIdeal.nD Cert.AdCIdeal.τ).loc Cert.AdCIdeal.main_v4_2) = v2 c
          ∧ r.2.mem ((c.tc : Thread Cert.AdCIdeal.nD Cert.AdCIdeal.τ).loc Cert.AdCIdeal.main_arg0) = m ((c.tc : Thread Cert.AdCIdeal.nD Cert.AdCIdeal.τ).loc Cert.AdCIdeal.main_arg0)
          ∧ r.2.mem ((c.tc : Thread Cert.AdCIdeal.nD Cert.AdCIdeal.τ).loc Cert.AdCIdeal.main_arg1) = m ((c.tc : Thread Cert.AdCIdeal.nD Cert.AdCIdeal.τ).loc Cert.AdCIdeal.main_arg1)
          ∧ r.2.mem ((c.tc : Thread Cert.AdCIdeal.nD Cert.AdCIdeal.τ).loc Cert.AdCIdeal.main_arg2) = m ((c.tc : Thread Cert.AdCIdeal.nD Cert.AdCIdeal.τ).loc Cert.AdCIdeal.main_arg2)
          ∧ r.2.mem ((c.tc : Thread Cert.AdCIdeal.nD Cert.AdCIdeal.τ).loc Cert.AdCIdeal.main_arg3) = m ((c.tc : Thread Cert.AdCIdeal.nD Cert.AdCIdeal.τ).loc Cert.AdCIdeal.main_arg3))
      ∧ θ_run (Cert.AdCRefIdeal.defs (F := Ideal)) (onTc (τ := Cert.AdCRefIdeal.τ) (Cert.AdCRefIdeal.main (F := Ideal))) ⟨m', fun _ => 0, g'⟩ (fun r => ∀ c : Dev Cert.AdCRefIdeal.nD,
          r.2.mem ((c.tc : Thread Cert.AdCRefIdeal.nD Cert.AdCRefIdeal.τ).loc Cert.AdCRefIdeal.main_v24) = v0 c
          ∧ r.2.mem ((c.tc : Thread Cert.AdCRefIdeal.nD Cert.AdCRefIdeal.τ).loc Cert.AdCRefIdeal.main_v25) = v1 c
          ∧ r.2.mem ((c.tc : Thread Cert.AdCRefIdeal.nD Cert.AdCRefIdeal.τ).loc Cert.AdCRefIdeal.main_v26) = v2 c
          ∧ r.2.mem ((c.tc : Thread Cert.AdCRefIdeal.nD Cert.AdCRefIdeal.τ).loc Cert.AdCRefIdeal.main_arg0) = m' ((c.tc : Thread Cert.AdCRefIdeal.nD Cert.AdCRefIdeal.τ).loc Cert.AdCRefIdeal.main_arg0)
          ∧ r.2.mem ((c.tc : Thread Cert.AdCRefIdeal.nD Cert.AdCRefIdeal.τ).loc Cert.AdCRefIdeal.main_arg1) = m' ((c.tc : Thread Cert.AdCRefIdeal.nD Cert.AdCRefIdeal.τ).loc Cert.AdCRefIdeal.main_arg1)
          ∧ r.2.mem ((c.tc : Thread Cert.AdCRefIdeal.nD Cert.AdCRefIdeal.τ).loc Cert.AdCRefIdeal.main_arg2) = m' ((c.tc : Thread Cert.AdCRefIdeal.nD Cert.AdCRefIdeal.τ).loc Cert.AdCRefIdeal.main_arg2)
          ∧ r.2.mem ((c.tc : Thread Cert.AdCRefIdeal.nD Cert.AdCRefIdeal.τ).loc Cert.AdCRefIdeal.main_arg3) = m' ((c.tc : Thread Cert.AdCRefIdeal.nD Cert.AdCRefIdeal.τ).loc Cert.AdCRefIdeal.main_arg3))

def preserves_AdD_AdDIdeal : Prop :=
  True

def algebraic_AdDIdeal_AdDRefIdeal [hAdDIdeal : Cert.AdDIdeal.Facts] [hAdDRefIdeal : Cert.AdDRefIdeal.Facts] : Prop :=
  ∀ (m : (ℓ : Loc Cert.AdDIdeal.nD Cert.AdDIdeal.τ Cert.AdDIdeal.sig) → Buf (Elt Ideal) ℓ) (g : Dev Cert.AdDIdeal.nD → PrngReg)
    (m' : (ℓ : Loc Cert.AdDRefIdeal.nD Cert.AdDRefIdeal.τ Cert.AdDRefIdeal.sig) → Buf (Elt Ideal) ℓ) (g' : Dev Cert.AdDRefIdeal.nD → PrngReg), Pre_AdDIdeal m →
    (∀ c : Dev Cert.AdDIdeal.nD,
      m' ((c.tc : Thread Cert.AdDRefIdeal.nD Cert.AdDRefIdeal.τ).loc Cert.AdDRefIdeal.main_arg0) = m ((c.tc : Thread Cert.AdDIdeal.nD Cert.AdDIdeal.τ).loc Cert.AdDIdeal.main_arg0)
      ∧ m' ((c.tc : Thread Cert.AdDRefIdeal.nD Cert.AdDRefIdeal.τ).loc Cert.AdDRefIdeal.main_arg1) = m ((c.tc : Thread Cert.AdDIdeal.nD Cert.AdDIdeal.τ).loc Cert.AdDIdeal.main_arg1)
      ∧ m' ((c.tc : Thread Cert.AdDRefIdeal.nD Cert.AdDRefIdeal.τ).loc Cert.AdDRefIdeal.main_arg2) = m ((c.tc : Thread Cert.AdDIdeal.nD Cert.AdDIdeal.τ).loc Cert.AdDIdeal.main_arg2)
      ∧ m' ((c.tc : Thread Cert.AdDRefIdeal.nD Cert.AdDRefIdeal.τ).loc Cert.AdDRefIdeal.main_arg3) = m ((c.tc : Thread Cert.AdDIdeal.nD Cert.AdDIdeal.τ).loc Cert.AdDIdeal.main_arg3)) →
    ∃ (v0 : (c : Dev Cert.AdDIdeal.nD) → Buf (Elt Ideal) ((c.tc : Thread Cert.AdDIdeal.nD Cert.AdDIdeal.τ).loc Cert.AdDIdeal.main_v0_0)) (v1 : (c : Dev Cert.AdDIdeal.nD) → Buf (Elt Ideal) ((c.tc : Thread Cert.AdDIdeal.nD Cert.AdDIdeal.τ).loc Cert.AdDIdeal.main_v0_1)) (v2 : (c : Dev Cert.AdDIdeal.nD) → Buf (Elt Ideal) ((c.tc : Thread Cert.AdDIdeal.nD Cert.AdDIdeal.τ).loc Cert.AdDIdeal.main_v0_2)),
      θ_run (Cert.AdDIdeal.defs (F := Ideal)) (onTc (τ := Cert.AdDIdeal.τ) (Cert.AdDIdeal.main (F := Ideal))) ⟨m, fun _ => 0, g⟩ (fun r => ∀ c : Dev Cert.AdDIdeal.nD,
          r.2.mem ((c.tc : Thread Cert.AdDIdeal.nD Cert.AdDIdeal.τ).loc Cert.AdDIdeal.main_v0_0) = v0 c
          ∧ r.2.mem ((c.tc : Thread Cert.AdDIdeal.nD Cert.AdDIdeal.τ).loc Cert.AdDIdeal.main_v0_1) = v1 c
          ∧ r.2.mem ((c.tc : Thread Cert.AdDIdeal.nD Cert.AdDIdeal.τ).loc Cert.AdDIdeal.main_v0_2) = v2 c
          ∧ r.2.mem ((c.tc : Thread Cert.AdDIdeal.nD Cert.AdDIdeal.τ).loc Cert.AdDIdeal.main_arg0) = m ((c.tc : Thread Cert.AdDIdeal.nD Cert.AdDIdeal.τ).loc Cert.AdDIdeal.main_arg0)
          ∧ r.2.mem ((c.tc : Thread Cert.AdDIdeal.nD Cert.AdDIdeal.τ).loc Cert.AdDIdeal.main_arg1) = m ((c.tc : Thread Cert.AdDIdeal.nD Cert.AdDIdeal.τ).loc Cert.AdDIdeal.main_arg1)
          ∧ r.2.mem ((c.tc : Thread Cert.AdDIdeal.nD Cert.AdDIdeal.τ).loc Cert.AdDIdeal.main_arg2) = m ((c.tc : Thread Cert.AdDIdeal.nD Cert.AdDIdeal.τ).loc Cert.AdDIdeal.main_arg2)
          ∧ r.2.mem ((c.tc : Thread Cert.AdDIdeal.nD Cert.AdDIdeal.τ).loc Cert.AdDIdeal.main_arg3) = m ((c.tc : Thread Cert.AdDIdeal.nD Cert.AdDIdeal.τ).loc Cert.AdDIdeal.main_arg3))
      ∧ θ_run (Cert.AdDRefIdeal.defs (F := Ideal)) (onTc (τ := Cert.AdDRefIdeal.τ) (Cert.AdDRefIdeal.main (F := Ideal))) ⟨m', fun _ => 0, g'⟩ (fun r => ∀ c : Dev Cert.AdDRefIdeal.nD,
          r.2.mem ((c.tc : Thread Cert.AdDRefIdeal.nD Cert.AdDRefIdeal.τ).loc Cert.AdDRefIdeal.main_v23) = v0 c
          ∧ r.2.mem ((c.tc : Thread Cert.AdDRefIdeal.nD Cert.AdDRefIdeal.τ).loc Cert.AdDRefIdeal.main_v4) = v1 c
          ∧ r.2.mem ((c.tc : Thread Cert.AdDRefIdeal.nD Cert.AdDRefIdeal.τ).loc Cert.AdDRefIdeal.main_v10) = v2 c
          ∧ r.2.mem ((c.tc : Thread Cert.AdDRefIdeal.nD Cert.AdDRefIdeal.τ).loc Cert.AdDRefIdeal.main_arg0) = m' ((c.tc : Thread Cert.AdDRefIdeal.nD Cert.AdDRefIdeal.τ).loc Cert.AdDRefIdeal.main_arg0)
          ∧ r.2.mem ((c.tc : Thread Cert.AdDRefIdeal.nD Cert.AdDRefIdeal.τ).loc Cert.AdDRefIdeal.main_arg1) = m' ((c.tc : Thread Cert.AdDRefIdeal.nD Cert.AdDRefIdeal.τ).loc Cert.AdDRefIdeal.main_arg1)
          ∧ r.2.mem ((c.tc : Thread Cert.AdDRefIdeal.nD Cert.AdDRefIdeal.τ).loc Cert.AdDRefIdeal.main_arg2) = m' ((c.tc : Thread Cert.AdDRefIdeal.nD Cert.AdDRefIdeal.τ).loc Cert.AdDRefIdeal.main_arg2)
          ∧ r.2.mem ((c.tc : Thread Cert.AdDRefIdeal.nD Cert.AdDRefIdeal.τ).loc Cert.AdDRefIdeal.main_arg3) = m' ((c.tc : Thread Cert.AdDRefIdeal.nD Cert.AdDRefIdeal.τ).loc Cert.AdDRefIdeal.main_arg3))

def preserves_AdGlu_AdGluIdeal : Prop :=
  True

def algebraic_AdGluIdeal_AdGluRefIdeal [hAdGluIdeal : Cert.AdGluIdeal.Facts] [hAdGluRefIdeal : Cert.AdGluRefIdeal.Facts] : Prop :=
  ∀ (m : (ℓ : Loc Cert.AdGluIdeal.nD Cert.AdGluIdeal.τ Cert.AdGluIdeal.sig) → Buf (Elt Ideal) ℓ) (g : Dev Cert.AdGluIdeal.nD → PrngReg)
    (m' : (ℓ : Loc Cert.AdGluRefIdeal.nD Cert.AdGluRefIdeal.τ Cert.AdGluRefIdeal.sig) → Buf (Elt Ideal) ℓ) (g' : Dev Cert.AdGluRefIdeal.nD → PrngReg), Pre_AdGluIdeal m →
    (∀ c : Dev Cert.AdGluIdeal.nD,
      m' ((c.tc : Thread Cert.AdGluRefIdeal.nD Cert.AdGluRefIdeal.τ).loc Cert.AdGluRefIdeal.main_arg0) = m ((c.tc : Thread Cert.AdGluIdeal.nD Cert.AdGluIdeal.τ).loc Cert.AdGluIdeal.main_arg0)
      ∧ m' ((c.tc : Thread Cert.AdGluRefIdeal.nD Cert.AdGluRefIdeal.τ).loc Cert.AdGluRefIdeal.main_arg1) = m ((c.tc : Thread Cert.AdGluIdeal.nD Cert.AdGluIdeal.τ).loc Cert.AdGluIdeal.main_arg1)
      ∧ m' ((c.tc : Thread Cert.AdGluRefIdeal.nD Cert.AdGluRefIdeal.τ).loc Cert.AdGluRefIdeal.main_arg2) = m ((c.tc : Thread Cert.AdGluIdeal.nD Cert.AdGluIdeal.τ).loc Cert.AdGluIdeal.main_arg2)
      ∧ m' ((c.tc : Thread Cert.AdGluRefIdeal.nD Cert.AdGluRefIdeal.τ).loc Cert.AdGluRefIdeal.main_arg3) = m ((c.tc : Thread Cert.AdGluIdeal.nD Cert.AdGluIdeal.τ).loc Cert.AdGluIdeal.main_arg3)) →
    ∃ (v0 : (c : Dev Cert.AdGluIdeal.nD) → Buf (Elt Ideal) ((c.tc : Thread Cert.AdGluIdeal.nD Cert.AdGluIdeal.τ).loc Cert.AdGluIdeal.main_v4_0)) (v1 : (c : Dev Cert.AdGluIdeal.nD) → Buf (Elt Ideal) ((c.tc : Thread Cert.AdGluIdeal.nD Cert.AdGluIdeal.τ).loc Cert.AdGluIdeal.main_v4_1)) (v2 : (c : Dev Cert.AdGluIdeal.nD) → Buf (Elt Ideal) ((c.tc : Thread Cert.AdGluIdeal.nD Cert.AdGluIdeal.τ).loc Cert.AdGluIdeal.main_v4_2)),
      θ_run (Cert.AdGluIdeal.defs (F := Ideal)) (onTc (τ := Cert.AdGluIdeal.τ) (Cert.AdGluIdeal.main (F := Ideal))) ⟨m, fun _ => 0, g⟩ (fun r => ∀ c : Dev Cert.AdGluIdeal.nD,
          r.2.mem ((c.tc : Thread Cert.AdGluIdeal.nD Cert.AdGluIdeal.τ).loc Cert.AdGluIdeal.main_v4_0) = v0 c
          ∧ r.2.mem ((c.tc : Thread Cert.AdGluIdeal.nD Cert.AdGluIdeal.τ).loc Cert.AdGluIdeal.main_v4_1) = v1 c
          ∧ r.2.mem ((c.tc : Thread Cert.AdGluIdeal.nD Cert.AdGluIdeal.τ).loc Cert.AdGluIdeal.main_v4_2) = v2 c
          ∧ r.2.mem ((c.tc : Thread Cert.AdGluIdeal.nD Cert.AdGluIdeal.τ).loc Cert.AdGluIdeal.main_arg0) = m ((c.tc : Thread Cert.AdGluIdeal.nD Cert.AdGluIdeal.τ).loc Cert.AdGluIdeal.main_arg0)
          ∧ r.2.mem ((c.tc : Thread Cert.AdGluIdeal.nD Cert.AdGluIdeal.τ).loc Cert.AdGluIdeal.main_arg1) = m ((c.tc : Thread Cert.AdGluIdeal.nD Cert.AdGluIdeal.τ).loc Cert.AdGluIdeal.main_arg1)
          ∧ r.2.mem ((c.tc : Thread Cert.AdGluIdeal.nD Cert.AdGluIdeal.τ).loc Cert.AdGluIdeal.main_arg2) = m ((c.tc : Thread Cert.AdGluIdeal.nD Cert.AdGluIdeal.τ).loc Cert.AdGluIdeal.main_arg2)
          ∧ r.2.mem ((c.tc : Thread Cert.AdGluIdeal.nD Cert.AdGluIdeal.τ).loc Cert.AdGluIdeal.main_arg3) = m ((c.tc : Thread Cert.AdGluIdeal.nD Cert.AdGluIdeal.τ).loc Cert.AdGluIdeal.main_arg3))
      ∧ θ_run (Cert.AdGluRefIdeal.defs (F := Ideal)) (onTc (τ := Cert.AdGluRefIdeal.τ) (Cert.AdGluRefIdeal.main (F := Ideal))) ⟨m', fun _ => 0, g'⟩ (fun r => ∀ c : Dev Cert.AdGluRefIdeal.nD,
          r.2.mem ((c.tc : Thread Cert.AdGluRefIdeal.nD Cert.AdGluRefIdeal.τ).loc Cert.AdGluRefIdeal.main_v24) = v0 c
          ∧ r.2.mem ((c.tc : Thread Cert.AdGluRefIdeal.nD Cert.AdGluRefIdeal.τ).loc Cert.AdGluRefIdeal.main_v25) = v1 c
          ∧ r.2.mem ((c.tc : Thread Cert.AdGluRefIdeal.nD Cert.AdGluRefIdeal.τ).loc Cert.AdGluRefIdeal.main_v26) = v2 c
          ∧ r.2.mem ((c.tc : Thread Cert.AdGluRefIdeal.nD Cert.AdGluRefIdeal.τ).loc Cert.AdGluRefIdeal.main_arg0) = m' ((c.tc : Thread Cert.AdGluRefIdeal.nD Cert.AdGluRefIdeal.τ).loc Cert.AdGluRefIdeal.main_arg0)
          ∧ r.2.mem ((c.tc : Thread Cert.AdGluRefIdeal.nD Cert.AdGluRefIdeal.τ).loc Cert.AdGluRefIdeal.main_arg1) = m' ((c.tc : Thread Cert.AdGluRefIdeal.nD Cert.AdGluRefIdeal.τ).loc Cert.AdGluRefIdeal.main_arg1)
          ∧ r.2.mem ((c.tc : Thread Cert.AdGluRefIdeal.nD Cert.AdGluRefIdeal.τ).loc Cert.AdGluRefIdeal.main_arg2) = m' ((c.tc : Thread Cert.AdGluRefIdeal.nD Cert.AdGluRefIdeal.τ).loc Cert.AdGluRefIdeal.main_arg2)
          ∧ r.2.mem ((c.tc : Thread Cert.AdGluRefIdeal.nD Cert.AdGluRefIdeal.τ).loc Cert.AdGluRefIdeal.main_arg3) = m' ((c.tc : Thread Cert.AdGluRefIdeal.nD Cert.AdGluRefIdeal.τ).loc Cert.AdGluRefIdeal.main_arg3))

def preserves_AdSink_AdSinkIdeal : Prop :=
  True

def algebraic_AdSinkIdeal_AdSinkRefIdeal [hAdSinkIdeal : Cert.AdSinkIdeal.Facts] [hAdSinkRefIdeal : Cert.AdSinkRefIdeal.Facts] : Prop :=
  ∀ (m : (ℓ : Loc Cert.AdSinkIdeal.nD Cert.AdSinkIdeal.τ Cert.AdSinkIdeal.sig) → Buf (Elt Ideal) ℓ) (g : Dev Cert.AdSinkIdeal.nD → PrngReg)
    (m' : (ℓ : Loc Cert.AdSinkRefIdeal.nD Cert.AdSinkRefIdeal.τ Cert.AdSinkRefIdeal.sig) → Buf (Elt Ideal) ℓ) (g' : Dev Cert.AdSinkRefIdeal.nD → PrngReg), Pre_AdSinkIdeal m →
    (∀ c : Dev Cert.AdSinkIdeal.nD,
      m' ((c.tc : Thread Cert.AdSinkRefIdeal.nD Cert.AdSinkRefIdeal.τ).loc Cert.AdSinkRefIdeal.main_arg0) = m ((c.tc : Thread Cert.AdSinkIdeal.nD Cert.AdSinkIdeal.τ).loc Cert.AdSinkIdeal.main_arg0)
      ∧ m' ((c.tc : Thread Cert.AdSinkRefIdeal.nD Cert.AdSinkRefIdeal.τ).loc Cert.AdSinkRefIdeal.main_arg1) = m ((c.tc : Thread Cert.AdSinkIdeal.nD Cert.AdSinkIdeal.τ).loc Cert.AdSinkIdeal.main_arg1)
      ∧ m' ((c.tc : Thread Cert.AdSinkRefIdeal.nD Cert.AdSinkRefIdeal.τ).loc Cert.AdSinkRefIdeal.main_arg2) = m ((c.tc : Thread Cert.AdSinkIdeal.nD Cert.AdSinkIdeal.τ).loc Cert.AdSinkIdeal.main_arg2)
      ∧ m' ((c.tc : Thread Cert.AdSinkRefIdeal.nD Cert.AdSinkRefIdeal.τ).loc Cert.AdSinkRefIdeal.main_arg3) = m ((c.tc : Thread Cert.AdSinkIdeal.nD Cert.AdSinkIdeal.τ).loc Cert.AdSinkIdeal.main_arg3)) →
    ∃ (v0 : (c : Dev Cert.AdSinkIdeal.nD) → Buf (Elt Ideal) ((c.tc : Thread Cert.AdSinkIdeal.nD Cert.AdSinkIdeal.τ).loc Cert.AdSinkIdeal.main_v0_0)) (v1 : (c : Dev Cert.AdSinkIdeal.nD) → Buf (Elt Ideal) ((c.tc : Thread Cert.AdSinkIdeal.nD Cert.AdSinkIdeal.τ).loc Cert.AdSinkIdeal.main_v0_1)) (v2 : (c : Dev Cert.AdSinkIdeal.nD) → Buf (Elt Ideal) ((c.tc : Thread Cert.AdSinkIdeal.nD Cert.AdSinkIdeal.τ).loc Cert.AdSinkIdeal.main_v0_2)),
      θ_run (Cert.AdSinkIdeal.defs (F := Ideal)) (onTc (τ := Cert.AdSinkIdeal.τ) (Cert.AdSinkIdeal.main (F := Ideal))) ⟨m, fun _ => 0, g⟩ (fun r => ∀ c : Dev Cert.AdSinkIdeal.nD,
          r.2.mem ((c.tc : Thread Cert.AdSinkIdeal.nD Cert.AdSinkIdeal.τ).loc Cert.AdSinkIdeal.main_v0_0) = v0 c
          ∧ r.2.mem ((c.tc : Thread Cert.AdSinkIdeal.nD Cert.AdSinkIdeal.τ).loc Cert.AdSinkIdeal.main_v0_1) = v1 c
          ∧ r.2.mem ((c.tc : Thread Cert.AdSinkIdeal.nD Cert.AdSinkIdeal.τ).loc Cert.AdSinkIdeal.main_v0_2) = v2 c
          ∧ r.2.mem ((c.tc : Thread Cert.AdSinkIdeal.nD Cert.AdSinkIdeal.τ).loc Cert.AdSinkIdeal.main_arg0) = m ((c.tc : Thread Cert.AdSinkIdeal.nD Cert.AdSinkIdeal.τ).loc Cert.AdSinkIdeal.main_arg0)
          ∧ r.2.mem ((c.tc : Thread Cert.AdSinkIdeal.nD Cert.AdSinkIdeal.τ).loc Cert.AdSinkIdeal.main_arg1) = m ((c.tc : Thread Cert.AdSinkIdeal.nD Cert.AdSinkIdeal.τ).loc Cert.AdSinkIdeal.main_arg1)
          ∧ r.2.mem ((c.tc : Thread Cert.AdSinkIdeal.nD Cert.AdSinkIdeal.τ).loc Cert.AdSinkIdeal.main_arg2) = m ((c.tc : Thread Cert.AdSinkIdeal.nD Cert.AdSinkIdeal.τ).loc Cert.AdSinkIdeal.main_arg2)
          ∧ r.2.mem ((c.tc : Thread Cert.AdSinkIdeal.nD Cert.AdSinkIdeal.τ).loc Cert.AdSinkIdeal.main_arg3) = m ((c.tc : Thread Cert.AdSinkIdeal.nD Cert.AdSinkIdeal.τ).loc Cert.AdSinkIdeal.main_arg3))
      ∧ θ_run (Cert.AdSinkRefIdeal.defs (F := Ideal)) (onTc (τ := Cert.AdSinkRefIdeal.τ) (Cert.AdSinkRefIdeal.main (F := Ideal))) ⟨m', fun _ => 0, g'⟩ (fun r => ∀ c : Dev Cert.AdSinkRefIdeal.nD,
          r.2.mem ((c.tc : Thread Cert.AdSinkRefIdeal.nD Cert.AdSinkRefIdeal.τ).loc Cert.AdSinkRefIdeal.main_v23) = v0 c
          ∧ r.2.mem ((c.tc : Thread Cert.AdSinkRefIdeal.nD Cert.AdSinkRefIdeal.τ).loc Cert.AdSinkRefIdeal.main_v4) = v1 c
          ∧ r.2.mem ((c.tc : Thread Cert.AdSinkRefIdeal.nD Cert.AdSinkRefIdeal.τ).loc Cert.AdSinkRefIdeal.main_v10) = v2 c
          ∧ r.2.mem ((c.tc : Thread Cert.AdSinkRefIdeal.nD Cert.AdSinkRefIdeal.τ).loc Cert.AdSinkRefIdeal.main_arg0) = m' ((c.tc : Thread Cert.AdSinkRefIdeal.nD Cert.AdSinkRefIdeal.τ).loc Cert.AdSinkRefIdeal.main_arg0)
          ∧ r.2.mem ((c.tc : Thread Cert.AdSinkRefIdeal.nD Cert.AdSinkRefIdeal.τ).loc Cert.AdSinkRefIdeal.main_arg1) = m' ((c.tc : Thread Cert.AdSinkRefIdeal.nD Cert.AdSinkRefIdeal.τ).loc Cert.AdSinkRefIdeal.main_arg1)
          ∧ r.2.mem ((c.tc : Thread Cert.AdSinkRefIdeal.nD Cert.AdSinkRefIdeal.τ).loc Cert.AdSinkRefIdeal.main_arg2) = m' ((c.tc : Thread Cert.AdSinkRefIdeal.nD Cert.AdSinkRefIdeal.τ).loc Cert.AdSinkRefIdeal.main_arg2)
          ∧ r.2.mem ((c.tc : Thread Cert.AdSinkRefIdeal.nD Cert.AdSinkRefIdeal.τ).loc Cert.AdSinkRefIdeal.main_arg3) = m' ((c.tc : Thread Cert.AdSinkRefIdeal.nD Cert.AdSinkRefIdeal.τ).loc Cert.AdSinkRefIdeal.main_arg3))

def preserves_AdBs_AdBsIdeal : Prop :=
  True

def algebraic_AdBsIdeal_AdBsRefIdeal [hAdBsIdeal : Cert.AdBsIdeal.Facts] [hAdBsRefIdeal : Cert.AdBsRefIdeal.Facts] : Prop :=
  ∀ (m : (ℓ : Loc Cert.AdBsIdeal.nD Cert.AdBsIdeal.τ Cert.AdBsIdeal.sig) → Buf (Elt Ideal) ℓ) (g : Dev Cert.AdBsIdeal.nD → PrngReg)
    (m' : (ℓ : Loc Cert.AdBsRefIdeal.nD Cert.AdBsRefIdeal.τ Cert.AdBsRefIdeal.sig) → Buf (Elt Ideal) ℓ) (g' : Dev Cert.AdBsRefIdeal.nD → PrngReg), Pre_AdBsIdeal m →
    (∀ c : Dev Cert.AdBsIdeal.nD,
      m' ((c.tc : Thread Cert.AdBsRefIdeal.nD Cert.AdBsRefIdeal.τ).loc Cert.AdBsRefIdeal.main_arg0) = m ((c.tc : Thread Cert.AdBsIdeal.nD Cert.AdBsIdeal.τ).loc Cert.AdBsIdeal.main_arg0)
      ∧ m' ((c.tc : Thread Cert.AdBsRefIdeal.nD Cert.AdBsRefIdeal.τ).loc Cert.AdBsRefIdeal.main_arg1) = m ((c.tc : Thread Cert.AdBsIdeal.nD Cert.AdBsIdeal.τ).loc Cert.AdBsIdeal.main_arg1)
      ∧ m' ((c.tc : Thread Cert.AdBsRefIdeal.nD Cert.AdBsRefIdeal.τ).loc Cert.AdBsRefIdeal.main_arg2) = m ((c.tc : Thread Cert.AdBsIdeal.nD Cert.AdBsIdeal.τ).loc Cert.AdBsIdeal.main_arg2)
      ∧ m' ((c.tc : Thread Cert.AdBsRefIdeal.nD Cert.AdBsRefIdeal.τ).loc Cert.AdBsRefIdeal.main_arg3) = m ((c.tc : Thread Cert.AdBsIdeal.nD Cert.AdBsIdeal.τ).loc Cert.AdBsIdeal.main_arg3)) →
    ∃ (v0 : (c : Dev Cert.AdBsIdeal.nD) → Buf (Elt Ideal) ((c.tc : Thread Cert.AdBsIdeal.nD Cert.AdBsIdeal.τ).loc Cert.AdBsIdeal.main_v4_0)) (v1 : (c : Dev Cert.AdBsIdeal.nD) → Buf (Elt Ideal) ((c.tc : Thread Cert.AdBsIdeal.nD Cert.AdBsIdeal.τ).loc Cert.AdBsIdeal.main_v4_1)) (v2 : (c : Dev Cert.AdBsIdeal.nD) → Buf (Elt Ideal) ((c.tc : Thread Cert.AdBsIdeal.nD Cert.AdBsIdeal.τ).loc Cert.AdBsIdeal.main_v4_2)),
      θ_run (Cert.AdBsIdeal.defs (F := Ideal)) (onTc (τ := Cert.AdBsIdeal.τ) (Cert.AdBsIdeal.main (F := Ideal))) ⟨m, fun _ => 0, g⟩ (fun r => ∀ c : Dev Cert.AdBsIdeal.nD,
          r.2.mem ((c.tc : Thread Cert.AdBsIdeal.nD Cert.AdBsIdeal.τ).loc Cert.AdBsIdeal.main_v4_0) = v0 c
          ∧ r.2.mem ((c.tc : Thread Cert.AdBsIdeal.nD Cert.AdBsIdeal.τ).loc Cert.AdBsIdeal.main_v4_1) = v1 c
          ∧ r.2.mem ((c.tc : Thread Cert.AdBsIdeal.nD Cert.AdBsIdeal.τ).loc Cert.AdBsIdeal.main_v4_2) = v2 c
          ∧ r.2.mem ((c.tc : Thread Cert.AdBsIdeal.nD Cert.AdBsIdeal.τ).loc Cert.AdBsIdeal.main_arg0) = m ((c.tc : Thread Cert.AdBsIdeal.nD Cert.AdBsIdeal.τ).loc Cert.AdBsIdeal.main_arg0)
          ∧ r.2.mem ((c.tc : Thread Cert.AdBsIdeal.nD Cert.AdBsIdeal.τ).loc Cert.AdBsIdeal.main_arg1) = m ((c.tc : Thread Cert.AdBsIdeal.nD Cert.AdBsIdeal.τ).loc Cert.AdBsIdeal.main_arg1)
          ∧ r.2.mem ((c.tc : Thread Cert.AdBsIdeal.nD Cert.AdBsIdeal.τ).loc Cert.AdBsIdeal.main_arg2) = m ((c.tc : Thread Cert.AdBsIdeal.nD Cert.AdBsIdeal.τ).loc Cert.AdBsIdeal.main_arg2)
          ∧ r.2.mem ((c.tc : Thread Cert.AdBsIdeal.nD Cert.AdBsIdeal.τ).loc Cert.AdBsIdeal.main_arg3) = m ((c.tc : Thread Cert.AdBsIdeal.nD Cert.AdBsIdeal.τ).loc Cert.AdBsIdeal.main_arg3))
      ∧ θ_run (Cert.AdBsRefIdeal.defs (F := Ideal)) (onTc (τ := Cert.AdBsRefIdeal.τ) (Cert.AdBsRefIdeal.main (F := Ideal))) ⟨m', fun _ => 0, g'⟩ (fun r => ∀ c : Dev Cert.AdBsRefIdeal.nD,
          r.2.mem ((c.tc : Thread Cert.AdBsRefIdeal.nD Cert.AdBsRefIdeal.τ).loc Cert.AdBsRefIdeal.main_v24) = v0 c
          ∧ r.2.mem ((c.tc : Thread Cert.AdBsRefIdeal.nD Cert.AdBsRefIdeal.τ).loc Cert.AdBsRefIdeal.main_v25) = v1 c
          ∧ r.2.mem ((c.tc : Thread Cert.AdBsRefIdeal.nD Cert.AdBsRefIdeal.τ).loc Cert.AdBsRefIdeal.main_v26) = v2 c
          ∧ r.2.mem ((c.tc : Thread Cert.AdBsRefIdeal.nD Cert.AdBsRefIdeal.τ).loc Cert.AdBsRefIdeal.main_arg0) = m' ((c.tc : Thread Cert.AdBsRefIdeal.nD Cert.AdBsRefIdeal.τ).loc Cert.AdBsRefIdeal.main_arg0)
          ∧ r.2.mem ((c.tc : Thread Cert.AdBsRefIdeal.nD Cert.AdBsRefIdeal.τ).loc Cert.AdBsRefIdeal.main_arg1) = m' ((c.tc : Thread Cert.AdBsRefIdeal.nD Cert.AdBsRefIdeal.τ).loc Cert.AdBsRefIdeal.main_arg1)
          ∧ r.2.mem ((c.tc : Thread Cert.AdBsRefIdeal.nD Cert.AdBsRefIdeal.τ).loc Cert.AdBsRefIdeal.main_arg2) = m' ((c.tc : Thread Cert.AdBsRefIdeal.nD Cert.AdBsRefIdeal.τ).loc Cert.AdBsRefIdeal.main_arg2)
          ∧ r.2.mem ((c.tc : Thread Cert.AdBsRefIdeal.nD Cert.AdBsRefIdeal.τ).loc Cert.AdBsRefIdeal.main_arg3) = m' ((c.tc : Thread Cert.AdBsRefIdeal.nD Cert.AdBsRefIdeal.τ).loc Cert.AdBsRefIdeal.main_arg3))

def preserves_AdBa_AdBaIdeal : Prop :=
  True

def algebraic_AdBaIdeal_AdBaRefIdeal [hAdBaIdeal : Cert.AdBaIdeal.Facts] [hAdBaRefIdeal : Cert.AdBaRefIdeal.Facts] : Prop :=
  ∀ (m : (ℓ : Loc Cert.AdBaIdeal.nD Cert.AdBaIdeal.τ Cert.AdBaIdeal.sig) → Buf (Elt Ideal) ℓ) (g : Dev Cert.AdBaIdeal.nD → PrngReg)
    (m' : (ℓ : Loc Cert.AdBaRefIdeal.nD Cert.AdBaRefIdeal.τ Cert.AdBaRefIdeal.sig) → Buf (Elt Ideal) ℓ) (g' : Dev Cert.AdBaRefIdeal.nD → PrngReg), Pre_AdBaIdeal m →
    (∀ c : Dev Cert.AdBaIdeal.nD,
      m' ((c.tc : Thread Cert.AdBaRefIdeal.nD Cert.AdBaRefIdeal.τ).loc Cert.AdBaRefIdeal.main_arg0) = m ((c.tc : Thread Cert.AdBaIdeal.nD Cert.AdBaIdeal.τ).loc Cert.AdBaIdeal.main_arg0)
      ∧ m' ((c.tc : Thread Cert.AdBaRefIdeal.nD Cert.AdBaRefIdeal.τ).loc Cert.AdBaRefIdeal.main_arg1) = m ((c.tc : Thread Cert.AdBaIdeal.nD Cert.AdBaIdeal.τ).loc Cert.AdBaIdeal.main_arg1)
      ∧ m' ((c.tc : Thread Cert.AdBaRefIdeal.nD Cert.AdBaRefIdeal.τ).loc Cert.AdBaRefIdeal.main_arg2) = m ((c.tc : Thread Cert.AdBaIdeal.nD Cert.AdBaIdeal.τ).loc Cert.AdBaIdeal.main_arg2)
      ∧ m' ((c.tc : Thread Cert.AdBaRefIdeal.nD Cert.AdBaRefIdeal.τ).loc Cert.AdBaRefIdeal.main_arg3) = m ((c.tc : Thread Cert.AdBaIdeal.nD Cert.AdBaIdeal.τ).loc Cert.AdBaIdeal.main_arg3)) →
    ∃ (v0 : (c : Dev Cert.AdBaIdeal.nD) → Buf (Elt Ideal) ((c.tc : Thread Cert.AdBaIdeal.nD Cert.AdBaIdeal.τ).loc Cert.AdBaIdeal.main_v4_0)) (v1 : (c : Dev Cert.AdBaIdeal.nD) → Buf (Elt Ideal) ((c.tc : Thread Cert.AdBaIdeal.nD Cert.AdBaIdeal.τ).loc Cert.AdBaIdeal.main_v4_1)) (v2 : (c : Dev Cert.AdBaIdeal.nD) → Buf (Elt Ideal) ((c.tc : Thread Cert.AdBaIdeal.nD Cert.AdBaIdeal.τ).loc Cert.AdBaIdeal.main_v4_2)),
      θ_run (Cert.AdBaIdeal.defs (F := Ideal)) (onTc (τ := Cert.AdBaIdeal.τ) (Cert.AdBaIdeal.main (F := Ideal))) ⟨m, fun _ => 0, g⟩ (fun r => ∀ c : Dev Cert.AdBaIdeal.nD,
          r.2.mem ((c.tc : Thread Cert.AdBaIdeal.nD Cert.AdBaIdeal.τ).loc Cert.AdBaIdeal.main_v4_0) = v0 c
          ∧ r.2.mem ((c.tc : Thread Cert.AdBaIdeal.nD Cert.AdBaIdeal.τ).loc Cert.AdBaIdeal.main_v4_1) = v1 c
          ∧ r.2.mem ((c.tc : Thread Cert.AdBaIdeal.nD Cert.AdBaIdeal.τ).loc Cert.AdBaIdeal.main_v4_2) = v2 c
          ∧ r.2.mem ((c.tc : Thread Cert.AdBaIdeal.nD Cert.AdBaIdeal.τ).loc Cert.AdBaIdeal.main_arg0) = m ((c.tc : Thread Cert.AdBaIdeal.nD Cert.AdBaIdeal.τ).loc Cert.AdBaIdeal.main_arg0)
          ∧ r.2.mem ((c.tc : Thread Cert.AdBaIdeal.nD Cert.AdBaIdeal.τ).loc Cert.AdBaIdeal.main_arg1) = m ((c.tc : Thread Cert.AdBaIdeal.nD Cert.AdBaIdeal.τ).loc Cert.AdBaIdeal.main_arg1)
          ∧ r.2.mem ((c.tc : Thread Cert.AdBaIdeal.nD Cert.AdBaIdeal.τ).loc Cert.AdBaIdeal.main_arg2) = m ((c.tc : Thread Cert.AdBaIdeal.nD Cert.AdBaIdeal.τ).loc Cert.AdBaIdeal.main_arg2)
          ∧ r.2.mem ((c.tc : Thread Cert.AdBaIdeal.nD Cert.AdBaIdeal.τ).loc Cert.AdBaIdeal.main_arg3) = m ((c.tc : Thread Cert.AdBaIdeal.nD Cert.AdBaIdeal.τ).loc Cert.AdBaIdeal.main_arg3))
      ∧ θ_run (Cert.AdBaRefIdeal.defs (F := Ideal)) (onTc (τ := Cert.AdBaRefIdeal.τ) (Cert.AdBaRefIdeal.main (F := Ideal))) ⟨m', fun _ => 0, g'⟩ (fun r => ∀ c : Dev Cert.AdBaRefIdeal.nD,
          r.2.mem ((c.tc : Thread Cert.AdBaRefIdeal.nD Cert.AdBaRefIdeal.τ).loc Cert.AdBaRefIdeal.main_v24) = v0 c
          ∧ r.2.mem ((c.tc : Thread Cert.AdBaRefIdeal.nD Cert.AdBaRefIdeal.τ).loc Cert.AdBaRefIdeal.main_v25) = v1 c
          ∧ r.2.mem ((c.tc : Thread Cert.AdBaRefIdeal.nD Cert.AdBaRefIdeal.τ).loc Cert.AdBaRefIdeal.main_v26) = v2 c
          ∧ r.2.mem ((c.tc : Thread Cert.AdBaRefIdeal.nD Cert.AdBaRefIdeal.τ).loc Cert.AdBaRefIdeal.main_arg0) = m' ((c.tc : Thread Cert.AdBaRefIdeal.nD Cert.AdBaRefIdeal.τ).loc Cert.AdBaRefIdeal.main_arg0)
          ∧ r.2.mem ((c.tc : Thread Cert.AdBaRefIdeal.nD Cert.AdBaRefIdeal.τ).loc Cert.AdBaRefIdeal.main_arg1) = m' ((c.tc : Thread Cert.AdBaRefIdeal.nD Cert.AdBaRefIdeal.τ).loc Cert.AdBaRefIdeal.main_arg1)
          ∧ r.2.mem ((c.tc : Thread Cert.AdBaRefIdeal.nD Cert.AdBaRefIdeal.τ).loc Cert.AdBaRefIdeal.main_arg2) = m' ((c.tc : Thread Cert.AdBaRefIdeal.nD Cert.AdBaRefIdeal.τ).loc Cert.AdBaRefIdeal.main_arg2)
          ∧ r.2.mem ((c.tc : Thread Cert.AdBaRefIdeal.nD Cert.AdBaRefIdeal.τ).loc Cert.AdBaRefIdeal.main_arg3) = m' ((c.tc : Thread Cert.AdBaRefIdeal.nD Cert.AdBaRefIdeal.τ).loc Cert.AdBaRefIdeal.main_arg3))

def preserves_AdFinal_AdFinalIdeal : Prop :=
  True

def algebraic_AdFinalIdeal_AdFinalRefIdeal [hAdFinalIdeal : Cert.AdFinalIdeal.Facts] [hAdFinalRefIdeal : Cert.AdFinalRefIdeal.Facts] : Prop :=
  ∀ (m : (ℓ : Loc Cert.AdFinalIdeal.nD Cert.AdFinalIdeal.τ Cert.AdFinalIdeal.sig) → Buf (Elt Ideal) ℓ) (g : Dev Cert.AdFinalIdeal.nD → PrngReg)
    (m' : (ℓ : Loc Cert.AdFinalRefIdeal.nD Cert.AdFinalRefIdeal.τ Cert.AdFinalRefIdeal.sig) → Buf (Elt Ideal) ℓ) (g' : Dev Cert.AdFinalRefIdeal.nD → PrngReg), Pre_AdFinalIdeal m →
    (∀ c : Dev Cert.AdFinalIdeal.nD,
      m' ((c.tc : Thread Cert.AdFinalRefIdeal.nD Cert.AdFinalRefIdeal.τ).loc Cert.AdFinalRefIdeal.main_arg0) = m ((c.tc : Thread Cert.AdFinalIdeal.nD Cert.AdFinalIdeal.τ).loc Cert.AdFinalIdeal.main_arg0)
      ∧ m' ((c.tc : Thread Cert.AdFinalRefIdeal.nD Cert.AdFinalRefIdeal.τ).loc Cert.AdFinalRefIdeal.main_arg1) = m ((c.tc : Thread Cert.AdFinalIdeal.nD Cert.AdFinalIdeal.τ).loc Cert.AdFinalIdeal.main_arg1)
      ∧ m' ((c.tc : Thread Cert.AdFinalRefIdeal.nD Cert.AdFinalRefIdeal.τ).loc Cert.AdFinalRefIdeal.main_arg2) = m ((c.tc : Thread Cert.AdFinalIdeal.nD Cert.AdFinalIdeal.τ).loc Cert.AdFinalIdeal.main_arg2)
      ∧ m' ((c.tc : Thread Cert.AdFinalRefIdeal.nD Cert.AdFinalRefIdeal.τ).loc Cert.AdFinalRefIdeal.main_arg3) = m ((c.tc : Thread Cert.AdFinalIdeal.nD Cert.AdFinalIdeal.τ).loc Cert.AdFinalIdeal.main_arg3)) →
    ∃ (v0 : (c : Dev Cert.AdFinalIdeal.nD) → Buf (Elt Ideal) ((c.tc : Thread Cert.AdFinalIdeal.nD Cert.AdFinalIdeal.τ).loc Cert.AdFinalIdeal.main_v4_0)) (v1 : (c : Dev Cert.AdFinalIdeal.nD) → Buf (Elt Ideal) ((c.tc : Thread Cert.AdFinalIdeal.nD Cert.AdFinalIdeal.τ).loc Cert.AdFinalIdeal.main_v4_1)) (v2 : (c : Dev Cert.AdFinalIdeal.nD) → Buf (Elt Ideal) ((c.tc : Thread Cert.AdFinalIdeal.nD Cert.AdFinalIdeal.τ).loc Cert.AdFinalIdeal.main_v4_2)),
      θ_run (Cert.AdFinalIdeal.defs (F := Ideal)) (onTc (τ := Cert.AdFinalIdeal.τ) (Cert.AdFinalIdeal.main (F := Ideal))) ⟨m, fun _ => 0, g⟩ (fun r => ∀ c : Dev Cert.AdFinalIdeal.nD,
          r.2.mem ((c.tc : Thread Cert.AdFinalIdeal.nD Cert.AdFinalIdeal.τ).loc Cert.AdFinalIdeal.main_v4_0) = v0 c
          ∧ r.2.mem ((c.tc : Thread Cert.AdFinalIdeal.nD Cert.AdFinalIdeal.τ).loc Cert.AdFinalIdeal.main_v4_1) = v1 c
          ∧ r.2.mem ((c.tc : Thread Cert.AdFinalIdeal.nD Cert.AdFinalIdeal.τ).loc Cert.AdFinalIdeal.main_v4_2) = v2 c
          ∧ r.2.mem ((c.tc : Thread Cert.AdFinalIdeal.nD Cert.AdFinalIdeal.τ).loc Cert.AdFinalIdeal.main_arg0) = m ((c.tc : Thread Cert.AdFinalIdeal.nD Cert.AdFinalIdeal.τ).loc Cert.AdFinalIdeal.main_arg0)
          ∧ r.2.mem ((c.tc : Thread Cert.AdFinalIdeal.nD Cert.AdFinalIdeal.τ).loc Cert.AdFinalIdeal.main_arg1) = m ((c.tc : Thread Cert.AdFinalIdeal.nD Cert.AdFinalIdeal.τ).loc Cert.AdFinalIdeal.main_arg1)
          ∧ r.2.mem ((c.tc : Thread Cert.AdFinalIdeal.nD Cert.AdFinalIdeal.τ).loc Cert.AdFinalIdeal.main_arg2) = m ((c.tc : Thread Cert.AdFinalIdeal.nD Cert.AdFinalIdeal.τ).loc Cert.AdFinalIdeal.main_arg2)
          ∧ r.2.mem ((c.tc : Thread Cert.AdFinalIdeal.nD Cert.AdFinalIdeal.τ).loc Cert.AdFinalIdeal.main_arg3) = m ((c.tc : Thread Cert.AdFinalIdeal.nD Cert.AdFinalIdeal.τ).loc Cert.AdFinalIdeal.main_arg3))
      ∧ θ_run (Cert.AdFinalRefIdeal.defs (F := Ideal)) (onTc (τ := Cert.AdFinalRefIdeal.τ) (Cert.AdFinalRefIdeal.main (F := Ideal))) ⟨m', fun _ => 0, g'⟩ (fun r => ∀ c : Dev Cert.AdFinalRefIdeal.nD,
          r.2.mem ((c.tc : Thread Cert.AdFinalRefIdeal.nD Cert.AdFinalRefIdeal.τ).loc Cert.AdFinalRefIdeal.main_v24) = v0 c
          ∧ r.2.mem ((c.tc : Thread Cert.AdFinalRefIdeal.nD Cert.AdFinalRefIdeal.τ).loc Cert.AdFinalRefIdeal.main_v25) = v1 c
          ∧ r.2.mem ((c.tc : Thread Cert.AdFinalRefIdeal.nD Cert.AdFinalRefIdeal.τ).loc Cert.AdFinalRefIdeal.main_v26) = v2 c
          ∧ r.2.mem ((c.tc : Thread Cert.AdFinalRefIdeal.nD Cert.AdFinalRefIdeal.τ).loc Cert.AdFinalRefIdeal.main_arg0) = m' ((c.tc : Thread Cert.AdFinalRefIdeal.nD Cert.AdFinalRefIdeal.τ).loc Cert.AdFinalRefIdeal.main_arg0)
          ∧ r.2.mem ((c.tc : Thread Cert.AdFinalRefIdeal.nD Cert.AdFinalRefIdeal.τ).loc Cert.AdFinalRefIdeal.main_arg1) = m' ((c.tc : Thread Cert.AdFinalRefIdeal.nD Cert.AdFinalRefIdeal.τ).loc Cert.AdFinalRefIdeal.main_arg1)
          ∧ r.2.mem ((c.tc : Thread Cert.AdFinalRefIdeal.nD Cert.AdFinalRefIdeal.τ).loc Cert.AdFinalRefIdeal.main_arg2) = m' ((c.tc : Thread Cert.AdFinalRefIdeal.nD Cert.AdFinalRefIdeal.τ).loc Cert.AdFinalRefIdeal.main_arg2)
          ∧ r.2.mem ((c.tc : Thread Cert.AdFinalRefIdeal.nD Cert.AdFinalRefIdeal.τ).loc Cert.AdFinalRefIdeal.main_arg3) = m' ((c.tc : Thread Cert.AdFinalRefIdeal.nD Cert.AdFinalRefIdeal.τ).loc Cert.AdFinalRefIdeal.main_arg3))

def preserves_SumFfn_SumFfnIdeal : Prop :=
  True

def algebraic_SumFfnIdeal_SumFfnRefIdeal [hSumFfnIdeal : Cert.SumFfnIdeal.Facts] [hSumFfnRefIdeal : Cert.SumFfnRefIdeal.Facts] : Prop :=
  ∀ (m : (ℓ : Loc Cert.SumFfnIdeal.nD Cert.SumFfnIdeal.τ Cert.SumFfnIdeal.sig) → Buf (Elt Ideal) ℓ) (g : Dev Cert.SumFfnIdeal.nD → PrngReg)
    (m' : (ℓ : Loc Cert.SumFfnRefIdeal.nD Cert.SumFfnRefIdeal.τ Cert.SumFfnRefIdeal.sig) → Buf (Elt Ideal) ℓ) (g' : Dev Cert.SumFfnRefIdeal.nD → PrngReg), Pre_SumFfnIdeal m →
    (∀ c : Dev Cert.SumFfnIdeal.nD,
      m' ((c.tc : Thread Cert.SumFfnRefIdeal.nD Cert.SumFfnRefIdeal.τ).loc Cert.SumFfnRefIdeal.main_arg0) = m ((c.tc : Thread Cert.SumFfnIdeal.nD Cert.SumFfnIdeal.τ).loc Cert.SumFfnIdeal.main_arg0)) →
    ∃ (v0 : (c : Dev Cert.SumFfnIdeal.nD) → Buf (Elt Ideal) ((c.tc : Thread Cert.SumFfnIdeal.nD Cert.SumFfnIdeal.τ).loc Cert.SumFfnIdeal.main_v0)),
      θ_run (Cert.SumFfnIdeal.defs (F := Ideal)) (onTc (τ := Cert.SumFfnIdeal.τ) (Cert.SumFfnIdeal.main (F := Ideal))) ⟨m, fun _ => 0, g⟩ (fun r => ∀ c : Dev Cert.SumFfnIdeal.nD,
          r.2.mem ((c.tc : Thread Cert.SumFfnIdeal.nD Cert.SumFfnIdeal.τ).loc Cert.SumFfnIdeal.main_v0) = v0 c
          ∧ r.2.mem ((c.tc : Thread Cert.SumFfnIdeal.nD Cert.SumFfnIdeal.τ).loc Cert.SumFfnIdeal.main_arg0) = m ((c.tc : Thread Cert.SumFfnIdeal.nD Cert.SumFfnIdeal.τ).loc Cert.SumFfnIdeal.main_arg0))
      ∧ θ_run (Cert.SumFfnRefIdeal.defs (F := Ideal)) (onTc (τ := Cert.SumFfnRefIdeal.τ) (Cert.SumFfnRefIdeal.main (F := Ideal))) ⟨m', fun _ => 0, g'⟩ (fun r => ∀ c : Dev Cert.SumFfnRefIdeal.nD,
          r.2.mem ((c.tc : Thread Cert.SumFfnRefIdeal.nD Cert.SumFfnRefIdeal.τ).loc Cert.SumFfnRefIdeal.main_v1) = v0 c
          ∧ r.2.mem ((c.tc : Thread Cert.SumFfnRefIdeal.nD Cert.SumFfnRefIdeal.τ).loc Cert.SumFfnRefIdeal.main_arg0) = m' ((c.tc : Thread Cert.SumFfnRefIdeal.nD Cert.SumFfnRefIdeal.τ).loc Cert.SumFfnRefIdeal.main_arg0))

def preserves_SumOne_SumOneIdeal : Prop :=
  True

def algebraic_SumOneIdeal_SumOneRefIdeal [hSumOneIdeal : Cert.SumOneIdeal.Facts] [hSumOneRefIdeal : Cert.SumOneRefIdeal.Facts] : Prop :=
  ∀ (m : (ℓ : Loc Cert.SumOneIdeal.nD Cert.SumOneIdeal.τ Cert.SumOneIdeal.sig) → Buf (Elt Ideal) ℓ) (g : Dev Cert.SumOneIdeal.nD → PrngReg)
    (m' : (ℓ : Loc Cert.SumOneRefIdeal.nD Cert.SumOneRefIdeal.τ Cert.SumOneRefIdeal.sig) → Buf (Elt Ideal) ℓ) (g' : Dev Cert.SumOneRefIdeal.nD → PrngReg), Pre_SumOneIdeal m →
    (∀ c : Dev Cert.SumOneIdeal.nD,
      m' ((c.tc : Thread Cert.SumOneRefIdeal.nD Cert.SumOneRefIdeal.τ).loc Cert.SumOneRefIdeal.main_arg0) = m ((c.tc : Thread Cert.SumOneIdeal.nD Cert.SumOneIdeal.τ).loc Cert.SumOneIdeal.main_arg0)) →
    ∃ (v0 : (c : Dev Cert.SumOneIdeal.nD) → Buf (Elt Ideal) ((c.tc : Thread Cert.SumOneIdeal.nD Cert.SumOneIdeal.τ).loc Cert.SumOneIdeal.main_v0)),
      θ_run (Cert.SumOneIdeal.defs (F := Ideal)) (onTc (τ := Cert.SumOneIdeal.τ) (Cert.SumOneIdeal.main (F := Ideal))) ⟨m, fun _ => 0, g⟩ (fun r => ∀ c : Dev Cert.SumOneIdeal.nD,
          r.2.mem ((c.tc : Thread Cert.SumOneIdeal.nD Cert.SumOneIdeal.τ).loc Cert.SumOneIdeal.main_v0) = v0 c
          ∧ r.2.mem ((c.tc : Thread Cert.SumOneIdeal.nD Cert.SumOneIdeal.τ).loc Cert.SumOneIdeal.main_arg0) = m ((c.tc : Thread Cert.SumOneIdeal.nD Cert.SumOneIdeal.τ).loc Cert.SumOneIdeal.main_arg0))
      ∧ θ_run (Cert.SumOneRefIdeal.defs (F := Ideal)) (onTc (τ := Cert.SumOneRefIdeal.τ) (Cert.SumOneRefIdeal.main (F := Ideal))) ⟨m', fun _ => 0, g'⟩ (fun r => ∀ c : Dev Cert.SumOneRefIdeal.nD,
          r.2.mem ((c.tc : Thread Cert.SumOneRefIdeal.nD Cert.SumOneRefIdeal.τ).loc Cert.SumOneRefIdeal.main_v1) = v0 c
          ∧ r.2.mem ((c.tc : Thread Cert.SumOneRefIdeal.nD Cert.SumOneRefIdeal.τ).loc Cert.SumOneRefIdeal.main_arg0) = m' ((c.tc : Thread Cert.SumOneRefIdeal.nD Cert.SumOneRefIdeal.τ).loc Cert.SumOneRefIdeal.main_arg0))

def preserves_SumMix_SumMixIdeal : Prop :=
  True

def algebraic_SumMixIdeal_SumMixRefIdeal [hSumMixIdeal : Cert.SumMixIdeal.Facts] [hSumMixRefIdeal : Cert.SumMixRefIdeal.Facts] : Prop :=
  ∀ (m : (ℓ : Loc Cert.SumMixIdeal.nD Cert.SumMixIdeal.τ Cert.SumMixIdeal.sig) → Buf (Elt Ideal) ℓ) (g : Dev Cert.SumMixIdeal.nD → PrngReg)
    (m' : (ℓ : Loc Cert.SumMixRefIdeal.nD Cert.SumMixRefIdeal.τ Cert.SumMixRefIdeal.sig) → Buf (Elt Ideal) ℓ) (g' : Dev Cert.SumMixRefIdeal.nD → PrngReg), Pre_SumMixIdeal m →
    (∀ c : Dev Cert.SumMixIdeal.nD,
      m' ((c.tc : Thread Cert.SumMixRefIdeal.nD Cert.SumMixRefIdeal.τ).loc Cert.SumMixRefIdeal.main_arg0) = m ((c.tc : Thread Cert.SumMixIdeal.nD Cert.SumMixIdeal.τ).loc Cert.SumMixIdeal.main_arg0)) →
    ∃ (v0 : (c : Dev Cert.SumMixIdeal.nD) → Buf (Elt Ideal) ((c.tc : Thread Cert.SumMixIdeal.nD Cert.SumMixIdeal.τ).loc Cert.SumMixIdeal.main_v0)),
      θ_run (Cert.SumMixIdeal.defs (F := Ideal)) (onTc (τ := Cert.SumMixIdeal.τ) (Cert.SumMixIdeal.main (F := Ideal))) ⟨m, fun _ => 0, g⟩ (fun r => ∀ c : Dev Cert.SumMixIdeal.nD,
          r.2.mem ((c.tc : Thread Cert.SumMixIdeal.nD Cert.SumMixIdeal.τ).loc Cert.SumMixIdeal.main_v0) = v0 c
          ∧ r.2.mem ((c.tc : Thread Cert.SumMixIdeal.nD Cert.SumMixIdeal.τ).loc Cert.SumMixIdeal.main_arg0) = m ((c.tc : Thread Cert.SumMixIdeal.nD Cert.SumMixIdeal.τ).loc Cert.SumMixIdeal.main_arg0))
      ∧ θ_run (Cert.SumMixRefIdeal.defs (F := Ideal)) (onTc (τ := Cert.SumMixRefIdeal.τ) (Cert.SumMixRefIdeal.main (F := Ideal))) ⟨m', fun _ => 0, g'⟩ (fun r => ∀ c : Dev Cert.SumMixRefIdeal.nD,
          r.2.mem ((c.tc : Thread Cert.SumMixRefIdeal.nD Cert.SumMixRefIdeal.τ).loc Cert.SumMixRefIdeal.main_v1) = v0 c
          ∧ r.2.mem ((c.tc : Thread Cert.SumMixRefIdeal.nD Cert.SumMixRefIdeal.τ).loc Cert.SumMixRefIdeal.main_arg0) = m' ((c.tc : Thread Cert.SumMixRefIdeal.nD Cert.SumMixRefIdeal.τ).loc Cert.SumMixRefIdeal.main_arg0))

def preserves_SumMixN_SumMixNIdeal : Prop :=
  True

def algebraic_SumMixNIdeal_SumMixNRefIdeal [hSumMixNIdeal : Cert.SumMixNIdeal.Facts] [hSumMixNRefIdeal : Cert.SumMixNRefIdeal.Facts] : Prop :=
  ∀ (m : (ℓ : Loc Cert.SumMixNIdeal.nD Cert.SumMixNIdeal.τ Cert.SumMixNIdeal.sig) → Buf (Elt Ideal) ℓ) (g : Dev Cert.SumMixNIdeal.nD → PrngReg)
    (m' : (ℓ : Loc Cert.SumMixNRefIdeal.nD Cert.SumMixNRefIdeal.τ Cert.SumMixNRefIdeal.sig) → Buf (Elt Ideal) ℓ) (g' : Dev Cert.SumMixNRefIdeal.nD → PrngReg), Pre_SumMixNIdeal m →
    (∀ c : Dev Cert.SumMixNIdeal.nD,
      m' ((c.tc : Thread Cert.SumMixNRefIdeal.nD Cert.SumMixNRefIdeal.τ).loc Cert.SumMixNRefIdeal.main_arg0) = m ((c.tc : Thread Cert.SumMixNIdeal.nD Cert.SumMixNIdeal.τ).loc Cert.SumMixNIdeal.main_arg0)) →
    ∃ (v0 : (c : Dev Cert.SumMixNIdeal.nD) → Buf (Elt Ideal) ((c.tc : Thread Cert.SumMixNIdeal.nD Cert.SumMixNIdeal.τ).loc Cert.SumMixNIdeal.main_v0)),
      θ_run (Cert.SumMixNIdeal.defs (F := Ideal)) (onTc (τ := Cert.SumMixNIdeal.τ) (Cert.SumMixNIdeal.main (F := Ideal))) ⟨m, fun _ => 0, g⟩ (fun r => ∀ c : Dev Cert.SumMixNIdeal.nD,
          r.2.mem ((c.tc : Thread Cert.SumMixNIdeal.nD Cert.SumMixNIdeal.τ).loc Cert.SumMixNIdeal.main_v0) = v0 c
          ∧ r.2.mem ((c.tc : Thread Cert.SumMixNIdeal.nD Cert.SumMixNIdeal.τ).loc Cert.SumMixNIdeal.main_arg0) = m ((c.tc : Thread Cert.SumMixNIdeal.nD Cert.SumMixNIdeal.τ).loc Cert.SumMixNIdeal.main_arg0))
      ∧ θ_run (Cert.SumMixNRefIdeal.defs (F := Ideal)) (onTc (τ := Cert.SumMixNRefIdeal.τ) (Cert.SumMixNRefIdeal.main (F := Ideal))) ⟨m', fun _ => 0, g'⟩ (fun r => ∀ c : Dev Cert.SumMixNRefIdeal.nD,
          r.2.mem ((c.tc : Thread Cert.SumMixNRefIdeal.nD Cert.SumMixNRefIdeal.τ).loc Cert.SumMixNRefIdeal.main_v1) = v0 c
          ∧ r.2.mem ((c.tc : Thread Cert.SumMixNRefIdeal.nD Cert.SumMixNRefIdeal.τ).loc Cert.SumMixNRefIdeal.main_arg0) = m' ((c.tc : Thread Cert.SumMixNRefIdeal.nD Cert.SumMixNRefIdeal.τ).loc Cert.SumMixNRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumLast_SumLastIdeal : Prop :=
  True

def algebraic_SumLastIdeal_SumLastRefIdeal [hSumLastIdeal : Cert.SumLastIdeal.Facts] [hSumLastRefIdeal : Cert.SumLastRefIdeal.Facts] : Prop :=
  ∀ (m : (ℓ : Loc Cert.SumLastIdeal.nD Cert.SumLastIdeal.τ Cert.SumLastIdeal.sig) → Buf (Elt Ideal) ℓ) (g : Dev Cert.SumLastIdeal.nD → PrngReg)
    (m' : (ℓ : Loc Cert.SumLastRefIdeal.nD Cert.SumLastRefIdeal.τ Cert.SumLastRefIdeal.sig) → Buf (Elt Ideal) ℓ) (g' : Dev Cert.SumLastRefIdeal.nD → PrngReg), Pre_SumLastIdeal m →
    (∀ c : Dev Cert.SumLastIdeal.nD,
      m' ((c.tc : Thread Cert.SumLastRefIdeal.nD Cert.SumLastRefIdeal.τ).loc Cert.SumLastRefIdeal.main_arg0) = m ((c.tc : Thread Cert.SumLastIdeal.nD Cert.SumLastIdeal.τ).loc Cert.SumLastIdeal.main_arg0)) →
    ∃ (v0 : (c : Dev Cert.SumLastIdeal.nD) → Buf (Elt Ideal) ((c.tc : Thread Cert.SumLastIdeal.nD Cert.SumLastIdeal.τ).loc Cert.SumLastIdeal.main_v0)),
      θ_run (Cert.SumLastIdeal.defs (F := Ideal)) (onTc (τ := Cert.SumLastIdeal.τ) (Cert.SumLastIdeal.main (F := Ideal))) ⟨m, fun _ => 0, g⟩ (fun r => ∀ c : Dev Cert.SumLastIdeal.nD,
          r.2.mem ((c.tc : Thread Cert.SumLastIdeal.nD Cert.SumLastIdeal.τ).loc Cert.SumLastIdeal.main_v0) = v0 c
          ∧ r.2.mem ((c.tc : Thread Cert.SumLastIdeal.nD Cert.SumLastIdeal.τ).loc Cert.SumLastIdeal.main_arg0) = m ((c.tc : Thread Cert.SumLastIdeal.nD Cert.SumLastIdeal.τ).loc Cert.SumLastIdeal.main_arg0))
      ∧ θ_run (Cert.SumLastRefIdeal.defs (F := Ideal)) (onTc (τ := Cert.SumLastRefIdeal.τ) (Cert.SumLastRefIdeal.main (F := Ideal))) ⟨m', fun _ => 0, g'⟩ (fun r => ∀ c : Dev Cert.SumLastRefIdeal.nD,
          r.2.mem ((c.tc : Thread Cert.SumLastRefIdeal.nD Cert.SumLastRefIdeal.τ).loc Cert.SumLastRefIdeal.main_v0) = v0 c
          ∧ r.2.mem ((c.tc : Thread Cert.SumLastRefIdeal.nD Cert.SumLastRefIdeal.τ).loc Cert.SumLastRefIdeal.main_arg0) = m' ((c.tc : Thread Cert.SumLastRefIdeal.nD Cert.SumLastRefIdeal.τ).loc Cert.SumLastRefIdeal.main_arg0))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)) →
    ∃ (v0 : (c : Dev Cert.FinalLossIdeal.nD) → Buf (Elt Ideal) ((c.tc : Thread Cert.FinalLossIdeal.nD Cert.FinalLossIdeal.τ).loc Cert.FinalLossIdeal.main_v1_0)) (v1 : (c : Dev Cert.FinalLossIdeal.nD) → Buf (Elt Ideal) ((c.tc : Thread Cert.FinalLossIdeal.nD Cert.FinalLossIdeal.τ).loc Cert.FinalLossIdeal.main_v1_1)) (v2 : (c : Dev Cert.FinalLossIdeal.nD) → Buf (Elt Ideal) ((c.tc : Thread Cert.FinalLossIdeal.nD Cert.FinalLossIdeal.τ).loc Cert.FinalLossIdeal.main_v1_2)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v1_0) = v0 c
          ∧ r.2.mem ((c.tc : Thread Cert.FinalLossIdeal.nD Cert.FinalLossIdeal.τ).loc Cert.FinalLossIdeal.main_v1_1) = v1 c
          ∧ r.2.mem ((c.tc : Thread Cert.FinalLossIdeal.nD Cert.FinalLossIdeal.τ).loc Cert.FinalLossIdeal.main_v1_2) = v2 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v51) = v0 c
          ∧ r.2.mem ((c.tc : Thread Cert.FinalLossRefIdeal.nD Cert.FinalLossRefIdeal.τ).loc Cert.FinalLossRefIdeal.main_v52) = v1 c
          ∧ r.2.mem ((c.tc : Thread Cert.FinalLossRefIdeal.nD Cert.FinalLossRefIdeal.τ).loc Cert.FinalLossRefIdeal.main_v34) = v2 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)
      ∧ m' ((c.tc : Thread Cert.MixInRefIdeal.nD Cert.MixInRefIdeal.τ).loc Cert.MixInRefIdeal.main_arg6) = m ((c.tc : Thread Cert.MixInIdeal.nD Cert.MixInIdeal.τ).loc Cert.MixInIdeal.main_arg6)
      ∧ m' ((c.tc : Thread Cert.MixInRefIdeal.nD Cert.MixInRefIdeal.τ).loc Cert.MixInRefIdeal.main_arg7) = m ((c.tc : Thread Cert.MixInIdeal.nD Cert.MixInIdeal.τ).loc Cert.MixInIdeal.main_arg7)
      ∧ m' ((c.tc : Thread Cert.MixInRefIdeal.nD Cert.MixInRefIdeal.τ).loc Cert.MixInRefIdeal.main_arg8) = m ((c.tc : Thread Cert.MixInIdeal.nD Cert.MixInIdeal.τ).loc Cert.MixInIdeal.main_arg8)
      ∧ m' ((c.tc : Thread Cert.MixInRefIdeal.nD Cert.MixInRefIdeal.τ).loc Cert.MixInRefIdeal.main_arg9) = m ((c.tc : Thread Cert.MixInIdeal.nD Cert.MixInIdeal.τ).loc Cert.MixInIdeal.main_arg9)
      ∧ m' ((c.tc : Thread Cert.MixInRefIdeal.nD Cert.MixInRefIdeal.τ).loc Cert.MixInRefIdeal.main_arg10) = m ((c.tc : Thread Cert.MixInIdeal.nD Cert.MixInIdeal.τ).loc Cert.MixInIdeal.main_arg10)
      ∧ m' ((c.tc : Thread Cert.MixInRefIdeal.nD Cert.MixInRefIdeal.τ).loc Cert.MixInRefIdeal.main_arg11) = m ((c.tc : Thread Cert.MixInIdeal.nD Cert.MixInIdeal.τ).loc Cert.MixInIdeal.main_arg11)) →
    ∃ (v0 : (c : Dev Cert.MixInIdeal.nD) → Buf (Elt Ideal) ((c.tc : Thread Cert.MixInIdeal.nD Cert.MixInIdeal.τ).loc Cert.MixInIdeal.main_v20_0)) (v1 : (c : Dev Cert.MixInIdeal.nD) → Buf (Elt Ideal) ((c.tc : Thread Cert.MixInIdeal.nD Cert.MixInIdeal.τ).loc Cert.MixInIdeal.main_v20_1)) (v2 : (c : Dev Cert.MixInIdeal.nD) → Buf (Elt Ideal) ((c.tc : Thread Cert.MixInIdeal.nD Cert.MixInIdeal.τ).loc Cert.MixInIdeal.main_v20_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v20_0) = v0 c
          ∧ r.2.mem ((c.tc : Thread Cert.MixInIdeal.nD Cert.MixInIdeal.τ).loc Cert.MixInIdeal.main_v20_1) = v1 c
          ∧ r.2.mem ((c.tc : Thread Cert.MixInIdeal.nD Cert.MixInIdeal.τ).loc Cert.MixInIdeal.main_v20_2) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
          ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
          ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
          ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
          ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10)
          ∧ r.2.mem ((c.tc : Thread Cert.MixInIdeal.nD Cert.MixInIdeal.τ).loc Cert.MixInIdeal.main_arg11) = m ((c.tc : Thread Cert.MixInIdeal.nD Cert.MixInIdeal.τ).loc Cert.MixInIdeal.main_arg11))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v60) = v0 c
          ∧ r.2.mem ((c.tc : Thread Cert.MixInRefIdeal.nD Cert.MixInRefIdeal.τ).loc Cert.MixInRefIdeal.main_v62) = v1 c
          ∧ r.2.mem ((c.tc : Thread Cert.MixInRefIdeal.nD Cert.MixInRefIdeal.τ).loc Cert.MixInRefIdeal.main_v42) = v2 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5)
          ∧ r.2.mem ((c.tc : Thread Cert.MixInRefIdeal.nD Cert.MixInRefIdeal.τ).loc Cert.MixInRefIdeal.main_arg6) = m' ((c.tc : Thread Cert.MixInRefIdeal.nD Cert.MixInRefIdeal.τ).loc Cert.MixInRefIdeal.main_arg6)
          ∧ r.2.mem ((c.tc : Thread Cert.MixInRefIdeal.nD Cert.MixInRefIdeal.τ).loc Cert.MixInRefIdeal.main_arg7) = m' ((c.tc : Thread Cert.MixInRefIdeal.nD Cert.MixInRefIdeal.τ).loc Cert.MixInRefIdeal.main_arg7)
          ∧ r.2.mem ((c.tc : Thread Cert.MixInRefIdeal.nD Cert.MixInRefIdeal.τ).loc Cert.MixInRefIdeal.main_arg8) = m' ((c.tc : Thread Cert.MixInRefIdeal.nD Cert.MixInRefIdeal.τ).loc Cert.MixInRefIdeal.main_arg8)
          ∧ r.2.mem ((c.tc : Thread Cert.MixInRefIdeal.nD Cert.MixInRefIdeal.τ).loc Cert.MixInRefIdeal.main_arg9) = m' ((c.tc : Thread Cert.MixInRefIdeal.nD Cert.MixInRefIdeal.τ).loc Cert.MixInRefIdeal.main_arg9)
          ∧ r.2.mem ((c.tc : Thread Cert.MixInRefIdeal.nD Cert.MixInRefIdeal.τ).loc Cert.MixInRefIdeal.main_arg10) = m' ((c.tc : Thread Cert.MixInRefIdeal.nD Cert.MixInRefIdeal.τ).loc Cert.MixInRefIdeal.main_arg10)
          ∧ r.2.mem ((c.tc : Thread Cert.MixInRefIdeal.nD Cert.MixInRefIdeal.τ).loc Cert.MixInRefIdeal.main_arg11) = m' ((c.tc : Thread Cert.MixInRefIdeal.nD Cert.MixInRefIdeal.τ).loc Cert.MixInRefIdeal.main_arg11))

def Claim : Prop :=
  ∃ (hFfnIn : Cert.FfnIn.Facts) (hFfnInIdeal : Cert.FfnInIdeal.Facts) (hFfnInRefIdeal : Cert.FfnInRefIdeal.Facts) (hFfnAct : Cert.FfnAct.Facts) (hFfnActIdeal : Cert.FfnActIdeal.Facts) (hFfnActRefIdeal : Cert.FfnActRefIdeal.Facts) (hFfnDw : Cert.FfnDw.Facts) (hFfnDwIdeal : Cert.FfnDwIdeal.Facts) (hFfnDwRefIdeal : Cert.FfnDwRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hMixProj : Cert.MixProj.Facts) (hMixProjIdeal : Cert.MixProjIdeal.Facts) (hMixProjRefIdeal : Cert.MixProjRefIdeal.Facts) (hMixDw : Cert.MixDw.Facts) (hMixDwIdeal : Cert.MixDwIdeal.Facts) (hMixDwRefIdeal : Cert.MixDwRefIdeal.Facts) (hAdMeta : Cert.AdMeta.Facts) (hAdMetaIdeal : Cert.AdMetaIdeal.Facts) (hAdMetaRefIdeal : Cert.AdMetaRefIdeal.Facts) (hAdNorm : Cert.AdNorm.Facts) (hAdNormIdeal : Cert.AdNormIdeal.Facts) (hAdNormRefIdeal : Cert.AdNormRefIdeal.Facts) (hAdUp : Cert.AdUp.Facts) (hAdUpIdeal : Cert.AdUpIdeal.Facts) (hAdUpRefIdeal : Cert.AdUpRefIdeal.Facts) (hAdDown : Cert.AdDown.Facts) (hAdDownIdeal : Cert.AdDownIdeal.Facts) (hAdDownRefIdeal : Cert.AdDownRefIdeal.Facts) (hAdWin : Cert.AdWin.Facts) (hAdWinIdeal : Cert.AdWinIdeal.Facts) (hAdWinRefIdeal : Cert.AdWinRefIdeal.Facts) (hAdLam : Cert.AdLam.Facts) (hAdLamIdeal : Cert.AdLamIdeal.Facts) (hAdLamRefIdeal : Cert.AdLamRefIdeal.Facts) (hAdDt : Cert.AdDt.Facts) (hAdDtIdeal : Cert.AdDtIdeal.Facts) (hAdDtRefIdeal : Cert.AdDtRefIdeal.Facts) (hAdB : Cert.AdB.Facts) (hAdBIdeal : Cert.AdBIdeal.Facts) (hAdBRefIdeal : Cert.AdBRefIdeal.Facts) (hAdC : Cert.AdC.Facts) (hAdCIdeal : Cert.AdCIdeal.Facts) (hAdCRefIdeal : Cert.AdCRefIdeal.Facts) (hAdD : Cert.AdD.Facts) (hAdDIdeal : Cert.AdDIdeal.Facts) (hAdDRefIdeal : Cert.AdDRefIdeal.Facts) (hAdGlu : Cert.AdGlu.Facts) (hAdGluIdeal : Cert.AdGluIdeal.Facts) (hAdGluRefIdeal : Cert.AdGluRefIdeal.Facts) (hAdSink : Cert.AdSink.Facts) (hAdSinkIdeal : Cert.AdSinkIdeal.Facts) (hAdSinkRefIdeal : Cert.AdSinkRefIdeal.Facts) (hAdBs : Cert.AdBs.Facts) (hAdBsIdeal : Cert.AdBsIdeal.Facts) (hAdBsRefIdeal : Cert.AdBsRefIdeal.Facts) (hAdBa : Cert.AdBa.Facts) (hAdBaIdeal : Cert.AdBaIdeal.Facts) (hAdBaRefIdeal : Cert.AdBaRefIdeal.Facts) (hAdFinal : Cert.AdFinal.Facts) (hAdFinalIdeal : Cert.AdFinalIdeal.Facts) (hAdFinalRefIdeal : Cert.AdFinalRefIdeal.Facts) (hSumFfn : Cert.SumFfn.Facts) (hSumFfnIdeal : Cert.SumFfnIdeal.Facts) (hSumFfnRefIdeal : Cert.SumFfnRefIdeal.Facts) (hSumOne : Cert.SumOne.Facts) (hSumOneIdeal : Cert.SumOneIdeal.Facts) (hSumOneRefIdeal : Cert.SumOneRefIdeal.Facts) (hSumMix : Cert.SumMix.Facts) (hSumMixIdeal : Cert.SumMixIdeal.Facts) (hSumMixRefIdeal : Cert.SumMixRefIdeal.Facts) (hSumMixN : Cert.SumMixN.Facts) (hSumMixNIdeal : Cert.SumMixNIdeal.Facts) (hSumMixNRefIdeal : Cert.SumMixNRefIdeal.Facts) (hSumSmall : Cert.SumSmall.Facts) (hSumSmallIdeal : Cert.SumSmallIdeal.Facts) (hSumSmallRefIdeal : Cert.SumSmallRefIdeal.Facts) (hSumLast : Cert.SumLast.Facts) (hSumLastIdeal : Cert.SumLastIdeal.Facts) (hSumLastRefIdeal : Cert.SumLastRefIdeal.Facts) (hFinalLoss : Cert.FinalLoss.Facts) (hFinalLossIdeal : Cert.FinalLossIdeal.Facts) (hFinalLossRefIdeal : Cert.FinalLossRefIdeal.Facts) (hMixIn : Cert.MixIn.Facts) (hMixInIdeal : Cert.MixInIdeal.Facts) (hMixInRefIdeal : Cert.MixInRefIdeal.Facts) (hPre_ffn_finite : Cert.Pre_ffn_finite.Facts),
    quiescent_FfnIn (hFfnIn := hFfnIn)
    ∧ quiescent_FfnInIdeal (hFfnInIdeal := hFfnInIdeal)
    ∧ quiescent_FfnInIdeal_pre_ffn_finite (hFfnInIdeal := hFfnInIdeal) (hPre_ffn_finite := hPre_ffn_finite)
    ∧ quiescent_FfnInRefIdeal (hFfnInRefIdeal := hFfnInRefIdeal)
    ∧ quiescent_FfnInRefIdeal_pre_ffn_finite (hFfnInRefIdeal := hFfnInRefIdeal) (hPre_ffn_finite := hPre_ffn_finite)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_FfnDw (hFfnDw := hFfnDw)
    ∧ quiescent_FfnDwIdeal (hFfnDwIdeal := hFfnDwIdeal)
    ∧ quiescent_FfnDwRefIdeal (hFfnDwRefIdeal := hFfnDwRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_MixProj (hMixProj := hMixProj)
    ∧ quiescent_MixProjIdeal (hMixProjIdeal := hMixProjIdeal)
    ∧ quiescent_MixProjRefIdeal (hMixProjRefIdeal := hMixProjRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_AdMeta (hAdMeta := hAdMeta)
    ∧ quiescent_AdMetaIdeal (hAdMetaIdeal := hAdMetaIdeal)
    ∧ quiescent_AdMetaRefIdeal (hAdMetaRefIdeal := hAdMetaRefIdeal)
    ∧ quiescent_AdNorm (hAdNorm := hAdNorm)
    ∧ quiescent_AdNormIdeal (hAdNormIdeal := hAdNormIdeal)
    ∧ quiescent_AdNormRefIdeal (hAdNormRefIdeal := hAdNormRefIdeal)
    ∧ quiescent_AdUp (hAdUp := hAdUp)
    ∧ quiescent_AdUpIdeal (hAdUpIdeal := hAdUpIdeal)
    ∧ quiescent_AdUpRefIdeal (hAdUpRefIdeal := hAdUpRefIdeal)
    ∧ quiescent_AdDown (hAdDown := hAdDown)
    ∧ quiescent_AdDownIdeal (hAdDownIdeal := hAdDownIdeal)
    ∧ quiescent_AdDownRefIdeal (hAdDownRefIdeal := hAdDownRefIdeal)
    ∧ quiescent_AdWin (hAdWin := hAdWin)
    ∧ quiescent_AdWinIdeal (hAdWinIdeal := hAdWinIdeal)
    ∧ quiescent_AdWinRefIdeal (hAdWinRefIdeal := hAdWinRefIdeal)
    ∧ quiescent_AdLam (hAdLam := hAdLam)
    ∧ quiescent_AdLamIdeal (hAdLamIdeal := hAdLamIdeal)
    ∧ quiescent_AdLamRefIdeal (hAdLamRefIdeal := hAdLamRefIdeal)
    ∧ quiescent_AdDt (hAdDt := hAdDt)
    ∧ quiescent_AdDtIdeal (hAdDtIdeal := hAdDtIdeal)
    ∧ quiescent_AdDtRefIdeal (hAdDtRefIdeal := hAdDtRefIdeal)
    ∧ quiescent_AdB (hAdB := hAdB)
    ∧ quiescent_AdBIdeal (hAdBIdeal := hAdBIdeal)
    ∧ quiescent_AdBRefIdeal (hAdBRefIdeal := hAdBRefIdeal)
    ∧ quiescent_AdC (hAdC := hAdC)
    ∧ quiescent_AdCIdeal (hAdCIdeal := hAdCIdeal)
    ∧ quiescent_AdCRefIdeal (hAdCRefIdeal := hAdCRefIdeal)
    ∧ quiescent_AdD (hAdD := hAdD)
    ∧ quiescent_AdDIdeal (hAdDIdeal := hAdDIdeal)
    ∧ quiescent_AdDRefIdeal (hAdDRefIdeal := hAdDRefIdeal)
    ∧ quiescent_AdGlu (hAdGlu := hAdGlu)
    ∧ quiescent_AdGluIdeal (hAdGluIdeal := hAdGluIdeal)
    ∧ quiescent_AdGluRefIdeal (hAdGluRefIdeal := hAdGluRefIdeal)
    ∧ quiescent_AdSink (hAdSink := hAdSink)
    ∧ quiescent_AdSinkIdeal (hAdSinkIdeal := hAdSinkIdeal)
    ∧ quiescent_AdSinkRefIdeal (hAdSinkRefIdeal := hAdSinkRefIdeal)
    ∧ quiescent_AdBs (hAdBs := hAdBs)
    ∧ quiescent_AdBsIdeal (hAdBsIdeal := hAdBsIdeal)
    ∧ quiescent_AdBsRefIdeal (hAdBsRefIdeal := hAdBsRefIdeal)
    ∧ quiescent_AdBa (hAdBa := hAdBa)
    ∧ quiescent_AdBaIdeal (hAdBaIdeal := hAdBaIdeal)
    ∧ quiescent_AdBaRefIdeal (hAdBaRefIdeal := hAdBaRefIdeal)
    ∧ quiescent_AdFinal (hAdFinal := hAdFinal)
    ∧ quiescent_AdFinalIdeal (hAdFinalIdeal := hAdFinalIdeal)
    ∧ quiescent_AdFinalRefIdeal (hAdFinalRefIdeal := hAdFinalRefIdeal)
    ∧ quiescent_SumFfn (hSumFfn := hSumFfn)
    ∧ quiescent_SumFfnIdeal (hSumFfnIdeal := hSumFfnIdeal)
    ∧ quiescent_SumFfnRefIdeal (hSumFfnRefIdeal := hSumFfnRefIdeal)
    ∧ quiescent_SumOne (hSumOne := hSumOne)
    ∧ quiescent_SumOneIdeal (hSumOneIdeal := hSumOneIdeal)
    ∧ quiescent_SumOneRefIdeal (hSumOneRefIdeal := hSumOneRefIdeal)
    ∧ quiescent_SumMix (hSumMix := hSumMix)
    ∧ quiescent_SumMixIdeal (hSumMixIdeal := hSumMixIdeal)
    ∧ quiescent_SumMixRefIdeal (hSumMixRefIdeal := hSumMixRefIdeal)
    ∧ quiescent_SumMixN (hSumMixN := hSumMixN)
    ∧ quiescent_SumMixNIdeal (hSumMixNIdeal := hSumMixNIdeal)
    ∧ quiescent_SumMixNRefIdeal (hSumMixNRefIdeal := hSumMixNRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumLast (hSumLast := hSumLast)
    ∧ quiescent_SumLastIdeal (hSumLastIdeal := hSumLastIdeal)
    ∧ quiescent_SumLastRefIdeal (hSumLastRefIdeal := hSumLastRefIdeal)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ quiescent_MixIn (hMixIn := hMixIn)
    ∧ quiescent_MixInIdeal (hMixInIdeal := hMixInIdeal)
    ∧ quiescent_MixInRefIdeal (hMixInRefIdeal := hMixInRefIdeal)
    ∧ preserves_FfnIn_FfnInIdeal
    ∧ algebraic_FfnInIdeal_FfnInRefIdeal_pre_ffn_finite (hFfnInIdeal := hFfnInIdeal) (hFfnInRefIdeal := hFfnInRefIdeal) (hPre_ffn_finite := hPre_ffn_finite)
    ∧ preserves_FfnAct_FfnActIdeal
    ∧ algebraic_FfnActIdeal_FfnActRefIdeal (hFfnActIdeal := hFfnActIdeal) (hFfnActRefIdeal := hFfnActRefIdeal)
    ∧ preserves_FfnDw_FfnDwIdeal
    ∧ algebraic_FfnDwIdeal_FfnDwRefIdeal (hFfnDwIdeal := hFfnDwIdeal) (hFfnDwRefIdeal := hFfnDwRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_MixProj_MixProjIdeal
    ∧ algebraic_MixProjIdeal_MixProjRefIdeal (hMixProjIdeal := hMixProjIdeal) (hMixProjRefIdeal := hMixProjRefIdeal)
    ∧ preserves_MixDw_MixDwIdeal
    ∧ algebraic_MixDwIdeal_MixDwRefIdeal (hMixDwIdeal := hMixDwIdeal) (hMixDwRefIdeal := hMixDwRefIdeal)
    ∧ preserves_AdMeta_AdMetaIdeal
    ∧ algebraic_AdMetaIdeal_AdMetaRefIdeal (hAdMetaIdeal := hAdMetaIdeal) (hAdMetaRefIdeal := hAdMetaRefIdeal)
    ∧ preserves_AdNorm_AdNormIdeal
    ∧ algebraic_AdNormIdeal_AdNormRefIdeal (hAdNormIdeal := hAdNormIdeal) (hAdNormRefIdeal := hAdNormRefIdeal)
    ∧ preserves_AdUp_AdUpIdeal
    ∧ algebraic_AdUpIdeal_AdUpRefIdeal (hAdUpIdeal := hAdUpIdeal) (hAdUpRefIdeal := hAdUpRefIdeal)
    ∧ preserves_AdDown_AdDownIdeal
    ∧ algebraic_AdDownIdeal_AdDownRefIdeal (hAdDownIdeal := hAdDownIdeal) (hAdDownRefIdeal := hAdDownRefIdeal)
    ∧ preserves_AdWin_AdWinIdeal
    ∧ algebraic_AdWinIdeal_AdWinRefIdeal (hAdWinIdeal := hAdWinIdeal) (hAdWinRefIdeal := hAdWinRefIdeal)
    ∧ preserves_AdLam_AdLamIdeal
    ∧ algebraic_AdLamIdeal_AdLamRefIdeal (hAdLamIdeal := hAdLamIdeal) (hAdLamRefIdeal := hAdLamRefIdeal)
    ∧ preserves_AdDt_AdDtIdeal
    ∧ algebraic_AdDtIdeal_AdDtRefIdeal (hAdDtIdeal := hAdDtIdeal) (hAdDtRefIdeal := hAdDtRefIdeal)
    ∧ preserves_AdB_AdBIdeal
    ∧ algebraic_AdBIdeal_AdBRefIdeal (hAdBIdeal := hAdBIdeal) (hAdBRefIdeal := hAdBRefIdeal)
    ∧ preserves_AdC_AdCIdeal
    ∧ algebraic_AdCIdeal_AdCRefIdeal (hAdCIdeal := hAdCIdeal) (hAdCRefIdeal := hAdCRefIdeal)
    ∧ preserves_AdD_AdDIdeal
    ∧ algebraic_AdDIdeal_AdDRefIdeal (hAdDIdeal := hAdDIdeal) (hAdDRefIdeal := hAdDRefIdeal)
    ∧ preserves_AdGlu_AdGluIdeal
    ∧ algebraic_AdGluIdeal_AdGluRefIdeal (hAdGluIdeal := hAdGluIdeal) (hAdGluRefIdeal := hAdGluRefIdeal)
    ∧ preserves_AdSink_AdSinkIdeal
    ∧ algebraic_AdSinkIdeal_AdSinkRefIdeal (hAdSinkIdeal := hAdSinkIdeal) (hAdSinkRefIdeal := hAdSinkRefIdeal)
    ∧ preserves_AdBs_AdBsIdeal
    ∧ algebraic_AdBsIdeal_AdBsRefIdeal (hAdBsIdeal := hAdBsIdeal) (hAdBsRefIdeal := hAdBsRefIdeal)
    ∧ preserves_AdBa_AdBaIdeal
    ∧ algebraic_AdBaIdeal_AdBaRefIdeal (hAdBaIdeal := hAdBaIdeal) (hAdBaRefIdeal := hAdBaRefIdeal)
    ∧ preserves_AdFinal_AdFinalIdeal
    ∧ algebraic_AdFinalIdeal_AdFinalRefIdeal (hAdFinalIdeal := hAdFinalIdeal) (hAdFinalRefIdeal := hAdFinalRefIdeal)
    ∧ preserves_SumFfn_SumFfnIdeal
    ∧ algebraic_SumFfnIdeal_SumFfnRefIdeal (hSumFfnIdeal := hSumFfnIdeal) (hSumFfnRefIdeal := hSumFfnRefIdeal)
    ∧ preserves_SumOne_SumOneIdeal
    ∧ algebraic_SumOneIdeal_SumOneRefIdeal (hSumOneIdeal := hSumOneIdeal) (hSumOneRefIdeal := hSumOneRefIdeal)
    ∧ preserves_SumMix_SumMixIdeal
    ∧ algebraic_SumMixIdeal_SumMixRefIdeal (hSumMixIdeal := hSumMixIdeal) (hSumMixRefIdeal := hSumMixRefIdeal)
    ∧ preserves_SumMixN_SumMixNIdeal
    ∧ algebraic_SumMixNIdeal_SumMixNRefIdeal (hSumMixNIdeal := hSumMixNIdeal) (hSumMixNRefIdeal := hSumMixNRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumLast_SumLastIdeal
    ∧ algebraic_SumLastIdeal_SumLastRefIdeal (hSumLastIdeal := hSumLastIdeal) (hSumLastRefIdeal := hSumLastRefIdeal)
    ∧ preserves_FinalLoss_FinalLossIdeal
    ∧ algebraic_FinalLossIdeal_FinalLossRefIdeal (hFinalLossIdeal := hFinalLossIdeal) (hFinalLossRefIdeal := hFinalLossRefIdeal)
    ∧ preserves_MixIn_MixInIdeal
    ∧ algebraic_MixInIdeal_MixInRefIdeal (hMixInIdeal := hMixInIdeal) (hMixInRefIdeal := hMixInRefIdeal)
-- ==== Pre_ffn_finite.lean ====
abbrev S16400x2816 : Shape := ⟨2, ![16400, 2816]⟩
abbrev S16400x1024 : Shape := ⟨2, ![16400, 1024]⟩
abbrev S1x1024 : Shape := ⟨2, ![1, 1024]⟩
abbrev S1024x2816 : Shape := ⟨2, ![1024, 2816]⟩
abbrev S_ : Shape := ⟨0, ![]⟩

class Facts : Prop where
  bcast_S_S16400x2816 : S_.BroadcastsInDim S16400x2816 (![] : Fin 0 → Fin S16400x2816.rank)
  reducesTo_S16400x2816_S_d0_1 : S16400x2816.ReducesTo [0, 1] S_
  h_S_ : 0 < S_.numel
  bcast_S_S16400x1024 : S_.BroadcastsInDim S16400x1024 (![] : Fin 0 → Fin S16400x1024.rank)
  reducesTo_S16400x1024_S_d0_1 : S16400x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_arg5 : FVec F S1024x2816 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg5
  let main_cst_6 : FVec F S_ .f32 := constant S_ .f32 0x7F61B1E6#32
  let main_v20 : FVec F S1024x2816 .f32 := broadcastInDim S1024x2816 ![] bcast_S_S1024x2816 main_cst_6
  let main_v21 : IVec S1024x2816 1 := cmpf .ole main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  main_v23

def fn {F : FTy → Type} [FloatOps F] (main_arg0 : FVec F S16400x2816 .f32) (main_arg1 : FVec F S16400x1024 .f32) (main_arg2 : FVec F S16400x1024 .f32) (main_arg3 : FVec F S1x1024 .f32) (main_arg4 : FVec F S1024x2816 .f32) (main_arg5 : FVec F S1024x2816 .f32) : IVec S_ 1 :=
  let main_v0 : FVec F S16400x2816 .f32 := Host.absf main_arg0
  let main_cst : FVec F S_ .f32 := constant S_ .f32 0x7F61B1E6#32
  let main_v1 : FVec F S16400x2816 .f32 := broadcastInDim S16400x2816 ![] bcast_S_S16400x2816 main_cst
  let main_v2 : IVec S16400x2816 1 := cmpf .ole main_v0 main_v1
  let main_c : IVec S_ 1 := constantI S_ 1 1#1
  let main_v3 : IVec S_ 1 := (fun x v => Host.reduce IntOp.andi x v reducesTo_S16400x2816_S_d0_1 h_S_) main_v2 main_c
  let main_v4 : FVec F S16400x1024 .f32 := Host.absf main_arg2
  let main_cst_0 : FVec F S_ .f32 := constant S_ .f32 0x7F61B1E6#32
  let main_v5 : FVec F S16400x1024 .f32 := broadcastInDim S16400x1024 ![] bcast_S_S16400x1024 main_cst_0
  let main_v6 : IVec S16400x1024 1 := cmpf .ole main_v4 main_v5
  let main_c_1 : IVec S_ 1 := constantI S_ 1 1#1
  let main_v7 : IVec S_ 1 := (fun x v => Host.reduce IntOp.andi x v reducesTo_S16400x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F61B1E6#32
  let main_v10 : FVec F S1x1024 .f32 := broadcastInDim S1x1024 ![] bcast_S_S1x1024 main_cst_2
  let main_v11 : IVec S1x1024 1 := cmpf .ole main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x2816 .f32 := Host.absf main_arg4
  let main_cst_4 : FVec F S_ .f32 := constant S_ .f32 0x7F61B1E6#32
  let main_v15 : FVec F S1024x2816 .f32 := broadcastInDim S1024x2816 ![] bcast_S_S1024x2816 main_cst_4
  let main_v16 : IVec S1024x2816 1 := cmpf .ole main_v14 main_v15
  fn_part1 (F := F) main_arg5 main_v13 main_v16
-- ==== FfnIn.lean ====
abbrev S16400x2816 : Shape := ⟨2, ![16400, 2816]⟩
abbrev S16400x1024 : Shape := ⟨2, ![16400, 1024]⟩
abbrev S1x1024 : Shape := ⟨2, ![1, 1024]⟩
abbrev S1024x2816 : Shape := ⟨2, ![1024, 2816]⟩
abbrev S_ : Shape := ⟨0, ![]⟩
abbrev S16400 : Shape := ⟨1, ![16400]⟩
abbrev S16400x1 : Shape := ⟨2, ![16400, 1]⟩
abbrev S16512x2816 : Shape := ⟨2, ![16512, 2816]⟩
abbrev S16512x1024 : Shape := ⟨2, ![16512, 1024]⟩
abbrev S2816x1024 : Shape := ⟨2, ![2816, 1024]⟩
abbrev S384x2816 : Shape := ⟨2, ![384, 2816]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 49
  | .vmem => 20
  | .smem => 0
  | _ => 0

abbrev bufTy : (tb : Table) → Fin (tcTables nBuf tb) → BufTy
  | .hbm, ⟨0, _⟩ => ⟨S16400x2816, .f32⟩
  | .hbm, ⟨1, _⟩ => ⟨S16400x1024, .f32⟩
  | .hbm, ⟨2, _⟩ => ⟨S16400x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S16400x1024, .f32⟩
  | .hbm, ⟨7, _⟩ => ⟨S_, .f32⟩
  | .hbm, ⟨8, _⟩ => ⟨S16400, .f32⟩
  | .hbm, ⟨9, _⟩ => ⟨S16400x1, .f32⟩
  | .hbm, ⟨10, _⟩ => ⟨S_, .f32⟩
  | .hbm, ⟨11, _⟩ => ⟨S16400x1, .f32⟩
  | .hbm, ⟨12, _⟩ => ⟨S16400x1, .f32⟩
  | .hbm, ⟨13, _⟩ => ⟨S_, .f32⟩
  | .hbm, ⟨14, _⟩ => ⟨S16400x1, .f32⟩
  | .hbm, ⟨15, _⟩ => ⟨S16400x1, .f32⟩
  | .hbm, ⟨16, _⟩ => ⟨S16400x1, .f32⟩
  | .hbm, ⟨17, _⟩ => ⟨S16400x1024, .f32⟩
  | .hbm, ⟨18, _⟩ => ⟨S16400x1024, .f32⟩
  | .hbm, ⟨19, _⟩ => ⟨S16400x1024, .f32⟩
  | .hbm, ⟨20, _⟩ => ⟨S16400x1024, .f32⟩
  | .hbm, ⟨21, _⟩ => ⟨S16400x2816, .f32⟩
  | .hbm, ⟨22, _⟩ => ⟨S16400x2816, .f32⟩
  | .hbm, ⟨23, _⟩ => ⟨S_, .i32⟩
  | .hbm, ⟨24, _⟩ => ⟨S_, .f32⟩
  | .hbm, ⟨25, _⟩ => ⟨S16512x2816, .f32⟩
  | .hbm, ⟨26, _⟩ => ⟨S16512x2816, .bf16⟩
  | .hbm, ⟨27, _⟩ => ⟨S_, .i32⟩
  | .hbm, ⟨28, _⟩ => ⟨S_, .f32⟩
  | .hbm, ⟨29, _⟩ => ⟨S16512x2816, .f32⟩
  | .hbm, ⟨30, _⟩ => ⟨S16512x2816, .bf16⟩
  | .hbm, ⟨31, _⟩ => ⟨S_, .i32⟩
  | .hbm, ⟨32, _⟩ => ⟨S_, .f32⟩
  | .hbm, ⟨33, _⟩ => ⟨S16512x2816, .f32⟩
  | .hbm, ⟨34, _⟩ => ⟨S16512x2816, .bf16⟩
  | .hbm, ⟨35, _⟩ => ⟨S_, .i32⟩
  | .hbm, ⟨36, _⟩ => ⟨S_, .f32⟩
  | .hbm, ⟨37, _⟩ => ⟨S16512x1024, .f32⟩
  | .hbm, ⟨38, _⟩ => ⟨S_, .i32⟩
  | .hbm, ⟨39, _⟩ => ⟨S_, .f32⟩
  | .hbm, ⟨40, _⟩ => ⟨S16512x1024, .f32⟩
  | .hbm, ⟨41, _⟩ => ⟨S2816x1024, .f32⟩
  | .hbm, ⟨42, _⟩ => ⟨S2816x1024, .bf16⟩
  | .hbm, ⟨43, _⟩ => ⟨S2816x1024, .f32⟩
  | .hbm, ⟨44, _⟩ => ⟨S2816x1024, .bf16⟩
  | .hbm, ⟨45, _⟩ => ⟨S16512x1024, .f32⟩
  | .hbm, ⟨46, _⟩ => ⟨S16512x2816, .bf16⟩
  | .hbm, ⟨47, _⟩ => ⟨S16512x2816, .bf16⟩
  | .hbm, ⟨48, _⟩ => ⟨S1x1024, .f32⟩
  | .local _ .vmem, ⟨0, _⟩ => ⟨S384x2816, .bf16⟩
  | .local _ .vmem, ⟨1, _⟩ => ⟨S384x2816, .bf16⟩
  | .local _ .vmem, ⟨2, _⟩ => ⟨S384x2816, .bf16⟩
  | .local _ .vmem, ⟨3, _⟩ => ⟨S384x2816, .bf16⟩
  | .local _ .vmem, ⟨4, _⟩ => ⟨S384x2816, .bf16⟩
  | .local _ .vmem, ⟨5, _⟩ => ⟨S384x2816, .bf16⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S1x1024, .f32⟩
  | .local _ .vmem, ⟨11, _⟩ => ⟨S2816x1024, .bf16⟩
  | .local _ .vmem, ⟨12, _⟩ => ⟨S2816x1024, .bf16⟩
  | .local _ .vmem, ⟨13, _⟩ => ⟨S384x1024, .f32⟩
  | .local _ .vmem, ⟨14, _⟩ => ⟨S384x1024, .f32⟩
  | .local _ .vmem, ⟨15, _⟩ => ⟨S384x2816, .bf16⟩
  | .local _ .vmem, ⟨16, _⟩ => ⟨S384x2816, .bf16⟩
  | .local _ .vmem, ⟨17, _⟩ => ⟨S384x2816, .bf16⟩
  | .local _ .vmem, ⟨18, _⟩ => ⟨S384x2816, .bf16⟩
  | .local _ .vmem, ⟨19, _⟩ => ⟨S1x1024, .f32⟩
  | _, _ => ⟨S16400x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_call2_v0 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_call3_v0 : Ref sig .tc := ⟨.hbm, 36, rfl⟩
abbrev main_v20 : Ref sig .tc := ⟨.hbm, 37, rfl⟩
abbrev main_c_5 : Ref sig .tc := ⟨.hbm, 38, rfl⟩
abbrev main_call4_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26_0 : Ref sig .tc := ⟨.hbm, 45, rfl⟩
abbrev main_v26_1 : Ref sig .tc := ⟨.hbm, 46, rfl⟩
abbrev main_v26_2 : Ref sig .tc := ⟨.hbm, 47, rfl⟩
abbrev main_v26_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnInRefIdeal.lean ====
abbrev S16400x2816 : Shape := ⟨2, ![16400, 2816]⟩
abbrev S16400x1024 : Shape := ⟨2, ![16400, 1024]⟩
abbrev S1x1024 : Shape := ⟨2, ![1, 1024]⟩
abbrev S1024x2816 : Shape := ⟨2, ![1024, 2816]⟩
abbrev S_ : Shape := ⟨0, ![]⟩
abbrev S16400 : Shape := ⟨1, ![16400]⟩
abbrev S16400x1 : Shape := ⟨2, ![16400, 1]⟩
abbrev S1024 : Shape := ⟨1, ![1024]⟩
abbrev S16512x1024 : Shape := ⟨2, ![16512, 1024]⟩
abbrev S16512x2816 : Shape := ⟨2, ![16512, 2816]⟩

abbrev nBuf : Space → Nat
  | .hbm => 85
  | .vmem => 0
  | .smem => 0
  | _ => 0

abbrev bufTy : (tb : Table) → Fin (tcTables nBuf tb) → BufTy
  | .hbm, ⟨0, _⟩ => ⟨S16400x2816, .f32⟩
  | .hbm, ⟨1, _⟩ => ⟨S16400x1024, .f32⟩
  | .hbm, ⟨2, _⟩ => ⟨S16400x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S16400x1024, .f32⟩
  | .hbm, ⟨7, _⟩ => ⟨S_, .f32⟩
  | .hbm, ⟨8, _⟩ => ⟨S16400, .f32⟩
  | .hbm, ⟨9, _⟩ => ⟨S16400x1, .f32⟩
  | .hbm, ⟨10, _⟩ => ⟨S_, .f32⟩
  | .hbm, ⟨11, _⟩ => ⟨S16400x1, .f32⟩
  | .hbm, ⟨12, _⟩ => ⟨S16400x1, .f32⟩
  | .hbm, ⟨13, _⟩ => ⟨S_, .f32⟩
  | .hbm, ⟨14, _⟩ => ⟨S16400x1, .f32⟩
  | .hbm, ⟨15, _⟩ => ⟨S16400x1, .f32⟩
  | .hbm, ⟨16, _⟩ => ⟨S16400x1, .f32⟩
  | .hbm, ⟨17, _⟩ => ⟨S16400x1, .f32⟩
  | .hbm, ⟨18, _⟩ => ⟨S_, .f32⟩
  | .hbm, ⟨19, _⟩ => ⟨S16400x1, .f32⟩
  | .hbm, ⟨20, _⟩ => ⟨S16400x1, .f32⟩
  | .hbm, ⟨21, _⟩ => ⟨S16400x1024, .f32⟩
  | .hbm, ⟨22, _⟩ => ⟨S16400x1024, .f32⟩
  | .hbm, ⟨23, _⟩ => ⟨S16400x1024, .f32⟩
  | .hbm, ⟨24, _⟩ => ⟨S16400x1024, .f32⟩
  | .hbm, ⟨25, _⟩ => ⟨S16400x2816, .f32⟩
  | .hbm, ⟨26, _⟩ => ⟨S16400x2816, .f32⟩
  | .hbm, ⟨27, _⟩ => ⟨S16400x2816, .f32⟩
  | .hbm, ⟨28, _⟩ => ⟨S16400x2816, .f32⟩
  | .hbm, ⟨29, _⟩ => ⟨S_, .f32⟩
  | .hbm, ⟨30, _⟩ => ⟨S16400x2816, .f32⟩
  | .hbm, ⟨31, _⟩ => ⟨S16400x2816, .f32⟩
  | .hbm, ⟨32, _⟩ => ⟨S_, .f32⟩
  | .hbm, ⟨33, _⟩ => ⟨S16400x2816, .f32⟩
  | .hbm, ⟨34, _⟩ => ⟨S16400x2816, .f32⟩
  | .hbm, ⟨35, _⟩ => ⟨S_, .f32⟩
  | .hbm, ⟨36, _⟩ => ⟨S16400x2816, .f32⟩
  | .hbm, ⟨37, _⟩ => ⟨S16400x2816, .f32⟩
  | .hbm, ⟨38, _⟩ => ⟨S16400x2816, .f32⟩
  | .hbm, ⟨39, _⟩ => ⟨S16400x2816, .f32⟩
  | .hbm, ⟨40, _⟩ => ⟨S16400x2816, .f32⟩
  | .hbm, ⟨41, _⟩ => ⟨S16400x2816, .f32⟩
  | .hbm, ⟨42, _⟩ => ⟨S16400x2816, .f32⟩
  | .hbm, ⟨43, _⟩ => ⟨S16400x2816, .f32⟩
  | .hbm, ⟨44, _⟩ => ⟨S16400x2816, .f32⟩
  | .hbm, ⟨45, _⟩ => ⟨S16400x2816, .f32⟩
  | .hbm, ⟨46, _⟩ => ⟨S16400x2816, .f32⟩
  | .hbm, ⟨47, _⟩ => ⟨S16400x1024, .f32⟩
  | .hbm, ⟨48, _⟩ => ⟨S16400x1024, .f32⟩
  | .hbm, ⟨49, _⟩ => ⟨S16400x1024, .f32⟩
  | .hbm, ⟨50, _⟩ => ⟨S16400x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S16400x1024, .f32⟩
  | .hbm, ⟨55, _⟩ => ⟨S16400x1024, .f32⟩
  | .hbm, ⟨56, _⟩ => ⟨S16400x1024, .f32⟩
  | .hbm, ⟨57, _⟩ => ⟨S_, .f32⟩
  | .hbm, ⟨58, _⟩ => ⟨S16400, .f32⟩
  | .hbm, ⟨59, _⟩ => ⟨S16400x1, .f32⟩
  | .hbm, ⟨60, _⟩ => ⟨S16400x1024, .f32⟩
  | .hbm, ⟨61, _⟩ => ⟨S16400x1024, .f32⟩
  | .hbm, ⟨62, _⟩ => ⟨S16400x1, .f32⟩
  | .hbm, ⟨63, _⟩ => ⟨S_, .f32⟩
  | .hbm, ⟨64, _⟩ => ⟨S16400x1, .f32⟩
  | .hbm, ⟨65, _⟩ => ⟨S16400x1, .f32⟩
  | .hbm, ⟨66, _⟩ => ⟨S_, .f32⟩
  | .hbm, ⟨67, _⟩ => ⟨S16400, .f32⟩
  | .hbm, ⟨68, _⟩ => ⟨S16400x1024, .f32⟩
  | .hbm, ⟨69, _⟩ => ⟨S16400x1024, .f32⟩
  | .hbm, ⟨70, _⟩ => ⟨S16400x1024, .f32⟩
  | .hbm, ⟨71, _⟩ => ⟨S16400x1024, .f32⟩
  | .hbm, ⟨72, _⟩ => ⟨S16400x1024, .f32⟩
  | .hbm, ⟨73, _⟩ => ⟨S16400x1024, .f32⟩
  | .hbm, ⟨74, _⟩ => ⟨S_, .i32⟩
  | .hbm, ⟨75, _⟩ => ⟨S_, .f32⟩
  | .hbm, ⟨76, _⟩ => ⟨S16512x1024, .f32⟩
  | .hbm, ⟨77, _⟩ => ⟨S_, .i32⟩
  | .hbm, ⟨78, _⟩ => ⟨S_, .f32⟩
  | .hbm, ⟨79, _⟩ => ⟨S16512x2816, .f32⟩
  | .hbm, ⟨80, _⟩ => ⟨S16512x2816, .bf16⟩
  | .hbm, ⟨81, _⟩ => ⟨S_, .i32⟩
  | .hbm, ⟨82, _⟩ => ⟨S_, .f32⟩
  | .hbm, ⟨83, _⟩ => ⟨S16512x2816, .f32⟩
  | .hbm, ⟨84, _⟩ => ⟨S16512x2816, .bf16⟩
  | _, _ => ⟨S16400x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c : Ref sig .tc := ⟨.hbm, 74, rfl⟩
abbrev main_call2_v0 : Ref sig .tc := ⟨.hbm, 75, rfl⟩
abbrev main_v45 : Ref sig .tc := ⟨.hbm, 76, rfl⟩
abbrev main_c_7 : Ref sig .tc := ⟨.hbm, 77, rfl⟩
abbrev main_call3_v0 : Ref sig .tc := ⟨.hbm, 78, rfl⟩
abbrev main_v46 : Ref sig .tc := ⟨.hbm, 79, rfl⟩
abbrev main_v47 : Ref sig .tc := ⟨.hbm, 80, rfl⟩
abbrev main_c_8 : Ref sig .tc := ⟨.hbm, 81, rfl⟩
abbrev main_call4_v0 : Ref sig .tc := ⟨.hbm, 82, rfl⟩
abbrev main_v48 : Ref sig .tc := ⟨.hbm, 83, rfl⟩
abbrev main_v49 : Ref sig .tc := ⟨.hbm, 84, rfl⟩

abbrev nD : Nat := 1
abbrev τ : Topo := Topo.v7x

variable {F : FTy → Type} [FloatOps F]
-- ==== FfnAct.lean ====
abbrev S16400x2816 : Shape := ⟨2, ![16400, 2816]⟩
abbrev S2816x1024 : Shape := ⟨2, ![2816, 1024]⟩
abbrev S16400x1024 : Shape := ⟨2, ![16400, 1024]⟩
abbrev S_ : Shape := ⟨0, ![]⟩
abbrev S16512x1024 : Shape := ⟨2, ![16512, 1024]⟩
abbrev S16512x2816 : Shape := ⟨2, ![16512, 2816]⟩
abbrev S688x2816 : Shape := ⟨2, ![688, 2816]⟩
abbrev S688x1024 : Shape := ⟨2, ![688, 1024]⟩
abbrev S3x688x1024 : Shape := ⟨3, ![3, 688, 1024]⟩
abbrev S3 : Shape := ⟨1, ![3]⟩
abbrev S1 : Shape := ⟨1, ![1]⟩
abbrev S1x688x1024 : Shape := ⟨3, ![1, 688, 1024]⟩

abbrev nBuf : Space → Nat
  | .hbm => 9
  | .vmem => 6
  | .smem => 0
  | _ => 0

abbrev bufTy : (tb : Table) → Fin (tcTables nBuf tb) → BufTy
  | .hbm, ⟨0, _⟩ => ⟨S16400x2816, .f32⟩
  | .hbm, ⟨1, _⟩ => ⟨S2816x1024, .f32⟩
  | .hbm, ⟨2, _⟩ => ⟨S16400x1024, .f32⟩
  | .hbm, ⟨3, _⟩ => ⟨S_, .i32⟩
  | .hbm, ⟨4, _⟩ => ⟨S_, .f32⟩
  | .hbm, ⟨5, _⟩ => ⟨S16512x1024, .f32⟩
  | .hbm, ⟨6, _⟩ => ⟨S2816x1024, .bf16⟩
  | .hbm, ⟨7, _⟩ => ⟨S16512x2816, .bf16⟩
  | .hbm, ⟨8, _⟩ => ⟨S16512x1024, .bf16⟩
  | .local _ .vmem, ⟨0, _⟩ => ⟨S2816x1024, .bf16⟩
  | .local _ .vmem, ⟨1, _⟩ => ⟨S688x2816, .bf16⟩
  | .local _ .vmem, ⟨2, _⟩ => ⟨S688x2816, .bf16⟩
  | .local _ .vmem, ⟨3, _⟩ => ⟨S688x1024, .bf16⟩
  | .local _ .vmem, ⟨4, _⟩ => ⟨S688x1024, .bf16⟩
  | .local _ .vmem, ⟨5, _⟩ => ⟨S3x688x1024, .f32⟩
  | _, _ => ⟨S16400x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_17 : BitVec 32 := 0#32
  c0_i32_17
def k0_mult2 : BitVec 32 :=
  let c688_i32_23 : BitVec 32 := 688#32
  c688_i32_23
def k0_cond2 (i : grid0.Coords) : BitVec 1 :=
  let arg0 : BitVec 32 := BitVec.ofNat 32 (i 0).val
  let c2_i32 : BitVec 32 := 2#32
  let v3 : BitVec 32 := Scalar.addi arg0 c2_i32
  let c24_i32 : BitVec 32 := 24#32
  let v4 : BitVec 1 := Scalar.cmpi .slt v3 c24_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_17 : BitVec 32 := 2#32
  let v36 : BitVec 32 := Scalar.addi arg0 c2_i32_17
  let c688_i32_25 : BitVec 32 := 688#32
  let v48 : BitVec 32 := Scalar.muli v36 c688_i32_25
  v48
def k0_off1 (i : grid0.Coords) : Fin 1 → Nat :=
  let arg0 : BitVec 32 := BitVec.ofNat 32 (i 0).val
  let c2_i32_18 : BitVec 32 := 2#32
  let v37 : BitVec 32 := Scalar.addi arg0 c2_i32_18
  let c3_i32_19 : BitVec 32 := 3#32
  let c0_i32_20 : BitVec 32 := 0#32
  let v38 : BitVec 1 := Scalar.cmpi .eq c3_i32_19 c0_i32_20
  let c1_i32_21 : BitVec 32 := 1#32
  let v39 : BitVec 32 := Scalar.select v38 c1_i32_21 c3_i32_19
  let v40 : BitVec 32 := Scalar.remsi v37 v39
  let c0_i32_23 : BitVec 32 := 0#32
  let v42 : BitVec 1 := Scalar.cmpi .slt v40 c0_i32_23
  let c0_i32_24 : BitVec 32 := 0#32
  let v43 : BitVec 1 := Scalar.cmpi .slt v39 c0_i32_24
  let v44 : BitVec 1 := Scalar.xori v42 v43
  let c0_i32_22 : BitVec 32 := 0#32
  let v41 : BitVec 1 := Scalar.cmpi .ne v40 c0_i32_22
  let v45 : BitVec 1 := Scalar.andi v44 v41
  let v46 : BitVec 32 := Scalar.addi v40 v39
  let v47 : BitVec 32 := Scalar.select v45 v46 v40
  ![v47.toNat]
def k0_off2 (i : grid0.Coords) : Fin 3 → Nat :=
  let arg0 : BitVec 32 := BitVec.ofNat 32 (i 0).val
  let c2_i32_18 : BitVec 32 := 2#32
  let v37 : BitVec 32 := Scalar.addi arg0 c2_i32_18
  let c3_i32_19 : BitVec 32 := 3#32
  let c0_i32_20 : BitVec 32 := 0#32
  let v38 : BitVec 1 := Scalar.cmpi .eq c3_i32_19 c0_i32_20
  let c1_i32_21 : BitVec 32 := 1#32
  let v39 : BitVec 32 := Scalar.select v38 c1_i32_21 c3_i32_19
  let v40 : BitVec 32 := Scalar.remsi v37 v39
  let c0_i32_23 : BitVec 32 := 0#32
  let v42 : BitVec 1 := Scalar.cmpi .slt v40 c0_i32_23
  let c0_i32_24 : BitVec 32 := 0#32
  let v43 : BitVec 1 := Scalar.cmpi .slt v39 c0_i32_24
  let v44 : BitVec 1 := Scalar.xori v42 v43
  let c0_i32_22 : BitVec 32 := 0#32
  let v41 : BitVec 1 := Scalar.cmpi .ne v40 c0_i32_22
  let v45 : BitVec 1 := Scalar.andi v44 v41
  let v46 : BitVec 32 := Scalar.addi v40 v39
  let v47 : BitVec 32 := Scalar.select v45 v46 v40
  let c0_i32_26 : BitVec 32 := 0#32
  let c0_i32_27 : BitVec 32 := 0#32
  ![v47.toNat, 0, 0]
def k0_off3 (i : grid0.Coords) : Fin 2 → Nat :=
  let arg0 : BitVec 32 := BitVec.ofNat 32 (i 0).val
  let c2_i32_17 : BitVec 32 := 2#32
  let v36 : BitVec 32 := Scalar.addi arg0 c2_i32_17
  let c688_i32_25 : BitVec 32 := 688#32
  let v48 : BitVec 32 := Scalar.muli v36 c688_i32_25
  let v49 : BitVec 32 := v48
  let c0_i32_28 : BitVec 32 := 0#32
  ![v49.toNat, 0]
def k0_mult4 (i : grid0.Coords) : BitVec 32 :=
  let arg0 : BitVec 32 := BitVec.ofNat 32 (i 0).val
  let c688_i32 : BitVec 32 := 688#32
  let v17 : BitVec 32 := Scalar.muli arg0 c688_i32
  v17
def k0_off4 (i : grid0.Coords) : Fin 1 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![v16.toNat]
def k0_off5 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let c0_i32_7 : BitVec 32 := 0#32
  ![v16.toNat, 0, 0]
def k0_off6 (i : grid0.Coords) : Fin 2 → Nat :=
  let arg0 : BitVec 32 := BitVec.ofNat 32 (i 0).val
  let c688_i32 : BitVec 32 := 688#32
  let v17 : BitVec 32 := Scalar.muli arg0 c688_i32
  let v18 : BitVec 32 := v17
  let c0_i32_8 : BitVec 32 := 0#32
  ![v18.toNat, 0]
def k0_off7 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v24 : Index := Scalar.indexCast v16
  let c0 : Index := 0#32
  let c0_9 : Index := 0#32
  ![v24.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2816x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S688x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnActRefIdeal.lean ====
abbrev S16400x2816 : Shape := ⟨2, ![16400, 2816]⟩
abbrev S2816x1024 : Shape := ⟨2, ![2816, 1024]⟩
abbrev S16400x1024 : Shape := ⟨2, ![16400, 1024]⟩
abbrev S_ : Shape := ⟨0, ![]⟩
abbrev S16512x2816 : Shape := ⟨2, ![16512, 2816]⟩
abbrev S16512x1024 : Shape := ⟨2, ![16512, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16400x2816, .f32⟩
  | .hbm, ⟨1, _⟩ => ⟨S2816x1024, .f32⟩
  | .hbm, ⟨2, _⟩ => ⟨S16400x1024, .f32⟩
  | .hbm, ⟨3, _⟩ => ⟨S16400x1024, .f32⟩
  | .hbm, ⟨4, _⟩ => ⟨S_, .f32⟩
  | .hbm, ⟨5, _⟩ => ⟨S16400x1024, .f32⟩
  | .hbm, ⟨6, _⟩ => ⟨S16400x1024, .f32⟩
  | .hbm, ⟨7, _⟩ => ⟨S_, .f32⟩
  | .hbm, ⟨8, _⟩ => ⟨S16400x1024, .f32⟩
  | .hbm, ⟨9, _⟩ => ⟨S16400x1024, .f32⟩
  | .hbm, ⟨10, _⟩ => ⟨S16400x2816, .f32⟩
  | .hbm, ⟨11, _⟩ => ⟨S_, .i32⟩
  | .hbm, ⟨12, _⟩ => ⟨S_, .f32⟩
  | .hbm, ⟨13, _⟩ => ⟨S16512x2816, .f32⟩
  | .hbm, ⟨14, _⟩ => ⟨S16512x2816, .bf16⟩
  | .hbm, ⟨15, _⟩ => ⟨S_, .i32⟩
  | .hbm, ⟨16, _⟩ => ⟨S_, .f32⟩
  | .hbm, ⟨17, _⟩ => ⟨S16512x1024, .f32⟩
  | .hbm, ⟨18, _⟩ => ⟨S16512x1024, .bf16⟩
  | _, _ => ⟨S16400x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== FfnDw.lean ====
abbrev S16400x2816 : Shape := ⟨2, ![16400, 2816]⟩
abbrev S2816x1024 : Shape := ⟨2, ![2816, 1024]⟩
abbrev S16400x1024 : Shape := ⟨2, ![16400, 1024]⟩
abbrev S_ : Shape := ⟨0, ![]⟩
abbrev S16512x2816 : Shape := ⟨2, ![16512, 2816]⟩
abbrev S16512x1024 : Shape := ⟨2, ![16512, 1024]⟩
abbrev S2752x1408 : Shape := ⟨2, ![2752, 1408]⟩
abbrev S2752x1024 : Shape := ⟨2, ![2752, 1024]⟩
abbrev S1408x1024 : Shape := ⟨2, ![1408, 1024]⟩

abbrev nBuf : Space → Nat
  | .hbm => 12
  | .vmem => 7
  | .smem => 0
  | _ => 0

abbrev bufTy : (tb : Table) → Fin (tcTables nBuf tb) → BufTy
  | .hbm, ⟨0, _⟩ => ⟨S16400x2816, .f32⟩
  | .hbm, ⟨1, _⟩ => ⟨S2816x1024, .f32⟩
  | .hbm, ⟨2, _⟩ => ⟨S16400x1024, .f32⟩
  | .hbm, ⟨3, _⟩ => ⟨S_, .i32⟩
  | .hbm, ⟨4, _⟩ => ⟨S_, .f32⟩
  | .hbm, ⟨5, _⟩ => ⟨S16512x2816, .f32⟩
  | .hbm, ⟨6, _⟩ => ⟨S16512x2816, .bf16⟩
  | .hbm, ⟨7, _⟩ => ⟨S_, .i32⟩
  | .hbm, ⟨8, _⟩ => ⟨S_, .f32⟩
  | .hbm, ⟨9, _⟩ => ⟨S16512x1024, .f32⟩
  | .hbm, ⟨10, _⟩ => ⟨S16512x1024, .bf16⟩
  | .hbm, ⟨11, _⟩ => ⟨S2816x1024, .bf16⟩
  | .local _ .vmem, ⟨0, _⟩ => ⟨S2752x1408, .bf16⟩
  | .local _ .vmem, ⟨1, _⟩ => ⟨S2752x1408, .bf16⟩
  | .local _ .vmem, ⟨2, _⟩ => ⟨S2752x1024, .bf16⟩
  | .local _ .vmem, ⟨3, _⟩ => ⟨S2752x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16400x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def k0_cond3 (i : grid0.Coords) : BitVec 1 :=
  let arg1 : BitVec 32 := BitVec.ofNat 32 (i 1).val
  let c5_i32_6 : BitVec 32 := 5#32
  let v13 : BitVec 1 := Scalar.cmpi .eq arg1 c5_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2752x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDwRefIdeal.lean ====
abbrev S16400x2816 : Shape := ⟨2, ![16400, 2816]⟩
abbrev S2816x1024 : Shape := ⟨2, ![2816, 1024]⟩
abbrev S16400x1024 : Shape := ⟨2, ![16400, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16400x2816, .f32⟩
  | .hbm, ⟨1, _⟩ => ⟨S2816x1024, .f32⟩
  | .hbm, ⟨2, _⟩ => ⟨S16400x1024, .f32⟩
  | .hbm, ⟨3, _⟩ => ⟨S16400x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S16400x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnUp.lean ====
abbrev S16400x1024 : Shape := ⟨2, ![16400, 1024]⟩
abbrev S1x1024 : Shape := ⟨2, ![1, 1024]⟩
abbrev S1024x2816 : Shape := ⟨2, ![1024, 2816]⟩
abbrev S_ : Shape := ⟨0, ![]⟩
abbrev S16512x1024 : Shape := ⟨2, ![16512, 1024]⟩
abbrev S2816x1024 : Shape := ⟨2, ![2816, 1024]⟩
abbrev S16512x2816 : Shape := ⟨2, ![16512, 2816]⟩
abbrev S384x1024 : Shape := ⟨2, ![384, 1024]⟩
abbrev S384x2816 : Shape := ⟨2, ![384, 2816]⟩
abbrev S384 : Shape := ⟨1, ![384]⟩
abbrev S384x1 : Shape := ⟨2, ![384, 1]⟩

abbrev nBuf : Space → Nat
  | .hbm => 15
  | .vmem => 13
  | .smem => 0
  | _ => 0

abbrev bufTy : (tb : Table) → Fin (tcTables nBuf tb) → BufTy
  | .hbm, ⟨0, _⟩ => ⟨S16400x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S_, .i32⟩
  | .hbm, ⟨5, _⟩ => ⟨S_, .f32⟩
  | .hbm, ⟨6, _⟩ => ⟨S16512x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S16512x1024, .bf16⟩
  | .hbm, ⟨12, _⟩ => ⟨S16512x2816, .bf16⟩
  | .hbm, ⟨13, _⟩ => ⟨S16512x2816, .bf16⟩
  | .hbm, ⟨14, _⟩ => ⟨S16512x2816, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S384x1024, .bf16⟩
  | .local _ .vmem, ⟨6, _⟩ => ⟨S384x1024, .bf16⟩
  | .local _ .vmem, ⟨7, _⟩ => ⟨S384x2816, .bf16⟩
  | .local _ .vmem, ⟨8, _⟩ => ⟨S384x2816, .bf16⟩
  | .local _ .vmem, ⟨9, _⟩ => ⟨S384x2816, .bf16⟩
  | .local _ .vmem, ⟨10, _⟩ => ⟨S384x2816, .bf16⟩
  | .local _ .vmem, ⟨11, _⟩ => ⟨S384x2816, .bf16⟩
  | .local _ .vmem, ⟨12, _⟩ => ⟨S384x2816, .bf16⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnUpRefIdeal.lean ====
abbrev S16400x1024 : Shape := ⟨2, ![16400, 1024]⟩
abbrev S1x1024 : Shape := ⟨2, ![1, 1024]⟩
abbrev S1024x2816 : Shape := ⟨2, ![1024, 2816]⟩
abbrev S_ : Shape := ⟨0, ![]⟩
abbrev S16400 : Shape := ⟨1, ![16400]⟩
abbrev S16400x1 : Shape := ⟨2, ![16400, 1]⟩
abbrev S16400x2816 : Shape := ⟨2, ![16400, 2816]⟩
abbrev S16512x1024 : Shape := ⟨2, ![16512, 1024]⟩
abbrev S16512x2816 : Shape := ⟨2, ![16512, 2816]⟩

abbrev nBuf : Space → Nat
  | .hbm => 47
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S16400x1024, .f32⟩
  | .hbm, ⟨5, _⟩ => ⟨S_, .f32⟩
  | .hbm, ⟨6, _⟩ => ⟨S16400, .f32⟩
  | .hbm, ⟨7, _⟩ => ⟨S16400x1, .f32⟩
  | .hbm, ⟨8, _⟩ => ⟨S_, .f32⟩
  | .hbm, ⟨9, _⟩ => ⟨S16400x1, .f32⟩
  | .hbm, ⟨10, _⟩ => ⟨S16400x1, .f32⟩
  | .hbm, ⟨11, _⟩ => ⟨S_, .f32⟩
  | .hbm, ⟨12, _⟩ => ⟨S16400x1, .f32⟩
  | .hbm, ⟨13, _⟩ => ⟨S16400x1, .f32⟩
  | .hbm, ⟨14, _⟩ => ⟨S16400x1, .f32⟩
  | .hbm, ⟨15, _⟩ => ⟨S16400x1024, .f32⟩
  | .hbm, ⟨16, _⟩ => ⟨S16400x1024, .f32⟩
  | .hbm, ⟨17, _⟩ => ⟨S16400x1024, .f32⟩
  | .hbm, ⟨18, _⟩ => ⟨S16400x1024, .f32⟩
  | .hbm, ⟨19, _⟩ => ⟨S16400x2816, .f32⟩
  | .hbm, ⟨20, _⟩ => ⟨S16400x2816, .f32⟩
  | .hbm, ⟨21, _⟩ => ⟨S16400x2816, .f32⟩
  | .hbm, ⟨22, _⟩ => ⟨S16400x2816, .f32⟩
  | .hbm, ⟨23, _⟩ => ⟨S_, .f32⟩
  | .hbm, ⟨24, _⟩ => ⟨S16400x2816, .f32⟩
  | .hbm, ⟨25, _⟩ => ⟨S16400x2816, .f32⟩
  | .hbm, ⟨26, _⟩ => ⟨S_, .f32⟩
  | .hbm, ⟨27, _⟩ => ⟨S16400x2816, .f32⟩
  | .hbm, ⟨28, _⟩ => ⟨S16400x2816, .f32⟩
  | .hbm, ⟨29, _⟩ => ⟨S16400x2816, .f32⟩
  | .hbm, ⟨30, _⟩ => ⟨S16400x2816, .f32⟩
  | .hbm, ⟨31, _⟩ => ⟨S_, .i32⟩
  | .hbm, ⟨32, _⟩ => ⟨S_, .f32⟩
  | .hbm, ⟨33, _⟩ => ⟨S16512x1024, .f32⟩
  | .hbm, ⟨34, _⟩ => ⟨S16512x1024, .bf16⟩
  | .hbm, ⟨35, _⟩ => ⟨S_, .i32⟩
  | .hbm, ⟨36, _⟩ => ⟨S_, .f32⟩
  | .hbm, ⟨37, _⟩ => ⟨S16512x2816, .f32⟩
  | .hbm, ⟨38, _⟩ => ⟨S16512x2816, .bf16⟩
  | .hbm, ⟨39, _⟩ => ⟨S_, .i32⟩
  | .hbm, ⟨40, _⟩ => ⟨S_, .f32⟩
  | .hbm, ⟨41, _⟩ => ⟨S16512x2816, .f32⟩
  | .hbm, ⟨42, _⟩ => ⟨S16512x2816, .bf16⟩
  | .hbm, ⟨43, _⟩ => ⟨S_, .i32⟩
  | .hbm, ⟨44, _⟩ => ⟨S_, .f32⟩
  | .hbm, ⟨45, _⟩ => ⟨S16512x2816, .f32⟩
  | .hbm, ⟨46, _⟩ => ⟨S16512x2816, .bf16⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_call1_v0 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_call2_v0 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_call3_v0 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_call4_v0 : Ref sig .tc := ⟨.hbm, 44, rfl⟩
abbrev main_v22 : Ref sig .tc := ⟨.hbm, 45, rfl⟩
abbrev main_v23 : Ref sig .tc := ⟨.hbm, 46, rfl⟩

abbrev nD : Nat := 1
abbrev τ : Topo := Topo.v7x

variable {F : FTy → Type} [FloatOps F]
-- ==== FfnDown.lean ====
abbrev S16400x1024 : Shape := ⟨2, ![16400, 1024]⟩
abbrev S16400x2816 : Shape := ⟨2, ![16400, 2816]⟩
abbrev S2816x1024 : Shape := ⟨2, ![2816, 1024]⟩
abbrev S_ : Shape := ⟨0, ![]⟩
abbrev S16512x2816 : Shape := ⟨2, ![16512, 2816]⟩
abbrev S16512x1024 : Shape := ⟨2, ![16512, 1024]⟩
abbrev S688x2816 : Shape := ⟨2, ![688, 2816]⟩
abbrev S688x1024 : Shape := ⟨2, ![688, 1024]⟩

abbrev nBuf : Space → Nat
  | .hbm => 12
  | .vmem => 7
  | .smem => 0
  | _ => 0

abbrev bufTy : (tb : Table) → Fin (tcTables nBuf tb) → BufTy
  | .hbm, ⟨0, _⟩ => ⟨S16400x1024, .f32⟩
  | .hbm, ⟨1, _⟩ => ⟨S16400x2816, .f32⟩
  | .hbm, ⟨2, _⟩ => ⟨S2816x1024, .f32⟩
  | .hbm, ⟨3, _⟩ => ⟨S_, .i32⟩
  | .hbm, ⟨4, _⟩ => ⟨S_, .f32⟩
  | .hbm, ⟨5, _⟩ => ⟨S16512x2816, .f32⟩
  | .hbm, ⟨6, _⟩ => ⟨S16512x2816, .bf16⟩
  | .hbm, ⟨7, _⟩ => ⟨S_, .i32⟩
  | .hbm, ⟨8, _⟩ => ⟨S_, .f32⟩
  | .hbm, ⟨9, _⟩ => ⟨S16512x1024, .f32⟩
  | .hbm, ⟨10, _⟩ => ⟨S2816x1024, .bf16⟩
  | .hbm, ⟨11, _⟩ => ⟨S16512x1024, .f32⟩
  | .local _ .vmem, ⟨0, _⟩ => ⟨S688x2816, .bf16⟩
  | .local _ .vmem, ⟨1, _⟩ => ⟨S688x2816, .bf16⟩
  | .local _ .vmem, ⟨2, _⟩ => ⟨S688x1024, .f32⟩
  | .local _ .vmem, ⟨3, _⟩ => ⟨S688x1024, .f32⟩
  | .local _ .vmem, ⟨4, _⟩ => ⟨S2816x1024, .bf16⟩
  | .local _ .vmem, ⟨5, _⟩ => ⟨S688x1024, .f32⟩
  | .local _ .vmem, ⟨6, _⟩ => ⟨S688x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnDownRefIdeal.lean ====
abbrev S16400x1024 : Shape := ⟨2, ![16400, 1024]⟩
abbrev S16400x2816 : Shape := ⟨2, ![16400, 2816]⟩
abbrev S2816x1024 : Shape := ⟨2, ![2816, 1024]⟩
abbrev S_ : Shape := ⟨0, ![]⟩
abbrev S16512x1024 : Shape := ⟨2, ![16512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S16400x2816, .f32⟩
  | .hbm, ⟨2, _⟩ => ⟨S2816x1024, .f32⟩
  | .hbm, ⟨3, _⟩ => ⟨S16400x1024, .f32⟩
  | .hbm, ⟨4, _⟩ => ⟨S_, .f32⟩
  | .hbm, ⟨5, _⟩ => ⟨S16400x1024, .f32⟩
  | .hbm, ⟨6, _⟩ => ⟨S16400x1024, .f32⟩
  | .hbm, ⟨7, _⟩ => ⟨S16400x1024, .f32⟩
  | .hbm, ⟨8, _⟩ => ⟨S_, .i32⟩
  | .hbm, ⟨9, _⟩ => ⟨S_, .f32⟩
  | .hbm, ⟨10, _⟩ => ⟨S16512x1024, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== MixProj.lean ====
abbrev S16400x1024 : Shape := ⟨2, ![16400, 1024]⟩
abbrev S1x1024 : Shape := ⟨2, ![1, 1024]⟩
abbrev S1024x4096 : Shape := ⟨2, ![1024, 4096]⟩
abbrev S_ : Shape := ⟨0, ![]⟩
abbrev S16512x1024 : Shape := ⟨2, ![16512, 1024]⟩
abbrev S4096x1024 : Shape := ⟨2, ![4096, 1024]⟩
abbrev S16512x256 : Shape := ⟨2, ![16512, 256]⟩
abbrev S16512x512 : Shape := ⟨2, ![16512, 512]⟩
abbrev S688x1024 : Shape := ⟨2, ![688, 1024]⟩
abbrev S688x256 : Shape := ⟨2, ![688, 256]⟩
abbrev S688x512 : Shape := ⟨2, ![688, 512]⟩
abbrev S688 : Shape := ⟨1, ![688]⟩
abbrev S688x1 : Shape := ⟨2, ![688, 1]⟩
abbrev S1024x1024 : Shape := ⟨2, ![1024, 1024]⟩
abbrev S256x1024 : Shape := ⟨2, ![256, 1024]⟩
abbrev S512x1024 : Shape := ⟨2, ![512, 1024]⟩

abbrev nBuf : Space → Nat
  | .hbm => 15
  | .vmem => 18
  | .smem => 0
  | _ => 0

abbrev bufTy : (tb : Table) → Fin (tcTables nBuf tb) → BufTy
  | .hbm, ⟨0, _⟩ => ⟨S16400x1024, .f32⟩
  | .hbm, ⟨1, _⟩ => ⟨S1x1024, .f32⟩
  | .hbm, ⟨2, _⟩ => ⟨S1024x4096, .f32⟩
  | .hbm, ⟨3, _⟩ => ⟨S_, .i32⟩
  | .hbm, ⟨4, _⟩ => ⟨S_, .f32⟩
  | .hbm, ⟨5, _⟩ => ⟨S16512x1024, .f32⟩
  | .hbm, ⟨6, _⟩ => ⟨S4096x1024, .f32⟩
  | .hbm, ⟨7, _⟩ => ⟨S4096x1024, .bf16⟩
  | .hbm, ⟨8, _⟩ => ⟨S16512x1024, .bf16⟩
  | .hbm, ⟨9, _⟩ => ⟨S16512x1024, .bf16⟩
  | .hbm, ⟨10, _⟩ => ⟨S16512x256, .bf16⟩
  | .hbm, ⟨11, _⟩ => ⟨S16512x256, .bf16⟩
  | .hbm, ⟨12, _⟩ => ⟨S16512x512, .f32⟩
  | .hbm, ⟨13, _⟩ => ⟨S16512x1024, .bf16⟩
  | .hbm, ⟨14, _⟩ => ⟨S16512x1024, .bf16⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S4096x1024, .bf16⟩
  | .local _ .vmem, ⟨4, _⟩ => ⟨S688x1024, .bf16⟩
  | .local _ .vmem, ⟨5, _⟩ => ⟨S688x1024, .bf16⟩
  | .local _ .vmem, ⟨6, _⟩ => ⟨S688x1024, .bf16⟩
  | .local _ .vmem, ⟨7, _⟩ => ⟨S688x1024, .bf16⟩
  | .local _ .vmem, ⟨8, _⟩ => ⟨S688x256, .bf16⟩
  | .local _ .vmem, ⟨9, _⟩ => ⟨S688x256, .bf16⟩
  | .local _ .vmem, ⟨10, _⟩ => ⟨S688x256, .bf16⟩
  | .local _ .vmem, ⟨11, _⟩ => ⟨S688x256, .bf16⟩
  | .local _ .vmem, ⟨12, _⟩ => ⟨S688x512, .f32⟩
  | .local _ .vmem, ⟨13, _⟩ => ⟨S688x512, .f32⟩
  | .local _ .vmem, ⟨14, _⟩ => ⟨S688x1024, .bf16⟩
  | .local _ .vmem, ⟨15, _⟩ => ⟨S688x1024, .bf16⟩
  | .local _ .vmem, ⟨16, _⟩ => ⟨S688x1024, .bf16⟩
  | .local _ .vmem, ⟨17, _⟩ => ⟨S688x1024, .bf16⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixProjRefIdeal.lean ====
abbrev S16400x1024 : Shape := ⟨2, ![16400, 1024]⟩
abbrev S1x1024 : Shape := ⟨2, ![1, 1024]⟩
abbrev S1024x4096 : Shape := ⟨2, ![1024, 4096]⟩
abbrev S_ : Shape := ⟨0, ![]⟩
abbrev S16400 : Shape := ⟨1, ![16400]⟩
abbrev S16400x1 : Shape := ⟨2, ![16400, 1]⟩
abbrev S16400x4096 : Shape := ⟨2, ![16400, 4096]⟩
abbrev S16400x256 : Shape := ⟨2, ![16400, 256]⟩
abbrev S16400x512 : Shape := ⟨2, ![16400, 512]⟩
abbrev S16512x1024 : Shape := ⟨2, ![16512, 1024]⟩
abbrev S16512x256 : Shape := ⟨2, ![16512, 256]⟩
abbrev S16512x512 : Shape := ⟨2, ![16512, 512]⟩

abbrev nBuf : Space → Nat
  | .hbm => 55
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1x1024, .f32⟩
  | .hbm, ⟨2, _⟩ => ⟨S1024x4096, .f32⟩
  | .hbm, ⟨3, _⟩ => ⟨S16400x1024, .f32⟩
  | .hbm, ⟨4, _⟩ => ⟨S_, .f32⟩
  | .hbm, ⟨5, _⟩ => ⟨S16400, .f32⟩
  | .hbm, ⟨6, _⟩ => ⟨S16400x1, .f32⟩
  | .hbm, ⟨7, _⟩ => ⟨S_, .f32⟩
  | .hbm, ⟨8, _⟩ => ⟨S16400x1, .f32⟩
  | .hbm, ⟨9, _⟩ => ⟨S16400x1, .f32⟩
  | .hbm, ⟨10, _⟩ => ⟨S_, .f32⟩
  | .hbm, ⟨11, _⟩ => ⟨S16400x1, .f32⟩
  | .hbm, ⟨12, _⟩ => ⟨S16400x1, .f32⟩
  | .hbm, ⟨13, _⟩ => ⟨S16400x1, .f32⟩
  | .hbm, ⟨14, _⟩ => ⟨S16400x1024, .f32⟩
  | .hbm, ⟨15, _⟩ => ⟨S16400x1024, .f32⟩
  | .hbm, ⟨16, _⟩ => ⟨S16400x1024, .f32⟩
  | .hbm, ⟨17, _⟩ => ⟨S16400x1024, .f32⟩
  | .hbm, ⟨18, _⟩ => ⟨S16400x4096, .f32⟩
  | .hbm, ⟨19, _⟩ => ⟨S16400x1024, .f32⟩
  | .hbm, ⟨20, _⟩ => ⟨S16400x256, .f32⟩
  | .hbm, ⟨21, _⟩ => ⟨S16400x256, .f32⟩
  | .hbm, ⟨22, _⟩ => ⟨S16400x512, .f32⟩
  | .hbm, ⟨23, _⟩ => ⟨S16400x1024, .f32⟩
  | .hbm, ⟨24, _⟩ => ⟨S16400x1024, .f32⟩
  | .hbm, ⟨25, _⟩ => ⟨S_, .i32⟩
  | .hbm, ⟨26, _⟩ => ⟨S_, .f32⟩
  | .hbm, ⟨27, _⟩ => ⟨S16512x1024, .f32⟩
  | .hbm, ⟨28, _⟩ => ⟨S16512x1024, .bf16⟩
  | .hbm, ⟨29, _⟩ => ⟨S_, .f32⟩
  | .hbm, ⟨30, _⟩ => ⟨S16400x1024, .f32⟩
  | .hbm, ⟨31, _⟩ => ⟨S16400x1024, .f32⟩
  | .hbm, ⟨32, _⟩ => ⟨S_, .i32⟩
  | .hbm, ⟨33, _⟩ => ⟨S_, .f32⟩
  | .hbm, ⟨34, _⟩ => ⟨S16512x1024, .f32⟩
  | .hbm, ⟨35, _⟩ => ⟨S16512x1024, .bf16⟩
  | .hbm, ⟨36, _⟩ => ⟨S_, .i32⟩
  | .hbm, ⟨37, _⟩ => ⟨S_, .f32⟩
  | .hbm, ⟨38, _⟩ => ⟨S16512x256, .f32⟩
  | .hbm, ⟨39, _⟩ => ⟨S16512x256, .bf16⟩
  | .hbm, ⟨40, _⟩ => ⟨S_, .i32⟩
  | .hbm, ⟨41, _⟩ => ⟨S_, .f32⟩
  | .hbm, ⟨42, _⟩ => ⟨S16512x256, .f32⟩
  | .hbm, ⟨43, _⟩ => ⟨S16512x256, .bf16⟩
  | .hbm, ⟨44, _⟩ => ⟨S_, .i32⟩
  | .hbm, ⟨45, _⟩ => ⟨S_, .f32⟩
  | .hbm, ⟨46, _⟩ => ⟨S16512x512, .f32⟩
  | .hbm, ⟨47, _⟩ => ⟨S_, .i32⟩
  | .hbm, ⟨48, _⟩ => ⟨S_, .f32⟩
  | .hbm, ⟨49, _⟩ => ⟨S16512x1024, .f32⟩
  | .hbm, ⟨50, _⟩ => ⟨S16512x1024, .bf16⟩
  | .hbm, ⟨51, _⟩ => ⟨S_, .i32⟩
  | .hbm, ⟨52, _⟩ => ⟨S_, .f32⟩
  | .hbm, ⟨53, _⟩ => ⟨S16512x1024, .f32⟩
  | .hbm, ⟨54, _⟩ => ⟨S16512x1024, .bf16⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_call2_v0 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_call3_v0 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_call4_v0 : Ref sig .tc := ⟨.hbm, 45, rfl⟩
abbrev main_v29 : Ref sig .tc := ⟨.hbm, 46, rfl⟩
abbrev main_c_7 : Ref sig .tc := ⟨.hbm, 47, rfl⟩
abbrev main_call5_v0 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_call6_v0 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== MixDw.lean ====
abbrev S16400x1024 : Shape := ⟨2, ![16400, 1024]⟩
abbrev S1024x1024 : Shape := ⟨2, ![1024, 1024]⟩
abbrev S_ : Shape := ⟨0, ![]⟩
abbrev S16512x1024 : Shape := ⟨2, ![16512, 1024]⟩
abbrev S2752x1024 : Shape := ⟨2, ![2752, 1024]⟩

abbrev nBuf : Space → Nat
  | .hbm => 12
  | .vmem => 6
  | .smem => 0
  | _ => 0

abbrev bufTy : (tb : Table) → Fin (tcTables nBuf tb) → BufTy
  | .hbm, ⟨0, _⟩ => ⟨S16400x1024, .f32⟩
  | .hbm, ⟨1, _⟩ => ⟨S1024x1024, .f32⟩
  | .hbm, ⟨2, _⟩ => ⟨S16400x1024, .f32⟩
  | .hbm, ⟨3, _⟩ => ⟨S_, .i32⟩
  | .hbm, ⟨4, _⟩ => ⟨S_, .f32⟩
  | .hbm, ⟨5, _⟩ => ⟨S16512x1024, .f32⟩
  | .hbm, ⟨6, _⟩ => ⟨S16512x1024, .bf16⟩
  | .hbm, ⟨7, _⟩ => ⟨S_, .i32⟩
  | .hbm, ⟨8, _⟩ => ⟨S_, .f32⟩
  | .hbm, ⟨9, _⟩ => ⟨S16512x1024, .f32⟩
  | .hbm, ⟨10, _⟩ => ⟨S16512x1024, .bf16⟩
  | .hbm, ⟨11, _⟩ => ⟨S1024x1024, .bf16⟩
  | .local _ .vmem, ⟨0, _⟩ => ⟨S2752x1024, .bf16⟩
  | .local _ .vmem, ⟨1, _⟩ => ⟨S2752x1024, .bf16⟩
  | .local _ .vmem, ⟨2, _⟩ => ⟨S2752x1024, .bf16⟩
  | .local _ .vmem, ⟨3, _⟩ => ⟨S2752x1024, .bf16⟩
  | .local _ .vmem, ⟨4, _⟩ => ⟨S1024x1024, .bf16⟩
  | .local _ .vmem, ⟨5, _⟩ => ⟨S1024x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 6], ![false, false]⟩

def k0_cond3 (i : grid0.Coords) : BitVec 1 :=
  let arg1 : BitVec 32 := BitVec.ofNat 32 (i 1).val
  let c5_i32_6 : BitVec 32 := 5#32
  let v13 : BitVec 1 := Scalar.cmpi .eq arg1 c5_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== MixDwRefIdeal.lean ====
abbrev S16400x1024 : Shape := ⟨2, ![16400, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1024x1024, .f32⟩
  | .hbm, ⟨2, _⟩ => ⟨S16400x1024, .f32⟩
  | .hbm, ⟨3, _⟩ => ⟨S16400x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdMeta.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdMetaIdeal.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdMetaRefIdeal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdNormRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdUp.lean ====
abbrev S4x1024x352 : Shape := ⟨3, ![4, 1024, 352]⟩
abbrev S4096x352 : Shape := ⟨2, ![4096, 352]⟩
abbrev S1024x352 : Shape := ⟨2, ![1024, 352]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .hbm, ⟨9, _⟩ => ⟨S4096x352, .f32⟩
  | .hbm, ⟨10, _⟩ => ⟨S4096x352, .f32⟩
  | .local _ .vmem, ⟨0, _⟩ => ⟨S1024x352, .f32⟩
  | .local _ .vmem, ⟨1, _⟩ => ⟨S1024x352, .f32⟩
  | .local _ .vmem, ⟨2, _⟩ => ⟨S1024x352, .f32⟩
  | .local _ .vmem, ⟨3, _⟩ => ⟨S1024x352, .f32⟩
  | .local _ .vmem, ⟨4, _⟩ => ⟨S1024x352, .f32⟩
  | .local _ .vmem, ⟨5, _⟩ => ⟨S1024x352, .f32⟩
  | .local _ .vmem, ⟨6, _⟩ => ⟨S1024x352, .f32⟩
  | .local _ .vmem, ⟨7, _⟩ => ⟨S1024x352, .f32⟩
  | .local _ .vmem, ⟨8, _⟩ => ⟨S1024x352, .f32⟩
  | .local _ .vmem, ⟨9, _⟩ => ⟨S1024x352, .f32⟩
  | .local _ .vmem, ⟨10, _⟩ => ⟨S1024x352, .f32⟩
  | .local _ .vmem, ⟨11, _⟩ => ⟨S1024x352, .f32⟩
  | .local _ .vmem, ⟨12, _⟩ => ⟨S1024x352, .f32⟩
  | .local _ .vmem, ⟨13, _⟩ => ⟨S1024x352, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdUpIdeal.lean ====
abbrev S4x1024x352 : Shape := ⟨3, ![4, 1024, 352]⟩
abbrev S4096x352 : Shape := ⟨2, ![4096, 352]⟩
abbrev S1024x352 : Shape := ⟨2, ![1024, 352]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .hbm, ⟨9, _⟩ => ⟨S4096x352, .f32⟩
  | .hbm, ⟨10, _⟩ => ⟨S4096x352, .f32⟩
  | .local _ .vmem, ⟨0, _⟩ => ⟨S1024x352, .f32⟩
  | .local _ .vmem, ⟨1, _⟩ => ⟨S1024x352, .f32⟩
  | .local _ .vmem, ⟨2, _⟩ => ⟨S1024x352, .f32⟩
  | .local _ .vmem, ⟨3, _⟩ => ⟨S1024x352, .f32⟩
  | .local _ .vmem, ⟨4, _⟩ => ⟨S1024x352, .f32⟩
  | .local _ .vmem, ⟨5, _⟩ => ⟨S1024x352, .f32⟩
  | .local _ .vmem, ⟨6, _⟩ => ⟨S1024x352, .f32⟩
  | .local _ .vmem, ⟨7, _⟩ => ⟨S1024x352, .f32⟩
  | .local _ .vmem, ⟨8, _⟩ => ⟨S1024x352, .f32⟩
  | .local _ .vmem, ⟨9, _⟩ => ⟨S1024x352, .f32⟩
  | .local _ .vmem, ⟨10, _⟩ => ⟨S1024x352, .f32⟩
  | .local _ .vmem, ⟨11, _⟩ => ⟨S1024x352, .f32⟩
  | .local _ .vmem, ⟨12, _⟩ => ⟨S1024x352, .f32⟩
  | .local _ .vmem, ⟨13, _⟩ => ⟨S1024x352, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdUpRefIdeal.lean ====
abbrev S4x1024x352 : Shape := ⟨3, ![4, 1024, 352]⟩
abbrev S_ : Shape := ⟨0, ![]⟩
abbrev S4096x352 : Shape := ⟨2, ![4096, 352]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S_, .f32⟩
  | .hbm, ⟨5, _⟩ => ⟨S4x1024x352, .f32⟩
  | .hbm, ⟨6, _⟩ => ⟨S4x1024x352, .f32⟩
  | .hbm, ⟨7, _⟩ => ⟨S_, .f32⟩
  | .hbm, ⟨8, _⟩ => ⟨S4x1024x352, .f32⟩
  | .hbm, ⟨9, _⟩ => ⟨S4x1024x352, .f32⟩
  | .hbm, ⟨10, _⟩ => ⟨S4x1024x352, .f32⟩
  | .hbm, ⟨11, _⟩ => ⟨S_, .f32⟩
  | .hbm, ⟨12, _⟩ => ⟨S4x1024x352, .f32⟩
  | .hbm, ⟨13, _⟩ => ⟨S4x1024x352, .f32⟩
  | .hbm, ⟨14, _⟩ => ⟨S4x1024x352, .f32⟩
  | .hbm, ⟨15, _⟩ => ⟨S_, .f32⟩
  | .hbm, ⟨16, _⟩ => ⟨S4x1024x352, .f32⟩
  | .hbm, ⟨17, _⟩ => ⟨S4x1024x352, .f32⟩
  | .hbm, ⟨18, _⟩ => ⟨S4x1024x352, .f32⟩
  | .hbm, ⟨19, _⟩ => ⟨S_, .f32⟩
  | .hbm, ⟨20, _⟩ => ⟨S4x1024x352, .f32⟩
  | .hbm, ⟨21, _⟩ => ⟨S4x1024x352, .f32⟩
  | .hbm, ⟨22, _⟩ => ⟨S_, .f32⟩
  | .hbm, ⟨23, _⟩ => ⟨S4x1024x352, .f32⟩
  | .hbm, ⟨24, _⟩ => ⟨S4x1024x352, .f32⟩
  | .hbm, ⟨25, _⟩ => ⟨S4x1024x352, .f32⟩
  | .hbm, ⟨26, _⟩ => ⟨S_, .f32⟩
  | .hbm, ⟨27, _⟩ => ⟨S4x1024x352, .f32⟩
  | .hbm, ⟨28, _⟩ => ⟨S4x1024x352, .f32⟩
  | .hbm, ⟨29, _⟩ => ⟨S4x1024x352, .f32⟩
  | .hbm, ⟨30, _⟩ => ⟨S_, .f32⟩
  | .hbm, ⟨31, _⟩ => ⟨S4x1024x352, .f32⟩
  | .hbm, ⟨32, _⟩ => ⟨S4x1024x352, .f32⟩
  | .hbm, ⟨33, _⟩ => ⟨S4x1024x352, .f32⟩
  | .hbm, ⟨34, _⟩ => ⟨S_, .f32⟩
  | .hbm, ⟨35, _⟩ => ⟨S4x1024x352, .f32⟩
  | .hbm, ⟨36, _⟩ => ⟨S4x1024x352, .f32⟩
  | .hbm, ⟨37, _⟩ => ⟨S4096x352, .f32⟩
  | .hbm, ⟨38, _⟩ => ⟨S4096x352, .f32⟩
  | .hbm, ⟨39, _⟩ => ⟨S4096x352, .f32⟩
  | _, _ => ⟨S4x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdDown.lean ====
abbrev S4x352x1024 : Shape := ⟨3, ![4, 352, 1024]⟩
abbrev S1408x1024 : Shape := ⟨2, ![1408, 1024]⟩
abbrev S704x1024 : Shape := ⟨2, ![704, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S704x1024, .f32⟩
  | .local _ .vmem, ⟨1, _⟩ => ⟨S704x1024, .f32⟩
  | .local _ .vmem, ⟨2, _⟩ => ⟨S704x1024, .f32⟩
  | .local _ .vmem, ⟨3, _⟩ => ⟨S704x1024, .f32⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S704x1024, .f32⟩
  | .local _ .vmem, ⟨9, _⟩ => ⟨S704x1024, .f32⟩
  | .local _ .vmem, ⟨10, _⟩ => ⟨S704x1024, .f32⟩
  | .local _ .vmem, ⟨11, _⟩ => ⟨S704x1024, .f32⟩
  | .local _ .vmem, ⟨12, _⟩ => ⟨S704x1024, .f32⟩
  | .local _ .vmem, ⟨13, _⟩ => ⟨S704x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdDownIdeal.lean ====
abbrev S4x352x1024 : Shape := ⟨3, ![4, 352, 1024]⟩
abbrev S1408x1024 : Shape := ⟨2, ![1408, 1024]⟩
abbrev S704x1024 : Shape := ⟨2, ![704, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S704x1024, .f32⟩
  | .local _ .vmem, ⟨1, _⟩ => ⟨S704x1024, .f32⟩
  | .local _ .vmem, ⟨2, _⟩ => ⟨S704x1024, .f32⟩
  | .local _ .vmem, ⟨3, _⟩ => ⟨S704x1024, .f32⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S704x1024, .f32⟩
  | .local _ .vmem, ⟨9, _⟩ => ⟨S704x1024, .f32⟩
  | .local _ .vmem, ⟨10, _⟩ => ⟨S704x1024, .f32⟩
  | .local _ .vmem, ⟨11, _⟩ => ⟨S704x1024, .f32⟩
  | .local _ .vmem, ⟨12, _⟩ => ⟨S704x1024, .f32⟩
  | .local _ .vmem, ⟨13, _⟩ => ⟨S704x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdDownRefIdeal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdWin.lean ====
abbrev S4x1024x512 : Shape := ⟨3, ![4, 1024, 512]⟩
abbrev S4096x512 : Shape := ⟨2, ![4096, 512]⟩
abbrev S1024x512 : Shape := ⟨2, ![1024, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdWinIdeal.lean ====
abbrev S4x1024x512 : Shape := ⟨3, ![4, 1024, 512]⟩
abbrev S4096x512 : Shape := ⟨2, ![4096, 512]⟩
abbrev S1024x512 : Shape := ⟨2, ![1024, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdWinRefIdeal.lean ====
abbrev S4x1024x512 : Shape := ⟨3, ![4, 1024, 512]⟩
abbrev S_ : Shape := ⟨0, ![]⟩
abbrev S4096x512 : Shape := ⟨2, ![4096, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S_, .f32⟩
  | .hbm, ⟨5, _⟩ => ⟨S4x1024x512, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S_, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S4x1024x512, .f32⟩
  | .hbm, ⟨19, _⟩ => ⟨S_, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S4x1024x512, .f32⟩
  | .hbm, ⟨34, _⟩ => ⟨S_, .f32⟩
  | .hbm, ⟨35, _⟩ => ⟨S4x1024x512, .f32⟩
  | .hbm, ⟨36, _⟩ => ⟨S4x1024x512, .f32⟩
  | .hbm, ⟨37, _⟩ => ⟨S4096x512, .f32⟩
  | .hbm, ⟨38, _⟩ => ⟨S4096x512, .f32⟩
  | .hbm, ⟨39, _⟩ => ⟨S4096x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdLam.lean ====
abbrev S4x2x32x64 : Shape := ⟨4, ![4, 2, 32, 64]⟩
abbrev S256x64 : Shape := ⟨2, ![256, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x2x32x64, .f32⟩
  | .hbm, ⟨1, _⟩ => ⟨S4x2x32x64, .f32⟩
  | .hbm, ⟨2, _⟩ => ⟨S4x2x32x64, .f32⟩
  | .hbm, ⟨3, _⟩ => ⟨S4x2x32x64, .f32⟩
  | .hbm, ⟨4, _⟩ => ⟨S256x64, .f32⟩
  | .hbm, ⟨5, _⟩ => ⟨S256x64, .f32⟩
  | .hbm, ⟨6, _⟩ => ⟨S256x64, .f32⟩
  | .hbm, ⟨7, _⟩ => ⟨S256x64, .f32⟩
  | .hbm, ⟨8, _⟩ => ⟨S256x64, .f32⟩
  | .hbm, ⟨9, _⟩ => ⟨S256x64, .f32⟩
  | .hbm, ⟨10, _⟩ => ⟨S256x64, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | _, _ => ⟨S4x2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdLamIdeal.lean ====
abbrev S4x2x32x64 : Shape := ⟨4, ![4, 2, 32, 64]⟩
abbrev S256x64 : Shape := ⟨2, ![256, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x2x32x64, .f32⟩
  | .hbm, ⟨1, _⟩ => ⟨S4x2x32x64, .f32⟩
  | .hbm, ⟨2, _⟩ => ⟨S4x2x32x64, .f32⟩
  | .hbm, ⟨3, _⟩ => ⟨S4x2x32x64, .f32⟩
  | .hbm, ⟨4, _⟩ => ⟨S256x64, .f32⟩
  | .hbm, ⟨5, _⟩ => ⟨S256x64, .f32⟩
  | .hbm, ⟨6, _⟩ => ⟨S256x64, .f32⟩
  | .hbm, ⟨7, _⟩ => ⟨S256x64, .f32⟩
  | .hbm, ⟨8, _⟩ => ⟨S256x64, .f32⟩
  | .hbm, ⟨9, _⟩ => ⟨S256x64, .f32⟩
  | .hbm, ⟨10, _⟩ => ⟨S256x64, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | _, _ => ⟨S4x2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdLamRefIdeal.lean ====
abbrev S4x2x32x64 : Shape := ⟨4, ![4, 2, 32, 64]⟩
abbrev S_ : Shape := ⟨0, ![]⟩
abbrev S256x64 : Shape := ⟨2, ![256, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x2x32x64, .f32⟩
  | .hbm, ⟨1, _⟩ => ⟨S4x2x32x64, .f32⟩
  | .hbm, ⟨2, _⟩ => ⟨S4x2x32x64, .f32⟩
  | .hbm, ⟨3, _⟩ => ⟨S4x2x32x64, .f32⟩
  | .hbm, ⟨4, _⟩ => ⟨S_, .f32⟩
  | .hbm, ⟨5, _⟩ => ⟨S4x2x32x64, .f32⟩
  | .hbm, ⟨6, _⟩ => ⟨S4x2x32x64, .f32⟩
  | .hbm, ⟨7, _⟩ => ⟨S_, .f32⟩
  | .hbm, ⟨8, _⟩ => ⟨S4x2x32x64, .f32⟩
  | .hbm, ⟨9, _⟩ => ⟨S4x2x32x64, .f32⟩
  | .hbm, ⟨10, _⟩ => ⟨S4x2x32x64, .f32⟩
  | .hbm, ⟨11, _⟩ => ⟨S_, .f32⟩
  | .hbm, ⟨12, _⟩ => ⟨S4x2x32x64, .f32⟩
  | .hbm, ⟨13, _⟩ => ⟨S4x2x32x64, .f32⟩
  | .hbm, ⟨14, _⟩ => ⟨S4x2x32x64, .f32⟩
  | .hbm, ⟨15, _⟩ => ⟨S_, .f32⟩
  | .hbm, ⟨16, _⟩ => ⟨S4x2x32x64, .f32⟩
  | .hbm, ⟨17, _⟩ => ⟨S4x2x32x64, .f32⟩
  | .hbm, ⟨18, _⟩ => ⟨S4x2x32x64, .f32⟩
  | .hbm, ⟨19, _⟩ => ⟨S_, .f32⟩
  | .hbm, ⟨20, _⟩ => ⟨S4x2x32x64, .f32⟩
  | .hbm, ⟨21, _⟩ => ⟨S4x2x32x64, .f32⟩
  | .hbm, ⟨22, _⟩ => ⟨S_, .f32⟩
  | .hbm, ⟨23, _⟩ => ⟨S4x2x32x64, .f32⟩
  | .hbm, ⟨24, _⟩ => ⟨S4x2x32x64, .f32⟩
  | .hbm, ⟨25, _⟩ => ⟨S4x2x32x64, .f32⟩
  | .hbm, ⟨26, _⟩ => ⟨S_, .f32⟩
  | .hbm, ⟨27, _⟩ => ⟨S4x2x32x64, .f32⟩
  | .hbm, ⟨28, _⟩ => ⟨S4x2x32x64, .f32⟩
  | .hbm, ⟨29, _⟩ => ⟨S4x2x32x64, .f32⟩
  | .hbm, ⟨30, _⟩ => ⟨S_, .f32⟩
  | .hbm, ⟨31, _⟩ => ⟨S4x2x32x64, .f32⟩
  | .hbm, ⟨32, _⟩ => ⟨S4x2x32x64, .f32⟩
  | .hbm, ⟨33, _⟩ => ⟨S4x2x32x64, .f32⟩
  | .hbm, ⟨34, _⟩ => ⟨S_, .f32⟩
  | .hbm, ⟨35, _⟩ => ⟨S4x2x32x64, .f32⟩
  | .hbm, ⟨36, _⟩ => ⟨S4x2x32x64, .f32⟩
  | .hbm, ⟨37, _⟩ => ⟨S256x64, .f32⟩
  | .hbm, ⟨38, _⟩ => ⟨S256x64, .f32⟩
  | .hbm, ⟨39, _⟩ => ⟨S256x64, .f32⟩
  | _, _ => ⟨S4x2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdDt.lean ====
abbrev S4x2x32 : Shape := ⟨3, ![4, 2, 32]⟩
abbrev S8x32 : Shape := ⟨2, ![8, 32]⟩

abbrev nBuf : Space → Nat
  | .hbm => 11
  | .vmem => 7
  | .smem => 0
  | _ => 0

abbrev bufTy : (tb : Table) → Fin (tcTables nBuf tb) → BufTy
  | .hbm, ⟨0, _⟩ => ⟨S4x2x32, .f32⟩
  | .hbm, ⟨1, _⟩ => ⟨S4x2x32, .f32⟩
  | .hbm, ⟨2, _⟩ => ⟨S4x2x32, .f32⟩
  | .hbm, ⟨3, _⟩ => ⟨S4x2x32, .f32⟩
  | .hbm, ⟨4, _⟩ => ⟨S8x32, .f32⟩
  | .hbm, ⟨5, _⟩ => ⟨S8x32, .f32⟩
  | .hbm, ⟨6, _⟩ => ⟨S8x32, .f32⟩
  | .hbm, ⟨7, _⟩ => ⟨S8x32, .f32⟩
  | .hbm, ⟨8, _⟩ => ⟨S8x32, .f32⟩
  | .hbm, ⟨9, _⟩ => ⟨S8x32, .f32⟩
  | .hbm, ⟨10, _⟩ => ⟨S8x32, .f32⟩
  | .local _ .vmem, ⟨0, _⟩ => ⟨S8x32, .f32⟩
  | .local _ .vmem, ⟨1, _⟩ => ⟨S8x32, .f32⟩
  | .local _ .vmem, ⟨2, _⟩ => ⟨S8x32, .f32⟩
  | .local _ .vmem, ⟨3, _⟩ => ⟨S8x32, .f32⟩
  | .local _ .vmem, ⟨4, _⟩ => ⟨S8x32, .f32⟩
  | .local _ .vmem, ⟨5, _⟩ => ⟨S8x32, .f32⟩
  | .local _ .vmem, ⟨6, _⟩ => ⟨S8x32, .f32⟩
  | _, _ => ⟨S4x2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdDtIdeal.lean ====
abbrev S4x2x32 : Shape := ⟨3, ![4, 2, 32]⟩
abbrev S8x32 : Shape := ⟨2, ![8, 32]⟩

abbrev nBuf : Space → Nat
  | .hbm => 11
  | .vmem => 7
  | .smem => 0
  | _ => 0

abbrev bufTy : (tb : Table) → Fin (tcTables nBuf tb) → BufTy
  | .hbm, ⟨0, _⟩ => ⟨S4x2x32, .f32⟩
  | .hbm, ⟨1, _⟩ => ⟨S4x2x32, .f32⟩
  | .hbm, ⟨2, _⟩ => ⟨S4x2x32, .f32⟩
  | .hbm, ⟨3, _⟩ => ⟨S4x2x32, .f32⟩
  | .hbm, ⟨4, _⟩ => ⟨S8x32, .f32⟩
  | .hbm, ⟨5, _⟩ => ⟨S8x32, .f32⟩
  | .hbm, ⟨6, _⟩ => ⟨S8x32, .f32⟩
  | .hbm, ⟨7, _⟩ => ⟨S8x32, .f32⟩
  | .hbm, ⟨8, _⟩ => ⟨S8x32, .f32⟩
  | .hbm, ⟨9, _⟩ => ⟨S8x32, .f32⟩
  | .hbm, ⟨10, _⟩ => ⟨S8x32, .f32⟩
  | .local _ .vmem, ⟨0, _⟩ => ⟨S8x32, .f32⟩
  | .local _ .vmem, ⟨1, _⟩ => ⟨S8x32, .f32⟩
  | .local _ .vmem, ⟨2, _⟩ => ⟨S8x32, .f32⟩
  | .local _ .vmem, ⟨3, _⟩ => ⟨S8x32, .f32⟩
  | .local _ .vmem, ⟨4, _⟩ => ⟨S8x32, .f32⟩
  | .local _ .vmem, ⟨5, _⟩ => ⟨S8x32, .f32⟩
  | .local _ .vmem, ⟨6, _⟩ => ⟨S8x32, .f32⟩
  | _, _ => ⟨S4x2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdDtRefIdeal.lean ====
abbrev S4x2x32 : Shape := ⟨3, ![4, 2, 32]⟩
abbrev S_ : Shape := ⟨0, ![]⟩
abbrev S8x32 : Shape := ⟨2, ![8, 32]⟩

abbrev nBuf : Space → Nat
  | .hbm => 40
  | .vmem => 0
  | .smem => 0
  | _ => 0

abbrev bufTy : (tb : Table) → Fin (tcTables nBuf tb) → BufTy
  | .hbm, ⟨0, _⟩ => ⟨S4x2x32, .f32⟩
  | .hbm, ⟨1, _⟩ => ⟨S4x2x32, .f32⟩
  | .hbm, ⟨2, _⟩ => ⟨S4x2x32, .f32⟩
  | .hbm, ⟨3, _⟩ => ⟨S4x2x32, .f32⟩
  | .hbm, ⟨4, _⟩ => ⟨S_, .f32⟩
  | .hbm, ⟨5, _⟩ => ⟨S4x2x32, .f32⟩
  | .hbm, ⟨6, _⟩ => ⟨S4x2x32, .f32⟩
  | .hbm, ⟨7, _⟩ => ⟨S_, .f32⟩
  | .hbm, ⟨8, _⟩ => ⟨S4x2x32, .f32⟩
  | .hbm, ⟨9, _⟩ => ⟨S4x2x32, .f32⟩
  | .hbm, ⟨10, _⟩ => ⟨S4x2x32, .f32⟩
  | .hbm, ⟨11, _⟩ => ⟨S_, .f32⟩
  | .hbm, ⟨12, _⟩ => ⟨S4x2x32, .f32⟩
  | .hbm, ⟨13, _⟩ => ⟨S4x2x32, .f32⟩
  | .hbm, ⟨14, _⟩ => ⟨S4x2x32, .f32⟩
  | .hbm, ⟨15, _⟩ => ⟨S_, .f32⟩
  | .hbm, ⟨16, _⟩ => ⟨S4x2x32, .f32⟩
  | .hbm, ⟨17, _⟩ => ⟨S4x2x32, .f32⟩
  | .hbm, ⟨18, _⟩ => ⟨S4x2x32, .f32⟩
  | .hbm, ⟨19, _⟩ => ⟨S_, .f32⟩
  | .hbm, ⟨20, _⟩ => ⟨S4x2x32, .f32⟩
  | .hbm, ⟨21, _⟩ => ⟨S4x2x32, .f32⟩
  | .hbm, ⟨22, _⟩ => ⟨S_, .f32⟩
  | .hbm, ⟨23, _⟩ => ⟨S4x2x32, .f32⟩
  | .hbm, ⟨24, _⟩ => ⟨S4x2x32, .f32⟩
  | .hbm, ⟨25, _⟩ => ⟨S4x2x32, .f32⟩
  | .hbm, ⟨26, _⟩ => ⟨S_, .f32⟩
  | .hbm, ⟨27, _⟩ => ⟨S4x2x32, .f32⟩
  | .hbm, ⟨28, _⟩ => ⟨S4x2x32, .f32⟩
  | .hbm, ⟨29, _⟩ => ⟨S4x2x32, .f32⟩
  | .hbm, ⟨30, _⟩ => ⟨S_, .f32⟩
  | .hbm, ⟨31, _⟩ => ⟨S4x2x32, .f32⟩
  | .hbm, ⟨32, _⟩ => ⟨S4x2x32, .f32⟩
  | .hbm, ⟨33, _⟩ => ⟨S4x2x32, .f32⟩
  | .hbm, ⟨34, _⟩ => ⟨S_, .f32⟩
  | .hbm, ⟨35, _⟩ => ⟨S4x2x32, .f32⟩
  | .hbm, ⟨36, _⟩ => ⟨S4x2x32, .f32⟩
  | .hbm, ⟨37, _⟩ => ⟨S8x32, .f32⟩
  | .hbm, ⟨38, _⟩ => ⟨S8x32, .f32⟩
  | .hbm, ⟨39, _⟩ => ⟨S8x32, .f32⟩
  | _, _ => ⟨S4x2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdB.lean ====
abbrev S4x2x32x64x16 : Shape := ⟨5, ![4, 2, 32, 64, 16]⟩
abbrev S16384x16 : Shape := ⟨2, ![16384, 16]⟩
abbrev S1024x16 : Shape := ⟨2, ![1024, 16]⟩

abbrev nBuf : Space → Nat
  | .hbm => 11
  | .vmem => 14
  | .smem => 0
  | _ => 0

abbrev bufTy : (tb : Table) → Fin (tcTables nBuf tb) → BufTy
  | .hbm, ⟨0, _⟩ => ⟨S4x2x32x64x16, .f32⟩
  | .hbm, ⟨1, _⟩ => ⟨S4x2x32x64x16, .f32⟩
  | .hbm, ⟨2, _⟩ => ⟨S4x2x32x64x16, .f32⟩
  | .hbm, ⟨3, _⟩ => ⟨S4x2x32x64x16, .f32⟩
  | .hbm, ⟨4, _⟩ => ⟨S16384x16, .f32⟩
  | .hbm, ⟨5, _⟩ => ⟨S16384x16, .f32⟩
  | .hbm, ⟨6, _⟩ => ⟨S16384x16, .f32⟩
  | .hbm, ⟨7, _⟩ => ⟨S16384x16, .f32⟩
  | .hbm, ⟨8, _⟩ => ⟨S16384x16, .f32⟩
  | .hbm, ⟨9, _⟩ => ⟨S16384x16, .f32⟩
  | .hbm, ⟨10, _⟩ => ⟨S16384x16, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S1024x16, .f32⟩
  | .local _ .vmem, ⟨9, _⟩ => ⟨S1024x16, .f32⟩
  | .local _ .vmem, ⟨10, _⟩ => ⟨S1024x16, .f32⟩
  | .local _ .vmem, ⟨11, _⟩ => ⟨S1024x16, .f32⟩
  | .local _ .vmem, ⟨12, _⟩ => ⟨S1024x16, .f32⟩
  | .local _ .vmem, ⟨13, _⟩ => ⟨S1024x16, .f32⟩
  | _, _ => ⟨S4x2x32x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdBIdeal.lean ====
abbrev S4x2x32x64x16 : Shape := ⟨5, ![4, 2, 32, 64, 16]⟩
abbrev S16384x16 : Shape := ⟨2, ![16384, 16]⟩
abbrev S1024x16 : Shape := ⟨2, ![1024, 16]⟩

abbrev nBuf : Space → Nat
  | .hbm => 11
  | .vmem => 14
  | .smem => 0
  | _ => 0

abbrev bufTy : (tb : Table) → Fin (tcTables nBuf tb) → BufTy
  | .hbm, ⟨0, _⟩ => ⟨S4x2x32x64x16, .f32⟩
  | .hbm, ⟨1, _⟩ => ⟨S4x2x32x64x16, .f32⟩
  | .hbm, ⟨2, _⟩ => ⟨S4x2x32x64x16, .f32⟩
  | .hbm, ⟨3, _⟩ => ⟨S4x2x32x64x16, .f32⟩
  | .hbm, ⟨4, _⟩ => ⟨S16384x16, .f32⟩
  | .hbm, ⟨5, _⟩ => ⟨S16384x16, .f32⟩
  | .hbm, ⟨6, _⟩ => ⟨S16384x16, .f32⟩
  | .hbm, ⟨7, _⟩ => ⟨S16384x16, .f32⟩
  | .hbm, ⟨8, _⟩ => ⟨S16384x16, .f32⟩
  | .hbm, ⟨9, _⟩ => ⟨S16384x16, .f32⟩
  | .hbm, ⟨10, _⟩ => ⟨S16384x16, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S1024x16, .f32⟩
  | .local _ .vmem, ⟨9, _⟩ => ⟨S1024x16, .f32⟩
  | .local _ .vmem, ⟨10, _⟩ => ⟨S1024x16, .f32⟩
  | .local _ .vmem, ⟨11, _⟩ => ⟨S1024x16, .f32⟩
  | .local _ .vmem, ⟨12, _⟩ => ⟨S1024x16, .f32⟩
  | .local _ .vmem, ⟨13, _⟩ => ⟨S1024x16, .f32⟩
  | _, _ => ⟨S4x2x32x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdBRefIdeal.lean ====
abbrev S4x2x32x64x16 : Shape := ⟨5, ![4, 2, 32, 64, 16]⟩
abbrev S_ : Shape := ⟨0, ![]⟩
abbrev S16384x16 : Shape := ⟨2, ![16384, 16]⟩

abbrev nBuf : Space → Nat
  | .hbm => 40
  | .vmem => 0
  | .smem => 0
  | _ => 0

abbrev bufTy : (tb : Table) → Fin (tcTables nBuf tb) → BufTy
  | .hbm, ⟨0, _⟩ => ⟨S4x2x32x64x16, .f32⟩
  | .hbm, ⟨1, _⟩ => ⟨S4x2x32x64x16, .f32⟩
  | .hbm, ⟨2, _⟩ => ⟨S4x2x32x64x16, .f32⟩
  | .hbm, ⟨3, _⟩ => ⟨S4x2x32x64x16, .f32⟩
  | .hbm, ⟨4, _⟩ => ⟨S_, .f32⟩
  | .hbm, ⟨5, _⟩ => ⟨S4x2x32x64x16, .f32⟩
  | .hbm, ⟨6, _⟩ => ⟨S4x2x32x64x16, .f32⟩
  | .hbm, ⟨7, _⟩ => ⟨S_, .f32⟩
  | .hbm, ⟨8, _⟩ => ⟨S4x2x32x64x16, .f32⟩
  | .hbm, ⟨9, _⟩ => ⟨S4x2x32x64x16, .f32⟩
  | .hbm, ⟨10, _⟩ => ⟨S4x2x32x64x16, .f32⟩
  | .hbm, ⟨11, _⟩ => ⟨S_, .f32⟩
  | .hbm, ⟨12, _⟩ => ⟨S4x2x32x64x16, .f32⟩
  | .hbm, ⟨13, _⟩ => ⟨S4x2x32x64x16, .f32⟩
  | .hbm, ⟨14, _⟩ => ⟨S4x2x32x64x16, .f32⟩
  | .hbm, ⟨15, _⟩ => ⟨S_, .f32⟩
  | .hbm, ⟨16, _⟩ => ⟨S4x2x32x64x16, .f32⟩
  | .hbm, ⟨17, _⟩ => ⟨S4x2x32x64x16, .f32⟩
  | .hbm, ⟨18, _⟩ => ⟨S4x2x32x64x16, .f32⟩
  | .hbm, ⟨19, _⟩ => ⟨S_, .f32⟩
  | .hbm, ⟨20, _⟩ => ⟨S4x2x32x64x16, .f32⟩
  | .hbm, ⟨21, _⟩ => ⟨S4x2x32x64x16, .f32⟩
  | .hbm, ⟨22, _⟩ => ⟨S_, .f32⟩
  | .hbm, ⟨23, _⟩ => ⟨S4x2x32x64x16, .f32⟩
  | .hbm, ⟨24, _⟩ => ⟨S4x2x32x64x16, .f32⟩
  | .hbm, ⟨25, _⟩ => ⟨S4x2x32x64x16, .f32⟩
  | .hbm, ⟨26, _⟩ => ⟨S_, .f32⟩
  | .hbm, ⟨27, _⟩ => ⟨S4x2x32x64x16, .f32⟩
  | .hbm, ⟨28, _⟩ => ⟨S4x2x32x64x16, .f32⟩
  | .hbm, ⟨29, _⟩ => ⟨S4x2x32x64x16, .f32⟩
  | .hbm, ⟨30, _⟩ => ⟨S_, .f32⟩
  | .hbm, ⟨31, _⟩ => ⟨S4x2x32x64x16, .f32⟩
  | .hbm, ⟨32, _⟩ => ⟨S4x2x32x64x16, .f32⟩
  | .hbm, ⟨33, _⟩ => ⟨S4x2x32x64x16, .f32⟩
  | .hbm, ⟨34, _⟩ => ⟨S_, .f32⟩
  | .hbm, ⟨35, _⟩ => ⟨S4x2x32x64x16, .f32⟩
  | .hbm, ⟨36, _⟩ => ⟨S4x2x32x64x16, .f32⟩
  | .hbm, ⟨37, _⟩ => ⟨S16384x16, .f32⟩
  | .hbm, ⟨38, _⟩ => ⟨S16384x16, .f32⟩
  | .hbm, ⟨39, _⟩ => ⟨S16384x16, .f32⟩
  | _, _ => ⟨S4x2x32x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdC.lean ====
abbrev S4x2x32x16x64 : Shape := ⟨5, ![4, 2, 32, 16, 64]⟩
abbrev S4096x64 : Shape := ⟨2, ![4096, 64]⟩
abbrev S1024x64 : Shape := ⟨2, ![1024, 64]⟩

abbrev nBuf : Space → Nat
  | .hbm => 11
  | .vmem => 14
  | .smem => 0
  | _ => 0

abbrev bufTy : (tb : Table) → Fin (tcTables nBuf tb) → BufTy
  | .hbm, ⟨0, _⟩ => ⟨S4x2x32x16x64, .f32⟩
  | .hbm, ⟨1, _⟩ => ⟨S4x2x32x16x64, .f32⟩
  | .hbm, ⟨2, _⟩ => ⟨S4x2x32x16x64, .f32⟩
  | .hbm, ⟨3, _⟩ => ⟨S4x2x32x16x64, .f32⟩
  | .hbm, ⟨4, _⟩ => ⟨S4096x64, .f32⟩
  | .hbm, ⟨5, _⟩ => ⟨S4096x64, .f32⟩
  | .hbm, ⟨6, _⟩ => ⟨S4096x64, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | _, _ => ⟨S4x2x32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdCIdeal.lean ====
abbrev S4x2x32x16x64 : Shape := ⟨5, ![4, 2, 32, 16, 64]⟩
abbrev S4096x64 : Shape := ⟨2, ![4096, 64]⟩
abbrev S1024x64 : Shape := ⟨2, ![1024, 64]⟩

abbrev nBuf : Space → Nat
  | .hbm => 11
  | .vmem => 14
  | .smem => 0
  | _ => 0

abbrev bufTy : (tb : Table) → Fin (tcTables nBuf tb) → BufTy
  | .hbm, ⟨0, _⟩ => ⟨S4x2x32x16x64, .f32⟩
  | .hbm, ⟨1, _⟩ => ⟨S4x2x32x16x64, .f32⟩
  | .hbm, ⟨2, _⟩ => ⟨S4x2x32x16x64, .f32⟩
  | .hbm, ⟨3, _⟩ => ⟨S4x2x32x16x64, .f32⟩
  | .hbm, ⟨4, _⟩ => ⟨S4096x64, .f32⟩
  | .hbm, ⟨5, _⟩ => ⟨S4096x64, .f32⟩
  | .hbm, ⟨6, _⟩ => ⟨S4096x64, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | _, _ => ⟨S4x2x32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdCRefIdeal.lean ====
abbrev S4x2x32x16x64 : Shape := ⟨5, ![4, 2, 32, 16, 64]⟩
abbrev S_ : Shape := ⟨0, ![]⟩
abbrev S4096x64 : Shape := ⟨2, ![4096, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x2x32x16x64, .f32⟩
  | .hbm, ⟨1, _⟩ => ⟨S4x2x32x16x64, .f32⟩
  | .hbm, ⟨2, _⟩ => ⟨S4x2x32x16x64, .f32⟩
  | .hbm, ⟨3, _⟩ => ⟨S4x2x32x16x64, .f32⟩
  | .hbm, ⟨4, _⟩ => ⟨S_, .f32⟩
  | .hbm, ⟨5, _⟩ => ⟨S4x2x32x16x64, .f32⟩
  | .hbm, ⟨6, _⟩ => ⟨S4x2x32x16x64, .f32⟩
  | .hbm, ⟨7, _⟩ => ⟨S_, .f32⟩
  | .hbm, ⟨8, _⟩ => ⟨S4x2x32x16x64, .f32⟩
  | .hbm, ⟨9, _⟩ => ⟨S4x2x32x16x64, .f32⟩
  | .hbm, ⟨10, _⟩ => ⟨S4x2x32x16x64, .f32⟩
  | .hbm, ⟨11, _⟩ => ⟨S_, .f32⟩
  | .hbm, ⟨12, _⟩ => ⟨S4x2x32x16x64, .f32⟩
  | .hbm, ⟨13, _⟩ => ⟨S4x2x32x16x64, .f32⟩
  | .hbm, ⟨14, _⟩ => ⟨S4x2x32x16x64, .f32⟩
  | .hbm, ⟨15, _⟩ => ⟨S_, .f32⟩
  | .hbm, ⟨16, _⟩ => ⟨S4x2x32x16x64, .f32⟩
  | .hbm, ⟨17, _⟩ => ⟨S4x2x32x16x64, .f32⟩
  | .hbm, ⟨18, _⟩ => ⟨S4x2x32x16x64, .f32⟩
  | .hbm, ⟨19, _⟩ => ⟨S_, .f32⟩
  | .hbm, ⟨20, _⟩ => ⟨S4x2x32x16x64, .f32⟩
  | .hbm, ⟨21, _⟩ => ⟨S4x2x32x16x64, .f32⟩
  | .hbm, ⟨22, _⟩ => ⟨S_, .f32⟩
  | .hbm, ⟨23, _⟩ => ⟨S4x2x32x16x64, .f32⟩
  | .hbm, ⟨24, _⟩ => ⟨S4x2x32x16x64, .f32⟩
  | .hbm, ⟨25, _⟩ => ⟨S4x2x32x16x64, .f32⟩
  | .hbm, ⟨26, _⟩ => ⟨S_, .f32⟩
  | .hbm, ⟨27, _⟩ => ⟨S4x2x32x16x64, .f32⟩
  | .hbm, ⟨28, _⟩ => ⟨S4x2x32x16x64, .f32⟩
  | .hbm, ⟨29, _⟩ => ⟨S4x2x32x16x64, .f32⟩
  | .hbm, ⟨30, _⟩ => ⟨S_, .f32⟩
  | .hbm, ⟨31, _⟩ => ⟨S4x2x32x16x64, .f32⟩
  | .hbm, ⟨32, _⟩ => ⟨S4x2x32x16x64, .f32⟩
  | .hbm, ⟨33, _⟩ => ⟨S4x2x32x16x64, .f32⟩
  | .hbm, ⟨34, _⟩ => ⟨S_, .f32⟩
  | .hbm, ⟨35, _⟩ => ⟨S4x2x32x16x64, .f32⟩
  | .hbm, ⟨36, _⟩ => ⟨S4x2x32x16x64, .f32⟩
  | .hbm, ⟨37, _⟩ => ⟨S4096x64, .f32⟩
  | .hbm, ⟨38, _⟩ => ⟨S4096x64, .f32⟩
  | .hbm, ⟨39, _⟩ => ⟨S4096x64, .f32⟩
  | _, _ => ⟨S4x2x32x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdD.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdDIdeal.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdDRefIdeal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdGlu.lean ====
abbrev S4x64x512 : Shape := ⟨3, ![4, 64, 512]⟩
abbrev S256x512 : Shape := ⟨2, ![256, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x64x512, .f32⟩
  | .hbm, ⟨1, _⟩ => ⟨S4x64x512, .f32⟩
  | .hbm, ⟨2, _⟩ => ⟨S4x64x512, .f32⟩
  | .hbm, ⟨3, _⟩ => ⟨S4x64x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S4x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdGluIdeal.lean ====
abbrev S4x64x512 : Shape := ⟨3, ![4, 64, 512]⟩
abbrev S256x512 : Shape := ⟨2, ![256, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x64x512, .f32⟩
  | .hbm, ⟨1, _⟩ => ⟨S4x64x512, .f32⟩
  | .hbm, ⟨2, _⟩ => ⟨S4x64x512, .f32⟩
  | .hbm, ⟨3, _⟩ => ⟨S4x64x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S4x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdGluRefIdeal.lean ====
abbrev S4x64x512 : Shape := ⟨3, ![4, 64, 512]⟩
abbrev S_ : Shape := ⟨0, ![]⟩
abbrev S256x512 : Shape := ⟨2, ![256, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x64x512, .f32⟩
  | .hbm, ⟨1, _⟩ => ⟨S4x64x512, .f32⟩
  | .hbm, ⟨2, _⟩ => ⟨S4x64x512, .f32⟩
  | .hbm, ⟨3, _⟩ => ⟨S4x64x512, .f32⟩
  | .hbm, ⟨4, _⟩ => ⟨S_, .f32⟩
  | .hbm, ⟨5, _⟩ => ⟨S4x64x512, .f32⟩
  | .hbm, ⟨6, _⟩ => ⟨S4x64x512, .f32⟩
  | .hbm, ⟨7, _⟩ => ⟨S_, .f32⟩
  | .hbm, ⟨8, _⟩ => ⟨S4x64x512, .f32⟩
  | .hbm, ⟨9, _⟩ => ⟨S4x64x512, .f32⟩
  | .hbm, ⟨10, _⟩ => ⟨S4x64x512, .f32⟩
  | .hbm, ⟨11, _⟩ => ⟨S_, .f32⟩
  | .hbm, ⟨12, _⟩ => ⟨S4x64x512, .f32⟩
  | .hbm, ⟨13, _⟩ => ⟨S4x64x512, .f32⟩
  | .hbm, ⟨14, _⟩ => ⟨S4x64x512, .f32⟩
  | .hbm, ⟨15, _⟩ => ⟨S_, .f32⟩
  | .hbm, ⟨16, _⟩ => ⟨S4x64x512, .f32⟩
  | .hbm, ⟨17, _⟩ => ⟨S4x64x512, .f32⟩
  | .hbm, ⟨18, _⟩ => ⟨S4x64x512, .f32⟩
  | .hbm, ⟨19, _⟩ => ⟨S_, .f32⟩
  | .hbm, ⟨20, _⟩ => ⟨S4x64x512, .f32⟩
  | .hbm, ⟨21, _⟩ => ⟨S4x64x512, .f32⟩
  | .hbm, ⟨22, _⟩ => ⟨S_, .f32⟩
  | .hbm, ⟨23, _⟩ => ⟨S4x64x512, .f32⟩
  | .hbm, ⟨24, _⟩ => ⟨S4x64x512, .f32⟩
  | .hbm, ⟨25, _⟩ => ⟨S4x64x512, .f32⟩
  | .hbm, ⟨26, _⟩ => ⟨S_, .f32⟩
  | .hbm, ⟨27, _⟩ => ⟨S4x64x512, .f32⟩
  | .hbm, ⟨28, _⟩ => ⟨S4x64x512, .f32⟩
  | .hbm, ⟨29, _⟩ => ⟨S4x64x512, .f32⟩
  | .hbm, ⟨30, _⟩ => ⟨S_, .f32⟩
  | .hbm, ⟨31, _⟩ => ⟨S4x64x512, .f32⟩
  | .hbm, ⟨32, _⟩ => ⟨S4x64x512, .f32⟩
  | .hbm, ⟨33, _⟩ => ⟨S4x64x512, .f32⟩
  | .hbm, ⟨34, _⟩ => ⟨S_, .f32⟩
  | .hbm, ⟨35, _⟩ => ⟨S4x64x512, .f32⟩
  | .hbm, ⟨36, _⟩ => ⟨S4x64x512, .f32⟩
  | .hbm, ⟨37, _⟩ => ⟨S256x512, .f32⟩
  | .hbm, ⟨38, _⟩ => ⟨S256x512, .f32⟩
  | .hbm, ⟨39, _⟩ => ⟨S256x512, .f32⟩
  | _, _ => ⟨S4x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdSink.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdSinkIdeal.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdSinkRefIdeal.lean ====
abbrev S4x16 : Shape := ⟨2, ![4, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdBs.lean ====
abbrev S4x512x128 : Shape := ⟨3, ![4, 512, 128]⟩
abbrev S2048x128 : Shape := ⟨2, ![2048, 128]⟩
abbrev S1024x128 : Shape := ⟨2, ![1024, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdBsIdeal.lean ====
abbrev S4x512x128 : Shape := ⟨3, ![4, 512, 128]⟩
abbrev S2048x128 : Shape := ⟨2, ![2048, 128]⟩
abbrev S1024x128 : Shape := ⟨2, ![1024, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdBsRefIdeal.lean ====
abbrev S4x512x128 : Shape := ⟨3, ![4, 512, 128]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S_, .f32⟩
  | .hbm, ⟨5, _⟩ => ⟨S4x512x128, .f32⟩
  | .hbm, ⟨6, _⟩ => ⟨S4x512x128, .f32⟩
  | .hbm, ⟨7, _⟩ => ⟨S_, .f32⟩
  | .hbm, ⟨8, _⟩ => ⟨S4x512x128, .f32⟩
  | .hbm, ⟨9, _⟩ => ⟨S4x512x128, .f32⟩
  | .hbm, ⟨10, _⟩ => ⟨S4x512x128, .f32⟩
  | .hbm, ⟨11, _⟩ => ⟨S_, .f32⟩
  | .hbm, ⟨12, _⟩ => ⟨S4x512x128, .f32⟩
  | .hbm, ⟨13, _⟩ => ⟨S4x512x128, .f32⟩
  | .hbm, ⟨14, _⟩ => ⟨S4x512x128, .f32⟩
  | .hbm, ⟨15, _⟩ => ⟨S_, .f32⟩
  | .hbm, ⟨16, _⟩ => ⟨S4x512x128, .f32⟩
  | .hbm, ⟨17, _⟩ => ⟨S4x512x128, .f32⟩
  | .hbm, ⟨18, _⟩ => ⟨S4x512x128, .f32⟩
  | .hbm, ⟨19, _⟩ => ⟨S_, .f32⟩
  | .hbm, ⟨20, _⟩ => ⟨S4x512x128, .f32⟩
  | .hbm, ⟨21, _⟩ => ⟨S4x512x128, .f32⟩
  | .hbm, ⟨22, _⟩ => ⟨S_, .f32⟩
  | .hbm, ⟨23, _⟩ => ⟨S4x512x128, .f32⟩
  | .hbm, ⟨24, _⟩ => ⟨S4x512x128, .f32⟩
  | .hbm, ⟨25, _⟩ => ⟨S4x512x128, .f32⟩
  | .hbm, ⟨26, _⟩ => ⟨S_, .f32⟩
  | .hbm, ⟨27, _⟩ => ⟨S4x512x128, .f32⟩
  | .hbm, ⟨28, _⟩ => ⟨S4x512x128, .f32⟩
  | .hbm, ⟨29, _⟩ => ⟨S4x512x128, .f32⟩
  | .hbm, ⟨30, _⟩ => ⟨S_, .f32⟩
  | .hbm, ⟨31, _⟩ => ⟨S4x512x128, .f32⟩
  | .hbm, ⟨32, _⟩ => ⟨S4x512x128, .f32⟩
  | .hbm, ⟨33, _⟩ => ⟨S4x512x128, .f32⟩
  | .hbm, ⟨34, _⟩ => ⟨S_, .f32⟩
  | .hbm, ⟨35, _⟩ => ⟨S4x512x128, .f32⟩
  | .hbm, ⟨36, _⟩ => ⟨S4x512x128, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdBa.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdBaIdeal.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdBaRefIdeal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdFinal.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdFinalRefIdeal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== SumFfn.lean ====
abbrev S8x1056x1024 : Shape := ⟨3, ![8, 1056, 1024]⟩
abbrev S1056x1024 : Shape := ⟨2, ![1056, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x1056x1024, .bf16⟩
  | .hbm, ⟨1, _⟩ => ⟨S1056x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | _, _ => ⟨S8x1056x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumFfnIdeal.lean ====
abbrev S8x1056x1024 : Shape := ⟨3, ![8, 1056, 1024]⟩
abbrev S1056x1024 : Shape := ⟨2, ![1056, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x1056x1024, .bf16⟩
  | .hbm, ⟨1, _⟩ => ⟨S1056x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | _, _ => ⟨S8x1056x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumFfnRefIdeal.lean ====
abbrev S8x1056x1024 : Shape := ⟨3, ![8, 1056, 1024]⟩
abbrev S_ : Shape := ⟨0, ![]⟩
abbrev S1056x1024 : Shape := ⟨2, ![1056, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x1056x1024, .bf16⟩
  | .hbm, ⟨1, _⟩ => ⟨S8x1056x1024, .f32⟩
  | .hbm, ⟨2, _⟩ => ⟨S_, .f32⟩
  | .hbm, ⟨3, _⟩ => ⟨S1056x1024, .f32⟩
  | _, _ => ⟨S8x1056x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumOne.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x352x1024, .bf16⟩
  | .local _ .vmem, ⟨1, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOneIdeal.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x352x1024, .bf16⟩
  | .local _ .vmem, ⟨1, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOneRefIdeal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S_, .f32⟩
  | .hbm, ⟨3, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumMix.lean ====
abbrev S8x768x1024 : Shape := ⟨3, ![8, 768, 1024]⟩
abbrev S768x1024 : Shape := ⟨2, ![768, 1024]⟩
abbrev S8x384x1024 : Shape := ⟨3, ![8, 384, 1024]⟩
abbrev S384x1024 : Shape := ⟨2, ![384, 1024]⟩
abbrev S1x384x1024 : Shape := ⟨3, ![1, 384, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x768x1024, .bf16⟩
  | .hbm, ⟨1, _⟩ => ⟨S768x1024, .f32⟩
  | .local _ .vmem, ⟨0, _⟩ => ⟨S8x384x1024, .bf16⟩
  | .local _ .vmem, ⟨1, _⟩ => ⟨S8x384x1024, .bf16⟩
  | .local _ .vmem, ⟨2, _⟩ => ⟨S384x1024, .f32⟩
  | .local _ .vmem, ⟨3, _⟩ => ⟨S384x1024, .f32⟩
  | _, _ => ⟨S8x768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumMixIdeal.lean ====
abbrev S8x768x1024 : Shape := ⟨3, ![8, 768, 1024]⟩
abbrev S768x1024 : Shape := ⟨2, ![768, 1024]⟩
abbrev S8x384x1024 : Shape := ⟨3, ![8, 384, 1024]⟩
abbrev S384x1024 : Shape := ⟨2, ![384, 1024]⟩
abbrev S1x384x1024 : Shape := ⟨3, ![1, 384, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x768x1024, .bf16⟩
  | .hbm, ⟨1, _⟩ => ⟨S768x1024, .f32⟩
  | .local _ .vmem, ⟨0, _⟩ => ⟨S8x384x1024, .bf16⟩
  | .local _ .vmem, ⟨1, _⟩ => ⟨S8x384x1024, .bf16⟩
  | .local _ .vmem, ⟨2, _⟩ => ⟨S384x1024, .f32⟩
  | .local _ .vmem, ⟨3, _⟩ => ⟨S384x1024, .f32⟩
  | _, _ => ⟨S8x768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumMixRefIdeal.lean ====
abbrev S8x768x1024 : Shape := ⟨3, ![8, 768, 1024]⟩
abbrev S_ : Shape := ⟨0, ![]⟩
abbrev S768x1024 : Shape := ⟨2, ![768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x768x1024, .bf16⟩
  | .hbm, ⟨1, _⟩ => ⟨S8x768x1024, .f32⟩
  | .hbm, ⟨2, _⟩ => ⟨S_, .f32⟩
  | .hbm, ⟨3, _⟩ => ⟨S768x1024, .f32⟩
  | _, _ => ⟨S8x768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumMixN.lean ====
abbrev S8x192x512 : Shape := ⟨3, ![8, 192, 512]⟩
abbrev S192x512 : Shape := ⟨2, ![192, 512]⟩
abbrev S1x192x512 : Shape := ⟨3, ![1, 192, 512]⟩

abbrev nBuf : Space → Nat
  | .hbm => 2
  | .vmem => 2
  | .smem => 0
  | _ => 0

abbrev bufTy : (tb : Table) → Fin (tcTables nBuf tb) → BufTy
  | .hbm, ⟨0, _⟩ => ⟨S8x192x512, .bf16⟩
  | .hbm, ⟨1, _⟩ => ⟨S192x512, .f32⟩
  | .local _ .vmem, ⟨0, _⟩ => ⟨S8x192x512, .bf16⟩
  | .local _ .vmem, ⟨1, _⟩ => ⟨S192x512, .f32⟩
  | _, _ => ⟨S8x192x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumMixNIdeal.lean ====
abbrev S8x192x512 : Shape := ⟨3, ![8, 192, 512]⟩
abbrev S192x512 : Shape := ⟨2, ![192, 512]⟩
abbrev S1x192x512 : Shape := ⟨3, ![1, 192, 512]⟩

abbrev nBuf : Space → Nat
  | .hbm => 2
  | .vmem => 2
  | .smem => 0
  | _ => 0

abbrev bufTy : (tb : Table) → Fin (tcTables nBuf tb) → BufTy
  | .hbm, ⟨0, _⟩ => ⟨S8x192x512, .bf16⟩
  | .hbm, ⟨1, _⟩ => ⟨S192x512, .f32⟩
  | .local _ .vmem, ⟨0, _⟩ => ⟨S8x192x512, .bf16⟩
  | .local _ .vmem, ⟨1, _⟩ => ⟨S192x512, .f32⟩
  | _, _ => ⟨S8x192x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumMixNRefIdeal.lean ====
abbrev S8x192x512 : Shape := ⟨3, ![8, 192, 512]⟩
abbrev S_ : Shape := ⟨0, ![]⟩
abbrev S192x512 : Shape := ⟨2, ![192, 512]⟩

abbrev nBuf : Space → Nat
  | .hbm => 4
  | .vmem => 0
  | .smem => 0
  | _ => 0

abbrev bufTy : (tb : Table) → Fin (tcTables nBuf tb) → BufTy
  | .hbm, ⟨0, _⟩ => ⟨S8x192x512, .bf16⟩
  | .hbm, ⟨1, _⟩ => ⟨S8x192x512, .f32⟩
  | .hbm, ⟨2, _⟩ => ⟨S_, .f32⟩
  | .hbm, ⟨3, _⟩ => ⟨S192x512, .f32⟩
  | _, _ => ⟨S8x192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x288x1024 : Shape := ⟨3, ![8, 288, 1024]⟩
abbrev S288x1024 : Shape := ⟨2, ![288, 1024]⟩
abbrev S1x288x1024 : Shape := ⟨3, ![1, 288, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x288x1024, .f32⟩
  | .hbm, ⟨1, _⟩ => ⟨S288x1024, .f32⟩
  | .local _ .vmem, ⟨0, _⟩ => ⟨S8x288x1024, .f32⟩
  | .local _ .vmem, ⟨1, _⟩ => ⟨S288x1024, .f32⟩
  | _, _ => ⟨S8x288x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x288x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S288x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallIdeal.lean ====
abbrev S8x288x1024 : Shape := ⟨3, ![8, 288, 1024]⟩
abbrev S288x1024 : Shape := ⟨2, ![288, 1024]⟩
abbrev S1x288x1024 : Shape := ⟨3, ![1, 288, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x288x1024, .f32⟩
  | .hbm, ⟨1, _⟩ => ⟨S288x1024, .f32⟩
  | .local _ .vmem, ⟨0, _⟩ => ⟨S8x288x1024, .f32⟩
  | .local _ .vmem, ⟨1, _⟩ => ⟨S288x1024, .f32⟩
  | _, _ => ⟨S8x288x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x288x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S288x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x288x1024 : Shape := ⟨3, ![8, 288, 1024]⟩
abbrev S_ : Shape := ⟨0, ![]⟩
abbrev S288x1024 : Shape := ⟨2, ![288, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x288x1024, .f32⟩
  | .hbm, ⟨1, _⟩ => ⟨S_, .f32⟩
  | .hbm, ⟨2, _⟩ => ⟨S288x1024, .f32⟩
  | _, _ => ⟨S8x288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumLast.lean ====
abbrev S8x24x1024 : Shape := ⟨3, ![8, 24, 1024]⟩
abbrev S24x1024 : Shape := ⟨2, ![24, 1024]⟩
abbrev S1x24x1024 : Shape := ⟨3, ![1, 24, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .local _ .vmem, ⟨0, _⟩ => ⟨S8x24x1024, .f32⟩
  | .local _ .vmem, ⟨1, _⟩ => ⟨S24x1024, .f32⟩
  | _, _ => ⟨S8x24x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumLastRefIdeal.lean ====
abbrev S8x24x1024 : Shape := ⟨3, ![8, 24, 1024]⟩
abbrev S_ : Shape := ⟨0, ![]⟩
abbrev S24x1024 : Shape := ⟨2, ![24, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S_, .f32⟩
  | .hbm, ⟨2, _⟩ => ⟨S24x1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FinalLoss.lean ====
abbrev S16400x1024 : Shape := ⟨2, ![16400, 1024]⟩
abbrev S16384x1024 : Shape := ⟨2, ![16384, 1024]⟩
abbrev S1x1024 : Shape := ⟨2, ![1, 1024]⟩
abbrev S_ : Shape := ⟨0, ![]⟩
abbrev S16512x1024 : Shape := ⟨2, ![16512, 1024]⟩
abbrev S8x128 : Shape := ⟨2, ![8, 128]⟩
abbrev S128x1024 : Shape := ⟨2, ![128, 1024]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 9
  | .smem => 0
  | _ => 0

abbrev bufTy : (tb : Table) → Fin (tcTables nBuf tb) → BufTy
  | .hbm, ⟨0, _⟩ => ⟨S16400x1024, .f32⟩
  | .hbm, ⟨1, _⟩ => ⟨S16384x1024, .f32⟩
  | .hbm, ⟨2, _⟩ => ⟨S1x1024, .f32⟩
  | .hbm, ⟨3, _⟩ => ⟨S_, .i32⟩
  | .hbm, ⟨4, _⟩ => ⟨S_, .f32⟩
  | .hbm, ⟨5, _⟩ => ⟨S16512x1024, .f32⟩
  | .hbm, ⟨6, _⟩ => ⟨S16512x1024, .f32⟩
  | .hbm, ⟨7, _⟩ => ⟨S8x128, .f32⟩
  | .hbm, ⟨8, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S128x1024, .f32⟩
  | .local _ .vmem, ⟨6, _⟩ => ⟨S128x1024, .f32⟩
  | .local _ .vmem, ⟨7, _⟩ => ⟨S8x128, .f32⟩
  | .local _ .vmem, ⟨8, _⟩ => ⟨S1x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FinalLossRefIdeal.lean ====
abbrev S16400x1024 : Shape := ⟨2, ![16400, 1024]⟩
abbrev S16384x1024 : Shape := ⟨2, ![16384, 1024]⟩
abbrev S1x1024 : Shape := ⟨2, ![1, 1024]⟩
abbrev S_ : Shape := ⟨0, ![]⟩
abbrev S16400 : Shape := ⟨1, ![16400]⟩
abbrev S16400x1 : Shape := ⟨2, ![16400, 1]⟩
abbrev S16384 : Shape := ⟨1, ![16384]⟩
abbrev S1024 : Shape := ⟨1, ![1024]⟩
abbrev S16512x1024 : Shape := ⟨2, ![16512, 1024]⟩
abbrev S8x128 : Shape := ⟨2, ![8, 128]⟩

abbrev nBuf : Space → Nat
  | .hbm => 75
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S16384x1024, .f32⟩
  | .hbm, ⟨2, _⟩ => ⟨S1x1024, .f32⟩
  | .hbm, ⟨3, _⟩ => ⟨S16400x1024, .f32⟩
  | .hbm, ⟨4, _⟩ => ⟨S_, .f32⟩
  | .hbm, ⟨5, _⟩ => ⟨S16400, .f32⟩
  | .hbm, ⟨6, _⟩ => ⟨S16400x1, .f32⟩
  | .hbm, ⟨7, _⟩ => ⟨S_, .f32⟩
  | .hbm, ⟨8, _⟩ => ⟨S16400x1, .f32⟩
  | .hbm, ⟨9, _⟩ => ⟨S16400x1, .f32⟩
  | .hbm, ⟨10, _⟩ => ⟨S_, .f32⟩
  | .hbm, ⟨11, _⟩ => ⟨S16400x1, .f32⟩
  | .hbm, ⟨12, _⟩ => ⟨S16400x1, .f32⟩
  | .hbm, ⟨13, _⟩ => ⟨S16400x1, .f32⟩
  | .hbm, ⟨14, _⟩ => ⟨S16400x1, .f32⟩
  | .hbm, ⟨15, _⟩ => ⟨S_, .f32⟩
  | .hbm, ⟨16, _⟩ => ⟨S16400x1, .f32⟩
  | .hbm, ⟨17, _⟩ => ⟨S16400x1, .f32⟩
  | .hbm, ⟨18, _⟩ => ⟨S16400x1024, .f32⟩
  | .hbm, ⟨19, _⟩ => ⟨S16400x1024, .f32⟩
  | .hbm, ⟨20, _⟩ => ⟨S16400x1024, .f32⟩
  | .hbm, ⟨21, _⟩ => ⟨S16400x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16400x1024, .f32⟩
  | .hbm, ⟨48, _⟩ => ⟨S16400x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S16400x1024, .f32⟩
  | .hbm, ⟨53, _⟩ => ⟨S16400x1024, .f32⟩
  | .hbm, ⟨54, _⟩ => ⟨S16400x1024, .f32⟩
  | .hbm, ⟨55, _⟩ => ⟨S_, .f32⟩
  | .hbm, ⟨56, _⟩ => ⟨S16400, .f32⟩
  | .hbm, ⟨57, _⟩ => ⟨S16400x1, .f32⟩
  | .hbm, ⟨58, _⟩ => ⟨S16400x1024, .f32⟩
  | .hbm, ⟨59, _⟩ => ⟨S16400x1024, .f32⟩
  | .hbm, ⟨60, _⟩ => ⟨S16400x1, .f32⟩
  | .hbm, ⟨61, _⟩ => ⟨S_, .f32⟩
  | .hbm, ⟨62, _⟩ => ⟨S16400x1, .f32⟩
  | .hbm, ⟨63, _⟩ => ⟨S16400x1, .f32⟩
  | .hbm, ⟨64, _⟩ => ⟨S_, .f32⟩
  | .hbm, ⟨65, _⟩ => ⟨S16400, .f32⟩
  | .hbm, ⟨66, _⟩ => ⟨S16400x1024, .f32⟩
  | .hbm, ⟨67, _⟩ => ⟨S16400x1024, .f32⟩
  | .hbm, ⟨68, _⟩ => ⟨S16400x1024, .f32⟩
  | .hbm, ⟨69, _⟩ => ⟨S16400x1024, .f32⟩
  | .hbm, ⟨70, _⟩ => ⟨S16400x1024, .f32⟩
  | .hbm, ⟨71, _⟩ => ⟨S_, .i32⟩
  | .hbm, ⟨72, _⟩ => ⟨S_, .f32⟩
  | .hbm, ⟨73, _⟩ => ⟨S16512x1024, .f32⟩
  | .hbm, ⟨74, _⟩ => ⟨S8x128, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c : Ref sig .tc := ⟨.hbm, 71, rfl⟩
abbrev main_call0_v0 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== MixIn.lean ====
abbrev S16400x1024 : Shape := ⟨2, ![16400, 1024]⟩
abbrev S16400x256 : Shape := ⟨2, ![16400, 256]⟩
abbrev S16400x512 : Shape := ⟨2, ![16400, 512]⟩
abbrev S1x1024 : Shape := ⟨2, ![1, 1024]⟩
abbrev S1024x4096 : Shape := ⟨2, ![1024, 4096]⟩
abbrev S_ : Shape := ⟨0, ![]⟩
abbrev S16512x1024 : Shape := ⟨2, ![16512, 1024]⟩
abbrev S16512x256 : Shape := ⟨2, ![16512, 256]⟩
abbrev S16512x512 : Shape := ⟨2, ![16512, 512]⟩
abbrev S4096x1024 : Shape := ⟨2, ![4096, 1024]⟩
abbrev S688x1024 : Shape := ⟨2, ![688, 1024]⟩
abbrev S688x256 : Shape := ⟨2, ![688, 256]⟩
abbrev S688x512 : Shape := ⟨2, ![688, 512]⟩
abbrev S1024x1024 : Shape := ⟨2, ![1024, 1024]⟩
abbrev S256x1024 : Shape := ⟨2, ![256, 1024]⟩
abbrev S512x1024 : Shape := ⟨2, ![512, 1024]⟩
abbrev S688 : Shape := ⟨1, ![688]⟩
abbrev S688x1 : Shape := ⟨2, ![688, 1]⟩
abbrev S1024 : Shape := ⟨1, ![1024]⟩

abbrev nBuf : Space → Nat
  | .hbm => 55
  | .vmem => 27
  | .smem => 0
  | _ => 0

abbrev bufTy : (tb : Table) → Fin (tcTables nBuf tb) → BufTy
  | .hbm, ⟨0, _⟩ => ⟨S16400x1024, .f32⟩
  | .hbm, ⟨1, _⟩ => ⟨S16400x256, .f32⟩
  | .hbm, ⟨2, _⟩ => ⟨S16400x256, .f32⟩
  | .hbm, ⟨3, _⟩ => ⟨S16400x512, .f32⟩
  | .hbm, ⟨4, _⟩ => ⟨S16400x512, .f32⟩
  | .hbm, ⟨5, _⟩ => ⟨S16400x512, .f32⟩
  | .hbm, ⟨6, _⟩ => ⟨S16400x1024, .f32⟩
  | .hbm, ⟨7, _⟩ => ⟨S16400x1024, .f32⟩
  | .hbm, ⟨8, _⟩ => ⟨S16400x1024, .f32⟩
  | .hbm, ⟨9, _⟩ => ⟨S16400x1024, .f32⟩
  | .hbm, ⟨10, _⟩ => ⟨S1x1024, .f32⟩
  | .hbm, ⟨11, _⟩ => ⟨S1024x4096, .f32⟩
  | .hbm, ⟨12, _⟩ => ⟨S_, .i32⟩
  | .hbm, ⟨13, _⟩ => ⟨S_, .f32⟩
  | .hbm, ⟨14, _⟩ => ⟨S16512x1024, .f32⟩
  | .hbm, ⟨15, _⟩ => ⟨S16512x1024, .bf16⟩
  | .hbm, ⟨16, _⟩ => ⟨S_, .i32⟩
  | .hbm, ⟨17, _⟩ => ⟨S_, .f32⟩
  | .hbm, ⟨18, _⟩ => ⟨S16512x256, .f32⟩
  | .hbm, ⟨19, _⟩ => ⟨S16512x256, .bf16⟩
  | .hbm, ⟨20, _⟩ => ⟨S_, .i32⟩
  | .hbm, ⟨21, _⟩ => ⟨S_, .f32⟩
  | .hbm, ⟨22, _⟩ => ⟨S16512x256, .f32⟩
  | .hbm, ⟨23, _⟩ => ⟨S16512x256, .bf16⟩
  | .hbm, ⟨24, _⟩ => ⟨S_, .i32⟩
  | .hbm, ⟨25, _⟩ => ⟨S_, .f32⟩
  | .hbm, ⟨26, _⟩ => ⟨S16512x512, .f32⟩
  | .hbm, ⟨27, _⟩ => ⟨S16512x512, .bf16⟩
  | .hbm, ⟨28, _⟩ => ⟨S_, .i32⟩
  | .hbm, ⟨29, _⟩ => ⟨S_, .f32⟩
  | .hbm, ⟨30, _⟩ => ⟨S16512x512, .f32⟩
  | .hbm, ⟨31, _⟩ => ⟨S16512x512, .bf16⟩
  | .hbm, ⟨32, _⟩ => ⟨S_, .i32⟩
  | .hbm, ⟨33, _⟩ => ⟨S_, .f32⟩
  | .hbm, ⟨34, _⟩ => ⟨S16512x512, .f32⟩
  | .hbm, ⟨35, _⟩ => ⟨S16512x512, .bf16⟩
  | .hbm, ⟨36, _⟩ => ⟨S_, .i32⟩
  | .hbm, ⟨37, _⟩ => ⟨S_, .f32⟩
  | .hbm, ⟨38, _⟩ => ⟨S16512x1024, .f32⟩
  | .hbm, ⟨39, _⟩ => ⟨S16512x1024, .bf16⟩
  | .hbm, ⟨40, _⟩ => ⟨S_, .i32⟩
  | .hbm, ⟨41, _⟩ => ⟨S_, .f32⟩
  | .hbm, ⟨42, _⟩ => ⟨S16512x1024, .f32⟩
  | .hbm, ⟨43, _⟩ => ⟨S16512x1024, .bf16⟩
  | .hbm, ⟨44, _⟩ => ⟨S_, .i32⟩
  | .hbm, ⟨45, _⟩ => ⟨S_, .f32⟩
  | .hbm, ⟨46, _⟩ => ⟨S16512x1024, .f32⟩
  | .hbm, ⟨47, _⟩ => ⟨S_, .i32⟩
  | .hbm, ⟨48, _⟩ => ⟨S_, .f32⟩
  | .hbm, ⟨49, _⟩ => ⟨S16512x1024, .f32⟩
  | .hbm, ⟨50, _⟩ => ⟨S4096x1024, .f32⟩
  | .hbm, ⟨51, _⟩ => ⟨S4096x1024, .bf16⟩
  | .hbm, ⟨52, _⟩ => ⟨S16512x1024, .f32⟩
  | .hbm, ⟨53, _⟩ => ⟨S16512x512, .bf16⟩
  | .hbm, ⟨54, _⟩ => ⟨S1x1024, .f32⟩
  | .local _ .vmem, ⟨0, _⟩ => ⟨S688x1024, .bf16⟩
  | .local _ .vmem, ⟨1, _⟩ => ⟨S688x1024, .bf16⟩
  | .local _ .vmem, ⟨2, _⟩ => ⟨S688x256, .bf16⟩
  | .local _ .vmem, ⟨3, _⟩ => ⟨S688x256, .bf16⟩
  | .local _ .vmem, ⟨4, _⟩ => ⟨S688x256, .bf16⟩
  | .local _ .vmem, ⟨5, _⟩ => ⟨S688x256, .bf16⟩
  | .local _ .vmem, ⟨6, _⟩ => ⟨S688x512, .bf16⟩
  | .local _ .vmem, ⟨7, _⟩ => ⟨S688x512, .bf16⟩
  | .local _ .vmem, ⟨8, _⟩ => ⟨S688x512, .bf16⟩
  | .local _ .vmem, ⟨9, _⟩ => ⟨S688x512, .bf16⟩
  | .local _ .vmem, ⟨10, _⟩ => ⟨S688x512, .bf16⟩
  | .local _ .vmem, ⟨11, _⟩ => ⟨S688x512, .bf16⟩
  | .local _ .vmem, ⟨12, _⟩ => ⟨S688x1024, .bf16⟩
  | .local _ .vmem, ⟨13, _⟩ => ⟨S688x1024, .bf16⟩
  | .local _ .vmem, ⟨14, _⟩ => ⟨S688x1024, .bf16⟩
  | .local _ .vmem, ⟨15, _⟩ => ⟨S688x1024, .bf16⟩
  | .local _ .vmem, ⟨16, _⟩ => ⟨S688x1024, .f32⟩
  | .local _ .vmem, ⟨17, _⟩ => ⟨S688x1024, .f32⟩
  | .local _ .vmem, ⟨18, _⟩ => ⟨S688x1024, .f32⟩
  | .local _ .vmem, ⟨19, _⟩ => ⟨S688x1024, .f32⟩
  | .local _ .vmem, ⟨20, _⟩ => ⟨S1x1024, .f32⟩
  | .local _ .vmem, ⟨21, _⟩ => ⟨S4096x1024, .bf16⟩
  | .local _ .vmem, ⟨22, _⟩ => ⟨S688x1024, .f32⟩
  | .local _ .vmem, ⟨23, _⟩ => ⟨S688x1024, .f32⟩
  | .local _ .vmem, ⟨24, _⟩ => ⟨S688x512, .bf16⟩
  | .local _ .vmem, ⟨25, _⟩ => ⟨S688x512, .bf16⟩
  | .local _ .vmem, ⟨26, _⟩ => ⟨S1x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_call1_v0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_call2_v0 : Ref sig .tc := ⟨.hbm, 21, rfl⟩
abbrev main_v4 : Ref sig .tc := ⟨.hbm, 22, rfl⟩
abbrev main_v5 : Ref sig .tc := ⟨.hbm, 23, rfl⟩
abbrev main_c_2 : Ref sig .tc := ⟨.hbm, 24, rfl⟩
abbrev main_call3_v0 : Ref sig .tc := ⟨.hbm, 25, rfl⟩
abbrev main_v6 : Ref sig .tc := ⟨.hbm, 26, rfl⟩
abbrev main_v7 : Ref sig .tc := ⟨.hbm, 27, rfl⟩
abbrev main_c_3 : Ref sig .tc := ⟨.hbm, 28, rfl⟩
abbrev main_call4_v0 : Ref sig .tc := ⟨.hbm, 29, rfl⟩
abbrev main_v8 : Ref sig .tc := ⟨.hbm, 30, rfl⟩
abbrev main_v9 : Ref sig .tc := ⟨.hbm, 31, rfl⟩
abbrev main_c_4 : Ref sig .tc := ⟨.hbm, 32, rfl⟩
abbrev main_call5_v0 : Ref sig .tc := ⟨.hbm, 33, rfl⟩
abbrev main_v10 : Ref sig .tc := ⟨.hbm, 34, rfl⟩
abbrev main_v11 : Ref sig .tc := ⟨.hbm, 35, rfl⟩
abbrev main_c_5 : Ref sig .tc := ⟨.hbm, 36, rfl⟩
abbrev main_call6_v0 : Ref sig .tc := ⟨.hbm, 37, rfl⟩
abbrev main_v12 : Ref sig .tc := ⟨.hbm, 38, rfl⟩
abbrev main_v13 : Ref sig .tc := ⟨.hbm, 39, rfl⟩
abbrev main_c_6 : Ref sig .tc := ⟨.hbm, 40, rfl⟩
abbrev main_call7_v0 : Ref sig .tc := ⟨.hbm, 41, rfl⟩
abbrev main_v14 : Ref sig .tc := ⟨.hbm, 42, rfl⟩
abbrev main_v15 : Ref sig .tc := ⟨.hbm, 43, rfl⟩
abbrev main_c_7 : Ref sig .tc := ⟨.hbm, 44, rfl⟩
abbrev main_call8_v0 : Ref sig .tc := ⟨.hbm, 45, rfl⟩
abbrev main_v16 : Ref sig .tc := ⟨.hbm, 46, rfl⟩
abbrev main_c_8 : Ref sig .tc := ⟨.hbm, 47, rfl⟩
abbrev main_call9_v0 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20_0 : Ref sig .tc := ⟨.hbm, 52, rfl⟩
abbrev main_v20_1 : Ref sig .tc := ⟨.hbm, 53, rfl⟩
abbrev main_v20_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S688x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S688x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixInRefIdeal.lean ====
abbrev S16400x1024 : Shape := ⟨2, ![16400, 1024]⟩
abbrev S16400x256 : Shape := ⟨2, ![16400, 256]⟩
abbrev S16400x512 : Shape := ⟨2, ![16400, 512]⟩
abbrev S1x1024 : Shape := ⟨2, ![1, 1024]⟩
abbrev S1024x4096 : Shape := ⟨2, ![1024, 4096]⟩
abbrev S_ : Shape := ⟨0, ![]⟩
abbrev S16400 : Shape := ⟨1, ![16400]⟩
abbrev S16400x1 : Shape := ⟨2, ![16400, 1]⟩
abbrev S1024x1024 : Shape := ⟨2, ![1024, 1024]⟩
abbrev S1024x256 : Shape := ⟨2, ![1024, 256]⟩
abbrev S1024x512 : Shape := ⟨2, ![1024, 512]⟩
abbrev S1024 : Shape := ⟨1, ![1024]⟩
abbrev S16512x1024 : Shape := ⟨2, ![16512, 1024]⟩
abbrev S16512x512 : Shape := ⟨2, ![16512, 512]⟩

abbrev nBuf : Space → Nat
  | .hbm => 87
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S16400x256, .f32⟩
  | .hbm, ⟨2, _⟩ => ⟨S16400x256, .f32⟩
  | .hbm, ⟨3, _⟩ => ⟨S16400x512, .f32⟩
  | .hbm, ⟨4, _⟩ => ⟨S16400x512, .f32⟩
  | .hbm, ⟨5, _⟩ => ⟨S16400x512, .f32⟩
  | .hbm, ⟨6, _⟩ => ⟨S16400x1024, .f32⟩
  | .hbm, ⟨7, _⟩ => ⟨S16400x1024, .f32⟩
  | .hbm, ⟨8, _⟩ => ⟨S16400x1024, .f32⟩
  | .hbm, ⟨9, _⟩ => ⟨S16400x1024, .f32⟩
  | .hbm, ⟨10, _⟩ => ⟨S1x1024, .f32⟩
  | .hbm, ⟨11, _⟩ => ⟨S1024x4096, .f32⟩
  | .hbm, ⟨12, _⟩ => ⟨S16400x1024, .f32⟩
  | .hbm, ⟨13, _⟩ => ⟨S_, .f32⟩
  | .hbm, ⟨14, _⟩ => ⟨S16400, .f32⟩
  | .hbm, ⟨15, _⟩ => ⟨S16400x1, .f32⟩
  | .hbm, ⟨16, _⟩ => ⟨S_, .f32⟩
  | .hbm, ⟨17, _⟩ => ⟨S16400x1, .f32⟩
  | .hbm, ⟨18, _⟩ => ⟨S16400x1, .f32⟩
  | .hbm, ⟨19, _⟩ => ⟨S_, .f32⟩
  | .hbm, ⟨20, _⟩ => ⟨S16400x1, .f32⟩
  | .hbm, ⟨21, _⟩ => ⟨S16400x1, .f32⟩
  | .hbm, ⟨22, _⟩ => ⟨S16400x1, .f32⟩
  | .hbm, ⟨23, _⟩ => ⟨S16400x1, .f32⟩
  | .hbm, ⟨24, _⟩ => ⟨S_, .f32⟩
  | .hbm, ⟨25, _⟩ => ⟨S16400x1, .f32⟩
  | .hbm, ⟨26, _⟩ => ⟨S16400x1, .f32⟩
  | .hbm, ⟨27, _⟩ => ⟨S16400x1024, .f32⟩
  | .hbm, ⟨28, _⟩ => ⟨S16400x1024, .f32⟩
  | .hbm, ⟨29, _⟩ => ⟨S16400x1024, .f32⟩
  | .hbm, ⟨30, _⟩ => ⟨S16400x1024, .f32⟩
  | .hbm, ⟨31, _⟩ => ⟨S1024x1024, .f32⟩
  | .hbm, ⟨32, _⟩ => ⟨S1024x256, .f32⟩
  | .hbm, ⟨33, _⟩ => ⟨S1024x256, .f32⟩
  | .hbm, ⟨34, _⟩ => ⟨S1024x512, .f32⟩
  | .hbm, ⟨35, _⟩ => ⟨S1024x1024, .f32⟩
  | .hbm, ⟨36, _⟩ => ⟨S1024x1024, .f32⟩
  | .hbm, ⟨37, _⟩ => ⟨S16400x1024, .f32⟩
  | .hbm, ⟨38, _⟩ => ⟨S16400x256, .f32⟩
  | .hbm, ⟨39, _⟩ => ⟨S16400x256, .f32⟩
  | .hbm, ⟨40, _⟩ => ⟨S16400x512, .f32⟩
  | .hbm, ⟨41, _⟩ => ⟨S16400x1024, .f32⟩
  | .hbm, ⟨42, _⟩ => ⟨S16400x1024, .f32⟩
  | .hbm, ⟨43, _⟩ => ⟨S16400x512, .f32⟩
  | .hbm, ⟨44, _⟩ => ⟨S16400x512, .f32⟩
  | .hbm, ⟨45, _⟩ => ⟨S16400x1024, .f32⟩
  | .hbm, ⟨46, _⟩ => ⟨S16400x1024, .f32⟩
  | .hbm, ⟨47, _⟩ => ⟨S16400x1024, .f32⟩
  | .hbm, ⟨48, _⟩ => ⟨S16400x1024, .f32⟩
  | .hbm, ⟨49, _⟩ => ⟨S16400x1024, .f32⟩
  | .hbm, ⟨50, _⟩ => ⟨S16400x1024, .f32⟩
  | .hbm, ⟨51, _⟩ => ⟨S16400x1024, .f32⟩
  | .hbm, ⟨52, _⟩ => ⟨S16400x1024, .f32⟩
  | .hbm, ⟨53, _⟩ => ⟨S16400x1024, .f32⟩
  | .hbm, ⟨54, _⟩ => ⟨S16400x1024, .f32⟩
  | .hbm, ⟨55, _⟩ => ⟨S16400x1024, .f32⟩
  | .hbm, ⟨56, _⟩ => ⟨S16400x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S16400x1024, .f32⟩
  | .hbm, ⟨61, _⟩ => ⟨S16400x1024, .f32⟩
  | .hbm, ⟨62, _⟩ => ⟨S16400x1024, .f32⟩
  | .hbm, ⟨63, _⟩ => ⟨S_, .f32⟩
  | .hbm, ⟨64, _⟩ => ⟨S16400, .f32⟩
  | .hbm, ⟨65, _⟩ => ⟨S16400x1, .f32⟩
  | .hbm, ⟨66, _⟩ => ⟨S16400x1024, .f32⟩
  | .hbm, ⟨67, _⟩ => ⟨S16400x1024, .f32⟩
  | .hbm, ⟨68, _⟩ => ⟨S16400x1, .f32⟩
  | .hbm, ⟨69, _⟩ => ⟨S_, .f32⟩
  | .hbm, ⟨70, _⟩ => ⟨S16400x1, .f32⟩
  | .hbm, ⟨71, _⟩ => ⟨S16400x1, .f32⟩
  | .hbm, ⟨72, _⟩ => ⟨S_, .f32⟩
  | .hbm, ⟨73, _⟩ => ⟨S16400, .f32⟩
  | .hbm, ⟨74, _⟩ => ⟨S16400x1024, .f32⟩
  | .hbm, ⟨75, _⟩ => ⟨S16400x1024, .f32⟩
  | .hbm, ⟨76, _⟩ => ⟨S16400x1024, .f32⟩
  | .hbm, ⟨77, _⟩ => ⟨S16400x1024, .f32⟩
  | .hbm, ⟨78, _⟩ => ⟨S16400x1024, .f32⟩
  | .hbm, ⟨79, _⟩ => ⟨S16400x1024, .f32⟩
  | .hbm, ⟨80, _⟩ => ⟨S_, .i32⟩
  | .hbm, ⟨81, _⟩ => ⟨S_, .f32⟩
  | .hbm, ⟨82, _⟩ => ⟨S16512x1024, .f32⟩
  | .hbm, ⟨83, _⟩ => ⟨S_, .i32⟩
  | .hbm, ⟨84, _⟩ => ⟨S_, .f32⟩
  | .hbm, ⟨85, _⟩ => ⟨S16512x512, .f32⟩
  | .hbm, ⟨86, _⟩ => ⟨S16512x512, .bf16⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_4 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_5 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c : Ref sig .tc := ⟨.hbm, 80, rfl⟩
abbrev main_call0_v0 : Ref sig .tc := ⟨.hbm, 81, rfl⟩
abbrev main_v60 : Ref sig .tc := ⟨.hbm, 82, rfl⟩
abbrev main_c_7 : Ref sig .tc := ⟨.hbm, 83, rfl⟩
abbrev main_call1_v0 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Proof.Scalars.lean ====
/- Scalar facts over the extended reals that the value proofs share: the constants of the programs,
   the logistic function spelt by a hyperbolic tangent, and the closure of the real numbers under the
   operations the programs use. -/
module

public import Idealize.ShloMosaic.Lib.Pipeline.ValueKit

@[expose] public section

noncomputable section

namespace Cert.Scalars

open Idealize.ShloMosaic

/-! ## Constants -/

/-- The word of the float `0.5` is the real one half. -/
theorem ofBits_half : Ideal.ofBits .f32 0x3F000000#32 = ((1 / 2 : ℝ) : EReal) := by
  simp [Ideal.ofBits, Ideal.ieee, -EReal.coe_mul]; norm_num

/-- The word of the float `1` is the real one. -/
theorem ofBits_one : Ideal.ofBits .f32 0x3F800000#32 = ((1 : ℝ) : EReal) := by
  simp [Ideal.ofBits, Ideal.ieee, -EReal.coe_mul]; norm_num

/-- The word of the float `3` is the real three. -/
theorem ofBits_three : Ideal.ofBits .f32 0x40400000#32 = ((3 : ℝ) : EReal) := by
  simp [Ideal.ofBits, Ideal.ieee, -EReal.coe_mul]; norm_num

/-- The word of the float `1024` is the real 1024. -/
theorem ofBits_1024 : Ideal.ofBits .f32 0x44800000#32 = ((1024 : ℝ) : EReal) := by
  simp [Ideal.ofBits, Ideal.ieee, -EReal.coe_mul]; norm_num

/-! ## The logistic function -/

/-- Over the reals, `tanh (x / 2) / 2 + 1 / 2` is the logistic function. -/
theorem half_tanh_real (x : ℝ) : 1 / 2 * Real.tanh (1 / 2 * x) + 1 / 2 = (1 + Real.exp (-x))⁻¹ := by
  rw [Real.tanh_eq_sinh_div_cosh, Real.sinh_eq, Real.cosh_eq]
  have e : Real.exp (-x) = Real.exp (-(1 / 2 * x)) * Real.exp (-(1 / 2 * x)) := by
    rw [← Real.exp_add]; congr 1; ring
  have e1 : Real.exp (1 / 2 * x) * Real.exp (-(1 / 2 * x)) = 1 := by
    rw [← Real.exp_add]; simp
  rw [e]
  set a := Real.exp (1 / 2 * x) with ha
  set b := Real.exp (-(1 / 2 * x)) with hb
  have h0 : 0 < a := Real.exp_pos _
  have h1 : 0 < b := Real.exp_pos _
  have h2 : a + b ≠ 0 := by positivity
  have h3 : 1 + b * b ≠ 0 := by positivity
  field_simp
  nlinarith

/-- On every extended real, `tanh (x / 2) / 2 + 1 / 2` is the logistic function. -/
theorem half_tanh (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, ← EReal.coe_one, ← EReal.coe_neg,
      ← EReal.coe_mul, ← EReal.coe_add, ← EReal.coe_zero]
    norm_num
  | top =>
    rw [EReal.coe_mul_top_of_pos (by norm_num), Ideal.tanh_top, Ideal.logistic_top, ← EReal.coe_one,
      ← EReal.coe_mul, ← EReal.coe_add]
    norm_num
  | coe r =>
    rw [← EReal.coe_mul, Ideal.tanh_coe, ← EReal.coe_mul, ← EReal.coe_add, half_tanh_real, Ideal.logistic_coe]

/-- The kernels' spelling of the logistic function, by the words of its constants. -/
theorem kernel_sigmoid (x : EReal) :
    Ideal.ofBits .f32 0x3F000000#32 * Ideal.tanh (Ideal.ofBits .f32 0x3F000000#32 * x) + Ideal.ofBits .f32 0x3F000000#32
      = Ideal.logistic x := by
  rw [ofBits_half, half_tanh]

/-- The references' spelling of the logistic function, by the word of its constant. -/
theorem reference_sigmoid (x : EReal) :
    Ideal.div (Ideal.ofBits .f32 0x3F800000#32) (Ideal.ofBits .f32 0x3F800000#32 + Ideal.exp (-x)) = Ideal.logistic x := by
  rw [ofBits_one, EReal.coe_one, Ideal.logistic]

/-! ## Real values -/

/-- An extended real that is a real number. -/
def IsReal (x : EReal) : Prop := ∃ r : ℝ, x = (r : EReal)

theorem IsReal.coe (r : ℝ) : IsReal (r : EReal) := ⟨r, rfl⟩
theorem IsReal.zero : IsReal 0 := ⟨0, by simp⟩
theorem IsReal.one : IsReal 1 := ⟨1, by simp⟩
theorem IsReal.add {x y : EReal} (hx : IsReal x) (hy : IsReal y) : IsReal (x + y) := by
  obtain ⟨a, rfl⟩ := hx; obtain ⟨b, rfl⟩ := hy; exact ⟨a + b, by simp⟩
theorem IsReal.mul {x y : EReal} (hx : IsReal x) (hy : IsReal y) : IsReal (x * y) := by
  obtain ⟨a, rfl⟩ := hx; obtain ⟨b, rfl⟩ := hy; exact ⟨a * b, by simp⟩
theorem IsReal.sub {x y : EReal} (hx : IsReal x) (hy : IsReal y) : IsReal (x - y) := by
  obtain ⟨a, rfl⟩ := hx; obtain ⟨b, rfl⟩ := hy; exact ⟨a - b, by simp⟩
theorem IsReal.neg {x : EReal} (hx : IsReal x) : IsReal (-x) := by
  obtain ⟨a, rfl⟩ := hx; exact ⟨-a, by simp⟩
theorem IsReal.sum {ι : Type*} (s : Finset ι) {f : ι → EReal} (h : ∀ i, IsReal (f i)) : IsReal (∑ i ∈ s, f i) := by
  classical
  induction s using Finset.induction_on with
  | empty => simpa using IsReal.zero
  | insert a s ha ih => rw [Finset.sum_insert ha]; exact (h a).add ih
theorem IsReal.tanh {x : EReal} (hx : IsReal x) : IsReal (Ideal.tanh x) := by
  obtain ⟨a, rfl⟩ := hx; exact ⟨_, Ideal.tanh_coe a⟩
theorem IsReal.logistic {x : EReal} (hx : IsReal x) : IsReal (Ideal.logistic x) := by
  obtain ⟨a, rfl⟩ := hx; exact ⟨_, Ideal.logistic_coe a⟩

/-- An extended real whose absolute value is at most a real number is a real number. -/
theorem IsReal.of_abs_le {x : EReal} {b : ℝ} (h : max x (-x) ≤ (b : EReal)) : IsReal x := by
  induction x with
  | bot => simp at h
  | top => simp at h
  | coe r => exact ⟨r, rfl⟩

end Cert.Scalars
-- ==== Proof.Rows.lean ====
/- Rows of the padded sequence: 112 rows of zeros stand before the 16400 rows of the sequence. -/
module

public import Idealize.ShloMosaic.Lib.Pipeline.ValueKit

@[expose] public section

noncomputable section

namespace Cert.Rows

open Idealize.ShloMosaic

/-- The row of the sequence that row `R` of the padded sequence holds (row 0 for a row of padding). -/
def seqRow (R : Fin 16512) : Fin 16400 := ⟨R.val - 112, by omega⟩

/-- A matrix over the padded sequence: zero on the rows of padding, `X` at the sequence's row elsewhere. -/
def onRows {n : Nat} (X : Fin 16400 → Fin n → EReal) (R : Fin 16512) (k : Fin n) : EReal :=
  if 112 ≤ R.val then X (seqRow R) k else 0

theorem onRows_pos {n : Nat} (X : Fin 16400 → Fin n → EReal) {R : Fin 16512} (h : 112 ≤ R.val) (k : Fin n) :
    onRows X R k = X (seqRow R) k := if_pos h

theorem onRows_neg {n : Nat} (X : Fin 16400 → Fin n → EReal) {R : Fin 16512} (h : ¬ 112 ≤ R.val) (k : Fin n) :
    onRows X R k = 0 := if_neg h

theorem onRows_row_pos {n : Nat} (X : Fin 16400 → Fin n → EReal) {R : Fin 16512} (h : 112 ≤ R.val) :
    onRows X R = X (seqRow R) := funext fun _ => if_pos h

theorem onRows_row_neg {n : Nat} (X : Fin 16400 → Fin n → EReal) {R : Fin 16512} (h : ¬ 112 ≤ R.val) :
    onRows X R = fun _ => 0 := funext fun _ => if_neg h

/-- The zero word read as an integer is zero. -/
theorem zero_word : FloatOps.sitofp (F := Ideal) .f32 0#32 = (0 : EReal) := by
  show (((0#32 : BitVec 32).toInt : ℝ) : EReal) = 0; simp

/-- The padding operation, read at an index. -/
theorem pad_at {n : Nat} (x : FVec Ideal ⟨2, ![16400, n]⟩ .f32) {u : Shape}
    (h : (⟨2, ![16400, n]⟩ : Shape).Pads ![112, 0] ![0, 0] ![0, 0] ⟨2, ![16512, n]⟩)
    (hu : 0 < u.numel) (R : Fin 16512) (k : Fin n) :
    pad ⟨2, ![16512, n]⟩ ![112, 0] ![0, 0] ![0, 0] x (sitofp .f32 (constantI u 32 0#32)) h hu (ix2 R k)
      = onRows (fun r l => x (ix2 r l)) R k := by
  rw [pad_apply, onRows]
  by_cases hR : 112 ≤ R.val
  · rw [if_pos hR, dif_pos (show _ from by
      intro a
      fin_cases a
      · exact ⟨hR, Nat.mod_one _, by simp [ix2]; omega⟩
      · exact ⟨Nat.zero_le _, Nat.mod_one _, by simp [ix2]⟩)]
    refine congrArg x ?_
    funext a
    fin_cases a
    · exact Fin.ext (by simp [ix2, Shape.Idx.norm, seqRow])
    · exact Fin.ext (by simp [ix2, Shape.Idx.norm])
  · rw [if_neg hR, dif_neg (show _ from fun hin => hR (hin 0).1)]
    exact zero_word

/-- A sum over the padded rows of a summand that vanishes on the padding is the sum over the sequence. -/
theorem sum_onRows (f : Fin 16400 → EReal) :
    ∑ R : Fin 16512, (if 112 ≤ R.val then f (seqRow R) else 0) = ∑ r : Fin 16400, f r := by
  have e := Fin.sum_univ_add (M := EReal) (a := 112) (b := 16400) (fun R : Fin (112 + 16400) => if 112 ≤ R.val then f (seqRow R) else 0)
  refine e.trans ?_
  have h0 : ∑ i : Fin 112, (if 112 ≤ (Fin.castAdd 16400 i).val then f (seqRow (Fin.castAdd 16400 i)) else 0) = 0 := by
    refine Finset.sum_eq_zero fun i _ => if_neg ?_
    simp
  rw [h0, zero_add]
  refine Finset.sum_congr rfl fun i _ => ?_
  rw [if_pos (by simp)]
  exact congrArg f (Fin.ext (by simp [seqRow]))

/-- The sum of the products of two lines. -/
def dot {n : ℕ} (a b : Fin n → EReal) : EReal := ∑ k, a k * b k

/-- A sum of products over padded rows is the sum over the sequence's rows. -/
theorem dot_onRows {p q : ℕ} (X : Fin 16400 → Fin p → EReal) (Y : Fin 16400 → Fin q → EReal) (k : Fin p) (j : Fin q) :
    dot (fun R => onRows X R k) (fun R => onRows Y R j) = dot (fun r => Y r j) (fun r => X r k) := by
  unfold dot
  refine Eq.trans (Finset.sum_congr rfl fun R _ => ?_) (sum_onRows _)
  by_cases h : 112 ≤ R.val
  · simp only [onRows_pos _ h, if_pos h]
    exact mul_comm _ _
  · simp only [onRows_neg _ h, if_neg h, mul_zero]

end Cert.Rows
-- ==== Proof.Norm.lean ====
/- The root-mean-square norm of a row, as the programs of both sides spell it. -/
module

public import Idealize.ShloMosaic.Lib.Pipeline.ValueKit

@[expose] public section

noncomputable section

namespace Cert.Norm

open Idealize.ShloMosaic

/-- One over the root of the mean square of a row, with the programs' small constant. -/
def scale (x : Fin 1024 → EReal) : EReal :=
  Ideal.rsqrt (Ideal.div (∑ k, x k * x k) (Ideal.ofBits .f32 0x44800000#32) + Ideal.ofBits .f32 0x358637BD#32)

/-- An entry of the normed row, with its gain. -/
def normed (x g : Fin 1024 → EReal) (k : Fin 1024) : EReal := x k * scale x * g k

/-- A row of zeros has a normed row of zeros. -/
theorem normed_zero (g : Fin 1024 → EReal) (k : Fin 1024) : normed (fun _ => 0) g k = 0 := by
  simp only [normed, zero_mul]

/-- A product of the normed row by a line of weights. -/
def through (x g w : Fin 1024 → EReal) : EReal := ∑ k, normed x g k * w k

theorem through_zero (g w : Fin 1024 → EReal) : through (fun _ => 0) g w = 0 := by
  simp only [through, normed_zero, zero_mul, Finset.sum_const_zero]

/-- The hidden activation: the first product times its logistic function, times the second product. -/
def gated (a b : EReal) : EReal := a * Ideal.logistic a * b

theorem gated_zero (b : EReal) : gated 0 b = 0 := by simp only [gated, zero_mul]

end Cert.Norm
-- ==== Proof.NormGrad.lean ====
/- The gradient of the root-mean-square norm of a row, as the programs of both sides spell it, and values bounded by
   a precondition. -/
module

public import proofs.«01_k».proof.Proof.Scalars
public import proofs.«01_k».proof.Proof.Norm
public import Idealize.ShloMosaic.Lib.ReduceAll

@[expose] public section

noncomputable section

namespace Cert.NormGrad

open Idealize.ShloMosaic Cert.Norm Cert.Scalars

/-! ## Values bounded by a precondition -/

theorem bound_real : ∃ b : ℝ, Ideal.ofBits .f32 0x7F61B1E6#32 = (b : EReal) := by
  refine ⟨14791142 * 2 ^ 104, ?_⟩
  simp [Ideal.ofBits, Ideal.ieee, -EReal.coe_mul]

/-- A precondition that bounds every entry of an array makes every entry real. -/
theorem real_of_bounded {s u t : Shape} {axes : List (Fin s.rank)} [Subsingleton t.Idx] (x : FVec Ideal s .f32) {f : Fin u.rank → Fin s.rank} (hb : u.BroadcastsInDim s f)
    (init : u.Idx → BitVec 1) (h : s.ReducesTo axes t) (hu : 0 < u.numel) (j : t.Idx)
    (e : Host.reduce IntOp.andi (cmpf .ole (Host.absf x) (broadcastInDim s f hb (constant u .f32 0x7F61B1E6#32))) init h hu j = 1#1)
    (i : s.Idx) : IsReal (x i) := by
  have e1 := Host.reduce_andi_all _ _ _ _ j e i
  obtain ⟨b, hb'⟩ := bound_real
  refine IsReal.of_abs_le (b := b) ?_
  rw [← hb']
  pointwise at e1
  cases hd : decide (FloatOps.absf (x i) ≤ Ideal.ofBits .f32 0x7F61B1E6#32)
  · rw [hd] at e1; exact absurd e1 (by decide)
  · exact of_decide_eq_true hd

/-! ## The two spellings of the gradient -/

/-- The mean square of a row, with the programs' small constant. -/
def meanSq (x : Fin 1024 → EReal) : EReal :=
  Ideal.div (∑ k, x k * x k) (Ideal.ofBits .f32 0x44800000#32) + Ideal.ofBits .f32 0x358637BD#32

/-- The gradient of the norm by the row, as the kernels spell it. -/
def gradK (x g d : Fin 1024 → EReal) (k : Fin 1024) : EReal :=
  scale x * (d k * g k - x k * scale x * Ideal.div (∑ l, d l * g l * (x l * scale x)) (Ideal.ofBits .f32 0x44800000#32))

/-- The gradient by the mean square, as the references spell it. -/
def coef (x g d : Fin 1024 → EReal) : EReal :=
  Ideal.div ((∑ l, x l * (d l * g l)) * (Ideal.ofBits .f32 0xBF000000#32 * Ideal.div (scale x) (meanSq x))) (Ideal.ofBits .f32 0x44800000#32)

/-- The gradient of the norm by the row, as the references spell it. -/
def gradR (x g d : Fin 1024 → EReal) (k : Fin 1024) : EReal :=
  d k * g k * scale x + x k * coef x g d + coef x g d * x k

theorem eps_pos : ∃ e : ℝ, 0 < e ∧ Ideal.ofBits .f32 0x358637BD#32 = (e : EReal) := by
  refine ⟨8796093 / 2 ^ 43, by norm_num, ?_⟩
  simp [Ideal.ofBits, Ideal.ieee, -EReal.coe_mul]
  norm_num

theorem ofBits_minus_half : Ideal.ofBits .f32 0xBF000000#32 = ((-(1 / 2) : ℝ) : EReal) := by
  simp [Ideal.ofBits, Ideal.ieee, -EReal.coe_mul]; norm_num

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The mean square of a row of reals is a positive real, and its scale the inverse of a root of it. -/
theorem meanSq_real (x : Fin 1024 → ℝ) : ∃ v : ℝ, 0 < v ∧ meanSq (fun k => (x k : EReal)) = (v : EReal)
    ∧ scale (fun k => (x k : EReal)) = (((Real.sqrt v)⁻¹ : ℝ) : EReal) := by
  obtain ⟨e, he, hE⟩ := eps_pos
  refine ⟨(∑ k, x k * x k) * (1 / 1024) + e, ?_, ?_, ?_⟩
  · have : 0 ≤ ∑ k, x k * x k := Finset.sum_nonneg fun k _ => mul_self_nonneg _
    positivity
  · unfold meanSq
    rw [hE, ofBits_1024, Ideal.div_coe (by norm_num)]
    simp only [← EReal.coe_mul]
    rw [coe_sum, ← EReal.coe_mul, ← EReal.coe_add]
  · have h0 : 0 < (∑ k, x k * x k) * (1 / 1024) + e := by
      have : 0 ≤ ∑ k, x k * x k := Finset.sum_nonneg fun k _ => mul_self_nonneg _
      positivity
    unfold scale
    rw [hE, ofBits_1024, Ideal.div_coe (by norm_num)]
    simp only [← EReal.coe_mul]
    rw [coe_sum, ← EReal.coe_mul, ← EReal.coe_add, Ideal.rsqrt_coe, if_neg (not_lt.mpr h0.le), if_neg h0.ne']

/-- The scale of a row of reals is real. -/
theorem scale_real {x : Fin 1024 → EReal} (hx : ∀ k, IsReal (x k)) : IsReal (scale x) := by
  choose x' hx' using hx
  obtain rfl : x = fun k => (x' k : EReal) := funext hx'
  obtain ⟨v, -, -, h⟩ := meanSq_real x'
  exact ⟨_, h⟩

/-- A product of a normed row of reals by a line of real weights is real. -/
theorem through_real {x g w : Fin 1024 → EReal} (hx : ∀ k, IsReal (x k)) (hg : ∀ k, IsReal (g k)) (hw : ∀ k, IsReal (w k)) :
    IsReal (through x g w) :=
  IsReal.sum _ fun k => (((hx k).mul (scale_real hx)).mul (hg k)).mul (hw k)

/-- The two spellings of the gradient agree on reals. -/
theorem grad_eq {x g d : Fin 1024 → EReal} (hx : ∀ k, IsReal (x k)) (hg : ∀ k, IsReal (g k)) (hd : ∀ k, IsReal (d k)) (k : Fin 1024) :
    gradK x g d k = gradR x g d k := by
  choose x' hx' using hx
  choose g' hg' using hg
  choose d' hd' using hd
  obtain rfl : x = fun k => (x' k : EReal) := funext hx'
  obtain rfl : g = fun k => (g' k : EReal) := funext hg'
  obtain rfl : d = fun k => (d' k : EReal) := funext hd'
  obtain ⟨v, hv, hm, hs⟩ := meanSq_real x'
  have hq : 0 < Real.sqrt v := Real.sqrt_pos.mpr hv
  have hqq : Real.sqrt v * Real.sqrt v = v := Real.mul_self_sqrt hv.le
  unfold gradK gradR coef
  rw [hm, hs, ofBits_1024, ofBits_minus_half, Ideal.div_coe hv.ne', Ideal.div_coe (by norm_num), Ideal.div_coe (by norm_num)]
  simp only [← EReal.coe_mul, coe_sum, ← EReal.coe_sub, ← EReal.coe_add]
  refine congrArg _ ?_
  have e1 : ∑ l, d' l * g' l * (x' l * (Real.sqrt v)⁻¹) = (∑ l, x' l * (d' l * g' l)) * (Real.sqrt v)⁻¹ := by
    rw [Finset.sum_mul]
    exact Finset.sum_congr rfl fun l _ => by ring
  rw [e1]
  generalize (∑ l, x' l * (d' l * g' l)) = c
  generalize Real.sqrt v = q at *
  subst hqq
  field_simp
  ring

/-! ## The two spellings on every row -/

theorem div_1024_zero : Ideal.div 0 (Ideal.ofBits .f32 0x44800000#32) = 0 := by
  rw [ofBits_1024, Ideal.div_coe (by norm_num), zero_mul]

/-- A product by a real number that is not negative goes into a sum. -/
theorem mul_sum_real {ι : Type*} (u : Finset ι) (f : ι → EReal) {a : ℝ} (ha : 0 ≤ a) : (a : EReal) * ∑ i ∈ u, f i = ∑ i ∈ u, (a : EReal) * f i := by
  classical
  induction u using Finset.induction_on with
  | empty => simp
  | insert b u hb ih =>
    rw [Finset.sum_insert hb, Finset.sum_insert hb, EReal.left_distrib_of_nonneg_of_ne_top (EReal.coe_nonneg.mpr ha) (EReal.coe_ne_top a), ih]

/-- Where the sum of the squares of a row is infinite, both spellings of the gradient are zero. -/
theorem grad_top {x : Fin 1024 → EReal} (g d : Fin 1024 → EReal) (h : ∑ k, x k * x k = ⊤) (k : Fin 1024) : gradK x g d k = gradR x g d k := by
  obtain ⟨e, he, hE⟩ := eps_pos
  have hs : scale x = 0 := by
    unfold scale
    rw [h, hE, ofBits_1024, Ideal.div_coe (by norm_num), EReal.top_mul_coe_of_pos (by norm_num), EReal.top_add_coe, Ideal.rsqrt_top]
  have hm : meanSq x = ⊤ := by
    unfold meanSq
    rw [h, hE, ofBits_1024, Ideal.div_coe (by norm_num), EReal.top_mul_coe_of_pos (by norm_num), EReal.top_add_coe]
  have hd : Ideal.div 0 ⊤ = 0 := by
    unfold Ideal.div
    rw [if_neg EReal.top_ne_zero, zero_mul]
  have hc : coef x g d = 0 := by
    unfold coef
    rw [hs, hm, hd, mul_zero, mul_zero, div_1024_zero]
  unfold gradK gradR
  rw [hs, hc, zero_mul, mul_zero, mul_zero, zero_mul, add_zero, add_zero]

/-- An entry of a row whose sum of squares is not infinite is real. -/
theorem real_of_sum {x : Fin 1024 → EReal} (h : ∑ k, x k * x k ≠ ⊤) (k : Fin 1024) : IsReal (x k) := by
  have h0 : ∀ y : EReal, 0 ≤ y * y := fun y => by
    induction y with
    | bot => simp
    | top => simp
    | coe r => rw [← EReal.coe_mul]; exact EReal.coe_nonneg.mpr (mul_self_nonneg r)
  have h1 : x k * x k ≤ ∑ l, x l * x l := Finset.single_le_sum (f := fun l => x l * x l) (fun l _ => h0 (x l)) (Finset.mem_univ k)
  have h2 : x k * x k ≠ ⊤ := fun e => h (top_le_iff.mp (e ▸ h1))
  generalize x k = y at h2
  induction y with
  | bot => exact absurd EReal.bot_mul_bot h2
  | top => exact absurd EReal.top_mul_top h2
  | coe r => exact ⟨r, rfl⟩

/-- The two spellings of the gradient of the norm agree. -/
theorem grad_all (x g d : Fin 1024 → EReal) (k : Fin 1024) : gradK x g d k = gradR x g d k := by
  by_cases h : ∑ k, x k * x k = ⊤
  · exact grad_top g d h k
  choose x' hx' using real_of_sum h
  obtain rfl : x = fun k => (x' k : EReal) := funext hx'
  obtain ⟨v, hv, hm, hs⟩ := meanSq_real x'
  have hq : 0 < Real.sqrt v := Real.sqrt_pos.mpr hv
  have hqq : Real.sqrt v * Real.sqrt v = v := Real.mul_self_sqrt hv.le
  unfold gradK gradR coef
  rw [hm, hs, ofBits_1024, ofBits_minus_half, Ideal.div_coe hv.ne', Ideal.div_coe (by norm_num), Ideal.div_coe (by norm_num)]
  have e1 : ∑ l, d l * g l * ((x' l : EReal) * (((Real.sqrt v)⁻¹ : ℝ) : EReal))
      = (((Real.sqrt v)⁻¹ : ℝ) : EReal) * ∑ l, (x' l : EReal) * (d l * g l) := by
    rw [mul_sum_real _ _ (inv_nonneg.mpr hq.le)]
    exact Finset.sum_congr rfl fun l _ => by ac_rfl
  rw [e1]
  generalize (∑ l, (x' l : EReal) * (d l * g l)) = c
  generalize d k * g k = e
  rw [EReal.mul_sub_of_nonneg_of_ne_top (EReal.coe_nonneg.mpr (inv_nonneg.mpr hq.le)) (EReal.coe_ne_top _)]
  generalize Real.sqrt v = q at *
  subst hqq
  have e2 : ((q⁻¹ : ℝ) : EReal) * ((x' k : EReal) * ((q⁻¹ : ℝ) : EReal) * (((q⁻¹ : ℝ) : EReal) * c * ((1 / 1024 : ℝ) : EReal)))
      = ((q⁻¹ * x' k * q⁻¹ * q⁻¹ * (1 / 1024) : ℝ) : EReal) * c := by
    simp only [EReal.coe_mul]
    ac_rfl
  have e3 : c * (((-(1 / 2) : ℝ) : EReal) * (((q⁻¹ : ℝ) : EReal) * ((1 / (q * q) : ℝ) : EReal))) * ((1 / 1024 : ℝ) : EReal)
      = ((-(1 / 2) * (q⁻¹ * (1 / (q * q))) * (1 / 1024) : ℝ) : EReal) * c := by
    simp only [EReal.coe_mul]
    ac_rfl
  rw [e2, e3, mul_comm e, sub_eq_add_neg, ← neg_mul, ← EReal.coe_neg, add_assoc, mul_comm _ (x' k : EReal), ← mul_assoc, ← EReal.coe_mul]
  refine congrArg (fun y : EReal => ((q⁻¹ : ℝ) : EReal) * e + y) ?_
  have e4 : ∀ y : EReal, y + y = ((2 : ℝ) : EReal) * y := fun y => by
    have e5 : ((2 : ℝ) : EReal) = 1 + 1 := by
      rw [← EReal.coe_one, ← EReal.coe_add]
      norm_num
    rw [e5, EReal.right_distrib_of_nonneg zero_le_one zero_le_one, one_mul]
  rw [e4, ← mul_assoc, ← EReal.coe_mul]
  refine congrArg (fun r : ℝ => (r : EReal) * c) ?_
  field_simp

/-! ## The gate's gradient -/

/-- The gradient of the hidden activation by the first product, as the kernels spell it. -/
def gateK (d a b : EReal) : EReal :=
  d * b * (Ideal.logistic a * (((1 : ℝ) : EReal) + a * (((1 : ℝ) : EReal) - Ideal.logistic a)))

/-- The same, as the references spell it. -/
def gateR (d a b : EReal) : EReal :=
  a * (d * b) * (Ideal.logistic a * (((1 : ℝ) : EReal) - Ideal.logistic a)) + d * b * Ideal.logistic a

theorem gate_eq {d a b : EReal} (hd : IsReal d) (ha : IsReal a) (hb : IsReal b) : gateK d a b = gateR d a b := by
  obtain ⟨s, hs⟩ := ha.logistic
  obtain ⟨d, rfl⟩ := hd
  obtain ⟨a, rfl⟩ := ha
  obtain ⟨b, rfl⟩ := hb
  unfold gateK gateR
  rw [hs]
  simp only [← EReal.coe_mul, ← EReal.coe_sub, ← EReal.coe_add]
  refine congrArg _ ?_
  ring

theorem gateR_real {d a b : EReal} (hd : IsReal d) (ha : IsReal a) (hb : IsReal b) : IsReal (gateR d a b) :=
  ((ha.mul (hd.mul hb)).mul (ha.logistic.mul ((IsReal.coe 1).sub ha.logistic))).add ((hd.mul hb).mul ha.logistic)

/-- The gradient of the hidden activation by the second product. -/
def upK (d a : EReal) : EReal := d * (a * Ideal.logistic a)

theorem upK_real {d a : EReal} (hd : IsReal d) (ha : IsReal a) : IsReal (upK d a) := hd.mul (ha.mul ha.logistic)

theorem gateK_zero (a b : EReal) : gateK 0 a b = 0 := by simp only [gateK, zero_mul]
theorem upK_zero (a : EReal) : upK 0 a = 0 := by simp only [upK, zero_mul]

end Cert.NormGrad
-- ==== Proof.In.lean ====
/- The backward call of a feed-forward that ends at its norm: the gradients of the gate, of the two first products, of
   the normed row and of the gain. -/
module

public import proofs.«01_k».proof.Proof.Gen.FfnInIdeal.Value
public import proofs.«01_k».proof.Proof.Gen.FfnInRefIdeal.Run
public import proofs.«01_k».proof.Defs
public import proofs.«01_k».proof.Proof.Scalars
public import proofs.«01_k».proof.Proof.Rows
public import proofs.«01_k».proof.Proof.Norm
public import proofs.«01_k».proof.Proof.NormGrad
public import Idealize.ShloMosaic.Lib.StableHlo.Predicate

@[expose] public section

set_option maxRecDepth 16384

noncomputable section

namespace Cert.FfnInIdeal.Entry

open Idealize.ShloMosaic Idealize.ShloMosaic.TcCoe Idealize.SL.Sem
open Cert.FfnInIdeal Cert.FfnInIdeal.Gen Cert.Rows Cert.Norm Cert.NormGrad Cert.Scalars

variable (m : (ℓ : Loc nD τ sig) → Buf (Elt Ideal) ℓ)

/-- The normed rows that the host computes. -/
def hostN (H : FVec Ideal S16400x1024 .f32) (g : FVec Ideal S1x1024 .f32) : FVec Ideal S16400x1024 .f32 :=
  mulf (mulf H (broadcastInDim S16400x1024 ![0, 1] bcast_S16400x1_S16400x1024_0_1 (Host.rsqrt (addf (Host.divf (broadcastInDim S16400x1 ![0] bcast_S16400_S16400x1_0 (Host.reduceAdd (mulf H H) (constant S_ .f32 0x00000000#32) reducesTo_S16400x1024_S16400_d1 h_S_)) (broadcastInDim S16400x1 ![] bcast_S_S16400x1 (constant S_ .f32 0x44800000#32))) (broadcastInDim S16400x1 ![] bcast_S_S16400x1 (constant S_ .f32 0x358637BD#32)))))) (broadcastInDim S16400x1024 ![0, 1] bcast_S1x1024_S16400x1024_0_1 g)

/-- A product that the host computes. -/
def hostP (H : FVec Ideal S16400x1024 .f32) (g : FVec Ideal S1x1024 .f32) (w : FVec Ideal S1024x2816 .f32) : FVec Ideal S16400x2816 .f32 :=
  Host.dotGeneral dot_S16400x1024_S1024x2816_S16400x2816_1_0_0_1_n_n none (hostN H g) w

theorem hostN_at (H : FVec Ideal S16400x1024 .f32) (g : FVec Ideal S1x1024 .f32) (r : Fin 16400) (j : Fin 1024) :
    hostN H g (ix2 r j) = normed (fun k => H (ix2 r k)) (fun k => g (ix2 0 k)) j := by
  pointwise [hostN, normed, scale]

theorem hostP_at (H : FVec Ideal S16400x1024 .f32) (g : FVec Ideal S1x1024 .f32) (w : FVec Ideal S1024x2816 .f32) (r : Fin 16400) (j : Fin 2816) :
    hostP H g w (ix2 r j) = through (fun k => H (ix2 r k)) (fun k => g (ix2 0 k)) (fun k => w (ix2 k j)) := by
  pointwise [hostP, through, hostN_at]

/-- The padded cotangent of the activations. -/
theorem entry_d (c : Dev nD) (R : Fin 16512) (k : Fin 2816) :
    V m c main_v15 (ix2 R k) = onRows (fun r l => (m ((c : Thread nD τ).loc main_arg0) : S16400x2816.Idx → EReal) (ix2 r l)) R k := by
  have e : (V m c main_v15 : FVec Ideal S16512x2816 .bf16) = truncf (F := Ideal) .bf16 (pad S16512x2816 ![112, 0] ![0, 0] ![0, 0]
      (m ((c : Thread nD τ).loc main_arg0) : FVec Ideal S16400x2816 .f32) (sitofp (F := Ideal) .f32 (constantI S_ 32 0#32))
      pads_S16400x2816_S16512x2816_11200_000 h_S_) bitsLt_bf16_f32 := by
    simp only [V, hostOps0, hostOps0_1, hostOps0_2, hostOps0_3, hostOps0_4, hostOps0_5, hostOps0_6, hostOps0_7, hostOps0_8, hostOps0_9,
      hostOps0_10, List.flatten_cons, List.flatten_nil, List.append_nil, List.cons_append, List.nil_append,
      StableHlo.TRef.unary, StableHlo.TRef.binary, StableHlo.TRef.toBuf, StableHlo.TRef.ofBuf, cast_eq]
    after_results
  exact (congrFun e (ix2 R k)).trans (pad_at _ pads_S16400x2816_S16512x2816_11200_000 h_S_ R k)

/-- The padded first product. -/
theorem entry_gate (c : Dev nD) (R : Fin 16512) (k : Fin 2816) :
    V m c main_v17 (ix2 R k) = onRows (fun r l => through (fun k => (m ((c : Thread nD τ).loc main_arg2) : S16400x1024.Idx → EReal) (ix2 r k))
          (fun k => (m ((c : Thread nD τ).loc main_arg3) : S1x1024.Idx → EReal) (ix2 0 k))
          (fun k => (m ((c : Thread nD τ).loc main_arg4) : S1024x2816.Idx → EReal) (ix2 k l))) R k := by
  have e : (V m c main_v17 : FVec Ideal S16512x2816 .bf16) = truncf (F := Ideal) .bf16 (pad S16512x2816 ![112, 0] ![0, 0] ![0, 0]
      (hostP (m ((c : Thread nD τ).loc main_arg2)) (m ((c : Thread nD τ).loc main_arg3)) (m ((c : Thread nD τ).loc main_arg4)))
      (sitofp (F := Ideal) .f32 (constantI S_ 32 0#32)) pads_S16400x2816_S16512x2816_11200_000 h_S_) bitsLt_bf16_f32 := by
    unfold hostP hostN
    simp only [V, hostOps0, hostOps0_1, hostOps0_2, hostOps0_3, hostOps0_4, hostOps0_5, hostOps0_6, hostOps0_7, hostOps0_8, hostOps0_9,
      hostOps0_10, List.flatten_cons, List.flatten_nil, List.append_nil, List.cons_append, List.nil_append,
      StableHlo.TRef.unary, StableHlo.TRef.binary, StableHlo.TRef.toBuf, StableHlo.TRef.ofBuf, cast_eq]
    after_results
  exact ((congrFun e (ix2 R k)).trans (pad_at _ pads_S16400x2816_S16512x2816_11200_000 h_S_ R k)).trans
    (congrArg (fun X => onRows X R k) (funext fun r => funext fun l => hostP_at _ _ _ r l))

/-- The padded second product. -/
theorem entry_up (c : Dev nD) (R : Fin 16512) (k : Fin 2816) :
    V m c main_v19 (ix2 R k) = onRows (fun r l => through (fun k => (m ((c : Thread nD τ).loc main_arg2) : S16400x1024.Idx → EReal) (ix2 r k))
          (fun k => (m ((c : Thread nD τ).loc main_arg3) : S1x1024.Idx → EReal) (ix2 0 k))
          (fun k => (m ((c : Thread nD τ).loc main_arg5) : S1024x2816.Idx → EReal) (ix2 k l))) R k := by
  have e : (V m c main_v19 : FVec Ideal S16512x2816 .bf16) = truncf (F := Ideal) .bf16 (pad S16512x2816 ![112, 0] ![0, 0] ![0, 0]
      (hostP (m ((c : Thread nD τ).loc main_arg2)) (m ((c : Thread nD τ).loc main_arg3)) (m ((c : Thread nD τ).loc main_arg5)))
      (sitofp (F := Ideal) .f32 (constantI S_ 32 0#32)) pads_S16400x2816_S16512x2816_11200_000 h_S_) bitsLt_bf16_f32 := by
    unfold hostP hostN
    simp only [V, hostOps0, hostOps0_1, hostOps0_2, hostOps0_3, hostOps0_4, hostOps0_5, hostOps0_6, hostOps0_7, hostOps0_8, hostOps0_9,
      hostOps0_10, List.flatten_cons, List.flatten_nil, List.append_nil, List.cons_append, List.nil_append,
      StableHlo.TRef.unary, StableHlo.TRef.binary, StableHlo.TRef.toBuf, StableHlo.TRef.ofBuf, cast_eq]
    after_results
  exact ((congrFun e (ix2 R k)).trans (pad_at _ pads_S16400x2816_S16512x2816_11200_000 h_S_ R k)).trans
    (congrArg (fun X => onRows X R k) (funext fun r => funext fun l => hostP_at _ _ _ r l))

/-- The padded rows. -/
theorem entry_h (c : Dev nD) (R : Fin 16512) (k : Fin 1024) :
    V m c main_v20 (ix2 R k) = onRows (fun r l => (m ((c : Thread nD τ).loc main_arg2) : S16400x1024.Idx → EReal) (ix2 r l)) R k := by
  have e : (V m c main_v20 : FVec Ideal S16512x1024 .f32) = pad S16512x1024 ![112, 0] ![0, 0] ![0, 0]
      (m ((c : Thread nD τ).loc main_arg2) : FVec Ideal S16400x1024 .f32) (sitofp (F := Ideal) .f32 (constantI S_ 32 0#32))
      pads_S16400x1024_S16512x1024_11200_000 h_S_ := by
    simp only [V, hostOps0, hostOps0_1, hostOps0_2, hostOps0_3, hostOps0_4, hostOps0_5, hostOps0_6, hostOps0_7, hostOps0_8, hostOps0_9,
      hostOps0_10, List.flatten_cons, List.flatten_nil, List.append_nil, List.cons_append, List.nil_append,
      StableHlo.TRef.unary, StableHlo.TRef.binary, StableHlo.TRef.toBuf, StableHlo.TRef.ofBuf, cast_eq]
    after_results
  exact (congrFun e (ix2 R k)).trans (pad_at _ pads_S16400x1024_S16512x1024_11200_000 h_S_ R k)

/-- The padded cotangent of the rows. -/
theorem entry_dh (c : Dev nD) (R : Fin 16512) (k : Fin 1024) :
    V m c main_v21 (ix2 R k) = onRows (fun r l => (m ((c : Thread nD τ).loc main_arg1) : S16400x1024.Idx → EReal) (ix2 r l)) R k := by
  have e : (V m c main_v21 : FVec Ideal S16512x1024 .f32) = pad S16512x1024 ![112, 0] ![0, 0] ![0, 0]
      (m ((c : Thread nD τ).loc main_arg1) : FVec Ideal S16400x1024 .f32) (sitofp (F := Ideal) .f32 (constantI S_ 32 0#32))
      pads_S16400x1024_S16512x1024_11200_000 h_S_ := by
    simp only [V, hostOps0, hostOps0_1, hostOps0_2, hostOps0_3, hostOps0_4, hostOps0_5, hostOps0_6, hostOps0_7, hostOps0_8, hostOps0_9,
      hostOps0_10, List.flatten_cons, List.flatten_nil, List.append_nil, List.cons_append, List.nil_append,
      StableHlo.TRef.unary, StableHlo.TRef.binary, StableHlo.TRef.toBuf, StableHlo.TRef.ofBuf, cast_eq]
    after_results
  exact (congrFun e (ix2 R k)).trans (pad_at _ pads_S16400x1024_S16512x1024_11200_000 h_S_ R k)

/-- The gain the call reads. -/
theorem entry_g (c : Dev nD) : (V m c main_arg3 : FVec Ideal S1x1024 .f32) = m ((c : Thread nD τ).loc main_arg3) := by
  simp only [V, hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append,
    StableHlo.TRef.unary, StableHlo.TRef.binary, StableHlo.TRef.toBuf, StableHlo.TRef.ofBuf, cast_eq]
  after_results

/-- The first weight the call reads, transposed. -/
theorem entry_wg (c : Dev nD) (k : Fin 2816) (j : Fin 1024) :
    V m c main_v23 (ix2 k j) = (m ((c : Thread nD τ).loc main_arg4) : S1024x2816.Idx → EReal) (ix2 j k) := by
  have e : (V m c main_v23 : FVec Ideal S2816x1024 .bf16) = truncf (F := Ideal) .bf16 (transpose S2816x1024 [1, 0]
      (m ((c : Thread nD τ).loc main_arg4) : FVec Ideal S1024x2816 .f32) transposes_S1024x2816_S2816x1024_1_0) bitsLt_bf16_f32 := by
    simp only [V, hostOps0, hostOps0_1, hostOps0_2, hostOps0_3, hostOps0_4, hostOps0_5, hostOps0_6, hostOps0_7, hostOps0_8, hostOps0_9,
      hostOps0_10, List.flatten_cons, List.flatten_nil, List.append_nil, List.cons_append, List.nil_append,
      StableHlo.TRef.unary, StableHlo.TRef.binary, StableHlo.TRef.toBuf, StableHlo.TRef.ofBuf, cast_eq]
    after_results
  refine (congrFun e (ix2 k j)).trans ?_
  pointwise

/-- The second weight the call reads, transposed. -/
theorem entry_wu (c : Dev nD) (k : Fin 2816) (j : Fin 1024) :
    V m c main_v25 (ix2 k j) = (m ((c : Thread nD τ).loc main_arg5) : S1024x2816.Idx → EReal) (ix2 j k) := by
  have e : (V m c main_v25 : FVec Ideal S2816x1024 .bf16) = truncf (F := Ideal) .bf16 (transpose S2816x1024 [1, 0]
      (m ((c : Thread nD τ).loc main_arg5) : FVec Ideal S1024x2816 .f32) transposes_S1024x2816_S2816x1024_1_0) bitsLt_bf16_f32 := by
    simp only [V, hostOps0, hostOps0_1, hostOps0_2, hostOps0_3, hostOps0_4, hostOps0_5, hostOps0_6, hostOps0_7, hostOps0_8, hostOps0_9,
      hostOps0_10, List.flatten_cons, List.flatten_nil, List.append_nil, List.cons_append, List.nil_append,
      StableHlo.TRef.unary, StableHlo.TRef.binary, StableHlo.TRef.toBuf, StableHlo.TRef.ofBuf, cast_eq]
    after_results
  refine (congrFun e (ix2 k j)).trans ?_
  pointwise

/-- The block of each window at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![0, 0] := (by decide +kernel : ∀ t : Fin grid0.N, _)

/-- The gradient of a normed row: what comes back through the two weights. -/
def back (a b w w' : Fin 2816 → EReal) : EReal := (∑ k, a k * w k) + ∑ k, b k * w' k

/-- The gradient of a normed row, from the rows of a block. -/
def rowBack (D G U : Fin 2816 → EReal) (W W' : Fin 2816 → Fin 1024 → EReal) (l : Fin 1024) : EReal :=
  back (fun k => gateK (D k) (G k) (U k)) (fun k => upK (D k) (G k)) (fun k => W k l) (fun k => W' k l)

/-- The stored gradient of the first product at an index of a block. -/
theorem dg_at (d a b : FVec Ideal S384x2816 .bf16) (i : Fin 384) (j : Fin 2816) :
    k0_pay8 (F := Ideal) d a b (ix2 i j) = gateK (d (ix2 i j)) (a (ix2 i j)) (b (ix2 i j)) := by
  pointwise [k0_pay8, k0_pay5, k0_pay6, k0_pay7, gateK]
  rw [kernel_sigmoid]
  rfl

/-- The stored gradient of the second product at an index of a block. -/
theorem du_at (d a : FVec Ideal S384x2816 .bf16) (i : Fin 384) (j : Fin 2816) :
    k0_pay9 (F := Ideal) d a (ix2 i j) = upK (d (ix2 i j)) (a (ix2 i j)) := by
  pointwise [k0_pay9, k0_pay5, k0_pay6, k0_pay7, upK]
  rw [kernel_sigmoid]

/-- The gradient of the normed row at an index of a block. -/
theorem dn_at (d a b : FVec Ideal S384x2816 .bf16) (w w' : FVec Ideal S2816x1024 .bf16) (i : Fin 384) (j : Fin 1024) :
    k0_pay12 (F := Ideal) (k0_pay10 (F := Ideal) d a b w) (k0_pay11 (F := Ideal) d a w') (ix2 i j)
      = rowBack (fun k => d (ix2 i k)) (fun k => a (ix2 i k)) (fun k => b (ix2 i k)) (fun k l => w (ix2 k l)) (fun k l => w' (ix2 k l)) j := by
  pointwise [k0_pay12, k0_pay10, k0_pay11, dg_at, du_at, rowBack, back]

/-- Whether a row of a block lies in the sequence, as the call decides it. -/
def inSeq (a0 : BitVec 32) (i : Fin 384) : BitVec 1 := IntOp.cmpi .sge (IntOp.addi (Scalar.muli a0 384#32) (BitVec.ofNat 32 i.val)) 112#32

/-- The stored gradient of the rows at an index of a block. -/
theorem dx_at (a0 : BitVec 32) (d a b : FVec Ideal S384x2816 .bf16) (h dh : FVec Ideal S384x1024 .f32) (g : FVec Ideal S1x1024 .f32)
    (w w' : FVec Ideal S2816x1024 .bf16) (i : Fin 384) (j : Fin 1024) :
    k0_pay16 (F := Ideal) a0 (k0_pay3 (F := Ideal) h) (k0_pay4 (F := Ideal) dh) (k0_pay10 (F := Ideal) d a b w) (k0_pay11 (F := Ideal) d a w') g (ix2 i j)
      = dh (ix2 i j) + Scalar.select (inSeq a0 i) (gradK (fun k => h (ix2 i k)) (fun k => g (ix2 0 k))
          (rowBack (fun k => d (ix2 i k)) (fun k => a (ix2 i k)) (fun k => b (ix2 i k)) (fun k l => w (ix2 k l)) (fun k l => w' (ix2 k l))) j) 0 := by
  pointwise [k0_pay16, k0_pay3, k0_pay4, k0_pay13, k0_pay14, dn_at, gradK, scale, inSeq]

/-- What a block adds to the gradient of the gain. -/
theorem gain_at (d a b : FVec Ideal S384x2816 .bf16) (h : FVec Ideal S384x1024 .f32) (w w' : FVec Ideal S2816x1024 .bf16) (i : Fin 1) (j : Fin 1024) :
    k0_pay15 (F := Ideal) (k0_pay3 (F := Ideal) h) (k0_pay10 (F := Ideal) d a b w) (k0_pay11 (F := Ideal) d a w') (ix2 i j)
      = ∑ r : Fin 384, rowBack (fun k => d (ix2 r k)) (fun k => a (ix2 r k)) (fun k => b (ix2 r k)) (fun k l => w (ix2 k l)) (fun k l => w' (ix2 k l)) j
          * (h (ix2 r j) * scale (fun k => h (ix2 r k))) := by
  pointwise [k0_pay15, k0_pay3, k0_pay13, k0_pay14, dn_at, scale]

theorem add_at (x y : FVec Ideal S1x1024 .f32) (i : S1x1024.Idx) : k0_pay2 (F := Ideal) x y i = y i + x i := by
  pointwise [k0_pay2]

theorem zero_at (i : S1x1024.Idx) : k0_pay1 (F := Ideal) i = (0 : EReal) := by
  pointwise [k0_pay1]

/-- The gradient of a normed row of the padded sequence, from the arrays the call reads. -/
def backRow (D G U : FVec Ideal S16512x2816 .bf16) (W W' : FVec Ideal S2816x1024 .bf16) (R : Fin 16512) : Fin 1024 → EReal :=
  rowBack (fun k => D (ix2 R k)) (fun k => G (ix2 R k)) (fun k => U (ix2 R k)) (fun k l => W (ix2 k l)) (fun k l => W' (ix2 k l))

/-- The whole gradient of the first product. -/
def outG (D G U : FVec Ideal S16512x2816 .bf16) : FVec Ideal S16512x2816 .bf16 :=
  fun i => gateK (D i) (G i) (U i)

/-- The whole gradient of the second product. -/
def outU (D G : FVec Ideal S16512x2816 .bf16) : FVec Ideal S16512x2816 .bf16 :=
  fun i => upK (D i) (G i)

/-- An entry of the gradient of the rows: the cotangent, and on the sequence's rows the norm's gradient. -/
def rowGrad (R : Fin 16512) (y : EReal) (h g n : Fin 1024 → EReal) (j : Fin 1024) : EReal :=
  y + if 112 ≤ R.val then gradK h g n j else 0

/-- The whole gradient of the rows. -/
def outX (D G U : FVec Ideal S16512x2816 .bf16) (W W' : FVec Ideal S2816x1024 .bf16) (H DH : FVec Ideal S16512x1024 .f32)
    (g : FVec Ideal S1x1024 .f32) : FVec Ideal S16512x1024 .f32 :=
  fun i => rowGrad (i 0) (DH i) (fun k => H (ix2 (i 0) k)) (fun k => g (ix2 0 k)) (backRow D G U W W' (i 0)) (i 1)

theorem inSeq_iff (t : Fin 43) (i : Fin 384) : inSeq (BitVec.ofNat 32 t.val) i = 1#1 ↔ 112 ≤ t.val * 384 + i.val := by
  have e : IntOp.addi (Scalar.muli (BitVec.ofNat 32 t.val) 384#32) (BitVec.ofNat 32 i.val) = BitVec.ofNat 32 (t.val * 384 + i.val) := by
    apply BitVec.eq_of_toNat_eq
    show (BitVec.ofNat 32 t.val * 384#32 + BitVec.ofNat 32 i.val).toNat = _
    simp only [BitVec.toNat_add, BitVec.toNat_mul, BitVec.toNat_ofNat]
    omega
  have n : (BitVec.ofNat 32 (t.val * 384 + i.val)).toNat = t.val * 384 + i.val := by
    rw [BitVec.toNat_ofNat]; exact Nat.mod_eq_of_lt (by omega)
  unfold inSeq
  rw [e]
  exact (StableHlo.Predicate.sge_iff_toNat (by rw [n]; omega) (by decide)).trans (by rw [n]; rfl)

/-- The stored gradient of the rows at an index of a block, at its row of the padded sequence. -/
theorem dx_row (n : ℕ) (hn : n < 43) (d a b : FVec Ideal S384x2816 .bf16) (h dh : FVec Ideal S384x1024 .f32) (g : FVec Ideal S1x1024 .f32)
    (w w' : FVec Ideal S2816x1024 .bf16) (i : Fin 384) (j : Fin 1024) (R : Fin 16512) (hR : R.val = n * 384 + i.val) :
    k0_pay16 (F := Ideal) (BitVec.ofNat 32 n) (k0_pay3 (F := Ideal) h) (k0_pay4 (F := Ideal) dh) (k0_pay10 (F := Ideal) d a b w)
        (k0_pay11 (F := Ideal) d a w') g (ix2 i j)
      = rowGrad R (dh (ix2 i j)) (fun k => h (ix2 i k)) (fun k => g (ix2 0 k))
          (rowBack (fun k => d (ix2 i k)) (fun k => a (ix2 i k)) (fun k => b (ix2 i k)) (fun k l => w (ix2 k l)) (fun k l => w' (ix2 k l))) j := by
  refine (dx_at _ d a b h dh g w w' i j).trans ?_
  unfold rowGrad
  refine congrArg (fun x : EReal => dh (ix2 i j) + x) ?_
  have e : inSeq (BitVec.ofNat 32 n) i = 1#1 ↔ 112 ≤ n * 384 + i.val := inSeq_iff ⟨n, hn⟩ i
  by_cases h0 : 112 ≤ R.val
  · rw [if_pos h0, e.mpr (by omega)]; rfl
  · rw [if_neg h0, (BitVec.eq_zero_or_eq_one (inSeq (BitVec.ofNat 32 n) i)).resolve_right fun e1 => h0 (by have := e.mp e1; omega)]; rfl

theorem coord : ∀ t : Fin cfg0.N, (grid0.coords t 0).val = t.val := (by decide +kernel : ∀ t : Fin grid0.N, _)

set_option maxHeartbeats 2000000 in
/-- What a point stores into the gradient of the rows. -/
theorem x_at (c : Dev nD) (t : Fin cfg0.N) : (outsAt0 m c t.val t.isLt).1
    = k0_pay16 (F := Ideal) (BitVec.ofNat 32 (grid0.coords t 0).val) (k0_pay3 (F := Ideal) (iblk m c 3 t)) (k0_pay4 (F := Ideal) (iblk m c 4 t))
        (k0_pay10 (F := Ideal) (iblk m c 0 t) (iblk m c 1 t) (iblk m c 2 t) (iblk m c 6 t))
        (k0_pay11 (F := Ideal) (iblk m c 0 t) (iblk m c 1 t) (iblk m c 7 t)) (iblk m c 5 t) := by
  by_cases h0 : t.val % 43 = 0
  · rw [outsAt0_A m c t h0]; frame_out
  · rw [outsAt0_B m c t h0]; frame_out

set_option maxHeartbeats 2000000 in
/-- What a point stores into the gradient of the first product. -/
theorem g_at (c : Dev nD) (t : Fin cfg0.N) : (outsAt0 m c t.val t.isLt).2.1
    = k0_pay8 (F := Ideal) (iblk m c 0 t) (iblk m c 1 t) (iblk m c 2 t) := by
  by_cases h0 : t.val % 43 = 0
  · rw [outsAt0_A m c t h0]; frame_out
  · rw [outsAt0_B m c t h0]; frame_out

set_option maxHeartbeats 2000000 in
/-- What a point stores into the gradient of the second product. -/
theorem u_at (c : Dev nD) (t : Fin cfg0.N) : (outsAt0 m c t.val t.isLt).2.2.1
    = k0_pay9 (F := Ideal) (iblk m c 0 t) (iblk m c 1 t) := by
  by_cases h0 : t.val % 43 = 0
  · rw [outsAt0_A m c t h0]; frame_out
  · rw [outsAt0_B m c t h0]; frame_out

set_option maxHeartbeats 2000000 in
/-- The gradient of the rows after the run. -/
theorem final_x (c : Dev nD) : (dats m 0 c).arrAt 8 (cfgs 0).N
    = outX (V m c main_v15) (V m c main_v17) (V m c main_v19) (V m c main_v23) (V m c main_v25) (V m c main_v20) (V m c main_v21) (V m c main_arg3) := by
  refine (dats m 0 c).arrAt_eq_of_covers 8 _ (by decide +kernel) fun t _ y => ?_
  blk_simp
  rw [after0_8, x_at]
  idx_vars y
  refine (dx_row _ (by rw [coord t]; exact t.isLt) _ _ _ _ _ _ _ _ y0 y1
    ((((View.whole main_v26_0).slice (win0_8.rect t)).emb (ix2 y0 y1)) 0) (by rw [coord t]; blk_simp [idx t])).trans ?_
  refine congr (congr (congr (congr (congrArg (rowGrad _) ?_) (funext fun k => ?_)) (funext fun k => ?_))
    (congr (congr (congr (congr (congrArg rowBack (funext fun k => ?_)) (funext fun k => ?_)) (funext fun k => ?_))
      (funext fun k => funext fun l => ?_)) (funext fun k => funext fun l => ?_))) ?_
  · blk_ext [iblk, idx t]
  · blk_ext [iblk, idx t]
  · blk_ext [iblk, idx t]
  · blk_ext [iblk, idx t]
  · blk_ext [iblk, idx t]
  · blk_ext [iblk, idx t]
  · blk_ext [iblk, idx t]
  · blk_ext [iblk, idx t]
  · exact Fin.ext (by blk_simp [idx t])

set_option maxHeartbeats 2000000 in
/-- The gradient of the first product after the run. -/
theorem final_g (c : Dev nD) : (dats m 0 c).arrAt 9 (cfgs 0).N = outG (V m c main_v15) (V m c main_v17) (V m c main_v19) := by
  refine (dats m 0 c).arrAt_eq_of_covers 9 _ (by decide +kernel) fun t _ y => ?_
  blk_simp
  rw [after0_9, g_at]
  idx_vars y
  refine (dg_at _ _ _ y0 y1).trans ?_
  refine congr (congr (congrArg gateK ?_) ?_) ?_
  · blk_ext [iblk, idx t]
  · blk_ext [iblk, idx t]
  · blk_ext [iblk, idx t]

set_option maxHeartbeats 2000000 in
/-- The gradient of the second product after the run. -/
theorem final_u (c : Dev nD) : (dats m 0 c).arrAt 10 (cfgs 0).N = outU (V m c main_v15) (V m c main_v17) := by
  refine (dats m 0 c).arrAt_eq_of_covers 10 _ (by decide +kernel) fun t _ y => ?_
  blk_simp
  rw [after0_10, u_at]
  idx_vars y
  refine (du_at _ _ y0 y1).trans ?_
  refine congr (congrArg upK ?_) ?_
  · blk_ext [iblk, idx t]
  · blk_ext [iblk, idx t]

/-- A row's part of the gradient of the gain. -/
def gainRow (h n : Fin 1024 → EReal) (j : Fin 1024) : EReal := n j * (h j * scale h)

/-- What a point adds to the gradient of the gain. -/
def part (c : Dev nD) (t : Fin cfg0.N) : S1x1024.Idx → EReal :=
  fun i => ∑ r : Fin 384, gainRow (fun k => iblk m c 3 t (ix2 r k))
    (rowBack (fun k => iblk m c 0 t (ix2 r k)) (fun k => iblk m c 1 t (ix2 r k)) (fun k => iblk m c 2 t (ix2 r k))
      (fun k l => iblk m c 6 t (ix2 k l)) (fun k l => iblk m c 7 t (ix2 k l))) (i 1)

set_option maxHeartbeats 2000000 in
theorem gain_reset (c : Dev nD) (t : Fin cfg0.N) (h : t.val % 43 = 0) (i : S1x1024.Idx) :
    (outsAt0 m c t.val t.isLt).2.2.2 i = (0 : EReal) + part m c t i := by
  rw [outsAt0_A m c t h]
  frame_out
  idx_vars i
  refine (add_at _ _ _).trans ?_
  refine Ideal.add_congr (zero_at _) ?_
  exact gain_at _ _ _ _ _ _ i0 i1

set_option maxHeartbeats 2000000 in
theorem gain_step (c : Dev nD) (t : Fin cfg0.N) (h : ¬t.val % 43 = 0) (i : S1x1024.Idx) :
    (outsAt0 m c t.val t.isLt).2.2.2 i
      = (outsAt0 m c (t.val - 1) (Nat.lt_of_le_of_lt (Nat.sub_le _ _) t.isLt)).2.2.2 i + part m c t i := by
  rw [outsAt0_B m c t h]
  frame_out
  idx_vars i
  refine (add_at _ _ _).trans ?_
  refine Ideal.add_congr rfl ?_
  exact gain_at _ _ _ _ _ _ i0 i1

/-- The whole gradient of the gain. -/
def outD (D G U : FVec Ideal S16512x2816 .bf16) (W W' : FVec Ideal S2816x1024 .bf16) (H : FVec Ideal S16512x1024 .f32) : FVec Ideal S1x1024 .f32 :=
  fun i => ∑ R : Fin 16512, gainRow (fun k => H (ix2 R k)) (backRow D G U W W' R) (i 1)

set_option maxHeartbeats 2000000 in
/-- The gradient of the gain after the run. -/
theorem final_d (c : Dev nD) : (dats m 0 c).arrAt 11 (cfgs 0).N
    = outD (V m c main_v15) (V m c main_v17) (V m c main_v19) (V m c main_v23) (V m c main_v25) (V m c main_v20) := by
  refine (dats m 0 c).arrAt_eq_of_covers 11 _ (by decide +kernel) fun t hf y => ?_
  blk_simp
  rw [after0_11]
  have hm : t.val % 43 = 42 := (flush0_11 t).mp hf
  rw [Pipeline.eq_sum_fin_of_reset_step_apply_of_flush (fun n h => (outsAt0 m c n h).2.2.2) 43 (fun _ => 0) (fun t => part m c t)
    (fun t h j => gain_reset m c t h j) (fun t h j => gain_step m c t h j) t hm _, zero_add]
  unfold part outD
  refine Fin.sum_mul_add_congr fun s r hl => ?_
  refine congr (congr (congrArg gainRow (funext fun k => ?_))
    (congr (congr (congr (congr (congrArg rowBack (funext fun k => ?_)) (funext fun k => ?_)) (funext fun k => ?_))
      (funext fun k => funext fun l => ?_)) (funext fun k => funext fun l => ?_))) ?_
  · blk_ext [iblk, idx ⟨_, Pipeline.run_point_lt_of_flush t hm s⟩, idx t]
  · blk_ext [iblk, idx ⟨_, Pipeline.run_point_lt_of_flush t hm s⟩, idx t]
  · blk_ext [iblk, idx ⟨_, Pipeline.run_point_lt_of_flush t hm s⟩, idx t]
  · blk_ext [iblk, idx ⟨_, Pipeline.run_point_lt_of_flush t hm s⟩, idx t]
  · blk_ext [iblk, idx ⟨_, Pipeline.run_point_lt_of_flush t hm s⟩, idx t]
  · blk_ext [iblk, idx ⟨_, Pipeline.run_point_lt_of_flush t hm s⟩, idx t]
  · exact Fin.ext (by blk_simp [idx t])

/-! ## The results from the arguments -/

theorem rowBack_zero (G U : Fin 2816 → EReal) (W W' : Fin 2816 → Fin 1024 → EReal) (l : Fin 1024) : rowBack (fun _ => 0) G U W W' l = 0 := by
  simp only [rowBack, back, gateK_zero, upK_zero, zero_mul, Finset.sum_const_zero, add_zero]

/-- The rows that the call reads, from the arguments. -/
theorem rows_d (c : Dev nD) (R : Fin 16512) :
    (fun k => V m c main_v15 (ix2 R k)) = onRows (fun r l => (m ((c : Thread nD τ).loc main_arg0) : S16400x2816.Idx → EReal) (ix2 r l)) R :=
  funext fun k => entry_d m c R k

theorem rows_h (c : Dev nD) (R : Fin 16512) :
    (fun k => V m c main_v20 (ix2 R k)) = onRows (fun r l => (m ((c : Thread nD τ).loc main_arg2) : S16400x1024.Idx → EReal) (ix2 r l)) R :=
  funext fun k => entry_h m c R k

/-- A product of the forward pass. -/
def prod (H : S16400x1024.Idx → EReal) (g : S1x1024.Idx → EReal) (w : S1024x2816.Idx → EReal) (r : Fin 16400) (l : Fin 2816) : EReal :=
  through (fun k => H (ix2 r k)) (fun k => g (ix2 0 k)) (fun k => w (ix2 k l))

/-- The gradient of a normed row of the sequence. -/
def seqBack (D : S16400x2816.Idx → EReal) (H : S16400x1024.Idx → EReal) (g : S1x1024.Idx → EReal) (w w' : S1024x2816.Idx → EReal)
    (r : Fin 16400) : Fin 1024 → EReal :=
  rowBack (fun k => D (ix2 r k)) (prod H g w r) (prod H g w' r) (fun k l => w (ix2 l k)) (fun k l => w' (ix2 l k))

/-- An entry of the gradient of the rows of the sequence. -/
def seqX (D : S16400x2816.Idx → EReal) (Y H : S16400x1024.Idx → EReal) (g : S1x1024.Idx → EReal) (w w' : S1024x2816.Idx → EReal)
    (r : Fin 16400) (l : Fin 1024) : EReal :=
  Y (ix2 r l) + gradK (fun k => H (ix2 r k)) (fun k => g (ix2 0 k)) (seqBack D H g w w' r) l

/-- An entry of the gradient of the gain. -/
def seqGain (D : S16400x2816.Idx → EReal) (H : S16400x1024.Idx → EReal) (g : S1x1024.Idx → EReal) (w w' : S1024x2816.Idx → EReal)
    (j : Fin 1024) : EReal :=
  ∑ r : Fin 16400, gainRow (fun k => H (ix2 r k)) (seqBack D H g w w' r) j

theorem back_at (c : Dev nD) (R : Fin 16512) :
    backRow (V m c main_v15) (V m c main_v17) (V m c main_v19) (V m c main_v23) (V m c main_v25) R
      = onRows (seqBack (m ((c : Thread nD τ).loc main_arg0)) (m ((c : Thread nD τ).loc main_arg2)) (m ((c : Thread nD τ).loc main_arg3))
          (m ((c : Thread nD τ).loc main_arg4)) (m ((c : Thread nD τ).loc main_arg5))) R := by
  refine (congr (congr (congr (congr (congrArg rowBack (rows_d m c R)) (funext fun k => entry_gate m c R k)) (funext fun k => entry_up m c R k))
    (funext fun k => funext fun l => entry_wg m c k l)) (funext fun k => funext fun l => entry_wu m c k l)).trans ?_
  by_cases h : 112 ≤ R.val
  · simp only [onRows_row_pos _ h, onRows_pos _ h]; rfl
  · simp only [onRows_row_neg _ h]
    funext l
    exact rowBack_zero _ _ _ _ l

/-- The gradient of the first product at an index. -/
theorem res_g (c : Dev nD) (R : Fin 16512) (j : Fin 2816) :
    (dats m 0 c).arrAt 9 (cfgs 0).N (ix2 R j)
      = onRows (fun r l => gateK ((m ((c : Thread nD τ).loc main_arg0) : S16400x2816.Idx → EReal) (ix2 r l))
          (prod (m ((c : Thread nD τ).loc main_arg2)) (m ((c : Thread nD τ).loc main_arg3)) (m ((c : Thread nD τ).loc main_arg4)) r l)
          (prod (m ((c : Thread nD τ).loc main_arg2)) (m ((c : Thread nD τ).loc main_arg3)) (m ((c : Thread nD τ).loc main_arg5)) r l)) R j := by
  refine (congrFun (final_g m c) (ix2 R j)).trans ?_
  refine (congr (congr (congrArg gateK (entry_d m c R j)) (entry_gate m c R j)) (entry_up m c R j)).trans ?_
  by_cases h : 112 ≤ R.val
  · simp only [onRows_pos _ h]; rfl
  · simp only [onRows_neg _ h, gateK_zero]

/-- The gradient of the second product at an index. -/
theorem res_u (c : Dev nD) (R : Fin 16512) (j : Fin 2816) :
    (dats m 0 c).arrAt 10 (cfgs 0).N (ix2 R j)
      = onRows (fun r l => upK ((m ((c : Thread nD τ).loc main_arg0) : S16400x2816.Idx → EReal) (ix2 r l))
          (prod (m ((c : Thread nD τ).loc main_arg2)) (m ((c : Thread nD τ).loc main_arg3)) (m ((c : Thread nD τ).loc main_arg4)) r l)) R j := by
  refine (congrFun (final_u m c) (ix2 R j)).trans ?_
  refine (congr (congrArg upK (entry_d m c R j)) (entry_gate m c R j)).trans ?_
  by_cases h : 112 ≤ R.val
  · simp only [onRows_pos _ h]; rfl
  · simp only [onRows_neg _ h, upK_zero]

/-- The gradient of the rows at an index. -/
theorem res_x (c : Dev nD) (R : Fin 16512) (j : Fin 1024) :
    (dats m 0 c).arrAt 8 (cfgs 0).N (ix2 R j)
      = onRows (seqX (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))) R j := by
  refine (congrFun (final_x m c) (ix2 R j)).trans ?_
  refine (congrFun (congr (congr (congr (congrArg (rowGrad R) (entry_dh m c R j)) (rows_h m c R))
    (funext fun k => congrFun (entry_g m c) (ix2 0 k))) (back_at m c R)) j).trans ?_
  unfold rowGrad
  by_cases h : 112 ≤ R.val
  · simp only [onRows_row_pos _ h, onRows_pos _ h, if_pos h]; rfl
  · simp only [onRows_neg _ h, if_neg h, add_zero]

/-- The sum over the padded rows is the sum over the sequence's. -/
theorem gain_sum (c : Dev nD) (j : Fin 1024) :
    (∑ R : Fin 16512, gainRow (fun k => V m c main_v20 (ix2 R k))
      (backRow (V m c main_v15) (V m c main_v17) (V m c main_v19) (V m c main_v23) (V m c main_v25) R) j : EReal)
      = seqGain (m ((c : Thread nD τ).loc main_arg0)) (m ((c : Thread nD τ).loc main_arg2)) (m ((c : Thread nD τ).loc main_arg3))
          (m ((c : Thread nD τ).loc main_arg4)) (m ((c : Thread nD τ).loc main_arg5)) j := by
  refine Eq.trans (Finset.sum_congr rfl fun R _ => ?_) (sum_onRows _)
  refine (congrFun (congr (congrArg gainRow (rows_h m c R)) (back_at m c R)) j).trans ?_
  by_cases h : 112 ≤ R.val
  · simp only [onRows_row_pos _ h, if_pos h]
  · simp only [onRows_row_neg _ h, if_neg h, gainRow, zero_mul]

/-- The gradient of the gain at an index. -/
theorem res_d (c : Dev nD) (i : Fin 1) (j : Fin 1024) :
    (dats m 0 c).arrAt 11 (cfgs 0).N (ix2 i j)
      = seqGain (m ((c : Thread nD τ).loc main_arg0)) (m ((c : Thread nD τ).loc main_arg2)) (m ((c : Thread nD τ).loc main_arg3))
          (m ((c : Thread nD τ).loc main_arg4)) (m ((c : Thread nD τ).loc main_arg5)) j :=
  (congrFun (final_d m c) (ix2 i j)).trans (gain_sum m c j)

end Cert.FfnInIdeal.Entry

namespace Cert.FfnInRefIdeal.Entry

open Idealize.ShloMosaic
open Cert.FfnInRefIdeal Cert.FfnInRefIdeal.Gen Cert.Rows Cert.Norm Cert.Scalars Cert.NormGrad
open Cert.FfnInIdeal.Entry (prod seqBack seqX seqGain rowBack back gainRow)

/-- The reference's mean square. -/
def refM (H : FVec Ideal S16400x1024 .f32) : FVec Ideal S16400x1 .f32 :=
  addf (Host.divf (broadcastInDim S16400x1 ![0] bcast_S16400_S16400x1_0 (Host.reduceAdd (mulf H H) (constant S_ .f32 0x00000000#32) reducesTo_S16400x1024_S16400_d1 h_S_)) (broadcastInDim S16400x1 ![] bcast_S_S16400x1 (constant S_ .f32 0x44800000#32))) (broadcastInDim S16400x1 ![] bcast_S_S16400x1 (constant S_ .f32 0x358637BD#32))

/-- The reference's norm without the gain. -/
def refS (H : FVec Ideal S16400x1024 .f32) : FVec Ideal S16400x1024 .f32 :=
  broadcastInDim S16400x1024 ![0, 1] bcast_S16400x1_S16400x1024_0_1 (Host.rsqrt (refM H))

/-- The gain on every row. -/
def refB (g : FVec Ideal S1x1024 .f32) : FVec Ideal S16400x1024 .f32 := broadcastInDim S16400x1024 ![0, 1] bcast_S1x1024_S16400x1024_0_1 g

/-- The reference's product. -/
def refP (H : FVec Ideal S16400x1024 .f32) (g : FVec Ideal S1x1024 .f32) (w : FVec Ideal S1024x2816 .f32) : FVec Ideal S16400x2816 .f32 :=
  Host.dotGeneral dot_S16400x1024_S1024x2816_S16400x2816_1_0_0_1_n_n none (mulf (mulf H (refS H)) (refB g)) w

/-- The reference's logistic function. -/
def refL (G : FVec Ideal S16400x2816 .f32) : FVec Ideal S16400x2816 .f32 :=
  Host.divf (broadcastInDim S16400x2816 ![] bcast_S_S16400x2816 (constant S_ .f32 0x3F800000#32)) (addf (broadcastInDim S16400x2816 ![] bcast_S_S16400x2816 (constant S_ .f32 0x3F800000#32)) (Host.exp (Host.negf G)))

/-- The reference's gradient of the first product. -/
def refG (D G U : FVec Ideal S16400x2816 .f32) : FVec Ideal S16400x2816 .f32 :=
  addf (mulf (mulf D U) (refL G)) (mulf (mulf G (mulf D U)) (mulf (refL G) (subf (broadcastInDim S16400x2816 ![] bcast_S_S16400x2816 (constant S_ .f32 0x3F800000#32)) (refL G))))

/-- The reference's gradient of the second product. -/
def refU (D G : FVec Ideal S16400x2816 .f32) : FVec Ideal S16400x2816 .f32 := mulf (mulf G (refL G)) D

/-- The reference's gradient of the normed rows. -/
def refN (A B : FVec Ideal S16400x2816 .f32) (w w' : FVec Ideal S1024x2816 .f32) : FVec Ideal S16400x1024 .f32 :=
  addf (Host.dotGeneral dot_S16400x2816_S1024x2816_S16400x1024_1_1_0_0_n_n none A w) (Host.dotGeneral dot_S16400x2816_S1024x2816_S16400x1024_1_1_0_0_n_n none B w')

/-- The reference's coefficient of a row. -/
def refC (H N : FVec Ideal S16400x1024 .f32) (g : FVec Ideal S1x1024 .f32) : FVec Ideal S16400x1024 .f32 :=
  broadcastInDim S16400x1024 ![0] bcast_S16400_S16400x1024_0 (Host.reduceAdd (Host.divf (mulf (shapeCast _ (Host.reduceAdd (mulf H (mulf N (refB g))) (constant S_ .f32 0x00000000#32) reducesTo_S16400x1024_S16400_d1 h_S_) shapeCasts_S16400_S16400x1) (mulf (broadcastInDim S16400x1 ![] bcast_S_S16400x1 (constant S_ .f32 0xBF000000#32)) (Host.divf (Host.rsqrt (refM H)) (refM H)))) (broadcastInDim S16400x1 ![] bcast_S_S16400x1 (constant S_ .f32 0x44800000#32))) (constant S_ .f32 0x00000000#32) reducesTo_S16400x1_S16400_d1 h_S_)

/-- The reference's gradient of the rows. -/
def refX (Y H N : FVec Ideal S16400x1024 .f32) (g : FVec Ideal S1x1024 .f32) : FVec Ideal S16400x1024 .f32 :=
  addf Y (addf (addf (mulf (mulf N (refB g)) (refS H)) (mulf H (refC H N g))) (mulf (refC H N g) H))

/-- The reference's gradient of the gain. -/
def refD (H N : FVec Ideal S16400x1024 .f32) : FVec Ideal S1x1024 .f32 :=
  shapeCast _ (Host.reduceAdd (mulf (mulf H (refS H)) N) (constant S_ .f32 0x00000000#32) reducesTo_S16400x1024_S1024_d0 h_S_) shapeCasts_S1024_S1x1024

theorem refM_at (H : FVec Ideal S16400x1024 .f32) (r : Fin 16400) (j : Fin 1) : refM H (ix2 r j) = meanSq (fun k => H (ix2 r k)) := by
  pointwise [refM, meanSq]

theorem refS_at (H : FVec Ideal S16400x1024 .f32) (r : Fin 16400) (j : Fin 1024) : refS H (ix2 r j) = scale (fun k => H (ix2 r k)) := by
  pointwise [refS, refM, scale]

theorem refB_at (g : FVec Ideal S1x1024 .f32) (r : Fin 16400) (j : Fin 1024) : refB g (ix2 r j) = g (ix2 0 j) := by
  pointwise [refB]

theorem refP_at (H : FVec Ideal S16400x1024 .f32) (g : FVec Ideal S1x1024 .f32) (w : FVec Ideal S1024x2816 .f32) (r : Fin 16400) (j : Fin 2816) :
    refP H g w (ix2 r j) = prod H g w r j := by
  pointwise [refP, prod, through, normed, refS_at, refB_at]

theorem refL_at (G : FVec Ideal S16400x2816 .f32) (r : Fin 16400) (j : Fin 2816) : refL G (ix2 r j) = Ideal.logistic (G (ix2 r j)) := by
  pointwise [refL]
  rw [← EReal.coe_one, ← ofBits_one, reference_sigmoid]

theorem refG_at (D G U : FVec Ideal S16400x2816 .f32) (r : Fin 16400) (j : Fin 2816) :
    refG D G U (ix2 r j) = gateR (D (ix2 r j)) (G (ix2 r j)) (U (ix2 r j)) := by
  unfold gateR
  rw [add_comm, EReal.coe_one]
  pointwise [refG, refL_at]

theorem refU_at (D G : FVec Ideal S16400x2816 .f32) (r : Fin 16400) (j : Fin 2816) :
    refU D G (ix2 r j) = upK (D (ix2 r j)) (G (ix2 r j)) := by
  unfold upK
  rw [mul_comm]
  pointwise [refU, refL_at]

theorem refN_at (A B : FVec Ideal S16400x2816 .f32) (w w' : FVec Ideal S1024x2816 .f32) (r : Fin 16400) (j : Fin 1024) :
    refN A B w w' (ix2 r j) = back (fun k => A (ix2 r k)) (fun k => B (ix2 r k)) (fun k => w (ix2 j k)) (fun k => w' (ix2 j k)) := by
  pointwise [refN, back]

theorem refC_at (H N : FVec Ideal S16400x1024 .f32) (g : FVec Ideal S1x1024 .f32) (r : Fin 16400) (j : Fin 1024) :
    refC H N g (ix2 r j) = coef (fun k => H (ix2 r k)) (fun k => g (ix2 0 k)) (fun k => N (ix2 r k)) := by
  pointwise [refC, refM_at, refB_at, coef, scale, meanSq]
  rw [Fin.sum_univ_one]

theorem refX_at (Y H N : FVec Ideal S16400x1024 .f32) (g : FVec Ideal S1x1024 .f32) (r : Fin 16400) (j : Fin 1024) :
    refX Y H N g (ix2 r j) = Y (ix2 r j) + gradR (fun k => H (ix2 r k)) (fun k => g (ix2 0 k)) (fun k => N (ix2 r k)) j := by
  pointwise [refX, refC_at, refB_at, refS_at, gradR]

theorem refD_at (H N : FVec Ideal S16400x1024 .f32) (i : Fin 1) (j : Fin 1024) :
    refD H N (ix2 i j) = ∑ r : Fin 16400, H (ix2 r j) * scale (fun k => H (ix2 r k)) * N (ix2 r j) := by
  pointwise [refD, refS_at]

/-- The padding at an index. -/
theorem pad_rows {n : ℕ} (x : FVec Ideal ⟨2, ![16400, n]⟩ .f32) (h : (⟨2, ![16400, n]⟩ : Shape).Pads ![112, 0] ![0, 0] ![0, 0] ⟨2, ![16512, n]⟩)
    (f : Fin 16400 → Fin n → EReal) (hf : ∀ r l, x (ix2 r l) = f r l) (R : Fin 16512) (j : Fin n) :
    pad ⟨2, ![16512, n]⟩ ![112, 0] ![0, 0] ![0, 0] x (sitofp (F := Ideal) .f32 (constantI S_ 32 0#32)) h h_S_ (ix2 R j) = onRows f R j :=
  (pad_at x h h_S_ R j).trans (congrArg (fun X => onRows X R j) (funext fun r => funext fun l => hf r l))

/-! ## On bounded arguments -/

section
variable (D : FVec Ideal S16400x2816 .f32) (Y H : FVec Ideal S16400x1024 .f32) (g : FVec Ideal S1x1024 .f32) (w w' : FVec Ideal S1024x2816 .f32)
  (hD : ∀ i, IsReal (D i)) (hH : ∀ i, IsReal (H i)) (hg : ∀ i, IsReal (g i)) (hw : ∀ i, IsReal (w i)) (hw' : ∀ i, IsReal (w' i))
include hH hg

theorem prod_real (v : FVec Ideal S1024x2816 .f32) (hv : ∀ i, IsReal (v i)) (r : Fin 16400) (l : Fin 2816) : IsReal (prod H g v r l) :=
  through_real (fun _ => hH _) (fun _ => hg _) (fun _ => hv _)

include hD hw hw'

theorem whole_g (r : Fin 16400) (l : Fin 2816) :
    refG D (refP H g w) (refP H g w') (ix2 r l) = gateK (D (ix2 r l)) (prod H g w r l) (prod H g w' r l) := by
  rw [refG_at, refP_at, refP_at]
  exact (gate_eq (hD _) (prod_real H g hH hg w hw r l) (prod_real H g hH hg w' hw' r l)).symm

theorem whole_n (r : Fin 16400) (l : Fin 1024) :
    refN (refG D (refP H g w) (refP H g w')) (refU D (refP H g w)) w w' (ix2 r l) = seqBack D H g w w' r l := by
  rw [refN_at]
  refine congrFun (congrFun (congr (congrArg back (funext fun k => whole_g D H g w w' hD hH hg hw hw' r k)) (funext fun k => ?_)) _) _
  rw [refU_at, refP_at]

theorem back_real (r : Fin 16400) (l : Fin 1024) : IsReal (seqBack D H g w w' r l) := by
  refine IsReal.add (IsReal.sum _ fun k => ?_) (IsReal.sum _ fun k => ?_)
  · refine IsReal.mul ?_ (hw _)
    show IsReal (gateK (D (ix2 r k)) (prod H g w r k) (prod H g w' r k))
    rw [gate_eq (hD _) (prod_real H g hH hg w hw r k) (prod_real H g hH hg w' hw' r k)]
    exact gateR_real (hD _) (prod_real H g hH hg w hw r k) (prod_real H g hH hg w' hw' r k)
  · exact IsReal.mul (upK_real (hD _) (prod_real H g hH hg w hw r k)) (hw' _)

theorem whole_x (r : Fin 16400) (l : Fin 1024) :
    refX Y H (refN (refG D (refP H g w) (refP H g w')) (refU D (refP H g w)) w w') g (ix2 r l)
      = seqX D Y H g w w' r l := by
  rw [refX_at]
  refine congrArg (fun x : EReal => Y (ix2 r l) + x) ?_
  rw [show (fun k => refN (refG D (refP H g w) (refP H g w')) (refU D (refP H g w)) w w' (ix2 r k)) = seqBack D H g w w' r from
    funext fun k => whole_n D H g w w' hD hH hg hw hw' r k]
  exact (grad_eq (fun _ => hH _) (fun _ => hg _) (back_real D H g w w' hD hH hg hw hw' r) l).symm

theorem whole_d (i : Fin 1) (j : Fin 1024) :
    refD H (refN (refG D (refP H g w) (refP H g w')) (refU D (refP H g w)) w w') (ix2 i j)
      = seqGain D H g w w' j := by
  rw [refD_at]
  refine Finset.sum_congr rfl fun r _ => ?_
  rw [whole_n D H g w w' hD hH hg hw hw' r j]
  exact mul_comm _ _

end

end Cert.FfnInRefIdeal.Entry

namespace Cert

open Idealize.ShloMosaic Idealize.ShloMosaic.TcCoe Idealize.SL.Sem

/-- What the precondition says of the entries: they are reals. -/
theorem ffn_reals [Cert.Pre_ffn_finite.Facts] (D : FVec Ideal Pre_ffn_finite.S16400x2816 .f32) (Y H : FVec Ideal Pre_ffn_finite.S16400x1024 .f32)
    (g : FVec Ideal Pre_ffn_finite.S1x1024 .f32) (w w' : FVec Ideal Pre_ffn_finite.S1024x2816 .f32)
    (e : Pre_ffn_finite.fn (F := Ideal) D Y H g w w' = fun _ => 1#1) :
    (∀ i, Scalars.IsReal (D i)) ∧ (∀ i, Scalars.IsReal (H i)) ∧ (∀ i, Scalars.IsReal (g i)) ∧ (∀ i, Scalars.IsReal (w i))
      ∧ ∀ i, Scalars.IsReal (w' i) := by
  have e0 := congrFun e (fun a => a.elim0)
  unfold Pre_ffn_finite.fn Pre_ffn_finite.fn_part1 at e0
  obtain ⟨e1, h5⟩ := IntOp.andi_eq_one.mp e0
  obtain ⟨e2, h4⟩ := IntOp.andi_eq_one.mp e1
  obtain ⟨e3, h3⟩ := IntOp.andi_eq_one.mp e2
  obtain ⟨h1, h2⟩ := IntOp.andi_eq_one.mp e3
  exact ⟨NormGrad.real_of_bounded _ _ _ _ _ _ h1, NormGrad.real_of_bounded _ _ _ _ _ _ h2, NormGrad.real_of_bounded _ _ _ _ _ _ h3,
    NormGrad.real_of_bounded _ _ _ _ _ _ h4, NormGrad.real_of_bounded _ _ _ _ _ _ h5⟩

set_option maxHeartbeats 2000000 in
/-- The call and its reference return the same arrays, on bounded arguments. -/
theorem bwd_in_algebraic [Cert.Pre_ffn_finite.Facts] : Cert.algebraic_FfnInIdeal_FfnInRefIdeal_pre_ffn_finite := by
  intro m ρ m' ρ' hpre hagree
  refine ⟨_, _, _, _, Cert.FfnInIdeal.Value.run_blocks m ρ, ?_⟩
  refine (θ_run Cert.FfnInRefIdeal.defs _ _).mono (fun _ h c => ⟨(h c).1.trans ?_, (h c).2.1.trans ?_, (h c).2.2.1.trans ?_,
      (h c).2.2.2.1.trans ?_, (h c).2.2.2.2⟩)
    (Cert.FfnInRefIdeal.Value.run (F := Ideal) m' ρ')
  all_goals
    obtain ⟨h0, h1, h2, h3, h4, h5⟩ := hagree c
    obtain ⟨rD, rH, rg, rw0, rw1⟩ := ffn_reals _ _ _ _ _ _ (hpre c)
  · unfold Cert.FfnInRefIdeal.Value.res_main_v45
    rw [h0, h1, h2, h3, h4, h5]
    funext i
    rw [eq_ix2 i]
    exact (Cert.FfnInRefIdeal.Entry.pad_rows _ Cert.FfnInRefIdeal.Gen.pads_S16400x1024_S16512x1024_11200_000 _ (fun r l => Cert.FfnInRefIdeal.Entry.whole_x _ _ _ _ _ _ rD rH rg rw0 rw1 r l) _ _).trans
      (Cert.FfnInIdeal.Entry.res_x m c _ _).symm
  · unfold Cert.FfnInRefIdeal.Value.res_main_v47
    rw [h0, h2, h3, h4, h5]
    funext i
    rw [eq_ix2 i]
    exact (Cert.FfnInRefIdeal.Entry.pad_rows _ Cert.FfnInRefIdeal.Gen.pads_S16400x2816_S16512x2816_11200_000 _ (fun r l => Cert.FfnInRefIdeal.Entry.whole_g _ _ _ _ _ rD rH rg rw0 rw1 r l) _ _).trans
      (Cert.FfnInIdeal.Entry.res_g m c _ _).symm
  · rw [h0, h2, h3, h4]
    funext i
    rw [eq_ix2 i]
    exact (Cert.FfnInRefIdeal.Entry.pad_rows _ Cert.FfnInRefIdeal.Gen.pads_S16400x2816_S16512x2816_11200_000 _ (fun r l => (Cert.FfnInRefIdeal.Entry.refU_at _ (Cert.FfnInRefIdeal.Entry.refP _ _ _) r l).trans
      (congrArg _ (Cert.FfnInRefIdeal.Entry.refP_at _ _ _ r l))) _ _).trans (Cert.FfnInIdeal.Entry.res_u m c _ _).symm
  · unfold Cert.FfnInRefIdeal.Value.res_main_v27
    rw [h0, h2, h3, h4, h5]
    funext i
    rw [eq_ix2 i]
    exact (Cert.FfnInRefIdeal.Entry.whole_d _ _ _ _ _ rD rH rg rw0 rw1 _ _).trans (Cert.FfnInIdeal.Entry.res_d m c _ _).symm

end Cert
-- ==== Proof.Act.lean ====
/- The backward call that multiplies half of the cotangent by the transposed down projection, with its own ring of row copies. -/
module

public import proofs.«01_k».proof.Proof.Gen.FfnActIdeal.Value
public import proofs.«01_k».proof.Proof.Gen.FfnActRefIdeal.Run
public import proofs.«01_k».proof.Defs
public import Idealize.ShloMosaic.Lib.VecWindow
public import proofs.«01_k».proof.Proof.Scalars
public import proofs.«01_k».proof.Proof.Rows

@[expose] public section

set_option maxRecDepth 16384

noncomputable section

namespace Cert.FfnActIdeal.Entry

open Idealize.ShloMosaic Idealize.ShloMosaic.TcCoe Idealize.SL.Sem
open Cert.FfnActIdeal Cert.FfnActIdeal.Gen Cert.Rows

variable (m : (ℓ : Loc nD τ sig) → Buf (Elt Ideal) ℓ)
theorem idx : ∀ t : Fin cfg0.N, win0_0.index t = ![0, 0] ∧ win0_1.index t = ![t.val, 0] ∧ win0_2.index t = ![t.val, 0]
     := (by decide +kernel : ∀ t : Fin grid0.N, _)
/-- A load of a slot of the ring is a read of the slot's own view, shape-cast. -/
theorem slot_load (s : Fin 3) (off : Fin 3 → Nat) (inb) (e : off = ![s.val, 0, 0]) (g : (rslot0_0 s).view.ty.Contents (Elt Ideal)) :
    (shapeCast S688x1024 (View.readAt (Elt Ideal) (View.whole cc0_scratch0) (Rect.unit (s := S3x688x1024) off S1x688x1024.size inb).toLoadRect g : Vec Ideal S1x688x1024 .f32)
      shapeCasts_S1x688x1024_S688x1024 : FVec Ideal S688x1024 .f32) = (rslot0_0 s).view.read (Elt Ideal) g := by
  subst e
  rfl

/-- A load of the ring's slot at a point, shape-cast, is what a transfer landed in that slot. -/
theorem slot_read (t : Fin cfg0.N) (P : Vec Ideal S688x1024 .f32) (inb) (f) :
    (shapeCast S688x1024 (View.readAt (Elt Ideal) (View.whole cc0_scratch0) (Rect.unit (s := S3x688x1024) (k0_off7 (grid0.coords t)) S1x688x1024.size inb).toLoadRect
      ((rslot0_0 (Fin.ofNat 3 t)).view.writes (Elt Ideal) f [⟨Rect.whole S688x1024, P⟩]) : Vec Ideal S1x688x1024 .f32) shapeCasts_S1x688x1024_S688x1024 : FVec Ideal S688x1024 .f32) = P :=
  (slot_load (Fin.ofNat 3 t) _ inb (coff0_0_13 t) _).trans (View.read_writes_full (rslot0_0 (Fin.ofNat 3 t)).view f (off := fun _ => 0) (fun _ => by simp) P [])

theorem row_lt (t : Fin cfg0.N) (a : Fin 688) : 688 * t.val + a.val < 16512 := by
  have := lt_of_lt_of_eq t.isLt N_0
  omega

/-- What the transfer of a block of rows reads. -/
theorem src_at (t : Fin cfg0.N) (H : FVec Ideal S16512x1024 .f32) (a : Fin 688) (k : Fin 1024) (R : Fin 16512) (hR : R.val = 688 * t.val + a.val) :
    ((srcB0_0 (Ring.bk 24 t)).view.read (Elt Ideal) H : Vec Ideal S688x1024 .f32) (ix2 a k) = H (ix2 R k) := by
  show (H _ : EReal) = H _
  refine congrArg H ?_
  have hb : (Ring.bk 24 t.val : ℕ) = t.val := Nat.mod_eq_of_lt (lt_of_lt_of_eq t.isLt N_0)
  refine funext fun q => Fin.ext ?_
  match q with
  | ⟨0, _⟩ => show 688 * (Ring.bk 24 t.val : ℕ) + 1 * a.val = R.val; omega
  | ⟨1, _⟩ => show 0 + 1 * k.val = k.val; omega

/-- Half of the cotangent. -/
def half (H : FVec Ideal S16512x1024 .f32) : FVec Ideal S16512x1024 .bf16 :=
  fun i => Ideal.ofBits .f32 0x3F000000#32 * H i

/-- Its product with the transposed weights. -/
def outA (H : FVec Ideal S16512x1024 .f32) (W : FVec Ideal S2816x1024 .bf16) : FVec Ideal S16512x2816 .bf16 :=
  fun i => ∑ k : Fin 1024, Ideal.ofBits .f32 0x3F000000#32 * H (ix2 (i 0) k) * W (ix2 (i 1) k)

/-- What the body stores of half of the cotangent. -/
theorem point2 (t : Fin cfg0.N) (v : Vec Ideal S1x688x1024 .f32) (H : FVec Ideal S16512x1024 .f32)
    (hv : (shapeCast S688x1024 v shapeCasts_S1x688x1024_S688x1024 : FVec Ideal S688x1024 .f32) = (srcB0_0 (Ring.bk 24 t)).view.read (Elt Ideal) H) (y) :
    k0_pay1 v y = half H (((cfg0.win 2).blk t).view.emb y) := by
  show Ideal.ofBits .f32 0x3F000000#32 * (shapeCast S688x1024 v shapeCasts_S1x688x1024_S688x1024 : FVec Ideal S688x1024 .f32) y = _
  rw [hv, eq_ix2 y]
  refine congrArg (fun x => Ideal.ofBits .f32 0x3F000000#32 * x) ((src_at t H _ _ ⟨688 * t.val + (y 0).val, row_lt t (y 0)⟩ rfl).trans ?_)
  blk_ext [idx t]

/-- The product the body stores, from the half it stores. -/
theorem product (v : Vec Ideal S1x688x1024 .f32) (w : FVec Ideal S2816x1024 .bf16) (a : Fin 688) (j : Fin 2816) :
    k0_pay2 v w (ix2 a j) = ∑ k : Fin 1024, k0_pay1 (F := Ideal) v (ix2 a k) * w (ix2 j k) := by
  unfold k0_pay2
  generalize k0_pay1 (F := Ideal) v = q
  pointwise

/-- What the body stores of the product. -/
theorem point1 (c : Dev nD) (t : Fin cfg0.N) (v : Vec Ideal S1x688x1024 .f32) (H : FVec Ideal S16512x1024 .f32)
    (hv : (shapeCast S688x1024 v shapeCasts_S1x688x1024_S688x1024 : FVec Ideal S688x1024 .f32) = (srcB0_0 (Ring.bk 24 t)).view.read (Elt Ideal) H) (y) :
    k0_pay2 v (iblk m c 0 t) y = outA H (V m c main_v1) (((cfg0.win 1).blk t).view.emb y) := by
  rw [eq_ix2 y]
  refine (product v _ _ _).trans ?_
  refine Finset.sum_congr rfl fun k _ => ?_
  refine congr (congrArg HMul.hMul ?_) ?_
  · refine (point2 t v H hv (ix2 (y 0) k)).trans ?_
    unfold half
    refine congrArg (fun x => Ideal.ofBits .f32 0x3F000000#32 * H x) ?_
    blk_ext [idx t]
  · blk_ext [iblk, idx t]

/-- The product's array after the run. -/
theorem final1 (c : Dev nD) : (dats m 0 c).arrAt 1 (cfgs 0).N = outA (V m c main_v0) (V m c main_v1) := by
  refine (dats m 0 c).arrAt_eq_of_covers 1 _ (by decide +kernel) fun t _ y => ?_
  blk_simp
  rw [after0_1]
  by_cases h0 : t.val % 24 = 0
  · by_cases h1 : t.val < 22
    · rw [outsAt0_A m c t h0 h1]
      frame_out
      exact point1 m c t _ _ (slot_read t _ _ _) y
    · exact absurd h1 (by have := lt_of_lt_of_eq t.isLt N_0; omega)
  · by_cases h1 : t.val < 22
    · rw [outsAt0_B m c t h0 h1]
      frame_out
      exact point1 m c t _ _ (slot_read t _ _ _) y
    · rw [outsAt0_C m c t h0 h1]
      frame_out
      exact point1 m c t _ _ (slot_read t _ _ _) y

/-- The result array after the run. -/
theorem final2 (c : Dev nD) : (dats m 0 c).arrAt 2 (cfgs 0).N = half (V m c main_v0) := by
  refine (dats m 0 c).arrAt_eq_of_covers 2 _ (by decide +kernel) fun t _ y => ?_
  blk_simp
  rw [after0_2]
  by_cases h0 : t.val % 24 = 0
  · by_cases h1 : t.val < 22
    · rw [outsAt0_A m c t h0 h1]
      frame_out
      exact point2 t _ _ (slot_read t _ _ _) y
    · exact absurd h1 (by have := lt_of_lt_of_eq t.isLt N_0; omega)
  · by_cases h1 : t.val < 22
    · rw [outsAt0_B m c t h0 h1]
      frame_out
      exact point2 t _ _ (slot_read t _ _ _) y
    · rw [outsAt0_C m c t h0 h1]
      frame_out
      exact point2 t _ _ (slot_read t _ _ _) y

/-- The padded cotangent the call reads. -/
theorem entry_ct (c : Dev nD) (R : Fin 16512) (k : Fin 1024) :
    V m c main_v0 (ix2 R k) = onRows (fun r l => (m ((c : Thread nD τ).loc main_arg2) : S16400x1024.Idx → EReal) (ix2 r l)) R k := by
  have e : (V m c main_v0 : FVec Ideal S16512x1024 .f32) = pad S16512x1024 ![112, 0] ![0, 0] ![0, 0]
      (m ((c : Thread nD τ).loc main_arg2) : FVec Ideal S16400x1024 .f32) (sitofp (F := Ideal) .f32 (constantI S_ 32 0#32))
      pads_S16400x1024_S16512x1024_11200_000 h_S_ := by
    simp only [V, hostOps0, hostOps0_1, hostOps0_2, List.flatten_cons, List.flatten_nil, List.append_nil,
      List.cons_append, List.nil_append, StableHlo.TRef.unary, StableHlo.TRef.binary, StableHlo.TRef.toBuf, StableHlo.TRef.ofBuf, cast_eq]
    after_results
  exact (congrFun e (ix2 R k)).trans (pad_at _ pads_S16400x1024_S16512x1024_11200_000 h_S_ R k)

/-- The weights the call reads. -/
theorem entry_w (c : Dev nD) (k : Fin 2816) (j : Fin 1024) :
    V m c main_v1 (ix2 k j) = (m ((c : Thread nD τ).loc main_arg1) : S2816x1024.Idx → EReal) (ix2 k j) := by
  have e : (V m c main_v1 : FVec Ideal S2816x1024 .bf16) = truncf (F := Ideal) .bf16
      (m ((c : Thread nD τ).loc main_arg1) : FVec Ideal S2816x1024 .f32) bitsLt_bf16_f32 := by
    simp only [V, hostOps0, hostOps0_1, hostOps0_2, List.flatten_cons, List.flatten_nil, List.append_nil,
      List.cons_append, List.nil_append, StableHlo.TRef.unary, StableHlo.TRef.binary, StableHlo.TRef.toBuf, StableHlo.TRef.ofBuf, cast_eq]
    after_results
  exact congrFun e (ix2 k j)

/-- Half of the cotangent at an index, from the arguments. -/
theorem final2_at (c : Dev nD) (R : Fin 16512) (j : Fin 1024) :
    (dats m 0 c).arrAt 2 (cfgs 0).N (ix2 R j)
      = onRows (fun r l => Ideal.ofBits .f32 0x3F000000#32 * (m ((c : Thread nD τ).loc main_arg2) : S16400x1024.Idx → EReal) (ix2 r l)) R j := by
  refine (congrFun (final2 m c) (ix2 R j)).trans ?_
  refine (congrArg (fun x => Ideal.ofBits .f32 0x3F000000#32 * x) (entry_ct m c R j)).trans ?_
  by_cases h : 112 ≤ R.val
  · simp only [onRows_row_pos _ h]
  · simp only [onRows_neg _ h, mul_zero]

/-- The product at an index, from the arguments. -/
theorem final1_at (c : Dev nD) (R : Fin 16512) (j : Fin 2816) :
    (dats m 0 c).arrAt 1 (cfgs 0).N (ix2 R j)
      = onRows (fun r l => ∑ k : Fin 1024, Ideal.ofBits .f32 0x3F000000#32 * (m ((c : Thread nD τ).loc main_arg2) : S16400x1024.Idx → EReal) (ix2 r k)
          * (m ((c : Thread nD τ).loc main_arg1) : S2816x1024.Idx → EReal) (ix2 l k)) R j := by
  refine (congrFun (final1 m c) (ix2 R j)).trans ?_
  show (∑ k : Fin 1024, Ideal.ofBits .f32 0x3F000000#32 * (V m c main_v0 (ix2 R k) : EReal) * (V m c main_v1 (ix2 j k) : EReal) : EReal) = _
  refine (Finset.sum_congr rfl fun k _ => congr (congrArg HMul.hMul (congrArg (fun x => Ideal.ofBits .f32 0x3F000000#32 * x) (entry_ct m c R k)))
    (entry_w m c j k)).trans ?_
  by_cases h : 112 ≤ R.val
  · simp only [onRows_row_pos _ h]
  · simp only [onRows_neg _ h, mul_zero, zero_mul, Finset.sum_const_zero]

end Cert.FfnActIdeal.Entry

namespace Cert.FfnActRefIdeal.Entry

open Idealize.ShloMosaic
open Cert.FfnActRefIdeal Cert.FfnActRefIdeal.Gen Cert.Rows

/-- The reference's half of the cotangent at an index. -/
theorem half_at (C : FVec Ideal S16400x1024 .f32) (R : Fin 16512) (j : Fin 1024) :
    pad S16512x1024 ![112, 0] ![0, 0] ![0, 0] (mulf (broadcastInDim S16400x1024 ![] bcast_S_S16400x1024 (constant S_ .f32 0x3F000000#32)) C)
        (sitofp .f32 (constantI S_ 32 0#32)) pads_S16400x1024_S16512x1024_11200_000 h_S_ (ix2 R j)
      = onRows (fun r l => Ideal.ofBits .f32 0x3F000000#32 * C (ix2 r l)) R j := by
  refine (pad_at _ pads_S16400x1024_S16512x1024_11200_000 h_S_ R j).trans ?_
  refine congrArg (fun X => onRows X R j) ?_
  funext r l
  pointwise

/-- The reference's product at an index. -/
theorem product_at (C : FVec Ideal S16400x1024 .f32) (W : FVec Ideal S2816x1024 .f32) (R : Fin 16512) (j : Fin 2816) :
    pad S16512x2816 ![112, 0] ![0, 0] ![0, 0] (Host.dotGeneral dot_S16400x1024_S2816x1024_S16400x2816_1_1_0_0_n_n none
        (mulf (broadcastInDim S16400x1024 ![] bcast_S_S16400x1024 (constant S_ .f32 0x3F000000#32)) C) W)
        (sitofp .f32 (constantI S_ 32 0#32)) pads_S16400x2816_S16512x2816_11200_000 h_S_ (ix2 R j)
      = onRows (fun r l => ∑ k : Fin 1024, Ideal.ofBits .f32 0x3F000000#32 * C (ix2 r k) * W (ix2 l k)) R j := by
  refine (pad_at _ pads_S16400x2816_S16512x2816_11200_000 h_S_ R j).trans ?_
  refine congrArg (fun X => onRows X R j) ?_
  funext r l
  pointwise

end Cert.FfnActRefIdeal.Entry

namespace Cert

open Idealize.ShloMosaic Idealize.ShloMosaic.TcCoe Idealize.SL.Sem

/-- The call and its reference return the same arrays. -/
theorem act_algebraic : Cert.algebraic_FfnActIdeal_FfnActRefIdeal := by
  intro m ρ m' ρ' _ hagree
  refine ⟨_, _, Cert.FfnActIdeal.Value.run_blocks m ρ, ?_⟩
  refine (θ_run Cert.FfnActRefIdeal.defs _ _).mono (fun _ h c => ⟨(h c).1.trans ?_, (h c).2.1.trans ?_, (h c).2.2⟩)
    (Cert.FfnActRefIdeal.Value.run (F := Ideal) m' ρ')
  all_goals obtain ⟨h0, h1, h2⟩ := hagree c
  · rw [h1, h2]
    funext i
    rw [eq_ix2 i]
    exact (Cert.FfnActRefIdeal.Entry.product_at _ _ _ _).trans (Cert.FfnActIdeal.Entry.final1_at m c _ _).symm
  · rw [h2]
    funext i
    rw [eq_ix2 i]
    exact (Cert.FfnActRefIdeal.Entry.half_at _ _ _).trans (Cert.FfnActIdeal.Entry.final2_at m c _ _).symm

end Cert
-- ==== Proof.Dw.lean ====
/- The backward call that accumulates the transposed product of two row arrays: a weight's gradient. -/
module

public import proofs.«01_k».proof.Proof.Gen.FfnDwIdeal.Value
public import proofs.«01_k».proof.Proof.Gen.FfnDwRefIdeal.Run
public import proofs.«01_k».proof.Defs
public import proofs.«01_k».proof.Proof.Scalars
public import proofs.«01_k».proof.Proof.Rows

@[expose] public section

set_option maxRecDepth 16384

noncomputable section

namespace Cert.FfnDwIdeal.Entry

open Idealize.ShloMosaic Idealize.ShloMosaic.TcCoe Idealize.SL.Sem
open Cert.FfnDwIdeal Cert.FfnDwIdeal.Gen Cert.Rows Cert.Scalars

variable (m : (ℓ : Loc nD τ sig) → Buf (Elt Ideal) ℓ)

/-- The padded activations the call reads. -/
theorem entry_a (c : Dev nD) (R : Fin 16512) (k : Fin 2816) :
    V m c main_v1 (ix2 R k) = onRows (fun r l => (m ((c : Thread nD τ).loc main_arg0) : S16400x2816.Idx → EReal) (ix2 r l)) R k := by
  have e : (V m c main_v1 : FVec Ideal S16512x2816 .bf16) = truncf (F := Ideal) .bf16 (pad S16512x2816 ![112, 0] ![0, 0] ![0, 0]
      (m ((c : Thread nD τ).loc main_arg0) : FVec Ideal S16400x2816 .f32) (sitofp (F := Ideal) .f32 (constantI S_ 32 0#32))
      pads_S16400x2816_S16512x2816_11200_000 h_S_) bitsLt_bf16_f32 := by
    simp only [V, hostOps0, hostOps0_1, hostOps0_2, hostOps0_3, hostOps0_4, List.flatten_cons, List.flatten_nil, List.append_nil,
      List.cons_append, List.nil_append, StableHlo.TRef.unary, StableHlo.TRef.binary, StableHlo.TRef.toBuf, StableHlo.TRef.ofBuf, cast_eq]
    after_results
  exact (congrFun e (ix2 R k)).trans (pad_at _ pads_S16400x2816_S16512x2816_11200_000 h_S_ R k)

/-- The padded cotangent the call reads. -/
theorem entry_ct (c : Dev nD) (R : Fin 16512) (k : Fin 1024) :
    V m c main_v3 (ix2 R k) = onRows (fun r l => (m ((c : Thread nD τ).loc main_arg2) : S16400x1024.Idx → EReal) (ix2 r l)) R k := by
  have e : (V m c main_v3 : FVec Ideal S16512x1024 .bf16) = truncf (F := Ideal) .bf16 (pad S16512x1024 ![112, 0] ![0, 0] ![0, 0]
      (m ((c : Thread nD τ).loc main_arg2) : FVec Ideal S16400x1024 .f32) (sitofp (F := Ideal) .f32 (constantI S_ 32 0#32))
      pads_S16400x1024_S16512x1024_11200_000 h_S_) bitsLt_bf16_f32 := by
    simp only [V, hostOps0, hostOps0_1, hostOps0_2, hostOps0_3, hostOps0_4, List.flatten_cons, List.flatten_nil, List.append_nil,
      List.cons_append, List.nil_append, StableHlo.TRef.unary, StableHlo.TRef.binary, StableHlo.TRef.toBuf, StableHlo.TRef.ofBuf, cast_eq]
    after_results
  exact (congrFun e (ix2 R k)).trans (pad_at _ pads_S16400x1024_S16512x1024_11200_000 h_S_ R k)

/-- The block of each window at a point. -/
theorem idx : ∀ t : Fin cfg0.N, win0_0.index t = ![t.val % 6, t.val / 6] ∧ win0_1.index t = ![t.val % 6, 0] ∧ win0_2.index t = ![t.val / 6, 0]
     := (by decide +kernel : ∀ t : Fin grid0.N, _)

/-- The product of a point's blocks. -/
theorem part_at (x : FVec Ideal S2752x1408 .bf16) (y : FVec Ideal S2752x1024 .bf16) (i : S1408x1024.Idx) :
    k0_pay2 (F := Ideal) x y i = ∑ k : Fin 2752, x (ix2 k (i 0)) * y (ix2 k (i 1)) := by
  pointwise [k0_pay2, k0_pay1]

/-- An accumulating store. -/
theorem step_at (x : FVec Ideal S2752x1408 .bf16) (y : FVec Ideal S2752x1024 .bf16) (acc : FVec Ideal S1408x1024 .f32) (i : S1408x1024.Idx) :
    k0_pay3 (F := Ideal) x y acc i = acc i + ∑ k : Fin 2752, x (ix2 k (i 0)) * y (ix2 k (i 1)) := by
  pointwise [k0_pay3, k0_pay1]

/-- The store of the last point of a run. -/
theorem last_at (x : FVec Ideal S2752x1408 .bf16) (y : FVec Ideal S2752x1024 .bf16) (acc : FVec Ideal S1408x1024 .f32) (i : S1408x1024.Idx) :
    k0_pay4 (F := Ideal) x y acc i = acc i + ∑ k : Fin 2752, x (ix2 k (i 0)) * y (ix2 k (i 1)) := by
  pointwise [k0_pay4, k0_pay1, ofBits_one]
  exact mul_one _

/-- The running sum: the scratch block, and at the last point of a run the stored block. -/
def running (c : Dev nD) (n : ℕ) (hn : n < cfg0.N) : S1408x1024.Idx → EReal :=
  if n % 6 = 5 then (outsAt0 m c n hn).1 else (outsAt0 m c n hn).2

/-- What a point adds. -/
def part (c : Dev nD) (t : Fin cfg0.N) : S1408x1024.Idx → EReal :=
  fun i => dot (n := 2752) (fun k => iblk m c 0 t (ix2 k (i 0))) (fun k => iblk m c 1 t (ix2 k (i 1)))

theorem running_reset (c : Dev nD) (t : Fin cfg0.N) (h : t.val % 6 = 0) (i) : running m c t.val t.isLt i = (0 : EReal) + part m c t i := by
  unfold running
  rw [if_neg (by omega), outsAt0_A m c t h (by omega) (by omega)]
  frame_out
  exact (part_at _ _ i).trans (zero_add _).symm

theorem running_step (c : Dev nD) (t : Fin cfg0.N) (h : ¬t.val % 6 = 0) (i) :
    running m c t.val t.isLt i = running m c (t.val - 1) (Nat.lt_of_le_of_lt (Nat.sub_le _ _) t.isLt) i + part m c t i := by
  unfold running
  rw [if_neg (c := (t.val - 1) % 6 = 5) (by omega)]
  by_cases h5 : t.val % 6 = 5
  · rw [if_pos h5, outsAt0_C m c t h (by omega) h5]
    frame_out
    refine (last_at _ _ _ i).trans ?_
    exact congrArg (fun x : EReal => x + part m c t i) (congrFun (Memref.IsWhole.read_unread (Memref.isWhole_whole cc0_scratch0) _) i)
  · rw [if_neg h5, outsAt0_B m c t h (by omega) h5]
    frame_out
    refine (step_at _ _ _ i).trans ?_
    exact congrArg (fun x : EReal => x + part m c t i) (congrFun (Memref.IsWhole.read_unread (Memref.isWhole_whole cc0_scratch0) _) i)

/-- The whole result, from the arrays the call reads. -/
def out (A : FVec Ideal S16512x2816 .bf16) (C : FVec Ideal S16512x1024 .bf16) : FVec Ideal S2816x1024 .bf16 :=
  fun i => dot (fun R => A (ix2 R (i 0))) (fun R => C (ix2 R (i 1)))

/-- The result array after the run. -/
theorem final (c : Dev nD) : (dats m 0 c).arrAt 2 (cfgs 0).N = out (V m c main_v1) (V m c main_v3) := by
  refine (dats m 0 c).arrAt_eq_of_covers 2 _ (by decide +kernel) fun t hf y => ?_
  blk_simp
  rw [after0_2]
  have hm : t.val % 6 = 5 := (flush0_2 t).mp hf
  have e : (outsAt0 m c t.val t.isLt).1 = running m c t.val t.isLt := by
    unfold running
    rw [if_pos hm]
  rw [e]
  rw [Pipeline.eq_sum_fin_of_reset_step_apply_of_flush (fun n h => running m c n h) 6 (fun _ => 0) (fun t => part m c t)
    (fun t h j => running_reset m c t h j) (fun t h j => running_step m c t h j) t hm _, zero_add]
  unfold part out dot
  refine Fin.sum_mul_add_congr fun s k hl => ?_
  refine congr (congrArg (fun x y : EReal => x * y) ?_) ?_
  · blk_ext [iblk, idx ⟨_, Pipeline.run_point_lt_of_flush t hm s⟩, idx t]
  · blk_ext [iblk, idx ⟨_, Pipeline.run_point_lt_of_flush t hm s⟩, idx t]

/-- The result at an index, from the arguments. -/
theorem final_at (c : Dev nD) (k : Fin 2816) (j : Fin 1024) :
    (dats m 0 c).arrAt 2 (cfgs 0).N (ix2 k j)
      = dot (fun r => (m ((c : Thread nD τ).loc main_arg2) : S16400x1024.Idx → EReal) (ix2 r j))
          (fun r => (m ((c : Thread nD τ).loc main_arg0) : S16400x2816.Idx → EReal) (ix2 r k)) := by
  refine (congrFun (final m c) (ix2 k j)).trans ?_
  refine (congr (congrArg dot (funext fun R => entry_a m c R k)) (funext fun R => entry_ct m c R j)).trans ?_
  exact dot_onRows _ _ k j

end Cert.FfnDwIdeal.Entry

namespace Cert.FfnDwRefIdeal.Entry

open Idealize.ShloMosaic
open Cert.FfnDwRefIdeal Cert.FfnDwRefIdeal.Gen Cert.Rows

/-- The reference's result at an index. -/
theorem result_at (A : FVec Ideal S16400x2816 .f32) (C : FVec Ideal S16400x1024 .f32) (k : Fin 2816) (j : Fin 1024) :
    truncf (F := Ideal) .bf16 (transpose S2816x1024 [1, 0] (Host.dotGeneral dot_S16400x1024_S16400x2816_S1024x2816_0_0_1_1_n_n none C A)
        transposes_S1024x2816_S2816x1024_1_0) bitsLt_bf16_f32 (ix2 k j)
      = dot (fun r => C (ix2 r j)) (fun r => A (ix2 r k)) := by
  unfold dot
  pointwise

end Cert.FfnDwRefIdeal.Entry

namespace Cert

open Idealize.ShloMosaic Idealize.ShloMosaic.TcCoe Idealize.SL.Sem

/-- The call and its reference return the same array. -/
theorem dw_algebraic : Cert.algebraic_FfnDwIdeal_FfnDwRefIdeal := by
  intro m ρ m' ρ' _ hagree
  refine ⟨_, Cert.FfnDwIdeal.Value.run_blocks m ρ, ?_⟩
  refine (θ_run Cert.FfnDwRefIdeal.defs _ _).mono (fun _ h c => ⟨(h c).1.trans ?_, (h c).2⟩)
    (Cert.FfnDwRefIdeal.Value.run (F := Ideal) m' ρ')
  obtain ⟨h0, h1, h2⟩ := hagree c
  rw [h0, h2]
  funext i
  rw [eq_ix2 i]
  exact (Cert.FfnDwRefIdeal.Entry.result_at _ _ _ _).trans (Cert.FfnDwIdeal.Entry.final_at m c _ _).symm

end Cert
-- ==== Proof.Up.lean ====
/- The forward call of a feed-forward: the norm, its products with the two first weights, and the hidden activations. -/
module

public import proofs.«01_k».proof.Proof.Gen.FfnUpIdeal.Value
public import proofs.«01_k».proof.Proof.Gen.FfnUpRefIdeal.Run
public import proofs.«01_k».proof.Defs
public import proofs.«01_k».proof.Proof.Scalars
public import proofs.«01_k».proof.Proof.Rows
public import proofs.«01_k».proof.Proof.Norm

@[expose] public section

set_option maxRecDepth 16384

noncomputable section

namespace Cert.FfnUpIdeal.Entry

open Idealize.ShloMosaic Idealize.ShloMosaic.TcCoe Idealize.SL.Sem
open Cert.FfnUpIdeal Cert.FfnUpIdeal.Gen Cert.Rows Cert.Norm Cert.Scalars

variable (m : (ℓ : Loc nD τ sig) → Buf (Elt Ideal) ℓ)

/-- The padded rows the call reads. -/
theorem entry_h (c : Dev nD) (R : Fin 16512) (k : Fin 1024) :
    V m c main_v0 (ix2 R k) = onRows (fun r l => (m ((c : Thread nD τ).loc main_arg0) : S16400x1024.Idx → EReal) (ix2 r l)) R k := by
  have e : (V m c main_v0 : FVec Ideal S16512x1024 .f32) = pad S16512x1024 ![112, 0] ![0, 0] ![0, 0]
      (m ((c : Thread nD τ).loc main_arg0) : FVec Ideal S16400x1024 .f32) (sitofp (F := Ideal) .f32 (constantI S_ 32 0#32))
      pads_S16400x1024_S16512x1024_11200_000 h_S_ := by
    simp only [V, hostOps0, hostOps0_1, hostOps0_2, List.flatten_cons, List.flatten_nil, List.append_nil,
      List.cons_append, List.nil_append, StableHlo.TRef.unary, StableHlo.TRef.binary, StableHlo.TRef.toBuf, StableHlo.TRef.ofBuf, cast_eq]
    after_results
  exact (congrFun e (ix2 R k)).trans (pad_at _ pads_S16400x1024_S16512x1024_11200_000 h_S_ R k)

/-- The gain the call reads. -/
theorem entry_g (c : Dev nD) : (V m c main_arg1 : FVec Ideal S1x1024 .f32) = m ((c : Thread nD τ).loc main_arg1) := by
  simp only [V, hostOps0, hostOps0_1, hostOps0_2, List.flatten_cons, List.flatten_nil, List.append_nil,
    List.cons_append, List.nil_append, StableHlo.TRef.unary, StableHlo.TRef.binary, StableHlo.TRef.toBuf, StableHlo.TRef.ofBuf, cast_eq]
  after_results

/-- The first weight the call reads, transposed. -/
theorem entry_wg (c : Dev nD) (k : Fin 2816) (j : Fin 1024) :
    V m c main_v2 (ix2 k j) = (m ((c : Thread nD τ).loc main_arg2) : S1024x2816.Idx → EReal) (ix2 j k) := by
  have e : (V m c main_v2 : FVec Ideal S2816x1024 .bf16) = truncf (F := Ideal) .bf16 (transpose S2816x1024 [1, 0]
      (m ((c : Thread nD τ).loc main_arg2) : FVec Ideal S1024x2816 .f32) transposes_S1024x2816_S2816x1024_1_0) bitsLt_bf16_f32 := by
    simp only [V, hostOps0, hostOps0_1, hostOps0_2, List.flatten_cons, List.flatten_nil, List.append_nil,
      List.cons_append, List.nil_append, StableHlo.TRef.unary, StableHlo.TRef.binary, StableHlo.TRef.toBuf, StableHlo.TRef.ofBuf, cast_eq]
    after_results
  refine (congrFun e (ix2 k j)).trans ?_
  pointwise

/-- The second weight the call reads, transposed. -/
theorem entry_wu (c : Dev nD) (k : Fin 2816) (j : Fin 1024) :
    V m c main_v4 (ix2 k j) = (m ((c : Thread nD τ).loc main_arg3) : S1024x2816.Idx → EReal) (ix2 j k) := by
  have e : (V m c main_v4 : FVec Ideal S2816x1024 .bf16) = truncf (F := Ideal) .bf16 (transpose S2816x1024 [1, 0]
      (m ((c : Thread nD τ).loc main_arg3) : FVec Ideal S1024x2816 .f32) transposes_S1024x2816_S2816x1024_1_0) bitsLt_bf16_f32 := by
    simp only [V, hostOps0, hostOps0_1, hostOps0_2, List.flatten_cons, List.flatten_nil, List.append_nil,
      List.cons_append, List.nil_append, StableHlo.TRef.unary, StableHlo.TRef.binary, StableHlo.TRef.toBuf, StableHlo.TRef.ofBuf, cast_eq]
    after_results
  refine (congrFun e (ix2 k j)).trans ?_
  pointwise

/-- The block of each window at a point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] := (by decide +kernel : ∀ t : Fin grid0.N, _)

/-- The whole normed rows, from the arrays the call reads. -/
def outN (H : FVec Ideal S16512x1024 .f32) (g : FVec Ideal S1x1024 .f32) : FVec Ideal S16512x1024 .bf16 :=
  fun i => normed (fun k => H (ix2 (i 0) k)) (fun k => g (ix2 0 k)) (i 1)

/-- A whole product. -/
def outP (H : FVec Ideal S16512x1024 .f32) (g : FVec Ideal S1x1024 .f32) (W : FVec Ideal S2816x1024 .bf16) : FVec Ideal S16512x2816 .bf16 :=
  fun i => through (fun k => H (ix2 (i 0) k)) (fun k => g (ix2 0 k)) (fun k => W (ix2 (i 1) k))

/-- The whole hidden activations. -/
def outA (H : FVec Ideal S16512x1024 .f32) (g : FVec Ideal S1x1024 .f32) (W W' : FVec Ideal S2816x1024 .bf16) : FVec Ideal S16512x2816 .bf16 :=
  fun i => gated (outP H g W i) (outP H g W' i)

/-- The stored norm at an index of a block. -/
theorem norm_at (x : FVec Ideal S384x1024 .f32) (g : FVec Ideal S1x1024 .f32) (i : Fin 384) (j : Fin 1024) :
    k0_pay2 (F := Ideal) x g (ix2 i j) = normed (fun k => x (ix2 i k)) (fun k => g (ix2 0 k)) j := by
  pointwise [k0_pay2, normed, scale]

/-- The stored first product at an index of a block. -/
theorem prod_at (x : FVec Ideal S384x1024 .f32) (g : FVec Ideal S1x1024 .f32) (w : FVec Ideal S2816x1024 .bf16) (i : Fin 384) (j : Fin 2816) :
    k0_pay3 (F := Ideal) x g w (ix2 i j) = through (fun k => x (ix2 i k)) (fun k => g (ix2 0 k)) (fun k => w (ix2 j k)) := by
  pointwise [k0_pay3, through, norm_at]

/-- The stored second product at an index of a block. -/
theorem prod2_at (x : FVec Ideal S384x1024 .f32) (g : FVec Ideal S1x1024 .f32) (w : FVec Ideal S2816x1024 .bf16) (i : Fin 384) (j : Fin 2816) :
    k0_pay4 (F := Ideal) x g w (ix2 i j) = through (fun k => x (ix2 i k)) (fun k => g (ix2 0 k)) (fun k => w (ix2 j k)) := by
  pointwise [k0_pay4, through, norm_at]

/-- The stored activation at an index of a block. -/
theorem act_at (x : FVec Ideal S384x1024 .f32) (g : FVec Ideal S1x1024 .f32) (w w' : FVec Ideal S2816x1024 .bf16) (i : Fin 384) (j : Fin 2816) :
    k0_pay1 (F := Ideal) (k0_pay5 (F := Ideal) x g w w') (ix2 i j)
      = gated (through (fun k => x (ix2 i k)) (fun k => g (ix2 0 k)) (fun k => w (ix2 j k)))
          (through (fun k => x (ix2 i k)) (fun k => g (ix2 0 k)) (fun k => w' (ix2 j k))) := by
  pointwise [k0_pay1, k0_pay5, prod_at, prod2_at]
  rw [kernel_sigmoid]
  rfl

/-- The rows array after the run. -/
theorem final_n (c : Dev nD) : (dats m 0 c).arrAt 4 (cfgs 0).N = outN (V m c main_v0) (V m c main_arg1) := by
  refine (dats m 0 c).arrAt_eq_of_covers 4 _ (by decide +kernel) fun t _ y => ?_
  blk_simp
  rw [after0_4]; frame_out
  idx_vars y
  refine (norm_at _ _ y0 y1).trans ?_
  refine congr (congr (congrArg normed (funext fun k => ?_)) (funext fun k => ?_)) ?_
  · blk_ext [iblk, idx t]
  · blk_ext [iblk, idx t]
  · exact Fin.ext (by blk_simp [idx t])

/-- The first product after the run. -/
theorem final_g (c : Dev nD) : (dats m 0 c).arrAt 5 (cfgs 0).N = outP (V m c main_v0) (V m c main_arg1) (V m c main_v2) := by
  refine (dats m 0 c).arrAt_eq_of_covers 5 _ (by decide +kernel) fun t _ y => ?_
  blk_simp
  rw [after0_5]; frame_out
  idx_vars y
  refine (prod_at _ _ _ y0 y1).trans ?_
  refine congr (congr (congrArg through (funext fun k => ?_)) (funext fun k => ?_)) (funext fun k => ?_)
  · blk_ext [iblk, idx t]
  · blk_ext [iblk, idx t]
  · blk_ext [iblk, idx t]

/-- The second product after the run. -/
theorem final_u (c : Dev nD) : (dats m 0 c).arrAt 6 (cfgs 0).N = outP (V m c main_v0) (V m c main_arg1) (V m c main_v4) := by
  refine (dats m 0 c).arrAt_eq_of_covers 6 _ (by decide +kernel) fun t _ y => ?_
  blk_simp
  rw [after0_6]; frame_out
  idx_vars y
  refine (prod2_at _ _ _ y0 y1).trans ?_
  refine congr (congr (congrArg through (funext fun k => ?_)) (funext fun k => ?_)) (funext fun k => ?_)
  · blk_ext [iblk, idx t]
  · blk_ext [iblk, idx t]
  · blk_ext [iblk, idx t]

/-- The activations after the run. -/
theorem final_a (c : Dev nD) :
    (dats m 0 c).arrAt 7 (cfgs 0).N = outA (V m c main_v0) (V m c main_arg1) (V m c main_v2) (V m c main_v4) := by
  refine (dats m 0 c).arrAt_eq_of_covers 7 _ (by decide +kernel) fun t _ y => ?_
  blk_simp
  rw [after0_7]; frame_out
  idx_vars y
  refine (act_at _ _ _ _ y0 y1).trans ?_
  refine congr (congrArg gated ?_) ?_ <;>
    refine congr (congr (congrArg through (funext fun k => ?_)) (funext fun k => ?_)) (funext fun k => ?_)
  · blk_ext [iblk, idx t]
  · blk_ext [iblk, idx t]
  · blk_ext [iblk, idx t]
  · blk_ext [iblk, idx t]
  · blk_ext [iblk, idx t]
  · blk_ext [iblk, idx t]

/-- A row of a result from the arguments: nothing on the padding. -/
theorem rows_at (c : Dev nD) (R : Fin 16512) :
    (fun k => V m c main_v0 (ix2 R k)) = onRows (fun r l => (m ((c : Thread nD τ).loc main_arg0) : S16400x1024.Idx → EReal) (ix2 r l)) R :=
  funext fun k => entry_h m c R k

/-- The norm's result at an index, from the arguments. -/
theorem n_at (c : Dev nD) (R : Fin 16512) (j : Fin 1024) :
    (dats m 0 c).arrAt 4 (cfgs 0).N (ix2 R j)
      = onRows (fun r l => normed (fun k => (m ((c : Thread nD τ).loc main_arg0) : S16400x1024.Idx → EReal) (ix2 r k))
          (fun k => (m ((c : Thread nD τ).loc main_arg1) : S1x1024.Idx → EReal) (ix2 0 k)) l) R j := by
  refine (congrFun (final_n m c) (ix2 R j)).trans ?_
  refine (congrFun (congr (congrArg normed (rows_at m c R)) (funext fun k => congrFun (entry_g m c) (ix2 0 k))) j).trans ?_
  by_cases h : 112 ≤ R.val
  · simp only [onRows_row_pos _ h]
  · simp only [onRows_row_neg _ h, normed_zero]

/-- A product's entry, from the arguments. -/
theorem p_at (c : Dev nD) (R : Fin 16512) (j : Fin 2816) (W : FVec Ideal S2816x1024 .bf16) (w : S1024x2816.Idx → EReal)
    (hW : ∀ k, W (ix2 j k) = w (ix2 k j)) :
    outP (V m c main_v0) (V m c main_arg1) W (ix2 R j)
      = onRows (fun r l => through (fun k => (m ((c : Thread nD τ).loc main_arg0) : S16400x1024.Idx → EReal) (ix2 r k))
          (fun k => (m ((c : Thread nD τ).loc main_arg1) : S1x1024.Idx → EReal) (ix2 0 k)) (fun k => w (ix2 k l))) R j := by
  refine (congr (congr (congrArg through (rows_at m c R)) (funext fun k => congrFun (entry_g m c) (ix2 0 k))) (funext hW)).trans ?_
  by_cases h : 112 ≤ R.val
  · simp only [onRows_row_pos _ h]
  · simp only [onRows_row_neg _ h, through_zero]

/-- The first product's result at an index. -/
theorem g_at (c : Dev nD) (R : Fin 16512) (j : Fin 2816) :
    (dats m 0 c).arrAt 5 (cfgs 0).N (ix2 R j)
      = onRows (fun r l => through (fun k => (m ((c : Thread nD τ).loc main_arg0) : S16400x1024.Idx → EReal) (ix2 r k))
          (fun k => (m ((c : Thread nD τ).loc main_arg1) : S1x1024.Idx → EReal) (ix2 0 k))
          (fun k => (m ((c : Thread nD τ).loc main_arg2) : S1024x2816.Idx → EReal) (ix2 k l))) R j :=
  (congrFun (final_g m c) (ix2 R j)).trans (p_at m c R j _ _ fun k => entry_wg m c j k)

/-- The second product's result at an index. -/
theorem u_at (c : Dev nD) (R : Fin 16512) (j : Fin 2816) :
    (dats m 0 c).arrAt 6 (cfgs 0).N (ix2 R j)
      = onRows (fun r l => through (fun k => (m ((c : Thread nD τ).loc main_arg0) : S16400x1024.Idx → EReal) (ix2 r k))
          (fun k => (m ((c : Thread nD τ).loc main_arg1) : S1x1024.Idx → EReal) (ix2 0 k))
          (fun k => (m ((c : Thread nD τ).loc main_arg3) : S1024x2816.Idx → EReal) (ix2 k l))) R j :=
  (congrFun (final_u m c) (ix2 R j)).trans (p_at m c R j _ _ fun k => entry_wu m c j k)

/-- The activations' result at an index. -/
theorem a_at (c : Dev nD) (R : Fin 16512) (j : Fin 2816) :
    (dats m 0 c).arrAt 7 (cfgs 0).N (ix2 R j)
      = onRows (fun r l => gated
          (through (fun k => (m ((c : Thread nD τ).loc main_arg0) : S16400x1024.Idx → EReal) (ix2 r k))
            (fun k => (m ((c : Thread nD τ).loc main_arg1) : S1x1024.Idx → EReal) (ix2 0 k))
            (fun k => (m ((c : Thread nD τ).loc main_arg2) : S1024x2816.Idx → EReal) (ix2 k l)))
          (through (fun k => (m ((c : Thread nD τ).loc main_arg0) : S16400x1024.Idx → EReal) (ix2 r k))
            (fun k => (m ((c : Thread nD τ).loc main_arg1) : S1x1024.Idx → EReal) (ix2 0 k))
            (fun k => (m ((c : Thread nD τ).loc main_arg3) : S1024x2816.Idx → EReal) (ix2 k l)))) R j := by
  refine (congrFun (final_a m c) (ix2 R j)).trans ?_
  refine (congr (congrArg gated (p_at m c R j _ _ fun k => entry_wg m c j k)) (p_at m c R j _ _ fun k => entry_wu m c j k)).trans ?_
  by_cases h : 112 ≤ R.val
  · simp only [onRows_pos _ h]
  · simp only [onRows_neg _ h, gated_zero]

end Cert.FfnUpIdeal.Entry

namespace Cert.FfnUpRefIdeal.Entry

open Idealize.ShloMosaic
open Cert.FfnUpRefIdeal Cert.FfnUpRefIdeal.Gen Cert.Rows Cert.Norm Cert.Scalars

/-- The reference's norm, before the padding. -/
def refN (H : FVec Ideal S16400x1024 .f32) (g : FVec Ideal S1x1024 .f32) : FVec Ideal S16400x1024 .f32 :=
  mulf (mulf H (broadcastInDim S16400x1024 ![0, 1] bcast_S16400x1_S16400x1024_0_1 (Host.rsqrt (addf (Host.divf (broadcastInDim S16400x1 ![0] bcast_S16400_S16400x1_0 (Host.reduceAdd (mulf H H) (constant S_ .f32 0x00000000#32) reducesTo_S16400x1024_S16400_d1 h_S_)) (broadcastInDim S16400x1 ![] bcast_S_S16400x1 (constant S_ .f32 0x44800000#32))) (broadcastInDim S16400x1 ![] bcast_S_S16400x1 (constant S_ .f32 0x358637BD#32)))))) (broadcastInDim S16400x1024 ![0, 1] bcast_S1x1024_S16400x1024_0_1 g)

/-- The reference's product, before the padding. -/
def refP (H : FVec Ideal S16400x1024 .f32) (g : FVec Ideal S1x1024 .f32) (w : FVec Ideal S1024x2816 .f32) : FVec Ideal S16400x2816 .f32 :=
  Host.dotGeneral dot_S16400x1024_S1024x2816_S16400x2816_1_0_0_1_n_n none (refN H g) w

/-- The reference's activations, before the padding. -/
def refA (G U : FVec Ideal S16400x2816 .f32) : FVec Ideal S16400x2816 .f32 :=
  mulf (mulf G (Host.divf (broadcastInDim S16400x2816 ![] bcast_S_S16400x2816 (constant S_ .f32 0x3F800000#32)) (addf (broadcastInDim S16400x2816 ![] bcast_S_S16400x2816 (constant S_ .f32 0x3F800000#32)) (Host.exp (Host.negf G))))) U

theorem refN_at (H : FVec Ideal S16400x1024 .f32) (g : FVec Ideal S1x1024 .f32) (r : Fin 16400) (j : Fin 1024) :
    refN H g (ix2 r j) = normed (fun k => H (ix2 r k)) (fun k => g (ix2 0 k)) j := by
  pointwise [refN, normed, scale]

theorem refP_at (H : FVec Ideal S16400x1024 .f32) (g : FVec Ideal S1x1024 .f32) (w : FVec Ideal S1024x2816 .f32) (r : Fin 16400) (j : Fin 2816) :
    refP H g w (ix2 r j) = through (fun k => H (ix2 r k)) (fun k => g (ix2 0 k)) (fun k => w (ix2 k j)) := by
  pointwise [refP, through, refN_at]

theorem refA_at (G U : FVec Ideal S16400x2816 .f32) (r : Fin 16400) (j : Fin 2816) :
    refA G U (ix2 r j) = gated (G (ix2 r j)) (U (ix2 r j)) := by
  pointwise [refA, gated]
  rw [← EReal.coe_one, ← ofBits_one, reference_sigmoid]

/-- The padding and the cast, at an index. -/
theorem padded_at {n : ℕ} (x : FVec Ideal ⟨2, ![16400, n]⟩ .f32) (h : (⟨2, ![16400, n]⟩ : Shape).Pads ![112, 0] ![0, 0] ![0, 0] ⟨2, ![16512, n]⟩)
    (f : Fin 16400 → Fin n → EReal) (hf : ∀ r l, x (ix2 r l) = f r l) (R : Fin 16512) (j : Fin n) :
    truncf (F := Ideal) .bf16 (pad ⟨2, ![16512, n]⟩ ![112, 0] ![0, 0] ![0, 0] x (sitofp .f32 (constantI S_ 32 0#32)) h h_S_) bitsLt_bf16_f32 (ix2 R j)
      = onRows f R j :=
  (pad_at x h h_S_ R j).trans (congrArg (fun X => onRows X R j) (funext fun r => funext fun l => hf r l))

end Cert.FfnUpRefIdeal.Entry

namespace Cert

open Idealize.ShloMosaic Idealize.ShloMosaic.TcCoe Idealize.SL.Sem

/-- The call and its reference return the same arrays. -/
theorem up_algebraic : Cert.algebraic_FfnUpIdeal_FfnUpRefIdeal := by
  intro m ρ m' ρ' _ hagree
  refine ⟨_, _, _, _, Cert.FfnUpIdeal.Value.run_blocks m ρ, ?_⟩
  refine (θ_run Cert.FfnUpRefIdeal.defs _ _).mono (fun _ h c => ⟨(h c).1.trans ?_, (h c).2.1.trans ?_, (h c).2.2.1.trans ?_,
      (h c).2.2.2.1.trans ?_, (h c).2.2.2.2⟩)
    (Cert.FfnUpRefIdeal.Value.run (F := Ideal) m' ρ')
  all_goals
    obtain ⟨h0, h1, h2, h3⟩ := hagree c
    rw [h0, h1]
    funext i
    rw [eq_ix2 i]
  · exact (Cert.FfnUpRefIdeal.Entry.padded_at _ _ _ (fun r l => Cert.FfnUpRefIdeal.Entry.refN_at _ _ r l) _ _).trans
      (Cert.FfnUpIdeal.Entry.n_at m c _ _).symm
  · rw [h2]
    exact (Cert.FfnUpRefIdeal.Entry.padded_at _ _ _ (fun r l => Cert.FfnUpRefIdeal.Entry.refP_at _ _ _ r l) _ _).trans
      (Cert.FfnUpIdeal.Entry.g_at m c _ _).symm
  · rw [h3]
    exact (Cert.FfnUpRefIdeal.Entry.padded_at _ _ _ (fun r l => Cert.FfnUpRefIdeal.Entry.refP_at _ _ _ r l) _ _).trans
      (Cert.FfnUpIdeal.Entry.u_at m c _ _).symm
  · rw [h2, h3]
    exact (Cert.FfnUpRefIdeal.Entry.padded_at _ _ _ (fun r l => (Cert.FfnUpRefIdeal.Entry.refA_at
        (Cert.FfnUpRefIdeal.Entry.refP _ _ _) (Cert.FfnUpRefIdeal.Entry.refP _ _ _) r l).trans
        (congr (congrArg Cert.Norm.gated (Cert.FfnUpRefIdeal.Entry.refP_at _ _ _ r l)) (Cert.FfnUpRefIdeal.Entry.refP_at _ _ _ r l))) _ _).trans
      (Cert.FfnUpIdeal.Entry.a_at m c _ _).symm

end Cert
-- ==== Proof.Down.lean ====
/- The forward call that multiplies the hidden activations by the down projection and adds the residual. -/
module

public import proofs.«01_k».proof.Proof.Gen.FfnDownIdeal.Value
public import proofs.«01_k».proof.Proof.Gen.FfnDownRefIdeal.Run
public import proofs.«01_k».proof.Defs
public import proofs.«01_k».proof.Proof.Scalars
public import proofs.«01_k».proof.Proof.Rows

@[expose] public section

set_option maxRecDepth 16384

noncomputable section

/-- One entry of the result: the residual and half of the product of a row of activations by a column of weights. -/
def Cert.downEntry (h : EReal) (a w : Fin 2816 → EReal) : EReal :=
  h + Idealize.ShloMosaic.Ideal.ofBits .f32 0x3F000000#32 * ∑ k, a k * w k

namespace Cert.FfnDownIdeal.Entry

open Idealize.ShloMosaic Idealize.ShloMosaic.TcCoe Idealize.SL.Sem
open Cert.FfnDownIdeal Cert.FfnDownIdeal.Gen Cert.Rows

variable (m : (ℓ : Loc nD τ sig) → Buf (Elt Ideal) ℓ)

/-- The padded activations the call reads. -/
theorem entry_a (c : Dev nD) (R : Fin 16512) (k : Fin 2816) :
    V m c main_v1 (ix2 R k) = onRows (fun r l => (m ((c : Thread nD τ).loc main_arg1) : S16400x2816.Idx → EReal) (ix2 r l)) R k := by
  have e : (V m c main_v1 : FVec Ideal S16512x2816 .bf16) = truncf (F := Ideal) .bf16 (pad S16512x2816 ![112, 0] ![0, 0] ![0, 0]
      (m ((c : Thread nD τ).loc main_arg1) : FVec Ideal S16400x2816 .f32) (sitofp (F := Ideal) .f32 (constantI S_ 32 0#32))
      pads_S16400x2816_S16512x2816_11200_000 h_S_) bitsLt_bf16_f32 := by
    simp only [V, hostOps0, hostOps0_1, hostOps0_2, hostOps0_3, hostOps0_4, List.flatten_cons, List.flatten_nil, List.append_nil,
      List.cons_append, List.nil_append, StableHlo.TRef.unary, StableHlo.TRef.binary, StableHlo.TRef.toBuf, StableHlo.TRef.ofBuf, cast_eq]
    after_results
  exact (congrFun e (ix2 R k)).trans (pad_at _ pads_S16400x2816_S16512x2816_11200_000 h_S_ R k)

/-- The padded residual the call reads. -/
theorem entry_h (c : Dev nD) (R : Fin 16512) (k : Fin 1024) :
    V m c main_v2 (ix2 R k) = onRows (fun r l => (m ((c : Thread nD τ).loc main_arg0) : S16400x1024.Idx → EReal) (ix2 r l)) R k := by
  have e : (V m c main_v2 : FVec Ideal S16512x1024 .f32) = pad S16512x1024 ![112, 0] ![0, 0] ![0, 0]
      (m ((c : Thread nD τ).loc main_arg0) : FVec Ideal S16400x1024 .f32) (sitofp (F := Ideal) .f32 (constantI S_ 32 0#32))
      pads_S16400x1024_S16512x1024_11200_000 h_S_ := by
    simp only [V, hostOps0, hostOps0_1, hostOps0_2, hostOps0_3, hostOps0_4, List.flatten_cons, List.flatten_nil, List.append_nil,
      List.cons_append, List.nil_append, StableHlo.TRef.unary, StableHlo.TRef.binary, StableHlo.TRef.toBuf, StableHlo.TRef.ofBuf, cast_eq]
    after_results
  exact (congrFun e (ix2 R k)).trans (pad_at _ pads_S16400x1024_S16512x1024_11200_000 h_S_ R k)

/-- The weights the call reads. -/
theorem entry_w (c : Dev nD) (k : Fin 2816) (j : Fin 1024) :
    V m c main_v3 (ix2 k j) = (m ((c : Thread nD τ).loc main_arg2) : S2816x1024.Idx → EReal) (ix2 k j) := by
  have e : (V m c main_v3 : FVec Ideal S2816x1024 .bf16) = truncf (F := Ideal) .bf16
      (m ((c : Thread nD τ).loc main_arg2) : FVec Ideal S2816x1024 .f32) bitsLt_bf16_f32 := by
    simp only [V, hostOps0, hostOps0_1, hostOps0_2, hostOps0_3, hostOps0_4, List.flatten_cons, List.flatten_nil, List.append_nil,
      List.cons_append, List.nil_append, StableHlo.TRef.unary, StableHlo.TRef.binary, StableHlo.TRef.toBuf, StableHlo.TRef.ofBuf, cast_eq]
    after_results
  exact congrFun e (ix2 k j)

/-- The block of each window at a point. -/
theorem idx : ∀ t : Fin cfg0.N, win0_0.index t = ![t.val, 0] ∧ win0_1.index t = ![t.val, 0] ∧ win0_2.index t = ![0, 0]
    ∧ win0_3.index t = ![t.val, 0] := (by decide +kernel : ∀ t : Fin grid0.N, _)

/-- The whole result, from the arrays the call reads. -/
def out (A : FVec Ideal S16512x2816 .bf16) (H : FVec Ideal S16512x1024 .f32) (W : FVec Ideal S2816x1024 .bf16) :
    FVec Ideal S16512x1024 .f32 :=
  fun i => downEntry (H i) (fun k => A (ix2 (i 0) k)) (fun k => W (ix2 k (i 1)))

/-- What the body stores at an index of its block is the result's entry there. -/
theorem point (c : Dev nD) (t : Fin cfg0.N) (y) : k0_pay1 (iblk m c 0 t) (iblk m c 1 t) (iblk m c 2 t) y
    = out (V m c main_v1) (V m c main_v2) (V m c main_v3) (((cfg0.win 3).blk t).view.emb y) := by
  pointwise [k0_pay1, out, downEntry]
  blk_point [iblk, idx t]

/-- The result array after the run. -/
theorem final (c : Dev nD) : (dats m 0 c).arrAt 3 (cfgs 0).N = out (V m c main_v1) (V m c main_v2) (V m c main_v3) := by
  refine (dats m 0 c).arrAt_eq_of_covers 3 _ (by decide +kernel) fun t _ y => ?_
  blk_simp
  rw [after0_3]; frame_out
  exact point m c t y

/-- The result array at an index, from the arguments: the entry of the sequence's row, zero on the padding. -/
theorem final_at (c : Dev nD) (R : Fin 16512) (j : Fin 1024) :
    (dats m 0 c).arrAt 3 (cfgs 0).N (ix2 R j)
      = onRows (fun r l => downEntry ((m ((c : Thread nD τ).loc main_arg0) : S16400x1024.Idx → EReal) (ix2 r l))
          (fun k => (m ((c : Thread nD τ).loc main_arg1) : S16400x2816.Idx → EReal) (ix2 r k))
          (fun k => (m ((c : Thread nD τ).loc main_arg2) : S2816x1024.Idx → EReal) (ix2 k l))) R j := by
  refine (congrFun (final m c) (ix2 R j)).trans ?_
  refine (congr (congr (congrArg downEntry (entry_h m c R j)) (funext fun k => entry_a m c R k))
    (funext fun k => entry_w m c k j)).trans ?_
  by_cases h : 112 ≤ R.val
  · simp only [onRows_row_pos _ h]
  · simp only [onRows_neg _ h, downEntry, zero_mul, Finset.sum_const_zero, mul_zero, add_zero]

end Cert.FfnDownIdeal.Entry

namespace Cert.FfnDownRefIdeal.Entry

open Idealize.ShloMosaic
open Cert.FfnDownRefIdeal Cert.FfnDownRefIdeal.Gen Cert.Rows

/-- The reference's result at an index. -/
theorem result_at (H : FVec Ideal S16400x1024 .f32) (A : FVec Ideal S16400x2816 .f32) (W : FVec Ideal S2816x1024 .f32)
    (R : Fin 16512) (j : Fin 1024) :
    pad S16512x1024 ![112, 0] ![0, 0] ![0, 0] (addf H (mulf (broadcastInDim S16400x1024 ![] bcast_S_S16400x1024
        (constant S_ .f32 0x3F000000#32)) (Host.dotGeneral dot_S16400x2816_S2816x1024_S16400x1024_1_0_0_1_n_n none A W)))
        (sitofp .f32 (constantI S_ 32 0#32)) pads_S16400x1024_S16512x1024_11200_000 h_S_ (ix2 R j)
      = onRows (fun r l => downEntry (H (ix2 r l)) (fun k => A (ix2 r k)) (fun k => W (ix2 k l))) R j := by
  refine (pad_at _ pads_S16400x1024_S16512x1024_11200_000 h_S_ R j).trans ?_
  refine congrArg (fun X => onRows X R j) ?_
  funext r l
  pointwise [downEntry]

end Cert.FfnDownRefIdeal.Entry

namespace Cert

open Idealize.ShloMosaic Idealize.ShloMosaic.TcCoe Idealize.SL.Sem

/-- The call and its reference return the same array. -/
theorem down_algebraic : Cert.algebraic_FfnDownIdeal_FfnDownRefIdeal := by
  intro m ρ m' ρ' _ hagree
  refine ⟨_, Cert.FfnDownIdeal.Value.run_blocks m ρ, ?_⟩
  refine (θ_run Cert.FfnDownRefIdeal.defs _ _).mono (fun _ h c => ⟨(h c).1.trans ?_, (h c).2⟩)
    (Cert.FfnDownRefIdeal.Value.run (F := Ideal) m' ρ')
  obtain ⟨h0, h1, h2⟩ := hagree c
  rw [h0, h1, h2]
  funext i
  rw [eq_ix2 i]
  exact (Cert.FfnDownRefIdeal.Entry.result_at _ _ _ _ _).trans (Cert.FfnDownIdeal.Entry.final_at m c _ _).symm

end Cert
-- ==== Proof.MixProj.lean ====
/- The forward call of the mixer: the norm and its products with the six parts of the input weight. -/
module

public import proofs.«01_k».proof.Proof.Gen.MixProjIdeal.Value
public import proofs.«01_k».proof.Proof.Gen.MixProjRefIdeal.Run
public import proofs.«01_k».proof.Defs
public import proofs.«01_k».proof.Proof.Scalars
public import proofs.«01_k».proof.Proof.Rows
public import proofs.«01_k».proof.Proof.Norm

@[expose] public section

set_option maxRecDepth 16384

noncomputable section

/-- A column of a part of the input weight, as a column of the whole. -/
def Cert.partCol {n : ℕ} (off : ℕ) (h : off + n ≤ 4096) (j : Fin n) : Fin 4096 := ⟨off + j.val, by omega⟩

namespace Cert.MixProjIdeal.Entry

open Idealize.ShloMosaic Idealize.ShloMosaic.TcCoe Idealize.SL.Sem
open Cert.MixProjIdeal Cert.MixProjIdeal.Gen Cert.Rows Cert.Norm Cert.Scalars

variable (m : (ℓ : Loc nD τ sig) → Buf (Elt Ideal) ℓ)

/-- The padded rows the call reads. -/
theorem entry_h (c : Dev nD) (R : Fin 16512) (k : Fin 1024) :
    V m c main_v0 (ix2 R k) = onRows (fun r l => (m ((c : Thread nD τ).loc main_arg0) : S16400x1024.Idx → EReal) (ix2 r l)) R k := by
  have e : (V m c main_v0 : FVec Ideal S16512x1024 .f32) = pad S16512x1024 ![112, 0] ![0, 0] ![0, 0]
      (m ((c : Thread nD τ).loc main_arg0) : FVec Ideal S16400x1024 .f32) (sitofp (F := Ideal) .f32 (constantI S_ 32 0#32))
      pads_S16400x1024_S16512x1024_11200_000 h_S_ := by
    simp only [V, hostOps0, hostOps0_1, hostOps0_2, List.flatten_cons, List.flatten_nil, List.append_nil,
      List.cons_append, List.nil_append, StableHlo.TRef.unary, StableHlo.TRef.binary, StableHlo.TRef.toBuf, StableHlo.TRef.ofBuf, cast_eq]
    after_results
  exact (congrFun e (ix2 R k)).trans (pad_at _ pads_S16400x1024_S16512x1024_11200_000 h_S_ R k)

/-- The gain the call reads. -/
theorem entry_g (c : Dev nD) : (V m c main_arg1 : FVec Ideal S1x1024 .f32) = m ((c : Thread nD τ).loc main_arg1) := by
  simp only [V, hostOps0, hostOps0_1, hostOps0_2, List.flatten_cons, List.flatten_nil, List.append_nil,
    List.cons_append, List.nil_append, StableHlo.TRef.unary, StableHlo.TRef.binary, StableHlo.TRef.toBuf, StableHlo.TRef.ofBuf, cast_eq]
  after_results

/-- The weight the call reads, transposed. -/
theorem entry_w (c : Dev nD) (k : Fin 4096) (j : Fin 1024) :
    V m c main_v2 (ix2 k j) = (m ((c : Thread nD τ).loc main_arg2) : S1024x4096.Idx → EReal) (ix2 j k) := by
  have e : (V m c main_v2 : FVec Ideal S4096x1024 .bf16) = truncf (F := Ideal) .bf16 (transpose S4096x1024 [1, 0]
      (m ((c : Thread nD τ).loc main_arg2) : FVec Ideal S1024x4096 .f32) transposes_S1024x4096_S4096x1024_1_0) bitsLt_bf16_f32 := by
    simp only [V, hostOps0, hostOps0_1, hostOps0_2, List.flatten_cons, List.flatten_nil, List.append_nil,
      List.cons_append, List.nil_append, StableHlo.TRef.unary, StableHlo.TRef.binary, StableHlo.TRef.toBuf, StableHlo.TRef.ofBuf, cast_eq]
    after_results
  refine (congrFun e (ix2 k j)).trans ?_
  pointwise

/-- The block of each window at a point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] := (by decide +kernel : ∀ t : Fin grid0.N, _)

/-- The whole normed rows, from the arrays the call reads. -/
def outN (H : FVec Ideal S16512x1024 .f32) (g : FVec Ideal S1x1024 .f32) : FVec Ideal S16512x1024 .bf16 :=
  fun i => normed (fun k => H (ix2 (i 0) k)) (fun k => g (ix2 0 k)) (i 1)

/-- A whole product with a part of the weight. -/
def outP {n : ℕ} (off : ℕ) (h : off + n ≤ 4096) (H : FVec Ideal S16512x1024 .f32) (g : FVec Ideal S1x1024 .f32)
    (W : FVec Ideal S4096x1024 .bf16) : (⟨2, ![16512, n]⟩ : Shape).Idx → EReal :=
  fun i => through (fun k => H (ix2 (i 0) k)) (fun k => g (ix2 0 k)) (fun k => W (ix2 (partCol off h (i 1)) k))

/-- The whole scaled queries. -/
def outQ (H : FVec Ideal S16512x1024 .f32) (g : FVec Ideal S1x1024 .f32) (W : FVec Ideal S4096x1024 .bf16) :
    FVec Ideal S16512x1024 .bf16 :=
  fun i => outP (n := 1024) 0 (by omega) H g W i * Ideal.ofBits .f32 0x3E38AA3B#32

/-- The stored norm at an index of a block. -/
theorem norm_at (x : FVec Ideal S688x1024 .f32) (g : FVec Ideal S1x1024 .f32) (i : Fin 688) (j : Fin 1024) :
    k0_pay6 (F := Ideal) x g (ix2 i j) = normed (fun k => x (ix2 i k)) (fun k => g (ix2 0 k)) j := by
  pointwise [k0_pay6, normed, scale]

/-- The stored norm, as the body names it. -/
theorem norm2_at (x : FVec Ideal S688x1024 .f32) (g : FVec Ideal S1x1024 .f32) (w : FVec Ideal S4096x1024 .bf16) (i : Fin 688) (j : Fin 1024) :
    k0_pay12 (F := Ideal) x g w (ix2 i j) = normed (fun k => x (ix2 i k)) (fun k => g (ix2 0 k)) j := by
  refine (norm_at _ _ i j).trans ?_
  refine congrFun (congr (congrArg normed (funext fun k => ?_)) (funext fun k => ?_)) j
  · pointwise
  · pointwise

/-- The stored queries at an index of a block. -/
theorem q_stored (x : FVec Ideal S688x1024 .f32) (g : FVec Ideal S1x1024 .f32) (w : FVec Ideal S1024x1024 .bf16) (i : Fin 688) (j : Fin 1024) :
    k0_pay1 (F := Ideal) (k0_pay7 (F := Ideal) x g w) (ix2 i j)
      = through (fun k => x (ix2 i k)) (fun k => g (ix2 0 k)) (fun k => w (ix2 j k)) * Ideal.ofBits .f32 0x3E38AA3B#32 := by
  pointwise [k0_pay1, k0_pay2, k0_pay3, k0_pay4, k0_pay7, k0_pay8, k0_pay9, k0_pay10, k0_pay11, through, norm_at]

/-- The stored keys at an index of a block. -/
theorem k_stored (x : FVec Ideal S688x1024 .f32) (g : FVec Ideal S1x1024 .f32) (w : FVec Ideal S256x1024 .bf16) (i : Fin 688) (j : Fin 256) :
    k0_pay2 (F := Ideal) (k0_pay8 (F := Ideal) x g w) (ix2 i j)
      = through (fun k => x (ix2 i k)) (fun k => g (ix2 0 k)) (fun k => w (ix2 j k)) := by
  pointwise [k0_pay1, k0_pay2, k0_pay3, k0_pay4, k0_pay7, k0_pay8, k0_pay9, k0_pay10, k0_pay11, through, norm_at]

/-- The stored values at an index of a block. -/
theorem v_stored (x : FVec Ideal S688x1024 .f32) (g : FVec Ideal S1x1024 .f32) (w : FVec Ideal S256x1024 .bf16) (i : Fin 688) (j : Fin 256) :
    k0_pay3 (F := Ideal) (k0_pay9 (F := Ideal) x g w) (ix2 i j)
      = through (fun k => x (ix2 i k)) (fun k => g (ix2 0 k)) (fun k => w (ix2 j k)) := by
  pointwise [k0_pay1, k0_pay2, k0_pay3, k0_pay4, k0_pay7, k0_pay8, k0_pay9, k0_pay10, k0_pay11, through, norm_at]

/-- The stored state-space input at an index of a block. -/
theorem u_stored (x : FVec Ideal S688x1024 .f32) (g : FVec Ideal S1x1024 .f32) (w : FVec Ideal S512x1024 .bf16) (i : Fin 688) (j : Fin 512) :
    k0_pay10 (F := Ideal) x g w (ix2 i j)
      = through (fun k => x (ix2 i k)) (fun k => g (ix2 0 k)) (fun k => w (ix2 j k)) := by
  pointwise [k0_pay1, k0_pay2, k0_pay3, k0_pay4, k0_pay7, k0_pay8, k0_pay9, k0_pay10, k0_pay11, through, norm_at]

/-- The stored first gate at an index of a block. -/
theorem gs_stored (x : FVec Ideal S688x1024 .f32) (g : FVec Ideal S1x1024 .f32) (w : FVec Ideal S1024x1024 .bf16) (i : Fin 688) (j : Fin 1024) :
    k0_pay4 (F := Ideal) (k0_pay11 (F := Ideal) x g w) (ix2 i j)
      = through (fun k => x (ix2 i k)) (fun k => g (ix2 0 k)) (fun k => w (ix2 j k)) := by
  pointwise [k0_pay1, k0_pay2, k0_pay3, k0_pay4, k0_pay7, k0_pay8, k0_pay9, k0_pay10, k0_pay11, through, norm_at]

/-- The stored second gate at an index of a block. -/
theorem ga_stored (x : FVec Ideal S688x1024 .f32) (g : FVec Ideal S1x1024 .f32) (W : FVec Ideal S4096x1024 .bf16) (w : FVec Ideal S1024x1024 .bf16)
    (i : Fin 688) (j : Fin 1024) :
    k0_pay5 (F := Ideal) (k0_pay12 (F := Ideal) x g W) w (ix2 i j)
      = through (fun k => x (ix2 i k)) (fun k => g (ix2 0 k)) (fun k => w (ix2 j k)) := by
  pointwise [k0_pay5, through, norm2_at]

/-- The normed rows after the run. -/
theorem final_n (c : Dev nD) : (dats m 0 c).arrAt 3 (cfgs 0).N = outN (V m c main_v0) (V m c main_arg1) := by
  refine (dats m 0 c).arrAt_eq_of_covers 3 _ (by decide +kernel) fun t _ y => ?_
  blk_simp
  rw [after0_3]; frame_out
  idx_vars y
  refine (norm2_at _ _ _ y0 y1).trans ?_
  refine congr (congr (congrArg normed (funext fun k => ?_)) (funext fun k => ?_)) ?_
  · blk_ext [iblk, idx t]
  · blk_ext [iblk, idx t]
  · exact Fin.ext (by blk_simp [idx t])

/-- The queries after the run. -/
theorem final_q (c : Dev nD) :
    (dats m 0 c).arrAt 4 (cfgs 0).N = outQ (V m c main_v0) (V m c main_arg1) (V m c main_v2) := by
  refine (dats m 0 c).arrAt_eq_of_covers 4 _ (by decide +kernel) fun t _ y => ?_
  blk_simp
  rw [after0_4]; frame_out
  idx_vars y
  refine (q_stored _ _ _ y0 y1).trans ?_
  refine congrArg (fun x : EReal => x * Ideal.ofBits .f32 0x3E38AA3B#32) ?_
  refine congr (congr (congrArg through (funext fun k => ?_)) (funext fun k => ?_)) (funext fun k => ?_)
  · blk_ext [iblk, idx t]
  · blk_ext [iblk, idx t]
  · pointwise
    blk_ext [iblk, idx t, partCol]

/-- The keys after the run. -/
theorem final_k (c : Dev nD) :
    (dats m 0 c).arrAt 5 (cfgs 0).N = outP (n := 256) 1024 (by omega) (V m c main_v0) (V m c main_arg1) (V m c main_v2) := by
  refine (dats m 0 c).arrAt_eq_of_covers 5 _ (by decide +kernel) fun t _ y => ?_
  blk_simp
  rw [after0_5]; frame_out
  idx_vars y
  refine (k_stored _ _ _ y0 y1).trans ?_
  refine congr (congr (congrArg through (funext fun k => ?_)) (funext fun k => ?_)) (funext fun k => ?_)
  · blk_ext [iblk, idx t]
  · blk_ext [iblk, idx t]
  · pointwise
    blk_ext [iblk, idx t, partCol]

/-- The values after the run. -/
theorem final_v (c : Dev nD) :
    (dats m 0 c).arrAt 6 (cfgs 0).N = outP (n := 256) 1280 (by omega) (V m c main_v0) (V m c main_arg1) (V m c main_v2) := by
  refine (dats m 0 c).arrAt_eq_of_covers 6 _ (by decide +kernel) fun t _ y => ?_
  blk_simp
  rw [after0_6]; frame_out
  idx_vars y
  refine (v_stored _ _ _ y0 y1).trans ?_
  refine congr (congr (congrArg through (funext fun k => ?_)) (funext fun k => ?_)) (funext fun k => ?_)
  · blk_ext [iblk, idx t]
  · blk_ext [iblk, idx t]
  · pointwise
    blk_ext [iblk, idx t, partCol]

/-- The state-space input after the run. -/
theorem final_u (c : Dev nD) :
    (dats m 0 c).arrAt 7 (cfgs 0).N = outP (n := 512) 1536 (by omega) (V m c main_v0) (V m c main_arg1) (V m c main_v2) := by
  refine (dats m 0 c).arrAt_eq_of_covers 7 _ (by decide +kernel) fun t _ y => ?_
  blk_simp
  rw [after0_7]; frame_out
  idx_vars y
  refine (u_stored _ _ _ y0 y1).trans ?_
  refine congr (congr (congrArg through (funext fun k => ?_)) (funext fun k => ?_)) (funext fun k => ?_)
  · blk_ext [iblk, idx t]
  · blk_ext [iblk, idx t]
  · pointwise
    blk_ext [iblk, idx t, partCol]

/-- The first gate after the run. -/
theorem final_gs (c : Dev nD) :
    (dats m 0 c).arrAt 8 (cfgs 0).N = outP (n := 1024) 2048 (by omega) (V m c main_v0) (V m c main_arg1) (V m c main_v2) := by
  refine (dats m 0 c).arrAt_eq_of_covers 8 _ (by decide +kernel) fun t _ y => ?_
  blk_simp
  rw [after0_8]; frame_out
  idx_vars y
  refine (gs_stored _ _ _ y0 y1).trans ?_
  refine congr (congr (congrArg through (funext fun k => ?_)) (funext fun k => ?_)) (funext fun k => ?_)
  · blk_ext [iblk, idx t]
  · blk_ext [iblk, idx t]
  · pointwise
    blk_ext [iblk, idx t, partCol]

/-- The second gate after the run. -/
theorem final_ga (c : Dev nD) :
    (dats m 0 c).arrAt 9 (cfgs 0).N = outP (n := 1024) 3072 (by omega) (V m c main_v0) (V m c main_arg1) (V m c main_v2) := by
  refine (dats m 0 c).arrAt_eq_of_covers 9 _ (by decide +kernel) fun t _ y => ?_
  blk_simp
  rw [after0_9]; frame_out
  idx_vars y
  refine (ga_stored _ _ _ _ y0 y1).trans ?_
  refine congr (congr (congrArg through (funext fun k => ?_)) (funext fun k => ?_)) (funext fun k => ?_)
  · blk_ext [iblk, idx t]
  · blk_ext [iblk, idx t]
  · pointwise
    blk_ext [iblk, idx t, partCol]

/-- A row of a result from the arguments: nothing on the padding. -/
theorem rows_at (c : Dev nD) (R : Fin 16512) :
    (fun k => V m c main_v0 (ix2 R k)) = onRows (fun r l => (m ((c : Thread nD τ).loc main_arg0) : S16400x1024.Idx → EReal) (ix2 r l)) R :=
  funext fun k => entry_h m c R k

/-- The norm's result at an index, from the arguments. -/
theorem n_at (c : Dev nD) (R : Fin 16512) (j : Fin 1024) :
    (dats m 0 c).arrAt 3 (cfgs 0).N (ix2 R j)
      = onRows (fun r l => normed (fun k => (m ((c : Thread nD τ).loc main_arg0) : S16400x1024.Idx → EReal) (ix2 r k))
          (fun k => (m ((c : Thread nD τ).loc main_arg1) : S1x1024.Idx → EReal) (ix2 0 k)) l) R j := by
  refine (congrFun (final_n m c) (ix2 R j)).trans ?_
  refine (congrFun (congr (congrArg normed (rows_at m c R)) (funext fun k => congrFun (entry_g m c) (ix2 0 k))) j).trans ?_
  by_cases h : 112 ≤ R.val
  · simp only [onRows_row_pos _ h]
  · simp only [onRows_row_neg _ h, normed_zero]

/-- A product's entry, from the arguments. -/
theorem p_at (c : Dev nD) {n : ℕ} (off : ℕ) (h : off + n ≤ 4096) (R : Fin 16512) (j : Fin n) :
    outP (n := n) off h (V m c main_v0) (V m c main_arg1) (V m c main_v2) (ix2 R j)
      = onRows (fun r l => through (fun k => (m ((c : Thread nD τ).loc main_arg0) : S16400x1024.Idx → EReal) (ix2 r k))
          (fun k => (m ((c : Thread nD τ).loc main_arg1) : S1x1024.Idx → EReal) (ix2 0 k))
          (fun k => (m ((c : Thread nD τ).loc main_arg2) : S1024x4096.Idx → EReal) (ix2 k (partCol off h l)))) R j := by
  refine (congr (congr (congrArg through (rows_at m c R)) (funext fun k => congrFun (entry_g m c) (ix2 0 k)))
    (funext fun k => entry_w m c (partCol off h j) k)).trans ?_
  by_cases h : 112 ≤ R.val
  · simp only [onRows_row_pos _ h]
  · simp only [onRows_row_neg _ h, through_zero]

/-- The scaled queries' entry, from the arguments. -/
theorem q_at (c : Dev nD) (R : Fin 16512) (j : Fin 1024) :
    outQ (V m c main_v0) (V m c main_arg1) (V m c main_v2) (ix2 R j)
      = onRows (fun r l => through (fun k => (m ((c : Thread nD τ).loc main_arg0) : S16400x1024.Idx → EReal) (ix2 r k))
          (fun k => (m ((c : Thread nD τ).loc main_arg1) : S1x1024.Idx → EReal) (ix2 0 k))
          (fun k => (m ((c : Thread nD τ).loc main_arg2) : S1024x4096.Idx → EReal) (ix2 k (partCol 0 (by omega) l)))
          * Ideal.ofBits .f32 0x3E38AA3B#32) R j := by
  refine (congrArg (fun x : EReal => x * Ideal.ofBits .f32 0x3E38AA3B#32) (p_at m c 0 (by omega) R j)).trans ?_
  by_cases h : 112 ≤ R.val
  · simp only [onRows_pos _ h]
  · simp only [onRows_neg _ h, zero_mul]

end Cert.MixProjIdeal.Entry

namespace Cert.MixProjRefIdeal.Entry

open Idealize.ShloMosaic
open Cert.MixProjRefIdeal Cert.MixProjRefIdeal.Gen Cert.Rows Cert.Norm Cert.Scalars

/-- The reference's norm, before the padding. -/
def refN (H : FVec Ideal S16400x1024 .f32) (g : FVec Ideal S1x1024 .f32) : FVec Ideal S16400x1024 .f32 :=
  mulf (mulf H (broadcastInDim S16400x1024 ![0, 1] bcast_S16400x1_S16400x1024_0_1 (Host.rsqrt (addf (Host.divf (broadcastInDim S16400x1 ![0] bcast_S16400_S16400x1_0 (Host.reduceAdd (mulf H H) (constant S_ .f32 0x00000000#32) reducesTo_S16400x1024_S16400_d1 h_S_)) (broadcastInDim S16400x1 ![] bcast_S_S16400x1 (constant S_ .f32 0x44800000#32))) (broadcastInDim S16400x1 ![] bcast_S_S16400x1 (constant S_ .f32 0x358637BD#32)))))) (broadcastInDim S16400x1024 ![0, 1] bcast_S1x1024_S16400x1024_0_1 g)

/-- The reference's product with the whole weight. -/
def refP (H : FVec Ideal S16400x1024 .f32) (g : FVec Ideal S1x1024 .f32) (w : FVec Ideal S1024x4096 .f32) : FVec Ideal S16400x4096 .f32 :=
  Host.dotGeneral dot_S16400x1024_S1024x4096_S16400x4096_1_0_0_1_n_n none (refN H g) w

theorem refN_at (H : FVec Ideal S16400x1024 .f32) (g : FVec Ideal S1x1024 .f32) (r : Fin 16400) (j : Fin 1024) :
    refN H g (ix2 r j) = normed (fun k => H (ix2 r k)) (fun k => g (ix2 0 k)) j := by
  pointwise [refN, normed, scale]

theorem refP_at (H : FVec Ideal S16400x1024 .f32) (g : FVec Ideal S1x1024 .f32) (w : FVec Ideal S1024x4096 .f32) (r : Fin 16400) (j : Fin 4096) :
    refP H g w (ix2 r j) = through (fun k => H (ix2 r k)) (fun k => g (ix2 0 k)) (fun k => w (ix2 k j)) := by
  pointwise [refP, through, refN_at]

/-- A part of the columns of a matrix, at an index. -/
theorem cols_at {n : ℕ} (off : ℕ) (x : FVec Ideal S16400x4096 .f32) (hs : S16400x4096.Slices ![0, off] ⟨2, ![16400, n]⟩)
    (h : off + n ≤ 4096) (r : Fin 16400) (j : Fin n) :
    extractStridedSlice ⟨2, ![16400, n]⟩ ![0, off] x hs (ix2 r j) = x (ix2 r (partCol off h j)) :=
  extractStridedSlice_apply _ _ _ _ _ fun a => match a with
    | ⟨0, _⟩ => (Nat.zero_add _).symm
    | ⟨1, _⟩ => rfl

/-- The reference's scaled queries, before the padding. -/
def refQ (P : FVec Ideal S16400x4096 .f32) : FVec Ideal S16400x1024 .f32 :=
  mulf (extractStridedSlice S16400x1024 ![0, 0] P slices_S16400x4096_S16400x1024_0_0) (broadcastInDim S16400x1024 ![] bcast_S_S16400x1024 (constant S_ .f32 0x3E38AA3B#32))

theorem refQ_at (P : FVec Ideal S16400x4096 .f32) (r : Fin 16400) (j : Fin 1024) :
    refQ P (ix2 r j) = P (ix2 r (partCol 0 (by omega) j)) * Ideal.ofBits .f32 0x3E38AA3B#32 := by
  refine Eq.trans ?_ (congrArg (fun x : EReal => x * Ideal.ofBits .f32 0x3E38AA3B#32) (cols_at 0 P slices_S16400x4096_S16400x1024_0_0 (by omega) r j))
  rfl

/-- The padding and the cast, at an index. -/
theorem padded_at {n : ℕ} (x : FVec Ideal ⟨2, ![16400, n]⟩ .f32) (h : (⟨2, ![16400, n]⟩ : Shape).Pads ![112, 0] ![0, 0] ![0, 0] ⟨2, ![16512, n]⟩)
    (f : Fin 16400 → Fin n → EReal) (hf : ∀ r l, x (ix2 r l) = f r l) (R : Fin 16512) (j : Fin n) :
    truncf (F := Ideal) .bf16 (pad ⟨2, ![16512, n]⟩ ![112, 0] ![0, 0] ![0, 0] x (sitofp .f32 (constantI S_ 32 0#32)) h h_S_) bitsLt_bf16_f32 (ix2 R j)
      = onRows f R j :=
  (pad_at x h h_S_ R j).trans (congrArg (fun X => onRows X R j) (funext fun r => funext fun l => hf r l))

end Cert.MixProjRefIdeal.Entry

namespace Cert

open Idealize.ShloMosaic Idealize.ShloMosaic.TcCoe Idealize.SL.Sem

/-- The call and its reference return the same arrays. -/
theorem mixproj_algebraic : Cert.algebraic_MixProjIdeal_MixProjRefIdeal := by
  intro m ρ m' ρ' _ hagree
  refine ⟨_, _, _, _, _, _, _, Cert.MixProjIdeal.Value.run_blocks m ρ, ?_⟩
  refine (θ_run Cert.MixProjRefIdeal.defs _ _).mono (fun _ h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2.1.trans ?_,
      (h c).2.2.2.2.2.2.2⟩)
    (Cert.MixProjRefIdeal.Value.run (F := Ideal) m' ρ')
  all_goals
    obtain ⟨h0, h1, h2⟩ := hagree c
    rw [h0, h1]
    try rw [h2]
    funext i
    rw [eq_ix2 i]
  · exact (Cert.MixProjRefIdeal.Entry.padded_at _ _ _ (fun r l => Cert.MixProjRefIdeal.Entry.refN_at _ _ r l) _ _).trans
      (Cert.MixProjIdeal.Entry.n_at m c _ _).symm
  · exact (Cert.MixProjRefIdeal.Entry.padded_at _ _ _ (fun r l => (Cert.MixProjRefIdeal.Entry.refQ_at
        (Cert.MixProjRefIdeal.Entry.refP _ _ _) r l).trans (congrArg (fun x : EReal => x * Ideal.ofBits .f32 0x3E38AA3B#32)
          (Cert.MixProjRefIdeal.Entry.refP_at _ _ _ r _))) _ _).trans
      ((congrFun (Cert.MixProjIdeal.Entry.final_q m c) _).trans (Cert.MixProjIdeal.Entry.q_at m c _ _)).symm
  · exact (Cert.MixProjRefIdeal.Entry.padded_at _ _ _ (fun r l => (Cert.MixProjRefIdeal.Entry.cols_at 1024
        (Cert.MixProjRefIdeal.Entry.refP _ _ _) _ (by omega) r l).trans (Cert.MixProjRefIdeal.Entry.refP_at _ _ _ r _)) _ _).trans
      ((congrFun (Cert.MixProjIdeal.Entry.final_k m c) _).trans (Cert.MixProjIdeal.Entry.p_at m c 1024 (by omega) _ _)).symm
  · exact (Cert.MixProjRefIdeal.Entry.padded_at _ _ _ (fun r l => (Cert.MixProjRefIdeal.Entry.cols_at 1280
        (Cert.MixProjRefIdeal.Entry.refP _ _ _) _ (by omega) r l).trans (Cert.MixProjRefIdeal.Entry.refP_at _ _ _ r _)) _ _).trans
      ((congrFun (Cert.MixProjIdeal.Entry.final_v m c) _).trans (Cert.MixProjIdeal.Entry.p_at m c 1280 (by omega) _ _)).symm
  · exact (Cert.MixProjRefIdeal.Entry.padded_at _ Cert.MixProjRefIdeal.Gen.pads_S16400x512_S16512x512_11200_000 _
        (fun r l => (Cert.MixProjRefIdeal.Entry.cols_at 1536
        (Cert.MixProjRefIdeal.Entry.refP _ _ _) _ (by omega) r l).trans (Cert.MixProjRefIdeal.Entry.refP_at _ _ _ r _)) _ _).trans
      ((congrFun (Cert.MixProjIdeal.Entry.final_u m c) _).trans (Cert.MixProjIdeal.Entry.p_at m c 1536 (by omega) _ _)).symm
  · exact (Cert.MixProjRefIdeal.Entry.padded_at _ _ _ (fun r l => (Cert.MixProjRefIdeal.Entry.cols_at 2048
        (Cert.MixProjRefIdeal.Entry.refP _ _ _) _ (by omega) r l).trans (Cert.MixProjRefIdeal.Entry.refP_at _ _ _ r _)) _ _).trans
      ((congrFun (Cert.MixProjIdeal.Entry.final_gs m c) _).trans (Cert.MixProjIdeal.Entry.p_at m c 2048 (by omega) _ _)).symm
  · exact (Cert.MixProjRefIdeal.Entry.padded_at _ _ _ (fun r l => (Cert.MixProjRefIdeal.Entry.cols_at 3072
        (Cert.MixProjRefIdeal.Entry.refP _ _ _) _ (by omega) r l).trans (Cert.MixProjRefIdeal.Entry.refP_at _ _ _ r _)) _ _).trans
      ((congrFun (Cert.MixProjIdeal.Entry.final_ga m c) _).trans (Cert.MixProjIdeal.Entry.p_at m c 3072 (by omega) _ _)).symm

end Cert
-- ==== Proof.MixDw.lean ====
/- The backward call of the mixer that accumulates the gradient of a square weight. -/
module

public import proofs.«01_k».proof.Proof.Gen.MixDwIdeal.Value
public import proofs.«01_k».proof.Proof.Gen.MixDwRefIdeal.Run
public import proofs.«01_k».proof.Defs
public import proofs.«01_k».proof.Proof.Scalars
public import proofs.«01_k».proof.Proof.Rows

@[expose] public section

set_option maxRecDepth 16384

noncomputable section

namespace Cert.MixDwIdeal.Entry

open Idealize.ShloMosaic Idealize.ShloMosaic.TcCoe Idealize.SL.Sem
open Cert.MixDwIdeal Cert.MixDwIdeal.Gen Cert.Rows Cert.Scalars

variable (m : (ℓ : Loc nD τ sig) → Buf (Elt Ideal) ℓ)

/-- The padded activations the call reads. -/
theorem entry_a (c : Dev nD) (R : Fin 16512) (k : Fin 1024) :
    V m c main_v1 (ix2 R k) = onRows (fun r l => (m ((c : Thread nD τ).loc main_arg0) : S16400x1024.Idx → EReal) (ix2 r l)) R k := by
  have e : (V m c main_v1 : FVec Ideal S16512x1024 .bf16) = truncf (F := Ideal) .bf16 (pad S16512x1024 ![112, 0] ![0, 0] ![0, 0]
      (m ((c : Thread nD τ).loc main_arg0) : FVec Ideal S16400x1024 .f32) (sitofp (F := Ideal) .f32 (constantI S_ 32 0#32))
      pads_S16400x1024_S16512x1024_11200_000 h_S_) bitsLt_bf16_f32 := by
    simp only [V, hostOps0, hostOps0_1, hostOps0_2, hostOps0_3, hostOps0_4, List.flatten_cons, List.flatten_nil, List.append_nil,
      List.cons_append, List.nil_append, StableHlo.TRef.unary, StableHlo.TRef.binary, StableHlo.TRef.toBuf, StableHlo.TRef.ofBuf, cast_eq]
    after_results
  exact (congrFun e (ix2 R k)).trans (pad_at _ pads_S16400x1024_S16512x1024_11200_000 h_S_ R k)

/-- The padded cotangent the call reads. -/
theorem entry_ct (c : Dev nD) (R : Fin 16512) (k : Fin 1024) :
    V m c main_v3 (ix2 R k) = onRows (fun r l => (m ((c : Thread nD τ).loc main_arg2) : S16400x1024.Idx → EReal) (ix2 r l)) R k := by
  have e : (V m c main_v3 : FVec Ideal S16512x1024 .bf16) = truncf (F := Ideal) .bf16 (pad S16512x1024 ![112, 0] ![0, 0] ![0, 0]
      (m ((c : Thread nD τ).loc main_arg2) : FVec Ideal S16400x1024 .f32) (sitofp (F := Ideal) .f32 (constantI S_ 32 0#32))
      pads_S16400x1024_S16512x1024_11200_000 h_S_) bitsLt_bf16_f32 := by
    simp only [V, hostOps0, hostOps0_1, hostOps0_2, hostOps0_3, hostOps0_4, List.flatten_cons, List.flatten_nil, List.append_nil,
      List.cons_append, List.nil_append, StableHlo.TRef.unary, StableHlo.TRef.binary, StableHlo.TRef.toBuf, StableHlo.TRef.ofBuf, cast_eq]
    after_results
  exact (congrFun e (ix2 R k)).trans (pad_at _ pads_S16400x1024_S16512x1024_11200_000 h_S_ R k)

/-- The block of each window at a point. -/
theorem idx : ∀ t : Fin cfg0.N, win0_0.index t = ![t.val % 6, t.val / 6] ∧ win0_1.index t = ![t.val % 6, 0] ∧ win0_2.index t = ![t.val / 6, 0]
     := (by decide +kernel : ∀ t : Fin grid0.N, _)

/-- The product of a point's blocks. -/
theorem part_at (x : FVec Ideal S2752x1024 .bf16) (y : FVec Ideal S2752x1024 .bf16) (i : S1024x1024.Idx) :
    k0_pay2 (F := Ideal) x y i = ∑ k : Fin 2752, x (ix2 k (i 0)) * y (ix2 k (i 1)) := by
  pointwise [k0_pay2, k0_pay1]

/-- An accumulating store. -/
theorem step_at (x : FVec Ideal S2752x1024 .bf16) (y : FVec Ideal S2752x1024 .bf16) (acc : FVec Ideal S1024x1024 .f32) (i : S1024x1024.Idx) :
    k0_pay3 (F := Ideal) x y acc i = acc i + ∑ k : Fin 2752, x (ix2 k (i 0)) * y (ix2 k (i 1)) := by
  pointwise [k0_pay3, k0_pay1]

/-- The store of the last point of a run. -/
theorem last_at (x : FVec Ideal S2752x1024 .bf16) (y : FVec Ideal S2752x1024 .bf16) (acc : FVec Ideal S1024x1024 .f32) (i : S1024x1024.Idx) :
    k0_pay4 (F := Ideal) x y acc i = acc i + ∑ k : Fin 2752, x (ix2 k (i 0)) * y (ix2 k (i 1)) := by
  pointwise [k0_pay4, k0_pay1, ofBits_one]
  exact mul_one _

/-- The running sum: the scratch block, and at the last point of a run the stored block. -/
def running (c : Dev nD) (n : ℕ) (hn : n < cfg0.N) : S1024x1024.Idx → EReal :=
  if n % 6 = 5 then (outsAt0 m c n hn).1 else (outsAt0 m c n hn).2

/-- What a point adds. -/
def part (c : Dev nD) (t : Fin cfg0.N) : S1024x1024.Idx → EReal :=
  fun i => dot (n := 2752) (fun k => iblk m c 0 t (ix2 k (i 0))) (fun k => iblk m c 1 t (ix2 k (i 1)))

theorem running_reset (c : Dev nD) (t : Fin cfg0.N) (h : t.val % 6 = 0) (i) : running m c t.val t.isLt i = (0 : EReal) + part m c t i := by
  unfold running
  rw [if_neg (by omega), outsAt0_A m c t h (by omega) (by omega)]
  frame_out
  exact (part_at _ _ i).trans (zero_add _).symm

theorem running_step (c : Dev nD) (t : Fin cfg0.N) (h : ¬t.val % 6 = 0) (i) :
    running m c t.val t.isLt i = running m c (t.val - 1) (Nat.lt_of_le_of_lt (Nat.sub_le _ _) t.isLt) i + part m c t i := by
  unfold running
  rw [if_neg (c := (t.val - 1) % 6 = 5) (by omega)]
  by_cases h5 : t.val % 6 = 5
  · rw [if_pos h5, outsAt0_C m c t h (by omega) h5]
    frame_out
    refine (last_at _ _ _ i).trans ?_
    exact congrArg (fun x : EReal => x + part m c t i) (congrFun (Memref.IsWhole.read_unread (Memref.isWhole_whole cc0_scratch0) _) i)
  · rw [if_neg h5, outsAt0_B m c t h (by omega) h5]
    frame_out
    refine (step_at _ _ _ i).trans ?_
    exact congrArg (fun x : EReal => x + part m c t i) (congrFun (Memref.IsWhole.read_unread (Memref.isWhole_whole cc0_scratch0) _) i)

/-- The whole result, from the arrays the call reads. -/
def out (A : FVec Ideal S16512x1024 .bf16) (C : FVec Ideal S16512x1024 .bf16) : FVec Ideal S1024x1024 .bf16 :=
  fun i => dot (fun R => A (ix2 R (i 0))) (fun R => C (ix2 R (i 1)))

/-- The result array after the run. -/
theorem final (c : Dev nD) : (dats m 0 c).arrAt 2 (cfgs 0).N = out (V m c main_v1) (V m c main_v3) := by
  refine (dats m 0 c).arrAt_eq_of_covers 2 _ (by decide +kernel) fun t hf y => ?_
  blk_simp
  rw [after0_2]
  have hm : t.val % 6 = 5 := (flush0_2 t).mp hf
  have e : (outsAt0 m c t.val t.isLt).1 = running m c t.val t.isLt := by
    unfold running
    rw [if_pos hm]
  rw [e]
  rw [Pipeline.eq_sum_fin_of_reset_step_apply_of_flush (fun n h => running m c n h) 6 (fun _ => 0) (fun t => part m c t)
    (fun t h j => running_reset m c t h j) (fun t h j => running_step m c t h j) t hm _, zero_add]
  unfold part out dot
  refine Fin.sum_mul_add_congr fun s k hl => ?_
  refine congr (congrArg (fun x y : EReal => x * y) ?_) ?_
  · blk_ext [iblk, idx ⟨_, Pipeline.run_point_lt_of_flush t hm s⟩, idx t]
  · blk_ext [iblk, idx ⟨_, Pipeline.run_point_lt_of_flush t hm s⟩, idx t]

/-- The result at an index, from the arguments. -/
theorem final_at (c : Dev nD) (k : Fin 1024) (j : Fin 1024) :
    (dats m 0 c).arrAt 2 (cfgs 0).N (ix2 k j)
      = dot (fun r => (m ((c : Thread nD τ).loc main_arg2) : S16400x1024.Idx → EReal) (ix2 r j))
          (fun r => (m ((c : Thread nD τ).loc main_arg0) : S16400x1024.Idx → EReal) (ix2 r k)) := by
  refine (congrFun (final m c) (ix2 k j)).trans ?_
  refine (congr (congrArg dot (funext fun R => entry_a m c R k)) (funext fun R => entry_ct m c R j)).trans ?_
  exact dot_onRows _ _ k j

end Cert.MixDwIdeal.Entry

namespace Cert.MixDwRefIdeal.Entry

open Idealize.ShloMosaic
open Cert.MixDwRefIdeal Cert.MixDwRefIdeal.Gen Cert.Rows

/-- The reference's result at an index. -/
theorem result_at (A : FVec Ideal S16400x1024 .f32) (C : FVec Ideal S16400x1024 .f32) (k : Fin 1024) (j : Fin 1024) :
    truncf (F := Ideal) .bf16 (transpose S1024x1024 [1, 0] (Host.dotGeneral dot_S16400x1024_S16400x1024_S1024x1024_0_0_1_1_n_n none C A)
        transposes_S1024x1024_S1024x1024_1_0) bitsLt_bf16_f32 (ix2 k j)
      = dot (fun r => C (ix2 r j)) (fun r => A (ix2 r k)) := by
  unfold dot
  pointwise

end Cert.MixDwRefIdeal.Entry

namespace Cert

open Idealize.ShloMosaic Idealize.ShloMosaic.TcCoe Idealize.SL.Sem

/-- The call and its reference return the same array. -/
theorem mixdw_algebraic : Cert.algebraic_MixDwIdeal_MixDwRefIdeal := by
  intro m ρ m' ρ' _ hagree
  refine ⟨_, Cert.MixDwIdeal.Value.run_blocks m ρ, ?_⟩
  refine (θ_run Cert.MixDwRefIdeal.defs _ _).mono (fun _ h c => ⟨(h c).1.trans ?_, (h c).2⟩)
    (Cert.MixDwRefIdeal.Value.run (F := Ideal) m' ρ')
  obtain ⟨h0, h1, h2⟩ := hagree c
  rw [h0, h2]
  funext i
  rw [eq_ix2 i]
  exact (Cert.MixDwRefIdeal.Entry.result_at _ _ _ _).trans (Cert.MixDwIdeal.Entry.final_at m c _ _).symm

end Cert
-- ==== Proof.Adam.lean ====
/- The optimiser's step on one entry of a weight: its two running moments and the weight's change. -/
module

public import Idealize.ShloMosaic.Lib.Pipeline.ValueKit

@[expose] public section

noncomputable section

namespace Cert.Adam

open Idealize.ShloMosaic

/-- The constant a word stands for. -/
def word (b : BitVec 32) : EReal := Scalar.ofBits (F := Ideal) .f32 b

/-- The new first moment, from the gradient's entry and the old moment's. -/
def newM (g a : EReal) : EReal :=
  FloatOps.addf (F := Ideal) (φ := .f32) (FloatOps.mulf (F := Ideal) (φ := .f32) (word 0x3F666666#32) a)
    (FloatOps.mulf (F := Ideal) (φ := .f32) (word 0x3DCCCCCD#32) g)

/-- The new second moment, from the gradient's entry and the old moment's. -/
def newV (g b : EReal) : EReal :=
  FloatOps.addf (F := Ideal) (φ := .f32) (FloatOps.mulf (F := Ideal) (φ := .f32) (word 0x3F7FBE77#32) b)
    (FloatOps.mulf (F := Ideal) (φ := .f32) (word 0x3A83126F#32) (FloatOps.mulf (F := Ideal) (φ := .f32) g g))

/-- The weight's change, from the entries of the weight, its gradient and its two old moments. -/
def delta (w g a b : EReal) : EReal :=
  FloatOps.mulf (F := Ideal) (φ := .f32) (word 0xBA83126F#32) (FloatOps.addf (F := Ideal) (φ := .f32)
    (FloatOps.divf (F := Ideal) (φ := .f32) (FloatOps.divf (F := Ideal) (φ := .f32) (newM g a) (word 0x3F26BD02#32))
      (FloatOps.addf (F := Ideal) (φ := .f32) (FloatOps.sqrt (F := Ideal) (φ := .f32)
        (FloatOps.divf (F := Ideal) (φ := .f32) (newV g b) (word 0x3C231ACC#32))) (word 0x322BCC77#32)))
    (FloatOps.mulf (F := Ideal) (φ := .f32) (word 0x3C23D70A#32) w))

/-- The new first moments of a whole array. -/
def allM {s : Shape} (g a : FVec Ideal s .f32) : FVec Ideal s .f32 := fun i => newM (g i) (a i)

/-- The new second moments of a whole array. -/
def allV {s : Shape} (g b : FVec Ideal s .f32) : FVec Ideal s .f32 := fun i => newV (g i) (b i)

/-- The change of a whole array. -/
def allD {s : Shape} (w g a b : FVec Ideal s .f32) : FVec Ideal s .f32 := fun i => delta (w i) (g i) (a i) (b i)

theorem newM_congr {g g' a a' : EReal} (hg : g = g') (ha : a = a') : newM g a = newM g' a' := by rw [hg, ha]

theorem newV_congr {g g' b b' : EReal} (hg : g = g') (hb : b = b') : newV g b = newV g' b' := by rw [hg, hb]

theorem delta_congr {w w' g g' a a' b b' : EReal} (hw : w = w') (hg : g = g') (ha : a = a') (hb : b = b') :
    delta w g a b = delta w' g' a' b' := by rw [hw, hg, ha, hb]

end Cert.Adam
-- ==== Proof.AdMeta.lean ====
/- The optimiser's call for the rows the model adds before a sequence. -/
module

public import proofs.«01_k».proof.Proof.Gen.AdMetaIdeal.Value
public import proofs.«01_k».proof.Proof.Gen.AdMetaRefIdeal.Run
public import proofs.«01_k».proof.Defs
public import proofs.«01_k».proof.Proof.Adam

@[expose] public section

set_option maxRecDepth 16384

noncomputable section

namespace Cert

open Idealize.ShloMosaic Idealize.ShloMosaic.TcCoe Idealize.SL.Sem

/-- The call and its reference return the same arrays. -/
theorem admeta_algebraic : Cert.algebraic_AdMetaIdeal_AdMetaRefIdeal := by
  intro m ρ m' ρ' _ hagree
  refine ⟨_, _, _, Cert.AdMetaIdeal.Value.run m ρ, ?_⟩
  refine (θ_run Cert.AdMetaRefIdeal.defs _ _).mono (fun _ h c => ⟨(h c).1.trans ?_, (h c).2.1.trans ?_, (h c).2.2.1.trans ?_,
      (h c).2.2.2⟩)
    (Cert.AdMetaRefIdeal.Value.run (F := Ideal) m' ρ')
  all_goals
    obtain ⟨h0, h1, h2, h3⟩ := hagree c
  · rw [h0, h1, h2, h3]
    rfl
  · rw [h1, h2]
    rfl
  · rw [h1, h3]
    rfl

end Cert
-- ==== Proof.AdNorm.lean ====
/- The optimiser's call for the gains. -/
module

public import proofs.«01_k».proof.Proof.Gen.AdNormIdeal.Value
public import proofs.«01_k».proof.Proof.Gen.AdNormRefIdeal.Run
public import proofs.«01_k».proof.Defs
public import proofs.«01_k».proof.Proof.Adam

@[expose] public section

set_option maxRecDepth 16384

noncomputable section

namespace Cert

open Idealize.ShloMosaic Idealize.ShloMosaic.TcCoe Idealize.SL.Sem

/-- The call and its reference return the same arrays. -/
theorem adnorm_algebraic : Cert.algebraic_AdNormIdeal_AdNormRefIdeal := by
  intro m ρ m' ρ' _ hagree
  refine ⟨_, _, _, Cert.AdNormIdeal.Value.run m ρ, ?_⟩
  refine (θ_run Cert.AdNormRefIdeal.defs _ _).mono (fun _ h c => ⟨(h c).1.trans ?_, (h c).2.1.trans ?_, (h c).2.2.1.trans ?_,
      (h c).2.2.2⟩)
    (Cert.AdNormRefIdeal.Value.run (F := Ideal) m' ρ')
  all_goals
    obtain ⟨h0, h1, h2, h3⟩ := hagree c
  · rw [h0, h1, h2, h3]
    rfl
  · rw [h1, h2]
    rfl
  · rw [h1, h3]
    rfl

end Cert
-- ==== Proof.AdUp.lean ====
/- The optimiser's call for the feed-forwards' gate and up weights. -/
module

public import proofs.«01_k».proof.Proof.Gen.AdUpIdeal.Value
public import proofs.«01_k».proof.Proof.Gen.AdUpRefIdeal.Run
public import proofs.«01_k».proof.Defs
public import proofs.«01_k».proof.Proof.Adam

@[expose] public section

set_option maxRecDepth 16384

noncomputable section

namespace Cert.AdUpIdeal.Entry

open Idealize.ShloMosaic Idealize.ShloMosaic.TcCoe Idealize.SL.Sem
open Cert.AdUpIdeal Cert.AdUpIdeal.Gen Cert.Adam

variable (m : (ℓ : Loc nD τ sig) → Buf (Elt Ideal) ℓ)

/-- What window 0 reads: the argument, its leading axes run together. -/
theorem entry_0 (c : Dev nD) : (V m c main_v0 : FVec Ideal S4096x352 .f32)
    = shapeCast S4096x352 (m ((c : Thread nD τ).loc main_arg0) : FVec Ideal S4x1024x352 .f32) shapeCasts_S4x1024x352_S4096x352 := by
  simp only [V, hostOps0, List.flatten_cons, List.flatten_nil, List.append_nil, List.cons_append, List.nil_append]
  after_results
  rfl

/-- What window 1 reads: the argument, its leading axes run together. -/
theorem entry_1 (c : Dev nD) : (V m c main_v1 : FVec Ideal S4096x352 .f32)
    = shapeCast S4096x352 (m ((c : Thread nD τ).loc main_arg1) : FVec Ideal S4x1024x352 .f32) shapeCasts_S4x1024x352_S4096x352 := by
  simp only [V, hostOps0, List.flatten_cons, List.flatten_nil, List.append_nil, List.cons_append, List.nil_append]
  after_results
  rfl

/-- What window 2 reads: the argument, its leading axes run together. -/
theorem entry_2 (c : Dev nD) : (V m c main_v2 : FVec Ideal S4096x352 .f32)
    = shapeCast S4096x352 (m ((c : Thread nD τ).loc main_arg2) : FVec Ideal S4x1024x352 .f32) shapeCasts_S4x1024x352_S4096x352 := by
  simp only [V, hostOps0, List.flatten_cons, List.flatten_nil, List.append_nil, List.cons_append, List.nil_append]
  after_results
  rfl

/-- What window 3 reads: the argument, its leading axes run together. -/
theorem entry_3 (c : Dev nD) : (V m c main_v3 : FVec Ideal S4096x352 .f32)
    = shapeCast S4096x352 (m ((c : Thread nD τ).loc main_arg3) : FVec Ideal S4x1024x352 .f32) shapeCasts_S4x1024x352_S4096x352 := by
  simp only [V, hostOps0, List.flatten_cons, List.flatten_nil, List.append_nil, List.cons_append, List.nil_append]
  after_results
  rfl

/-- The block of each window at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The stored first moments of a block. -/
theorem pay_m (g a : FVec Ideal S1024x352 .f32) : k0_pay2 (F := Ideal) g a = allM g a := by
  simp only [k0_pay2, k0_pay1, shapeCast_self]
  rfl

/-- The stored second moments of a block. -/
theorem pay_v (g b : FVec Ideal S1024x352 .f32) : k0_pay3 (F := Ideal) g b = allV g b := by
  simp only [k0_pay3, k0_pay1, shapeCast_self]
  rfl

/-- The stored changes of a block. -/
theorem pay_d (w g a b : FVec Ideal S1024x352 .f32) : k0_pay4 (F := Ideal) g a b w = allD w g a b := by
  simp only [k0_pay4, pay_m, pay_v, shapeCast_self]
  rfl

/-- The array of changes after the run. -/
theorem final_d (c : Dev nD) : (dats m 0 c).arrAt 4 (cfgs 0).N
    = (allD (V m c main_v0 : FVec Ideal S4096x352 .f32) (V m c main_v1) (V m c main_v2) (V m c main_v3) : FVec Ideal S4096x352 .f32) := by
  refine (dats m 0 c).arrAt_eq_of_covers 4 _ (by decide +kernel) fun t _ y => ?_
  blk_simp
  rw [after0_4]; frame_out
  idx_vars y
  refine (congrFun (pay_d _ _ _ _) (ix2 y0 y1)).trans ?_
  refine delta_congr ?_ ?_ ?_ ?_
  · blk_ext [iblk, idx t]
  · blk_ext [iblk, idx t]
  · blk_ext [iblk, idx t]
  · blk_ext [iblk, idx t]

/-- The array of first moments after the run. -/
theorem final_m (c : Dev nD) : (dats m 0 c).arrAt 5 (cfgs 0).N
    = (allM (V m c main_v1 : FVec Ideal S4096x352 .f32) (V m c main_v2) : FVec Ideal S4096x352 .f32) := by
  refine (dats m 0 c).arrAt_eq_of_covers 5 _ (by decide +kernel) fun t _ y => ?_
  blk_simp
  rw [after0_5]; frame_out
  idx_vars y
  refine (congrFun (pay_m _ _) (ix2 y0 y1)).trans ?_
  refine newM_congr ?_ ?_
  · blk_ext [iblk, idx t]
  · blk_ext [iblk, idx t]

/-- The array of second moments after the run. -/
theorem final_v (c : Dev nD) : (dats m 0 c).arrAt 6 (cfgs 0).N
    = (allV (V m c main_v1 : FVec Ideal S4096x352 .f32) (V m c main_v3) : FVec Ideal S4096x352 .f32) := by
  refine (dats m 0 c).arrAt_eq_of_covers 6 _ (by decide +kernel) fun t _ y => ?_
  blk_simp
  rw [after0_6]; frame_out
  idx_vars y
  refine (congrFun (pay_v _ _) (ix2 y0 y1)).trans ?_
  refine newV_congr ?_ ?_
  · blk_ext [iblk, idx t]
  · blk_ext [iblk, idx t]

end Cert.AdUpIdeal.Entry

namespace Cert

open Idealize.ShloMosaic Idealize.ShloMosaic.TcCoe Idealize.SL.Sem

/-- The call and its reference return the same arrays. -/
theorem adup_algebraic : Cert.algebraic_AdUpIdeal_AdUpRefIdeal := by
  intro m ρ m' ρ' _ hagree
  refine ⟨_, _, _, Cert.AdUpIdeal.Value.run_blocks m ρ, ?_⟩
  refine (θ_run Cert.AdUpRefIdeal.defs _ _).mono (fun _ h c => ⟨(h c).1.trans ?_, (h c).2.1.trans ?_, (h c).2.2.1.trans ?_,
      (h c).2.2.2⟩)
    (Cert.AdUpRefIdeal.Value.run (F := Ideal) m' ρ')
  all_goals
    obtain ⟨h0, h1, h2, h3⟩ := hagree c
  · rw [h0, h1, h2, h3]
    refine Eq.trans ?_ (Cert.AdUpIdeal.Entry.final_d m c).symm
    rw [Cert.AdUpIdeal.Entry.entry_0, Cert.AdUpIdeal.Entry.entry_1, Cert.AdUpIdeal.Entry.entry_2, Cert.AdUpIdeal.Entry.entry_3]
    rfl
  · rw [h1, h2]
    refine Eq.trans ?_ (Cert.AdUpIdeal.Entry.final_m m c).symm
    rw [Cert.AdUpIdeal.Entry.entry_1, Cert.AdUpIdeal.Entry.entry_2]
    rfl
  · rw [h1, h3]
    refine Eq.trans ?_ (Cert.AdUpIdeal.Entry.final_v m c).symm
    rw [Cert.AdUpIdeal.Entry.entry_1, Cert.AdUpIdeal.Entry.entry_3]
    rfl

end Cert
-- ==== Proof.AdDown.lean ====
/- The optimiser's call for the feed-forwards' down weights. -/
module

public import proofs.«01_k».proof.Proof.Gen.AdDownIdeal.Value
public import proofs.«01_k».proof.Proof.Gen.AdDownRefIdeal.Run
public import proofs.«01_k».proof.Defs
public import proofs.«01_k».proof.Proof.Adam

@[expose] public section

set_option maxRecDepth 16384

noncomputable section

namespace Cert.AdDownIdeal.Entry

open Idealize.ShloMosaic Idealize.ShloMosaic.TcCoe Idealize.SL.Sem
open Cert.AdDownIdeal Cert.AdDownIdeal.Gen Cert.Adam

variable (m : (ℓ : Loc nD τ sig) → Buf (Elt Ideal) ℓ)

/-- What window 0 reads: the argument, its leading axes run together. -/
theorem entry_0 (c : Dev nD) : (V m c main_v0 : FVec Ideal S1408x1024 .f32)
    = shapeCast S1408x1024 (m ((c : Thread nD τ).loc main_arg0) : FVec Ideal S4x352x1024 .f32) shapeCasts_S4x352x1024_S1408x1024 := by
  simp only [V, hostOps0, List.flatten_cons, List.flatten_nil, List.append_nil, List.cons_append, List.nil_append]
  after_results
  rfl

/-- What window 1 reads: the argument, its leading axes run together. -/
theorem entry_1 (c : Dev nD) : (V m c main_v1 : FVec Ideal S1408x1024 .f32)
    = shapeCast S1408x1024 (m ((c : Thread nD τ).loc main_arg1) : FVec Ideal S4x352x1024 .f32) shapeCasts_S4x352x1024_S1408x1024 := by
  simp only [V, hostOps0, List.flatten_cons, List.flatten_nil, List.append_nil, List.cons_append, List.nil_append]
  after_results
  rfl

/-- What window 2 reads: the argument, its leading axes run together. -/
theorem entry_2 (c : Dev nD) : (V m c main_v2 : FVec Ideal S1408x1024 .f32)
    = shapeCast S1408x1024 (m ((c : Thread nD τ).loc main_arg2) : FVec Ideal S4x352x1024 .f32) shapeCasts_S4x352x1024_S1408x1024 := by
  simp only [V, hostOps0, List.flatten_cons, List.flatten_nil, List.append_nil, List.cons_append, List.nil_append]
  after_results
  rfl

/-- What window 3 reads: the argument, its leading axes run together. -/
theorem entry_3 (c : Dev nD) : (V m c main_v3 : FVec Ideal S1408x1024 .f32)
    = shapeCast S1408x1024 (m ((c : Thread nD τ).loc main_arg3) : FVec Ideal S4x352x1024 .f32) shapeCasts_S4x352x1024_S1408x1024 := by
  simp only [V, hostOps0, List.flatten_cons, List.flatten_nil, List.append_nil, List.cons_append, List.nil_append]
  after_results
  rfl

/-- The block of each window at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The stored first moments of a block. -/
theorem pay_m (g a : FVec Ideal S704x1024 .f32) : k0_pay2 (F := Ideal) g a = allM g a := by
  simp only [k0_pay2, k0_pay1, shapeCast_self]
  rfl

/-- The stored second moments of a block. -/
theorem pay_v (g b : FVec Ideal S704x1024 .f32) : k0_pay3 (F := Ideal) g b = allV g b := by
  simp only [k0_pay3, k0_pay1, shapeCast_self]
  rfl

/-- The stored changes of a block. -/
theorem pay_d (w g a b : FVec Ideal S704x1024 .f32) : k0_pay4 (F := Ideal) g a b w = allD w g a b := by
  simp only [k0_pay4, pay_m, pay_v, shapeCast_self]
  rfl

/-- The array of changes after the run. -/
theorem final_d (c : Dev nD) : (dats m 0 c).arrAt 4 (cfgs 0).N
    = (allD (V m c main_v0 : FVec Ideal S1408x1024 .f32) (V m c main_v1) (V m c main_v2) (V m c main_v3) : FVec Ideal S1408x1024 .f32) := by
  refine (dats m 0 c).arrAt_eq_of_covers 4 _ (by decide +kernel) fun t _ y => ?_
  blk_simp
  rw [after0_4]; frame_out
  idx_vars y
  refine (congrFun (pay_d _ _ _ _) (ix2 y0 y1)).trans ?_
  refine delta_congr ?_ ?_ ?_ ?_
  · blk_ext [iblk, idx t]
  · blk_ext [iblk, idx t]
  · blk_ext [iblk, idx t]
  · blk_ext [iblk, idx t]

/-- The array of first moments after the run. -/
theorem final_m (c : Dev nD) : (dats m 0 c).arrAt 5 (cfgs 0).N
    = (allM (V m c main_v1 : FVec Ideal S1408x1024 .f32) (V m c main_v2) : FVec Ideal S1408x1024 .f32) := by
  refine (dats m 0 c).arrAt_eq_of_covers 5 _ (by decide +kernel) fun t _ y => ?_
  blk_simp
  rw [after0_5]; frame_out
  idx_vars y
  refine (congrFun (pay_m _ _) (ix2 y0 y1)).trans ?_
  refine newM_congr ?_ ?_
  · blk_ext [iblk, idx t]
  · blk_ext [iblk, idx t]

/-- The array of second moments after the run. -/
theorem final_v (c : Dev nD) : (dats m 0 c).arrAt 6 (cfgs 0).N
    = (allV (V m c main_v1 : FVec Ideal S1408x1024 .f32) (V m c main_v3) : FVec Ideal S1408x1024 .f32) := by
  refine (dats m 0 c).arrAt_eq_of_covers 6 _ (by decide +kernel) fun t _ y => ?_
  blk_simp
  rw [after0_6]; frame_out
  idx_vars y
  refine (congrFun (pay_v _ _) (ix2 y0 y1)).trans ?_
  refine newV_congr ?_ ?_
  · blk_ext [iblk, idx t]
  · blk_ext [iblk, idx t]

end Cert.AdDownIdeal.Entry

namespace Cert

open Idealize.ShloMosaic Idealize.ShloMosaic.TcCoe Idealize.SL.Sem

/-- The call and its reference return the same arrays. -/
theorem addown_algebraic : Cert.algebraic_AdDownIdeal_AdDownRefIdeal := by
  intro m ρ m' ρ' _ hagree
  refine ⟨_, _, _, Cert.AdDownIdeal.Value.run_blocks m ρ, ?_⟩
  refine (θ_run Cert.AdDownRefIdeal.defs _ _).mono (fun _ h c => ⟨(h c).1.trans ?_, (h c).2.1.trans ?_, (h c).2.2.1.trans ?_,
      (h c).2.2.2⟩)
    (Cert.AdDownRefIdeal.Value.run (F := Ideal) m' ρ')
  all_goals
    obtain ⟨h0, h1, h2, h3⟩ := hagree c
  · rw [h0, h1, h2, h3]
    refine Eq.trans ?_ (Cert.AdDownIdeal.Entry.final_d m c).symm
    rw [Cert.AdDownIdeal.Entry.entry_0, Cert.AdDownIdeal.Entry.entry_1, Cert.AdDownIdeal.Entry.entry_2, Cert.AdDownIdeal.Entry.entry_3]
    rfl
  · rw [h1, h2]
    refine Eq.trans ?_ (Cert.AdDownIdeal.Entry.final_m m c).symm
    rw [Cert.AdDownIdeal.Entry.entry_1, Cert.AdDownIdeal.Entry.entry_2]
    rfl
  · rw [h1, h3]
    refine Eq.trans ?_ (Cert.AdDownIdeal.Entry.final_v m c).symm
    rw [Cert.AdDownIdeal.Entry.entry_1, Cert.AdDownIdeal.Entry.entry_3]
    rfl

end Cert
-- ==== Proof.AdWin.lean ====
/- The optimiser's call for the mixers' input weights. -/
module

public import proofs.«01_k».proof.Proof.Gen.AdWinIdeal.Value
public import proofs.«01_k».proof.Proof.Gen.AdWinRefIdeal.Run
public import proofs.«01_k».proof.Defs
public import proofs.«01_k».proof.Proof.Adam

@[expose] public section

set_option maxRecDepth 16384

noncomputable section

namespace Cert.AdWinIdeal.Entry

open Idealize.ShloMosaic Idealize.ShloMosaic.TcCoe Idealize.SL.Sem
open Cert.AdWinIdeal Cert.AdWinIdeal.Gen Cert.Adam

variable (m : (ℓ : Loc nD τ sig) → Buf (Elt Ideal) ℓ)

/-- What window 0 reads: the argument, its leading axes run together. -/
theorem entry_0 (c : Dev nD) : (V m c main_v0 : FVec Ideal S4096x512 .f32)
    = shapeCast S4096x512 (m ((c : Thread nD τ).loc main_arg0) : FVec Ideal S4x1024x512 .f32) shapeCasts_S4x1024x512_S4096x512 := by
  simp only [V, hostOps0, List.flatten_cons, List.flatten_nil, List.append_nil, List.cons_append, List.nil_append]
  after_results
  rfl

/-- What window 1 reads: the argument, its leading axes run together. -/
theorem entry_1 (c : Dev nD) : (V m c main_v1 : FVec Ideal S4096x512 .f32)
    = shapeCast S4096x512 (m ((c : Thread nD τ).loc main_arg1) : FVec Ideal S4x1024x512 .f32) shapeCasts_S4x1024x512_S4096x512 := by
  simp only [V, hostOps0, List.flatten_cons, List.flatten_nil, List.append_nil, List.cons_append, List.nil_append]
  after_results
  rfl

/-- What window 2 reads: the argument, its leading axes run together. -/
theorem entry_2 (c : Dev nD) : (V m c main_v2 : FVec Ideal S4096x512 .f32)
    = shapeCast S4096x512 (m ((c : Thread nD τ).loc main_arg2) : FVec Ideal S4x1024x512 .f32) shapeCasts_S4x1024x512_S4096x512 := by
  simp only [V, hostOps0, List.flatten_cons, List.flatten_nil, List.append_nil, List.cons_append, List.nil_append]
  after_results
  rfl

/-- What window 3 reads: the argument, its leading axes run together. -/
theorem entry_3 (c : Dev nD) : (V m c main_v3 : FVec Ideal S4096x512 .f32)
    = shapeCast S4096x512 (m ((c : Thread nD τ).loc main_arg3) : FVec Ideal S4x1024x512 .f32) shapeCasts_S4x1024x512_S4096x512 := by
  simp only [V, hostOps0, List.flatten_cons, List.flatten_nil, List.append_nil, List.cons_append, List.nil_append]
  after_results
  rfl

/-- The block of each window at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The stored first moments of a block. -/
theorem pay_m (g a : FVec Ideal S1024x512 .f32) : k0_pay2 (F := Ideal) g a = allM g a := by
  simp only [k0_pay2, k0_pay1, shapeCast_self]
  rfl

/-- The stored second moments of a block. -/
theorem pay_v (g b : FVec Ideal S1024x512 .f32) : k0_pay3 (F := Ideal) g b = allV g b := by
  simp only [k0_pay3, k0_pay1, shapeCast_self]
  rfl

/-- The stored changes of a block. -/
theorem pay_d (w g a b : FVec Ideal S1024x512 .f32) : k0_pay4 (F := Ideal) g a b w = allD w g a b := by
  simp only [k0_pay4, pay_m, pay_v, shapeCast_self]
  rfl

/-- The array of changes after the run. -/
theorem final_d (c : Dev nD) : (dats m 0 c).arrAt 4 (cfgs 0).N
    = (allD (V m c main_v0 : FVec Ideal S4096x512 .f32) (V m c main_v1) (V m c main_v2) (V m c main_v3) : FVec Ideal S4096x512 .f32) := by
  refine (dats m 0 c).arrAt_eq_of_covers 4 _ (by decide +kernel) fun t _ y => ?_
  blk_simp
  rw [after0_4]; frame_out
  idx_vars y
  refine (congrFun (pay_d _ _ _ _) (ix2 y0 y1)).trans ?_
  refine delta_congr ?_ ?_ ?_ ?_
  · blk_ext [iblk, idx t]
  · blk_ext [iblk, idx t]
  · blk_ext [iblk, idx t]
  · blk_ext [iblk, idx t]

/-- The array of first moments after the run. -/
theorem final_m (c : Dev nD) : (dats m 0 c).arrAt 5 (cfgs 0).N
    = (allM (V m c main_v1 : FVec Ideal S4096x512 .f32) (V m c main_v2) : FVec Ideal S4096x512 .f32) := by
  refine (dats m 0 c).arrAt_eq_of_covers 5 _ (by decide +kernel) fun t _ y => ?_
  blk_simp
  rw [after0_5]; frame_out
  idx_vars y
  refine (congrFun (pay_m _ _) (ix2 y0 y1)).trans ?_
  refine newM_congr ?_ ?_
  · blk_ext [iblk, idx t]
  · blk_ext [iblk, idx t]

/-- The array of second moments after the run. -/
theorem final_v (c : Dev nD) : (dats m 0 c).arrAt 6 (cfgs 0).N
    = (allV (V m c main_v1 : FVec Ideal S4096x512 .f32) (V m c main_v3) : FVec Ideal S4096x512 .f32) := by
  refine (dats m 0 c).arrAt_eq_of_covers 6 _ (by decide +kernel) fun t _ y => ?_
  blk_simp
  rw [after0_6]; frame_out
  idx_vars y
  refine (congrFun (pay_v _ _) (ix2 y0 y1)).trans ?_
  refine newV_congr ?_ ?_
  · blk_ext [iblk, idx t]
  · blk_ext [iblk, idx t]

end Cert.AdWinIdeal.Entry

namespace Cert

open Idealize.ShloMosaic Idealize.ShloMosaic.TcCoe Idealize.SL.Sem

/-- The call and its reference return the same arrays. -/
theorem adwin_algebraic : Cert.algebraic_AdWinIdeal_AdWinRefIdeal := by
  intro m ρ m' ρ' _ hagree
  refine ⟨_, _, _, Cert.AdWinIdeal.Value.run_blocks m ρ, ?_⟩
  refine (θ_run Cert.AdWinRefIdeal.defs _ _).mono (fun _ h c => ⟨(h c).1.trans ?_, (h c).2.1.trans ?_, (h c).2.2.1.trans ?_,
      (h c).2.2.2⟩)
    (Cert.AdWinRefIdeal.Value.run (F := Ideal) m' ρ')
  all_goals
    obtain ⟨h0, h1, h2, h3⟩ := hagree c
  · rw [h0, h1, h2, h3]
    refine Eq.trans ?_ (Cert.AdWinIdeal.Entry.final_d m c).symm
    rw [Cert.AdWinIdeal.Entry.entry_0, Cert.AdWinIdeal.Entry.entry_1, Cert.AdWinIdeal.Entry.entry_2, Cert.AdWinIdeal.Entry.entry_3]
    rfl
  · rw [h1, h2]
    refine Eq.trans ?_ (Cert.AdWinIdeal.Entry.final_m m c).symm
    rw [Cert.AdWinIdeal.Entry.entry_1, Cert.AdWinIdeal.Entry.entry_2]
    rfl
  · rw [h1, h3]
    refine Eq.trans ?_ (Cert.AdWinIdeal.Entry.final_v m c).symm
    rw [Cert.AdWinIdeal.Entry.entry_1, Cert.AdWinIdeal.Entry.entry_3]
    rfl

end Cert
-- ==== Proof.AdLam.lean ====
/- The optimiser's call for the state-space poles. -/
module

public import proofs.«01_k».proof.Proof.Gen.AdLamIdeal.Value
public import proofs.«01_k».proof.Proof.Gen.AdLamRefIdeal.Run
public import proofs.«01_k».proof.Defs
public import proofs.«01_k».proof.Proof.Adam

@[expose] public section

set_option maxRecDepth 16384

noncomputable section

namespace Cert.AdLamIdeal.Entry

open Idealize.ShloMosaic Idealize.ShloMosaic.TcCoe Idealize.SL.Sem
open Cert.AdLamIdeal Cert.AdLamIdeal.Gen Cert.Adam

variable (m : (ℓ : Loc nD τ sig) → Buf (Elt Ideal) ℓ)

/-- What window 0 reads: the argument, its leading axes run together. -/
theorem entry_0 (c : Dev nD) : (V m c main_v0 : FVec Ideal S256x64 .f32)
    = shapeCast S256x64 (m ((c : Thread nD τ).loc main_arg0) : FVec Ideal S4x2x32x64 .f32) shapeCasts_S4x2x32x64_S256x64 := by
  simp only [V, hostOps0, List.flatten_cons, List.flatten_nil, List.append_nil, List.cons_append, List.nil_append]
  after_results
  rfl

/-- What window 1 reads: the argument, its leading axes run together. -/
theorem entry_1 (c : Dev nD) : (V m c main_v1 : FVec Ideal S256x64 .f32)
    = shapeCast S256x64 (m ((c : Thread nD τ).loc main_arg1) : FVec Ideal S4x2x32x64 .f32) shapeCasts_S4x2x32x64_S256x64 := by
  simp only [V, hostOps0, List.flatten_cons, List.flatten_nil, List.append_nil, List.cons_append, List.nil_append]
  after_results
  rfl

/-- What window 2 reads: the argument, its leading axes run together. -/
theorem entry_2 (c : Dev nD) : (V m c main_v2 : FVec Ideal S256x64 .f32)
    = shapeCast S256x64 (m ((c : Thread nD τ).loc main_arg2) : FVec Ideal S4x2x32x64 .f32) shapeCasts_S4x2x32x64_S256x64 := by
  simp only [V, hostOps0, List.flatten_cons, List.flatten_nil, List.append_nil, List.cons_append, List.nil_append]
  after_results
  rfl

/-- What window 3 reads: the argument, its leading axes run together. -/
theorem entry_3 (c : Dev nD) : (V m c main_v3 : FVec Ideal S256x64 .f32)
    = shapeCast S256x64 (m ((c : Thread nD τ).loc main_arg3) : FVec Ideal S4x2x32x64 .f32) shapeCasts_S4x2x32x64_S256x64 := by
  simp only [V, hostOps0, List.flatten_cons, List.flatten_nil, List.append_nil, List.cons_append, List.nil_append]
  after_results
  rfl

/-- The block of each window at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The stored first moments of a block. -/
theorem pay_m (g a : FVec Ideal S256x64 .f32) : k0_pay2 (F := Ideal) g a = allM g a := by
  simp only [k0_pay2, k0_pay1, shapeCast_self]
  rfl

/-- The stored second moments of a block. -/
theorem pay_v (g b : FVec Ideal S256x64 .f32) : k0_pay3 (F := Ideal) g b = allV g b := by
  simp only [k0_pay3, k0_pay1, shapeCast_self]
  rfl

/-- The stored changes of a block. -/
theorem pay_d (w g a b : FVec Ideal S256x64 .f32) : k0_pay4 (F := Ideal) g a b w = allD w g a b := by
  simp only [k0_pay4, pay_m, pay_v, shapeCast_self]
  rfl

/-- The array of changes after the run. -/
theorem final_d (c : Dev nD) : (dats m 0 c).arrAt 4 (cfgs 0).N
    = (allD (V m c main_v0 : FVec Ideal S256x64 .f32) (V m c main_v1) (V m c main_v2) (V m c main_v3) : FVec Ideal S256x64 .f32) := by
  refine (dats m 0 c).arrAt_eq_of_covers 4 _ (by decide +kernel) fun t _ y => ?_
  blk_simp
  rw [after0_4]; frame_out
  idx_vars y
  refine (congrFun (pay_d _ _ _ _) (ix2 y0 y1)).trans ?_
  refine delta_congr ?_ ?_ ?_ ?_
  · blk_ext [iblk, idx t]
  · blk_ext [iblk, idx t]
  · blk_ext [iblk, idx t]
  · blk_ext [iblk, idx t]

/-- The array of first moments after the run. -/
theorem final_m (c : Dev nD) : (dats m 0 c).arrAt 5 (cfgs 0).N
    = (allM (V m c main_v1 : FVec Ideal S256x64 .f32) (V m c main_v2) : FVec Ideal S256x64 .f32) := by
  refine (dats m 0 c).arrAt_eq_of_covers 5 _ (by decide +kernel) fun t _ y => ?_
  blk_simp
  rw [after0_5]; frame_out
  idx_vars y
  refine (congrFun (pay_m _ _) (ix2 y0 y1)).trans ?_
  refine newM_congr ?_ ?_
  · blk_ext [iblk, idx t]
  · blk_ext [iblk, idx t]

/-- The array of second moments after the run. -/
theorem final_v (c : Dev nD) : (dats m 0 c).arrAt 6 (cfgs 0).N
    = (allV (V m c main_v1 : FVec Ideal S256x64 .f32) (V m c main_v3) : FVec Ideal S256x64 .f32) := by
  refine (dats m 0 c).arrAt_eq_of_covers 6 _ (by decide +kernel) fun t _ y => ?_
  blk_simp
  rw [after0_6]; frame_out
  idx_vars y
  refine (congrFun (pay_v _ _) (ix2 y0 y1)).trans ?_
  refine newV_congr ?_ ?_
  · blk_ext [iblk, idx t]
  · blk_ext [iblk, idx t]

end Cert.AdLamIdeal.Entry

namespace Cert

open Idealize.ShloMosaic Idealize.ShloMosaic.TcCoe Idealize.SL.Sem

/-- The call and its reference return the same arrays. -/
theorem adlam_algebraic : Cert.algebraic_AdLamIdeal_AdLamRefIdeal := by
  intro m ρ m' ρ' _ hagree
  refine ⟨_, _, _, Cert.AdLamIdeal.Value.run_blocks m ρ, ?_⟩
  refine (θ_run Cert.AdLamRefIdeal.defs _ _).mono (fun _ h c => ⟨(h c).1.trans ?_, (h c).2.1.trans ?_, (h c).2.2.1.trans ?_,
      (h c).2.2.2⟩)
    (Cert.AdLamRefIdeal.Value.run (F := Ideal) m' ρ')
  all_goals
    obtain ⟨h0, h1, h2, h3⟩ := hagree c
  · rw [h0, h1, h2, h3]
    refine Eq.trans ?_ (Cert.AdLamIdeal.Entry.final_d m c).symm
    rw [Cert.AdLamIdeal.Entry.entry_0, Cert.AdLamIdeal.Entry.entry_1, Cert.AdLamIdeal.Entry.entry_2, Cert.AdLamIdeal.Entry.entry_3]
    rfl
  · rw [h1, h2]
    refine Eq.trans ?_ (Cert.AdLamIdeal.Entry.final_m m c).symm
    rw [Cert.AdLamIdeal.Entry.entry_1, Cert.AdLamIdeal.Entry.entry_2]
    rfl
  · rw [h1, h3]
    refine Eq.trans ?_ (Cert.AdLamIdeal.Entry.final_v m c).symm
    rw [Cert.AdLamIdeal.Entry.entry_1, Cert.AdLamIdeal.Entry.entry_3]
    rfl

end Cert
-- ==== Proof.AdDt.lean ====
/- The optimiser's call for the state-space steps. -/
module

public import proofs.«01_k».proof.Proof.Gen.AdDtIdeal.Value
public import proofs.«01_k».proof.Proof.Gen.AdDtRefIdeal.Run
public import proofs.«01_k».proof.Defs
public import proofs.«01_k».proof.Proof.Adam

@[expose] public section

set_option maxRecDepth 16384

noncomputable section

namespace Cert.AdDtIdeal.Entry

open Idealize.ShloMosaic Idealize.ShloMosaic.TcCoe Idealize.SL.Sem
open Cert.AdDtIdeal Cert.AdDtIdeal.Gen Cert.Adam

variable (m : (ℓ : Loc nD τ sig) → Buf (Elt Ideal) ℓ)

/-- What window 0 reads: the argument, its leading axes run together. -/
theorem entry_0 (c : Dev nD) : (V m c main_v0 : FVec Ideal S8x32 .f32)
    = shapeCast S8x32 (m ((c : Thread nD τ).loc main_arg0) : FVec Ideal S4x2x32 .f32) shapeCasts_S4x2x32_S8x32 := by
  simp only [V, hostOps0, List.flatten_cons, List.flatten_nil, List.append_nil, List.cons_append, List.nil_append]
  after_results
  rfl

/-- What window 1 reads: the argument, its leading axes run together. -/
theorem entry_1 (c : Dev nD) : (V m c main_v1 : FVec Ideal S8x32 .f32)
    = shapeCast S8x32 (m ((c : Thread nD τ).loc main_arg1) : FVec Ideal S4x2x32 .f32) shapeCasts_S4x2x32_S8x32 := by
  simp only [V, hostOps0, List.flatten_cons, List.flatten_nil, List.append_nil, List.cons_append, List.nil_append]
  after_results
  rfl

/-- What window 2 reads: the argument, its leading axes run together. -/
theorem entry_2 (c : Dev nD) : (V m c main_v2 : FVec Ideal S8x32 .f32)
    = shapeCast S8x32 (m ((c : Thread nD τ).loc main_arg2) : FVec Ideal S4x2x32 .f32) shapeCasts_S4x2x32_S8x32 := by
  simp only [V, hostOps0, List.flatten_cons, List.flatten_nil, List.append_nil, List.cons_append, List.nil_append]
  after_results
  rfl

/-- What window 3 reads: the argument, its leading axes run together. -/
theorem entry_3 (c : Dev nD) : (V m c main_v3 : FVec Ideal S8x32 .f32)
    = shapeCast S8x32 (m ((c : Thread nD τ).loc main_arg3) : FVec Ideal S4x2x32 .f32) shapeCasts_S4x2x32_S8x32 := by
  simp only [V, hostOps0, List.flatten_cons, List.flatten_nil, List.append_nil, List.cons_append, List.nil_append]
  after_results
  rfl

/-- The block of each window at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The stored first moments of a block. -/
theorem pay_m (g a : FVec Ideal S8x32 .f32) : k0_pay2 (F := Ideal) g a = allM g a := by
  simp only [k0_pay2, k0_pay1, shapeCast_self]
  rfl

/-- The stored second moments of a block. -/
theorem pay_v (g b : FVec Ideal S8x32 .f32) : k0_pay3 (F := Ideal) g b = allV g b := by
  simp only [k0_pay3, k0_pay1, shapeCast_self]
  rfl

/-- The stored changes of a block. -/
theorem pay_d (w g a b : FVec Ideal S8x32 .f32) : k0_pay4 (F := Ideal) g a b w = allD w g a b := by
  simp only [k0_pay4, pay_m, pay_v, shapeCast_self]
  rfl

/-- The array of changes after the run. -/
theorem final_d (c : Dev nD) : (dats m 0 c).arrAt 4 (cfgs 0).N
    = (allD (V m c main_v0 : FVec Ideal S8x32 .f32) (V m c main_v1) (V m c main_v2) (V m c main_v3) : FVec Ideal S8x32 .f32) := by
  refine (dats m 0 c).arrAt_eq_of_covers 4 _ (by decide +kernel) fun t _ y => ?_
  blk_simp
  rw [after0_4]; frame_out
  idx_vars y
  refine (congrFun (pay_d _ _ _ _) (ix2 y0 y1)).trans ?_
  refine delta_congr ?_ ?_ ?_ ?_
  · blk_ext [iblk, idx t]
  · blk_ext [iblk, idx t]
  · blk_ext [iblk, idx t]
  · blk_ext [iblk, idx t]

/-- The array of first moments after the run. -/
theorem final_m (c : Dev nD) : (dats m 0 c).arrAt 5 (cfgs 0).N
    = (allM (V m c main_v1 : FVec Ideal S8x32 .f32) (V m c main_v2) : FVec Ideal S8x32 .f32) := by
  refine (dats m 0 c).arrAt_eq_of_covers 5 _ (by decide +kernel) fun t _ y => ?_
  blk_simp
  rw [after0_5]; frame_out
  idx_vars y
  refine (congrFun (pay_m _ _) (ix2 y0 y1)).trans ?_
  refine newM_congr ?_ ?_
  · blk_ext [iblk, idx t]
  · blk_ext [iblk, idx t]

/-- The array of second moments after the run. -/
theorem final_v (c : Dev nD) : (dats m 0 c).arrAt 6 (cfgs 0).N
    = (allV (V m c main_v1 : FVec Ideal S8x32 .f32) (V m c main_v3) : FVec Ideal S8x32 .f32) := by
  refine (dats m 0 c).arrAt_eq_of_covers 6 _ (by decide +kernel) fun t _ y => ?_
  blk_simp
  rw [after0_6]; frame_out
  idx_vars y
  refine (congrFun (pay_v _ _) (ix2 y0 y1)).trans ?_
  refine newV_congr ?_ ?_
  · blk_ext [iblk, idx t]
  · blk_ext [iblk, idx t]

end Cert.AdDtIdeal.Entry

namespace Cert

open Idealize.ShloMosaic Idealize.ShloMosaic.TcCoe Idealize.SL.Sem

/-- The call and its reference return the same arrays. -/
theorem addt_algebraic : Cert.algebraic_AdDtIdeal_AdDtRefIdeal := by
  intro m ρ m' ρ' _ hagree
  refine ⟨_, _, _, Cert.AdDtIdeal.Value.run_blocks m ρ, ?_⟩
  refine (θ_run Cert.AdDtRefIdeal.defs _ _).mono (fun _ h c => ⟨(h c).1.trans ?_, (h c).2.1.trans ?_, (h c).2.2.1.trans ?_,
      (h c).2.2.2⟩)
    (Cert.AdDtRefIdeal.Value.run (F := Ideal) m' ρ')
  all_goals
    obtain ⟨h0, h1, h2, h3⟩ := hagree c
  · rw [h0, h1, h2, h3]
    refine Eq.trans ?_ (Cert.AdDtIdeal.Entry.final_d m c).symm
    rw [Cert.AdDtIdeal.Entry.entry_0, Cert.AdDtIdeal.Entry.entry_1, Cert.AdDtIdeal.Entry.entry_2, Cert.AdDtIdeal.Entry.entry_3]
    rfl
  · rw [h1, h2]
    refine Eq.trans ?_ (Cert.AdDtIdeal.Entry.final_m m c).symm
    rw [Cert.AdDtIdeal.Entry.entry_1, Cert.AdDtIdeal.Entry.entry_2]
    rfl
  · rw [h1, h3]
    refine Eq.trans ?_ (Cert.AdDtIdeal.Entry.final_v m c).symm
    rw [Cert.AdDtIdeal.Entry.entry_1, Cert.AdDtIdeal.Entry.entry_3]
    rfl

end Cert
-- ==== Proof.AdB.lean ====
/- The optimiser's call for the state-space input weights. -/
module

public import proofs.«01_k».proof.Proof.Gen.AdBIdeal.Value
public import proofs.«01_k».proof.Proof.Gen.AdBRefIdeal.Run
public import proofs.«01_k».proof.Defs
public import proofs.«01_k».proof.Proof.Adam

@[expose] public section

set_option maxRecDepth 16384

noncomputable section

namespace Cert.AdBIdeal.Entry

open Idealize.ShloMosaic Idealize.ShloMosaic.TcCoe Idealize.SL.Sem
open Cert.AdBIdeal Cert.AdBIdeal.Gen Cert.Adam

variable (m : (ℓ : Loc nD τ sig) → Buf (Elt Ideal) ℓ)

/-- What window 0 reads: the argument, its leading axes run together. -/
theorem entry_0 (c : Dev nD) : (V m c main_v0 : FVec Ideal S16384x16 .f32)
    = shapeCast S16384x16 (m ((c : Thread nD τ).loc main_arg0) : FVec Ideal S4x2x32x64x16 .f32) shapeCasts_S4x2x32x64x16_S16384x16 := by
  simp only [V, hostOps0, List.flatten_cons, List.flatten_nil, List.append_nil, List.cons_append, List.nil_append]
  after_results
  rfl

/-- What window 1 reads: the argument, its leading axes run together. -/
theorem entry_1 (c : Dev nD) : (V m c main_v1 : FVec Ideal S16384x16 .f32)
    = shapeCast S16384x16 (m ((c : Thread nD τ).loc main_arg1) : FVec Ideal S4x2x32x64x16 .f32) shapeCasts_S4x2x32x64x16_S16384x16 := by
  simp only [V, hostOps0, List.flatten_cons, List.flatten_nil, List.append_nil, List.cons_append, List.nil_append]
  after_results
  rfl

/-- What window 2 reads: the argument, its leading axes run together. -/
theorem entry_2 (c : Dev nD) : (V m c main_v2 : FVec Ideal S16384x16 .f32)
    = shapeCast S16384x16 (m ((c : Thread nD τ).loc main_arg2) : FVec Ideal S4x2x32x64x16 .f32) shapeCasts_S4x2x32x64x16_S16384x16 := by
  simp only [V, hostOps0, List.flatten_cons, List.flatten_nil, List.append_nil, List.cons_append, List.nil_append]
  after_results
  rfl

/-- What window 3 reads: the argument, its leading axes run together. -/
theorem entry_3 (c : Dev nD) : (V m c main_v3 : FVec Ideal S16384x16 .f32)
    = shapeCast S16384x16 (m ((c : Thread nD τ).loc main_arg3) : FVec Ideal S4x2x32x64x16 .f32) shapeCasts_S4x2x32x64x16_S16384x16 := by
  simp only [V, hostOps0, List.flatten_cons, List.flatten_nil, List.append_nil, List.cons_append, List.nil_append]
  after_results
  rfl

/-- The block of each window at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The stored first moments of a block. -/
theorem pay_m (g a : FVec Ideal S1024x16 .f32) : k0_pay2 (F := Ideal) g a = allM g a := by
  simp only [k0_pay2, k0_pay1, shapeCast_self]
  rfl

/-- The stored second moments of a block. -/
theorem pay_v (g b : FVec Ideal S1024x16 .f32) : k0_pay3 (F := Ideal) g b = allV g b := by
  simp only [k0_pay3, k0_pay1, shapeCast_self]
  rfl

/-- The stored changes of a block. -/
theorem pay_d (w g a b : FVec Ideal S1024x16 .f32) : k0_pay4 (F := Ideal) g a b w = allD w g a b := by
  simp only [k0_pay4, pay_m, pay_v, shapeCast_self]
  rfl

/-- The array of changes after the run. -/
theorem final_d (c : Dev nD) : (dats m 0 c).arrAt 4 (cfgs 0).N
    = (allD (V m c main_v0 : FVec Ideal S16384x16 .f32) (V m c main_v1) (V m c main_v2) (V m c main_v3) : FVec Ideal S16384x16 .f32) := by
  refine (dats m 0 c).arrAt_eq_of_covers 4 _ (by decide +kernel) fun t _ y => ?_
  blk_simp
  rw [after0_4]; frame_out
  idx_vars y
  refine (congrFun (pay_d _ _ _ _) (ix2 y0 y1)).trans ?_
  refine delta_congr ?_ ?_ ?_ ?_
  · blk_ext [iblk, idx t]
  · blk_ext [iblk, idx t]
  · blk_ext [iblk, idx t]
  · blk_ext [iblk, idx t]

/-- The array of first moments after the run. -/
theorem final_m (c : Dev nD) : (dats m 0 c).arrAt 5 (cfgs 0).N
    = (allM (V m c main_v1 : FVec Ideal S16384x16 .f32) (V m c main_v2) : FVec Ideal S16384x16 .f32) := by
  refine (dats m 0 c).arrAt_eq_of_covers 5 _ (by decide +kernel) fun t _ y => ?_
  blk_simp
  rw [after0_5]; frame_out
  idx_vars y
  refine (congrFun (pay_m _ _) (ix2 y0 y1)).trans ?_
  refine newM_congr ?_ ?_
  · blk_ext [iblk, idx t]
  · blk_ext [iblk, idx t]

/-- The array of second moments after the run. -/
theorem final_v (c : Dev nD) : (dats m 0 c).arrAt 6 (cfgs 0).N
    = (allV (V m c main_v1 : FVec Ideal S16384x16 .f32) (V m c main_v3) : FVec Ideal S16384x16 .f32) := by
  refine (dats m 0 c).arrAt_eq_of_covers 6 _ (by decide +kernel) fun t _ y => ?_
  blk_simp
  rw [after0_6]; frame_out
  idx_vars y
  refine (congrFun (pay_v _ _) (ix2 y0 y1)).trans ?_
  refine newV_congr ?_ ?_
  · blk_ext [iblk, idx t]
  · blk_ext [iblk, idx t]

end Cert.AdBIdeal.Entry

namespace Cert

open Idealize.ShloMosaic Idealize.ShloMosaic.TcCoe Idealize.SL.Sem

/-- The call and its reference return the same arrays. -/
theorem adb_algebraic : Cert.algebraic_AdBIdeal_AdBRefIdeal := by
  intro m ρ m' ρ' _ hagree
  refine ⟨_, _, _, Cert.AdBIdeal.Value.run_blocks m ρ, ?_⟩
  refine (θ_run Cert.AdBRefIdeal.defs _ _).mono (fun _ h c => ⟨(h c).1.trans ?_, (h c).2.1.trans ?_, (h c).2.2.1.trans ?_,
      (h c).2.2.2⟩)
    (Cert.AdBRefIdeal.Value.run (F := Ideal) m' ρ')
  all_goals
    obtain ⟨h0, h1, h2, h3⟩ := hagree c
  · rw [h0, h1, h2, h3]
    refine Eq.trans ?_ (Cert.AdBIdeal.Entry.final_d m c).symm
    rw [Cert.AdBIdeal.Entry.entry_0, Cert.AdBIdeal.Entry.entry_1, Cert.AdBIdeal.Entry.entry_2, Cert.AdBIdeal.Entry.entry_3]
    rfl
  · rw [h1, h2]
    refine Eq.trans ?_ (Cert.AdBIdeal.Entry.final_m m c).symm
    rw [Cert.AdBIdeal.Entry.entry_1, Cert.AdBIdeal.Entry.entry_2]
    rfl
  · rw [h1, h3]
    refine Eq.trans ?_ (Cert.AdBIdeal.Entry.final_v m c).symm
    rw [Cert.AdBIdeal.Entry.entry_1, Cert.AdBIdeal.Entry.entry_3]
    rfl

end Cert
-- ==== Proof.AdC.lean ====
/- The optimiser's call for the state-space output weights. -/
module

public import proofs.«01_k».proof.Proof.Gen.AdCIdeal.Value
public import proofs.«01_k».proof.Proof.Gen.AdCRefIdeal.Run
public import proofs.«01_k».proof.Defs
public import proofs.«01_k».proof.Proof.Adam

@[expose] public section

set_option maxRecDepth 16384

noncomputable section

namespace Cert.AdCIdeal.Entry

open Idealize.ShloMosaic Idealize.ShloMosaic.TcCoe Idealize.SL.Sem
open Cert.AdCIdeal Cert.AdCIdeal.Gen Cert.Adam

variable (m : (ℓ : Loc nD τ sig) → Buf (Elt Ideal) ℓ)

/-- What window 0 reads: the argument, its leading axes run together. -/
theorem entry_0 (c : Dev nD) : (V m c main_v0 : FVec Ideal S4096x64 .f32)
    = shapeCast S4096x64 (m ((c : Thread nD τ).loc main_arg0) : FVec Ideal S4x2x32x16x64 .f32) shapeCasts_S4x2x32x16x64_S4096x64 := by
  simp only [V, hostOps0, List.flatten_cons, List.flatten_nil, List.append_nil, List.cons_append, List.nil_append]
  after_results
  rfl

/-- What window 1 reads: the argument, its leading axes run together. -/
theorem entry_1 (c : Dev nD) : (V m c main_v1 : FVec Ideal S4096x64 .f32)
    = shapeCast S4096x64 (m ((c : Thread nD τ).loc main_arg1) : FVec Ideal S4x2x32x16x64 .f32) shapeCasts_S4x2x32x16x64_S4096x64 := by
  simp only [V, hostOps0, List.flatten_cons, List.flatten_nil, List.append_nil, List.cons_append, List.nil_append]
  after_results
  rfl

/-- What window 2 reads: the argument, its leading axes run together. -/
theorem entry_2 (c : Dev nD) : (V m c main_v2 : FVec Ideal S4096x64 .f32)
    = shapeCast S4096x64 (m ((c : Thread nD τ).loc main_arg2) : FVec Ideal S4x2x32x16x64 .f32) shapeCasts_S4x2x32x16x64_S4096x64 := by
  simp only [V, hostOps0, List.flatten_cons, List.flatten_nil, List.append_nil, List.cons_append, List.nil_append]
  after_results
  rfl

/-- What window 3 reads: the argument, its leading axes run together. -/
theorem entry_3 (c : Dev nD) : (V m c main_v3 : FVec Ideal S4096x64 .f32)
    = shapeCast S4096x64 (m ((c : Thread nD τ).loc main_arg3) : FVec Ideal S4x2x32x16x64 .f32) shapeCasts_S4x2x32x16x64_S4096x64 := by
  simp only [V, hostOps0, List.flatten_cons, List.flatten_nil, List.append_nil, List.cons_append, List.nil_append]
  after_results
  rfl

/-- The block of each window at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The stored first moments of a block. -/
theorem pay_m (g a : FVec Ideal S1024x64 .f32) : k0_pay2 (F := Ideal) g a = allM g a := by
  simp only [k0_pay2, k0_pay1, shapeCast_self]
  rfl

/-- The stored second moments of a block. -/
theorem pay_v (g b : FVec Ideal S1024x64 .f32) : k0_pay3 (F := Ideal) g b = allV g b := by
  simp only [k0_pay3, k0_pay1, shapeCast_self]
  rfl

/-- The stored changes of a block. -/
theorem pay_d (w g a b : FVec Ideal S1024x64 .f32) : k0_pay4 (F := Ideal) g a b w = allD w g a b := by
  simp only [k0_pay4, pay_m, pay_v, shapeCast_self]
  rfl

/-- The array of changes after the run. -/
theorem final_d (c : Dev nD) : (dats m 0 c).arrAt 4 (cfgs 0).N
    = (allD (V m c main_v0 : FVec Ideal S4096x64 .f32) (V m c main_v1) (V m c main_v2) (V m c main_v3) : FVec Ideal S4096x64 .f32) := by
  refine (dats m 0 c).arrAt_eq_of_covers 4 _ (by decide +kernel) fun t _ y => ?_
  blk_simp
  rw [after0_4]; frame_out
  idx_vars y
  refine (congrFun (pay_d _ _ _ _) (ix2 y0 y1)).trans ?_
  refine delta_congr ?_ ?_ ?_ ?_
  · blk_ext [iblk, idx t]
  · blk_ext [iblk, idx t]
  · blk_ext [iblk, idx t]
  · blk_ext [iblk, idx t]

/-- The array of first moments after the run. -/
theorem final_m (c : Dev nD) : (dats m 0 c).arrAt 5 (cfgs 0).N
    = (allM (V m c main_v1 : FVec Ideal S4096x64 .f32) (V m c main_v2) : FVec Ideal S4096x64 .f32) := by
  refine (dats m 0 c).arrAt_eq_of_covers 5 _ (by decide +kernel) fun t _ y => ?_
  blk_simp
  rw [after0_5]; frame_out
  idx_vars y
  refine (congrFun (pay_m _ _) (ix2 y0 y1)).trans ?_
  refine newM_congr ?_ ?_
  · blk_ext [iblk, idx t]
  · blk_ext [iblk, idx t]

/-- The array of second moments after the run. -/
theorem final_v (c : Dev nD) : (dats m 0 c).arrAt 6 (cfgs 0).N
    = (allV (V m c main_v1 : FVec Ideal S4096x64 .f32) (V m c main_v3) : FVec Ideal S4096x64 .f32) := by
  refine (dats m 0 c).arrAt_eq_of_covers 6 _ (by decide +kernel) fun t _ y => ?_
  blk_simp
  rw [after0_6]; frame_out
  idx_vars y
  refine (congrFun (pay_v _ _) (ix2 y0 y1)).trans ?_
  refine newV_congr ?_ ?_
  · blk_ext [iblk, idx t]
  · blk_ext [iblk, idx t]

end Cert.AdCIdeal.Entry

namespace Cert

open Idealize.ShloMosaic Idealize.ShloMosaic.TcCoe Idealize.SL.Sem

/-- The call and its reference return the same arrays. -/
theorem adc_algebraic : Cert.algebraic_AdCIdeal_AdCRefIdeal := by
  intro m ρ m' ρ' _ hagree
  refine ⟨_, _, _, Cert.AdCIdeal.Value.run_blocks m ρ, ?_⟩
  refine (θ_run Cert.AdCRefIdeal.defs _ _).mono (fun _ h c => ⟨(h c).1.trans ?_, (h c).2.1.trans ?_, (h c).2.2.1.trans ?_,
      (h c).2.2.2⟩)
    (Cert.AdCRefIdeal.Value.run (F := Ideal) m' ρ')
  all_goals
    obtain ⟨h0, h1, h2, h3⟩ := hagree c
  · rw [h0, h1, h2, h3]
    refine Eq.trans ?_ (Cert.AdCIdeal.Entry.final_d m c).symm
    rw [Cert.AdCIdeal.Entry.entry_0, Cert.AdCIdeal.Entry.entry_1, Cert.AdCIdeal.Entry.entry_2, Cert.AdCIdeal.Entry.entry_3]
    rfl
  · rw [h1, h2]
    refine Eq.trans ?_ (Cert.AdCIdeal.Entry.final_m m c).symm
    rw [Cert.AdCIdeal.Entry.entry_1, Cert.AdCIdeal.Entry.entry_2]
    rfl
  · rw [h1, h3]
    refine Eq.trans ?_ (Cert.AdCIdeal.Entry.final_v m c).symm
    rw [Cert.AdCIdeal.Entry.entry_1, Cert.AdCIdeal.Entry.entry_3]
    rfl

end Cert
-- ==== Proof.AdD.lean ====
/- The optimiser's call for the state-space direct weights. -/
module

public import proofs.«01_k».proof.Proof.Gen.AdDIdeal.Value
public import proofs.«01_k».proof.Proof.Gen.AdDRefIdeal.Run
public import proofs.«01_k».proof.Defs
public import proofs.«01_k».proof.Proof.Adam

@[expose] public section

set_option maxRecDepth 16384

noncomputable section

namespace Cert

open Idealize.ShloMosaic Idealize.ShloMosaic.TcCoe Idealize.SL.Sem

/-- The call and its reference return the same arrays. -/
theorem add_algebraic : Cert.algebraic_AdDIdeal_AdDRefIdeal := by
  intro m ρ m' ρ' _ hagree
  refine ⟨_, _, _, Cert.AdDIdeal.Value.run m ρ, ?_⟩
  refine (θ_run Cert.AdDRefIdeal.defs _ _).mono (fun _ h c => ⟨(h c).1.trans ?_, (h c).2.1.trans ?_, (h c).2.2.1.trans ?_,
      (h c).2.2.2⟩)
    (Cert.AdDRefIdeal.Value.run (F := Ideal) m' ρ')
  all_goals
    obtain ⟨h0, h1, h2, h3⟩ := hagree c
  · rw [h0, h1, h2, h3]
    rfl
  · rw [h1, h2]
    rfl
  · rw [h1, h3]
    rfl

end Cert
-- ==== Proof.AdGlu.lean ====
/- The optimiser's call for the gated unit's weights. -/
module

public import proofs.«01_k».proof.Proof.Gen.AdGluIdeal.Value
public import proofs.«01_k».proof.Proof.Gen.AdGluRefIdeal.Run
public import proofs.«01_k».proof.Defs
public import proofs.«01_k».proof.Proof.Adam

@[expose] public section

set_option maxRecDepth 16384

noncomputable section

namespace Cert.AdGluIdeal.Entry

open Idealize.ShloMosaic Idealize.ShloMosaic.TcCoe Idealize.SL.Sem
open Cert.AdGluIdeal Cert.AdGluIdeal.Gen Cert.Adam

variable (m : (ℓ : Loc nD τ sig) → Buf (Elt Ideal) ℓ)

/-- What window 0 reads: the argument, its leading axes run together. -/
theorem entry_0 (c : Dev nD) : (V m c main_v0 : FVec Ideal S256x512 .f32)
    = shapeCast S256x512 (m ((c : Thread nD τ).loc main_arg0) : FVec Ideal S4x64x512 .f32) shapeCasts_S4x64x512_S256x512 := by
  simp only [V, hostOps0, List.flatten_cons, List.flatten_nil, List.append_nil, List.cons_append, List.nil_append]
  after_results
  rfl

/-- What window 1 reads: the argument, its leading axes run together. -/
theorem entry_1 (c : Dev nD) : (V m c main_v1 : FVec Ideal S256x512 .f32)
    = shapeCast S256x512 (m ((c : Thread nD τ).loc main_arg1) : FVec Ideal S4x64x512 .f32) shapeCasts_S4x64x512_S256x512 := by
  simp only [V, hostOps0, List.flatten_cons, List.flatten_nil, List.append_nil, List.cons_append, List.nil_append]
  after_results
  rfl

/-- What window 2 reads: the argument, its leading axes run together. -/
theorem entry_2 (c : Dev nD) : (V m c main_v2 : FVec Ideal S256x512 .f32)
    = shapeCast S256x512 (m ((c : Thread nD τ).loc main_arg2) : FVec Ideal S4x64x512 .f32) shapeCasts_S4x64x512_S256x512 := by
  simp only [V, hostOps0, List.flatten_cons, List.flatten_nil, List.append_nil, List.cons_append, List.nil_append]
  after_results
  rfl

/-- What window 3 reads: the argument, its leading axes run together. -/
theorem entry_3 (c : Dev nD) : (V m c main_v3 : FVec Ideal S256x512 .f32)
    = shapeCast S256x512 (m ((c : Thread nD τ).loc main_arg3) : FVec Ideal S4x64x512 .f32) shapeCasts_S4x64x512_S256x512 := by
  simp only [V, hostOps0, List.flatten_cons, List.flatten_nil, List.append_nil, List.cons_append, List.nil_append]
  after_results
  rfl

/-- The block of each window at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The stored first moments of a block. -/
theorem pay_m (g a : FVec Ideal S256x512 .f32) : k0_pay2 (F := Ideal) g a = allM g a := by
  simp only [k0_pay2, k0_pay1, shapeCast_self]
  rfl

/-- The stored second moments of a block. -/
theorem pay_v (g b : FVec Ideal S256x512 .f32) : k0_pay3 (F := Ideal) g b = allV g b := by
  simp only [k0_pay3, k0_pay1, shapeCast_self]
  rfl

/-- The stored changes of a block. -/
theorem pay_d (w g a b : FVec Ideal S256x512 .f32) : k0_pay4 (F := Ideal) g a b w = allD w g a b := by
  simp only [k0_pay4, pay_m, pay_v, shapeCast_self]
  rfl

/-- The array of changes after the run. -/
theorem final_d (c : Dev nD) : (dats m 0 c).arrAt 4 (cfgs 0).N
    = (allD (V m c main_v0 : FVec Ideal S256x512 .f32) (V m c main_v1) (V m c main_v2) (V m c main_v3) : FVec Ideal S256x512 .f32) := by
  refine (dats m 0 c).arrAt_eq_of_covers 4 _ (by decide +kernel) fun t _ y => ?_
  blk_simp
  rw [after0_4]; frame_out
  idx_vars y
  refine (congrFun (pay_d _ _ _ _) (ix2 y0 y1)).trans ?_
  refine delta_congr ?_ ?_ ?_ ?_
  · blk_ext [iblk, idx t]
  · blk_ext [iblk, idx t]
  · blk_ext [iblk, idx t]
  · blk_ext [iblk, idx t]

/-- The array of first moments after the run. -/
theorem final_m (c : Dev nD) : (dats m 0 c).arrAt 5 (cfgs 0).N
    = (allM (V m c main_v1 : FVec Ideal S256x512 .f32) (V m c main_v2) : FVec Ideal S256x512 .f32) := by
  refine (dats m 0 c).arrAt_eq_of_covers 5 _ (by decide +kernel) fun t _ y => ?_
  blk_simp
  rw [after0_5]; frame_out
  idx_vars y
  refine (congrFun (pay_m _ _) (ix2 y0 y1)).trans ?_
  refine newM_congr ?_ ?_
  · blk_ext [iblk, idx t]
  · blk_ext [iblk, idx t]

/-- The array of second moments after the run. -/
theorem final_v (c : Dev nD) : (dats m 0 c).arrAt 6 (cfgs 0).N
    = (allV (V m c main_v1 : FVec Ideal S256x512 .f32) (V m c main_v3) : FVec Ideal S256x512 .f32) := by
  refine (dats m 0 c).arrAt_eq_of_covers 6 _ (by decide +kernel) fun t _ y => ?_
  blk_simp
  rw [after0_6]; frame_out
  idx_vars y
  refine (congrFun (pay_v _ _) (ix2 y0 y1)).trans ?_
  refine newV_congr ?_ ?_
  · blk_ext [iblk, idx t]
  · blk_ext [iblk, idx t]

end Cert.AdGluIdeal.Entry

namespace Cert

open Idealize.ShloMosaic Idealize.ShloMosaic.TcCoe Idealize.SL.Sem

/-- The call and its reference return the same arrays. -/
theorem adglu_algebraic : Cert.algebraic_AdGluIdeal_AdGluRefIdeal := by
  intro m ρ m' ρ' _ hagree
  refine ⟨_, _, _, Cert.AdGluIdeal.Value.run_blocks m ρ, ?_⟩
  refine (θ_run Cert.AdGluRefIdeal.defs _ _).mono (fun _ h c => ⟨(h c).1.trans ?_, (h c).2.1.trans ?_, (h c).2.2.1.trans ?_,
      (h c).2.2.2⟩)
    (Cert.AdGluRefIdeal.Value.run (F := Ideal) m' ρ')
  all_goals
    obtain ⟨h0, h1, h2, h3⟩ := hagree c
  · rw [h0, h1, h2, h3]
    refine Eq.trans ?_ (Cert.AdGluIdeal.Entry.final_d m c).symm
    rw [Cert.AdGluIdeal.Entry.entry_0, Cert.AdGluIdeal.Entry.entry_1, Cert.AdGluIdeal.Entry.entry_2, Cert.AdGluIdeal.Entry.entry_3]
    rfl
  · rw [h1, h2]
    refine Eq.trans ?_ (Cert.AdGluIdeal.Entry.final_m m c).symm
    rw [Cert.AdGluIdeal.Entry.entry_1, Cert.AdGluIdeal.Entry.entry_2]
    rfl
  · rw [h1, h3]
    refine Eq.trans ?_ (Cert.AdGluIdeal.Entry.final_v m c).symm
    rw [Cert.AdGluIdeal.Entry.entry_1, Cert.AdGluIdeal.Entry.entry_3]
    rfl

end Cert
-- ==== Proof.AdSink.lean ====
/- The optimiser's call for the attention sinks. -/
module

public import proofs.«01_k».proof.Proof.Gen.AdSinkIdeal.Value
public import proofs.«01_k».proof.Proof.Gen.AdSinkRefIdeal.Run
public import proofs.«01_k».proof.Defs
public import proofs.«01_k».proof.Proof.Adam

@[expose] public section

set_option maxRecDepth 16384

noncomputable section

namespace Cert

open Idealize.ShloMosaic Idealize.ShloMosaic.TcCoe Idealize.SL.Sem

/-- The call and its reference return the same arrays. -/
theorem adsink_algebraic : Cert.algebraic_AdSinkIdeal_AdSinkRefIdeal := by
  intro m ρ m' ρ' _ hagree
  refine ⟨_, _, _, Cert.AdSinkIdeal.Value.run m ρ, ?_⟩
  refine (θ_run Cert.AdSinkRefIdeal.defs _ _).mono (fun _ h c => ⟨(h c).1.trans ?_, (h c).2.1.trans ?_, (h c).2.2.1.trans ?_,
      (h c).2.2.2⟩)
    (Cert.AdSinkRefIdeal.Value.run (F := Ideal) m' ρ')
  all_goals
    obtain ⟨h0, h1, h2, h3⟩ := hagree c
  · rw [h0, h1, h2, h3]
    rfl
  · rw [h1, h2]
    rfl
  · rw [h1, h3]
    rfl

end Cert
-- ==== Proof.AdBs.lean ====
/- The optimiser's call for the state-space branch's weights. -/
module

public import proofs.«01_k».proof.Proof.Gen.AdBsIdeal.Value
public import proofs.«01_k».proof.Proof.Gen.AdBsRefIdeal.Run
public import proofs.«01_k».proof.Defs
public import proofs.«01_k».proof.Proof.Adam

@[expose] public section

set_option maxRecDepth 16384

noncomputable section

namespace Cert.AdBsIdeal.Entry

open Idealize.ShloMosaic Idealize.ShloMosaic.TcCoe Idealize.SL.Sem
open Cert.AdBsIdeal Cert.AdBsIdeal.Gen Cert.Adam

variable (m : (ℓ : Loc nD τ sig) → Buf (Elt Ideal) ℓ)

/-- What window 0 reads: the argument, its leading axes run together. -/
theorem entry_0 (c : Dev nD) : (V m c main_v0 : FVec Ideal S2048x128 .f32)
    = shapeCast S2048x128 (m ((c : Thread nD τ).loc main_arg0) : FVec Ideal S4x512x128 .f32) shapeCasts_S4x512x128_S2048x128 := by
  simp only [V, hostOps0, List.flatten_cons, List.flatten_nil, List.append_nil, List.cons_append, List.nil_append]
  after_results
  rfl

/-- What window 1 reads: the argument, its leading axes run together. -/
theorem entry_1 (c : Dev nD) : (V m c main_v1 : FVec Ideal S2048x128 .f32)
    = shapeCast S2048x128 (m ((c : Thread nD τ).loc main_arg1) : FVec Ideal S4x512x128 .f32) shapeCasts_S4x512x128_S2048x128 := by
  simp only [V, hostOps0, List.flatten_cons, List.flatten_nil, List.append_nil, List.cons_append, List.nil_append]
  after_results
  rfl

/-- What window 2 reads: the argument, its leading axes run together. -/
theorem entry_2 (c : Dev nD) : (V m c main_v2 : FVec Ideal S2048x128 .f32)
    = shapeCast S2048x128 (m ((c : Thread nD τ).loc main_arg2) : FVec Ideal S4x512x128 .f32) shapeCasts_S4x512x128_S2048x128 := by
  simp only [V, hostOps0, List.flatten_cons, List.flatten_nil, List.append_nil, List.cons_append, List.nil_append]
  after_results
  rfl

/-- What window 3 reads: the argument, its leading axes run together. -/
theorem entry_3 (c : Dev nD) : (V m c main_v3 : FVec Ideal S2048x128 .f32)
    = shapeCast S2048x128 (m ((c : Thread nD τ).loc main_arg3) : FVec Ideal S4x512x128 .f32) shapeCasts_S4x512x128_S2048x128 := by
  simp only [V, hostOps0, List.flatten_cons, List.flatten_nil, List.append_nil, List.cons_append, List.nil_append]
  after_results
  rfl

/-- The block of each window at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The stored first moments of a block. -/
theorem pay_m (g a : FVec Ideal S1024x128 .f32) : k0_pay2 (F := Ideal) g a = allM g a := by
  simp only [k0_pay2, k0_pay1, shapeCast_self]
  rfl

/-- The stored second moments of a block. -/
theorem pay_v (g b : FVec Ideal S1024x128 .f32) : k0_pay3 (F := Ideal) g b = allV g b := by
  simp only [k0_pay3, k0_pay1, shapeCast_self]
  rfl

/-- The stored changes of a block. -/
theorem pay_d (w g a b : FVec Ideal S1024x128 .f32) : k0_pay4 (F := Ideal) g a b w = allD w g a b := by
  simp only [k0_pay4, pay_m, pay_v, shapeCast_self]
  rfl

/-- The array of changes after the run. -/
theorem final_d (c : Dev nD) : (dats m 0 c).arrAt 4 (cfgs 0).N
    = (allD (V m c main_v0 : FVec Ideal S2048x128 .f32) (V m c main_v1) (V m c main_v2) (V m c main_v3) : FVec Ideal S2048x128 .f32) := by
  refine (dats m 0 c).arrAt_eq_of_covers 4 _ (by decide +kernel) fun t _ y => ?_
  blk_simp
  rw [after0_4]; frame_out
  idx_vars y
  refine (congrFun (pay_d _ _ _ _) (ix2 y0 y1)).trans ?_
  refine delta_congr ?_ ?_ ?_ ?_
  · blk_ext [iblk, idx t]
  · blk_ext [iblk, idx t]
  · blk_ext [iblk, idx t]
  · blk_ext [iblk, idx t]

/-- The array of first moments after the run. -/
theorem final_m (c : Dev nD) : (dats m 0 c).arrAt 5 (cfgs 0).N
    = (allM (V m c main_v1 : FVec Ideal S2048x128 .f32) (V m c main_v2) : FVec Ideal S2048x128 .f32) := by
  refine (dats m 0 c).arrAt_eq_of_covers 5 _ (by decide +kernel) fun t _ y => ?_
  blk_simp
  rw [after0_5]; frame_out
  idx_vars y
  refine (congrFun (pay_m _ _) (ix2 y0 y1)).trans ?_
  refine newM_congr ?_ ?_
  · blk_ext [iblk, idx t]
  · blk_ext [iblk, idx t]

/-- The array of second moments after the run. -/
theorem final_v (c : Dev nD) : (dats m 0 c).arrAt 6 (cfgs 0).N
    = (allV (V m c main_v1 : FVec Ideal S2048x128 .f32) (V m c main_v3) : FVec Ideal S2048x128 .f32) := by
  refine (dats m 0 c).arrAt_eq_of_covers 6 _ (by decide +kernel) fun t _ y => ?_
  blk_simp
  rw [after0_6]; frame_out
  idx_vars y
  refine (congrFun (pay_v _ _) (ix2 y0 y1)).trans ?_
  refine newV_congr ?_ ?_
  · blk_ext [iblk, idx t]
  · blk_ext [iblk, idx t]

end Cert.AdBsIdeal.Entry

namespace Cert

open Idealize.ShloMosaic Idealize.ShloMosaic.TcCoe Idealize.SL.Sem

/-- The call and its reference return the same arrays. -/
theorem adbs_algebraic : Cert.algebraic_AdBsIdeal_AdBsRefIdeal := by
  intro m ρ m' ρ' _ hagree
  refine ⟨_, _, _, Cert.AdBsIdeal.Value.run_blocks m ρ, ?_⟩
  refine (θ_run Cert.AdBsRefIdeal.defs _ _).mono (fun _ h c => ⟨(h c).1.trans ?_, (h c).2.1.trans ?_, (h c).2.2.1.trans ?_,
      (h c).2.2.2⟩)
    (Cert.AdBsRefIdeal.Value.run (F := Ideal) m' ρ')
  all_goals
    obtain ⟨h0, h1, h2, h3⟩ := hagree c
  · rw [h0, h1, h2, h3]
    refine Eq.trans ?_ (Cert.AdBsIdeal.Entry.final_d m c).symm
    rw [Cert.AdBsIdeal.Entry.entry_0, Cert.AdBsIdeal.Entry.entry_1, Cert.AdBsIdeal.Entry.entry_2, Cert.AdBsIdeal.Entry.entry_3]
    rfl
  · rw [h1, h2]
    refine Eq.trans ?_ (Cert.AdBsIdeal.Entry.final_m m c).symm
    rw [Cert.AdBsIdeal.Entry.entry_1, Cert.AdBsIdeal.Entry.entry_2]
    rfl
  · rw [h1, h3]
    refine Eq.trans ?_ (Cert.AdBsIdeal.Entry.final_v m c).symm
    rw [Cert.AdBsIdeal.Entry.entry_1, Cert.AdBsIdeal.Entry.entry_3]
    rfl

end Cert
-- ==== Proof.AdBa.lean ====
/- The optimiser's call for the attention branch's and the output weights. -/
module

public import proofs.«01_k».proof.Proof.Gen.AdBaIdeal.Value
public import proofs.«01_k».proof.Proof.Gen.AdBaRefIdeal.Run
public import proofs.«01_k».proof.Defs
public import proofs.«01_k».proof.Proof.Adam

@[expose] public section

set_option maxRecDepth 16384

noncomputable section

namespace Cert.AdBaIdeal.Entry

open Idealize.ShloMosaic Idealize.ShloMosaic.TcCoe Idealize.SL.Sem
open Cert.AdBaIdeal Cert.AdBaIdeal.Gen Cert.Adam

variable (m : (ℓ : Loc nD τ sig) → Buf (Elt Ideal) ℓ)

/-- What window 0 reads: the argument, its leading axes run together. -/
theorem entry_0 (c : Dev nD) : (V m c main_v0 : FVec Ideal S512x1024 .f32)
    = shapeCast S512x1024 (m ((c : Thread nD τ).loc main_arg0) : FVec Ideal S4x128x1024 .f32) shapeCasts_S4x128x1024_S512x1024 := by
  simp only [V, hostOps0, List.flatten_cons, List.flatten_nil, List.append_nil, List.cons_append, List.nil_append]
  after_results
  rfl

/-- What window 1 reads: the argument, its leading axes run together. -/
theorem entry_1 (c : Dev nD) : (V m c main_v1 : FVec Ideal S512x1024 .f32)
    = shapeCast S512x1024 (m ((c : Thread nD τ).loc main_arg1) : FVec Ideal S4x128x1024 .f32) shapeCasts_S4x128x1024_S512x1024 := by
  simp only [V, hostOps0, List.flatten_cons, List.flatten_nil, List.append_nil, List.cons_append, List.nil_append]
  after_results
  rfl

/-- What window 2 reads: the argument, its leading axes run together. -/
theorem entry_2 (c : Dev nD) : (V m c main_v2 : FVec Ideal S512x1024 .f32)
    = shapeCast S512x1024 (m ((c : Thread nD τ).loc main_arg2) : FVec Ideal S4x128x1024 .f32) shapeCasts_S4x128x1024_S512x1024 := by
  simp only [V, hostOps0, List.flatten_cons, List.flatten_nil, List.append_nil, List.cons_append, List.nil_append]
  after_results
  rfl

/-- What window 3 reads: the argument, its leading axes run together. -/
theorem entry_3 (c : Dev nD) : (V m c main_v3 : FVec Ideal S512x1024 .f32)
    = shapeCast S512x1024 (m ((c : Thread nD τ).loc main_arg3) : FVec Ideal S4x128x1024 .f32) shapeCasts_S4x128x1024_S512x1024 := by
  simp only [V, hostOps0, List.flatten_cons, List.flatten_nil, List.append_nil, List.cons_append, List.nil_append]
  after_results
  rfl

/-- The block of each window at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The stored first moments of a block. -/
theorem pay_m (g a : FVec Ideal S512x1024 .f32) : k0_pay2 (F := Ideal) g a = allM g a := by
  simp only [k0_pay2, k0_pay1, shapeCast_self]
  rfl

/-- The stored second moments of a block. -/
theorem pay_v (g b : FVec Ideal S512x1024 .f32) : k0_pay3 (F := Ideal) g b = allV g b := by
  simp only [k0_pay3, k0_pay1, shapeCast_self]
  rfl

/-- The stored changes of a block. -/
theorem pay_d (w g a b : FVec Ideal S512x1024 .f32) : k0_pay4 (F := Ideal) g a b w = allD w g a b := by
  simp only [k0_pay4, pay_m, pay_v, shapeCast_self]
  rfl

/-- The array of changes after the run. -/
theorem final_d (c : Dev nD) : (dats m 0 c).arrAt 4 (cfgs 0).N
    = (allD (V m c main_v0 : FVec Ideal S512x1024 .f32) (V m c main_v1) (V m c main_v2) (V m c main_v3) : FVec Ideal S512x1024 .f32) := by
  refine (dats m 0 c).arrAt_eq_of_covers 4 _ (by decide +kernel) fun t _ y => ?_
  blk_simp
  rw [after0_4]; frame_out
  idx_vars y
  refine (congrFun (pay_d _ _ _ _) (ix2 y0 y1)).trans ?_
  refine delta_congr ?_ ?_ ?_ ?_
  · blk_ext [iblk, idx t]
  · blk_ext [iblk, idx t]
  · blk_ext [iblk, idx t]
  · blk_ext [iblk, idx t]

/-- The array of first moments after the run. -/
theorem final_m (c : Dev nD) : (dats m 0 c).arrAt 5 (cfgs 0).N
    = (allM (V m c main_v1 : FVec Ideal S512x1024 .f32) (V m c main_v2) : FVec Ideal S512x1024 .f32) := by
  refine (dats m 0 c).arrAt_eq_of_covers 5 _ (by decide +kernel) fun t _ y => ?_
  blk_simp
  rw [after0_5]; frame_out
  idx_vars y
  refine (congrFun (pay_m _ _) (ix2 y0 y1)).trans ?_
  refine newM_congr ?_ ?_
  · blk_ext [iblk, idx t]
  · blk_ext [iblk, idx t]

/-- The array of second moments after the run. -/
theorem final_v (c : Dev nD) : (dats m 0 c).arrAt 6 (cfgs 0).N
    = (allV (V m c main_v1 : FVec Ideal S512x1024 .f32) (V m c main_v3) : FVec Ideal S512x1024 .f32) := by
  refine (dats m 0 c).arrAt_eq_of_covers 6 _ (by decide +kernel) fun t _ y => ?_
  blk_simp
  rw [after0_6]; frame_out
  idx_vars y
  refine (congrFun (pay_v _ _) (ix2 y0 y1)).trans ?_
  refine newV_congr ?_ ?_
  · blk_ext [iblk, idx t]
  · blk_ext [iblk, idx t]

end Cert.AdBaIdeal.Entry

namespace Cert

open Idealize.ShloMosaic Idealize.ShloMosaic.TcCoe Idealize.SL.Sem

/-- The call and its reference return the same arrays. -/
theorem adba_algebraic : Cert.algebraic_AdBaIdeal_AdBaRefIdeal := by
  intro m ρ m' ρ' _ hagree
  refine ⟨_, _, _, Cert.AdBaIdeal.Value.run_blocks m ρ, ?_⟩
  refine (θ_run Cert.AdBaRefIdeal.defs _ _).mono (fun _ h c => ⟨(h c).1.trans ?_, (h c).2.1.trans ?_, (h c).2.2.1.trans ?_,
      (h c).2.2.2⟩)
    (Cert.AdBaRefIdeal.Value.run (F := Ideal) m' ρ')
  all_goals
    obtain ⟨h0, h1, h2, h3⟩ := hagree c
  · rw [h0, h1, h2, h3]
    refine Eq.trans ?_ (Cert.AdBaIdeal.Entry.final_d m c).symm
    rw [Cert.AdBaIdeal.Entry.entry_0, Cert.AdBaIdeal.Entry.entry_1, Cert.AdBaIdeal.Entry.entry_2, Cert.AdBaIdeal.Entry.entry_3]
    rfl
  · rw [h1, h2]
    refine Eq.trans ?_ (Cert.AdBaIdeal.Entry.final_m m c).symm
    rw [Cert.AdBaIdeal.Entry.entry_1, Cert.AdBaIdeal.Entry.entry_2]
    rfl
  · rw [h1, h3]
    refine Eq.trans ?_ (Cert.AdBaIdeal.Entry.final_v m c).symm
    rw [Cert.AdBaIdeal.Entry.entry_1, Cert.AdBaIdeal.Entry.entry_3]
    rfl

end Cert
-- ==== Proof.AdFinal.lean ====
/- The optimiser's call for the last gain. -/
module

public import proofs.«01_k».proof.Proof.Gen.AdFinalIdeal.Value
public import proofs.«01_k».proof.Proof.Gen.AdFinalRefIdeal.Run
public import proofs.«01_k».proof.Defs
public import proofs.«01_k».proof.Proof.Adam

@[expose] public section

set_option maxRecDepth 16384

noncomputable section

namespace Cert.AdFinalIdeal.Entry

open Idealize.ShloMosaic Idealize.ShloMosaic.TcCoe Idealize.SL.Sem
open Cert.AdFinalIdeal Cert.AdFinalIdeal.Gen Cert.Adam

variable (m : (ℓ : Loc nD τ sig) → Buf (Elt Ideal) ℓ)

/-- What window 0 reads: the argument, its leading axes run together. -/
theorem entry_0 (c : Dev nD) : (V m c main_v0 : FVec Ideal S1x1024 .f32)
    = shapeCast S1x1024 (m ((c : Thread nD τ).loc main_arg0) : FVec Ideal S1024 .f32) shapeCasts_S1024_S1x1024 := by
  simp only [V, hostOps0, List.flatten_cons, List.flatten_nil, List.append_nil, List.cons_append, List.nil_append]
  after_results
  rfl

/-- What window 1 reads: the argument, its leading axes run together. -/
theorem entry_1 (c : Dev nD) : (V m c main_v1 : FVec Ideal S1x1024 .f32)
    = shapeCast S1x1024 (m ((c : Thread nD τ).loc main_arg1) : FVec Ideal S1024 .f32) shapeCasts_S1024_S1x1024 := by
  simp only [V, hostOps0, List.flatten_cons, List.flatten_nil, List.append_nil, List.cons_append, List.nil_append]
  after_results
  rfl

/-- What window 2 reads: the argument, its leading axes run together. -/
theorem entry_2 (c : Dev nD) : (V m c main_v2 : FVec Ideal S1x1024 .f32)
    = shapeCast S1x1024 (m ((c : Thread nD τ).loc main_arg2) : FVec Ideal S1024 .f32) shapeCasts_S1024_S1x1024 := by
  simp only [V, hostOps0, List.flatten_cons, List.flatten_nil, List.append_nil, List.cons_append, List.nil_append]
  after_results
  rfl

/-- What window 3 reads: the argument, its leading axes run together. -/
theorem entry_3 (c : Dev nD) : (V m c main_v3 : FVec Ideal S1x1024 .f32)
    = shapeCast S1x1024 (m ((c : Thread nD τ).loc main_arg3) : FVec Ideal S1024 .f32) shapeCasts_S1024_S1x1024 := by
  simp only [V, hostOps0, List.flatten_cons, List.flatten_nil, List.append_nil, List.cons_append, List.nil_append]
  after_results
  rfl

/-- The block of each window at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The stored first moments of a block. -/
theorem pay_m (g a : FVec Ideal S1x1024 .f32) : k0_pay2 (F := Ideal) g a = allM g a := by
  simp only [k0_pay2, k0_pay1, shapeCast_self]
  rfl

/-- The stored second moments of a block. -/
theorem pay_v (g b : FVec Ideal S1x1024 .f32) : k0_pay3 (F := Ideal) g b = allV g b := by
  simp only [k0_pay3, k0_pay1, shapeCast_self]
  rfl

/-- The stored changes of a block. -/
theorem pay_d (w g a b : FVec Ideal S1x1024 .f32) : k0_pay4 (F := Ideal) g a b w = allD w g a b := by
  simp only [k0_pay4, pay_m, pay_v, shapeCast_self]
  rfl

/-- The array of changes after the run. -/
theorem final_d (c : Dev nD) : (dats m 0 c).arrAt 4 (cfgs 0).N
    = (allD (V m c main_v0 : FVec Ideal S1x1024 .f32) (V m c main_v1) (V m c main_v2) (V m c main_v3) : FVec Ideal S1x1024 .f32) := by
  refine (dats m 0 c).arrAt_eq_of_covers 4 _ (by decide +kernel) fun t _ y => ?_
  blk_simp
  rw [after0_4]; frame_out
  idx_vars y
  refine (congrFun (pay_d _ _ _ _) (ix2 y0 y1)).trans ?_
  refine delta_congr ?_ ?_ ?_ ?_
  · blk_ext [iblk, idx t]
  · blk_ext [iblk, idx t]
  · blk_ext [iblk, idx t]
  · blk_ext [iblk, idx t]

/-- The array of first moments after the run. -/
theorem final_m (c : Dev nD) : (dats m 0 c).arrAt 5 (cfgs 0).N
    = (allM (V m c main_v1 : FVec Ideal S1x1024 .f32) (V m c main_v2) : FVec Ideal S1x1024 .f32) := by
  refine (dats m 0 c).arrAt_eq_of_covers 5 _ (by decide +kernel) fun t _ y => ?_
  blk_simp
  rw [after0_5]; frame_out
  idx_vars y
  refine (congrFun (pay_m _ _) (ix2 y0 y1)).trans ?_
  refine newM_congr ?_ ?_
  · blk_ext [iblk, idx t]
  · blk_ext [iblk, idx t]

/-- The array of second moments after the run. -/
theorem final_v (c : Dev nD) : (dats m 0 c).arrAt 6 (cfgs 0).N
    = (allV (V m c main_v1 : FVec Ideal S1x1024 .f32) (V m c main_v3) : FVec Ideal S1x1024 .f32) := by
  refine (dats m 0 c).arrAt_eq_of_covers 6 _ (by decide +kernel) fun t _ y => ?_
  blk_simp
  rw [after0_6]; frame_out
  idx_vars y
  refine (congrFun (pay_v _ _) (ix2 y0 y1)).trans ?_
  refine newV_congr ?_ ?_
  · blk_ext [iblk, idx t]
  · blk_ext [iblk, idx t]

end Cert.AdFinalIdeal.Entry

namespace Cert

open Idealize.ShloMosaic Idealize.ShloMosaic.TcCoe Idealize.SL.Sem

/-- The call and its reference return the same arrays. -/
theorem adfinal_algebraic : Cert.algebraic_AdFinalIdeal_AdFinalRefIdeal := by
  intro m ρ m' ρ' _ hagree
  refine ⟨_, _, _, Cert.AdFinalIdeal.Value.run_blocks m ρ, ?_⟩
  refine (θ_run Cert.AdFinalRefIdeal.defs _ _).mono (fun _ h c => ⟨(h c).1.trans ?_, (h c).2.1.trans ?_, (h c).2.2.1.trans ?_,
      (h c).2.2.2⟩)
    (Cert.AdFinalRefIdeal.Value.run (F := Ideal) m' ρ')
  all_goals
    obtain ⟨h0, h1, h2, h3⟩ := hagree c
  · rw [h0, h1, h2, h3]
    refine Eq.trans ?_ (Cert.AdFinalIdeal.Entry.final_d m c).symm
    rw [Cert.AdFinalIdeal.Entry.entry_0, Cert.AdFinalIdeal.Entry.entry_1, Cert.AdFinalIdeal.Entry.entry_2, Cert.AdFinalIdeal.Entry.entry_3]
    rfl
  · rw [h1, h2]
    refine Eq.trans ?_ (Cert.AdFinalIdeal.Entry.final_m m c).symm
    rw [Cert.AdFinalIdeal.Entry.entry_1, Cert.AdFinalIdeal.Entry.entry_2]
    rfl
  · rw [h1, h3]
    refine Eq.trans ?_ (Cert.AdFinalIdeal.Entry.final_v m c).symm
    rw [Cert.AdFinalIdeal.Entry.entry_1, Cert.AdFinalIdeal.Entry.entry_3]
    rfl

end Cert
-- ==== Proof.SumFfn.lean ====
/- The sum of the eight devices' parts of the gradients of a feed-forward's three weights. -/
module

public import proofs.«01_k».proof.Proof.Gen.SumFfnIdeal.Value
public import proofs.«01_k».proof.Proof.Gen.SumFfnRefIdeal.Run
public import proofs.«01_k».proof.Defs
public import Idealize.ShloMosaic.Lib.Pipeline.ValueKit

@[expose] public section

set_option maxRecDepth 16384

noncomputable section

namespace Cert.SumFfnIdeal.Entry

open Idealize.ShloMosaic Idealize.ShloMosaic.TcCoe Idealize.SL.Sem
open Cert.SumFfnIdeal Cert.SumFfnIdeal.Gen

variable (m : (ℓ : Loc nD τ sig) → Buf (Elt Ideal) ℓ)

/-- The sum over the eight parts. -/
def total (x : FVec Ideal S8x1056x1024 .bf16) : FVec Ideal S1056x1024 .f32 := fun i =>
  ∑ s : Fin 8, (x (ix3 s (i 0) (i 1)) : EReal)

/-- The block of each window at a point. -/
theorem idx : ∀ t : Fin cfg0.N, win0_0.index t = ![0, t.val, 0] ∧ win0_1.index t = ![t.val, 0] :=
  (by decide +kernel : ∀ t : Fin grid0.N, _)

/-- The stored block, at an index. -/
theorem pay_at (v0 v3 v7 v11 v15 v19 v23 v27 : FVec Ideal S1x352x1024 .bf16) (r : Fin 352) (k : Fin 1024) :
    k0_pay1 (F := Ideal) v0 v3 v7 v11 v15 v19 v23 v27 (ix2 r k)
      = (((((((v0 (ix3 0 r k) + v3 (ix3 0 r k) : EReal) + v7 (ix3 0 r k) : EReal) + v11 (ix3 0 r k) : EReal) + v15 (ix3 0 r k) : EReal) + v19 (ix3 0 r k) : EReal) + v23 (ix3 0 r k) : EReal) + v27 (ix3 0 r k) : EReal) := by
  pointwise [k0_pay1]

/-! The entry of the staged block that entry (0, r, l) of each load is. -/

theorem slot_0 (r : Fin 352) (l : Fin 1024) : r0_0.idx (ix3 0 r l) = ix3 0 r l := funext fun a => Fin.ext (match a with
  | ⟨0, _⟩ => by show 0 + 1 * 0 = 0; rfl
  | ⟨1, _⟩ => by show 0 + 1 * r.val = r.val; omega
  | ⟨2, _⟩ => by show 0 + 1 * l.val = l.val; omega)

theorem slot_1 (r : Fin 352) (l : Fin 1024) : r0_1.idx (ix3 0 r l) = ix3 1 r l := funext fun a => Fin.ext (match a with
  | ⟨0, _⟩ => by show 1 + 1 * 0 = 1; rfl
  | ⟨1, _⟩ => by show 0 + 1 * r.val = r.val; omega
  | ⟨2, _⟩ => by show 0 + 1 * l.val = l.val; omega)

theorem slot_2 (r : Fin 352) (l : Fin 1024) : r0_2.idx (ix3 0 r l) = ix3 2 r l := funext fun a => Fin.ext (match a with
  | ⟨0, _⟩ => by show 2 + 1 * 0 = 2; rfl
  | ⟨1, _⟩ => by show 0 + 1 * r.val = r.val; omega
  | ⟨2, _⟩ => by show 0 + 1 * l.val = l.val; omega)

theorem slot_3 (r : Fin 352) (l : Fin 1024) : r0_3.idx (ix3 0 r l) = ix3 3 r l := funext fun a => Fin.ext (match a with
  | ⟨0, _⟩ => by show 3 + 1 * 0 = 3; rfl
  | ⟨1, _⟩ => by show 0 + 1 * r.val = r.val; omega
  | ⟨2, _⟩ => by show 0 + 1 * l.val = l.val; omega)

theorem slot_4 (r : Fin 352) (l : Fin 1024) : r0_4.idx (ix3 0 r l) = ix3 4 r l := funext fun a => Fin.ext (match a with
  | ⟨0, _⟩ => by show 4 + 1 * 0 = 4; rfl
  | ⟨1, _⟩ => by show 0 + 1 * r.val = r.val; omega
  | ⟨2, _⟩ => by show 0 + 1 * l.val = l.val; omega)

theorem slot_5 (r : Fin 352) (l : Fin 1024) : r0_5.idx (ix3 0 r l) = ix3 5 r l := funext fun a => Fin.ext (match a with
  | ⟨0, _⟩ => by show 5 + 1 * 0 = 5; rfl
  | ⟨1, _⟩ => by show 0 + 1 * r.val = r.val; omega
  | ⟨2, _⟩ => by show 0 + 1 * l.val = l.val; omega)

theorem slot_6 (r : Fin 352) (l : Fin 1024) : r0_6.idx (ix3 0 r l) = ix3 6 r l := funext fun a => Fin.ext (match a with
  | ⟨0, _⟩ => by show 6 + 1 * 0 = 6; rfl
  | ⟨1, _⟩ => by show 0 + 1 * r.val = r.val; omega
  | ⟨2, _⟩ => by show 0 + 1 * l.val = l.val; omega)

theorem slot_7 (r : Fin 352) (l : Fin 1024) : r0_7.idx (ix3 0 r l) = ix3 7 r l := funext fun a => Fin.ext (match a with
  | ⟨0, _⟩ => by show 7 + 1 * 0 = 7; rfl
  | ⟨1, _⟩ => by show 0 + 1 * r.val = r.val; omega
  | ⟨2, _⟩ => by show 0 + 1 * l.val = l.val; omega)

/-- The array after the run. -/
theorem final (c : Dev nD) : (dats m 0 c).arrAt 1 (cfgs 0).N = total (m ((c : Thread nD τ).loc main_arg0)) := by
  refine (dats m 0 c).arrAt_eq_of_covers 1 _ (by decide +kernel) fun t _ y => ?_
  blk_simp
  rw [after0_1]; frame_out
  idx_vars y
  refine (pay_at _ _ _ _ _ _ _ _ y0 y1).trans ?_
  unfold total
  simp only [Fin.sum_univ_eight]
  refine congr (congrArg HAdd.hAdd (congr (congrArg HAdd.hAdd (congr (congrArg HAdd.hAdd (congr (congrArg HAdd.hAdd (congr (congrArg HAdd.hAdd (congr (congrArg HAdd.hAdd (congr (congrArg HAdd.hAdd ?_) ?_)) ?_)) ?_)) ?_)) ?_)) ?_)) ?_
  · refine (congrArg (iblk m c 0 t) (slot_0 y0 y1)).trans ?_
    blk_ext [iblk, idx t]
  · refine (congrArg (iblk m c 0 t) (slot_1 y0 y1)).trans ?_
    blk_ext [iblk, idx t]
  · refine (congrArg (iblk m c 0 t) (slot_2 y0 y1)).trans ?_
    blk_ext [iblk, idx t]
  · refine (congrArg (iblk m c 0 t) (slot_3 y0 y1)).trans ?_
    blk_ext [iblk, idx t]
  · refine (congrArg (iblk m c 0 t) (slot_4 y0 y1)).trans ?_
    blk_ext [iblk, idx t]
  · refine (congrArg (iblk m c 0 t) (slot_5 y0 y1)).trans ?_
    blk_ext [iblk, idx t]
  · refine (congrArg (iblk m c 0 t) (slot_6 y0 y1)).trans ?_
    blk_ext [iblk, idx t]
  · refine (congrArg (iblk m c 0 t) (slot_7 y0 y1)).trans ?_
    blk_ext [iblk, idx t]

end Cert.SumFfnIdeal.Entry

namespace Cert.SumFfnRefIdeal.Entry

open Idealize.ShloMosaic Idealize.ShloMosaic.TcCoe Idealize.SL.Sem
open Cert.SumFfnRefIdeal Cert.SumFfnRefIdeal.Gen

/-- The reference's sum, at an index. -/
theorem ref_at (x : FVec Ideal S8x1056x1024 .bf16) (r : Fin 1056) (k : Fin 1024) :
    (Host.reduceAdd (extf .f32 x bitsLt_bf16_f32) (constant (F := Ideal) S_ .f32 0x00000000#32) reducesTo_S8x1056x1024_S1056x1024_d0 h_S_ : FVec Ideal S1056x1024 .f32) (ix2 r k)
      = ∑ s : Fin 8, (x (ix3 s r k) : EReal) := by
  pointwise []

end Cert.SumFfnRefIdeal.Entry

namespace Cert

open Idealize.ShloMosaic Idealize.ShloMosaic.TcCoe Idealize.SL.Sem

/-- The call and its reference return the same array. -/
theorem sumffn_algebraic : Cert.algebraic_SumFfnIdeal_SumFfnRefIdeal := by
  intro m ρ m' ρ' _ hagree
  refine ⟨_, Cert.SumFfnIdeal.Value.run_blocks m ρ, ?_⟩
  refine (θ_run Cert.SumFfnRefIdeal.defs _ _).mono (fun _ h c => ⟨(h c).1.trans ?_, (h c).2⟩)
    (Cert.SumFfnRefIdeal.Value.run (F := Ideal) m' ρ')
  rw [hagree c]
  refine Eq.trans ?_ (Cert.SumFfnIdeal.Entry.final m c).symm
  funext i
  idx_vars i
  exact Cert.SumFfnRefIdeal.Entry.ref_at _ i0 i1

end Cert
-- ==== Proof.SumOne.lean ====
/- The sum of the eight devices' parts of the gradient of one weight of the first feed-forward. -/
module

public import proofs.«01_k».proof.Proof.Gen.SumOneIdeal.Value
public import proofs.«01_k».proof.Proof.Gen.SumOneRefIdeal.Run
public import proofs.«01_k».proof.Defs
public import Idealize.ShloMosaic.Lib.Pipeline.ValueKit

@[expose] public section

set_option maxRecDepth 16384

noncomputable section

namespace Cert.SumOneIdeal.Entry

open Idealize.ShloMosaic Idealize.ShloMosaic.TcCoe Idealize.SL.Sem
open Cert.SumOneIdeal Cert.SumOneIdeal.Gen

variable (m : (ℓ : Loc nD τ sig) → Buf (Elt Ideal) ℓ)

/-- The sum over the eight parts. -/
def total (x : FVec Ideal S8x352x1024 .bf16) : FVec Ideal S352x1024 .f32 := fun i =>
  ∑ s : Fin 8, (x (ix3 s (i 0) (i 1)) : EReal)

/-- The block of each window at a point. -/
theorem idx : ∀ t : Fin cfg0.N, win0_0.index t = ![0, t.val, 0] ∧ win0_1.index t = ![t.val, 0] :=
  (by decide +kernel : ∀ t : Fin grid0.N, _)

/-- The stored block, at an index. -/
theorem pay_at (v0 v3 v7 v11 v15 v19 v23 v27 : FVec Ideal S1x352x1024 .bf16) (r : Fin 352) (k : Fin 1024) :
    k0_pay1 (F := Ideal) v0 v3 v7 v11 v15 v19 v23 v27 (ix2 r k)
      = (((((((v0 (ix3 0 r k) + v3 (ix3 0 r k) : EReal) + v7 (ix3 0 r k) : EReal) + v11 (ix3 0 r k) : EReal) + v15 (ix3 0 r k) : EReal) + v19 (ix3 0 r k) : EReal) + v23 (ix3 0 r k) : EReal) + v27 (ix3 0 r k) : EReal) := by
  pointwise [k0_pay1]

/-! The entry of the staged block that entry (0, r, l) of each load is. -/

theorem slot_0 (r : Fin 352) (l : Fin 1024) : r0_0.idx (ix3 0 r l) = ix3 0 r l := funext fun a => Fin.ext (match a with
  | ⟨0, _⟩ => by show 0 + 1 * 0 = 0; rfl
  | ⟨1, _⟩ => by show 0 + 1 * r.val = r.val; omega
  | ⟨2, _⟩ => by show 0 + 1 * l.val = l.val; omega)

theorem slot_1 (r : Fin 352) (l : Fin 1024) : r0_1.idx (ix3 0 r l) = ix3 1 r l := funext fun a => Fin.ext (match a with
  | ⟨0, _⟩ => by show 1 + 1 * 0 = 1; rfl
  | ⟨1, _⟩ => by show 0 + 1 * r.val = r.val; omega
  | ⟨2, _⟩ => by show 0 + 1 * l.val = l.val; omega)

theorem slot_2 (r : Fin 352) (l : Fin 1024) : r0_2.idx (ix3 0 r l) = ix3 2 r l := funext fun a => Fin.ext (match a with
  | ⟨0, _⟩ => by show 2 + 1 * 0 = 2; rfl
  | ⟨1, _⟩ => by show 0 + 1 * r.val = r.val; omega
  | ⟨2, _⟩ => by show 0 + 1 * l.val = l.val; omega)

theorem slot_3 (r : Fin 352) (l : Fin 1024) : r0_3.idx (ix3 0 r l) = ix3 3 r l := funext fun a => Fin.ext (match a with
  | ⟨0, _⟩ => by show 3 + 1 * 0 = 3; rfl
  | ⟨1, _⟩ => by show 0 + 1 * r.val = r.val; omega
  | ⟨2, _⟩ => by show 0 + 1 * l.val = l.val; omega)

theorem slot_4 (r : Fin 352) (l : Fin 1024) : r0_4.idx (ix3 0 r l) = ix3 4 r l := funext fun a => Fin.ext (match a with
  | ⟨0, _⟩ => by show 4 + 1 * 0 = 4; rfl
  | ⟨1, _⟩ => by show 0 + 1 * r.val = r.val; omega
  | ⟨2, _⟩ => by show 0 + 1 * l.val = l.val; omega)

theorem slot_5 (r : Fin 352) (l : Fin 1024) : r0_5.idx (ix3 0 r l) = ix3 5 r l := funext fun a => Fin.ext (match a with
  | ⟨0, _⟩ => by show 5 + 1 * 0 = 5; rfl
  | ⟨1, _⟩ => by show 0 + 1 * r.val = r.val; omega
  | ⟨2, _⟩ => by show 0 + 1 * l.val = l.val; omega)

theorem slot_6 (r : Fin 352) (l : Fin 1024) : r0_6.idx (ix3 0 r l) = ix3 6 r l := funext fun a => Fin.ext (match a with
  | ⟨0, _⟩ => by show 6 + 1 * 0 = 6; rfl
  | ⟨1, _⟩ => by show 0 + 1 * r.val = r.val; omega
  | ⟨2, _⟩ => by show 0 + 1 * l.val = l.val; omega)

theorem slot_7 (r : Fin 352) (l : Fin 1024) : r0_7.idx (ix3 0 r l) = ix3 7 r l := funext fun a => Fin.ext (match a with
  | ⟨0, _⟩ => by show 7 + 1 * 0 = 7; rfl
  | ⟨1, _⟩ => by show 0 + 1 * r.val = r.val; omega
  | ⟨2, _⟩ => by show 0 + 1 * l.val = l.val; omega)

/-- The array after the run. -/
theorem final (c : Dev nD) : (dats m 0 c).arrAt 1 (cfgs 0).N = total (m ((c : Thread nD τ).loc main_arg0)) := by
  refine (dats m 0 c).arrAt_eq_of_covers 1 _ (by decide +kernel) fun t _ y => ?_
  blk_simp
  rw [after0_1]; frame_out
  idx_vars y
  refine (pay_at _ _ _ _ _ _ _ _ y0 y1).trans ?_
  unfold total
  simp only [Fin.sum_univ_eight]
  refine congr (congrArg HAdd.hAdd (congr (congrArg HAdd.hAdd (congr (congrArg HAdd.hAdd (congr (congrArg HAdd.hAdd (congr (congrArg HAdd.hAdd (congr (congrArg HAdd.hAdd (congr (congrArg HAdd.hAdd ?_) ?_)) ?_)) ?_)) ?_)) ?_)) ?_)) ?_
  · refine (congrArg (iblk m c 0 t) (slot_0 y0 y1)).trans ?_
    blk_ext [iblk, idx t]
  · refine (congrArg (iblk m c 0 t) (slot_1 y0 y1)).trans ?_
    blk_ext [iblk, idx t]
  · refine (congrArg (iblk m c 0 t) (slot_2 y0 y1)).trans ?_
    blk_ext [iblk, idx t]
  · refine (congrArg (iblk m c 0 t) (slot_3 y0 y1)).trans ?_
    blk_ext [iblk, idx t]
  · refine (congrArg (iblk m c 0 t) (slot_4 y0 y1)).trans ?_
    blk_ext [iblk, idx t]
  · refine (congrArg (iblk m c 0 t) (slot_5 y0 y1)).trans ?_
    blk_ext [iblk, idx t]
  · refine (congrArg (iblk m c 0 t) (slot_6 y0 y1)).trans ?_
    blk_ext [iblk, idx t]
  · refine (congrArg (iblk m c 0 t) (slot_7 y0 y1)).trans ?_
    blk_ext [iblk, idx t]

end Cert.SumOneIdeal.Entry

namespace Cert.SumOneRefIdeal.Entry

open Idealize.ShloMosaic Idealize.ShloMosaic.TcCoe Idealize.SL.Sem
open Cert.SumOneRefIdeal Cert.SumOneRefIdeal.Gen

/-- The reference's sum, at an index. -/
theorem ref_at (x : FVec Ideal S8x352x1024 .bf16) (r : Fin 352) (k : Fin 1024) :
    (Host.reduceAdd (extf .f32 x bitsLt_bf16_f32) (constant (F := Ideal) S_ .f32 0x00000000#32) reducesTo_S8x352x1024_S352x1024_d0 h_S_ : FVec Ideal S352x1024 .f32) (ix2 r k)
      = ∑ s : Fin 8, (x (ix3 s r k) : EReal) := by
  pointwise []

end Cert.SumOneRefIdeal.Entry

namespace Cert

open Idealize.ShloMosaic Idealize.ShloMosaic.TcCoe Idealize.SL.Sem

/-- The call and its reference return the same array. -/
theorem sumone_algebraic : Cert.algebraic_SumOneIdeal_SumOneRefIdeal := by
  intro m ρ m' ρ' _ hagree
  refine ⟨_, Cert.SumOneIdeal.Value.run_blocks m ρ, ?_⟩
  refine (θ_run Cert.SumOneRefIdeal.defs _ _).mono (fun _ h c => ⟨(h c).1.trans ?_, (h c).2⟩)
    (Cert.SumOneRefIdeal.Value.run (F := Ideal) m' ρ')
  rw [hagree c]
  refine Eq.trans ?_ (Cert.SumOneIdeal.Entry.final m c).symm
  funext i
  idx_vars i
  exact Cert.SumOneRefIdeal.Entry.ref_at _ i0 i1

end Cert
-- ==== Proof.SumMix.lean ====
/- The sum of the eight devices' parts of the gradients of the mixer's weights of 1024 columns. -/
module

public import proofs.«01_k».proof.Proof.Gen.SumMixIdeal.Value
public import proofs.«01_k».proof.Proof.Gen.SumMixRefIdeal.Run
public import proofs.«01_k».proof.Defs
public import Idealize.ShloMosaic.Lib.Pipeline.ValueKit

@[expose] public section

set_option maxRecDepth 16384

noncomputable section

namespace Cert.SumMixIdeal.Entry

open Idealize.ShloMosaic Idealize.ShloMosaic.TcCoe Idealize.SL.Sem
open Cert.SumMixIdeal Cert.SumMixIdeal.Gen

variable (m : (ℓ : Loc nD τ sig) → Buf (Elt Ideal) ℓ)

/-- The sum over the eight parts. -/
def total (x : FVec Ideal S8x768x1024 .bf16) : FVec Ideal S768x1024 .f32 := fun i =>
  ∑ s : Fin 8, (x (ix3 s (i 0) (i 1)) : EReal)

/-- The block of each window at a point. -/
theorem idx : ∀ t : Fin cfg0.N, win0_0.index t = ![0, t.val, 0] ∧ win0_1.index t = ![t.val, 0] :=
  (by decide +kernel : ∀ t : Fin grid0.N, _)

/-- The stored block, at an index. -/
theorem pay_at (v0 v3 v7 v11 v15 v19 v23 v27 : FVec Ideal S1x384x1024 .bf16) (r : Fin 384) (k : Fin 1024) :
    k0_pay1 (F := Ideal) v0 v3 v7 v11 v15 v19 v23 v27 (ix2 r k)
      = (((((((v0 (ix3 0 r k) + v3 (ix3 0 r k) : EReal) + v7 (ix3 0 r k) : EReal) + v11 (ix3 0 r k) : EReal) + v15 (ix3 0 r k) : EReal) + v19 (ix3 0 r k) : EReal) + v23 (ix3 0 r k) : EReal) + v27 (ix3 0 r k) : EReal) := by
  pointwise [k0_pay1]

/-! The entry of the staged block that entry (0, r, l) of each load is. -/

theorem slot_0 (r : Fin 384) (l : Fin 1024) : r0_0.idx (ix3 0 r l) = ix3 0 r l := funext fun a => Fin.ext (match a with
  | ⟨0, _⟩ => by show 0 + 1 * 0 = 0; rfl
  | ⟨1, _⟩ => by show 0 + 1 * r.val = r.val; omega
  | ⟨2, _⟩ => by show 0 + 1 * l.val = l.val; omega)

theorem slot_1 (r : Fin 384) (l : Fin 1024) : r0_1.idx (ix3 0 r l) = ix3 1 r l := funext fun a => Fin.ext (match a with
  | ⟨0, _⟩ => by show 1 + 1 * 0 = 1; rfl
  | ⟨1, _⟩ => by show 0 + 1 * r.val = r.val; omega
  | ⟨2, _⟩ => by show 0 + 1 * l.val = l.val; omega)

theorem slot_2 (r : Fin 384) (l : Fin 1024) : r0_2.idx (ix3 0 r l) = ix3 2 r l := funext fun a => Fin.ext (match a with
  | ⟨0, _⟩ => by show 2 + 1 * 0 = 2; rfl
  | ⟨1, _⟩ => by show 0 + 1 * r.val = r.val; omega
  | ⟨2, _⟩ => by show 0 + 1 * l.val = l.val; omega)

theorem slot_3 (r : Fin 384) (l : Fin 1024) : r0_3.idx (ix3 0 r l) = ix3 3 r l := funext fun a => Fin.ext (match a with
  | ⟨0, _⟩ => by show 3 + 1 * 0 = 3; rfl
  | ⟨1, _⟩ => by show 0 + 1 * r.val = r.val; omega
  | ⟨2, _⟩ => by show 0 + 1 * l.val = l.val; omega)

theorem slot_4 (r : Fin 384) (l : Fin 1024) : r0_4.idx (ix3 0 r l) = ix3 4 r l := funext fun a => Fin.ext (match a with
  | ⟨0, _⟩ => by show 4 + 1 * 0 = 4; rfl
  | ⟨1, _⟩ => by show 0 + 1 * r.val = r.val; omega
  | ⟨2, _⟩ => by show 0 + 1 * l.val = l.val; omega)

theorem slot_5 (r : Fin 384) (l : Fin 1024) : r0_5.idx (ix3 0 r l) = ix3 5 r l := funext fun a => Fin.ext (match a with
  | ⟨0, _⟩ => by show 5 + 1 * 0 = 5; rfl
  | ⟨1, _⟩ => by show 0 + 1 * r.val = r.val; omega
  | ⟨2, _⟩ => by show 0 + 1 * l.val = l.val; omega)

theorem slot_6 (r : Fin 384) (l : Fin 1024) : r0_6.idx (ix3 0 r l) = ix3 6 r l := funext fun a => Fin.ext (match a with
  | ⟨0, _⟩ => by show 6 + 1 * 0 = 6; rfl
  | ⟨1, _⟩ => by show 0 + 1 * r.val = r.val; omega
  | ⟨2, _⟩ => by show 0 + 1 * l.val = l.val; omega)

theorem slot_7 (r : Fin 384) (l : Fin 1024) : r0_7.idx (ix3 0 r l) = ix3 7 r l := funext fun a => Fin.ext (match a with
  | ⟨0, _⟩ => by show 7 + 1 * 0 = 7; rfl
  | ⟨1, _⟩ => by show 0 + 1 * r.val = r.val; omega
  | ⟨2, _⟩ => by show 0 + 1 * l.val = l.val; omega)

/-- The array after the run. -/
theorem final (c : Dev nD) : (dats m 0 c).arrAt 1 (cfgs 0).N = total (m ((c : Thread nD τ).loc main_arg0)) := by
  refine (dats m 0 c).arrAt_eq_of_covers 1 _ (by decide +kernel) fun t _ y => ?_
  blk_simp
  rw [after0_1]; frame_out
  idx_vars y
  refine (pay_at _ _ _ _ _ _ _ _ y0 y1).trans ?_
  unfold total
  simp only [Fin.sum_univ_eight]
  refine congr (congrArg HAdd.hAdd (congr (congrArg HAdd.hAdd (congr (congrArg HAdd.hAdd (congr (congrArg HAdd.hAdd (congr (congrArg HAdd.hAdd (congr (congrArg HAdd.hAdd (congr (congrArg HAdd.hAdd ?_) ?_)) ?_)) ?_)) ?_)) ?_)) ?_)) ?_
  · refine (congrArg (iblk m c 0 t) (slot_0 y0 y1)).trans ?_
    blk_ext [iblk, idx t]
  · refine (congrArg (iblk m c 0 t) (slot_1 y0 y1)).trans ?_
    blk_ext [iblk, idx t]
  · refine (congrArg (iblk m c 0 t) (slot_2 y0 y1)).trans ?_
    blk_ext [iblk, idx t]
  · refine (congrArg (iblk m c 0 t) (slot_3 y0 y1)).trans ?_
    blk_ext [iblk, idx t]
  · refine (congrArg (iblk m c 0 t) (slot_4 y0 y1)).trans ?_
    blk_ext [iblk, idx t]
  · refine (congrArg (iblk m c 0 t) (slot_5 y0 y1)).trans ?_
    blk_ext [iblk, idx t]
  · refine (congrArg (iblk m c 0 t) (slot_6 y0 y1)).trans ?_
    blk_ext [iblk, idx t]
  · refine (congrArg (iblk m c 0 t) (slot_7 y0 y1)).trans ?_
    blk_ext [iblk, idx t]

end Cert.SumMixIdeal.Entry

namespace Cert.SumMixRefIdeal.Entry

open Idealize.ShloMosaic Idealize.ShloMosaic.TcCoe Idealize.SL.Sem
open Cert.SumMixRefIdeal Cert.SumMixRefIdeal.Gen

/-- The reference's sum, at an index. -/
theorem ref_at (x : FVec Ideal S8x768x1024 .bf16) (r : Fin 768) (k : Fin 1024) :
    (Host.reduceAdd (extf .f32 x bitsLt_bf16_f32) (constant (F := Ideal) S_ .f32 0x00000000#32) reducesTo_S8x768x1024_S768x1024_d0 h_S_ : FVec Ideal S768x1024 .f32) (ix2 r k)
      = ∑ s : Fin 8, (x (ix3 s r k) : EReal) := by
  pointwise []

end Cert.SumMixRefIdeal.Entry

namespace Cert

open Idealize.ShloMosaic Idealize.ShloMosaic.TcCoe Idealize.SL.Sem

/-- The call and its reference return the same array. -/
theorem summix_algebraic : Cert.algebraic_SumMixIdeal_SumMixRefIdeal := by
  intro m ρ m' ρ' _ hagree
  refine ⟨_, Cert.SumMixIdeal.Value.run_blocks m ρ, ?_⟩
  refine (θ_run Cert.SumMixRefIdeal.defs _ _).mono (fun _ h c => ⟨(h c).1.trans ?_, (h c).2⟩)
    (Cert.SumMixRefIdeal.Value.run (F := Ideal) m' ρ')
  rw [hagree c]
  refine Eq.trans ?_ (Cert.SumMixIdeal.Entry.final m c).symm
  funext i
  idx_vars i
  exact Cert.SumMixRefIdeal.Entry.ref_at _ i0 i1

end Cert
-- ==== Proof.SumMixN.lean ====
/- The sum of the eight devices' parts of the gradients of the mixer's weights of 512 columns. -/
module

public import proofs.«01_k».proof.Proof.Gen.SumMixNIdeal.Value
public import proofs.«01_k».proof.Proof.Gen.SumMixNRefIdeal.Run
public import proofs.«01_k».proof.Defs
public import Idealize.ShloMosaic.Lib.Pipeline.ValueKit

@[expose] public section

set_option maxRecDepth 16384

noncomputable section

namespace Cert.SumMixNIdeal.Entry

open Idealize.ShloMosaic Idealize.ShloMosaic.TcCoe Idealize.SL.Sem
open Cert.SumMixNIdeal Cert.SumMixNIdeal.Gen

variable (m : (ℓ : Loc nD τ sig) → Buf (Elt Ideal) ℓ)

/-- The sum over the eight parts. -/
def total (x : FVec Ideal S8x192x512 .bf16) : FVec Ideal S192x512 .f32 := fun i =>
  ∑ s : Fin 8, (x (ix3 s (i 0) (i 1)) : EReal)

/-- The block of each window at a point. -/
theorem idx : ∀ t : Fin cfg0.N, win0_0.index t = ![0, t.val, 0] ∧ win0_1.index t = ![t.val, 0] :=
  (by decide +kernel : ∀ t : Fin grid0.N, _)

/-- The stored block, at an index. -/
theorem pay_at (v0 v3 v7 v11 v15 v19 v23 v27 : FVec Ideal S1x192x512 .bf16) (r : Fin 192) (k : Fin 512) :
    k0_pay1 (F := Ideal) v0 v3 v7 v11 v15 v19 v23 v27 (ix2 r k)
      = (((((((v0 (ix3 0 r k) + v3 (ix3 0 r k) : EReal) + v7 (ix3 0 r k) : EReal) + v11 (ix3 0 r k) : EReal) + v15 (ix3 0 r k) : EReal) + v19 (ix3 0 r k) : EReal) + v23 (ix3 0 r k) : EReal) + v27 (ix3 0 r k) : EReal) := by
  pointwise [k0_pay1]

/-! The entry of the staged block that entry (0, r, l) of each load is. -/

theorem slot_0 (r : Fin 192) (l : Fin 512) : r0_0.idx (ix3 0 r l) = ix3 0 r l := funext fun a => Fin.ext (match a with
  | ⟨0, _⟩ => by show 0 + 1 * 0 = 0; rfl
  | ⟨1, _⟩ => by show 0 + 1 * r.val = r.val; omega
  | ⟨2, _⟩ => by show 0 + 1 * l.val = l.val; omega)

theorem slot_1 (r : Fin 192) (l : Fin 512) : r0_1.idx (ix3 0 r l) = ix3 1 r l := funext fun a => Fin.ext (match a with
  | ⟨0, _⟩ => by show 1 + 1 * 0 = 1; rfl
  | ⟨1, _⟩ => by show 0 + 1 * r.val = r.val; omega
  | ⟨2, _⟩ => by show 0 + 1 * l.val = l.val; omega)

theorem slot_2 (r : Fin 192) (l : Fin 512) : r0_2.idx (ix3 0 r l) = ix3 2 r l := funext fun a => Fin.ext (match a with
  | ⟨0, _⟩ => by show 2 + 1 * 0 = 2; rfl
  | ⟨1, _⟩ => by show 0 + 1 * r.val = r.val; omega
  | ⟨2, _⟩ => by show 0 + 1 * l.val = l.val; omega)

theorem slot_3 (r : Fin 192) (l : Fin 512) : r0_3.idx (ix3 0 r l) = ix3 3 r l := funext fun a => Fin.ext (match a with
  | ⟨0, _⟩ => by show 3 + 1 * 0 = 3; rfl
  | ⟨1, _⟩ => by show 0 + 1 * r.val = r.val; omega
  | ⟨2, _⟩ => by show 0 + 1 * l.val = l.val; omega)

theorem slot_4 (r : Fin 192) (l : Fin 512) : r0_4.idx (ix3 0 r l) = ix3 4 r l := funext fun a => Fin.ext (match a with
  | ⟨0, _⟩ => by show 4 + 1 * 0 = 4; rfl
  | ⟨1, _⟩ => by show 0 + 1 * r.val = r.val; omega
  | ⟨2, _⟩ => by show 0 + 1 * l.val = l.val; omega)

theorem slot_5 (r : Fin 192) (l : Fin 512) : r0_5.idx (ix3 0 r l) = ix3 5 r l := funext fun a => Fin.ext (match a with
  | ⟨0, _⟩ => by show 5 + 1 * 0 = 5; rfl
  | ⟨1, _⟩ => by show 0 + 1 * r.val = r.val; omega
  | ⟨2, _⟩ => by show 0 + 1 * l.val = l.val; omega)

theorem slot_6 (r : Fin 192) (l : Fin 512) : r0_6.idx (ix3 0 r l) = ix3 6 r l := funext fun a => Fin.ext (match a with
  | ⟨0, _⟩ => by show 6 + 1 * 0 = 6; rfl
  | ⟨1, _⟩ => by show 0 + 1 * r.val = r.val; omega
  | ⟨2, _⟩ => by show 0 + 1 * l.val = l.val; omega)

theorem slot_7 (r : Fin 192) (l : Fin 512) : r0_7.idx (ix3 0 r l) = ix3 7 r l := funext fun a => Fin.ext (match a with
  | ⟨0, _⟩ => by show 7 + 1 * 0 = 7; rfl
  | ⟨1, _⟩ => by show 0 + 1 * r.val = r.val; omega
  | ⟨2, _⟩ => by show 0 + 1 * l.val = l.val; omega)

/-- The array after the run. -/
theorem final (c : Dev nD) : (dats m 0 c).arrAt 1 (cfgs 0).N = total (m ((c : Thread nD τ).loc main_arg0)) := by
  refine (dats m 0 c).arrAt_eq_of_covers 1 _ (by decide +kernel) fun t _ y => ?_
  blk_simp
  rw [after0_1]; frame_out
  idx_vars y
  refine (pay_at _ _ _ _ _ _ _ _ y0 y1).trans ?_
  unfold total
  simp only [Fin.sum_univ_eight]
  refine congr (congrArg HAdd.hAdd (congr (congrArg HAdd.hAdd (congr (congrArg HAdd.hAdd (congr (congrArg HAdd.hAdd (congr (congrArg HAdd.hAdd (congr (congrArg HAdd.hAdd (congr (congrArg HAdd.hAdd ?_) ?_)) ?_)) ?_)) ?_)) ?_)) ?_)) ?_
  · refine (congrArg (iblk m c 0 t) (slot_0 y0 y1)).trans ?_
    blk_ext [iblk, idx t]
  · refine (congrArg (iblk m c 0 t) (slot_1 y0 y1)).trans ?_
    blk_ext [iblk, idx t]
  · refine (congrArg (iblk m c 0 t) (slot_2 y0 y1)).trans ?_
    blk_ext [iblk, idx t]
  · refine (congrArg (iblk m c 0 t) (slot_3 y0 y1)).trans ?_
    blk_ext [iblk, idx t]
  · refine (congrArg (iblk m c 0 t) (slot_4 y0 y1)).trans ?_
    blk_ext [iblk, idx t]
  · refine (congrArg (iblk m c 0 t) (slot_5 y0 y1)).trans ?_
    blk_ext [iblk, idx t]
  · refine (congrArg (iblk m c 0 t) (slot_6 y0 y1)).trans ?_
    blk_ext [iblk, idx t]
  · refine (congrArg (iblk m c 0 t) (slot_7 y0 y1)).trans ?_
    blk_ext [iblk, idx t]

end Cert.SumMixNIdeal.Entry

namespace Cert.SumMixNRefIdeal.Entry

open Idealize.ShloMosaic Idealize.ShloMosaic.TcCoe Idealize.SL.Sem
open Cert.SumMixNRefIdeal Cert.SumMixNRefIdeal.Gen

/-- The reference's sum, at an index. -/
theorem ref_at (x : FVec Ideal S8x192x512 .bf16) (r : Fin 192) (k : Fin 512) :
    (Host.reduceAdd (extf .f32 x bitsLt_bf16_f32) (constant (F := Ideal) S_ .f32 0x00000000#32) reducesTo_S8x192x512_S192x512_d0 h_S_ : FVec Ideal S192x512 .f32) (ix2 r k)
      = ∑ s : Fin 8, (x (ix3 s r k) : EReal) := by
  pointwise []

end Cert.SumMixNRefIdeal.Entry

namespace Cert

open Idealize.ShloMosaic Idealize.ShloMosaic.TcCoe Idealize.SL.Sem

/-- The call and its reference return the same array. -/
theorem summixn_algebraic : Cert.algebraic_SumMixNIdeal_SumMixNRefIdeal := by
  intro m ρ m' ρ' _ hagree
  refine ⟨_, Cert.SumMixNIdeal.Value.run_blocks m ρ, ?_⟩
  refine (θ_run Cert.SumMixNRefIdeal.defs _ _).mono (fun _ h c => ⟨(h c).1.trans ?_, (h c).2⟩)
    (Cert.SumMixNRefIdeal.Value.run (F := Ideal) m' ρ')
  rw [hagree c]
  refine Eq.trans ?_ (Cert.SumMixNIdeal.Entry.final m c).symm
  funext i
  idx_vars i
  exact Cert.SumMixNRefIdeal.Entry.ref_at _ i0 i1

end Cert
-- ==== Proof.SumSmall.lean ====
/- The sum of the eight devices' parts of the gradients of a layer's small weights. -/
module

public import proofs.«01_k».proof.Proof.Gen.SumSmallIdeal.Value
public import proofs.«01_k».proof.Proof.Gen.SumSmallRefIdeal.Run
public import proofs.«01_k».proof.Defs
public import Idealize.ShloMosaic.Lib.Pipeline.ValueKit

@[expose] public section

set_option maxRecDepth 16384

noncomputable section

namespace Cert.SumSmallIdeal.Entry

open Idealize.ShloMosaic Idealize.ShloMosaic.TcCoe Idealize.SL.Sem
open Cert.SumSmallIdeal Cert.SumSmallIdeal.Gen

variable (m : (ℓ : Loc nD τ sig) → Buf (Elt Ideal) ℓ)

/-- The sum over the eight parts. -/
def total (x : FVec Ideal S8x288x1024 .f32) : FVec Ideal S288x1024 .f32 := fun i =>
  ∑ s : Fin 8, (x (ix3 s (i 0) (i 1)) : EReal)

/-- The block of each window at a point. -/
theorem idx : ∀ t : Fin cfg0.N, win0_0.index t = ![0, t.val, 0] ∧ win0_1.index t = ![t.val, 0] :=
  (by decide +kernel : ∀ t : Fin grid0.N, _)

/-- The stored block, at an index. -/
theorem pay_at (v0 v2 v5 v8 v11 v14 v17 v20 : FVec Ideal S1x288x1024 .f32) (r : Fin 288) (k : Fin 1024) :
    k0_pay1 (F := Ideal) v0 v2 v5 v8 v11 v14 v17 v20 (ix2 r k)
      = (((((((v0 (ix3 0 r k) + v2 (ix3 0 r k) : EReal) + v5 (ix3 0 r k) : EReal) + v8 (ix3 0 r k) : EReal) + v11 (ix3 0 r k) : EReal) + v14 (ix3 0 r k) : EReal) + v17 (ix3 0 r k) : EReal) + v20 (ix3 0 r k) : EReal) := by
  pointwise [k0_pay1]

/-! The entry of the staged block that entry (0, r, l) of each load is. -/

theorem slot_0 (r : Fin 288) (l : Fin 1024) : r0_0.idx (ix3 0 r l) = ix3 0 r l := funext fun a => Fin.ext (match a with
  | ⟨0, _⟩ => by show 0 + 1 * 0 = 0; rfl
  | ⟨1, _⟩ => by show 0 + 1 * r.val = r.val; omega
  | ⟨2, _⟩ => by show 0 + 1 * l.val = l.val; omega)

theorem slot_1 (r : Fin 288) (l : Fin 1024) : r0_1.idx (ix3 0 r l) = ix3 1 r l := funext fun a => Fin.ext (match a with
  | ⟨0, _⟩ => by show 1 + 1 * 0 = 1; rfl
  | ⟨1, _⟩ => by show 0 + 1 * r.val = r.val; omega
  | ⟨2, _⟩ => by show 0 + 1 * l.val = l.val; omega)

theorem slot_2 (r : Fin 288) (l : Fin 1024) : r0_2.idx (ix3 0 r l) = ix3 2 r l := funext fun a => Fin.ext (match a with
  | ⟨0, _⟩ => by show 2 + 1 * 0 = 2; rfl
  | ⟨1, _⟩ => by show 0 + 1 * r.val = r.val; omega
  | ⟨2, _⟩ => by show 0 + 1 * l.val = l.val; omega)

theorem slot_3 (r : Fin 288) (l : Fin 1024) : r0_3.idx (ix3 0 r l) = ix3 3 r l := funext fun a => Fin.ext (match a with
  | ⟨0, _⟩ => by show 3 + 1 * 0 = 3; rfl
  | ⟨1, _⟩ => by show 0 + 1 * r.val = r.val; omega
  | ⟨2, _⟩ => by show 0 + 1 * l.val = l.val; omega)

theorem slot_4 (r : Fin 288) (l : Fin 1024) : r0_4.idx (ix3 0 r l) = ix3 4 r l := funext fun a => Fin.ext (match a with
  | ⟨0, _⟩ => by show 4 + 1 * 0 = 4; rfl
  | ⟨1, _⟩ => by show 0 + 1 * r.val = r.val; omega
  | ⟨2, _⟩ => by show 0 + 1 * l.val = l.val; omega)

theorem slot_5 (r : Fin 288) (l : Fin 1024) : r0_5.idx (ix3 0 r l) = ix3 5 r l := funext fun a => Fin.ext (match a with
  | ⟨0, _⟩ => by show 5 + 1 * 0 = 5; rfl
  | ⟨1, _⟩ => by show 0 + 1 * r.val = r.val; omega
  | ⟨2, _⟩ => by show 0 + 1 * l.val = l.val; omega)

theorem slot_6 (r : Fin 288) (l : Fin 1024) : r0_6.idx (ix3 0 r l) = ix3 6 r l := funext fun a => Fin.ext (match a with
  | ⟨0, _⟩ => by show 6 + 1 * 0 = 6; rfl
  | ⟨1, _⟩ => by show 0 + 1 * r.val = r.val; omega
  | ⟨2, _⟩ => by show 0 + 1 * l.val = l.val; omega)

theorem slot_7 (r : Fin 288) (l : Fin 1024) : r0_7.idx (ix3 0 r l) = ix3 7 r l := funext fun a => Fin.ext (match a with
  | ⟨0, _⟩ => by show 7 + 1 * 0 = 7; rfl
  | ⟨1, _⟩ => by show 0 + 1 * r.val = r.val; omega
  | ⟨2, _⟩ => by show 0 + 1 * l.val = l.val; omega)

/-- The array after the run. -/
theorem final (c : Dev nD) : (dats m 0 c).arrAt 1 (cfgs 0).N = total (m ((c : Thread nD τ).loc main_arg0)) := by
  refine (dats m 0 c).arrAt_eq_of_covers 1 _ (by decide +kernel) fun t _ y => ?_
  blk_simp
  rw [after0_1]; frame_out
  idx_vars y
  refine (pay_at _ _ _ _ _ _ _ _ y0 y1).trans ?_
  unfold total
  simp only [Fin.sum_univ_eight]
  refine congr (congrArg HAdd.hAdd (congr (congrArg HAdd.hAdd (congr (congrArg HAdd.hAdd (congr (congrArg HAdd.hAdd (congr (congrArg HAdd.hAdd (congr (congrArg HAdd.hAdd (congr (congrArg HAdd.hAdd ?_) ?_)) ?_)) ?_)) ?_)) ?_)) ?_)) ?_
  · refine (congrArg (iblk m c 0 t) (slot_0 y0 y1)).trans ?_
    blk_ext [iblk, idx t]
  · refine (congrArg (iblk m c 0 t) (slot_1 y0 y1)).trans ?_
    blk_ext [iblk, idx t]
  · refine (congrArg (iblk m c 0 t) (slot_2 y0 y1)).trans ?_
    blk_ext [iblk, idx t]
  · refine (congrArg (iblk m c 0 t) (slot_3 y0 y1)).trans ?_
    blk_ext [iblk, idx t]
  · refine (congrArg (iblk m c 0 t) (slot_4 y0 y1)).trans ?_
    blk_ext [iblk, idx t]
  · refine (congrArg (iblk m c 0 t) (slot_5 y0 y1)).trans ?_
    blk_ext [iblk, idx t]
  · refine (congrArg (iblk m c 0 t) (slot_6 y0 y1)).trans ?_
    blk_ext [iblk, idx t]
  · refine (congrArg (iblk m c 0 t) (slot_7 y0 y1)).trans ?_
    blk_ext [iblk, idx t]

end Cert.SumSmallIdeal.Entry

namespace Cert.SumSmallRefIdeal.Entry

open Idealize.ShloMosaic Idealize.ShloMosaic.TcCoe Idealize.SL.Sem
open Cert.SumSmallRefIdeal Cert.SumSmallRefIdeal.Gen

/-- The reference's sum, at an index. -/
theorem ref_at (x : FVec Ideal S8x288x1024 .f32) (r : Fin 288) (k : Fin 1024) :
    (Host.reduceAdd x (constant (F := Ideal) S_ .f32 0x00000000#32) reducesTo_S8x288x1024_S288x1024_d0 h_S_ : FVec Ideal S288x1024 .f32) (ix2 r k)
      = ∑ s : Fin 8, (x (ix3 s r k) : EReal) := by
  pointwise []

end Cert.SumSmallRefIdeal.Entry

namespace Cert

open Idealize.ShloMosaic Idealize.ShloMosaic.TcCoe Idealize.SL.Sem

/-- The call and its reference return the same array. -/
theorem sumsmall_algebraic : Cert.algebraic_SumSmallIdeal_SumSmallRefIdeal := by
  intro m ρ m' ρ' _ hagree
  refine ⟨_, Cert.SumSmallIdeal.Value.run_blocks m ρ, ?_⟩
  refine (θ_run Cert.SumSmallRefIdeal.defs _ _).mono (fun _ h c => ⟨(h c).1.trans ?_, (h c).2⟩)
    (Cert.SumSmallRefIdeal.Value.run (F := Ideal) m' ρ')
  rw [hagree c]
  refine Eq.trans ?_ (Cert.SumSmallIdeal.Entry.final m c).symm
  funext i
  idx_vars i
  exact Cert.SumSmallRefIdeal.Entry.ref_at _ i0 i1

end Cert
-- ==== Proof.SumLast.lean ====
/- The sum of the eight devices' parts of the gradients of the first gain and of the rows the model adds. -/
module

public import proofs.«01_k».proof.Proof.Gen.SumLastIdeal.Value
public import proofs.«01_k».proof.Proof.Gen.SumLastRefIdeal.Run
public import proofs.«01_k».proof.Defs
public import Idealize.ShloMosaic.Lib.Pipeline.ValueKit

@[expose] public section

set_option maxRecDepth 16384

noncomputable section

namespace Cert.SumLastIdeal.Entry

open Idealize.ShloMosaic Idealize.ShloMosaic.TcCoe Idealize.SL.Sem
open Cert.SumLastIdeal Cert.SumLastIdeal.Gen

variable (m : (ℓ : Loc nD τ sig) → Buf (Elt Ideal) ℓ)

/-- The sum over the eight parts. -/
def total (x : FVec Ideal S8x24x1024 .f32) : FVec Ideal S24x1024 .f32 := fun i =>
  ∑ s : Fin 8, (x (ix3 s (i 0) (i 1)) : EReal)

/-- The block of each window at a point. -/
theorem idx : ∀ t : Fin cfg0.N, win0_0.index t = ![0, t.val, 0] ∧ win0_1.index t = ![t.val, 0] :=
  (by decide +kernel : ∀ t : Fin grid0.N, _)

/-- The stored block, at an index. -/
theorem pay_at (v0 v2 v5 v8 v11 v14 v17 v20 : FVec Ideal S1x24x1024 .f32) (r : Fin 24) (k : Fin 1024) :
    k0_pay1 (F := Ideal) v0 v2 v5 v8 v11 v14 v17 v20 (ix2 r k)
      = (((((((v0 (ix3 0 r k) + v2 (ix3 0 r k) : EReal) + v5 (ix3 0 r k) : EReal) + v8 (ix3 0 r k) : EReal) + v11 (ix3 0 r k) : EReal) + v14 (ix3 0 r k) : EReal) + v17 (ix3 0 r k) : EReal) + v20 (ix3 0 r k) : EReal) := by
  pointwise [k0_pay1]

/-! The entry of the staged block that entry (0, r, l) of each load is. -/

theorem slot_0 (r : Fin 24) (l : Fin 1024) : r0_0.idx (ix3 0 r l) = ix3 0 r l := funext fun a => Fin.ext (match a with
  | ⟨0, _⟩ => by show 0 + 1 * 0 = 0; rfl
  | ⟨1, _⟩ => by show 0 + 1 * r.val = r.val; omega
  | ⟨2, _⟩ => by show 0 + 1 * l.val = l.val; omega)

theorem slot_1 (r : Fin 24) (l : Fin 1024) : r0_1.idx (ix3 0 r l) = ix3 1 r l := funext fun a => Fin.ext (match a with
  | ⟨0, _⟩ => by show 1 + 1 * 0 = 1; rfl
  | ⟨1, _⟩ => by show 0 + 1 * r.val = r.val; omega
  | ⟨2, _⟩ => by show 0 + 1 * l.val = l.val; omega)

theorem slot_2 (r : Fin 24) (l : Fin 1024) : r0_2.idx (ix3 0 r l) = ix3 2 r l := funext fun a => Fin.ext (match a with
  | ⟨0, _⟩ => by show 2 + 1 * 0 = 2; rfl
  | ⟨1, _⟩ => by show 0 + 1 * r.val = r.val; omega
  | ⟨2, _⟩ => by show 0 + 1 * l.val = l.val; omega)

theorem slot_3 (r : Fin 24) (l : Fin 1024) : r0_3.idx (ix3 0 r l) = ix3 3 r l := funext fun a => Fin.ext (match a with
  | ⟨0, _⟩ => by show 3 + 1 * 0 = 3; rfl
  | ⟨1, _⟩ => by show 0 + 1 * r.val = r.val; omega
  | ⟨2, _⟩ => by show 0 + 1 * l.val = l.val; omega)

theorem slot_4 (r : Fin 24) (l : Fin 1024) : r0_4.idx (ix3 0 r l) = ix3 4 r l := funext fun a => Fin.ext (match a with
  | ⟨0, _⟩ => by show 4 + 1 * 0 = 4; rfl
  | ⟨1, _⟩ => by show 0 + 1 * r.val = r.val; omega
  | ⟨2, _⟩ => by show 0 + 1 * l.val = l.val; omega)

theorem slot_5 (r : Fin 24) (l : Fin 1024) : r0_5.idx (ix3 0 r l) = ix3 5 r l := funext fun a => Fin.ext (match a with
  | ⟨0, _⟩ => by show 5 + 1 * 0 = 5; rfl
  | ⟨1, _⟩ => by show 0 + 1 * r.val = r.val; omega
  | ⟨2, _⟩ => by show 0 + 1 * l.val = l.val; omega)

theorem slot_6 (r : Fin 24) (l : Fin 1024) : r0_6.idx (ix3 0 r l) = ix3 6 r l := funext fun a => Fin.ext (match a with
  | ⟨0, _⟩ => by show 6 + 1 * 0 = 6; rfl
  | ⟨1, _⟩ => by show 0 + 1 * r.val = r.val; omega
  | ⟨2, _⟩ => by show 0 + 1 * l.val = l.val; omega)

theorem slot_7 (r : Fin 24) (l : Fin 1024) : r0_7.idx (ix3 0 r l) = ix3 7 r l := funext fun a => Fin.ext (match a with
  | ⟨0, _⟩ => by show 7 + 1 * 0 = 7; rfl
  | ⟨1, _⟩ => by show 0 + 1 * r.val = r.val; omega
  | ⟨2, _⟩ => by show 0 + 1 * l.val = l.val; omega)

/-- The array after the run. -/
theorem final (c : Dev nD) : (dats m 0 c).arrAt 1 (cfgs 0).N = total (m ((c : Thread nD τ).loc main_arg0)) := by
  refine (dats m 0 c).arrAt_eq_of_covers 1 _ (by decide +kernel) fun t _ y => ?_
  blk_simp
  rw [after0_1]; frame_out
  idx_vars y
  refine (pay_at _ _ _ _ _ _ _ _ y0 y1).trans ?_
  unfold total
  simp only [Fin.sum_univ_eight]
  refine congr (congrArg HAdd.hAdd (congr (congrArg HAdd.hAdd (congr (congrArg HAdd.hAdd (congr (congrArg HAdd.hAdd (congr (congrArg HAdd.hAdd (congr (congrArg HAdd.hAdd (congr (congrArg HAdd.hAdd ?_) ?_)) ?_)) ?_)) ?_)) ?_)) ?_)) ?_
  · refine (congrArg (iblk m c 0 t) (slot_0 y0 y1)).trans ?_
    blk_ext [iblk, idx t]
  · refine (congrArg (iblk m c 0 t) (slot_1 y0 y1)).trans ?_
    blk_ext [iblk, idx t]
  · refine (congrArg (iblk m c 0 t) (slot_2 y0 y1)).trans ?_
    blk_ext [iblk, idx t]
  · refine (congrArg (iblk m c 0 t) (slot_3 y0 y1)).trans ?_
    blk_ext [iblk, idx t]
  · refine (congrArg (iblk m c 0 t) (slot_4 y0 y1)).trans ?_
    blk_ext [iblk, idx t]
  · refine (congrArg (iblk m c 0 t) (slot_5 y0 y1)).trans ?_
    blk_ext [iblk, idx t]
  · refine (congrArg (iblk m c 0 t) (slot_6 y0 y1)).trans ?_
    blk_ext [iblk, idx t]
  · refine (congrArg (iblk m c 0 t) (slot_7 y0 y1)).trans ?_
    blk_ext [iblk, idx t]

end Cert.SumLastIdeal.Entry

namespace Cert.SumLastRefIdeal.Entry

open Idealize.ShloMosaic Idealize.ShloMosaic.TcCoe Idealize.SL.Sem
open Cert.SumLastRefIdeal Cert.SumLastRefIdeal.Gen

/-- The reference's sum, at an index. -/
theorem ref_at (x : FVec Ideal S8x24x1024 .f32) (r : Fin 24) (k : Fin 1024) :
    (Host.reduceAdd x (constant (F := Ideal) S_ .f32 0x00000000#32) reducesTo_S8x24x1024_S24x1024_d0 h_S_ : FVec Ideal S24x1024 .f32) (ix2 r k)
      = ∑ s : Fin 8, (x (ix3 s r k) : EReal) := by
  pointwise []

end Cert.SumLastRefIdeal.Entry

namespace Cert

open Idealize.ShloMosaic Idealize.ShloMosaic.TcCoe Idealize.SL.Sem

/-- The call and its reference return the same array. -/
theorem sumlast_algebraic : Cert.algebraic_SumLastIdeal_SumLastRefIdeal := by
  intro m ρ m' ρ' _ hagree
  refine ⟨_, Cert.SumLastIdeal.Value.run_blocks m ρ, ?_⟩
  refine (θ_run Cert.SumLastRefIdeal.defs _ _).mono (fun _ h c => ⟨(h c).1.trans ?_, (h c).2⟩)
    (Cert.SumLastRefIdeal.Value.run (F := Ideal) m' ρ')
  rw [hagree c]
  refine Eq.trans ?_ (Cert.SumLastIdeal.Entry.final m c).symm
  funext i
  idx_vars i
  exact Cert.SumLastRefIdeal.Entry.ref_at _ i0 i1

end Cert
-- ==== Proof.FinalLoss.lean ====
/- The call of the loss head: the gradient of the rows after the last layer, a device's part of the loss, and the
   gradient of the last gain. -/
module

public import proofs.«01_k».proof.Proof.Gen.FinalLossIdeal.Value
public import proofs.«01_k».proof.Proof.Gen.FinalLossRefIdeal.Run
public import proofs.«01_k».proof.Defs
public import proofs.«01_k».proof.Proof.Scalars
public import proofs.«01_k».proof.Proof.Rows
public import proofs.«01_k».proof.Proof.Norm
public import proofs.«01_k».proof.Proof.NormGrad
public import Idealize.ShloMosaic.Lib.StableHlo.Predicate

@[expose] public section

set_option maxRecDepth 16384

noncomputable section

namespace Cert.LossRows

open Idealize.ShloMosaic
open Cert.Rows Cert.Norm Cert.NormGrad Cert.Scalars

/-- Whether a block of the padded sequence holds tokens, as the call decides it: the block's number is above zero. -/
def flag (n : ℕ) : EReal := Scalar.sitofp (F := Ideal) .f32 (Scalar.extui (Scalar.cmpi .sgt (BitVec.ofNat 32 n) 0#32) : BitVec 32)

theorem flag_zero : flag 0 = 0 := zero_word

theorem flag_pos (n : ℕ) (h : 0 < n) (hn : n < 129) : flag n = 1 := by
  have e : IntOp.cmpi .sgt (BitVec.ofNat 32 n) 0#32 = 1#1 := by
    refine (StableHlo.Predicate.sgt_iff_toNat ?_ (by decide)).mpr ?_
    · rw [BitVec.toNat_ofNat, Nat.mod_eq_of_lt (by omega)]; omega
    · show 0 < (BitVec.ofNat 32 n).toNat
      rw [BitVec.toNat_ofNat, Nat.mod_eq_of_lt (by omega)]; exact h
  show FloatOps.sitofp (F := Ideal) .f32 (BitVec.setWidth 32 (IntOp.cmpi .sgt (BitVec.ofNat 32 n) 0#32)) = 1
  rw [e]
  show ((((1#1 : BitVec 1).setWidth 32).toInt : ℝ) : EReal) = 1
  simp

/-- An entry of the error of a row: the normed row less its target, where the block holds tokens. -/
def errAt (h g T : Fin 1024 → EReal) (v : EReal) (k : Fin 1024) : EReal := (normed h g k - T k) * v

/-- The cotangent of the normed row. -/
def cot (e : Fin 1024 → EReal) (k : Fin 1024) : EReal := Ideal.div (e k) (Ideal.ofBits .f32 0x44800000#32)

/-- The sum of the squares of a row's error. -/
def sqSum (e : Fin 1024 → EReal) : EReal := ∑ k, e k * e k

/-- A row's part of the gradient of the gain. -/
def gainRow (h e : Fin 1024 → EReal) (j : Fin 1024) : EReal := cot e j * (h j * scale h)

/-- What a sum of squares adds to the loss. -/
def term (x : EReal) : EReal := Ideal.div (Ideal.ofBits .f32 0x3F000000#32 * x) (Ideal.ofBits .f32 0x44800000#32)

/-- The token that a row of the padded sequence holds (a row of the first block, for a row before the tokens). -/
def padTok (R : Fin 16512) : Fin 16384 := ⟨(R.val / 128 - 1) * 128 + R.val % 128, by omega⟩

/-- The token that a row of the sequence holds (token 0 for a row before the tokens). -/
def seqTok (r : Fin 16400) : Fin 16384 := ⟨r.val - 16, by omega⟩

/-- The error on the rows of the sequence: zero on the 16 rows before the tokens. -/
def seqErr (H : Fin 16400 → Fin 1024 → EReal) (g : Fin 1024 → EReal) (T : Fin 16384 → Fin 1024 → EReal) (r : Fin 16400) (k : Fin 1024) : EReal :=
  if 16 ≤ r.val then normed (H r) g k - T (seqTok r) k else 0

/-- The error on a row of the padded sequence is the error on the row of the sequence that it holds. -/
theorem err_pad (H : Fin 16400 → Fin 1024 → EReal) (g : Fin 1024 → EReal) (T : Fin 16384 → Fin 1024 → EReal) (R : Fin 16512) :
    errAt (onRows H R) g (T (padTok R)) (flag (R.val / 128)) = onRows (seqErr H g T) R := by
  funext k
  unfold errAt
  by_cases h : 128 ≤ R.val
  · have h1 : 112 ≤ R.val := by omega
    have h2 : 16 ≤ (seqRow R).val := by show 16 ≤ R.val - 112; omega
    rw [onRows_row_pos _ h1, onRows_pos _ h1, flag_pos _ (by omega) (by omega), mul_one, seqErr, if_pos h2]
    refine congrArg (fun q => normed (H (seqRow R)) g k - T q k) (Fin.ext ?_)
    show (R.val / 128 - 1) * 128 + R.val % 128 = R.val - 112 - 16
    omega
  · have h0 : R.val / 128 = 0 := by omega
    rw [h0, flag_zero, mul_zero]
    by_cases h1 : 112 ≤ R.val
    · rw [onRows_pos _ h1, seqErr, if_neg (show ¬ 16 ≤ (seqRow R).val by show ¬ 16 ≤ R.val - 112; omega)]
    · rw [onRows_neg _ h1]

theorem cot_zero (k : Fin 1024) : cot (fun _ => 0) k = 0 := div_1024_zero

theorem grad_zero (g : Fin 1024 → EReal) (j : Fin 1024) : gradK (fun _ => 0) g (cot (fun _ => 0)) j = 0 := by
  simp only [gradK, cot_zero, zero_mul, sub_zero, mul_zero]

theorem sq_zero : sqSum (fun _ => 0) = 0 := by
  simp only [sqSum, mul_zero, Finset.sum_const_zero]

theorem term_zero : term 0 = 0 := by
  rw [term, mul_zero, div_1024_zero]

/-- A sum over the rows of the sequence of a summand that vanishes before the tokens is the sum over the tokens. -/
theorem sum_tok (f : Fin 16384 → EReal) :
    ∑ r : Fin 16400, (if 16 ≤ r.val then f (seqTok r) else 0) = ∑ q : Fin 16384, f q := by
  have e := Fin.sum_univ_add (M := EReal) (a := 16) (b := 16384) (fun r : Fin (16 + 16384) => if 16 ≤ r.val then f (seqTok r) else 0)
  refine e.trans ?_
  have h0 : ∑ i : Fin 16, (if 16 ≤ (Fin.castAdd 16384 i).val then f (seqTok (Fin.castAdd 16384 i)) else 0) = 0 := by
    refine Finset.sum_eq_zero fun i _ => if_neg ?_
    simp
  rw [h0, zero_add]
  refine Finset.sum_congr rfl fun i _ => ?_
  rw [if_pos (by simp)]
  exact congrArg f (Fin.ext (by simp [seqTok]))

/-- A term as a product by a real number. -/
theorem term_eq (x : EReal) : term x = ((1 / 2 * (1 / 1024) : ℝ) : EReal) * x := by
  unfold term
  rw [ofBits_1024, ofBits_half, Ideal.div_coe (by norm_num), EReal.coe_mul]
  ac_rfl

/-- The term of a sum is the sum of the terms. -/
theorem term_sum {n : ℕ} (f : Fin n → EReal) : term (∑ i, f i) = ∑ i, term (f i) := by
  simp only [term_eq]
  exact mul_sum_real _ _ (by norm_num)

/-- The padding of the tokens by 16 rows, read at an index. -/
theorem pad_tok (x : FVec Ideal ⟨2, ![16384, 1024]⟩ .f32) {u : Shape}
    (h : (⟨2, ![16384, 1024]⟩ : Shape).Pads ![16, 0] ![0, 0] ![0, 0] ⟨2, ![16400, 1024]⟩)
    (hu : 0 < u.numel) (r : Fin 16400) (k : Fin 1024) :
    pad ⟨2, ![16400, 1024]⟩ ![16, 0] ![0, 0] ![0, 0] x (constant (F := Ideal) u .f32 0x00000000#32) h hu (ix2 r k)
      = if 16 ≤ r.val then x (ix2 (seqTok r) k) else 0 := by
  rw [pad_apply]
  by_cases hr : 16 ≤ r.val
  · rw [if_pos hr, dif_pos (show _ from by
      intro a
      fin_cases a
      · exact ⟨hr, Nat.mod_one _, by simp [ix2]; omega⟩
      · exact ⟨Nat.zero_le _, Nat.mod_one _, by simp [ix2]⟩)]
    refine congrArg x ?_
    funext a
    fin_cases a
    · exact Fin.ext (by simp [ix2, Shape.Idx.norm, seqTok])
    · exact Fin.ext (by simp [ix2, Shape.Idx.norm])
  · rw [if_neg hr, dif_neg (show _ from fun hin => hr (hin 0).1)]
    show Ideal.ofBits .f32 0x00000000#32 = 0
    simp [Ideal.ofBits, Ideal.ieee]

/-- The word of the float `2` is the real two. -/
theorem ofBits_two : Ideal.ofBits .f32 0x40000000#32 = ((2 : ℝ) : EReal) := by
  simp [Ideal.ofBits, Ideal.ieee, -EReal.coe_mul]; norm_num

/-- The reference's spelling of the cotangent agrees. -/
theorem cot_ref (x : EReal) :
    Ideal.div (Ideal.ofBits .f32 0x3F000000#32 * Ideal.ofBits .f32 0x3F800000#32) (Ideal.ofBits .f32 0x44800000#32)
        * (Ideal.ofBits .f32 0x40000000#32 * x) = Ideal.div x (Ideal.ofBits .f32 0x44800000#32) := by
  rw [ofBits_half, ofBits_one, ofBits_1024, ofBits_two, Ideal.div_coe (by norm_num), Ideal.div_coe (by norm_num), ← mul_assoc, mul_comm x]
  simp only [← EReal.coe_mul]
  refine congrArg (fun r : ℝ => (r : EReal) * x) ?_
  norm_num

/-- Half of a sum of quotients is the sum of the terms. -/
theorem half_ref {n : ℕ} (f : Fin n → EReal) :
    Ideal.ofBits .f32 0x3F000000#32 * ∑ i, Ideal.div (f i) (Ideal.ofBits .f32 0x44800000#32) = ∑ i, term (f i) := by
  rw [ofBits_half, mul_sum_real _ _ (by norm_num)]
  refine Finset.sum_congr rfl fun i _ => ?_
  rw [term_eq, ofBits_1024, Ideal.div_coe (by norm_num), EReal.coe_mul]
  ac_rfl

/-- The loss over the padded rows, block by block, is the loss over the tokens. -/
theorem loss_sum (H : Fin 16400 → Fin 1024 → EReal) (g : Fin 1024 → EReal) (T : Fin 16384 → Fin 1024 → EReal) (s : Fin 129 → Fin 128 → Fin 16512) (hs : ∀ a b, (s a b).val = a.val * 128 + b.val) :
    ∑ a : Fin 129, term (∑ b : Fin 128, sqSum (onRows (seqErr H g T) (s a b)))
      = ∑ q : Fin 16384, term (sqSum fun k => normed (H ⟨q.val + 16, by omega⟩) g k - T q k) := by
  have e1 : ∀ a : Fin 129, term (∑ b : Fin 128, sqSum (onRows (seqErr H g T) (s a b))) = ∑ b : Fin 128, term (sqSum (onRows (seqErr H g T) (s a b))) :=
    fun a => term_sum _
  rw [Finset.sum_congr rfl fun a _ => e1 a]
  have e2 : ∑ a : Fin 129, ∑ b : Fin 128, term (sqSum (onRows (seqErr H g T) (s a b))) = ∑ R : Fin 16512, term (sqSum (onRows (seqErr H g T) R)) :=
    Fin.sum_mul_add_congr fun a b hl => congrArg (fun R => term (sqSum (onRows (seqErr H g T) R))) (Fin.ext (hs a b))
  rw [e2]
  have e3 : ∑ R : Fin 16512, term (sqSum (onRows (seqErr H g T) R)) = ∑ r : Fin 16400, term (sqSum (seqErr H g T r)) := by
    refine Eq.trans (Finset.sum_congr rfl fun R _ => ?_) (sum_onRows _)
    by_cases h : 112 ≤ R.val
    · rw [if_pos h, onRows_row_pos _ h]
    · rw [if_neg h, onRows_row_neg _ h, sq_zero, term_zero]
  rw [e3]
  refine Eq.trans (Finset.sum_congr rfl fun r _ => ?_) (sum_tok _)
  by_cases h : 16 ≤ r.val
  · rw [if_pos h]
    refine congrArg (fun e => term (sqSum e)) (funext fun k => ?_)
    rw [seqErr, if_pos h]
    refine congrArg (fun p => normed (H p) g k - T (seqTok r) k) (Fin.ext ?_)
    show r.val = r.val - 16 + 16
    omega
  · rw [if_neg h]
    have e : seqErr H g T r = fun _ => 0 := funext fun k => if_neg h
    rw [e, sq_zero, term_zero]

end Cert.LossRows

namespace Cert.FinalLossIdeal.Entry

open Idealize.ShloMosaic Idealize.ShloMosaic.TcCoe Idealize.SL.Sem
open Cert.FinalLossIdeal Cert.FinalLossIdeal.Gen Cert.Rows Cert.Norm Cert.NormGrad Cert.Scalars Cert.LossRows

variable (m : (ℓ : Loc nD τ sig) → Buf (Elt Ideal) ℓ)

/-- The padded rows. -/
theorem entry_h (c : Dev nD) (R : Fin 16512) (k : Fin 1024) :
    V m c main_v0 (ix2 R k) = onRows (fun r l => (m ((c : Thread nD τ).loc main_arg0) : S16400x1024.Idx → EReal) (ix2 r l)) R k := by
  have e : (V m c main_v0 : FVec Ideal S16512x1024 .f32) = pad S16512x1024 ![112, 0] ![0, 0] ![0, 0]
      (m ((c : Thread nD τ).loc main_arg0) : FVec Ideal S16400x1024 .f32) (sitofp (F := Ideal) .f32 (constantI S_ 32 0#32))
      pads_S16400x1024_S16512x1024_11200_000 h_S_ := by
    simp only [V, hostOps0, hostOps0_1, List.flatten_cons, List.flatten_nil, List.append_nil, List.cons_append, List.nil_append,
      StableHlo.TRef.unary, StableHlo.TRef.binary, StableHlo.TRef.toBuf, StableHlo.TRef.ofBuf, cast_eq]
    after_results
  exact (congrFun e (ix2 R k)).trans (pad_at _ pads_S16400x1024_S16512x1024_11200_000 h_S_ R k)

/-- The targets the call reads. -/
theorem entry_t (c : Dev nD) : (V m c main_arg1 : FVec Ideal S16384x1024 .f32) = m ((c : Thread nD τ).loc main_arg1) := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results

/-- The gain the call reads. -/
theorem entry_g (c : Dev nD) : (V m c main_arg2 : FVec Ideal S1x1024 .f32) = m ((c : Thread nD τ).loc main_arg2) := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results

/-- The block of each window at a point. -/
theorem idx : ∀ t : Fin cfg0.N, win0_0.index t = ![t.val, 0] ∧ win0_1.index t = ![t.val - 1, 0] ∧ win0_2.index t = ![0, 0]
    ∧ win0_3.index t = ![t.val, 0] ∧ win0_4.index t = ![0, 0] ∧ win0_5.index t = ![0, 0] := (by decide +kernel : ∀ t : Fin grid0.N, _)

theorem coord : ∀ t : Fin cfg0.N, (grid0.coords t 0).val = t.val := (by decide +kernel : ∀ t : Fin grid0.N, _)

/-- The error at an index of a block. -/
theorem err_at (i : grid0.Coords) (g : FVec Ideal S1x1024 .f32) (h T : FVec Ideal S128x1024 .f32) (r : Fin 128) (k : Fin 1024) :
    k0_pay9 (F := Ideal) i g h T (ix2 r k)
      = errAt (fun k => h (ix2 r k)) (fun k => g (ix2 0 k)) (fun k => T (ix2 r k)) (flag (i 0).val) k := by
  pointwise [k0_pay9, k0_pay8, k0_pay7, k0_pay6, errAt, normed, scale, flag]

/-- The stored gradient of the rows at an index of a block. -/
theorem dx_at (i : grid0.Coords) (g : FVec Ideal S1x1024 .f32) (h T : FVec Ideal S128x1024 .f32) (r : Fin 128) (j : Fin 1024) :
    k0_pay2 (F := Ideal) g (k0_pay7 (F := Ideal) h) (k0_pay8 (F := Ideal) h) (k0_pay9 (F := Ideal) i g h T) (ix2 r j)
      = gradK (fun k => h (ix2 r k)) (fun k => g (ix2 0 k))
          (cot (errAt (fun k => h (ix2 r k)) (fun k => g (ix2 0 k)) (fun k => T (ix2 r k)) (flag (i 0).val))) j := by
  pointwise [k0_pay2, k0_pay1, k0_pay8, k0_pay7, k0_pay6, err_at, gradK, cot, scale]

/-- What a block adds to the gradient of the gain. -/
theorem gain_at (i : grid0.Coords) (g : FVec Ideal S1x1024 .f32) (h T : FVec Ideal S128x1024 .f32) (v : FVec Ideal S1x1024 .f32) (a : Fin 1) (j : Fin 1024) :
    k0_pay3 (F := Ideal) (k0_pay8 (F := Ideal) h) (k0_pay9 (F := Ideal) i g h T) v (ix2 a j)
      = v (ix2 a j) + ∑ r : Fin 128, gainRow (fun k => h (ix2 r k))
          (errAt (fun k => h (ix2 r k)) (fun k => g (ix2 0 k)) (fun k => T (ix2 r k)) (flag (i 0).val)) j := by
  pointwise [k0_pay3, k0_pay1, k0_pay8, k0_pay7, k0_pay6, err_at, gainRow, cot, scale]

/-- What a block adds to the loss. -/
theorem loss_at (i : grid0.Coords) (g : FVec Ideal S1x1024 .f32) (h T : FVec Ideal S128x1024 .f32) (v : FVec Ideal S8x128 .f32) (a : Fin 8) (b : Fin 128) :
    k0_pay10 (F := Ideal) i g h T v (ix2 a b)
      = v (ix2 a b) + term (∑ r : Fin 128, sqSum
          (errAt (fun k => h (ix2 r k)) (fun k => g (ix2 0 k)) (fun k => T (ix2 r k)) (flag (i 0).val))) := by
  pointwise [k0_pay10, err_at, term, sqSum]

theorem zero_loss (i : S8x128.Idx) : k0_pay4 (F := Ideal) i = (0 : EReal) := by
  pointwise [k0_pay4]

theorem zero_gain (i : S1x1024.Idx) : k0_pay5 (F := Ideal) i = (0 : EReal) := by
  pointwise [k0_pay5]

/-- The error of a row of a point's block. -/
def blkErr (c : Dev nD) (t : Fin cfg0.N) (r : Fin 128) : Fin 1024 → EReal :=
  errAt (fun k => iblk m c 0 t (ix2 r k)) (fun k => iblk m c 2 t (ix2 0 k)) (fun k => iblk m c 1 t (ix2 r k)) (flag (grid0.coords t 0).val)

/-- What a point adds to the loss. -/
def partL (c : Dev nD) (t : Fin cfg0.N) : EReal := term (∑ r : Fin 128, sqSum (blkErr m c t r))

/-- What a point adds to the gradient of the gain. -/
def partG (c : Dev nD) (t : Fin cfg0.N) : S1x1024.Idx → EReal :=
  fun i => ∑ r : Fin 128, gainRow (fun k => iblk m c 0 t (ix2 r k)) (blkErr m c t r) (i 1)

set_option maxHeartbeats 2000000 in
/-- What a point stores into the gradient of the rows. -/
theorem x_at (c : Dev nD) (t : Fin cfg0.N) : (outsAt0 m c t.val t.isLt).1
    = k0_pay2 (F := Ideal) (iblk m c 2 t) (k0_pay7 (F := Ideal) (iblk m c 0 t)) (k0_pay8 (F := Ideal) (iblk m c 0 t))
        (k0_pay9 (F := Ideal) (grid0.coords t) (iblk m c 2 t) (iblk m c 0 t) (iblk m c 1 t)) := by
  by_cases h0 : t.val % 129 = 0
  · rw [outsAt0_A m c t h0]; frame_out
  · rw [outsAt0_B m c t h0]; frame_out

set_option maxHeartbeats 2000000 in
theorem loss_reset (c : Dev nD) (t : Fin cfg0.N) (h : t.val % 129 = 0) (i : S8x128.Idx) :
    (outsAt0 m c t.val t.isLt).2.1 i = (0 : EReal) + partL m c t := by
  rw [outsAt0_A m c t h]
  frame_out
  idx_vars i
  refine (loss_at _ _ _ _ _ i0 i1).trans ?_
  exact Ideal.add_congr (zero_loss _) rfl

set_option maxHeartbeats 2000000 in
theorem loss_step (c : Dev nD) (t : Fin cfg0.N) (h : ¬t.val % 129 = 0) (i : S8x128.Idx) :
    (outsAt0 m c t.val t.isLt).2.1 i
      = (outsAt0 m c (t.val - 1) (Nat.lt_of_le_of_lt (Nat.sub_le _ _) t.isLt)).2.1 i + partL m c t := by
  rw [outsAt0_B m c t h]
  frame_out
  idx_vars i
  exact loss_at _ _ _ _ _ i0 i1

set_option maxHeartbeats 2000000 in
theorem gain_reset (c : Dev nD) (t : Fin cfg0.N) (h : t.val % 129 = 0) (i : S1x1024.Idx) :
    (outsAt0 m c t.val t.isLt).2.2 i = (0 : EReal) + partG m c t i := by
  rw [outsAt0_A m c t h]
  frame_out
  idx_vars i
  refine (gain_at _ _ _ _ _ i0 i1).trans ?_
  exact Ideal.add_congr (zero_gain _) rfl

set_option maxHeartbeats 2000000 in
theorem gain_step (c : Dev nD) (t : Fin cfg0.N) (h : ¬t.val % 129 = 0) (i : S1x1024.Idx) :
    (outsAt0 m c t.val t.isLt).2.2 i
      = (outsAt0 m c (t.val - 1) (Nat.lt_of_le_of_lt (Nat.sub_le _ _) t.isLt)).2.2 i + partG m c t i := by
  rw [outsAt0_B m c t h]
  frame_out
  idx_vars i
  exact gain_at _ _ _ _ _ i0 i1

/-- The error of a row of the padded sequence, from the arrays the call reads. -/
def rowErr (H : FVec Ideal S16512x1024 .f32) (T : FVec Ideal S16384x1024 .f32) (g : FVec Ideal S1x1024 .f32) (R : Fin 16512) : Fin 1024 → EReal :=
  errAt (fun k => H (ix2 R k)) (fun k => g (ix2 0 k)) (fun k => T (ix2 (padTok R) k)) (flag (R.val / 128))

set_option maxHeartbeats 2000000 in
/-- The error of a row of a point's block, at its row of the padded sequence. -/
theorem blk_row (c : Dev nD) (t : Fin cfg0.N) (r : Fin 128) (R : Fin 16512) (hR : R.val = t.val * 128 + r.val) :
    blkErr m c t r = rowErr (V m c main_v0) (V m c main_arg1) (V m c main_arg2) R := by
  have h1 : R.val / 128 = t.val := by omega
  have h2 : R.val % 128 = r.val := by omega
  unfold blkErr rowErr
  refine congr (congr (congr (congrArg errAt (funext fun k => ?_)) (funext fun k => ?_)) (funext fun k => ?_)) ?_
  · blk_ext [iblk, idx t, hR]
  · blk_ext [iblk, idx t]
  · blk_ext [iblk, idx t, padTok, h1, h2]
  · rw [coord t, h1]

set_option maxHeartbeats 2000000 in
/-- A row of a point's block, at its row of the padded sequence. -/
theorem blk_h (c : Dev nD) (t : Fin cfg0.N) (r : Fin 128) (R : Fin 16512) (hR : R.val = t.val * 128 + r.val) :
    (fun k => iblk m c 0 t (ix2 r k)) = fun k => V m c main_v0 (ix2 R k) := by
  funext k
  blk_ext [iblk, idx t, hR]

/-- The whole gradient of the rows. -/
def outX (H : FVec Ideal S16512x1024 .f32) (T : FVec Ideal S16384x1024 .f32) (g : FVec Ideal S1x1024 .f32) : FVec Ideal S16512x1024 .f32 :=
  fun i => gradK (fun k => H (ix2 (i 0) k)) (fun k => g (ix2 0 k)) (cot (rowErr H T g (i 0))) (i 1)

/-- The row of the padded sequence that a row of a block is. -/
def padRow (a : Fin 129) (b : Fin 128) : Fin 16512 := ⟨a.val * 128 + b.val, by omega⟩

/-- The whole loss. -/
def outL (H : FVec Ideal S16512x1024 .f32) (T : FVec Ideal S16384x1024 .f32) (g : FVec Ideal S1x1024 .f32) : FVec Ideal S8x128 .f32 :=
  fun _ => ∑ a : Fin 129, term (∑ b : Fin 128, sqSum (rowErr H T g (padRow a b)))

/-- The whole gradient of the gain. -/
def outG (H : FVec Ideal S16512x1024 .f32) (T : FVec Ideal S16384x1024 .f32) (g : FVec Ideal S1x1024 .f32) : FVec Ideal S1x1024 .f32 :=
  fun i => ∑ R : Fin 16512, gainRow (fun k => H (ix2 R k)) (rowErr H T g R) (i 1)

set_option maxHeartbeats 2000000 in
/-- The gradient of the rows after the run. -/
theorem final_x (c : Dev nD) : (dats m 0 c).arrAt 3 (cfgs 0).N = outX (V m c main_v0) (V m c main_arg1) (V m c main_arg2) := by
  refine (dats m 0 c).arrAt_eq_of_covers 3 _ (by decide +kernel) fun t _ y => ?_
  blk_simp
  rw [after0_3, x_at]
  idx_vars y
  refine (dx_at _ _ _ _ y0 y1).trans ?_
  have hR : (((((View.whole main_v1_0).slice (win0_3.rect t)).emb (ix2 y0 y1)) 0 : Fin 16512)).val = t.val * 128 + y0.val := by blk_simp [idx t]
  refine congr (congr (congr (congrArg gradK (blk_h m c t y0 _ hR)) (funext fun k => ?_)) (congrArg cot (blk_row m c t y0 _ hR))) ?_
  · blk_ext [iblk, idx t]
  · exact Fin.ext (by blk_simp [idx t])

set_option maxHeartbeats 2000000 in
/-- The loss after the run. -/
theorem final_l (c : Dev nD) : (dats m 0 c).arrAt 4 (cfgs 0).N = outL (V m c main_v0) (V m c main_arg1) (V m c main_arg2) := by
  refine (dats m 0 c).arrAt_eq_of_covers 4 _ (by decide +kernel) fun t hf y => ?_
  blk_simp
  rw [after0_4]
  have hm : t.val % 129 = 128 := (flush0_4 t).mp hf
  rw [Pipeline.eq_sum_fin_of_reset_step_apply_of_flush (fun n h => (outsAt0 m c n h).2.1) 129 (fun _ => 0) (fun t _ => partL m c t)
    (fun t h j => loss_reset m c t h j) (fun t h j => loss_step m c t h j) t hm _, zero_add]
  unfold outL
  have ht : t.val / 129 = 0 := Nat.div_eq_of_lt t.isLt
  refine congrArg (fun f : Fin 129 → EReal => ∑ a, f a) (funext fun s => ?_)
  unfold partL
  refine congrArg term (Finset.sum_congr rfl fun r _ => congrArg sqSum (blk_row m c _ r _ ?_))
  show s.val * 128 + r.val = (129 * (t.val / 129) + s.val) * 128 + r.val
  omega

set_option maxHeartbeats 2000000 in
/-- The gradient of the gain after the run. -/
theorem final_g (c : Dev nD) : (dats m 0 c).arrAt 5 (cfgs 0).N = outG (V m c main_v0) (V m c main_arg1) (V m c main_arg2) := by
  refine (dats m 0 c).arrAt_eq_of_covers 5 _ (by decide +kernel) fun t hf y => ?_
  blk_simp
  rw [after0_5]
  have hm : t.val % 129 = 128 := (flush0_5 t).mp hf
  rw [Pipeline.eq_sum_fin_of_reset_step_apply_of_flush (fun n h => (outsAt0 m c n h).2.2) 129 (fun _ => 0) (fun t => partG m c t)
    (fun t h j => gain_reset m c t h j) (fun t h j => gain_step m c t h j) t hm _, zero_add]
  have ht : t.val / 129 = 0 := Nat.div_eq_of_lt t.isLt
  unfold partG outG
  refine Fin.sum_mul_add_congr fun s r hl => ?_
  have hR : s.val * 128 + r.val = (129 * (t.val / 129) + s.val) * 128 + r.val := by omega
  refine congr (congr (congrArg gainRow (blk_h m c _ r _ hR)) (blk_row m c _ r _ hR)) ?_
  exact Fin.ext (by blk_simp [idx t])

/-! ## The results from the arguments -/

/-- The rows of an argument. -/
def rows {n : ℕ} (H : (⟨2, ![n, 1024]⟩ : Shape).Idx → EReal) (r : Fin n) (k : Fin 1024) : EReal := H (ix2 r k)

/-- The error of a row of the sequence, from the arguments. -/
def argErr (H : S16400x1024.Idx → EReal) (T : S16384x1024.Idx → EReal) (g : S1x1024.Idx → EReal) : Fin 16400 → Fin 1024 → EReal :=
  seqErr (rows H) (fun k => g (ix2 0 k)) (rows T)

theorem rows_h (c : Dev nD) (R : Fin 16512) :
    (fun k => V m c main_v0 (ix2 R k)) = onRows (rows (m ((c : Thread nD τ).loc main_arg0))) R :=
  funext fun k => entry_h m c R k

theorem rows_err (c : Dev nD) (R : Fin 16512) : rowErr (V m c main_v0) (V m c main_arg1) (V m c main_arg2) R
    = onRows (argErr (m ((c : Thread nD τ).loc main_arg0)) (m ((c : Thread nD τ).loc main_arg1)) (m ((c : Thread nD τ).loc main_arg2))) R := by
  refine Eq.trans ?_ (err_pad _ _ _ R)
  refine congrFun (congr (congr (congrArg errAt (rows_h m c R)) (funext fun k => ?_)) (funext fun k => ?_)) _
  · exact congrFun (entry_g m c) _
  · exact congrFun (entry_t m c) _

/-- The gradient of the rows at an index. -/
theorem res_x (c : Dev nD) (R : Fin 16512) (j : Fin 1024) : (dats m 0 c).arrAt 3 (cfgs 0).N (ix2 R j)
    = onRows (fun r j => gradK (rows (m ((c : Thread nD τ).loc main_arg0)) r) (fun k => (m ((c : Thread nD τ).loc main_arg2) : S1x1024.Idx → EReal) (ix2 0 k))
        (cot (argErr (m ((c : Thread nD τ).loc main_arg0)) (m ((c : Thread nD τ).loc main_arg1)) (m ((c : Thread nD τ).loc main_arg2)) r)) j) R j := by
  refine (congrFun (final_x m c) (ix2 R j)).trans ?_
  refine (congrFun (congr (congr (congrArg gradK (rows_h m c R)) (funext fun k => congrFun (entry_g m c) _)) (congrArg cot (rows_err m c R))) j).trans ?_
  by_cases h : 112 ≤ R.val
  · rw [onRows_row_pos _ h, onRows_row_pos _ h, onRows_pos _ h]
  · rw [onRows_row_neg _ h, onRows_row_neg _ h, onRows_neg _ h]
    exact grad_zero _ j

/-- The loss at an index. -/
theorem res_l (c : Dev nD) (i : S8x128.Idx) : (dats m 0 c).arrAt 4 (cfgs 0).N i
    = ∑ a : Fin 129, term (∑ b : Fin 128, sqSum (onRows (argErr (m ((c : Thread nD τ).loc main_arg0)) (m ((c : Thread nD τ).loc main_arg1))
        (m ((c : Thread nD τ).loc main_arg2))) (padRow a b))) := by
  refine (congrFun (final_l m c) i).trans ?_
  refine congrArg (fun f : Fin 129 → EReal => ∑ a, f a) (funext fun a => congrArg term (Finset.sum_congr rfl fun b _ => ?_))
  exact congrArg sqSum (rows_err m c _)

/-- The gradient of the gain at an index. -/
theorem res_g (c : Dev nD) (i : Fin 1) (j : Fin 1024) : (dats m 0 c).arrAt 5 (cfgs 0).N (ix2 i j)
    = ∑ r : Fin 16400, gainRow (rows (m ((c : Thread nD τ).loc main_arg0)) r)
        (argErr (m ((c : Thread nD τ).loc main_arg0)) (m ((c : Thread nD τ).loc main_arg1)) (m ((c : Thread nD τ).loc main_arg2)) r) j := by
  refine (congrFun (final_g m c) (ix2 i j)).trans ?_
  refine Eq.trans (congrArg (fun f : Fin 16512 → EReal => ∑ R, f R) (funext fun R => ?_)) (sum_onRows _)
  refine (congrFun (congr (congrArg gainRow (rows_h m c R)) (rows_err m c R)) j).trans ?_
  by_cases h : 112 ≤ R.val
  · rw [onRows_row_pos _ h, onRows_row_pos _ h, if_pos h]
  · rw [onRows_row_neg _ h, onRows_row_neg _ h, if_neg h, gainRow, zero_mul, mul_zero]

end Cert.FinalLossIdeal.Entry

namespace Cert.FinalLossRefIdeal.Entry

open Idealize.ShloMosaic
open Cert.FinalLossRefIdeal Cert.FinalLossRefIdeal.Gen Cert.Rows Cert.Norm Cert.Scalars Cert.NormGrad Cert.LossRows
open Cert.FinalLossIdeal.Entry (rows argErr)

/-- The reference's mean square. -/
def refM (H : FVec Ideal S16400x1024 .f32) : FVec Ideal S16400x1 .f32 :=
  addf (Host.divf (broadcastInDim S16400x1 ![0] bcast_S16400_S16400x1_0 (Host.reduceAdd (mulf H H) (constant S_ .f32 0x00000000#32) reducesTo_S16400x1024_S16400_d1 h_S_)) (broadcastInDim S16400x1 ![] bcast_S_S16400x1 (constant S_ .f32 0x44800000#32))) (broadcastInDim S16400x1 ![] bcast_S_S16400x1 (constant S_ .f32 0x358637BD#32))

/-- The reference's norm without the gain. -/
def refS (H : FVec Ideal S16400x1024 .f32) : FVec Ideal S16400x1024 .f32 :=
  broadcastInDim S16400x1024 ![0, 1] bcast_S16400x1_S16400x1024_0_1 (Host.rsqrt (refM H))

/-- The gain on every row. -/
def refB (g : FVec Ideal S1x1024 .f32) : FVec Ideal S16400x1024 .f32 := broadcastInDim S16400x1024 ![0, 1] bcast_S1x1024_S16400x1024_0_1 g

/-- The reference's error of the tokens. -/
def refE (H : FVec Ideal S16400x1024 .f32) (T : FVec Ideal S16384x1024 .f32) (g : FVec Ideal S1x1024 .f32) : FVec Ideal S16384x1024 .f32 :=
  subf (extractStridedSlice S16384x1024 ![16, 0] (mulf (mulf H (refS H)) (refB g)) slices_S16400x1024_S16384x1024_16_0) T

/-- The reference's cotangent of the tokens. -/
def refT (E : FVec Ideal S16384x1024 .f32) : FVec Ideal S16384x1024 .f32 :=
  mulf (broadcastInDim S16384x1024 ![0] bcast_S16384_S16384x1024_0 (Host.divf (broadcastInDim S16384 ![] bcast_S_S16384 (mulf (constant S_ .f32 0x3F000000#32) (constant S_ .f32 0x3F800000#32))) (broadcastInDim S16384 ![] bcast_S_S16384 (constant S_ .f32 0x44800000#32)))) (mulf (broadcastInDim S16384x1024 ![] bcast_S_S16384x1024 (constant S_ .f32 0x40000000#32)) E)

/-- The reference's cotangent of the normed rows. -/
def refN (E : FVec Ideal S16384x1024 .f32) : FVec Ideal S16400x1024 .f32 :=
  pad S16400x1024 ![16, 0] ![0, 0] ![0, 0] (refT E) (constant S_ .f32 0x00000000#32) pads_S16384x1024_S16400x1024_1600_000 h_S_

/-- The reference's coefficient of a row. -/
def refC (H N : FVec Ideal S16400x1024 .f32) (g : FVec Ideal S1x1024 .f32) : FVec Ideal S16400x1024 .f32 :=
  broadcastInDim S16400x1024 ![0] bcast_S16400_S16400x1024_0 (Host.reduceAdd (Host.divf (mulf (shapeCast _ (Host.reduceAdd (mulf H (mulf N (refB g))) (constant S_ .f32 0x00000000#32) reducesTo_S16400x1024_S16400_d1 h_S_) shapeCasts_S16400_S16400x1) (mulf (broadcastInDim S16400x1 ![] bcast_S_S16400x1 (constant S_ .f32 0xBF000000#32)) (Host.divf (Host.rsqrt (refM H)) (refM H)))) (broadcastInDim S16400x1 ![] bcast_S_S16400x1 (constant S_ .f32 0x44800000#32))) (constant S_ .f32 0x00000000#32) reducesTo_S16400x1_S16400_d1 h_S_)

/-- The reference's gradient of the rows. -/
def refX (H N : FVec Ideal S16400x1024 .f32) (g : FVec Ideal S1x1024 .f32) : FVec Ideal S16400x1024 .f32 :=
  addf (addf (mulf (mulf N (refB g)) (refS H)) (mulf H (refC H N g))) (mulf (refC H N g) H)

/-- The reference's loss. -/
def refL (E : FVec Ideal S16384x1024 .f32) : FVec Ideal S8x128 .f32 :=
  broadcastInDim S8x128 ![] bcast_S_S8x128 (mulf (constant S_ .f32 0x3F000000#32) (Host.reduceAdd (Host.divf (Host.reduceAdd (mulf E E) (constant S_ .f32 0x00000000#32) reducesTo_S16384x1024_S16384_d1 h_S_) (broadcastInDim S16384 ![] bcast_S_S16384 (constant S_ .f32 0x44800000#32))) (constant S_ .f32 0x00000000#32) reducesTo_S16384_S_d0 h_S_))

/-- The reference's gradient of the gain. -/
def refD (H N : FVec Ideal S16400x1024 .f32) : FVec Ideal S1x1024 .f32 :=
  shapeCast _ (Host.reduceAdd (mulf (mulf H (refS H)) N) (constant S_ .f32 0x00000000#32) reducesTo_S16400x1024_S1024_d0 h_S_) shapeCasts_S1024_S1x1024

theorem refM_at (H : FVec Ideal S16400x1024 .f32) (r : Fin 16400) (j : Fin 1) : refM H (ix2 r j) = meanSq (fun k => H (ix2 r k)) := by
  pointwise [refM, meanSq]

theorem refS_at (H : FVec Ideal S16400x1024 .f32) (r : Fin 16400) (j : Fin 1024) : refS H (ix2 r j) = scale (fun k => H (ix2 r k)) := by
  pointwise [refS, refM, scale]

theorem refB_at (g : FVec Ideal S1x1024 .f32) (r : Fin 16400) (j : Fin 1024) : refB g (ix2 r j) = g (ix2 0 j) := by
  pointwise [refB]

theorem refY_at (H : FVec Ideal S16400x1024 .f32) (g : FVec Ideal S1x1024 .f32) (r : Fin 16400) (k : Fin 1024) :
    mulf (mulf H (refS H)) (refB g) (ix2 r k) = normed (rows H r) (fun k => g (ix2 0 k)) k := by
  pointwise [refS_at, refB_at, normed, rows]
  rfl

theorem refE_at (H : FVec Ideal S16400x1024 .f32) (T : FVec Ideal S16384x1024 .f32) (g : FVec Ideal S1x1024 .f32) (q : Fin 16384) (k : Fin 1024) :
    refE H T g (ix2 q k) = normed (rows H ⟨q.val + 16, by omega⟩) (fun k => g (ix2 0 k)) k - rows T q k := by
  refine Eq.trans ?_ (congrArg (fun x : EReal => x - rows T q k) (refY_at H g ⟨q.val + 16, by omega⟩ k))
  show extractStridedSlice S16384x1024 ![16, 0] (mulf (mulf H (refS H)) (refB g)) slices_S16400x1024_S16384x1024_16_0 (ix2 q k) - T (ix2 q k) = _
  refine congrArg (fun x : EReal => x - T (ix2 q k)) ?_
  refine congrArg (mulf (mulf H (refS H)) (refB g)) ?_
  funext a
  fin_cases a
  · exact Fin.ext (Nat.add_comm 16 q.val)
  · exact Fin.ext (Nat.zero_add k.val)

theorem refT_at (E : FVec Ideal S16384x1024 .f32) (q : Fin 16384) (k : Fin 1024) :
    refT E (ix2 q k) = Ideal.div (Ideal.ofBits .f32 0x3F000000#32 * Ideal.ofBits .f32 0x3F800000#32) (Ideal.ofBits .f32 0x44800000#32)
        * (Ideal.ofBits .f32 0x40000000#32 * E (ix2 q k)) := by
  pointwise [refT]

theorem refC_at (H N : FVec Ideal S16400x1024 .f32) (g : FVec Ideal S1x1024 .f32) (r : Fin 16400) (j : Fin 1024) :
    refC H N g (ix2 r j) = coef (fun k => H (ix2 r k)) (fun k => g (ix2 0 k)) (fun k => N (ix2 r k)) := by
  pointwise [refC, refM_at, refB_at, coef, scale, meanSq]
  rw [Fin.sum_univ_one]

theorem refX_at (H N : FVec Ideal S16400x1024 .f32) (g : FVec Ideal S1x1024 .f32) (r : Fin 16400) (j : Fin 1024) :
    refX H N g (ix2 r j) = gradR (fun k => H (ix2 r k)) (fun k => g (ix2 0 k)) (fun k => N (ix2 r k)) j := by
  pointwise [refX, refC_at, refB_at, refS_at, gradR]

theorem refD_at (H N : FVec Ideal S16400x1024 .f32) (i : Fin 1) (j : Fin 1024) :
    refD H N (ix2 i j) = ∑ r : Fin 16400, H (ix2 r j) * scale (fun k => H (ix2 r k)) * N (ix2 r j) := by
  pointwise [refD, refS_at]

theorem refL_at (E : FVec Ideal S16384x1024 .f32) (i : S8x128.Idx) :
    refL E i = Ideal.ofBits .f32 0x3F000000#32 * ∑ q : Fin 16384, Ideal.div (sqSum fun k => E (ix2 q k)) (Ideal.ofBits .f32 0x44800000#32) := by
  pointwise [refL, sqSum]

/-- The padding at an index. -/
theorem pad_rows {n : ℕ} (x : FVec Ideal ⟨2, ![16400, n]⟩ .f32) (h : (⟨2, ![16400, n]⟩ : Shape).Pads ![112, 0] ![0, 0] ![0, 0] ⟨2, ![16512, n]⟩)
    (f : Fin 16400 → Fin n → EReal) (hf : ∀ r l, x (ix2 r l) = f r l) (R : Fin 16512) (j : Fin n) :
    pad ⟨2, ![16512, n]⟩ ![112, 0] ![0, 0] ![0, 0] x (sitofp (F := Ideal) .f32 (constantI S_ 32 0#32)) h h_S_ (ix2 R j) = onRows f R j :=
  (pad_at x h h_S_ R j).trans (congrArg (fun X => onRows X R j) (funext fun r => funext fun l => hf r l))

/-! ## The results from the arguments -/

section
variable (H : FVec Ideal S16400x1024 .f32) (T : FVec Ideal S16384x1024 .f32) (g : FVec Ideal S1x1024 .f32)

theorem whole_n (r : Fin 16400) (k : Fin 1024) : refN (refE H T g) (ix2 r k) = cot (argErr H T g r) k := by
  refine (pad_tok _ pads_S16384x1024_S16400x1024_1600_000 h_S_ r k).trans ?_
  unfold cot argErr seqErr
  by_cases h : 16 ≤ r.val
  · rw [if_pos h, if_pos h, refT_at, refE_at]
    refine (cot_ref _).trans ?_
    refine congrArg (fun p => Ideal.div (normed (rows H p) (fun k => g (ix2 0 k)) k - rows T (seqTok r) k) (Ideal.ofBits .f32 0x44800000#32)) (Fin.ext ?_)
    show r.val - 16 + 16 = r.val
    omega
  · rw [if_neg h, if_neg h, div_1024_zero]

theorem whole_x (r : Fin 16400) (l : Fin 1024) :
    refX H (refN (refE H T g)) g (ix2 r l) = gradK (rows H r) (fun k => g (ix2 0 k)) (cot (argErr H T g r)) l := by
  rw [refX_at, show (fun k => refN (refE H T g) (ix2 r k)) = cot (argErr H T g r) from funext fun k => whole_n H T g r k]
  exact (grad_all _ _ _ l).symm

theorem whole_d (i : Fin 1) (j : Fin 1024) :
    refD H (refN (refE H T g)) (ix2 i j) = ∑ r : Fin 16400, gainRow (rows H r) (argErr H T g r) j := by
  rw [refD_at]
  refine Finset.sum_congr rfl fun r _ => ?_
  rw [whole_n H T g r j]
  exact mul_comm _ _

theorem whole_l (i : S8x128.Idx) : refL (refE H T g) i
    = ∑ a : Fin 129, term (∑ b : Fin 128, sqSum (onRows (argErr H T g) (Cert.FinalLossIdeal.Entry.padRow a b))) := by
  refine Eq.trans ?_ (loss_sum (rows H) (fun k => g (ix2 0 k)) (rows T)
    Cert.FinalLossIdeal.Entry.padRow (fun _ _ => rfl)).symm
  rw [refL_at]
  simp only [refE_at]
  exact half_ref _

end

end Cert.FinalLossRefIdeal.Entry

namespace Cert

open Idealize.ShloMosaic Idealize.ShloMosaic.TcCoe Idealize.SL.Sem

set_option maxHeartbeats 4000000 in
/-- The call and its reference return the same arrays. -/
theorem final_loss_algebraic : Cert.algebraic_FinalLossIdeal_FinalLossRefIdeal := by
  intro m ρ m' ρ' _ hagree
  refine ⟨_, _, _, Cert.FinalLossIdeal.Value.run_blocks m ρ, ?_⟩
  refine (θ_run Cert.FinalLossRefIdeal.defs _ _).mono (fun _ h c => ⟨(h c).1.trans ?_, (h c).2.1.trans ?_, (h c).2.2.1.trans ?_, (h c).2.2.2⟩)
    (Cert.FinalLossRefIdeal.Value.run (F := Ideal) m' ρ')
  all_goals
    obtain ⟨h0, h1, h2⟩ := hagree c
  · unfold Cert.FinalLossRefIdeal.Value.res_main_v51
    rw [h0, h1, h2]
    funext i
    rw [eq_ix2 i]
    exact (Cert.FinalLossRefIdeal.Entry.pad_rows _ Cert.FinalLossRefIdeal.Gen.pads_S16400x1024_S16512x1024_11200_000 _
      (fun r l => Cert.FinalLossRefIdeal.Entry.whole_x _ _ _ r l) _ _).trans (Cert.FinalLossIdeal.Entry.res_x m c _ _).symm
  · rw [h0, h1, h2]
    funext i
    exact (Cert.FinalLossRefIdeal.Entry.whole_l _ _ _ i).trans (Cert.FinalLossIdeal.Entry.res_l m c i).symm
  · rw [h0, h1, h2]
    funext i
    rw [eq_ix2 i]
    exact (Cert.FinalLossRefIdeal.Entry.whole_d _ _ _ _ _).trans (Cert.FinalLossIdeal.Entry.res_g m c _ _).symm

end Cert
-- ==== Proof.MixIn.lean ====
/- The backward call of the mixer that ends at its norm: what comes back through the six parts of the input weight, the
   gradients of the rows and of the gain, and the sum of the three gradients of the state-space input. -/
module

public import proofs.«01_k».proof.Proof.Gen.MixInIdeal.Value
public import proofs.«01_k».proof.Proof.Gen.MixInRefIdeal.Run
public import proofs.«01_k».proof.Defs
public import proofs.«01_k».proof.Proof.In
public import proofs.«01_k».proof.Proof.MixProj

@[expose] public section

set_option maxRecDepth 16384

noncomputable section

namespace Cert.MixInIdeal.Entry

open Idealize.ShloMosaic Idealize.ShloMosaic.TcCoe Idealize.SL.Sem
open Cert.MixInIdeal Cert.MixInIdeal.Gen Cert.Rows Cert.Norm Cert.NormGrad
open Cert.FfnInIdeal.Entry (rowGrad gainRow)

variable (m : (ℓ : Loc nD τ sig) → Buf (Elt Ideal) ℓ)

/-! ## The arrays the call reads -/

/-- An argument over the sequence, padded and narrowed. -/
def narrow {n : ℕ} (h : (⟨2, ![16400, n]⟩ : Shape).Pads ![112, 0] ![0, 0] ![0, 0] ⟨2, ![16512, n]⟩)
    (x : FVec Ideal ⟨2, ![16400, n]⟩ .f32) : FVec Ideal ⟨2, ![16512, n]⟩ .bf16 :=
  truncf (F := Ideal) .bf16 (pad ⟨2, ![16512, n]⟩ ![112, 0] ![0, 0] ![0, 0] x (sitofp (F := Ideal) .f32 (constantI S_ 32 0#32)) h h_S_) bitsLt_bf16_f32

theorem narrow_row {n : ℕ} (h : (⟨2, ![16400, n]⟩ : Shape).Pads ![112, 0] ![0, 0] ![0, 0] ⟨2, ![16512, n]⟩)
    (x : FVec Ideal ⟨2, ![16400, n]⟩ .f32) (V : FVec Ideal ⟨2, ![16512, n]⟩ .bf16) (e : V = narrow h x) (R : Fin 16512) :
    (fun k => V (ix2 R k)) = onRows (fun r l => x (ix2 r l)) R := by
  subst e
  exact funext fun k => pad_at x h h_S_ R k

set_option maxHeartbeats 4000000 in
/-- The six gradients that the call reads, the third split in three. -/
theorem entries (c : Dev nD) :
    (V m c main_v1 : FVec Ideal S16512x1024 .bf16) = narrow pads_S16400x1024_S16512x1024_11200_000 (m ((c : Thread nD τ).loc main_arg0))
    ∧ (V m c main_v3 : FVec Ideal S16512x256 .bf16) = narrow pads_S16400x256_S16512x256_11200_000 (m ((c : Thread nD τ).loc main_arg1))
    ∧ (V m c main_v5 : FVec Ideal S16512x256 .bf16) = narrow pads_S16400x256_S16512x256_11200_000 (m ((c : Thread nD τ).loc main_arg2))
    ∧ (V m c main_v7 : FVec Ideal S16512x512 .bf16) = narrow pads_S16400x512_S16512x512_11200_000 (m ((c : Thread nD τ).loc main_arg3))
    ∧ (V m c main_v9 : FVec Ideal S16512x512 .bf16) = narrow pads_S16400x512_S16512x512_11200_000 (m ((c : Thread nD τ).loc main_arg4))
    ∧ (V m c main_v11 : FVec Ideal S16512x512 .bf16) = narrow pads_S16400x512_S16512x512_11200_000 (m ((c : Thread nD τ).loc main_arg5))
    ∧ (V m c main_v13 : FVec Ideal S16512x1024 .bf16) = narrow pads_S16400x1024_S16512x1024_11200_000 (m ((c : Thread nD τ).loc main_arg6))
    ∧ (V m c main_v15 : FVec Ideal S16512x1024 .bf16) = narrow pads_S16400x1024_S16512x1024_11200_000 (m ((c : Thread nD τ).loc main_arg7)) := by
  unfold narrow
  refine ⟨?_, ?_, ?_, ?_, ?_, ?_, ?_, ?_⟩ <;>
  · simp only [V, hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, hostOps0_17, hostOps0_18, hostOps0_19, hostOps0_20,
      List.flatten_cons, List.flatten_nil, List.append_nil, List.cons_append, List.nil_append,
      StableHlo.TRef.unary, StableHlo.TRef.binary, StableHlo.TRef.toBuf, StableHlo.TRef.ofBuf, cast_eq]
    after_results

set_option maxHeartbeats 4000000 in
/-- The rows, their cotangent, the gain and the weight that the call reads. -/
theorem entries' (c : Dev nD) :
    (V m c main_v16 : FVec Ideal S16512x1024 .f32) = pad S16512x1024 ![112, 0] ![0, 0] ![0, 0]
        (m ((c : Thread nD τ).loc main_arg9) : FVec Ideal S16400x1024 .f32) (sitofp (F := Ideal) .f32 (constantI S_ 32 0#32))
        pads_S16400x1024_S16512x1024_11200_000 h_S_
    ∧ (V m c main_v17 : FVec Ideal S16512x1024 .f32) = pad S16512x1024 ![112, 0] ![0, 0] ![0, 0]
        (m ((c : Thread nD τ).loc main_arg8) : FVec Ideal S16400x1024 .f32) (sitofp (F := Ideal) .f32 (constantI S_ 32 0#32))
        pads_S16400x1024_S16512x1024_11200_000 h_S_
    ∧ (V m c main_arg10 : FVec Ideal S1x1024 .f32) = m ((c : Thread nD τ).loc main_arg10)
    ∧ (V m c main_v19 : FVec Ideal S4096x1024 .bf16) = truncf (F := Ideal) .bf16 (transpose S4096x1024 [1, 0]
        (m ((c : Thread nD τ).loc main_arg11) : FVec Ideal S1024x4096 .f32) transposes_S1024x4096_S4096x1024_1_0) bitsLt_bf16_f32 := by
  refine ⟨?_, ?_, ?_, ?_⟩ <;>
  · simp only [V, hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, hostOps0_17, hostOps0_18, hostOps0_19, hostOps0_20,
      List.flatten_cons, List.flatten_nil, List.append_nil, List.cons_append, List.nil_append,
      StableHlo.TRef.unary, StableHlo.TRef.binary, StableHlo.TRef.toBuf, StableHlo.TRef.ofBuf, cast_eq]
    after_results

/-- The padded rows. -/
theorem rows_h (c : Dev nD) (R : Fin 16512) :
    (fun k => V m c main_v16 (ix2 R k)) = onRows (fun r l => (m ((c : Thread nD τ).loc main_arg9) : S16400x1024.Idx → EReal) (ix2 r l)) R :=
  funext fun k => (congrFun (entries' m c).1 (ix2 R k)).trans (pad_at _ pads_S16400x1024_S16512x1024_11200_000 h_S_ R k)

/-- The padded cotangent of the rows. -/
theorem entry_dh (c : Dev nD) (R : Fin 16512) (k : Fin 1024) :
    V m c main_v17 (ix2 R k) = onRows (fun r l => (m ((c : Thread nD τ).loc main_arg8) : S16400x1024.Idx → EReal) (ix2 r l)) R k :=
  (congrFun (entries' m c).2.1 (ix2 R k)).trans (pad_at _ pads_S16400x1024_S16512x1024_11200_000 h_S_ R k)

/-- The weight the call reads, transposed. -/
theorem entry_w (c : Dev nD) (k : Fin 4096) (j : Fin 1024) :
    V m c main_v19 (ix2 k j) = (m ((c : Thread nD τ).loc main_arg11) : S1024x4096.Idx → EReal) (ix2 j k) := by
  refine (congrFun (entries' m c).2.2.2 (ix2 k j)).trans ?_
  pointwise

/-- The block of each window at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0]
    ∧ win0_11.index t = ![0, 0] ∧ win0_12.index t = ![t.val, 0] ∧ win0_13.index t = ![t.val, 0] ∧ win0_14.index t = ![0, 0] :=
  (by decide +kernel : ∀ t : Fin grid0.N, _)

theorem coord : ∀ t : Fin cfg0.N, (grid0.coords t 0).val = t.val := (by decide +kernel : ∀ t : Fin grid0.N, _)

/-! ## What comes back through the six parts of the weight -/

/-- The sum of the six products, from the six parts of the weight. -/
def parts (q : Fin 1024 → EReal) (k v : Fin 256 → EReal) (u : Fin 512 → EReal) (s a : Fin 1024 → EReal)
    (w0 : Fin 1024 → Fin 1024 → EReal) (w1 w2 : Fin 256 → Fin 1024 → EReal) (w3 : Fin 512 → Fin 1024 → EReal)
    (w4 w5 : Fin 1024 → Fin 1024 → EReal) (l : Fin 1024) : EReal :=
  (((((∑ i, q i * w0 i l) + ∑ i, k i * w1 i l) + ∑ i, v i * w2 i l) + ∑ i, u i * w3 i l) + ∑ i, s i * w4 i l) + ∑ i, a i * w5 i l

/-- The sum of three gradients of the state-space input. -/
def three (a b d : Fin 512 → EReal) (i : Fin 512) : EReal := a i + b i + d i

/-- The gradient of a normed row, from the whole weight. -/
def rowBack (q : Fin 1024 → EReal) (k v : Fin 256 → EReal) (u : Fin 512 → EReal) (s a : Fin 1024 → EReal)
    (W : Fin 4096 → Fin 1024 → EReal) : Fin 1024 → EReal :=
  parts q k v u s a (fun i => W (partCol 0 (by omega) i)) (fun i => W (partCol 1024 (by omega) i)) (fun i => W (partCol 1280 (by omega) i))
    (fun i => W (partCol 1536 (by omega) i)) (fun i => W (partCol 2048 (by omega) i)) (fun i => W (partCol 3072 (by omega) i))

theorem rowBack_zero (W : Fin 4096 → Fin 1024 → EReal) (l : Fin 1024) :
    rowBack (fun _ => 0) (fun _ => 0) (fun _ => 0) (three (fun _ => 0) (fun _ => 0) (fun _ => 0)) (fun _ => 0) (fun _ => 0) W l = 0 := by
  simp only [rowBack, parts, three, add_zero, zero_mul, Finset.sum_const_zero]

/-- The stored sum of the three gradients at an index of a block. -/
theorem du_at (a b d : FVec Ideal S688x512 .bf16) (i : Fin 688) (j : Fin 512) :
    k0_pay9 (F := Ideal) a b d (ix2 i j) = three (fun k => a (ix2 i k)) (fun k => b (ix2 i k)) (fun k => d (ix2 i k)) j := by
  pointwise [k0_pay9, three]

section
variable (q : FVec Ideal S688x1024 .bf16) (k v : FVec Ideal S688x256 .bf16) (a b d : FVec Ideal S688x512 .bf16) (s p : FVec Ideal S688x1024 .bf16)
  (w0 : FVec Ideal S1024x1024 .bf16) (w1 w2 : FVec Ideal S256x1024 .bf16) (w3 : FVec Ideal S512x1024 .bf16) (w4 w5 : FVec Ideal S1024x1024 .bf16)

/-- A block's row of `parts`. -/
def blkParts (i : Fin 688) : Fin 1024 → EReal :=
  parts (fun l => q (ix2 i l)) (fun l => k (ix2 i l)) (fun l => v (ix2 i l))
    (three (fun l => a (ix2 i l)) (fun l => b (ix2 i l)) (fun l => d (ix2 i l))) (fun l => s (ix2 i l)) (fun l => p (ix2 i l))
    (fun i l => w0 (ix2 i l)) (fun i l => w1 (ix2 i l)) (fun i l => w2 (ix2 i l)) (fun i l => w3 (ix2 i l)) (fun i l => w4 (ix2 i l)) (fun i l => w5 (ix2 i l))

/-- The gradient of the normed row at an index of a block. -/
theorem dn_at (i : Fin 688) (j : Fin 1024) :
    k0_pay11 (F := Ideal) (k0_pay4 (F := Ideal) v) (k0_pay5 (F := Ideal) s) (k0_pay6 (F := Ideal) p) (k0_pay9 (F := Ideal) a b d)
        (k0_pay10 (F := Ideal) q k w0 w1) w2 w3 w4 w5 (ix2 i j)
      = blkParts q k v a b d s p w0 w1 w2 w3 w4 w5 i j := by
  pointwise [k0_pay11, k0_pay4, k0_pay5, k0_pay6, k0_pay10, du_at, blkParts, parts]

/-- The norm's gradient at an index of a block. -/
theorem grad_at (h : FVec Ideal S688x1024 .f32) (g : FVec Ideal S1x1024 .f32) (i : Fin 688) (j : Fin 1024) :
    k0_pay14 (F := Ideal) (k0_pay4 (F := Ideal) v) (k0_pay5 (F := Ideal) s) (k0_pay6 (F := Ideal) p) (k0_pay7 (F := Ideal) h) (k0_pay9 (F := Ideal) a b d)
        (k0_pay10 (F := Ideal) q k w0 w1) w2 w3 w4 w5 g (ix2 i j)
      = gradK (fun k => h (ix2 i k)) (fun k => g (ix2 0 k)) (blkParts q k v a b d s p w0 w1 w2 w3 w4 w5 i) j := by
  pointwise [k0_pay14, k0_pay7, k0_pay12, k0_pay13, dn_at, gradK, scale]

/-- A row's part of the gradient of the gain, at an index of a block. -/
theorem prod_at (h : FVec Ideal S688x1024 .f32) (i : Fin 688) (j : Fin 1024) :
    k0_pay15 (F := Ideal) (k0_pay4 (F := Ideal) v) (k0_pay5 (F := Ideal) s) (k0_pay6 (F := Ideal) p) (k0_pay7 (F := Ideal) h) (k0_pay9 (F := Ideal) a b d)
        (k0_pay10 (F := Ideal) q k w0 w1) w2 w3 w4 w5 (ix2 i j)
      = gainRow (fun k => h (ix2 i k)) (blkParts q k v a b d s p w0 w1 w2 w3 w4 w5 i) j := by
  pointwise [k0_pay15, k0_pay7, k0_pay12, k0_pay13, dn_at, gainRow, scale]

end

/-- Whether a row of a block lies in the sequence, as the call decides it. -/
def inSeq (a0 : BitVec 32) (i : Fin 688) : BitVec 1 := IntOp.cmpi .sge (IntOp.addi (Scalar.muli a0 688#32) (BitVec.ofNat 32 i.val)) 112#32

theorem inSeq_iff (t : Fin 24) (i : Fin 688) : inSeq (BitVec.ofNat 32 t.val) i = 1#1 ↔ 112 ≤ t.val * 688 + i.val := by
  have e : IntOp.addi (Scalar.muli (BitVec.ofNat 32 t.val) 688#32) (BitVec.ofNat 32 i.val) = BitVec.ofNat 32 (t.val * 688 + i.val) := by
    apply BitVec.eq_of_toNat_eq
    show (BitVec.ofNat 32 t.val * 688#32 + BitVec.ofNat 32 i.val).toNat = _
    simp only [BitVec.toNat_add, BitVec.toNat_mul, BitVec.toNat_ofNat]
    omega
  have n : (BitVec.ofNat 32 (t.val * 688 + i.val)).toNat = t.val * 688 + i.val := by
    rw [BitVec.toNat_ofNat]; exact Nat.mod_eq_of_lt (by omega)
  unfold inSeq
  rw [e]
  exact (StableHlo.Predicate.sge_iff_toNat (by rw [n]; omega) (by decide)).trans (by rw [n]; rfl)

/-- The masked sum at an index of a block. -/
theorem mask_at (a0 : BitVec 32) (dh x : FVec Ideal S688x1024 .f32) (i : Fin 688) (j : Fin 1024) :
    k0_pay1 (F := Ideal) a0 (k0_pay8 (F := Ideal) dh) x (ix2 i j) = dh (ix2 i j) + Scalar.select (inSeq a0 i) (x (ix2 i j)) 0 := by
  pointwise [k0_pay1, k0_pay8, inSeq]

/-- The stored gradient of the rows at an index of a block, at its row of the padded sequence. -/
theorem dx_row (n : ℕ) (hn : n < 24) (dh x : FVec Ideal S688x1024 .f32) (i : Fin 688) (j : Fin 1024) (R : Fin 16512) (hR : R.val = n * 688 + i.val)
    (h g d : Fin 1024 → EReal) (hx : x (ix2 i j) = gradK h g d j) :
    k0_pay1 (F := Ideal) (BitVec.ofNat 32 n) (k0_pay8 (F := Ideal) dh) x (ix2 i j) = rowGrad R (dh (ix2 i j)) h g d j := by
  refine (mask_at _ dh x i j).trans ?_
  unfold rowGrad
  rw [hx]
  refine congrArg (fun x : EReal => dh (ix2 i j) + x) ?_
  have e : inSeq (BitVec.ofNat 32 n) i = 1#1 ↔ 112 ≤ n * 688 + i.val := inSeq_iff ⟨n, hn⟩ i
  by_cases h0 : 112 ≤ R.val
  · rw [if_pos h0, e.mpr (by omega)]; rfl
  · rw [if_neg h0, (BitVec.eq_zero_or_eq_one (inSeq (BitVec.ofNat 32 n) i)).resolve_right fun e1 => h0 (by have := e.mp e1; omega)]; rfl

theorem add_at (x : FVec Ideal S688x1024 .f32) (y : FVec Ideal S1x1024 .f32) (i : Fin 1) (j : Fin 1024) :
    k0_pay3 (F := Ideal) x y (ix2 i j) = y (ix2 i j) + ∑ r : Fin 688, x (ix2 r j) := by
  pointwise [k0_pay3]

theorem zero_at (i : S1x1024.Idx) : k0_pay2 (F := Ideal) i = (0 : EReal) := by
  pointwise [k0_pay2]

/-! ## What a point stores -/

/-- The gradient of a normed row of a point's block. -/
def blkBack (c : Dev nD) (t : Fin cfg0.N) (i : Fin 688) : Fin 1024 → EReal :=
  rowBack (fun l => iblk m c 0 t (ix2 i l)) (fun l => iblk m c 1 t (ix2 i l)) (fun l => iblk m c 2 t (ix2 i l))
    (three (fun l => iblk m c 3 t (ix2 i l)) (fun l => iblk m c 4 t (ix2 i l)) (fun l => iblk m c 5 t (ix2 i l)))
    (fun l => iblk m c 6 t (ix2 i l)) (fun l => iblk m c 7 t (ix2 i l)) (fun k l => iblk m c 11 t (ix2 k l))

/-- A block's row of `parts`, from the parts of the weight that the call loads, is the row's gradient. -/
theorem blk_parts (c : Dev nD) (t : Fin cfg0.N) (i : Fin 688) :
    blkParts (iblk m c 0 t) (iblk m c 1 t) (iblk m c 2 t) (iblk m c 3 t) (iblk m c 4 t) (iblk m c 5 t) (iblk m c 6 t) (iblk m c 7 t)
        (View.ld (iblk m c 11 t) (Rect.unit ![0, 0] ![1024, 1024] inb_S4096x1024_S1024x1024_0_0))
        (View.ld (iblk m c 11 t) (Rect.unit ![1024, 0] ![256, 1024] inb_S4096x1024_S256x1024_1024_0))
        (View.ld (iblk m c 11 t) (Rect.unit ![1280, 0] ![256, 1024] inb_S4096x1024_S256x1024_1280_0))
        (View.ld (iblk m c 11 t) (Rect.unit ![1536, 0] ![512, 1024] inb_S4096x1024_S512x1024_1536_0))
        (View.ld (iblk m c 11 t) (Rect.unit ![2048, 0] ![1024, 1024] inb_S4096x1024_S1024x1024_2048_0))
        (View.ld (iblk m c 11 t) (Rect.unit ![3072, 0] ![1024, 1024] inb_S4096x1024_S1024x1024_3072_0)) i
      = blkBack m c t i := by
  unfold blkParts blkBack rowBack
  refine congr (congr (congr (congr (congr (congrArg (parts _ _ _ _ _ _) (funext fun k => funext fun l => ?_)) (funext fun k => funext fun l => ?_))
    (funext fun k => funext fun l => ?_)) (funext fun k => funext fun l => ?_)) (funext fun k => funext fun l => ?_)) (funext fun k => funext fun l => ?_) <;>
  · pointwise
    blk_ext [partCol]

set_option maxHeartbeats 4000000 in
/-- What a point stores into the gradient of the rows. -/
theorem x_at (c : Dev nD) (t : Fin cfg0.N) (i : Fin 688) (j : Fin 1024) (R : Fin 16512) (hR : R.val = t.val * 688 + i.val) :
    (outsAt0 m c t.val t.isLt).1 (ix2 i j)
      = rowGrad R (iblk m c 9 t (ix2 i j)) (fun k => iblk m c 8 t (ix2 i k)) (fun k => iblk m c 10 t (ix2 0 k)) (blkBack m c t i) j := by
  by_cases h0 : t.val % 24 = 0
  · rw [outsAt0_A m c t h0]; frame_out
    rw [coord t]
    exact dx_row t.val t.isLt _ _ i j R hR _ _ _ ((grad_at _ _ _ _ _ _ _ _ _ _ _ _ _ _ _ _ i j).trans (congrFun (congrArg (gradK _ _) (blk_parts m c t i)) j))
  · rw [outsAt0_B m c t h0]; frame_out
    rw [coord t]
    exact dx_row t.val t.isLt _ _ i j R hR _ _ _ ((grad_at _ _ _ _ _ _ _ _ _ _ _ _ _ _ _ _ i j).trans (congrFun (congrArg (gradK _ _) (blk_parts m c t i)) j))

set_option maxHeartbeats 4000000 in
/-- What a point stores into the gradient of the state-space input. -/
theorem u_at (c : Dev nD) (t : Fin cfg0.N) : (outsAt0 m c t.val t.isLt).2.1 = k0_pay9 (F := Ideal) (iblk m c 3 t) (iblk m c 4 t) (iblk m c 5 t) := by
  by_cases h0 : t.val % 24 = 0
  · rw [outsAt0_A m c t h0]; frame_out
  · rw [outsAt0_B m c t h0]; frame_out

/-- What a point adds to the gradient of the gain. -/
def part (c : Dev nD) (t : Fin cfg0.N) : S1x1024.Idx → EReal :=
  fun i => ∑ r : Fin 688, gainRow (fun k => iblk m c 8 t (ix2 r k)) (blkBack m c t r) (i 1)

set_option maxHeartbeats 4000000 in
theorem gain_reset (c : Dev nD) (t : Fin cfg0.N) (h : t.val % 24 = 0) (i : S1x1024.Idx) :
    (outsAt0 m c t.val t.isLt).2.2 i = (0 : EReal) + part m c t i := by
  rw [outsAt0_A m c t h]
  frame_out
  idx_vars i
  refine (add_at _ _ i0 i1).trans ?_
  refine Ideal.add_congr (zero_at _) (Finset.sum_congr rfl fun r _ => ?_)
  exact (prod_at _ _ _ _ _ _ _ _ _ _ _ _ _ _ _ r i1).trans (congrFun (congrArg (gainRow _) (blk_parts m c t r)) i1)

set_option maxHeartbeats 4000000 in
theorem gain_step (c : Dev nD) (t : Fin cfg0.N) (h : ¬t.val % 24 = 0) (i : S1x1024.Idx) :
    (outsAt0 m c t.val t.isLt).2.2 i
      = (outsAt0 m c (t.val - 1) (Nat.lt_of_le_of_lt (Nat.sub_le _ _) t.isLt)).2.2 i + part m c t i := by
  rw [outsAt0_B m c t h]
  frame_out
  idx_vars i
  refine (add_at _ _ i0 i1).trans ?_
  refine Ideal.add_congr rfl (Finset.sum_congr rfl fun r _ => ?_)
  exact (prod_at _ _ _ _ _ _ _ _ _ _ _ _ _ _ _ r i1).trans (congrFun (congrArg (gainRow _) (blk_parts m c t r)) i1)

/-! ## The results from the arrays the call reads -/

/-- The gradient of a normed row of the padded sequence. -/
def backRow (c : Dev nD) (R : Fin 16512) : Fin 1024 → EReal :=
  rowBack (fun l => V m c main_v1 (ix2 R l)) (fun l => V m c main_v3 (ix2 R l)) (fun l => V m c main_v5 (ix2 R l))
    (three (fun l => V m c main_v7 (ix2 R l)) (fun l => V m c main_v9 (ix2 R l)) (fun l => V m c main_v11 (ix2 R l)))
    (fun l => V m c main_v13 (ix2 R l)) (fun l => V m c main_v15 (ix2 R l)) (fun k l => V m c main_v19 (ix2 k l))

set_option maxHeartbeats 2000000 in
/-- A block's row is the row of the padded sequence. -/
theorem back_blk (c : Dev nD) (t : Fin cfg0.N) (i : Fin 688) (R : Fin 16512) (hR : R.val = t.val * 688 + i.val) :
    blkBack m c t i = backRow m c R := by
  unfold blkBack backRow
  refine congr (congr (congr (congr (congr (congr (congrArg rowBack (funext fun k => ?_)) (funext fun k => ?_)) (funext fun k => ?_))
    (congr (congr (congrArg three (funext fun k => ?_)) (funext fun k => ?_)) (funext fun k => ?_))) (funext fun k => ?_)) (funext fun k => ?_))
    (funext fun k => funext fun l => ?_) <;>
  blk_ext [iblk, idx t]

theorem rows_blk (c : Dev nD) (t : Fin cfg0.N) (i : Fin 688) (R : Fin 16512) (hR : R.val = t.val * 688 + i.val) :
    (fun k => iblk m c 8 t (ix2 i k)) = fun k => (V m c main_v16 (ix2 R k) : EReal) :=
  funext fun k => by blk_ext [iblk, idx t]

/-- The whole gradient of the rows. -/
def outX (c : Dev nD) : FVec Ideal S16512x1024 .f32 :=
  fun i => rowGrad (i 0) (V m c main_v17 i) (fun k => V m c main_v16 (ix2 (i 0) k)) (fun k => V m c main_arg10 (ix2 0 k)) (backRow m c (i 0)) (i 1)

/-- The whole gradient of the state-space input. -/
def outU (c : Dev nD) : FVec Ideal S16512x512 .bf16 :=
  fun i => three (fun l => V m c main_v7 (ix2 (i 0) l)) (fun l => V m c main_v9 (ix2 (i 0) l)) (fun l => V m c main_v11 (ix2 (i 0) l)) (i 1)

/-- The whole gradient of the gain. -/
def outD (c : Dev nD) : FVec Ideal S1x1024 .f32 :=
  fun i => ∑ R : Fin 16512, gainRow (fun k => V m c main_v16 (ix2 R k)) (backRow m c R) (i 1)

set_option maxHeartbeats 4000000 in
/-- The gradient of the rows after the run. -/
theorem final_x (c : Dev nD) : (dats m 0 c).arrAt 12 (cfgs 0).N = outX m c := by
  refine (dats m 0 c).arrAt_eq_of_covers 12 _ (by decide +kernel) fun t _ y => ?_
  blk_simp
  rw [after0_12]
  idx_vars y
  have hR : ((((View.whole main_v20_0).slice (win0_12.rect t)).emb (ix2 y0 y1)) 0).val = t.val * 688 + y0.val := by blk_simp [idx t]
  refine (x_at m c t y0 y1 _ hR).trans ?_
  refine congr (congr (congr (congr (congrArg (rowGrad _) ?_) (rows_blk m c t y0 _ hR)) (funext fun k => ?_)) (back_blk m c t y0 _ hR)) ?_
  · blk_ext [iblk, idx t]
  · blk_ext [iblk, idx t]
  · exact Fin.ext (by blk_simp [idx t])

set_option maxHeartbeats 4000000 in
/-- The gradient of the state-space input after the run. -/
theorem final_u (c : Dev nD) : (dats m 0 c).arrAt 13 (cfgs 0).N = outU m c := by
  refine (dats m 0 c).arrAt_eq_of_covers 13 _ (by decide +kernel) fun t _ y => ?_
  blk_simp
  rw [after0_13, u_at]
  idx_vars y
  refine (du_at _ _ _ y0 y1).trans ?_
  refine congr (congr (congr (congrArg three (funext fun k => ?_)) (funext fun k => ?_)) (funext fun k => ?_)) ?_
  · blk_ext [iblk, idx t]
  · blk_ext [iblk, idx t]
  · blk_ext [iblk, idx t]
  · exact Fin.ext (by blk_simp [idx t])

set_option maxHeartbeats 4000000 in
/-- The gradient of the gain after the run. -/
theorem final_d (c : Dev nD) : (dats m 0 c).arrAt 14 (cfgs 0).N = outD m c := by
  refine (dats m 0 c).arrAt_eq_of_covers 14 _ (by decide +kernel) fun t hf y => ?_
  blk_simp
  rw [after0_14]
  have hm : t.val % 24 = 23 := (flush0_14 t).mp hf
  rw [Pipeline.eq_sum_fin_of_reset_step_apply_of_flush (fun n h => (outsAt0 m c n h).2.2) 24 (fun _ => 0) (fun t => part m c t)
    (fun t h j => gain_reset m c t h j) (fun t h j => gain_step m c t h j) t hm _, zero_add]
  unfold part outD
  have ht : t.val < 24 := t.isLt
  refine Fin.sum_mul_add_congr fun s r hl => ?_
  refine congr (congr (congrArg gainRow (rows_blk m c ⟨_, Pipeline.run_point_lt_of_flush t hm s⟩ r _ ?_))
    (back_blk m c ⟨_, Pipeline.run_point_lt_of_flush t hm s⟩ r _ ?_)) ?_
  · show s.val * 688 + r.val = (24 * (t.val / 24) + s.val) * 688 + r.val
    omega
  · show s.val * 688 + r.val = (24 * (t.val / 24) + s.val) * 688 + r.val
    omega
  · exact Fin.ext (by blk_simp [idx t])

/-! ## The results from the arguments -/

section
variable (Q : S16400x1024.Idx → EReal) (K L : S16400x256.Idx → EReal) (A B E : S16400x512.Idx → EReal) (S P Y H : S16400x1024.Idx → EReal)
  (g : S1x1024.Idx → EReal) (W : S1024x4096.Idx → EReal)

/-- The gradient of a normed row of the sequence. -/
def seqBack (r : Fin 16400) : Fin 1024 → EReal :=
  rowBack (fun l => Q (ix2 r l)) (fun l => K (ix2 r l)) (fun l => L (ix2 r l))
    (three (fun l => A (ix2 r l)) (fun l => B (ix2 r l)) (fun l => E (ix2 r l))) (fun l => S (ix2 r l)) (fun l => P (ix2 r l)) (fun k l => W (ix2 l k))

/-- An entry of the gradient of the rows of the sequence. -/
def seqX (r : Fin 16400) (l : Fin 1024) : EReal :=
  Y (ix2 r l) + gradK (fun k => H (ix2 r k)) (fun k => g (ix2 0 k)) (seqBack Q K L A B E S P W r) l

/-- An entry of the gradient of the gain. -/
def seqGain (j : Fin 1024) : EReal := ∑ r : Fin 16400, gainRow (fun k => H (ix2 r k)) (seqBack Q K L A B E S P W r) j

end

theorem back_at (c : Dev nD) (R : Fin 16512) :
    backRow m c R = onRows (seqBack (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg11))) R := by
  obtain ⟨e0, e1, e2, e3, e4, e5, e6, e7⟩ := entries m c
  refine (congr (congr (congr (congr (congr (congr (congrArg rowBack (narrow_row _ _ _ e0 R)) (narrow_row _ _ _ e1 R)) (narrow_row _ _ _ e2 R))
    (congr (congr (congrArg three (narrow_row _ _ _ e3 R)) (narrow_row _ _ _ e4 R)) (narrow_row _ _ _ e5 R))) (narrow_row _ _ _ e6 R)) (narrow_row _ _ _ e7 R))
    (funext fun k => funext fun l => entry_w m c k l)).trans ?_
  by_cases h : 112 ≤ R.val
  · simp only [onRows_row_pos _ h]; rfl
  · simp only [onRows_row_neg _ h]
    funext l
    exact rowBack_zero _ l

/-- The gradient of the rows at an index. -/
theorem res_x (c : Dev nD) (R : Fin 16512) (j : Fin 1024) :
    (dats m 0 c).arrAt 12 (cfgs 0).N (ix2 R j)
      = onRows (seqX (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11))) R j := by
  refine (congrFun (final_x m c) (ix2 R j)).trans ?_
  refine (congrFun (congr (congr (congr (congrArg (rowGrad R) (entry_dh m c R j)) (rows_h m c R))
    (funext fun k => congrFun (entries' m c).2.2.1 (ix2 0 k))) (back_at m c R)) j).trans ?_
  unfold rowGrad
  by_cases h : 112 ≤ R.val
  · simp only [onRows_row_pos _ h, onRows_pos _ h, if_pos h]; rfl
  · simp only [onRows_neg _ h, if_neg h, add_zero]

/-- The gradient of the state-space input at an index. -/
theorem res_u (c : Dev nD) (R : Fin 16512) (j : Fin 512) :
    (dats m 0 c).arrAt 13 (cfgs 0).N (ix2 R j)
      = onRows (fun r => three (fun l => (m ((c : Thread nD τ).loc main_arg3) : S16400x512.Idx → EReal) (ix2 r l))
          (fun l => (m ((c : Thread nD τ).loc main_arg4) : S16400x512.Idx → EReal) (ix2 r l))
          (fun l => (m ((c : Thread nD τ).loc main_arg5) : S16400x512.Idx → EReal) (ix2 r l))) R j := by
  obtain ⟨-, -, -, e3, e4, e5, -, -⟩ := entries m c
  refine (congrFun (final_u m c) (ix2 R j)).trans ?_
  refine (congrFun (congr (congr (congrArg three (narrow_row _ _ _ e3 R)) (narrow_row _ _ _ e4 R)) (narrow_row _ _ _ e5 R)) j).trans ?_
  by_cases h : 112 ≤ R.val
  · simp only [onRows_row_pos _ h]
  · simp only [onRows_row_neg _ h, three, add_zero]

/-- The sum over the padded rows is the sum over the sequence's. -/
theorem gain_sum (c : Dev nD) (j : Fin 1024) :
    (∑ R : Fin 16512, gainRow (fun k => V m c main_v16 (ix2 R k)) (backRow m c R) j : EReal)
      = seqGain (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg9)) (m ((c : Thread nD τ).loc main_arg11)) j := by
  refine Eq.trans (Finset.sum_congr rfl fun R _ => ?_) (sum_onRows _)
  refine (congrFun (congr (congrArg gainRow (rows_h m c R)) (back_at m c R)) j).trans ?_
  by_cases h : 112 ≤ R.val
  · simp only [onRows_row_pos _ h, if_pos h]
  · simp only [onRows_row_neg _ h, if_neg h, gainRow, zero_mul]

/-- The gradient of the gain at an index. -/
theorem res_d (c : Dev nD) (i : Fin 1) (j : Fin 1024) :
    (dats m 0 c).arrAt 14 (cfgs 0).N (ix2 i j)
      = seqGain (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg9)) (m ((c : Thread nD τ).loc main_arg11)) j :=
  (congrFun (final_d m c) (ix2 i j)).trans (gain_sum m c j)

end Cert.MixInIdeal.Entry

namespace Cert.MixInRefIdeal.Entry

open Idealize.ShloMosaic
open Cert.MixInRefIdeal Cert.MixInRefIdeal.Gen Cert.Rows Cert.Norm Cert.NormGrad
open Cert.FfnInRefIdeal.Entry (refX refD refX_at refD_at)
open Cert.MixInIdeal.Entry (parts three rowBack seqBack seqX seqGain)

/-- A part of the weight, read at an index. -/
theorem wcols_at {n : ℕ} (off : ℕ) (w : FVec Ideal S1024x4096 .f32) (hs : S1024x4096.Slices ![0, off] ⟨2, ![1024, n]⟩) (h : off + n ≤ 4096)
    (l : Fin 1024) (i : Fin n) :
    extractStridedSlice ⟨2, ![1024, n]⟩ ![0, off] w hs (ix2 l i) = w (ix2 l (partCol off h i)) :=
  extractStridedSlice_apply _ _ _ _ _ fun a => match a with
    | ⟨0, _⟩ => (Nat.zero_add _).symm
    | ⟨1, _⟩ => rfl

section
variable (Q : FVec Ideal S16400x1024 .f32) (K L : FVec Ideal S16400x256 .f32) (A B E : FVec Ideal S16400x512 .f32) (S P Y H : FVec Ideal S16400x1024 .f32)
  (g : FVec Ideal S1x1024 .f32) (W : FVec Ideal S1024x4096 .f32)

/-- The reference's sum of the six products, from the six parts of the weight. -/
def refP (w0 : FVec Ideal S1024x1024 .f32) (w1 w2 : FVec Ideal S1024x256 .f32) (w3 : FVec Ideal S1024x512 .f32) (w4 w5 : FVec Ideal S1024x1024 .f32) :
    FVec Ideal S16400x1024 .f32 :=
  addf (addf (addf (addf (addf (Host.dotGeneral dot_S16400x1024_S1024x1024_S16400x1024_1_1_0_0_n_n none Q w0) (Host.dotGeneral dot_S16400x256_S1024x256_S16400x1024_1_1_0_0_n_n none K w1)) (Host.dotGeneral dot_S16400x256_S1024x256_S16400x1024_1_1_0_0_n_n none L w2)) (Host.dotGeneral dot_S16400x512_S1024x512_S16400x1024_1_1_0_0_n_n none (addf (addf A B) E) w3)) (Host.dotGeneral dot_S16400x1024_S1024x1024_S16400x1024_1_1_0_0_n_n none S w4)) (Host.dotGeneral dot_S16400x1024_S1024x1024_S16400x1024_1_1_0_0_n_n none P w5)

/-- The reference's gradient of the normed rows. -/
def refN : FVec Ideal S16400x1024 .f32 :=
  refP Q K L A B E S P (extractStridedSlice S1024x1024 ![0, 0] W slices_S1024x4096_S1024x1024_0_0) (extractStridedSlice S1024x256 ![0, 1024] W slices_S1024x4096_S1024x256_0_1024) (extractStridedSlice S1024x256 ![0, 1280] W slices_S1024x4096_S1024x256_0_1280) (extractStridedSlice S1024x512 ![0, 1536] W slices_S1024x4096_S1024x512_0_1536) (extractStridedSlice S1024x1024 ![0, 2048] W slices_S1024x4096_S1024x1024_0_2048) (extractStridedSlice S1024x1024 ![0, 3072] W slices_S1024x4096_S1024x1024_0_3072)

theorem refP_at (w0 : FVec Ideal S1024x1024 .f32) (w1 w2 : FVec Ideal S1024x256 .f32) (w3 : FVec Ideal S1024x512 .f32) (w4 w5 : FVec Ideal S1024x1024 .f32)
    (r : Fin 16400) (j : Fin 1024) :
    refP Q K L A B E S P w0 w1 w2 w3 w4 w5 (ix2 r j)
      = parts (fun l => Q (ix2 r l)) (fun l => K (ix2 r l)) (fun l => L (ix2 r l))
          (three (fun l => A (ix2 r l)) (fun l => B (ix2 r l)) (fun l => E (ix2 r l))) (fun l => S (ix2 r l)) (fun l => P (ix2 r l))
          (fun i l => w0 (ix2 l i)) (fun i l => w1 (ix2 l i)) (fun i l => w2 (ix2 l i)) (fun i l => w3 (ix2 l i)) (fun i l => w4 (ix2 l i)) (fun i l => w5 (ix2 l i)) j := by
  pointwise [refP, parts, three]

theorem refN_row (r : Fin 16400) : (fun l => refN Q K L A B E S P W (ix2 r l)) = seqBack Q K L A B E S P W r := by
  funext l
  refine (refP_at Q K L A B E S P _ _ _ _ _ _ r l).trans ?_
  refine congrFun ?_ l
  exact congr (congr (congr (congr (congr (congrArg (parts _ _ _ _ _ _) (funext fun i => funext fun l => wcols_at 0 W _ _ l i))
    (funext fun i => funext fun l => wcols_at 1024 W _ _ l i)) (funext fun i => funext fun l => wcols_at 1280 W _ _ l i))
    (funext fun i => funext fun l => wcols_at 1536 W _ _ l i)) (funext fun i => funext fun l => wcols_at 2048 W _ _ l i))
    (funext fun i => funext fun l => wcols_at 3072 W _ _ l i)

theorem whole_x (r : Fin 16400) (l : Fin 1024) :
    refX Y H (refN Q K L A B E S P W) g (ix2 r l) = seqX Q K L A B E S P Y H g W r l := by
  rw [refX_at, refN_row]
  exact congrArg (fun x : EReal => Y (ix2 r l) + x) (grad_all _ _ _ l).symm

theorem whole_d (i : Fin 1) (j : Fin 1024) : refD H (refN Q K L A B E S P W) (ix2 i j) = seqGain Q K L A B E S P H W j := by
  rw [refD_at]
  refine Finset.sum_congr rfl fun r _ => ?_
  rw [congrFun (refN_row Q K L A B E S P W r) j]
  exact mul_comm _ _

/-- The reference's gradient of the state-space input. -/
theorem whole_u (r : Fin 16400) (l : Fin 512) :
    addf (addf A B) E (ix2 r l) = three (fun l => A (ix2 r l)) (fun l => B (ix2 r l)) (fun l => E (ix2 r l)) l := by
  pointwise [three]

end

/-- The padding at an index. -/
theorem pad_rows {n : ℕ} (x : FVec Ideal ⟨2, ![16400, n]⟩ .f32) (h : (⟨2, ![16400, n]⟩ : Shape).Pads ![112, 0] ![0, 0] ![0, 0] ⟨2, ![16512, n]⟩)
    (f : Fin 16400 → Fin n → EReal) (hf : ∀ r l, x (ix2 r l) = f r l) (R : Fin 16512) (j : Fin n) :
    pad ⟨2, ![16512, n]⟩ ![112, 0] ![0, 0] ![0, 0] x (sitofp (F := Ideal) .f32 (constantI S_ 32 0#32)) h h_S_ (ix2 R j) = onRows f R j :=
  (pad_at x h h_S_ R j).trans (congrArg (fun X => onRows X R j) (funext fun r => funext fun l => hf r l))

end Cert.MixInRefIdeal.Entry

namespace Cert

open Idealize.ShloMosaic Idealize.ShloMosaic.TcCoe Idealize.SL.Sem

set_option maxHeartbeats 4000000 in
/-- The call and its reference return the same arrays. -/
theorem mix_in_algebraic : Cert.algebraic_MixInIdeal_MixInRefIdeal := by
  intro m ρ m' ρ' _ hagree
  refine ⟨_, _, _, Cert.MixInIdeal.Value.run_blocks m ρ, ?_⟩
  refine (θ_run Cert.MixInRefIdeal.defs _ _).mono (fun _ h c => ⟨(h c).1.trans ?_, (h c).2.1.trans ?_, (h c).2.2.1.trans ?_, (h c).2.2.2⟩)
    (Cert.MixInRefIdeal.Value.run (F := Ideal) m' ρ')
  all_goals
    obtain ⟨h0, h1, h2, h3, h4, h5, h6, h7, h8, h9, h10, h11⟩ := hagree c
  · unfold Cert.MixInRefIdeal.Value.res_main_v60
    rw [h0, h1, h2, h3, h4, h5, h6, h7, h8, h9, h10, h11]
    funext i
    rw [eq_ix2 i]
    exact (Cert.MixInRefIdeal.Entry.pad_rows _ Cert.MixInRefIdeal.Gen.pads_S16400x1024_S16512x1024_11200_000 _
      (fun r l => Cert.MixInRefIdeal.Entry.whole_x _ _ _ _ _ _ _ _ _ _ _ _ r l) _ _).trans (Cert.MixInIdeal.Entry.res_x m c _ _).symm
  · rw [h3, h4, h5]
    funext i
    rw [eq_ix2 i]
    exact (Cert.MixInRefIdeal.Entry.pad_rows _ Cert.MixInRefIdeal.Gen.pads_S16400x512_S16512x512_11200_000 _
      (fun r l => Cert.MixInRefIdeal.Entry.whole_u _ _ _ r l) _ _).trans (Cert.MixInIdeal.Entry.res_u m c _ _).symm
  · rw [h0, h1, h2, h3, h4, h5, h6, h7, h9, h11]
    funext i
    rw [eq_ix2 i]
    exact (Cert.MixInRefIdeal.Entry.whole_d _ _ _ _ _ _ _ _ _ _ _ _).trans (Cert.MixInIdeal.Entry.res_d m c _ _).symm

end Cert
-- ==== Proof.lean ====
/- The claims of the test module, assembled from the modules of this directory. -/
module

public import proofs.«01_k».proof.Proof.Gen.FfnIn
public import proofs.«01_k».proof.Proof.Gen.FfnInIdeal.Value
public import proofs.«01_k».proof.Proof.Gen.FfnInRefIdeal.Run
public import proofs.«01_k».proof.Proof.Gen.Pre_ffn_finite
public import proofs.«01_k».proof.Proof.In
public import proofs.«01_k».proof.Proof.Gen.FfnAct
public import proofs.«01_k».proof.Proof.Gen.FfnActIdeal.Value
public import proofs.«01_k».proof.Proof.Gen.FfnActRefIdeal.Run
public import proofs.«01_k».proof.Proof.Act
public import proofs.«01_k».proof.Proof.Gen.FfnDw
public import proofs.«01_k».proof.Proof.Gen.FfnDwIdeal.Value
public import proofs.«01_k».proof.Proof.Gen.FfnDwRefIdeal.Run
public import proofs.«01_k».proof.Proof.Dw
public import proofs.«01_k».proof.Proof.Gen.FfnUp
public import proofs.«01_k».proof.Proof.Gen.FfnUpIdeal.Value
public import proofs.«01_k».proof.Proof.Gen.FfnUpRefIdeal.Run
public import proofs.«01_k».proof.Proof.Up
public import proofs.«01_k».proof.Proof.Gen.FfnDown
public import proofs.«01_k».proof.Proof.Gen.FfnDownIdeal.Value
public import proofs.«01_k».proof.Proof.Gen.FfnDownRefIdeal.Run
public import proofs.«01_k».proof.Proof.Down
public import proofs.«01_k».proof.Proof.Gen.MixProj
public import proofs.«01_k».proof.Proof.Gen.MixProjIdeal.Value
public import proofs.«01_k».proof.Proof.Gen.MixProjRefIdeal.Run
public import proofs.«01_k».proof.Proof.MixProj
public import proofs.«01_k».proof.Proof.Gen.MixDw
public import proofs.«01_k».proof.Proof.Gen.MixDwIdeal.Value
public import proofs.«01_k».proof.Proof.Gen.MixDwRefIdeal.Run
public import proofs.«01_k».proof.Proof.MixDw
public import proofs.«01_k».proof.Proof.Gen.AdMeta
public import proofs.«01_k».proof.Proof.Gen.AdMetaIdeal.Value
public import proofs.«01_k».proof.Proof.Gen.AdMetaRefIdeal.Run
public import proofs.«01_k».proof.Proof.AdMeta
public import proofs.«01_k».proof.Proof.Gen.AdNorm
public import proofs.«01_k».proof.Proof.Gen.AdNormIdeal.Value
public import proofs.«01_k».proof.Proof.Gen.AdNormRefIdeal.Run
public import proofs.«01_k».proof.Proof.AdNorm
public import proofs.«01_k».proof.Proof.Gen.AdUp
public import proofs.«01_k».proof.Proof.Gen.AdUpIdeal.Value
public import proofs.«01_k».proof.Proof.Gen.AdUpRefIdeal.Run
public import proofs.«01_k».proof.Proof.AdUp
public import proofs.«01_k».proof.Proof.Gen.AdDown
public import proofs.«01_k».proof.Proof.Gen.AdDownIdeal.Value
public import proofs.«01_k».proof.Proof.Gen.AdDownRefIdeal.Run
public import proofs.«01_k».proof.Proof.AdDown
public import proofs.«01_k».proof.Proof.Gen.AdWin
public import proofs.«01_k».proof.Proof.Gen.AdWinIdeal.Value
public import proofs.«01_k».proof.Proof.Gen.AdWinRefIdeal.Run
public import proofs.«01_k».proof.Proof.AdWin
public import proofs.«01_k».proof.Proof.Gen.AdLam
public import proofs.«01_k».proof.Proof.Gen.AdLamIdeal.Value
public import proofs.«01_k».proof.Proof.Gen.AdLamRefIdeal.Run
public import proofs.«01_k».proof.Proof.AdLam
public import proofs.«01_k».proof.Proof.Gen.AdDt
public import proofs.«01_k».proof.Proof.Gen.AdDtIdeal.Value
public import proofs.«01_k».proof.Proof.Gen.AdDtRefIdeal.Run
public import proofs.«01_k».proof.Proof.AdDt
public import proofs.«01_k».proof.Proof.Gen.AdB
public import proofs.«01_k».proof.Proof.Gen.AdBIdeal.Value
public import proofs.«01_k».proof.Proof.Gen.AdBRefIdeal.Run
public import proofs.«01_k».proof.Proof.AdB
public import proofs.«01_k».proof.Proof.Gen.AdC
public import proofs.«01_k».proof.Proof.Gen.AdCIdeal.Value
public import proofs.«01_k».proof.Proof.Gen.AdCRefIdeal.Run
public import proofs.«01_k».proof.Proof.AdC
public import proofs.«01_k».proof.Proof.Gen.AdD
public import proofs.«01_k».proof.Proof.Gen.AdDIdeal.Value
public import proofs.«01_k».proof.Proof.Gen.AdDRefIdeal.Run
public import proofs.«01_k».proof.Proof.AdD
public import proofs.«01_k».proof.Proof.Gen.AdGlu
public import proofs.«01_k».proof.Proof.Gen.AdGluIdeal.Value
public import proofs.«01_k».proof.Proof.Gen.AdGluRefIdeal.Run
public import proofs.«01_k».proof.Proof.AdGlu
public import proofs.«01_k».proof.Proof.Gen.AdSink
public import proofs.«01_k».proof.Proof.Gen.AdSinkIdeal.Value
public import proofs.«01_k».proof.Proof.Gen.AdSinkRefIdeal.Run
public import proofs.«01_k».proof.Proof.AdSink
public import proofs.«01_k».proof.Proof.Gen.AdBs
public import proofs.«01_k».proof.Proof.Gen.AdBsIdeal.Value
public import proofs.«01_k».proof.Proof.Gen.AdBsRefIdeal.Run
public import proofs.«01_k».proof.Proof.AdBs
public import proofs.«01_k».proof.Proof.Gen.AdBa
public import proofs.«01_k».proof.Proof.Gen.AdBaIdeal.Value
public import proofs.«01_k».proof.Proof.Gen.AdBaRefIdeal.Run
public import proofs.«01_k».proof.Proof.AdBa
public import proofs.«01_k».proof.Proof.Gen.AdFinal
public import proofs.«01_k».proof.Proof.Gen.AdFinalIdeal.Value
public import proofs.«01_k».proof.Proof.Gen.AdFinalRefIdeal.Run
public import proofs.«01_k».proof.Proof.AdFinal
public import proofs.«01_k».proof.Proof.Gen.SumFfn
public import proofs.«01_k».proof.Proof.Gen.SumFfnIdeal.Value
public import proofs.«01_k».proof.Proof.Gen.SumFfnRefIdeal.Run
public import proofs.«01_k».proof.Proof.SumFfn
public import proofs.«01_k».proof.Proof.Gen.SumOne
public import proofs.«01_k».proof.Proof.Gen.SumOneIdeal.Value
public import proofs.«01_k».proof.Proof.Gen.SumOneRefIdeal.Run
public import proofs.«01_k».proof.Proof.SumOne
public import proofs.«01_k».proof.Proof.Gen.SumMix
public import proofs.«01_k».proof.Proof.Gen.SumMixIdeal.Value
public import proofs.«01_k».proof.Proof.Gen.SumMixRefIdeal.Run
public import proofs.«01_k».proof.Proof.SumMix
public import proofs.«01_k».proof.Proof.Gen.SumMixN
public import proofs.«01_k».proof.Proof.Gen.SumMixNIdeal.Value
public import proofs.«01_k».proof.Proof.Gen.SumMixNRefIdeal.Run
public import proofs.«01_k».proof.Proof.SumMixN
public import proofs.«01_k».proof.Proof.Gen.SumSmall
public import proofs.«01_k».proof.Proof.Gen.SumSmallIdeal.Value
public import proofs.«01_k».proof.Proof.Gen.SumSmallRefIdeal.Run
public import proofs.«01_k».proof.Proof.SumSmall
public import proofs.«01_k».proof.Proof.Gen.SumLast
public import proofs.«01_k».proof.Proof.Gen.SumLastIdeal.Value
public import proofs.«01_k».proof.Proof.Gen.SumLastRefIdeal.Run
public import proofs.«01_k».proof.Proof.SumLast
public import proofs.«01_k».proof.Proof.Gen.FinalLoss
public import proofs.«01_k».proof.Proof.Gen.FinalLossIdeal.Value
public import proofs.«01_k».proof.Proof.Gen.FinalLossRefIdeal.Run
public import proofs.«01_k».proof.Proof.FinalLoss
public import proofs.«01_k».proof.Proof.Gen.MixIn
public import proofs.«01_k».proof.Proof.Gen.MixInIdeal.Value
public import proofs.«01_k».proof.Proof.Gen.MixInRefIdeal.Run
public import proofs.«01_k».proof.Proof.MixIn
public import proofs.«01_k».proof.Defs
public import Idealize.ShloMosaic.Lib.Quiescent

@[expose] public section

noncomputable section

namespace Cert.Proof

open Idealize.ShloMosaic Idealize.SL.Sem

set_option maxHeartbeats 8000000 in
/-- The call's body is the idealization's: the two programs have one text. -/
theorem bwd_in_body : Cert.FfnIn.defs₀ (F := Bits) = Cert.FfnInIdeal.defs₀ (F := Bits) := by
  unfold Cert.FfnIn.defs₀ Cert.FfnInIdeal.defs₀
  refine congrArg Defs.onTc ?_
  funext l x
  match l, x with
  | 0, (t, s) => rfl

theorem bwd_in_defs : Cert.FfnIn.defs (F := Bits) = Cert.FfnInIdeal.defs (F := Bits) := congrArg (Pipeline.defs Cert.FfnIn.pcfgs) bwd_in_body

set_option maxHeartbeats 8000000 in
theorem bwd_in_frame : Cert.quiescent_FfnIn := by
  intro m ρ _
  rw [bwd_in_defs]
  exact Cert.FfnInIdeal.Gen.frame (F := Bits) m ρ

theorem bwd_in_frame_ideal : Cert.quiescent_FfnInIdeal := fun m ρ _ => Cert.FfnInIdeal.Gen.frame (F := Ideal) m ρ

theorem bwd_in_frame_ref : Cert.quiescent_FfnInRefIdeal := fun m ρ _ =>
  (θ_run Cert.FfnInRefIdeal.defs _ _).mono (fun r h => ⟨fun c => (h c).2.2.2.2,
      Idealize.ShloMosaic.sem_eq_zero_of_no_sems (by decide) r.2⟩)
    (Cert.FfnInRefIdeal.Value.run (F := Ideal) m ρ)

theorem bwd_in_frame_ideal_pre : Cert.quiescent_FfnInIdeal_pre_ffn_finite := fun m ρ _ => Cert.FfnInIdeal.Gen.frame (F := Ideal) m ρ

theorem bwd_in_frame_ref_pre : Cert.quiescent_FfnInRefIdeal_pre_ffn_finite := fun m ρ _ =>
  (θ_run Cert.FfnInRefIdeal.defs _ _).mono (fun r h => ⟨fun c => (h c).2.2.2.2,
      Idealize.ShloMosaic.sem_eq_zero_of_no_sems (by decide) r.2⟩)
    (Cert.FfnInRefIdeal.Value.run (F := Ideal) m ρ)

/-- The call's body is the idealization's: the two programs have one text. -/
theorem act_body : Cert.FfnAct.defs₀ (F := Bits) = Cert.FfnActIdeal.defs₀ (F := Bits) := by
  unfold Cert.FfnAct.defs₀ Cert.FfnActIdeal.defs₀
  refine congrArg Defs.onTc ?_
  funext l x
  match l, x with
  | 0, (t, s) => rfl

theorem act_defs : Cert.FfnAct.defs (F := Bits) = Cert.FfnActIdeal.defs (F := Bits) := congrArg (Pipeline.defs Cert.FfnAct.pcfgs) act_body

theorem act_frame : Cert.quiescent_FfnAct := by
  intro m ρ _
  rw [act_defs]
  exact Cert.FfnActIdeal.Gen.frame (F := Bits) m ρ

theorem act_frame_ideal : Cert.quiescent_FfnActIdeal := fun m ρ _ => Cert.FfnActIdeal.Gen.frame (F := Ideal) m ρ

theorem act_frame_ref : Cert.quiescent_FfnActRefIdeal := fun m ρ _ =>
  (θ_run Cert.FfnActRefIdeal.defs _ _).mono (fun r h => ⟨fun c => (h c).2.2,
      Idealize.ShloMosaic.sem_eq_zero_of_no_sems (by decide) r.2⟩)
    (Cert.FfnActRefIdeal.Value.run (F := Ideal) m ρ)

/-- The call's body is the idealization's: the two programs have one text. -/
theorem dw_body : Cert.FfnDw.defs₀ (F := Bits) = Cert.FfnDwIdeal.defs₀ (F := Bits) := by
  unfold Cert.FfnDw.defs₀ Cert.FfnDwIdeal.defs₀
  refine congrArg Defs.onTc ?_
  funext l x
  match l, x with
  | 0, (t, s) => rfl

theorem dw_defs : Cert.FfnDw.defs (F := Bits) = Cert.FfnDwIdeal.defs (F := Bits) := congrArg (Pipeline.defs Cert.FfnDw.pcfgs) dw_body

theorem dw_frame : Cert.quiescent_FfnDw := by
  intro m ρ _
  rw [dw_defs]
  exact Cert.FfnDwIdeal.Gen.frame (F := Bits) m ρ

theorem dw_frame_ideal : Cert.quiescent_FfnDwIdeal := fun m ρ _ => Cert.FfnDwIdeal.Gen.frame (F := Ideal) m ρ

theorem dw_frame_ref : Cert.quiescent_FfnDwRefIdeal := fun m ρ _ =>
  (θ_run Cert.FfnDwRefIdeal.defs _ _).mono (fun r h => ⟨fun c => (h c).2,
      Idealize.ShloMosaic.sem_eq_zero_of_no_sems (by decide) r.2⟩)
    (Cert.FfnDwRefIdeal.Value.run (F := Ideal) m ρ)

/-- The call's body is the idealization's: the two programs have one text. -/
theorem up_body : Cert.FfnUp.defs₀ (F := Bits) = Cert.FfnUpIdeal.defs₀ (F := Bits) := by
  unfold Cert.FfnUp.defs₀ Cert.FfnUpIdeal.defs₀
  refine congrArg Defs.onTc ?_
  funext l x
  match l, x with
  | 0, (t, s) => rfl

theorem up_defs : Cert.FfnUp.defs (F := Bits) = Cert.FfnUpIdeal.defs (F := Bits) := congrArg (Pipeline.defs Cert.FfnUp.pcfgs) up_body

theorem up_frame : Cert.quiescent_FfnUp := by
  intro m ρ _
  rw [up_defs]
  exact Cert.FfnUpIdeal.Gen.frame (F := Bits) m ρ

theorem up_frame_ideal : Cert.quiescent_FfnUpIdeal := fun m ρ _ => Cert.FfnUpIdeal.Gen.frame (F := Ideal) m ρ

theorem up_frame_ref : Cert.quiescent_FfnUpRefIdeal := fun m ρ _ =>
  (θ_run Cert.FfnUpRefIdeal.defs _ _).mono (fun r h => ⟨fun c => (h c).2.2.2.2,
      Idealize.ShloMosaic.sem_eq_zero_of_no_sems (by decide) r.2⟩)
    (Cert.FfnUpRefIdeal.Value.run (F := Ideal) m ρ)

/-- The call's body is the idealization's: the two programs have one text. -/
theorem down_body : Cert.FfnDown.defs₀ (F := Bits) = Cert.FfnDownIdeal.defs₀ (F := Bits) := by
  unfold Cert.FfnDown.defs₀ Cert.FfnDownIdeal.defs₀
  refine congrArg Defs.onTc ?_
  funext l x
  match l, x with
  | 0, (t, s) => rfl

theorem down_defs : Cert.FfnDown.defs (F := Bits) = Cert.FfnDownIdeal.defs (F := Bits) := congrArg (Pipeline.defs Cert.FfnDown.pcfgs) down_body

theorem down_frame : Cert.quiescent_FfnDown := by
  intro m ρ _
  rw [down_defs]
  exact Cert.FfnDownIdeal.Gen.frame (F := Bits) m ρ

theorem down_frame_ideal : Cert.quiescent_FfnDownIdeal := fun m ρ _ => Cert.FfnDownIdeal.Gen.frame (F := Ideal) m ρ

theorem down_frame_ref : Cert.quiescent_FfnDownRefIdeal := fun m ρ _ =>
  (θ_run Cert.FfnDownRefIdeal.defs _ _).mono (fun r h => ⟨fun c => (h c).2,
      Idealize.ShloMosaic.sem_eq_zero_of_no_sems (by decide) r.2⟩)
    (Cert.FfnDownRefIdeal.Value.run (F := Ideal) m ρ)

/-- The call's body is the idealization's: the two programs have one text. -/
theorem mixproj_body : Cert.MixProj.defs₀ (F := Bits) = Cert.MixProjIdeal.defs₀ (F := Bits) := by
  unfold Cert.MixProj.defs₀ Cert.MixProjIdeal.defs₀
  refine congrArg Defs.onTc ?_
  funext l x
  match l, x with
  | 0, (t, s) => rfl

theorem mixproj_defs : Cert.MixProj.defs (F := Bits) = Cert.MixProjIdeal.defs (F := Bits) := congrArg (Pipeline.defs Cert.MixProj.pcfgs) mixproj_body

theorem mixproj_frame : Cert.quiescent_MixProj := by
  intro m ρ _
  rw [mixproj_defs]
  exact Cert.MixProjIdeal.Gen.frame (F := Bits) m ρ

theorem mixproj_frame_ideal : Cert.quiescent_MixProjIdeal := fun m ρ _ => Cert.MixProjIdeal.Gen.frame (F := Ideal) m ρ

theorem mixproj_frame_ref : Cert.quiescent_MixProjRefIdeal := fun m ρ _ =>
  (θ_run Cert.MixProjRefIdeal.defs _ _).mono (fun r h => ⟨fun c => (h c).2.2.2.2.2.2.2,
      Idealize.ShloMosaic.sem_eq_zero_of_no_sems (by decide) r.2⟩)
    (Cert.MixProjRefIdeal.Value.run (F := Ideal) m ρ)

/-- The call's body is the idealization's: the two programs have one text. -/
theorem mixdw_body : Cert.MixDw.defs₀ (F := Bits) = Cert.MixDwIdeal.defs₀ (F := Bits) := by
  unfold Cert.MixDw.defs₀ Cert.MixDwIdeal.defs₀
  refine congrArg Defs.onTc ?_
  funext l x
  match l, x with
  | 0, (t, s) => rfl

theorem mixdw_defs : Cert.MixDw.defs (F := Bits) = Cert.MixDwIdeal.defs (F := Bits) := congrArg (Pipeline.defs Cert.MixDw.pcfgs) mixdw_body

theorem mixdw_frame : Cert.quiescent_MixDw := by
  intro m ρ _
  rw [mixdw_defs]
  exact Cert.MixDwIdeal.Gen.frame (F := Bits) m ρ

theorem mixdw_frame_ideal : Cert.quiescent_MixDwIdeal := fun m ρ _ => Cert.MixDwIdeal.Gen.frame (F := Ideal) m ρ

theorem mixdw_frame_ref : Cert.quiescent_MixDwRefIdeal := fun m ρ _ =>
  (θ_run Cert.MixDwRefIdeal.defs _ _).mono (fun r h => ⟨fun c => (h c).2,
      Idealize.ShloMosaic.sem_eq_zero_of_no_sems (by decide) r.2⟩)
    (Cert.MixDwRefIdeal.Value.run (F := Ideal) m ρ)

/-- The call's body is the idealization's: the two programs have one text. -/
theorem admeta_body : Cert.AdMeta.defs₀ (F := Bits) = Cert.AdMetaIdeal.defs₀ (F := Bits) := by
  unfold Cert.AdMeta.defs₀ Cert.AdMetaIdeal.defs₀
  refine congrArg Defs.onTc ?_
  funext l x
  match l, x with
  | 0, (t, s) => rfl

theorem admeta_defs : Cert.AdMeta.defs (F := Bits) = Cert.AdMetaIdeal.defs (F := Bits) := congrArg (Pipeline.defs Cert.AdMeta.pcfgs) admeta_body

theorem admeta_frame : Cert.quiescent_AdMeta := by
  intro m ρ _
  rw [admeta_defs]
  exact Cert.AdMetaIdeal.Gen.frame (F := Bits) m ρ

theorem admeta_frame_ideal : Cert.quiescent_AdMetaIdeal := fun m ρ _ => Cert.AdMetaIdeal.Gen.frame (F := Ideal) m ρ

theorem admeta_frame_ref : Cert.quiescent_AdMetaRefIdeal := fun m ρ _ =>
  (θ_run Cert.AdMetaRefIdeal.defs _ _).mono (fun r h => ⟨fun c => (h c).2.2.2,
      Idealize.ShloMosaic.sem_eq_zero_of_no_sems (by decide) r.2⟩)
    (Cert.AdMetaRefIdeal.Value.run (F := Ideal) m ρ)

/-- The call's body is the idealization's: the two programs have one text. -/
theorem adnorm_body : Cert.AdNorm.defs₀ (F := Bits) = Cert.AdNormIdeal.defs₀ (F := Bits) := by
  unfold Cert.AdNorm.defs₀ Cert.AdNormIdeal.defs₀
  refine congrArg Defs.onTc ?_
  funext l x
  match l, x with
  | 0, (t, s) => rfl

theorem adnorm_defs : Cert.AdNorm.defs (F := Bits) = Cert.AdNormIdeal.defs (F := Bits) := congrArg (Pipeline.defs Cert.AdNorm.pcfgs) adnorm_body

theorem adnorm_frame : Cert.quiescent_AdNorm := by
  intro m ρ _
  rw [adnorm_defs]
  exact Cert.AdNormIdeal.Gen.frame (F := Bits) m ρ

theorem adnorm_frame_ideal : Cert.quiescent_AdNormIdeal := fun m ρ _ => Cert.AdNormIdeal.Gen.frame (F := Ideal) m ρ

theorem adnorm_frame_ref : Cert.quiescent_AdNormRefIdeal := fun m ρ _ =>
  (θ_run Cert.AdNormRefIdeal.defs _ _).mono (fun r h => ⟨fun c => (h c).2.2.2,
      Idealize.ShloMosaic.sem_eq_zero_of_no_sems (by decide) r.2⟩)
    (Cert.AdNormRefIdeal.Value.run (F := Ideal) m ρ)

/-- The call's body is the idealization's: the two programs have one text. -/
theorem adup_body : Cert.AdUp.defs₀ (F := Bits) = Cert.AdUpIdeal.defs₀ (F := Bits) := by
  unfold Cert.AdUp.defs₀ Cert.AdUpIdeal.defs₀
  refine congrArg Defs.onTc ?_
  funext l x
  match l, x with
  | 0, (t, s) => rfl

theorem adup_defs : Cert.AdUp.defs (F := Bits) = Cert.AdUpIdeal.defs (F := Bits) := congrArg (Pipeline.defs Cert.AdUp.pcfgs) adup_body

theorem adup_frame : Cert.quiescent_AdUp := by
  intro m ρ _
  rw [adup_defs]
  exact Cert.AdUpIdeal.Gen.frame (F := Bits) m ρ

theorem adup_frame_ideal : Cert.quiescent_AdUpIdeal := fun m ρ _ => Cert.AdUpIdeal.Gen.frame (F := Ideal) m ρ

theorem adup_frame_ref : Cert.quiescent_AdUpRefIdeal := fun m ρ _ =>
  (θ_run Cert.AdUpRefIdeal.defs _ _).mono (fun r h => ⟨fun c => (h c).2.2.2,
      Idealize.ShloMosaic.sem_eq_zero_of_no_sems (by decide) r.2⟩)
    (Cert.AdUpRefIdeal.Value.run (F := Ideal) m ρ)

/-- The call's body is the idealization's: the two programs have one text. -/
theorem addown_body : Cert.AdDown.defs₀ (F := Bits) = Cert.AdDownIdeal.defs₀ (F := Bits) := by
  unfold Cert.AdDown.defs₀ Cert.AdDownIdeal.defs₀
  refine congrArg Defs.onTc ?_
  funext l x
  match l, x with
  | 0, (t, s) => rfl

theorem addown_defs : Cert.AdDown.defs (F := Bits) = Cert.AdDownIdeal.defs (F := Bits) := congrArg (Pipeline.defs Cert.AdDown.pcfgs) addown_body

theorem addown_frame : Cert.quiescent_AdDown := by
  intro m ρ _
  rw [addown_defs]
  exact Cert.AdDownIdeal.Gen.frame (F := Bits) m ρ

theorem addown_frame_ideal : Cert.quiescent_AdDownIdeal := fun m ρ _ => Cert.AdDownIdeal.Gen.frame (F := Ideal) m ρ

theorem addown_frame_ref : Cert.quiescent_AdDownRefIdeal := fun m ρ _ =>
  (θ_run Cert.AdDownRefIdeal.defs _ _).mono (fun r h => ⟨fun c => (h c).2.2.2,
      Idealize.ShloMosaic.sem_eq_zero_of_no_sems (by decide) r.2⟩)
    (Cert.AdDownRefIdeal.Value.run (F := Ideal) m ρ)

/-- The call's body is the idealization's: the two programs have one text. -/
theorem adwin_body : Cert.AdWin.defs₀ (F := Bits) = Cert.AdWinIdeal.defs₀ (F := Bits) := by
  unfold Cert.AdWin.defs₀ Cert.AdWinIdeal.defs₀
  refine congrArg Defs.onTc ?_
  funext l x
  match l, x with
  | 0, (t, s) => rfl

theorem adwin_defs : Cert.AdWin.defs (F := Bits) = Cert.AdWinIdeal.defs (F := Bits) := congrArg (Pipeline.defs Cert.AdWin.pcfgs) adwin_body

theorem adwin_frame : Cert.quiescent_AdWin := by
  intro m ρ _
  rw [adwin_defs]
  exact Cert.AdWinIdeal.Gen.frame (F := Bits) m ρ

theorem adwin_frame_ideal : Cert.quiescent_AdWinIdeal := fun m ρ _ => Cert.AdWinIdeal.Gen.frame (F := Ideal) m ρ

theorem adwin_frame_ref : Cert.quiescent_AdWinRefIdeal := fun m ρ _ =>
  (θ_run Cert.AdWinRefIdeal.defs _ _).mono (fun r h => ⟨fun c => (h c).2.2.2,
      Idealize.ShloMosaic.sem_eq_zero_of_no_sems (by decide) r.2⟩)
    (Cert.AdWinRefIdeal.Value.run (F := Ideal) m ρ)

/-- The call's body is the idealization's: the two programs have one text. -/
theorem adlam_body : Cert.AdLam.defs₀ (F := Bits) = Cert.AdLamIdeal.defs₀ (F := Bits) := by
  unfold Cert.AdLam.defs₀ Cert.AdLamIdeal.defs₀
  refine congrArg Defs.onTc ?_
  funext l x
  match l, x with
  | 0, (t, s) => rfl

theorem adlam_defs : Cert.AdLam.defs (F := Bits) = Cert.AdLamIdeal.defs (F := Bits) := congrArg (Pipeline.defs Cert.AdLam.pcfgs) adlam_body

theorem adlam_frame : Cert.quiescent_AdLam := by
  intro m ρ _
  rw [adlam_defs]
  exact Cert.AdLamIdeal.Gen.frame (F := Bits) m ρ

theorem adlam_frame_ideal : Cert.quiescent_AdLamIdeal := fun m ρ _ => Cert.AdLamIdeal.Gen.frame (F := Ideal) m ρ

theorem adlam_frame_ref : Cert.quiescent_AdLamRefIdeal := fun m ρ _ =>
  (θ_run Cert.AdLamRefIdeal.defs _ _).mono (fun r h => ⟨fun c => (h c).2.2.2,
      Idealize.ShloMosaic.sem_eq_zero_of_no_sems (by decide) r.2⟩)
    (Cert.AdLamRefIdeal.Value.run (F := Ideal) m ρ)

/-- The call's body is the idealization's: the two programs have one text. -/
theorem addt_body : Cert.AdDt.defs₀ (F := Bits) = Cert.AdDtIdeal.defs₀ (F := Bits) := by
  unfold Cert.AdDt.defs₀ Cert.AdDtIdeal.defs₀
  refine congrArg Defs.onTc ?_
  funext l x
  match l, x with
  | 0, (t, s) => rfl

theorem addt_defs : Cert.AdDt.defs (F := Bits) = Cert.AdDtIdeal.defs (F := Bits) := congrArg (Pipeline.defs Cert.AdDt.pcfgs) addt_body

theorem addt_frame : Cert.quiescent_AdDt := by
  intro m ρ _
  rw [addt_defs]
  exact Cert.AdDtIdeal.Gen.frame (F := Bits) m ρ

theorem addt_frame_ideal : Cert.quiescent_AdDtIdeal := fun m ρ _ => Cert.AdDtIdeal.Gen.frame (F := Ideal) m ρ

theorem addt_frame_ref : Cert.quiescent_AdDtRefIdeal := fun m ρ _ =>
  (θ_run Cert.AdDtRefIdeal.defs _ _).mono (fun r h => ⟨fun c => (h c).2.2.2,
      Idealize.ShloMosaic.sem_eq_zero_of_no_sems (by decide) r.2⟩)
    (Cert.AdDtRefIdeal.Value.run (F := Ideal) m ρ)

/-- The call's body is the idealization's: the two programs have one text. -/
theorem adb_body : Cert.AdB.defs₀ (F := Bits) = Cert.AdBIdeal.defs₀ (F := Bits) := by
  unfold Cert.AdB.defs₀ Cert.AdBIdeal.defs₀
  refine congrArg Defs.onTc ?_
  funext l x
  match l, x with
  | 0, (t, s) => rfl

theorem adb_defs : Cert.AdB.defs (F := Bits) = Cert.AdBIdeal.defs (F := Bits) := congrArg (Pipeline.defs Cert.AdB.pcfgs) adb_body

theorem adb_frame : Cert.quiescent_AdB := by
  intro m ρ _
  rw [adb_defs]
  exact Cert.AdBIdeal.Gen.frame (F := Bits) m ρ

theorem adb_frame_ideal : Cert.quiescent_AdBIdeal := fun m ρ _ => Cert.AdBIdeal.Gen.frame (F := Ideal) m ρ

theorem adb_frame_ref : Cert.quiescent_AdBRefIdeal := fun m ρ _ =>
  (θ_run Cert.AdBRefIdeal.defs _ _).mono (fun r h => ⟨fun c => (h c).2.2.2,
      Idealize.ShloMosaic.sem_eq_zero_of_no_sems (by decide) r.2⟩)
    (Cert.AdBRefIdeal.Value.run (F := Ideal) m ρ)

/-- The call's body is the idealization's: the two programs have one text. -/
theorem adc_body : Cert.AdC.defs₀ (F := Bits) = Cert.AdCIdeal.defs₀ (F := Bits) := by
  unfold Cert.AdC.defs₀ Cert.AdCIdeal.defs₀
  refine congrArg Defs.onTc ?_
  funext l x
  match l, x with
  | 0, (t, s) => rfl

theorem adc_defs : Cert.AdC.defs (F := Bits) = Cert.AdCIdeal.defs (F := Bits) := congrArg (Pipeline.defs Cert.AdC.pcfgs) adc_body

theorem adc_frame : Cert.quiescent_AdC := by
  intro m ρ _
  rw [adc_defs]
  exact Cert.AdCIdeal.Gen.frame (F := Bits) m ρ

theorem adc_frame_ideal : Cert.quiescent_AdCIdeal := fun m ρ _ => Cert.AdCIdeal.Gen.frame (F := Ideal) m ρ

theorem adc_frame_ref : Cert.quiescent_AdCRefIdeal := fun m ρ _ =>
  (θ_run Cert.AdCRefIdeal.defs _ _).mono (fun r h => ⟨fun c => (h c).2.2.2,
      Idealize.ShloMosaic.sem_eq_zero_of_no_sems (by decide) r.2⟩)
    (Cert.AdCRefIdeal.Value.run (F := Ideal) m ρ)

/-- The call's body is the idealization's: the two programs have one text. -/
theorem add_body : Cert.AdD.defs₀ (F := Bits) = Cert.AdDIdeal.defs₀ (F := Bits) := by
  unfold Cert.AdD.defs₀ Cert.AdDIdeal.defs₀
  refine congrArg Defs.onTc ?_
  funext l x
  match l, x with
  | 0, (t, s) => rfl

theorem add_defs : Cert.AdD.defs (F := Bits) = Cert.AdDIdeal.defs (F := Bits) := congrArg (Pipeline.defs Cert.AdD.pcfgs) add_body

theorem add_frame : Cert.quiescent_AdD := by
  intro m ρ _
  rw [add_defs]
  exact Cert.AdDIdeal.Gen.frame (F := Bits) m ρ

theorem add_frame_ideal : Cert.quiescent_AdDIdeal := fun m ρ _ => Cert.AdDIdeal.Gen.frame (F := Ideal) m ρ

theorem add_frame_ref : Cert.quiescent_AdDRefIdeal := fun m ρ _ =>
  (θ_run Cert.AdDRefIdeal.defs _ _).mono (fun r h => ⟨fun c => (h c).2.2.2,
      Idealize.ShloMosaic.sem_eq_zero_of_no_sems (by decide) r.2⟩)
    (Cert.AdDRefIdeal.Value.run (F := Ideal) m ρ)

/-- The call's body is the idealization's: the two programs have one text. -/
theorem adglu_body : Cert.AdGlu.defs₀ (F := Bits) = Cert.AdGluIdeal.defs₀ (F := Bits) := by
  unfold Cert.AdGlu.defs₀ Cert.AdGluIdeal.defs₀
  refine congrArg Defs.onTc ?_
  funext l x
  match l, x with
  | 0, (t, s) => rfl

theorem adglu_defs : Cert.AdGlu.defs (F := Bits) = Cert.AdGluIdeal.defs (F := Bits) := congrArg (Pipeline.defs Cert.AdGlu.pcfgs) adglu_body

theorem adglu_frame : Cert.quiescent_AdGlu := by
  intro m ρ _
  rw [adglu_defs]
  exact Cert.AdGluIdeal.Gen.frame (F := Bits) m ρ

theorem adglu_frame_ideal : Cert.quiescent_AdGluIdeal := fun m ρ _ => Cert.AdGluIdeal.Gen.frame (F := Ideal) m ρ

theorem adglu_frame_ref : Cert.quiescent_AdGluRefIdeal := fun m ρ _ =>
  (θ_run Cert.AdGluRefIdeal.defs _ _).mono (fun r h => ⟨fun c => (h c).2.2.2,
      Idealize.ShloMosaic.sem_eq_zero_of_no_sems (by decide) r.2⟩)
    (Cert.AdGluRefIdeal.Value.run (F := Ideal) m ρ)

/-- The call's body is the idealization's: the two programs have one text. -/
theorem adsink_body : Cert.AdSink.defs₀ (F := Bits) = Cert.AdSinkIdeal.defs₀ (F := Bits) := by
  unfold Cert.AdSink.defs₀ Cert.AdSinkIdeal.defs₀
  refine congrArg Defs.onTc ?_
  funext l x
  match l, x with
  | 0, (t, s) => rfl

theorem adsink_defs : Cert.AdSink.defs (F := Bits) = Cert.AdSinkIdeal.defs (F := Bits) := congrArg (Pipeline.defs Cert.AdSink.pcfgs) adsink_body

theorem adsink_frame : Cert.quiescent_AdSink := by
  intro m ρ _
  rw [adsink_defs]
  exact Cert.AdSinkIdeal.Gen.frame (F := Bits) m ρ

theorem adsink_frame_ideal : Cert.quiescent_AdSinkIdeal := fun m ρ _ => Cert.AdSinkIdeal.Gen.frame (F := Ideal) m ρ

theorem adsink_frame_ref : Cert.quiescent_AdSinkRefIdeal := fun m ρ _ =>
  (θ_run Cert.AdSinkRefIdeal.defs _ _).mono (fun r h => ⟨fun c => (h c).2.2.2,
      Idealize.ShloMosaic.sem_eq_zero_of_no_sems (by decide) r.2⟩)
    (Cert.AdSinkRefIdeal.Value.run (F := Ideal) m ρ)

/-- The call's body is the idealization's: the two programs have one text. -/
theorem adbs_body : Cert.AdBs.defs₀ (F := Bits) = Cert.AdBsIdeal.defs₀ (F := Bits) := by
  unfold Cert.AdBs.defs₀ Cert.AdBsIdeal.defs₀
  refine congrArg Defs.onTc ?_
  funext l x
  match l, x with
  | 0, (t, s) => rfl

theorem adbs_defs : Cert.AdBs.defs (F := Bits) = Cert.AdBsIdeal.defs (F := Bits) := congrArg (Pipeline.defs Cert.AdBs.pcfgs) adbs_body

theorem adbs_frame : Cert.quiescent_AdBs := by
  intro m ρ _
  rw [adbs_defs]
  exact Cert.AdBsIdeal.Gen.frame (F := Bits) m ρ

theorem adbs_frame_ideal : Cert.quiescent_AdBsIdeal := fun m ρ _ => Cert.AdBsIdeal.Gen.frame (F := Ideal) m ρ

theorem adbs_frame_ref : Cert.quiescent_AdBsRefIdeal := fun m ρ _ =>
  (θ_run Cert.AdBsRefIdeal.defs _ _).mono (fun r h => ⟨fun c => (h c).2.2.2,
      Idealize.ShloMosaic.sem_eq_zero_of_no_sems (by decide) r.2⟩)
    (Cert.AdBsRefIdeal.Value.run (F := Ideal) m ρ)

/-- The call's body is the idealization's: the two programs have one text. -/
theorem adba_body : Cert.AdBa.defs₀ (F := Bits) = Cert.AdBaIdeal.defs₀ (F := Bits) := by
  unfold Cert.AdBa.defs₀ Cert.AdBaIdeal.defs₀
  refine congrArg Defs.onTc ?_
  funext l x
  match l, x with
  | 0, (t, s) => rfl

theorem adba_defs : Cert.AdBa.defs (F := Bits) = Cert.AdBaIdeal.defs (F := Bits) := congrArg (Pipeline.defs Cert.AdBa.pcfgs) adba_body

theorem adba_frame : Cert.quiescent_AdBa := by
  intro m ρ _
  rw [adba_defs]
  exact Cert.AdBaIdeal.Gen.frame (F := Bits) m ρ

theorem adba_frame_ideal : Cert.quiescent_AdBaIdeal := fun m ρ _ => Cert.AdBaIdeal.Gen.frame (F := Ideal) m ρ

theorem adba_frame_ref : Cert.quiescent_AdBaRefIdeal := fun m ρ _ =>
  (θ_run Cert.AdBaRefIdeal.defs _ _).mono (fun r h => ⟨fun c => (h c).2.2.2,
      Idealize.ShloMosaic.sem_eq_zero_of_no_sems (by decide) r.2⟩)
    (Cert.AdBaRefIdeal.Value.run (F := Ideal) m ρ)

/-- The call's body is the idealization's: the two programs have one text. -/
theorem adfinal_body : Cert.AdFinal.defs₀ (F := Bits) = Cert.AdFinalIdeal.defs₀ (F := Bits) := by
  unfold Cert.AdFinal.defs₀ Cert.AdFinalIdeal.defs₀
  refine congrArg Defs.onTc ?_
  funext l x
  match l, x with
  | 0, (t, s) => rfl

theorem adfinal_defs : Cert.AdFinal.defs (F := Bits) = Cert.AdFinalIdeal.defs (F := Bits) := congrArg (Pipeline.defs Cert.AdFinal.pcfgs) adfinal_body

theorem adfinal_frame : Cert.quiescent_AdFinal := by
  intro m ρ _
  rw [adfinal_defs]
  exact Cert.AdFinalIdeal.Gen.frame (F := Bits) m ρ

theorem adfinal_frame_ideal : Cert.quiescent_AdFinalIdeal := fun m ρ _ => Cert.AdFinalIdeal.Gen.frame (F := Ideal) m ρ

theorem adfinal_frame_ref : Cert.quiescent_AdFinalRefIdeal := fun m ρ _ =>
  (θ_run Cert.AdFinalRefIdeal.defs _ _).mono (fun r h => ⟨fun c => (h c).2.2.2,
      Idealize.ShloMosaic.sem_eq_zero_of_no_sems (by decide) r.2⟩)
    (Cert.AdFinalRefIdeal.Value.run (F := Ideal) m ρ)

/-- The call's body is the idealization's: the two programs have one text. -/
theorem sumffn_body : Cert.SumFfn.defs₀ (F := Bits) = Cert.SumFfnIdeal.defs₀ (F := Bits) := by
  unfold Cert.SumFfn.defs₀ Cert.SumFfnIdeal.defs₀
  refine congrArg Defs.onTc ?_
  funext l x
  match l, x with
  | 0, (t, s) => rfl

theorem sumffn_defs : Cert.SumFfn.defs (F := Bits) = Cert.SumFfnIdeal.defs (F := Bits) := congrArg (Pipeline.defs Cert.SumFfn.pcfgs) sumffn_body

theorem sumffn_frame : Cert.quiescent_SumFfn := by
  intro m ρ _
  rw [sumffn_defs]
  exact Cert.SumFfnIdeal.Gen.frame (F := Bits) m ρ

theorem sumffn_frame_ideal : Cert.quiescent_SumFfnIdeal := fun m ρ _ => Cert.SumFfnIdeal.Gen.frame (F := Ideal) m ρ

theorem sumffn_frame_ref : Cert.quiescent_SumFfnRefIdeal := fun m ρ _ =>
  (θ_run Cert.SumFfnRefIdeal.defs _ _).mono (fun r h => ⟨fun c => (h c).2,
      Idealize.ShloMosaic.sem_eq_zero_of_no_sems (by decide) r.2⟩)
    (Cert.SumFfnRefIdeal.Value.run (F := Ideal) m ρ)

/-- The call's body is the idealization's: the two programs have one text. -/
theorem sumone_body : Cert.SumOne.defs₀ (F := Bits) = Cert.SumOneIdeal.defs₀ (F := Bits) := by
  unfold Cert.SumOne.defs₀ Cert.SumOneIdeal.defs₀
  refine congrArg Defs.onTc ?_
  funext l x
  match l, x with
  | 0, (t, s) => rfl

theorem sumone_defs : Cert.SumOne.defs (F := Bits) = Cert.SumOneIdeal.defs (F := Bits) := congrArg (Pipeline.defs Cert.SumOne.pcfgs) sumone_body

theorem sumone_frame : Cert.quiescent_SumOne := by
  intro m ρ _
  rw [sumone_defs]
  exact Cert.SumOneIdeal.Gen.frame (F := Bits) m ρ

theorem sumone_frame_ideal : Cert.quiescent_SumOneIdeal := fun m ρ _ => Cert.SumOneIdeal.Gen.frame (F := Ideal) m ρ

theorem sumone_frame_ref : Cert.quiescent_SumOneRefIdeal := fun m ρ _ =>
  (θ_run Cert.SumOneRefIdeal.defs _ _).mono (fun r h => ⟨fun c => (h c).2,
      Idealize.ShloMosaic.sem_eq_zero_of_no_sems (by decide) r.2⟩)
    (Cert.SumOneRefIdeal.Value.run (F := Ideal) m ρ)

/-- The call's body is the idealization's: the two programs have one text. -/
theorem summix_body : Cert.SumMix.defs₀ (F := Bits) = Cert.SumMixIdeal.defs₀ (F := Bits) := by
  unfold Cert.SumMix.defs₀ Cert.SumMixIdeal.defs₀
  refine congrArg Defs.onTc ?_
  funext l x
  match l, x with
  | 0, (t, s) => rfl

theorem summix_defs : Cert.SumMix.defs (F := Bits) = Cert.SumMixIdeal.defs (F := Bits) := congrArg (Pipeline.defs Cert.SumMix.pcfgs) summix_body

theorem summix_frame : Cert.quiescent_SumMix := by
  intro m ρ _
  rw [summix_defs]
  exact Cert.SumMixIdeal.Gen.frame (F := Bits) m ρ

theorem summix_frame_ideal : Cert.quiescent_SumMixIdeal := fun m ρ _ => Cert.SumMixIdeal.Gen.frame (F := Ideal) m ρ

theorem summix_frame_ref : Cert.quiescent_SumMixRefIdeal := fun m ρ _ =>
  (θ_run Cert.SumMixRefIdeal.defs _ _).mono (fun r h => ⟨fun c => (h c).2,
      Idealize.ShloMosaic.sem_eq_zero_of_no_sems (by decide) r.2⟩)
    (Cert.SumMixRefIdeal.Value.run (F := Ideal) m ρ)

/-- The call's body is the idealization's: the two programs have one text. -/
theorem summixn_body : Cert.SumMixN.defs₀ (F := Bits) = Cert.SumMixNIdeal.defs₀ (F := Bits) := by
  unfold Cert.SumMixN.defs₀ Cert.SumMixNIdeal.defs₀
  refine congrArg Defs.onTc ?_
  funext l x
  match l, x with
  | 0, (t, s) => rfl

theorem summixn_defs : Cert.SumMixN.defs (F := Bits) = Cert.SumMixNIdeal.defs (F := Bits) := congrArg (Pipeline.defs Cert.SumMixN.pcfgs) summixn_body

theorem summixn_frame : Cert.quiescent_SumMixN := by
  intro m ρ _
  rw [summixn_defs]
  exact Cert.SumMixNIdeal.Gen.frame (F := Bits) m ρ

theorem summixn_frame_ideal : Cert.quiescent_SumMixNIdeal := fun m ρ _ => Cert.SumMixNIdeal.Gen.frame (F := Ideal) m ρ

theorem summixn_frame_ref : Cert.quiescent_SumMixNRefIdeal := fun m ρ _ =>
  (θ_run Cert.SumMixNRefIdeal.defs _ _).mono (fun r h => ⟨fun c => (h c).2,
      Idealize.ShloMosaic.sem_eq_zero_of_no_sems (by decide) r.2⟩)
    (Cert.SumMixNRefIdeal.Value.run (F := Ideal) m ρ)

/-- The call's body is the idealization's: the two programs have one text. -/
theorem sumsmall_body : Cert.SumSmall.defs₀ (F := Bits) = Cert.SumSmallIdeal.defs₀ (F := Bits) := by
  unfold Cert.SumSmall.defs₀ Cert.SumSmallIdeal.defs₀
  refine congrArg Defs.onTc ?_
  funext l x
  match l, x with
  | 0, (t, s) => rfl

theorem sumsmall_defs : Cert.SumSmall.defs (F := Bits) = Cert.SumSmallIdeal.defs (F := Bits) := congrArg (Pipeline.defs Cert.SumSmall.pcfgs) sumsmall_body

theorem sumsmall_frame : Cert.quiescent_SumSmall := by
  intro m ρ _
  rw [sumsmall_defs]
  exact Cert.SumSmallIdeal.Gen.frame (F := Bits) m ρ

theorem sumsmall_frame_ideal : Cert.quiescent_SumSmallIdeal := fun m ρ _ => Cert.SumSmallIdeal.Gen.frame (F := Ideal) m ρ

theorem sumsmall_frame_ref : Cert.quiescent_SumSmallRefIdeal := fun m ρ _ =>
  (θ_run Cert.SumSmallRefIdeal.defs _ _).mono (fun r h => ⟨fun c => (h c).2,
      Idealize.ShloMosaic.sem_eq_zero_of_no_sems (by decide) r.2⟩)
    (Cert.SumSmallRefIdeal.Value.run (F := Ideal) m ρ)

/-- The call's body is the idealization's: the two programs have one text. -/
theorem sumlast_body : Cert.SumLast.defs₀ (F := Bits) = Cert.SumLastIdeal.defs₀ (F := Bits) := by
  unfold Cert.SumLast.defs₀ Cert.SumLastIdeal.defs₀
  refine congrArg Defs.onTc ?_
  funext l x
  match l, x with
  | 0, (t, s) => rfl

theorem sumlast_defs : Cert.SumLast.defs (F := Bits) = Cert.SumLastIdeal.defs (F := Bits) := congrArg (Pipeline.defs Cert.SumLast.pcfgs) sumlast_body

theorem sumlast_frame : Cert.quiescent_SumLast := by
  intro m ρ _
  rw [sumlast_defs]
  exact Cert.SumLastIdeal.Gen.frame (F := Bits) m ρ

theorem sumlast_frame_ideal : Cert.quiescent_SumLastIdeal := fun m ρ _ => Cert.SumLastIdeal.Gen.frame (F := Ideal) m ρ

theorem sumlast_frame_ref : Cert.quiescent_SumLastRefIdeal := fun m ρ _ =>
  (θ_run Cert.SumLastRefIdeal.defs _ _).mono (fun r h => ⟨fun c => (h c).2,
      Idealize.ShloMosaic.sem_eq_zero_of_no_sems (by decide) r.2⟩)
    (Cert.SumLastRefIdeal.Value.run (F := Ideal) m ρ)

/-- The call's body is the idealization's: the two programs have one text. -/
theorem final_loss_body : Cert.FinalLoss.defs₀ (F := Bits) = Cert.FinalLossIdeal.defs₀ (F := Bits) := by
  unfold Cert.FinalLoss.defs₀ Cert.FinalLossIdeal.defs₀
  refine congrArg Defs.onTc ?_
  funext l x
  match l, x with
  | 0, (t, s) => rfl

theorem final_loss_defs : Cert.FinalLoss.defs (F := Bits) = Cert.FinalLossIdeal.defs (F := Bits) := congrArg (Pipeline.defs Cert.FinalLoss.pcfgs) final_loss_body

theorem final_loss_frame : Cert.quiescent_FinalLoss := by
  intro m ρ _
  rw [final_loss_defs]
  exact Cert.FinalLossIdeal.Gen.frame (F := Bits) m ρ

theorem final_loss_frame_ideal : Cert.quiescent_FinalLossIdeal := fun m ρ _ => Cert.FinalLossIdeal.Gen.frame (F := Ideal) m ρ

theorem final_loss_frame_ref : Cert.quiescent_FinalLossRefIdeal := fun m ρ _ =>
  (θ_run Cert.FinalLossRefIdeal.defs _ _).mono (fun r h => ⟨fun c => (h c).2.2.2,
      Idealize.ShloMosaic.sem_eq_zero_of_no_sems (by decide) r.2⟩)
    (Cert.FinalLossRefIdeal.Value.run (F := Ideal) m ρ)

set_option maxHeartbeats 8000000 in
/-- The call's body is the idealization's: the two programs have one text. -/
theorem mix_in_body : Cert.MixIn.defs₀ (F := Bits) = Cert.MixInIdeal.defs₀ (F := Bits) := by
  unfold Cert.MixIn.defs₀ Cert.MixInIdeal.defs₀
  refine congrArg Defs.onTc ?_
  funext l x
  match l, x with
  | 0, (t, s) => rfl

theorem mix_in_defs : Cert.MixIn.defs (F := Bits) = Cert.MixInIdeal.defs (F := Bits) := congrArg (Pipeline.defs Cert.MixIn.pcfgs) mix_in_body

set_option maxHeartbeats 8000000 in
theorem mix_in_frame : Cert.quiescent_MixIn := by
  intro m ρ _
  rw [mix_in_defs]
  exact Cert.MixInIdeal.Gen.frame (F := Bits) m ρ

theorem mix_in_frame_ideal : Cert.quiescent_MixInIdeal := fun m ρ _ => Cert.MixInIdeal.Gen.frame (F := Ideal) m ρ

theorem mix_in_frame_ref : Cert.quiescent_MixInRefIdeal := fun m ρ _ =>
  (θ_run Cert.MixInRefIdeal.defs _ _).mono (fun r h => ⟨fun c => (h c).2.2.2,
      Idealize.ShloMosaic.sem_eq_zero_of_no_sems (by decide) r.2⟩)
    (Cert.MixInRefIdeal.Value.run (F := Ideal) m ρ)

theorem claim : Cert.Claim :=
  ⟨Cert.FfnIn.Gen.facts,
    Cert.FfnInIdeal.Gen.facts,
    Cert.FfnInRefIdeal.Gen.facts,
    Cert.FfnAct.Gen.facts,
    Cert.FfnActIdeal.Gen.facts,
    Cert.FfnActRefIdeal.Gen.facts,
    Cert.FfnDw.Gen.facts,
    Cert.FfnDwIdeal.Gen.facts,
    Cert.FfnDwRefIdeal.Gen.facts,
    Cert.FfnUp.Gen.facts,
    Cert.FfnUpIdeal.Gen.facts,
    Cert.FfnUpRefIdeal.Gen.facts,
    Cert.FfnDown.Gen.facts,
    Cert.FfnDownIdeal.Gen.facts,
    Cert.FfnDownRefIdeal.Gen.facts,
    Cert.MixProj.Gen.facts,
    Cert.MixProjIdeal.Gen.facts,
    Cert.MixProjRefIdeal.Gen.facts,
    Cert.MixDw.Gen.facts,
    Cert.MixDwIdeal.Gen.facts,
    Cert.MixDwRefIdeal.Gen.facts,
    Cert.AdMeta.Gen.facts,
    Cert.AdMetaIdeal.Gen.facts,
    Cert.AdMetaRefIdeal.Gen.facts,
    Cert.AdNorm.Gen.facts,
    Cert.AdNormIdeal.Gen.facts,
    Cert.AdNormRefIdeal.Gen.facts,
    Cert.AdUp.Gen.facts,
    Cert.AdUpIdeal.Gen.facts,
    Cert.AdUpRefIdeal.Gen.facts,
    Cert.AdDown.Gen.facts,
    Cert.AdDownIdeal.Gen.facts,
    Cert.AdDownRefIdeal.Gen.facts,
    Cert.AdWin.Gen.facts,
    Cert.AdWinIdeal.Gen.facts,
    Cert.AdWinRefIdeal.Gen.facts,
    Cert.AdLam.Gen.facts,
    Cert.AdLamIdeal.Gen.facts,
    Cert.AdLamRefIdeal.Gen.facts,
    Cert.AdDt.Gen.facts,
    Cert.AdDtIdeal.Gen.facts,
    Cert.AdDtRefIdeal.Gen.facts,
    Cert.AdB.Gen.facts,
    Cert.AdBIdeal.Gen.facts,
    Cert.AdBRefIdeal.Gen.facts,
    Cert.AdC.Gen.facts,
    Cert.AdCIdeal.Gen.facts,
    Cert.AdCRefIdeal.Gen.facts,
    Cert.AdD.Gen.facts,
    Cert.AdDIdeal.Gen.facts,
    Cert.AdDRefIdeal.Gen.facts,
    Cert.AdGlu.Gen.facts,
    Cert.AdGluIdeal.Gen.facts,
    Cert.AdGluRefIdeal.Gen.facts,
    Cert.AdSink.Gen.facts,
    Cert.AdSinkIdeal.Gen.facts,
    Cert.AdSinkRefIdeal.Gen.facts,
    Cert.AdBs.Gen.facts,
    Cert.AdBsIdeal.Gen.facts,
    Cert.AdBsRefIdeal.Gen.facts,
    Cert.AdBa.Gen.facts,
    Cert.AdBaIdeal.Gen.facts,
    Cert.AdBaRefIdeal.Gen.facts,
    Cert.AdFinal.Gen.facts,
    Cert.AdFinalIdeal.Gen.facts,
    Cert.AdFinalRefIdeal.Gen.facts,
    Cert.SumFfn.Gen.facts,
    Cert.SumFfnIdeal.Gen.facts,
    Cert.SumFfnRefIdeal.Gen.facts,
    Cert.SumOne.Gen.facts,
    Cert.SumOneIdeal.Gen.facts,
    Cert.SumOneRefIdeal.Gen.facts,
    Cert.SumMix.Gen.facts,
    Cert.SumMixIdeal.Gen.facts,
    Cert.SumMixRefIdeal.Gen.facts,
    Cert.SumMixN.Gen.facts,
    Cert.SumMixNIdeal.Gen.facts,
    Cert.SumMixNRefIdeal.Gen.facts,
    Cert.SumSmall.Gen.facts,
    Cert.SumSmallIdeal.Gen.facts,
    Cert.SumSmallRefIdeal.Gen.facts,
    Cert.SumLast.Gen.facts,
    Cert.SumLastIdeal.Gen.facts,
    Cert.SumLastRefIdeal.Gen.facts,
    Cert.FinalLoss.Gen.facts,
    Cert.FinalLossIdeal.Gen.facts,
    Cert.FinalLossRefIdeal.Gen.facts,
    Cert.MixIn.Gen.facts,
    Cert.MixInIdeal.Gen.facts,
    Cert.MixInRefIdeal.Gen.facts,
    Cert.Pre_ffn_finite.Gen.facts,
    bwd_in_frame, bwd_in_frame_ideal, bwd_in_frame_ideal_pre, bwd_in_frame_ref, bwd_in_frame_ref_pre, act_frame, act_frame_ideal, act_frame_ref, dw_frame, dw_frame_ideal, dw_frame_ref, up_frame, up_frame_ideal, up_frame_ref, down_frame, down_frame_ideal, down_frame_ref, mixproj_frame, mixproj_frame_ideal, mixproj_frame_ref, mixdw_frame, mixdw_frame_ideal, mixdw_frame_ref, admeta_frame, admeta_frame_ideal, admeta_frame_ref, adnorm_frame, adnorm_frame_ideal, adnorm_frame_ref, adup_frame, adup_frame_ideal, adup_frame_ref, addown_frame, addown_frame_ideal, addown_frame_ref, adwin_frame, adwin_frame_ideal, adwin_frame_ref, adlam_frame, adlam_frame_ideal, adlam_frame_ref, addt_frame, addt_frame_ideal, addt_frame_ref, adb_frame, adb_frame_ideal, adb_frame_ref, adc_frame, adc_frame_ideal, adc_frame_ref, add_frame, add_frame_ideal, add_frame_ref, adglu_frame, adglu_frame_ideal, adglu_frame_ref, adsink_frame, adsink_frame_ideal, adsink_frame_ref, adbs_frame, adbs_frame_ideal, adbs_frame_ref, adba_frame, adba_frame_ideal, adba_frame_ref, adfinal_frame, adfinal_frame_ideal, adfinal_frame_ref, sumffn_frame, sumffn_frame_ideal, sumffn_frame_ref, sumone_frame, sumone_frame_ideal, sumone_frame_ref, summix_frame, summix_frame_ideal, summix_frame_ref, summixn_frame, summixn_frame_ideal, summixn_frame_ref, sumsmall_frame, sumsmall_frame_ideal, sumsmall_frame_ref, sumlast_frame, sumlast_frame_ideal, sumlast_frame_ref, final_loss_frame, final_loss_frame_ideal, final_loss_frame_ref, mix_in_frame, mix_in_frame_ideal, mix_in_frame_ref,
    trivial, Cert.bwd_in_algebraic, trivial, Cert.act_algebraic, trivial, Cert.dw_algebraic, trivial, Cert.up_algebraic, trivial, Cert.down_algebraic, trivial, Cert.mixproj_algebraic, trivial, Cert.mixdw_algebraic, trivial, Cert.admeta_algebraic, trivial, Cert.adnorm_algebraic, trivial, Cert.adup_algebraic, trivial, Cert.addown_algebraic, trivial, Cert.adwin_algebraic, trivial, Cert.adlam_algebraic, trivial, Cert.addt_algebraic, trivial, Cert.adb_algebraic, trivial, Cert.adc_algebraic, trivial, Cert.add_algebraic, trivial, Cert.adglu_algebraic, trivial, Cert.adsink_algebraic, trivial, Cert.adbs_algebraic, trivial, Cert.adba_algebraic, trivial, Cert.adfinal_algebraic, trivial, Cert.sumffn_algebraic, trivial, Cert.sumone_algebraic, trivial, Cert.summix_algebraic, trivial, Cert.summixn_algebraic, trivial, Cert.sumsmall_algebraic, trivial, Cert.sumlast_algebraic, trivial, Cert.final_loss_algebraic, trivial, Cert.mix_in_algebraic⟩

end Cert.Proof

end
